-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_KernelUpDw (m : (ℓ : Loc Cert.KernelUpDw.nD Cert.KernelUpDw.τ Cert.KernelUpDw.sig) → Buf (Elt Bits) ℓ) : Prop :=
  True

def Pre_KernelUpDwIdeal (m : (ℓ : Loc Cert.KernelUpDwIdeal.nD Cert.KernelUpDwIdeal.τ Cert.KernelUpDwIdeal.sig) → Buf (Elt Ideal) ℓ) : Prop :=
  True

def Pre_ReferenceUpDwIdeal (m : (ℓ : Loc Cert.ReferenceUpDwIdeal.nD Cert.ReferenceUpDwIdeal.τ Cert.ReferenceUpDwIdeal.sig) → Buf (Elt Ideal) ℓ) : Prop :=
  True

def Pre_KernelUpDxA (m : (ℓ : Loc Cert.KernelUpDxA.nD Cert.KernelUpDxA.τ Cert.KernelUpDxA.sig) → Buf (Elt Bits) ℓ) : Prop :=
  True

def Pre_KernelUpDxAIdeal (m : (ℓ : Loc Cert.KernelUpDxAIdeal.nD Cert.KernelUpDxAIdeal.τ Cert.KernelUpDxAIdeal.sig) → Buf (Elt Ideal) ℓ) : Prop :=
  True

def Pre_ReferenceUpDxAIdeal (m : (ℓ : Loc Cert.ReferenceUpDxAIdeal.nD Cert.ReferenceUpDxAIdeal.τ Cert.ReferenceUpDxAIdeal.sig) → Buf (Elt Ideal) ℓ) : Prop :=
  True

def Pre_KernelUpDxB (m : (ℓ : Loc Cert.KernelUpDxB.nD Cert.KernelUpDxB.τ Cert.KernelUpDxB.sig) → Buf (Elt Bits) ℓ) : Prop :=
  True

def Pre_KernelUpDxBIdeal (m : (ℓ : Loc Cert.KernelUpDxBIdeal.nD Cert.KernelUpDxBIdeal.τ Cert.KernelUpDxBIdeal.sig) → Buf (Elt Ideal) ℓ) : Prop :=
  True

def Pre_ReferenceUpDxBIdeal (m : (ℓ : Loc Cert.ReferenceUpDxBIdeal.nD Cert.ReferenceUpDxBIdeal.τ Cert.ReferenceUpDxBIdeal.sig) → Buf (Elt Ideal) ℓ) : Prop :=
  True

def Pre_KernelDownDx (m : (ℓ : Loc Cert.KernelDownDx.nD Cert.KernelDownDx.τ Cert.KernelDownDx.sig) → Buf (Elt Bits) ℓ) : Prop :=
  True

def Pre_KernelDownDxIdeal (m : (ℓ : Loc Cert.KernelDownDxIdeal.nD Cert.KernelDownDxIdeal.τ Cert.KernelDownDxIdeal.sig) → Buf (Elt Ideal) ℓ) : Prop :=
  True

def Pre_ReferenceDownDxIdeal (m : (ℓ : Loc Cert.ReferenceDownDxIdeal.nD Cert.ReferenceDownDxIdeal.τ Cert.ReferenceDownDxIdeal.sig) → Buf (Elt Ideal) ℓ) : Prop :=
  True

def Pre_KernelDownDw (m : (ℓ : Loc Cert.KernelDownDw.nD Cert.KernelDownDw.τ Cert.KernelDownDw.sig) → Buf (Elt Bits) ℓ) : Prop :=
  True

def Pre_KernelDownDwIdeal (m : (ℓ : Loc Cert.KernelDownDwIdeal.nD Cert.KernelDownDwIdeal.τ Cert.KernelDownDwIdeal.sig) → Buf (Elt Ideal) ℓ) : Prop :=
  True

def Pre_ReferenceDownDwIdeal (m : (ℓ : Loc Cert.ReferenceDownDwIdeal.nD Cert.ReferenceDownDwIdeal.τ Cert.ReferenceDownDwIdeal.sig) → Buf (Elt Ideal) ℓ) : Prop :=
  True

def Pre_KernelUp (m : (ℓ : Loc Cert.KernelUp.nD Cert.KernelUp.τ Cert.KernelUp.sig) → Buf (Elt Bits) ℓ) : Prop :=
  True

def Pre_KernelUpIdeal (m : (ℓ : Loc Cert.KernelUpIdeal.nD Cert.KernelUpIdeal.τ Cert.KernelUpIdeal.sig) → Buf (Elt Ideal) ℓ) : Prop :=
  True

def Pre_ReferenceUpIdeal (m : (ℓ : Loc Cert.ReferenceUpIdeal.nD Cert.ReferenceUpIdeal.τ Cert.ReferenceUpIdeal.sig) → Buf (Elt Ideal) ℓ) : Prop :=
  True

def Pre_KernelDown (m : (ℓ : Loc Cert.KernelDown.nD Cert.KernelDown.τ Cert.KernelDown.sig) → Buf (Elt Bits) ℓ) : Prop :=
  True

def Pre_KernelDownIdeal (m : (ℓ : Loc Cert.KernelDownIdeal.nD Cert.KernelDownIdeal.τ Cert.KernelDownIdeal.sig) → Buf (Elt Ideal) ℓ) : Prop :=
  True

def Pre_ReferenceDownIdeal (m : (ℓ : Loc Cert.ReferenceDownIdeal.nD Cert.ReferenceDownIdeal.τ Cert.ReferenceDownIdeal.sig) → Buf (Elt Ideal) ℓ) : Prop :=
  True

def Pre_KernelOutDx (m : (ℓ : Loc Cert.KernelOutDx.nD Cert.KernelOutDx.τ Cert.KernelOutDx.sig) → Buf (Elt Bits) ℓ) : Prop :=
  True

def Pre_KernelOutDxIdeal (m : (ℓ : Loc Cert.KernelOutDxIdeal.nD Cert.KernelOutDxIdeal.τ Cert.KernelOutDxIdeal.sig) → Buf (Elt Ideal) ℓ) : Prop :=
  True

def Pre_ReferenceOutDxIdeal (m : (ℓ : Loc Cert.ReferenceOutDxIdeal.nD Cert.ReferenceOutDxIdeal.τ Cert.ReferenceOutDxIdeal.sig) → Buf (Elt Ideal) ℓ) : Prop :=
  True

def Pre_KernelOutDw (m : (ℓ : Loc Cert.KernelOutDw.nD Cert.KernelOutDw.τ Cert.KernelOutDw.sig) → Buf (Elt Bits) ℓ) : Prop :=
  True

def Pre_KernelOutDwIdeal (m : (ℓ : Loc Cert.KernelOutDwIdeal.nD Cert.KernelOutDwIdeal.τ Cert.KernelOutDwIdeal.sig) → Buf (Elt Ideal) ℓ) : Prop :=
  True

def Pre_ReferenceOutDwIdeal (m : (ℓ : Loc Cert.ReferenceOutDwIdeal.nD Cert.ReferenceOutDwIdeal.τ Cert.ReferenceOutDwIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelInDx (m : (ℓ : Loc Cert.KernelInDx.nD Cert.KernelInDx.τ Cert.KernelInDx.sig) → Buf (Elt Bits) ℓ) : Prop :=
  True

def Pre_KernelInDxIdeal (m : (ℓ : Loc Cert.KernelInDxIdeal.nD Cert.KernelInDxIdeal.τ Cert.KernelInDxIdeal.sig) → Buf (Elt Ideal) ℓ) : Prop :=
  True

def Pre_ReferenceInDxIdeal (m : (ℓ : Loc Cert.ReferenceInDxIdeal.nD Cert.ReferenceInDxIdeal.τ Cert.ReferenceInDxIdeal.sig) → Buf (Elt Ideal) ℓ) : Prop :=
  True

def Pre_KernelInDw (m : (ℓ : Loc Cert.KernelInDw.nD Cert.KernelInDw.τ Cert.KernelInDw.sig) → Buf (Elt Bits) ℓ) : Prop :=
  True

def Pre_KernelInDwIdeal (m : (ℓ : Loc Cert.KernelInDwIdeal.nD Cert.KernelInDwIdeal.τ Cert.KernelInDwIdeal.sig) → Buf (Elt Ideal) ℓ) : Prop :=
  True

def Pre_ReferenceInDwIdeal (m : (ℓ : Loc Cert.ReferenceInDwIdeal.nD Cert.ReferenceInDwIdeal.τ Cert.ReferenceInDwIdeal.sig) → Buf (Elt Ideal) ℓ) : Prop :=
  True

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def Pre_KernelUqDx (m : (ℓ : Loc Cert.KernelUqDx.nD Cert.KernelUqDx.τ Cert.KernelUqDx.sig) → Buf (Elt Bits) ℓ) : Prop :=
  True

def Pre_KernelUqDxIdeal (m : (ℓ : Loc Cert.KernelUqDxIdeal.nD Cert.KernelUqDxIdeal.τ Cert.KernelUqDxIdeal.sig) → Buf (Elt Ideal) ℓ) : Prop :=
  True

def Pre_ReferenceUqDxIdeal (m : (ℓ : Loc Cert.ReferenceUqDxIdeal.nD Cert.ReferenceUqDxIdeal.τ Cert.ReferenceUqDxIdeal.sig) → Buf (Elt Ideal) ℓ) : Prop :=
  True

def Pre_KernelUqDw (m : (ℓ : Loc Cert.KernelUqDw.nD Cert.KernelUqDw.τ Cert.KernelUqDw.sig) → Buf (Elt Bits) ℓ) : Prop :=
  True

def Pre_KernelUqDwIdeal (m : (ℓ : Loc Cert.KernelUqDwIdeal.nD Cert.KernelUqDwIdeal.τ Cert.KernelUqDwIdeal.sig) → Buf (Elt Ideal) ℓ) : Prop :=
  True

def Pre_ReferenceUqDwIdeal (m : (ℓ : Loc Cert.ReferenceUqDwIdeal.nD Cert.ReferenceUqDwIdeal.τ Cert.ReferenceUqDwIdeal.sig) → Buf (Elt Ideal) ℓ) : Prop :=
  True

def Pre_KernelUq (m : (ℓ : Loc Cert.KernelUq.nD Cert.KernelUq.τ Cert.KernelUq.sig) → Buf (Elt Bits) ℓ) : Prop :=
  True

def Pre_KernelUqIdeal (m : (ℓ : Loc Cert.KernelUqIdeal.nD Cert.KernelUqIdeal.τ Cert.KernelUqIdeal.sig) → Buf (Elt Ideal) ℓ) : Prop :=
  True

def Pre_ReferenceUqIdeal (m : (ℓ : Loc Cert.ReferenceUqIdeal.nD Cert.ReferenceUqIdeal.τ Cert.ReferenceUqIdeal.sig) → Buf (Elt Ideal) ℓ) : Prop :=
  True

def Pre_KernelUkvDx (m : (ℓ : Loc Cert.KernelUkvDx.nD Cert.KernelUkvDx.τ Cert.KernelUkvDx.sig) → Buf (Elt Bits) ℓ) : Prop :=
  True

def Pre_KernelUkvDxIdeal (m : (ℓ : Loc Cert.KernelUkvDxIdeal.nD Cert.KernelUkvDxIdeal.τ Cert.KernelUkvDxIdeal.sig) → Buf (Elt Ideal) ℓ) : Prop :=
  True

def Pre_ReferenceUkvDxIdeal (m : (ℓ : Loc Cert.ReferenceUkvDxIdeal.nD Cert.ReferenceUkvDxIdeal.τ Cert.ReferenceUkvDxIdeal.sig) → Buf (Elt Ideal) ℓ) : Prop :=
  True

def Pre_KernelUkvDw (m : (ℓ : Loc Cert.KernelUkvDw.nD Cert.KernelUkvDw.τ Cert.KernelUkvDw.sig) → Buf (Elt Bits) ℓ) : Prop :=
  True

def Pre_KernelUkvDwIdeal (m : (ℓ : Loc Cert.KernelUkvDwIdeal.nD Cert.KernelUkvDwIdeal.τ Cert.KernelUkvDwIdeal.sig) → Buf (Elt Ideal) ℓ) : Prop :=
  True

def Pre_ReferenceUkvDwIdeal (m : (ℓ : Loc Cert.ReferenceUkvDwIdeal.nD Cert.ReferenceUkvDwIdeal.τ Cert.ReferenceUkvDwIdeal.sig) → Buf (Elt Ideal) ℓ) : Prop :=
  True

def Pre_KernelUkv (m : (ℓ : Loc Cert.KernelUkv.nD Cert.KernelUkv.τ Cert.KernelUkv.sig) → Buf (Elt Bits) ℓ) : Prop :=
  True

def Pre_KernelUkvIdeal (m : (ℓ : Loc Cert.KernelUkvIdeal.nD Cert.KernelUkvIdeal.τ Cert.KernelUkvIdeal.sig) → Buf (Elt Ideal) ℓ) : Prop :=
  True

def Pre_ReferenceUkvIdeal (m : (ℓ : Loc Cert.ReferenceUkvIdeal.nD Cert.ReferenceUkvIdeal.τ Cert.ReferenceUkvIdeal.sig) → Buf (Elt Ideal) ℓ) : Prop :=
  True

def Pre_KernelGluDx (m : (ℓ : Loc Cert.KernelGluDx.nD Cert.KernelGluDx.τ Cert.KernelGluDx.sig) → Buf (Elt Bits) ℓ) : Prop :=
  True

def Pre_KernelGluDxIdeal (m : (ℓ : Loc Cert.KernelGluDxIdeal.nD Cert.KernelGluDxIdeal.τ Cert.KernelGluDxIdeal.sig) → Buf (Elt Ideal) ℓ) : Prop :=
  True

def Pre_ReferenceGluDxIdeal (m : (ℓ : Loc Cert.ReferenceGluDxIdeal.nD Cert.ReferenceGluDxIdeal.τ Cert.ReferenceGluDxIdeal.sig) → Buf (Elt Ideal) ℓ) : Prop :=
  True

def Pre_KernelGluDw (m : (ℓ : Loc Cert.KernelGluDw.nD Cert.KernelGluDw.τ Cert.KernelGluDw.sig) → Buf (Elt Bits) ℓ) : Prop :=
  True

def Pre_KernelGluDwIdeal (m : (ℓ : Loc Cert.KernelGluDwIdeal.nD Cert.KernelGluDwIdeal.τ Cert.KernelGluDwIdeal.sig) → Buf (Elt Ideal) ℓ) : Prop :=
  True

def Pre_ReferenceGluDwIdeal (m : (ℓ : Loc Cert.ReferenceGluDwIdeal.nD Cert.ReferenceGluDwIdeal.τ Cert.ReferenceGluDwIdeal.sig) → Buf (Elt Ideal) ℓ) : Prop :=
  True

def Pre_KernelGlu (m : (ℓ : Loc Cert.KernelGlu.nD Cert.KernelGlu.τ Cert.KernelGlu.sig) → Buf (Elt Bits) ℓ) : Prop :=
  True

def Pre_KernelGluIdeal (m : (ℓ : Loc Cert.KernelGluIdeal.nD Cert.KernelGluIdeal.τ Cert.KernelGluIdeal.sig) → Buf (Elt Ideal) ℓ) : Prop :=
  True

def Pre_ReferenceGluIdeal (m : (ℓ : Loc Cert.ReferenceGluIdeal.nD Cert.ReferenceGluIdeal.τ Cert.ReferenceGluIdeal.sig) → Buf (Elt Ideal) ℓ) : Prop :=
  True

def Pre_KernelScanDx (m : (ℓ : Loc Cert.KernelScanDx.nD Cert.KernelScanDx.τ Cert.KernelScanDx.sig) → Buf (Elt Bits) ℓ) : Prop :=
  True

def Pre_KernelScanDxIdeal (m : (ℓ : Loc Cert.KernelScanDxIdeal.nD Cert.KernelScanDxIdeal.τ Cert.KernelScanDxIdeal.sig) → Buf (Elt Ideal) ℓ) : Prop :=
  True

def Pre_ReferenceScanDxIdeal (m : (ℓ : Loc Cert.ReferenceScanDxIdeal.nD Cert.ReferenceScanDxIdeal.τ Cert.ReferenceScanDxIdeal.sig) → Buf (Elt Ideal) ℓ) : Prop :=
  True

def Pre_KernelScanDw (m : (ℓ : Loc Cert.KernelScanDw.nD Cert.KernelScanDw.τ Cert.KernelScanDw.sig) → Buf (Elt Bits) ℓ) : Prop :=
  True

def Pre_KernelScanDwIdeal (m : (ℓ : Loc Cert.KernelScanDwIdeal.nD Cert.KernelScanDwIdeal.τ Cert.KernelScanDwIdeal.sig) → Buf (Elt Ideal) ℓ) : Prop :=
  True

def Pre_ReferenceScanDwIdeal (m : (ℓ : Loc Cert.ReferenceScanDwIdeal.nD Cert.ReferenceScanDwIdeal.τ Cert.ReferenceScanDwIdeal.sig) → Buf (Elt Ideal) ℓ) : Prop :=
  True

def Pre_KernelScan (m : (ℓ : Loc Cert.KernelScan.nD Cert.KernelScan.τ Cert.KernelScan.sig) → Buf (Elt Bits) ℓ) : Prop :=
  True

def Pre_KernelScanIdeal (m : (ℓ : Loc Cert.KernelScanIdeal.nD Cert.KernelScanIdeal.τ Cert.KernelScanIdeal.sig) → Buf (Elt Ideal) ℓ) : Prop :=
  True

def Pre_ReferenceScanIdeal (m : (ℓ : Loc Cert.ReferenceScanIdeal.nD Cert.ReferenceScanIdeal.τ Cert.ReferenceScanIdeal.sig) → Buf (Elt Ideal) ℓ) : Prop :=
  True

def Pre_KernelAttn (m : (ℓ : Loc Cert.KernelAttn.nD Cert.KernelAttn.τ Cert.KernelAttn.sig) → Buf (Elt Bits) ℓ) : Prop :=
  True

def Pre_KernelAttnIdeal (m : (ℓ : Loc Cert.KernelAttnIdeal.nD Cert.KernelAttnIdeal.τ Cert.KernelAttnIdeal.sig) → Buf (Elt Ideal) ℓ) : Prop :=
  True

def Pre_KernelAttnIdeal_finite_scores [hPre_finite_scores : Cert.Pre_finite_scores.Facts] (m : (ℓ : Loc Cert.KernelAttnIdeal.nD Cert.KernelAttnIdeal.τ Cert.KernelAttnIdeal.sig) → Buf (Elt Ideal) ℓ) : Prop :=
  ∀ c : Dev Cert.KernelAttnIdeal.nD,
    (Cert.Pre_finite_scores.fn (F := Ideal) (m ((c.tc : Thread Cert.KernelAttnIdeal.nD Cert.KernelAttnIdeal.τ).loc Cert.KernelAttnIdeal.main_arg0)) (m ((c.tc : Thread Cert.KernelAttnIdeal.nD Cert.KernelAttnIdeal.τ).loc Cert.KernelAttnIdeal.main_arg1)) (m ((c.tc : Thread Cert.KernelAttnIdeal.nD Cert.KernelAttnIdeal.τ).loc Cert.KernelAttnIdeal.main_arg2))).1 = (fun _ => 1#1)
    ∧ (Cert.Pre_finite_scores.fn (F := Ideal) (m ((c.tc : Thread Cert.KernelAttnIdeal.nD Cert.KernelAttnIdeal.τ).loc Cert.KernelAttnIdeal.main_arg0)) (m ((c.tc : Thread Cert.KernelAttnIdeal.nD Cert.KernelAttnIdeal.τ).loc Cert.KernelAttnIdeal.main_arg1)) (m ((c.tc : Thread Cert.KernelAttnIdeal.nD Cert.KernelAttnIdeal.τ).loc Cert.KernelAttnIdeal.main_arg2))).2 = (fun _ => 1#1)

def Pre_ReferenceAttnIdeal (m : (ℓ : Loc Cert.ReferenceAttnIdeal.nD Cert.ReferenceAttnIdeal.τ Cert.ReferenceAttnIdeal.sig) → Buf (Elt Ideal) ℓ) : Prop :=
  True

def Pre_ReferenceAttnIdeal_finite_scores [hPre_finite_scores : Cert.Pre_finite_scores.Facts] (m : (ℓ : Loc Cert.ReferenceAttnIdeal.nD Cert.ReferenceAttnIdeal.τ Cert.ReferenceAttnIdeal.sig) → Buf (Elt Ideal) ℓ) : Prop :=
  ∀ c : Dev Cert.ReferenceAttnIdeal.nD,
    (Cert.Pre_finite_scores.fn (F := Ideal) (m ((c.tc : Thread Cert.ReferenceAttnIdeal.nD Cert.ReferenceAttnIdeal.τ).loc Cert.ReferenceAttnIdeal.main_arg0)) (m ((c.tc : Thread Cert.ReferenceAttnIdeal.nD Cert.ReferenceAttnIdeal.τ).loc Cert.ReferenceAttnIdeal.main_arg1)) (m ((c.tc : Thread Cert.ReferenceAttnIdeal.nD Cert.ReferenceAttnIdeal.τ).loc Cert.ReferenceAttnIdeal.main_arg2))).1 = (fun _ => 1#1)
    ∧ (Cert.Pre_finite_scores.fn (F := Ideal) (m ((c.tc : Thread Cert.ReferenceAttnIdeal.nD Cert.ReferenceAttnIdeal.τ).loc Cert.ReferenceAttnIdeal.main_arg0)) (m ((c.tc : Thread Cert.ReferenceAttnIdeal.nD Cert.ReferenceAttnIdeal.τ).loc Cert.ReferenceAttnIdeal.main_arg1)) (m ((c.tc : Thread Cert.ReferenceAttnIdeal.nD Cert.ReferenceAttnIdeal.τ).loc Cert.ReferenceAttnIdeal.main_arg2))).2 = (fun _ => 1#1)

def Pre_KernelNorm (m : (ℓ : Loc Cert.KernelNorm.nD Cert.KernelNorm.τ Cert.KernelNorm.sig) → Buf (Elt Bits) ℓ) : Prop :=
  True

def Pre_KernelNormIdeal (m : (ℓ : Loc Cert.KernelNormIdeal.nD Cert.KernelNormIdeal.τ Cert.KernelNormIdeal.sig) → Buf (Elt Ideal) ℓ) : Prop :=
  True

def Pre_ReferenceNormIdeal (m : (ℓ : Loc Cert.ReferenceNormIdeal.nD Cert.ReferenceNormIdeal.τ Cert.ReferenceNormIdeal.sig) → Buf (Elt Ideal) ℓ) : Prop :=
  True

def Pre_KernelGelu (m : (ℓ : Loc Cert.KernelGelu.nD Cert.KernelGelu.τ Cert.KernelGelu.sig) → Buf (Elt Bits) ℓ) : Prop :=
  True

def Pre_KernelGeluIdeal (m : (ℓ : Loc Cert.KernelGeluIdeal.nD Cert.KernelGeluIdeal.τ Cert.KernelGeluIdeal.sig) → Buf (Elt Ideal) ℓ) : Prop :=
  True

def Pre_ReferenceGeluIdeal (m : (ℓ : Loc Cert.ReferenceGeluIdeal.nD Cert.ReferenceGeluIdeal.τ Cert.ReferenceGeluIdeal.sig) → Buf (Elt Ideal) ℓ) : Prop :=
  True

def Pre_KernelGluOut (m : (ℓ : Loc Cert.KernelGluOut.nD Cert.KernelGluOut.τ Cert.KernelGluOut.sig) → Buf (Elt Bits) ℓ) : Prop :=
  True

def Pre_KernelGluOutIdeal (m : (ℓ : Loc Cert.KernelGluOutIdeal.nD Cert.KernelGluOutIdeal.τ Cert.KernelGluOutIdeal.sig) → Buf (Elt Ideal) ℓ) : Prop :=
  True

def Pre_ReferenceGluOutIdeal (m : (ℓ : Loc Cert.ReferenceGluOutIdeal.nD Cert.ReferenceGluOutIdeal.τ Cert.ReferenceGluOutIdeal.sig) → Buf (Elt Ideal) ℓ) : Prop :=
  True

def Pre_KernelAdamUp (m : (ℓ : Loc Cert.KernelAdamUp.nD Cert.KernelAdamUp.τ Cert.KernelAdamUp.sig) → Buf (Elt Bits) ℓ) : Prop :=
  True

def Pre_KernelAdamUpIdeal (m : (ℓ : Loc Cert.KernelAdamUpIdeal.nD Cert.KernelAdamUpIdeal.τ Cert.KernelAdamUpIdeal.sig) → Buf (Elt Ideal) ℓ) : Prop :=
  True

def Pre_ReferenceAdamUpIdeal (m : (ℓ : Loc Cert.ReferenceAdamUpIdeal.nD Cert.ReferenceAdamUpIdeal.τ Cert.ReferenceAdamUpIdeal.sig) → Buf (Elt Ideal) ℓ) : Prop :=
  True

def Pre_KernelAdamDown (m : (ℓ : Loc Cert.KernelAdamDown.nD Cert.KernelAdamDown.τ Cert.KernelAdamDown.sig) → Buf (Elt Bits) ℓ) : Prop :=
  True

def Pre_KernelAdamDownIdeal (m : (ℓ : Loc Cert.KernelAdamDownIdeal.nD Cert.KernelAdamDownIdeal.τ Cert.KernelAdamDownIdeal.sig) → Buf (Elt Ideal) ℓ) : Prop :=
  True

def Pre_ReferenceAdamDownIdeal (m : (ℓ : Loc Cert.ReferenceAdamDownIdeal.nD Cert.ReferenceAdamDownIdeal.τ Cert.ReferenceAdamDownIdeal.sig) → Buf (Elt Ideal) ℓ) : Prop :=
  True

def Pre_KernelAdamIn (m : (ℓ : Loc Cert.KernelAdamIn.nD Cert.KernelAdamIn.τ Cert.KernelAdamIn.sig) → Buf (Elt Bits) ℓ) : Prop :=
  True

def Pre_KernelAdamInIdeal (m : (ℓ : Loc Cert.KernelAdamInIdeal.nD Cert.KernelAdamInIdeal.τ Cert.KernelAdamInIdeal.sig) → Buf (Elt Ideal) ℓ) : Prop :=
  True

def Pre_ReferenceAdamInIdeal (m : (ℓ : Loc Cert.ReferenceAdamInIdeal.nD Cert.ReferenceAdamInIdeal.τ Cert.ReferenceAdamInIdeal.sig) → Buf (Elt Ideal) ℓ) : Prop :=
  True

def Pre_KernelAdamUq (m : (ℓ : Loc Cert.KernelAdamUq.nD Cert.KernelAdamUq.τ Cert.KernelAdamUq.sig) → Buf (Elt Bits) ℓ) : Prop :=
  True

def Pre_KernelAdamUqIdeal (m : (ℓ : Loc Cert.KernelAdamUqIdeal.nD Cert.KernelAdamUqIdeal.τ Cert.KernelAdamUqIdeal.sig) → Buf (Elt Ideal) ℓ) : Prop :=
  True

def Pre_ReferenceAdamUqIdeal (m : (ℓ : Loc Cert.ReferenceAdamUqIdeal.nD Cert.ReferenceAdamUqIdeal.τ Cert.ReferenceAdamUqIdeal.sig) → Buf (Elt Ideal) ℓ) : Prop :=
  True

def Pre_KernelAdamUkv (m : (ℓ : Loc Cert.KernelAdamUkv.nD Cert.KernelAdamUkv.τ Cert.KernelAdamUkv.sig) → Buf (Elt Bits) ℓ) : Prop :=
  True

def Pre_KernelAdamUkvIdeal (m : (ℓ : Loc Cert.KernelAdamUkvIdeal.nD Cert.KernelAdamUkvIdeal.τ Cert.KernelAdamUkvIdeal.sig) → Buf (Elt Ideal) ℓ) : Prop :=
  True

def Pre_ReferenceAdamUkvIdeal (m : (ℓ : Loc Cert.ReferenceAdamUkvIdeal.nD Cert.ReferenceAdamUkvIdeal.τ Cert.ReferenceAdamUkvIdeal.sig) → Buf (Elt Ideal) ℓ) : Prop :=
  True

def Pre_KernelAdamOut (m : (ℓ : Loc Cert.KernelAdamOut.nD Cert.KernelAdamOut.τ Cert.KernelAdamOut.sig) → Buf (Elt Bits) ℓ) : Prop :=
  True

def Pre_KernelAdamOutIdeal (m : (ℓ : Loc Cert.KernelAdamOutIdeal.nD Cert.KernelAdamOutIdeal.τ Cert.KernelAdamOutIdeal.sig) → Buf (Elt Ideal) ℓ) : Prop :=
  True

def Pre_ReferenceAdamOutIdeal (m : (ℓ : Loc Cert.ReferenceAdamOutIdeal.nD Cert.ReferenceAdamOutIdeal.τ Cert.ReferenceAdamOutIdeal.sig) → Buf (Elt Ideal) ℓ) : Prop :=
  True

def Pre_KernelAdamScan (m : (ℓ : Loc Cert.KernelAdamScan.nD Cert.KernelAdamScan.τ Cert.KernelAdamScan.sig) → Buf (Elt Bits) ℓ) : Prop :=
  True

def Pre_KernelAdamScanIdeal (m : (ℓ : Loc Cert.KernelAdamScanIdeal.nD Cert.KernelAdamScanIdeal.τ Cert.KernelAdamScanIdeal.sig) → Buf (Elt Ideal) ℓ) : Prop :=
  True

def Pre_ReferenceAdamScanIdeal (m : (ℓ : Loc Cert.ReferenceAdamScanIdeal.nD Cert.ReferenceAdamScanIdeal.τ Cert.ReferenceAdamScanIdeal.sig) → Buf (Elt Ideal) ℓ) : Prop :=
  True

def Pre_KernelAdamGlu (m : (ℓ : Loc Cert.KernelAdamGlu.nD Cert.KernelAdamGlu.τ Cert.KernelAdamGlu.sig) → Buf (Elt Bits) ℓ) : Prop :=
  True

def Pre_KernelAdamGluIdeal (m : (ℓ : Loc Cert.KernelAdamGluIdeal.nD Cert.KernelAdamGluIdeal.τ Cert.KernelAdamGluIdeal.sig) → Buf (Elt Ideal) ℓ) : Prop :=
  True

def Pre_ReferenceAdamGluIdeal (m : (ℓ : Loc Cert.ReferenceAdamGluIdeal.nD Cert.ReferenceAdamGluIdeal.τ Cert.ReferenceAdamGluIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_KernelUpDw [hKernelUpDw : Cert.KernelUpDw.Facts] : Prop :=
  ∀ (m : (ℓ : Loc Cert.KernelUpDw.nD Cert.KernelUpDw.τ Cert.KernelUpDw.sig) → Buf (Elt Bits) ℓ) (g : Dev Cert.KernelUpDw.nD → PrngReg), Pre_KernelUpDw m →
    θ_run (Cert.KernelUpDw.defs (F := Bits)) (onTc (τ := Cert.KernelUpDw.τ) (Cert.KernelUpDw.main (F := Bits))) ⟨m, fun _ => 0, g⟩ (fun r => (∀ c : Dev Cert.KernelUpDw.nD,
      r.2.mem ((c.tc : Thread Cert.KernelUpDw.nD Cert.KernelUpDw.τ).loc Cert.KernelUpDw.main_arg0) = m ((c.tc : Thread Cert.KernelUpDw.nD Cert.KernelUpDw.τ).loc Cert.KernelUpDw.main_arg0)
      ∧ r.2.mem ((c.tc : Thread Cert.KernelUpDw.nD Cert.KernelUpDw.τ).loc Cert.KernelUpDw.main_arg1) = m ((c.tc : Thread Cert.KernelUpDw.nD Cert.KernelUpDw.τ).loc Cert.KernelUpDw.main_arg1))
      ∧ r.2.sem = fun _ => 0)

def quiescent_KernelUpDwIdeal [hKernelUpDwIdeal : Cert.KernelUpDwIdeal.Facts] : Prop :=
  ∀ (m : (ℓ : Loc Cert.KernelUpDwIdeal.nD Cert.KernelUpDwIdeal.τ Cert.KernelUpDwIdeal.sig) → Buf (Elt Ideal) ℓ) (g : Dev Cert.KernelUpDwIdeal.nD → PrngReg), Pre_KernelUpDwIdeal m →
    θ_run (Cert.KernelUpDwIdeal.defs (F := Ideal)) (onTc (τ := Cert.KernelUpDwIdeal.τ) (Cert.KernelUpDwIdeal.main (F := Ideal))) ⟨m, fun _ => 0, g⟩ (fun r => (∀ c : Dev Cert.KernelUpDwIdeal.nD,
      r.2.mem ((c.tc : Thread Cert.KernelUpDwIdeal.nD Cert.KernelUpDwIdeal.τ).loc Cert.KernelUpDwIdeal.main_arg0) = m ((c.tc : Thread Cert.KernelUpDwIdeal.nD Cert.KernelUpDwIdeal.τ).loc Cert.KernelUpDwIdeal.main_arg0)
      ∧ r.2.mem ((c.tc : Thread Cert.KernelUpDwIdeal.nD Cert.KernelUpDwIdeal.τ).loc Cert.KernelUpDwIdeal.main_arg1) = m ((c.tc : Thread Cert.KernelUpDwIdeal.nD Cert.KernelUpDwIdeal.τ).loc Cert.KernelUpDwIdeal.main_arg1))
      ∧ r.2.sem = fun _ => 0)

def quiescent_ReferenceUpDwIdeal [hReferenceUpDwIdeal : Cert.ReferenceUpDwIdeal.Facts] : Prop :=
  ∀ (m : (ℓ : Loc Cert.ReferenceUpDwIdeal.nD Cert.ReferenceUpDwIdeal.τ Cert.ReferenceUpDwIdeal.sig) → Buf (Elt Ideal) ℓ) (g : Dev Cert.ReferenceUpDwIdeal.nD → PrngReg), Pre_ReferenceUpDwIdeal m →
    θ_run (Cert.ReferenceUpDwIdeal.defs (F := Ideal)) (onTc (τ := Cert.ReferenceUpDwIdeal.τ) (Cert.ReferenceUpDwIdeal.main (F := Ideal))) ⟨m, fun _ => 0, g⟩ (fun r => (∀ c : Dev Cert.ReferenceUpDwIdeal.nD,
      r.2.mem ((c.tc : Thread Cert.ReferenceUpDwIdeal.nD Cert.ReferenceUpDwIdeal.τ).loc Cert.ReferenceUpDwIdeal.main_arg0) = m ((c.tc : Thread Cert.ReferenceUpDwIdeal.nD Cert.ReferenceUpDwIdeal.τ).loc Cert.ReferenceUpDwIdeal.main_arg0)
      ∧ r.2.mem ((c.tc : Thread Cert.ReferenceUpDwIdeal.nD Cert.ReferenceUpDwIdeal.τ).loc Cert.ReferenceUpDwIdeal.main_arg1) = m ((c.tc : Thread Cert.ReferenceUpDwIdeal.nD Cert.ReferenceUpDwIdeal.τ).loc Cert.ReferenceUpDwIdeal.main_arg1))
      ∧ r.2.sem = fun _ => 0)

def quiescent_KernelUpDxA [hKernelUpDxA : Cert.KernelUpDxA.Facts] : Prop :=
  ∀ (m : (ℓ : Loc Cert.KernelUpDxA.nD Cert.KernelUpDxA.τ Cert.KernelUpDxA.sig) → Buf (Elt Bits) ℓ) (g : Dev Cert.KernelUpDxA.nD → PrngReg), Pre_KernelUpDxA m →
    θ_run (Cert.KernelUpDxA.defs (F := Bits)) (onTc (τ := Cert.KernelUpDxA.τ) (Cert.KernelUpDxA.main (F := Bits))) ⟨m, fun _ => 0, g⟩ (fun r => (∀ c : Dev Cert.KernelUpDxA.nD,
      r.2.mem ((c.tc : Thread Cert.KernelUpDxA.nD Cert.KernelUpDxA.τ).loc Cert.KernelUpDxA.main_arg0) = m ((c.tc : Thread Cert.KernelUpDxA.nD Cert.KernelUpDxA.τ).loc Cert.KernelUpDxA.main_arg0)
      ∧ r.2.mem ((c.tc : Thread Cert.KernelUpDxA.nD Cert.KernelUpDxA.τ).loc Cert.KernelUpDxA.main_arg1) = m ((c.tc : Thread Cert.KernelUpDxA.nD Cert.KernelUpDxA.τ).loc Cert.KernelUpDxA.main_arg1))
      ∧ r.2.sem = fun _ => 0)

def quiescent_KernelUpDxAIdeal [hKernelUpDxAIdeal : Cert.KernelUpDxAIdeal.Facts] : Prop :=
  ∀ (m : (ℓ : Loc Cert.KernelUpDxAIdeal.nD Cert.KernelUpDxAIdeal.τ Cert.KernelUpDxAIdeal.sig) → Buf (Elt Ideal) ℓ) (g : Dev Cert.KernelUpDxAIdeal.nD → PrngReg), Pre_KernelUpDxAIdeal m →
    θ_run (Cert.KernelUpDxAIdeal.defs (F := Ideal)) (onTc (τ := Cert.KernelUpDxAIdeal.τ) (Cert.KernelUpDxAIdeal.main (F := Ideal))) ⟨m, fun _ => 0, g⟩ (fun r => (∀ c : Dev Cert.KernelUpDxAIdeal.nD,
      r.2.mem ((c.tc : Thread Cert.KernelUpDxAIdeal.nD Cert.KernelUpDxAIdeal.τ).loc Cert.KernelUpDxAIdeal.main_arg0) = m ((c.tc : Thread Cert.KernelUpDxAIdeal.nD Cert.KernelUpDxAIdeal.τ).loc Cert.KernelUpDxAIdeal.main_arg0)
      ∧ r.2.mem ((c.tc : Thread Cert.KernelUpDxAIdeal.nD Cert.KernelUpDxAIdeal.τ).loc Cert.KernelUpDxAIdeal.main_arg1) = m ((c.tc : Thread Cert.KernelUpDxAIdeal.nD Cert.KernelUpDxAIdeal.τ).loc Cert.KernelUpDxAIdeal.main_arg1))
      ∧ r.2.sem = fun _ => 0)

def quiescent_ReferenceUpDxAIdeal [hReferenceUpDxAIdeal : Cert.ReferenceUpDxAIdeal.Facts] : Prop :=
  ∀ (m : (ℓ : Loc Cert.ReferenceUpDxAIdeal.nD Cert.ReferenceUpDxAIdeal.τ Cert.ReferenceUpDxAIdeal.sig) → Buf (Elt Ideal) ℓ) (g : Dev Cert.ReferenceUpDxAIdeal.nD → PrngReg), Pre_ReferenceUpDxAIdeal m →
    θ_run (Cert.ReferenceUpDxAIdeal.defs (F := Ideal)) (onTc (τ := Cert.ReferenceUpDxAIdeal.τ) (Cert.ReferenceUpDxAIdeal.main (F := Ideal))) ⟨m, fun _ => 0, g⟩ (fun r => (∀ c : Dev Cert.ReferenceUpDxAIdeal.nD,
      r.2.mem ((c.tc : Thread Cert.ReferenceUpDxAIdeal.nD Cert.ReferenceUpDxAIdeal.τ).loc Cert.ReferenceUpDxAIdeal.main_arg0) = m ((c.tc : Thread Cert.ReferenceUpDxAIdeal.nD Cert.ReferenceUpDxAIdeal.τ).loc Cert.ReferenceUpDxAIdeal.main_arg0)
      ∧ r.2.mem ((c.tc : Thread Cert.ReferenceUpDxAIdeal.nD Cert.ReferenceUpDxAIdeal.τ).loc Cert.ReferenceUpDxAIdeal.main_arg1) = m ((c.tc : Thread Cert.ReferenceUpDxAIdeal.nD Cert.ReferenceUpDxAIdeal.τ).loc Cert.ReferenceUpDxAIdeal.main_arg1))
      ∧ r.2.sem = fun _ => 0)

def quiescent_KernelUpDxB [hKernelUpDxB : Cert.KernelUpDxB.Facts] : Prop :=
  ∀ (m : (ℓ : Loc Cert.KernelUpDxB.nD Cert.KernelUpDxB.τ Cert.KernelUpDxB.sig) → Buf (Elt Bits) ℓ) (g : Dev Cert.KernelUpDxB.nD → PrngReg), Pre_KernelUpDxB m →
    θ_run (Cert.KernelUpDxB.defs (F := Bits)) (onTc (τ := Cert.KernelUpDxB.τ) (Cert.KernelUpDxB.main (F := Bits))) ⟨m, fun _ => 0, g⟩ (fun r => (∀ c : Dev Cert.KernelUpDxB.nD,
      r.2.mem ((c.tc : Thread Cert.KernelUpDxB.nD Cert.KernelUpDxB.τ).loc Cert.KernelUpDxB.main_arg0) = m ((c.tc : Thread Cert.KernelUpDxB.nD Cert.KernelUpDxB.τ).loc Cert.KernelUpDxB.main_arg0)
      ∧ r.2.mem ((c.tc : Thread Cert.KernelUpDxB.nD Cert.KernelUpDxB.τ).loc Cert.KernelUpDxB.main_arg1) = m ((c.tc : Thread Cert.KernelUpDxB.nD Cert.KernelUpDxB.τ).loc Cert.KernelUpDxB.main_arg1)
      ∧ r.2.mem ((c.tc : Thread Cert.KernelUpDxB.nD Cert.KernelUpDxB.τ).loc Cert.KernelUpDxB.main_arg2) = m ((c.tc : Thread Cert.KernelUpDxB.nD Cert.KernelUpDxB.τ).loc Cert.KernelUpDxB.main_arg2))
      ∧ r.2.sem = fun _ => 0)

def quiescent_KernelUpDxBIdeal [hKernelUpDxBIdeal : Cert.KernelUpDxBIdeal.Facts] : Prop :=
  ∀ (m : (ℓ : Loc Cert.KernelUpDxBIdeal.nD Cert.KernelUpDxBIdeal.τ Cert.KernelUpDxBIdeal.sig) → Buf (Elt Ideal) ℓ) (g : Dev Cert.KernelUpDxBIdeal.nD → PrngReg), Pre_KernelUpDxBIdeal m →
    θ_run (Cert.KernelUpDxBIdeal.defs (F := Ideal)) (onTc (τ := Cert.KernelUpDxBIdeal.τ) (Cert.KernelUpDxBIdeal.main (F := Ideal))) ⟨m, fun _ => 0, g⟩ (fun r => (∀ c : Dev Cert.KernelUpDxBIdeal.nD,
      r.2.mem ((c.tc : Thread Cert.KernelUpDxBIdeal.nD Cert.KernelUpDxBIdeal.τ).loc Cert.KernelUpDxBIdeal.main_arg0) = m ((c.tc : Thread Cert.KernelUpDxBIdeal.nD Cert.KernelUpDxBIdeal.τ).loc Cert.KernelUpDxBIdeal.main_arg0)
      ∧ r.2.mem ((c.tc : Thread Cert.KernelUpDxBIdeal.nD Cert.KernelUpDxBIdeal.τ).loc Cert.KernelUpDxBIdeal.main_arg1) = m ((c.tc : Thread Cert.KernelUpDxBIdeal.nD Cert.KernelUpDxBIdeal.τ).loc Cert.KernelUpDxBIdeal.main_arg1)
      ∧ r.2.mem ((c.tc : Thread Cert.KernelUpDxBIdeal.nD Cert.KernelUpDxBIdeal.τ).loc Cert.KernelUpDxBIdeal.main_arg2) = m ((c.tc : Thread Cert.KernelUpDxBIdeal.nD Cert.KernelUpDxBIdeal.τ).loc Cert.KernelUpDxBIdeal.main_arg2))
      ∧ r.2.sem = fun _ => 0)

def quiescent_ReferenceUpDxBIdeal [hReferenceUpDxBIdeal : Cert.ReferenceUpDxBIdeal.Facts] : Prop :=
  ∀ (m : (ℓ : Loc Cert.ReferenceUpDxBIdeal.nD Cert.ReferenceUpDxBIdeal.τ Cert.ReferenceUpDxBIdeal.sig) → Buf (Elt Ideal) ℓ) (g : Dev Cert.ReferenceUpDxBIdeal.nD → PrngReg), Pre_ReferenceUpDxBIdeal m →
    θ_run (Cert.ReferenceUpDxBIdeal.defs (F := Ideal)) (onTc (τ := Cert.ReferenceUpDxBIdeal.τ) (Cert.ReferenceUpDxBIdeal.main (F := Ideal))) ⟨m, fun _ => 0, g⟩ (fun r => (∀ c : Dev Cert.ReferenceUpDxBIdeal.nD,
      r.2.mem ((c.tc : Thread Cert.ReferenceUpDxBIdeal.nD Cert.ReferenceUpDxBIdeal.τ).loc Cert.ReferenceUpDxBIdeal.main_arg0) = m ((c.tc : Thread Cert.ReferenceUpDxBIdeal.nD Cert.ReferenceUpDxBIdeal.τ).loc Cert.ReferenceUpDxBIdeal.main_arg0)
      ∧ r.2.mem ((c.tc : Thread Cert.ReferenceUpDxBIdeal.nD Cert.ReferenceUpDxBIdeal.τ).loc Cert.ReferenceUpDxBIdeal.main_arg1) = m ((c.tc : Thread Cert.ReferenceUpDxBIdeal.nD Cert.ReferenceUpDxBIdeal.τ).loc Cert.ReferenceUpDxBIdeal.main_arg1)
      ∧ r.2.mem ((c.tc : Thread Cert.ReferenceUpDxBIdeal.nD Cert.ReferenceUpDxBIdeal.τ).loc Cert.ReferenceUpDxBIdeal.main_arg2) = m ((c.tc : Thread Cert.ReferenceUpDxBIdeal.nD Cert.ReferenceUpDxBIdeal.τ).loc Cert.ReferenceUpDxBIdeal.main_arg2))
      ∧ r.2.sem = fun _ => 0)

def quiescent_KernelDownDx [hKernelDownDx : Cert.KernelDownDx.Facts] : Prop :=
  ∀ (m : (ℓ : Loc Cert.KernelDownDx.nD Cert.KernelDownDx.τ Cert.KernelDownDx.sig) → Buf (Elt Bits) ℓ) (g : Dev Cert.KernelDownDx.nD → PrngReg), Pre_KernelDownDx m →
    θ_run (Cert.KernelDownDx.defs (F := Bits)) (onTc (τ := Cert.KernelDownDx.τ) (Cert.KernelDownDx.main (F := Bits))) ⟨m, fun _ => 0, g⟩ (fun r => (∀ c : Dev Cert.KernelDownDx.nD,
      r.2.mem ((c.tc : Thread Cert.KernelDownDx.nD Cert.KernelDownDx.τ).loc Cert.KernelDownDx.main_arg0) = m ((c.tc : Thread Cert.KernelDownDx.nD Cert.KernelDownDx.τ).loc Cert.KernelDownDx.main_arg0)
      ∧ r.2.mem ((c.tc : Thread Cert.KernelDownDx.nD Cert.KernelDownDx.τ).loc Cert.KernelDownDx.main_arg1) = m ((c.tc : Thread Cert.KernelDownDx.nD Cert.KernelDownDx.τ).loc Cert.KernelDownDx.main_arg1))
      ∧ r.2.sem = fun _ => 0)

def quiescent_KernelDownDxIdeal [hKernelDownDxIdeal : Cert.KernelDownDxIdeal.Facts] : Prop :=
  ∀ (m : (ℓ : Loc Cert.KernelDownDxIdeal.nD Cert.KernelDownDxIdeal.τ Cert.KernelDownDxIdeal.sig) → Buf (Elt Ideal) ℓ) (g : Dev Cert.KernelDownDxIdeal.nD → PrngReg), Pre_KernelDownDxIdeal m →
    θ_run (Cert.KernelDownDxIdeal.defs (F := Ideal)) (onTc (τ := Cert.KernelDownDxIdeal.τ) (Cert.KernelDownDxIdeal.main (F := Ideal))) ⟨m, fun _ => 0, g⟩ (fun r => (∀ c : Dev Cert.KernelDownDxIdeal.nD,
      r.2.mem ((c.tc : Thread Cert.KernelDownDxIdeal.nD Cert.KernelDownDxIdeal.τ).loc Cert.KernelDownDxIdeal.main_arg0) = m ((c.tc : Thread Cert.KernelDownDxIdeal.nD Cert.KernelDownDxIdeal.τ).loc Cert.KernelDownDxIdeal.main_arg0)
      ∧ r.2.mem ((c.tc : Thread Cert.KernelDownDxIdeal.nD Cert.KernelDownDxIdeal.τ).loc Cert.KernelDownDxIdeal.main_arg1) = m ((c.tc : Thread Cert.KernelDownDxIdeal.nD Cert.KernelDownDxIdeal.τ).loc Cert.KernelDownDxIdeal.main_arg1))
      ∧ r.2.sem = fun _ => 0)

def quiescent_ReferenceDownDxIdeal [hReferenceDownDxIdeal : Cert.ReferenceDownDxIdeal.Facts] : Prop :=
  ∀ (m : (ℓ : Loc Cert.ReferenceDownDxIdeal.nD Cert.ReferenceDownDxIdeal.τ Cert.ReferenceDownDxIdeal.sig) → Buf (Elt Ideal) ℓ) (g : Dev Cert.ReferenceDownDxIdeal.nD → PrngReg), Pre_ReferenceDownDxIdeal m →
    θ_run (Cert.ReferenceDownDxIdeal.defs (F := Ideal)) (onTc (τ := Cert.ReferenceDownDxIdeal.τ) (Cert.ReferenceDownDxIdeal.main (F := Ideal))) ⟨m, fun _ => 0, g⟩ (fun r => (∀ c : Dev Cert.ReferenceDownDxIdeal.nD,
      r.2.mem ((c.tc : Thread Cert.ReferenceDownDxIdeal.nD Cert.ReferenceDownDxIdeal.τ).loc Cert.ReferenceDownDxIdeal.main_arg0) = m ((c.tc : Thread Cert.ReferenceDownDxIdeal.nD Cert.ReferenceDownDxIdeal.τ).loc Cert.ReferenceDownDxIdeal.main_arg0)
      ∧ r.2.mem ((c.tc : Thread Cert.ReferenceDownDxIdeal.nD Cert.ReferenceDownDxIdeal.τ).loc Cert.ReferenceDownDxIdeal.main_arg1) = m ((c.tc : Thread Cert.ReferenceDownDxIdeal.nD Cert.ReferenceDownDxIdeal.τ).loc Cert.ReferenceDownDxIdeal.main_arg1))
      ∧ r.2.sem = fun _ => 0)

def quiescent_KernelDownDw [hKernelDownDw : Cert.KernelDownDw.Facts] : Prop :=
  ∀ (m : (ℓ : Loc Cert.KernelDownDw.nD Cert.KernelDownDw.τ Cert.KernelDownDw.sig) → Buf (Elt Bits) ℓ) (g : Dev Cert.KernelDownDw.nD → PrngReg), Pre_KernelDownDw m →
    θ_run (Cert.KernelDownDw.defs (F := Bits)) (onTc (τ := Cert.KernelDownDw.τ) (Cert.KernelDownDw.main (F := Bits))) ⟨m, fun _ => 0, g⟩ (fun r => (∀ c : Dev Cert.KernelDownDw.nD,
      r.2.mem ((c.tc : Thread Cert.KernelDownDw.nD Cert.KernelDownDw.τ).loc Cert.KernelDownDw.main_arg0) = m ((c.tc : Thread Cert.KernelDownDw.nD Cert.KernelDownDw.τ).loc Cert.KernelDownDw.main_arg0)
      ∧ r.2.mem ((c.tc : Thread Cert.KernelDownDw.nD Cert.KernelDownDw.τ).loc Cert.KernelDownDw.main_arg1) = m ((c.tc : Thread Cert.KernelDownDw.nD Cert.KernelDownDw.τ).loc Cert.KernelDownDw.main_arg1))
      ∧ r.2.sem = fun _ => 0)

def quiescent_KernelDownDwIdeal [hKernelDownDwIdeal : Cert.KernelDownDwIdeal.Facts] : Prop :=
  ∀ (m : (ℓ : Loc Cert.KernelDownDwIdeal.nD Cert.KernelDownDwIdeal.τ Cert.KernelDownDwIdeal.sig) → Buf (Elt Ideal) ℓ) (g : Dev Cert.KernelDownDwIdeal.nD → PrngReg), Pre_KernelDownDwIdeal m →
    θ_run (Cert.KernelDownDwIdeal.defs (F := Ideal)) (onTc (τ := Cert.KernelDownDwIdeal.τ) (Cert.KernelDownDwIdeal.main (F := Ideal))) ⟨m, fun _ => 0, g⟩ (fun r => (∀ c : Dev Cert.KernelDownDwIdeal.nD,
      r.2.mem ((c.tc : Thread Cert.KernelDownDwIdeal.nD Cert.KernelDownDwIdeal.τ).loc Cert.KernelDownDwIdeal.main_arg0) = m ((c.tc : Thread Cert.KernelDownDwIdeal.nD Cert.KernelDownDwIdeal.τ).loc Cert.KernelDownDwIdeal.main_arg0)
      ∧ r.2.mem ((c.tc : Thread Cert.KernelDownDwIdeal.nD Cert.KernelDownDwIdeal.τ).loc Cert.KernelDownDwIdeal.main_arg1) = m ((c.tc : Thread Cert.KernelDownDwIdeal.nD Cert.KernelDownDwIdeal.τ).loc Cert.KernelDownDwIdeal.main_arg1))
      ∧ r.2.sem = fun _ => 0)

def quiescent_ReferenceDownDwIdeal [hReferenceDownDwIdeal : Cert.ReferenceDownDwIdeal.Facts] : Prop :=
  ∀ (m : (ℓ : Loc Cert.ReferenceDownDwIdeal.nD Cert.ReferenceDownDwIdeal.τ Cert.ReferenceDownDwIdeal.sig) → Buf (Elt Ideal) ℓ) (g : Dev Cert.ReferenceDownDwIdeal.nD → PrngReg), Pre_ReferenceDownDwIdeal m →
    θ_run (Cert.ReferenceDownDwIdeal.defs (F := Ideal)) (onTc (τ := Cert.ReferenceDownDwIdeal.τ) (Cert.ReferenceDownDwIdeal.main (F := Ideal))) ⟨m, fun _ => 0, g⟩ (fun r => (∀ c : Dev Cert.ReferenceDownDwIdeal.nD,
      r.2.mem ((c.tc : Thread Cert.ReferenceDownDwIdeal.nD Cert.ReferenceDownDwIdeal.τ).loc Cert.ReferenceDownDwIdeal.main_arg0) = m ((c.tc : Thread Cert.ReferenceDownDwIdeal.nD Cert.ReferenceDownDwIdeal.τ).loc Cert.ReferenceDownDwIdeal.main_arg0)
      ∧ r.2.mem ((c.tc : Thread Cert.ReferenceDownDwIdeal.nD Cert.ReferenceDownDwIdeal.τ).loc Cert.ReferenceDownDwIdeal.main_arg1) = m ((c.tc : Thread Cert.ReferenceDownDwIdeal.nD Cert.ReferenceDownDwIdeal.τ).loc Cert.ReferenceDownDwIdeal.main_arg1))
      ∧ r.2.sem = fun _ => 0)

def quiescent_KernelUp [hKernelUp : Cert.KernelUp.Facts] : Prop :=
  ∀ (m : (ℓ : Loc Cert.KernelUp.nD Cert.KernelUp.τ Cert.KernelUp.sig) → Buf (Elt Bits) ℓ) (g : Dev Cert.KernelUp.nD → PrngReg), Pre_KernelUp m →
    θ_run (Cert.KernelUp.defs (F := Bits)) (onTc (τ := Cert.KernelUp.τ) (Cert.KernelUp.main (F := Bits))) ⟨m, fun _ => 0, g⟩ (fun r => (∀ c : Dev Cert.KernelUp.nD,
      r.2.mem ((c.tc : Thread Cert.KernelUp.nD Cert.KernelUp.τ).loc Cert.KernelUp.main_arg0) = m ((c.tc : Thread Cert.KernelUp.nD Cert.KernelUp.τ).loc Cert.KernelUp.main_arg0)
      ∧ r.2.mem ((c.tc : Thread Cert.KernelUp.nD Cert.KernelUp.τ).loc Cert.KernelUp.main_arg1) = m ((c.tc : Thread Cert.KernelUp.nD Cert.KernelUp.τ).loc Cert.KernelUp.main_arg1))
      ∧ r.2.sem = fun _ => 0)

def quiescent_KernelUpIdeal [hKernelUpIdeal : Cert.KernelUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg), Pre_KernelUpIdeal m →
    θ_run (Cert.KernelUpIdeal.defs (F := Ideal)) (onTc (τ := Cert.KernelUpIdeal.τ) (Cert.KernelUpIdeal.main (F := Ideal))) ⟨m, fun _ => 0, g⟩ (fun r => (∀ c : Dev Cert.KernelUpIdeal.nD,
      r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
      ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1))
      ∧ r.2.sem = fun _ => 0)

def quiescent_ReferenceUpIdeal [hReferenceUpIdeal : Cert.ReferenceUpIdeal.Facts] : Prop :=
  ∀ (m : (ℓ : Loc Cert.ReferenceUpIdeal.nD Cert.ReferenceUpIdeal.τ Cert.ReferenceUpIdeal.sig) → Buf (Elt Ideal) ℓ) (g : Dev Cert.ReferenceUpIdeal.nD → PrngReg), Pre_ReferenceUpIdeal m →
    θ_run (Cert.ReferenceUpIdeal.defs (F := Ideal)) (onTc (τ := Cert.ReferenceUpIdeal.τ) (Cert.ReferenceUpIdeal.main (F := Ideal))) ⟨m, fun _ => 0, g⟩ (fun r => (∀ c : Dev Cert.ReferenceUpIdeal.nD,
      r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
      ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1))
      ∧ r.2.sem = fun _ => 0)

def quiescent_KernelDown [hKernelDown : Cert.KernelDown.Facts] : Prop :=
  ∀ (m : (ℓ : Loc Cert.KernelDown.nD Cert.KernelDown.τ Cert.KernelDown.sig) → Buf (Elt Bits) ℓ) (g : Dev Cert.KernelDown.nD → PrngReg), Pre_KernelDown m →
    θ_run (Cert.KernelDown.defs (F := Bits)) (onTc (τ := Cert.KernelDown.τ) (Cert.KernelDown.main (F := Bits))) ⟨m, fun _ => 0, g⟩ (fun r => (∀ c : Dev Cert.KernelDown.nD,
      r.2.mem ((c.tc : Thread Cert.KernelDown.nD Cert.KernelDown.τ).loc Cert.KernelDown.main_arg0) = m ((c.tc : Thread Cert.KernelDown.nD Cert.KernelDown.τ).loc Cert.KernelDown.main_arg0)
      ∧ r.2.mem ((c.tc : Thread Cert.KernelDown.nD Cert.KernelDown.τ).loc Cert.KernelDown.main_arg1) = m ((c.tc : Thread Cert.KernelDown.nD Cert.KernelDown.τ).loc Cert.KernelDown.main_arg1)
      ∧ r.2.mem ((c.tc : Thread Cert.KernelDown.nD Cert.KernelDown.τ).loc Cert.KernelDown.main_arg2) = m ((c.tc : Thread Cert.KernelDown.nD Cert.KernelDown.τ).loc Cert.KernelDown.main_arg2))
      ∧ r.2.sem = fun _ => 0)

def quiescent_KernelDownIdeal [hKernelDownIdeal : Cert.KernelDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg), Pre_KernelDownIdeal m →
    θ_run (Cert.KernelDownIdeal.defs (F := Ideal)) (onTc (τ := Cert.KernelDownIdeal.τ) (Cert.KernelDownIdeal.main (F := Ideal))) ⟨m, fun _ => 0, g⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
      ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2))
      ∧ r.2.sem = fun _ => 0)

def quiescent_ReferenceDownIdeal [hReferenceDownIdeal : Cert.ReferenceDownIdeal.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1)
      ∧ r.2.mem ((c.tc : Thread Cert.ReferenceDownIdeal.nD Cert.ReferenceDownIdeal.τ).loc Cert.ReferenceDownIdeal.main_arg2) = m ((c.tc : Thread Cert.ReferenceDownIdeal.nD Cert.ReferenceDownIdeal.τ).loc Cert.ReferenceDownIdeal.main_arg2))
      ∧ r.2.sem = fun _ => 0)

def quiescent_KernelOutDx [hKernelOutDx : Cert.KernelOutDx.Facts] : Prop :=
  ∀ (m : (ℓ : Loc Cert.KernelOutDx.nD Cert.KernelOutDx.τ Cert.KernelOutDx.sig) → Buf (Elt Bits) ℓ) (g : Dev Cert.KernelOutDx.nD → PrngReg), Pre_KernelOutDx m →
    θ_run (Cert.KernelOutDx.defs (F := Bits)) (onTc (τ := Cert.KernelOutDx.τ) (Cert.KernelOutDx.main (F := Bits))) ⟨m, fun _ => 0, g⟩ (fun r => (∀ c : Dev Cert.KernelOutDx.nD,
      r.2.mem ((c.tc : Thread Cert.KernelOutDx.nD Cert.KernelOutDx.τ).loc Cert.KernelOutDx.main_arg0) = m ((c.tc : Thread Cert.KernelOutDx.nD Cert.KernelOutDx.τ).loc Cert.KernelOutDx.main_arg0)
      ∧ r.2.mem ((c.tc : Thread Cert.KernelOutDx.nD Cert.KernelOutDx.τ).loc Cert.KernelOutDx.main_arg1) = m ((c.tc : Thread Cert.KernelOutDx.nD Cert.KernelOutDx.τ).loc Cert.KernelOutDx.main_arg1))
      ∧ r.2.sem = fun _ => 0)

def quiescent_KernelOutDxIdeal [hKernelOutDxIdeal : Cert.KernelOutDxIdeal.Facts] : Prop :=
  ∀ (m : (ℓ : Loc Cert.KernelOutDxIdeal.nD Cert.KernelOutDxIdeal.τ Cert.KernelOutDxIdeal.sig) → Buf (Elt Ideal) ℓ) (g : Dev Cert.KernelOutDxIdeal.nD → PrngReg), Pre_KernelOutDxIdeal m →
    θ_run (Cert.KernelOutDxIdeal.defs (F := Ideal)) (onTc (τ := Cert.KernelOutDxIdeal.τ) (Cert.KernelOutDxIdeal.main (F := Ideal))) ⟨m, fun _ => 0, g⟩ (fun r => (∀ c : Dev Cert.KernelOutDxIdeal.nD,
      r.2.mem ((c.tc : Thread Cert.KernelOutDxIdeal.nD Cert.KernelOutDxIdeal.τ).loc Cert.KernelOutDxIdeal.main_arg0) = m ((c.tc : Thread Cert.KernelOutDxIdeal.nD Cert.KernelOutDxIdeal.τ).loc Cert.KernelOutDxIdeal.main_arg0)
      ∧ r.2.mem ((c.tc : Thread Cert.KernelOutDxIdeal.nD Cert.KernelOutDxIdeal.τ).loc Cert.KernelOutDxIdeal.main_arg1) = m ((c.tc : Thread Cert.KernelOutDxIdeal.nD Cert.KernelOutDxIdeal.τ).loc Cert.KernelOutDxIdeal.main_arg1))
      ∧ r.2.sem = fun _ => 0)

def quiescent_ReferenceOutDxIdeal [hReferenceOutDxIdeal : Cert.ReferenceOutDxIdeal.Facts] : Prop :=
  ∀ (m : (ℓ : Loc Cert.ReferenceOutDxIdeal.nD Cert.ReferenceOutDxIdeal.τ Cert.ReferenceOutDxIdeal.sig) → Buf (Elt Ideal) ℓ) (g : Dev Cert.ReferenceOutDxIdeal.nD → PrngReg), Pre_ReferenceOutDxIdeal m →
    θ_run (Cert.ReferenceOutDxIdeal.defs (F := Ideal)) (onTc (τ := Cert.ReferenceOutDxIdeal.τ) (Cert.ReferenceOutDxIdeal.main (F := Ideal))) ⟨m, fun _ => 0, g⟩ (fun r => (∀ c : Dev Cert.ReferenceOutDxIdeal.nD,
      r.2.mem ((c.tc : Thread Cert.ReferenceOutDxIdeal.nD Cert.ReferenceOutDxIdeal.τ).loc Cert.ReferenceOutDxIdeal.main_arg0) = m ((c.tc : Thread Cert.ReferenceOutDxIdeal.nD Cert.ReferenceOutDxIdeal.τ).loc Cert.ReferenceOutDxIdeal.main_arg0)
      ∧ r.2.mem ((c.tc : Thread Cert.ReferenceOutDxIdeal.nD Cert.ReferenceOutDxIdeal.τ).loc Cert.ReferenceOutDxIdeal.main_arg1) = m ((c.tc : Thread Cert.ReferenceOutDxIdeal.nD Cert.ReferenceOutDxIdeal.τ).loc Cert.ReferenceOutDxIdeal.main_arg1))
      ∧ r.2.sem = fun _ => 0)

def quiescent_KernelOutDw [hKernelOutDw : Cert.KernelOutDw.Facts] : Prop :=
  ∀ (m : (ℓ : Loc Cert.KernelOutDw.nD Cert.KernelOutDw.τ Cert.KernelOutDw.sig) → Buf (Elt Bits) ℓ) (g : Dev Cert.KernelOutDw.nD → PrngReg), Pre_KernelOutDw m →
    θ_run (Cert.KernelOutDw.defs (F := Bits)) (onTc (τ := Cert.KernelOutDw.τ) (Cert.KernelOutDw.main (F := Bits))) ⟨m, fun _ => 0, g⟩ (fun r => (∀ c : Dev Cert.KernelOutDw.nD,
      r.2.mem ((c.tc : Thread Cert.KernelOutDw.nD Cert.KernelOutDw.τ).loc Cert.KernelOutDw.main_arg0) = m ((c.tc : Thread Cert.KernelOutDw.nD Cert.KernelOutDw.τ).loc Cert.KernelOutDw.main_arg0)
      ∧ r.2.mem ((c.tc : Thread Cert.KernelOutDw.nD Cert.KernelOutDw.τ).loc Cert.KernelOutDw.main_arg1) = m ((c.tc : Thread Cert.KernelOutDw.nD Cert.KernelOutDw.τ).loc Cert.KernelOutDw.main_arg1))
      ∧ r.2.sem = fun _ => 0)

def quiescent_KernelOutDwIdeal [hKernelOutDwIdeal : Cert.KernelOutDwIdeal.Facts] : Prop :=
  ∀ (m : (ℓ : Loc Cert.KernelOutDwIdeal.nD Cert.KernelOutDwIdeal.τ Cert.KernelOutDwIdeal.sig) → Buf (Elt Ideal) ℓ) (g : Dev Cert.KernelOutDwIdeal.nD → PrngReg), Pre_KernelOutDwIdeal m →
    θ_run (Cert.KernelOutDwIdeal.defs (F := Ideal)) (onTc (τ := Cert.KernelOutDwIdeal.τ) (Cert.KernelOutDwIdeal.main (F := Ideal))) ⟨m, fun _ => 0, g⟩ (fun r => (∀ c : Dev Cert.KernelOutDwIdeal.nD,
      r.2.mem ((c.tc : Thread Cert.KernelOutDwIdeal.nD Cert.KernelOutDwIdeal.τ).loc Cert.KernelOutDwIdeal.main_arg0) = m ((c.tc : Thread Cert.KernelOutDwIdeal.nD Cert.KernelOutDwIdeal.τ).loc Cert.KernelOutDwIdeal.main_arg0)
      ∧ r.2.mem ((c.tc : Thread Cert.KernelOutDwIdeal.nD Cert.KernelOutDwIdeal.τ).loc Cert.KernelOutDwIdeal.main_arg1) = m ((c.tc : Thread Cert.KernelOutDwIdeal.nD Cert.KernelOutDwIdeal.τ).loc Cert.KernelOutDwIdeal.main_arg1))
      ∧ r.2.sem = fun _ => 0)

def quiescent_ReferenceOutDwIdeal [hReferenceOutDwIdeal : Cert.ReferenceOutDwIdeal.Facts] : Prop :=
  ∀ (m : (ℓ : Loc Cert.ReferenceOutDwIdeal.nD Cert.ReferenceOutDwIdeal.τ Cert.ReferenceOutDwIdeal.sig) → Buf (Elt Ideal) ℓ) (g : Dev Cert.ReferenceOutDwIdeal.nD → PrngReg), Pre_ReferenceOutDwIdeal m →
    θ_run (Cert.ReferenceOutDwIdeal.defs (F := Ideal)) (onTc (τ := Cert.ReferenceOutDwIdeal.τ) (Cert.ReferenceOutDwIdeal.main (F := Ideal))) ⟨m, fun _ => 0, g⟩ (fun r => (∀ c : Dev Cert.ReferenceOutDwIdeal.nD,
      r.2.mem ((c.tc : Thread Cert.ReferenceOutDwIdeal.nD Cert.ReferenceOutDwIdeal.τ).loc Cert.ReferenceOutDwIdeal.main_arg0) = m ((c.tc : Thread Cert.ReferenceOutDwIdeal.nD Cert.ReferenceOutDwIdeal.τ).loc Cert.ReferenceOutDwIdeal.main_arg0)
      ∧ r.2.mem ((c.tc : Thread Cert.ReferenceOutDwIdeal.nD Cert.ReferenceOutDwIdeal.τ).loc Cert.ReferenceOutDwIdeal.main_arg1) = m ((c.tc : Thread Cert.ReferenceOutDwIdeal.nD Cert.ReferenceOutDwIdeal.τ).loc Cert.ReferenceOutDwIdeal.main_arg1))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2))
      ∧ r.2.sem = fun _ => 0)

def quiescent_KernelInDx [hKernelInDx : Cert.KernelInDx.Facts] : Prop :=
  ∀ (m : (ℓ : Loc Cert.KernelInDx.nD Cert.KernelInDx.τ Cert.KernelInDx.sig) → Buf (Elt Bits) ℓ) (g : Dev Cert.KernelInDx.nD → PrngReg), Pre_KernelInDx m →
    θ_run (Cert.KernelInDx.defs (F := Bits)) (onTc (τ := Cert.KernelInDx.τ) (Cert.KernelInDx.main (F := Bits))) ⟨m, fun _ => 0, g⟩ (fun r => (∀ c : Dev Cert.KernelInDx.nD,
      r.2.mem ((c.tc : Thread Cert.KernelInDx.nD Cert.KernelInDx.τ).loc Cert.KernelInDx.main_arg0) = m ((c.tc : Thread Cert.KernelInDx.nD Cert.KernelInDx.τ).loc Cert.KernelInDx.main_arg0)
      ∧ r.2.mem ((c.tc : Thread Cert.KernelInDx.nD Cert.KernelInDx.τ).loc Cert.KernelInDx.main_arg1) = m ((c.tc : Thread Cert.KernelInDx.nD Cert.KernelInDx.τ).loc Cert.KernelInDx.main_arg1))
      ∧ r.2.sem = fun _ => 0)

def quiescent_KernelInDxIdeal [hKernelInDxIdeal : Cert.KernelInDxIdeal.Facts] : Prop :=
  ∀ (m : (ℓ : Loc Cert.KernelInDxIdeal.nD Cert.KernelInDxIdeal.τ Cert.KernelInDxIdeal.sig) → Buf (Elt Ideal) ℓ) (g : Dev Cert.KernelInDxIdeal.nD → PrngReg), Pre_KernelInDxIdeal m →
    θ_run (Cert.KernelInDxIdeal.defs (F := Ideal)) (onTc (τ := Cert.KernelInDxIdeal.τ) (Cert.KernelInDxIdeal.main (F := Ideal))) ⟨m, fun _ => 0, g⟩ (fun r => (∀ c : Dev Cert.KernelInDxIdeal.nD,
      r.2.mem ((c.tc : Thread Cert.KernelInDxIdeal.nD Cert.KernelInDxIdeal.τ).loc Cert.KernelInDxIdeal.main_arg0) = m ((c.tc : Thread Cert.KernelInDxIdeal.nD Cert.KernelInDxIdeal.τ).loc Cert.KernelInDxIdeal.main_arg0)
      ∧ r.2.mem ((c.tc : Thread Cert.KernelInDxIdeal.nD Cert.KernelInDxIdeal.τ).loc Cert.KernelInDxIdeal.main_arg1) = m ((c.tc : Thread Cert.KernelInDxIdeal.nD Cert.KernelInDxIdeal.τ).loc Cert.KernelInDxIdeal.main_arg1))
      ∧ r.2.sem = fun _ => 0)

def quiescent_ReferenceInDxIdeal [hReferenceInDxIdeal : Cert.ReferenceInDxIdeal.Facts] : Prop :=
  ∀ (m : (ℓ : Loc Cert.ReferenceInDxIdeal.nD Cert.ReferenceInDxIdeal.τ Cert.ReferenceInDxIdeal.sig) → Buf (Elt Ideal) ℓ) (g : Dev Cert.ReferenceInDxIdeal.nD → PrngReg), Pre_ReferenceInDxIdeal m →
    θ_run (Cert.ReferenceInDxIdeal.defs (F := Ideal)) (onTc (τ := Cert.ReferenceInDxIdeal.τ) (Cert.ReferenceInDxIdeal.main (F := Ideal))) ⟨m, fun _ => 0, g⟩ (fun r => (∀ c : Dev Cert.ReferenceInDxIdeal.nD,
      r.2.mem ((c.tc : Thread Cert.ReferenceInDxIdeal.nD Cert.ReferenceInDxIdeal.τ).loc Cert.ReferenceInDxIdeal.main_arg0) = m ((c.tc : Thread Cert.ReferenceInDxIdeal.nD Cert.ReferenceInDxIdeal.τ).loc Cert.ReferenceInDxIdeal.main_arg0)
      ∧ r.2.mem ((c.tc : Thread Cert.ReferenceInDxIdeal.nD Cert.ReferenceInDxIdeal.τ).loc Cert.ReferenceInDxIdeal.main_arg1) = m ((c.tc : Thread Cert.ReferenceInDxIdeal.nD Cert.ReferenceInDxIdeal.τ).loc Cert.ReferenceInDxIdeal.main_arg1))
      ∧ r.2.sem = fun _ => 0)

def quiescent_KernelInDw [hKernelInDw : Cert.KernelInDw.Facts] : Prop :=
  ∀ (m : (ℓ : Loc Cert.KernelInDw.nD Cert.KernelInDw.τ Cert.KernelInDw.sig) → Buf (Elt Bits) ℓ) (g : Dev Cert.KernelInDw.nD → PrngReg), Pre_KernelInDw m →
    θ_run (Cert.KernelInDw.defs (F := Bits)) (onTc (τ := Cert.KernelInDw.τ) (Cert.KernelInDw.main (F := Bits))) ⟨m, fun _ => 0, g⟩ (fun r => (∀ c : Dev Cert.KernelInDw.nD,
      r.2.mem ((c.tc : Thread Cert.KernelInDw.nD Cert.KernelInDw.τ).loc Cert.KernelInDw.main_arg0) = m ((c.tc : Thread Cert.KernelInDw.nD Cert.KernelInDw.τ).loc Cert.KernelInDw.main_arg0)
      ∧ r.2.mem ((c.tc : Thread Cert.KernelInDw.nD Cert.KernelInDw.τ).loc Cert.KernelInDw.main_arg1) = m ((c.tc : Thread Cert.KernelInDw.nD Cert.KernelInDw.τ).loc Cert.KernelInDw.main_arg1))
      ∧ r.2.sem = fun _ => 0)

def quiescent_KernelInDwIdeal [hKernelInDwIdeal : Cert.KernelInDwIdeal.Facts] : Prop :=
  ∀ (m : (ℓ : Loc Cert.KernelInDwIdeal.nD Cert.KernelInDwIdeal.τ Cert.KernelInDwIdeal.sig) → Buf (Elt Ideal) ℓ) (g : Dev Cert.KernelInDwIdeal.nD → PrngReg), Pre_KernelInDwIdeal m →
    θ_run (Cert.KernelInDwIdeal.defs (F := Ideal)) (onTc (τ := Cert.KernelInDwIdeal.τ) (Cert.KernelInDwIdeal.main (F := Ideal))) ⟨m, fun _ => 0, g⟩ (fun r => (∀ c : Dev Cert.KernelInDwIdeal.nD,
      r.2.mem ((c.tc : Thread Cert.KernelInDwIdeal.nD Cert.KernelInDwIdeal.τ).loc Cert.KernelInDwIdeal.main_arg0) = m ((c.tc : Thread Cert.KernelInDwIdeal.nD Cert.KernelInDwIdeal.τ).loc Cert.KernelInDwIdeal.main_arg0)
      ∧ r.2.mem ((c.tc : Thread Cert.KernelInDwIdeal.nD Cert.KernelInDwIdeal.τ).loc Cert.KernelInDwIdeal.main_arg1) = m ((c.tc : Thread Cert.KernelInDwIdeal.nD Cert.KernelInDwIdeal.τ).loc Cert.KernelInDwIdeal.main_arg1))
      ∧ r.2.sem = fun _ => 0)

def quiescent_ReferenceInDwIdeal [hReferenceInDwIdeal : Cert.ReferenceInDwIdeal.Facts] : Prop :=
  ∀ (m : (ℓ : Loc Cert.ReferenceInDwIdeal.nD Cert.ReferenceInDwIdeal.τ Cert.ReferenceInDwIdeal.sig) → Buf (Elt Ideal) ℓ) (g : Dev Cert.ReferenceInDwIdeal.nD → PrngReg), Pre_ReferenceInDwIdeal m →
    θ_run (Cert.ReferenceInDwIdeal.defs (F := Ideal)) (onTc (τ := Cert.ReferenceInDwIdeal.τ) (Cert.ReferenceInDwIdeal.main (F := Ideal))) ⟨m, fun _ => 0, g⟩ (fun r => (∀ c : Dev Cert.ReferenceInDwIdeal.nD,
      r.2.mem ((c.tc : Thread Cert.ReferenceInDwIdeal.nD Cert.ReferenceInDwIdeal.τ).loc Cert.ReferenceInDwIdeal.main_arg0) = m ((c.tc : Thread Cert.ReferenceInDwIdeal.nD Cert.ReferenceInDwIdeal.τ).loc Cert.ReferenceInDwIdeal.main_arg0)
      ∧ r.2.mem ((c.tc : Thread Cert.ReferenceInDwIdeal.nD Cert.ReferenceInDwIdeal.τ).loc Cert.ReferenceInDwIdeal.main_arg1) = m ((c.tc : Thread Cert.ReferenceInDwIdeal.nD Cert.ReferenceInDwIdeal.τ).loc Cert.ReferenceInDwIdeal.main_arg1))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1))
      ∧ r.2.sem = fun _ => 0)

def quiescent_KernelUqDx [hKernelUqDx : Cert.KernelUqDx.Facts] : Prop :=
  ∀ (m : (ℓ : Loc Cert.KernelUqDx.nD Cert.KernelUqDx.τ Cert.KernelUqDx.sig) → Buf (Elt Bits) ℓ) (g : Dev Cert.KernelUqDx.nD → PrngReg), Pre_KernelUqDx m →
    θ_run (Cert.KernelUqDx.defs (F := Bits)) (onTc (τ := Cert.KernelUqDx.τ) (Cert.KernelUqDx.main (F := Bits))) ⟨m, fun _ => 0, g⟩ (fun r => (∀ c : Dev Cert.KernelUqDx.nD,
      r.2.mem ((c.tc : Thread Cert.KernelUqDx.nD Cert.KernelUqDx.τ).loc Cert.KernelUqDx.main_arg0) = m ((c.tc : Thread Cert.KernelUqDx.nD Cert.KernelUqDx.τ).loc Cert.KernelUqDx.main_arg0)
      ∧ r.2.mem ((c.tc : Thread Cert.KernelUqDx.nD Cert.KernelUqDx.τ).loc Cert.KernelUqDx.main_arg1) = m ((c.tc : Thread Cert.KernelUqDx.nD Cert.KernelUqDx.τ).loc Cert.KernelUqDx.main_arg1))
      ∧ r.2.sem = fun _ => 0)

def quiescent_KernelUqDxIdeal [hKernelUqDxIdeal : Cert.KernelUqDxIdeal.Facts] : Prop :=
  ∀ (m : (ℓ : Loc Cert.KernelUqDxIdeal.nD Cert.KernelUqDxIdeal.τ Cert.KernelUqDxIdeal.sig) → Buf (Elt Ideal) ℓ) (g : Dev Cert.KernelUqDxIdeal.nD → PrngReg), Pre_KernelUqDxIdeal m →
    θ_run (Cert.KernelUqDxIdeal.defs (F := Ideal)) (onTc (τ := Cert.KernelUqDxIdeal.τ) (Cert.KernelUqDxIdeal.main (F := Ideal))) ⟨m, fun _ => 0, g⟩ (fun r => (∀ c : Dev Cert.KernelUqDxIdeal.nD,
      r.2.mem ((c.tc : Thread Cert.KernelUqDxIdeal.nD Cert.KernelUqDxIdeal.τ).loc Cert.KernelUqDxIdeal.main_arg0) = m ((c.tc : Thread Cert.KernelUqDxIdeal.nD Cert.KernelUqDxIdeal.τ).loc Cert.KernelUqDxIdeal.main_arg0)
      ∧ r.2.mem ((c.tc : Thread Cert.KernelUqDxIdeal.nD Cert.KernelUqDxIdeal.τ).loc Cert.KernelUqDxIdeal.main_arg1) = m ((c.tc : Thread Cert.KernelUqDxIdeal.nD Cert.KernelUqDxIdeal.τ).loc Cert.KernelUqDxIdeal.main_arg1))
      ∧ r.2.sem = fun _ => 0)

def quiescent_ReferenceUqDxIdeal [hReferenceUqDxIdeal : Cert.ReferenceUqDxIdeal.Facts] : Prop :=
  ∀ (m : (ℓ : Loc Cert.ReferenceUqDxIdeal.nD Cert.ReferenceUqDxIdeal.τ Cert.ReferenceUqDxIdeal.sig) → Buf (Elt Ideal) ℓ) (g : Dev Cert.ReferenceUqDxIdeal.nD → PrngReg), Pre_ReferenceUqDxIdeal m →
    θ_run (Cert.ReferenceUqDxIdeal.defs (F := Ideal)) (onTc (τ := Cert.ReferenceUqDxIdeal.τ) (Cert.ReferenceUqDxIdeal.main (F := Ideal))) ⟨m, fun _ => 0, g⟩ (fun r => (∀ c : Dev Cert.ReferenceUqDxIdeal.nD,
      r.2.mem ((c.tc : Thread Cert.ReferenceUqDxIdeal.nD Cert.ReferenceUqDxIdeal.τ).loc Cert.ReferenceUqDxIdeal.main_arg0) = m ((c.tc : Thread Cert.ReferenceUqDxIdeal.nD Cert.ReferenceUqDxIdeal.τ).loc Cert.ReferenceUqDxIdeal.main_arg0)
      ∧ r.2.mem ((c.tc : Thread Cert.ReferenceUqDxIdeal.nD Cert.ReferenceUqDxIdeal.τ).loc Cert.ReferenceUqDxIdeal.main_arg1) = m ((c.tc : Thread Cert.ReferenceUqDxIdeal.nD Cert.ReferenceUqDxIdeal.τ).loc Cert.ReferenceUqDxIdeal.main_arg1))
      ∧ r.2.sem = fun _ => 0)

def quiescent_KernelUqDw [hKernelUqDw : Cert.KernelUqDw.Facts] : Prop :=
  ∀ (m : (ℓ : Loc Cert.KernelUqDw.nD Cert.KernelUqDw.τ Cert.KernelUqDw.sig) → Buf (Elt Bits) ℓ) (g : Dev Cert.KernelUqDw.nD → PrngReg), Pre_KernelUqDw m →
    θ_run (Cert.KernelUqDw.defs (F := Bits)) (onTc (τ := Cert.KernelUqDw.τ) (Cert.KernelUqDw.main (F := Bits))) ⟨m, fun _ => 0, g⟩ (fun r => (∀ c : Dev Cert.KernelUqDw.nD,
      r.2.mem ((c.tc : Thread Cert.KernelUqDw.nD Cert.KernelUqDw.τ).loc Cert.KernelUqDw.main_arg0) = m ((c.tc : Thread Cert.KernelUqDw.nD Cert.KernelUqDw.τ).loc Cert.KernelUqDw.main_arg0)
      ∧ r.2.mem ((c.tc : Thread Cert.KernelUqDw.nD Cert.KernelUqDw.τ).loc Cert.KernelUqDw.main_arg1) = m ((c.tc : Thread Cert.KernelUqDw.nD Cert.KernelUqDw.τ).loc Cert.KernelUqDw.main_arg1))
      ∧ r.2.sem = fun _ => 0)

def quiescent_KernelUqDwIdeal [hKernelUqDwIdeal : Cert.KernelUqDwIdeal.Facts] : Prop :=
  ∀ (m : (ℓ : Loc Cert.KernelUqDwIdeal.nD Cert.KernelUqDwIdeal.τ Cert.KernelUqDwIdeal.sig) → Buf (Elt Ideal) ℓ) (g : Dev Cert.KernelUqDwIdeal.nD → PrngReg), Pre_KernelUqDwIdeal m →
    θ_run (Cert.KernelUqDwIdeal.defs (F := Ideal)) (onTc (τ := Cert.KernelUqDwIdeal.τ) (Cert.KernelUqDwIdeal.main (F := Ideal))) ⟨m, fun _ => 0, g⟩ (fun r => (∀ c : Dev Cert.KernelUqDwIdeal.nD,
      r.2.mem ((c.tc : Thread Cert.KernelUqDwIdeal.nD Cert.KernelUqDwIdeal.τ).loc Cert.KernelUqDwIdeal.main_arg0) = m ((c.tc : Thread Cert.KernelUqDwIdeal.nD Cert.KernelUqDwIdeal.τ).loc Cert.KernelUqDwIdeal.main_arg0)
      ∧ r.2.mem ((c.tc : Thread Cert.KernelUqDwIdeal.nD Cert.KernelUqDwIdeal.τ).loc Cert.KernelUqDwIdeal.main_arg1) = m ((c.tc : Thread Cert.KernelUqDwIdeal.nD Cert.KernelUqDwIdeal.τ).loc Cert.KernelUqDwIdeal.main_arg1))
      ∧ r.2.sem = fun _ => 0)

def quiescent_ReferenceUqDwIdeal [hReferenceUqDwIdeal : Cert.ReferenceUqDwIdeal.Facts] : Prop :=
  ∀ (m : (ℓ : Loc Cert.ReferenceUqDwIdeal.nD Cert.ReferenceUqDwIdeal.τ Cert.ReferenceUqDwIdeal.sig) → Buf (Elt Ideal) ℓ) (g : Dev Cert.ReferenceUqDwIdeal.nD → PrngReg), Pre_ReferenceUqDwIdeal m →
    θ_run (Cert.ReferenceUqDwIdeal.defs (F := Ideal)) (onTc (τ := Cert.ReferenceUqDwIdeal.τ) (Cert.ReferenceUqDwIdeal.main (F := Ideal))) ⟨m, fun _ => 0, g⟩ (fun r => (∀ c : Dev Cert.ReferenceUqDwIdeal.nD,
      r.2.mem ((c.tc : Thread Cert.ReferenceUqDwIdeal.nD Cert.ReferenceUqDwIdeal.τ).loc Cert.ReferenceUqDwIdeal.main_arg0) = m ((c.tc : Thread Cert.ReferenceUqDwIdeal.nD Cert.ReferenceUqDwIdeal.τ).loc Cert.ReferenceUqDwIdeal.main_arg0)
      ∧ r.2.mem ((c.tc : Thread Cert.ReferenceUqDwIdeal.nD Cert.ReferenceUqDwIdeal.τ).loc Cert.ReferenceUqDwIdeal.main_arg1) = m ((c.tc : Thread Cert.ReferenceUqDwIdeal.nD Cert.ReferenceUqDwIdeal.τ).loc Cert.ReferenceUqDwIdeal.main_arg1))
      ∧ r.2.sem = fun _ => 0)

def quiescent_KernelUq [hKernelUq : Cert.KernelUq.Facts] : Prop :=
  ∀ (m : (ℓ : Loc Cert.KernelUq.nD Cert.KernelUq.τ Cert.KernelUq.sig) → Buf (Elt Bits) ℓ) (g : Dev Cert.KernelUq.nD → PrngReg), Pre_KernelUq m →
    θ_run (Cert.KernelUq.defs (F := Bits)) (onTc (τ := Cert.KernelUq.τ) (Cert.KernelUq.main (F := Bits))) ⟨m, fun _ => 0, g⟩ (fun r => (∀ c : Dev Cert.KernelUq.nD,
      r.2.mem ((c.tc : Thread Cert.KernelUq.nD Cert.KernelUq.τ).loc Cert.KernelUq.main_arg0) = m ((c.tc : Thread Cert.KernelUq.nD Cert.KernelUq.τ).loc Cert.KernelUq.main_arg0)
      ∧ r.2.mem ((c.tc : Thread Cert.KernelUq.nD Cert.KernelUq.τ).loc Cert.KernelUq.main_arg1) = m ((c.tc : Thread Cert.KernelUq.nD Cert.KernelUq.τ).loc Cert.KernelUq.main_arg1))
      ∧ r.2.sem = fun _ => 0)

def quiescent_KernelUqIdeal [hKernelUqIdeal : Cert.KernelUqIdeal.Facts] : Prop :=
  ∀ (m : (ℓ : Loc Cert.KernelUqIdeal.nD Cert.KernelUqIdeal.τ Cert.KernelUqIdeal.sig) → Buf (Elt Ideal) ℓ) (g : Dev Cert.KernelUqIdeal.nD → PrngReg), Pre_KernelUqIdeal m →
    θ_run (Cert.KernelUqIdeal.defs (F := Ideal)) (onTc (τ := Cert.KernelUqIdeal.τ) (Cert.KernelUqIdeal.main (F := Ideal))) ⟨m, fun _ => 0, g⟩ (fun r => (∀ c : Dev Cert.KernelUqIdeal.nD,
      r.2.mem ((c.tc : Thread Cert.KernelUqIdeal.nD Cert.KernelUqIdeal.τ).loc Cert.KernelUqIdeal.main_arg0) = m ((c.tc : Thread Cert.KernelUqIdeal.nD Cert.KernelUqIdeal.τ).loc Cert.KernelUqIdeal.main_arg0)
      ∧ r.2.mem ((c.tc : Thread Cert.KernelUqIdeal.nD Cert.KernelUqIdeal.τ).loc Cert.KernelUqIdeal.main_arg1) = m ((c.tc : Thread Cert.KernelUqIdeal.nD Cert.KernelUqIdeal.τ).loc Cert.KernelUqIdeal.main_arg1))
      ∧ r.2.sem = fun _ => 0)

def quiescent_ReferenceUqIdeal [hReferenceUqIdeal : Cert.ReferenceUqIdeal.Facts] : Prop :=
  ∀ (m : (ℓ : Loc Cert.ReferenceUqIdeal.nD Cert.ReferenceUqIdeal.τ Cert.ReferenceUqIdeal.sig) → Buf (Elt Ideal) ℓ) (g : Dev Cert.ReferenceUqIdeal.nD → PrngReg), Pre_ReferenceUqIdeal m →
    θ_run (Cert.ReferenceUqIdeal.defs (F := Ideal)) (onTc (τ := Cert.ReferenceUqIdeal.τ) (Cert.ReferenceUqIdeal.main (F := Ideal))) ⟨m, fun _ => 0, g⟩ (fun r => (∀ c : Dev Cert.ReferenceUqIdeal.nD,
      r.2.mem ((c.tc : Thread Cert.ReferenceUqIdeal.nD Cert.ReferenceUqIdeal.τ).loc Cert.ReferenceUqIdeal.main_arg0) = m ((c.tc : Thread Cert.ReferenceUqIdeal.nD Cert.ReferenceUqIdeal.τ).loc Cert.ReferenceUqIdeal.main_arg0)
      ∧ r.2.mem ((c.tc : Thread Cert.ReferenceUqIdeal.nD Cert.ReferenceUqIdeal.τ).loc Cert.ReferenceUqIdeal.main_arg1) = m ((c.tc : Thread Cert.ReferenceUqIdeal.nD Cert.ReferenceUqIdeal.τ).loc Cert.ReferenceUqIdeal.main_arg1))
      ∧ r.2.sem = fun _ => 0)

def quiescent_KernelUkvDx [hKernelUkvDx : Cert.KernelUkvDx.Facts] : Prop :=
  ∀ (m : (ℓ : Loc Cert.KernelUkvDx.nD Cert.KernelUkvDx.τ Cert.KernelUkvDx.sig) → Buf (Elt Bits) ℓ) (g : Dev Cert.KernelUkvDx.nD → PrngReg), Pre_KernelUkvDx m →
    θ_run (Cert.KernelUkvDx.defs (F := Bits)) (onTc (τ := Cert.KernelUkvDx.τ) (Cert.KernelUkvDx.main (F := Bits))) ⟨m, fun _ => 0, g⟩ (fun r => (∀ c : Dev Cert.KernelUkvDx.nD,
      r.2.mem ((c.tc : Thread Cert.KernelUkvDx.nD Cert.KernelUkvDx.τ).loc Cert.KernelUkvDx.main_arg0) = m ((c.tc : Thread Cert.KernelUkvDx.nD Cert.KernelUkvDx.τ).loc Cert.KernelUkvDx.main_arg0)
      ∧ r.2.mem ((c.tc : Thread Cert.KernelUkvDx.nD Cert.KernelUkvDx.τ).loc Cert.KernelUkvDx.main_arg1) = m ((c.tc : Thread Cert.KernelUkvDx.nD Cert.KernelUkvDx.τ).loc Cert.KernelUkvDx.main_arg1))
      ∧ r.2.sem = fun _ => 0)

def quiescent_KernelUkvDxIdeal [hKernelUkvDxIdeal : Cert.KernelUkvDxIdeal.Facts] : Prop :=
  ∀ (m : (ℓ : Loc Cert.KernelUkvDxIdeal.nD Cert.KernelUkvDxIdeal.τ Cert.KernelUkvDxIdeal.sig) → Buf (Elt Ideal) ℓ) (g : Dev Cert.KernelUkvDxIdeal.nD → PrngReg), Pre_KernelUkvDxIdeal m →
    θ_run (Cert.KernelUkvDxIdeal.defs (F := Ideal)) (onTc (τ := Cert.KernelUkvDxIdeal.τ) (Cert.KernelUkvDxIdeal.main (F := Ideal))) ⟨m, fun _ => 0, g⟩ (fun r => (∀ c : Dev Cert.KernelUkvDxIdeal.nD,
      r.2.mem ((c.tc : Thread Cert.KernelUkvDxIdeal.nD Cert.KernelUkvDxIdeal.τ).loc Cert.KernelUkvDxIdeal.main_arg0) = m ((c.tc : Thread Cert.KernelUkvDxIdeal.nD Cert.KernelUkvDxIdeal.τ).loc Cert.KernelUkvDxIdeal.main_arg0)
      ∧ r.2.mem ((c.tc : Thread Cert.KernelUkvDxIdeal.nD Cert.KernelUkvDxIdeal.τ).loc Cert.KernelUkvDxIdeal.main_arg1) = m ((c.tc : Thread Cert.KernelUkvDxIdeal.nD Cert.KernelUkvDxIdeal.τ).loc Cert.KernelUkvDxIdeal.main_arg1))
      ∧ r.2.sem = fun _ => 0)

def quiescent_ReferenceUkvDxIdeal [hReferenceUkvDxIdeal : Cert.ReferenceUkvDxIdeal.Facts] : Prop :=
  ∀ (m : (ℓ : Loc Cert.ReferenceUkvDxIdeal.nD Cert.ReferenceUkvDxIdeal.τ Cert.ReferenceUkvDxIdeal.sig) → Buf (Elt Ideal) ℓ) (g : Dev Cert.ReferenceUkvDxIdeal.nD → PrngReg), Pre_ReferenceUkvDxIdeal m →
    θ_run (Cert.ReferenceUkvDxIdeal.defs (F := Ideal)) (onTc (τ := Cert.ReferenceUkvDxIdeal.τ) (Cert.ReferenceUkvDxIdeal.main (F := Ideal))) ⟨m, fun _ => 0, g⟩ (fun r => (∀ c : Dev Cert.ReferenceUkvDxIdeal.nD,
      r.2.mem ((c.tc : Thread Cert.ReferenceUkvDxIdeal.nD Cert.ReferenceUkvDxIdeal.τ).loc Cert.ReferenceUkvDxIdeal.main_arg0) = m ((c.tc : Thread Cert.ReferenceUkvDxIdeal.nD Cert.ReferenceUkvDxIdeal.τ).loc Cert.ReferenceUkvDxIdeal.main_arg0)
      ∧ r.2.mem ((c.tc : Thread Cert.ReferenceUkvDxIdeal.nD Cert.ReferenceUkvDxIdeal.τ).loc Cert.ReferenceUkvDxIdeal.main_arg1) = m ((c.tc : Thread Cert.ReferenceUkvDxIdeal.nD Cert.ReferenceUkvDxIdeal.τ).loc Cert.ReferenceUkvDxIdeal.main_arg1))
      ∧ r.2.sem = fun _ => 0)

def quiescent_KernelUkvDw [hKernelUkvDw : Cert.KernelUkvDw.Facts] : Prop :=
  ∀ (m : (ℓ : Loc Cert.KernelUkvDw.nD Cert.KernelUkvDw.τ Cert.KernelUkvDw.sig) → Buf (Elt Bits) ℓ) (g : Dev Cert.KernelUkvDw.nD → PrngReg), Pre_KernelUkvDw m →
    θ_run (Cert.KernelUkvDw.defs (F := Bits)) (onTc (τ := Cert.KernelUkvDw.τ) (Cert.KernelUkvDw.main (F := Bits))) ⟨m, fun _ => 0, g⟩ (fun r => (∀ c : Dev Cert.KernelUkvDw.nD,
      r.2.mem ((c.tc : Thread Cert.KernelUkvDw.nD Cert.KernelUkvDw.τ).loc Cert.KernelUkvDw.main_arg0) = m ((c.tc : Thread Cert.KernelUkvDw.nD Cert.KernelUkvDw.τ).loc Cert.KernelUkvDw.main_arg0)
      ∧ r.2.mem ((c.tc : Thread Cert.KernelUkvDw.nD Cert.KernelUkvDw.τ).loc Cert.KernelUkvDw.main_arg1) = m ((c.tc : Thread Cert.KernelUkvDw.nD Cert.KernelUkvDw.τ).loc Cert.KernelUkvDw.main_arg1))
      ∧ r.2.sem = fun _ => 0)

def quiescent_KernelUkvDwIdeal [hKernelUkvDwIdeal : Cert.KernelUkvDwIdeal.Facts] : Prop :=
  ∀ (m : (ℓ : Loc Cert.KernelUkvDwIdeal.nD Cert.KernelUkvDwIdeal.τ Cert.KernelUkvDwIdeal.sig) → Buf (Elt Ideal) ℓ) (g : Dev Cert.KernelUkvDwIdeal.nD → PrngReg), Pre_KernelUkvDwIdeal m →
    θ_run (Cert.KernelUkvDwIdeal.defs (F := Ideal)) (onTc (τ := Cert.KernelUkvDwIdeal.τ) (Cert.KernelUkvDwIdeal.main (F := Ideal))) ⟨m, fun _ => 0, g⟩ (fun r => (∀ c : Dev Cert.KernelUkvDwIdeal.nD,
      r.2.mem ((c.tc : Thread Cert.KernelUkvDwIdeal.nD Cert.KernelUkvDwIdeal.τ).loc Cert.KernelUkvDwIdeal.main_arg0) = m ((c.tc : Thread Cert.KernelUkvDwIdeal.nD Cert.KernelUkvDwIdeal.τ).loc Cert.KernelUkvDwIdeal.main_arg0)
      ∧ r.2.mem ((c.tc : Thread Cert.KernelUkvDwIdeal.nD Cert.KernelUkvDwIdeal.τ).loc Cert.KernelUkvDwIdeal.main_arg1) = m ((c.tc : Thread Cert.KernelUkvDwIdeal.nD Cert.KernelUkvDwIdeal.τ).loc Cert.KernelUkvDwIdeal.main_arg1))
      ∧ r.2.sem = fun _ => 0)

def quiescent_ReferenceUkvDwIdeal [hReferenceUkvDwIdeal : Cert.ReferenceUkvDwIdeal.Facts] : Prop :=
  ∀ (m : (ℓ : Loc Cert.ReferenceUkvDwIdeal.nD Cert.ReferenceUkvDwIdeal.τ Cert.ReferenceUkvDwIdeal.sig) → Buf (Elt Ideal) ℓ) (g : Dev Cert.ReferenceUkvDwIdeal.nD → PrngReg), Pre_ReferenceUkvDwIdeal m →
    θ_run (Cert.ReferenceUkvDwIdeal.defs (F := Ideal)) (onTc (τ := Cert.ReferenceUkvDwIdeal.τ) (Cert.ReferenceUkvDwIdeal.main (F := Ideal))) ⟨m, fun _ => 0, g⟩ (fun r => (∀ c : Dev Cert.ReferenceUkvDwIdeal.nD,
      r.2.mem ((c.tc : Thread Cert.ReferenceUkvDwIdeal.nD Cert.ReferenceUkvDwIdeal.τ).loc Cert.ReferenceUkvDwIdeal.main_arg0) = m ((c.tc : Thread Cert.ReferenceUkvDwIdeal.nD Cert.ReferenceUkvDwIdeal.τ).loc Cert.ReferenceUkvDwIdeal.main_arg0)
      ∧ r.2.mem ((c.tc : Thread Cert.ReferenceUkvDwIdeal.nD Cert.ReferenceUkvDwIdeal.τ).loc Cert.ReferenceUkvDwIdeal.main_arg1) = m ((c.tc : Thread Cert.ReferenceUkvDwIdeal.nD Cert.ReferenceUkvDwIdeal.τ).loc Cert.ReferenceUkvDwIdeal.main_arg1))
      ∧ r.2.sem = fun _ => 0)

def quiescent_KernelUkv [hKernelUkv : Cert.KernelUkv.Facts] : Prop :=
  ∀ (m : (ℓ : Loc Cert.KernelUkv.nD Cert.KernelUkv.τ Cert.KernelUkv.sig) → Buf (Elt Bits) ℓ) (g : Dev Cert.KernelUkv.nD → PrngReg), Pre_KernelUkv m →
    θ_run (Cert.KernelUkv.defs (F := Bits)) (onTc (τ := Cert.KernelUkv.τ) (Cert.KernelUkv.main (F := Bits))) ⟨m, fun _ => 0, g⟩ (fun r => (∀ c : Dev Cert.KernelUkv.nD,
      r.2.mem ((c.tc : Thread Cert.KernelUkv.nD Cert.KernelUkv.τ).loc Cert.KernelUkv.main_arg0) = m ((c.tc : Thread Cert.KernelUkv.nD Cert.KernelUkv.τ).loc Cert.KernelUkv.main_arg0)
      ∧ r.2.mem ((c.tc : Thread Cert.KernelUkv.nD Cert.KernelUkv.τ).loc Cert.KernelUkv.main_arg1) = m ((c.tc : Thread Cert.KernelUkv.nD Cert.KernelUkv.τ).loc Cert.KernelUkv.main_arg1))
      ∧ r.2.sem = fun _ => 0)

def quiescent_KernelUkvIdeal [hKernelUkvIdeal : Cert.KernelUkvIdeal.Facts] : Prop :=
  ∀ (m : (ℓ : Loc Cert.KernelUkvIdeal.nD Cert.KernelUkvIdeal.τ Cert.KernelUkvIdeal.sig) → Buf (Elt Ideal) ℓ) (g : Dev Cert.KernelUkvIdeal.nD → PrngReg), Pre_KernelUkvIdeal m →
    θ_run (Cert.KernelUkvIdeal.defs (F := Ideal)) (onTc (τ := Cert.KernelUkvIdeal.τ) (Cert.KernelUkvIdeal.main (F := Ideal))) ⟨m, fun _ => 0, g⟩ (fun r => (∀ c : Dev Cert.KernelUkvIdeal.nD,
      r.2.mem ((c.tc : Thread Cert.KernelUkvIdeal.nD Cert.KernelUkvIdeal.τ).loc Cert.KernelUkvIdeal.main_arg0) = m ((c.tc : Thread Cert.KernelUkvIdeal.nD Cert.KernelUkvIdeal.τ).loc Cert.KernelUkvIdeal.main_arg0)
      ∧ r.2.mem ((c.tc : Thread Cert.KernelUkvIdeal.nD Cert.KernelUkvIdeal.τ).loc Cert.KernelUkvIdeal.main_arg1) = m ((c.tc : Thread Cert.KernelUkvIdeal.nD Cert.KernelUkvIdeal.τ).loc Cert.KernelUkvIdeal.main_arg1))
      ∧ r.2.sem = fun _ => 0)

def quiescent_ReferenceUkvIdeal [hReferenceUkvIdeal : Cert.ReferenceUkvIdeal.Facts] : Prop :=
  ∀ (m : (ℓ : Loc Cert.ReferenceUkvIdeal.nD Cert.ReferenceUkvIdeal.τ Cert.ReferenceUkvIdeal.sig) → Buf (Elt Ideal) ℓ) (g : Dev Cert.ReferenceUkvIdeal.nD → PrngReg), Pre_ReferenceUkvIdeal m →
    θ_run (Cert.ReferenceUkvIdeal.defs (F := Ideal)) (onTc (τ := Cert.ReferenceUkvIdeal.τ) (Cert.ReferenceUkvIdeal.main (F := Ideal))) ⟨m, fun _ => 0, g⟩ (fun r => (∀ c : Dev Cert.ReferenceUkvIdeal.nD,
      r.2.mem ((c.tc : Thread Cert.ReferenceUkvIdeal.nD Cert.ReferenceUkvIdeal.τ).loc Cert.ReferenceUkvIdeal.main_arg0) = m ((c.tc : Thread Cert.ReferenceUkvIdeal.nD Cert.ReferenceUkvIdeal.τ).loc Cert.ReferenceUkvIdeal.main_arg0)
      ∧ r.2.mem ((c.tc : Thread Cert.ReferenceUkvIdeal.nD Cert.ReferenceUkvIdeal.τ).loc Cert.ReferenceUkvIdeal.main_arg1) = m ((c.tc : Thread Cert.ReferenceUkvIdeal.nD Cert.ReferenceUkvIdeal.τ).loc Cert.ReferenceUkvIdeal.main_arg1))
      ∧ r.2.sem = fun _ => 0)

def quiescent_KernelGluDx [hKernelGluDx : Cert.KernelGluDx.Facts] : Prop :=
  ∀ (m : (ℓ : Loc Cert.KernelGluDx.nD Cert.KernelGluDx.τ Cert.KernelGluDx.sig) → Buf (Elt Bits) ℓ) (g : Dev Cert.KernelGluDx.nD → PrngReg), Pre_KernelGluDx m →
    θ_run (Cert.KernelGluDx.defs (F := Bits)) (onTc (τ := Cert.KernelGluDx.τ) (Cert.KernelGluDx.main (F := Bits))) ⟨m, fun _ => 0, g⟩ (fun r => (∀ c : Dev Cert.KernelGluDx.nD,
      r.2.mem ((c.tc : Thread Cert.KernelGluDx.nD Cert.KernelGluDx.τ).loc Cert.KernelGluDx.main_arg0) = m ((c.tc : Thread Cert.KernelGluDx.nD Cert.KernelGluDx.τ).loc Cert.KernelGluDx.main_arg0)
      ∧ r.2.mem ((c.tc : Thread Cert.KernelGluDx.nD Cert.KernelGluDx.τ).loc Cert.KernelGluDx.main_arg1) = m ((c.tc : Thread Cert.KernelGluDx.nD Cert.KernelGluDx.τ).loc Cert.KernelGluDx.main_arg1))
      ∧ r.2.sem = fun _ => 0)

def quiescent_KernelGluDxIdeal [hKernelGluDxIdeal : Cert.KernelGluDxIdeal.Facts] : Prop :=
  ∀ (m : (ℓ : Loc Cert.KernelGluDxIdeal.nD Cert.KernelGluDxIdeal.τ Cert.KernelGluDxIdeal.sig) → Buf (Elt Ideal) ℓ) (g : Dev Cert.KernelGluDxIdeal.nD → PrngReg), Pre_KernelGluDxIdeal m →
    θ_run (Cert.KernelGluDxIdeal.defs (F := Ideal)) (onTc (τ := Cert.KernelGluDxIdeal.τ) (Cert.KernelGluDxIdeal.main (F := Ideal))) ⟨m, fun _ => 0, g⟩ (fun r => (∀ c : Dev Cert.KernelGluDxIdeal.nD,
      r.2.mem ((c.tc : Thread Cert.KernelGluDxIdeal.nD Cert.KernelGluDxIdeal.τ).loc Cert.KernelGluDxIdeal.main_arg0) = m ((c.tc : Thread Cert.KernelGluDxIdeal.nD Cert.KernelGluDxIdeal.τ).loc Cert.KernelGluDxIdeal.main_arg0)
      ∧ r.2.mem ((c.tc : Thread Cert.KernelGluDxIdeal.nD Cert.KernelGluDxIdeal.τ).loc Cert.KernelGluDxIdeal.main_arg1) = m ((c.tc : Thread Cert.KernelGluDxIdeal.nD Cert.KernelGluDxIdeal.τ).loc Cert.KernelGluDxIdeal.main_arg1))
      ∧ r.2.sem = fun _ => 0)

def quiescent_ReferenceGluDxIdeal [hReferenceGluDxIdeal : Cert.ReferenceGluDxIdeal.Facts] : Prop :=
  ∀ (m : (ℓ : Loc Cert.ReferenceGluDxIdeal.nD Cert.ReferenceGluDxIdeal.τ Cert.ReferenceGluDxIdeal.sig) → Buf (Elt Ideal) ℓ) (g : Dev Cert.ReferenceGluDxIdeal.nD → PrngReg), Pre_ReferenceGluDxIdeal m →
    θ_run (Cert.ReferenceGluDxIdeal.defs (F := Ideal)) (onTc (τ := Cert.ReferenceGluDxIdeal.τ) (Cert.ReferenceGluDxIdeal.main (F := Ideal))) ⟨m, fun _ => 0, g⟩ (fun r => (∀ c : Dev Cert.ReferenceGluDxIdeal.nD,
      r.2.mem ((c.tc : Thread Cert.ReferenceGluDxIdeal.nD Cert.ReferenceGluDxIdeal.τ).loc Cert.ReferenceGluDxIdeal.main_arg0) = m ((c.tc : Thread Cert.ReferenceGluDxIdeal.nD Cert.ReferenceGluDxIdeal.τ).loc Cert.ReferenceGluDxIdeal.main_arg0)
      ∧ r.2.mem ((c.tc : Thread Cert.ReferenceGluDxIdeal.nD Cert.ReferenceGluDxIdeal.τ).loc Cert.ReferenceGluDxIdeal.main_arg1) = m ((c.tc : Thread Cert.ReferenceGluDxIdeal.nD Cert.ReferenceGluDxIdeal.τ).loc Cert.ReferenceGluDxIdeal.main_arg1))
      ∧ r.2.sem = fun _ => 0)

def quiescent_KernelGluDw [hKernelGluDw : Cert.KernelGluDw.Facts] : Prop :=
  ∀ (m : (ℓ : Loc Cert.KernelGluDw.nD Cert.KernelGluDw.τ Cert.KernelGluDw.sig) → Buf (Elt Bits) ℓ) (g : Dev Cert.KernelGluDw.nD → PrngReg), Pre_KernelGluDw m →
    θ_run (Cert.KernelGluDw.defs (F := Bits)) (onTc (τ := Cert.KernelGluDw.τ) (Cert.KernelGluDw.main (F := Bits))) ⟨m, fun _ => 0, g⟩ (fun r => (∀ c : Dev Cert.KernelGluDw.nD,
      r.2.mem ((c.tc : Thread Cert.KernelGluDw.nD Cert.KernelGluDw.τ).loc Cert.KernelGluDw.main_arg0) = m ((c.tc : Thread Cert.KernelGluDw.nD Cert.KernelGluDw.τ).loc Cert.KernelGluDw.main_arg0)
      ∧ r.2.mem ((c.tc : Thread Cert.KernelGluDw.nD Cert.KernelGluDw.τ).loc Cert.KernelGluDw.main_arg1) = m ((c.tc : Thread Cert.KernelGluDw.nD Cert.KernelGluDw.τ).loc Cert.KernelGluDw.main_arg1))
      ∧ r.2.sem = fun _ => 0)

def quiescent_KernelGluDwIdeal [hKernelGluDwIdeal : Cert.KernelGluDwIdeal.Facts] : Prop :=
  ∀ (m : (ℓ : Loc Cert.KernelGluDwIdeal.nD Cert.KernelGluDwIdeal.τ Cert.KernelGluDwIdeal.sig) → Buf (Elt Ideal) ℓ) (g : Dev Cert.KernelGluDwIdeal.nD → PrngReg), Pre_KernelGluDwIdeal m →
    θ_run (Cert.KernelGluDwIdeal.defs (F := Ideal)) (onTc (τ := Cert.KernelGluDwIdeal.τ) (Cert.KernelGluDwIdeal.main (F := Ideal))) ⟨m, fun _ => 0, g⟩ (fun r => (∀ c : Dev Cert.KernelGluDwIdeal.nD,
      r.2.mem ((c.tc : Thread Cert.KernelGluDwIdeal.nD Cert.KernelGluDwIdeal.τ).loc Cert.KernelGluDwIdeal.main_arg0) = m ((c.tc : Thread Cert.KernelGluDwIdeal.nD Cert.KernelGluDwIdeal.τ).loc Cert.KernelGluDwIdeal.main_arg0)
      ∧ r.2.mem ((c.tc : Thread Cert.KernelGluDwIdeal.nD Cert.KernelGluDwIdeal.τ).loc Cert.KernelGluDwIdeal.main_arg1) = m ((c.tc : Thread Cert.KernelGluDwIdeal.nD Cert.KernelGluDwIdeal.τ).loc Cert.KernelGluDwIdeal.main_arg1))
      ∧ r.2.sem = fun _ => 0)

def quiescent_ReferenceGluDwIdeal [hReferenceGluDwIdeal : Cert.ReferenceGluDwIdeal.Facts] : Prop :=
  ∀ (m : (ℓ : Loc Cert.ReferenceGluDwIdeal.nD Cert.ReferenceGluDwIdeal.τ Cert.ReferenceGluDwIdeal.sig) → Buf (Elt Ideal) ℓ) (g : Dev Cert.ReferenceGluDwIdeal.nD → PrngReg), Pre_ReferenceGluDwIdeal m →
    θ_run (Cert.ReferenceGluDwIdeal.defs (F := Ideal)) (onTc (τ := Cert.ReferenceGluDwIdeal.τ) (Cert.ReferenceGluDwIdeal.main (F := Ideal))) ⟨m, fun _ => 0, g⟩ (fun r => (∀ c : Dev Cert.ReferenceGluDwIdeal.nD,
      r.2.mem ((c.tc : Thread Cert.ReferenceGluDwIdeal.nD Cert.ReferenceGluDwIdeal.τ).loc Cert.ReferenceGluDwIdeal.main_arg0) = m ((c.tc : Thread Cert.ReferenceGluDwIdeal.nD Cert.ReferenceGluDwIdeal.τ).loc Cert.ReferenceGluDwIdeal.main_arg0)
      ∧ r.2.mem ((c.tc : Thread Cert.ReferenceGluDwIdeal.nD Cert.ReferenceGluDwIdeal.τ).loc Cert.ReferenceGluDwIdeal.main_arg1) = m ((c.tc : Thread Cert.ReferenceGluDwIdeal.nD Cert.ReferenceGluDwIdeal.τ).loc Cert.ReferenceGluDwIdeal.main_arg1))
      ∧ r.2.sem = fun _ => 0)

def quiescent_KernelGlu [hKernelGlu : Cert.KernelGlu.Facts] : Prop :=
  ∀ (m : (ℓ : Loc Cert.KernelGlu.nD Cert.KernelGlu.τ Cert.KernelGlu.sig) → Buf (Elt Bits) ℓ) (g : Dev Cert.KernelGlu.nD → PrngReg), Pre_KernelGlu m →
    θ_run (Cert.KernelGlu.defs (F := Bits)) (onTc (τ := Cert.KernelGlu.τ) (Cert.KernelGlu.main (F := Bits))) ⟨m, fun _ => 0, g⟩ (fun r => (∀ c : Dev Cert.KernelGlu.nD,
      r.2.mem ((c.tc : Thread Cert.KernelGlu.nD Cert.KernelGlu.τ).loc Cert.KernelGlu.main_arg0) = m ((c.tc : Thread Cert.KernelGlu.nD Cert.KernelGlu.τ).loc Cert.KernelGlu.main_arg0)
      ∧ r.2.mem ((c.tc : Thread Cert.KernelGlu.nD Cert.KernelGlu.τ).loc Cert.KernelGlu.main_arg1) = m ((c.tc : Thread Cert.KernelGlu.nD Cert.KernelGlu.τ).loc Cert.KernelGlu.main_arg1))
      ∧ r.2.sem = fun _ => 0)

def quiescent_KernelGluIdeal [hKernelGluIdeal : Cert.KernelGluIdeal.Facts] : Prop :=
  ∀ (m : (ℓ : Loc Cert.KernelGluIdeal.nD Cert.KernelGluIdeal.τ Cert.KernelGluIdeal.sig) → Buf (Elt Ideal) ℓ) (g : Dev Cert.KernelGluIdeal.nD → PrngReg), Pre_KernelGluIdeal m →
    θ_run (Cert.KernelGluIdeal.defs (F := Ideal)) (onTc (τ := Cert.KernelGluIdeal.τ) (Cert.KernelGluIdeal.main (F := Ideal))) ⟨m, fun _ => 0, g⟩ (fun r => (∀ c : Dev Cert.KernelGluIdeal.nD,
      r.2.mem ((c.tc : Thread Cert.KernelGluIdeal.nD Cert.KernelGluIdeal.τ).loc Cert.KernelGluIdeal.main_arg0) = m ((c.tc : Thread Cert.KernelGluIdeal.nD Cert.KernelGluIdeal.τ).loc Cert.KernelGluIdeal.main_arg0)
      ∧ r.2.mem ((c.tc : Thread Cert.KernelGluIdeal.nD Cert.KernelGluIdeal.τ).loc Cert.KernelGluIdeal.main_arg1) = m ((c.tc : Thread Cert.KernelGluIdeal.nD Cert.KernelGluIdeal.τ).loc Cert.KernelGluIdeal.main_arg1))
      ∧ r.2.sem = fun _ => 0)

def quiescent_ReferenceGluIdeal [hReferenceGluIdeal : Cert.ReferenceGluIdeal.Facts] : Prop :=
  ∀ (m : (ℓ : Loc Cert.ReferenceGluIdeal.nD Cert.ReferenceGluIdeal.τ Cert.ReferenceGluIdeal.sig) → Buf (Elt Ideal) ℓ) (g : Dev Cert.ReferenceGluIdeal.nD → PrngReg), Pre_ReferenceGluIdeal m →
    θ_run (Cert.ReferenceGluIdeal.defs (F := Ideal)) (onTc (τ := Cert.ReferenceGluIdeal.τ) (Cert.ReferenceGluIdeal.main (F := Ideal))) ⟨m, fun _ => 0, g⟩ (fun r => (∀ c : Dev Cert.ReferenceGluIdeal.nD,
      r.2.mem ((c.tc : Thread Cert.ReferenceGluIdeal.nD Cert.ReferenceGluIdeal.τ).loc Cert.ReferenceGluIdeal.main_arg0) = m ((c.tc : Thread Cert.ReferenceGluIdeal.nD Cert.ReferenceGluIdeal.τ).loc Cert.ReferenceGluIdeal.main_arg0)
      ∧ r.2.mem ((c.tc : Thread Cert.ReferenceGluIdeal.nD Cert.ReferenceGluIdeal.τ).loc Cert.ReferenceGluIdeal.main_arg1) = m ((c.tc : Thread Cert.ReferenceGluIdeal.nD Cert.ReferenceGluIdeal.τ).loc Cert.ReferenceGluIdeal.main_arg1))
      ∧ r.2.sem = fun _ => 0)

def quiescent_KernelScanDx [hKernelScanDx : Cert.KernelScanDx.Facts] : Prop :=
  ∀ (m : (ℓ : Loc Cert.KernelScanDx.nD Cert.KernelScanDx.τ Cert.KernelScanDx.sig) → Buf (Elt Bits) ℓ) (g : Dev Cert.KernelScanDx.nD → PrngReg), Pre_KernelScanDx m →
    θ_run (Cert.KernelScanDx.defs (F := Bits)) (onTc (τ := Cert.KernelScanDx.τ) (Cert.KernelScanDx.main (F := Bits))) ⟨m, fun _ => 0, g⟩ (fun r => (∀ c : Dev Cert.KernelScanDx.nD,
      r.2.mem ((c.tc : Thread Cert.KernelScanDx.nD Cert.KernelScanDx.τ).loc Cert.KernelScanDx.main_arg0) = m ((c.tc : Thread Cert.KernelScanDx.nD Cert.KernelScanDx.τ).loc Cert.KernelScanDx.main_arg0)
      ∧ r.2.mem ((c.tc : Thread Cert.KernelScanDx.nD Cert.KernelScanDx.τ).loc Cert.KernelScanDx.main_arg1) = m ((c.tc : Thread Cert.KernelScanDx.nD Cert.KernelScanDx.τ).loc Cert.KernelScanDx.main_arg1))
      ∧ r.2.sem = fun _ => 0)

def quiescent_KernelScanDxIdeal [hKernelScanDxIdeal : Cert.KernelScanDxIdeal.Facts] : Prop :=
  ∀ (m : (ℓ : Loc Cert.KernelScanDxIdeal.nD Cert.KernelScanDxIdeal.τ Cert.KernelScanDxIdeal.sig) → Buf (Elt Ideal) ℓ) (g : Dev Cert.KernelScanDxIdeal.nD → PrngReg), Pre_KernelScanDxIdeal m →
    θ_run (Cert.KernelScanDxIdeal.defs (F := Ideal)) (onTc (τ := Cert.KernelScanDxIdeal.τ) (Cert.KernelScanDxIdeal.main (F := Ideal))) ⟨m, fun _ => 0, g⟩ (fun r => (∀ c : Dev Cert.KernelScanDxIdeal.nD,
      r.2.mem ((c.tc : Thread Cert.KernelScanDxIdeal.nD Cert.KernelScanDxIdeal.τ).loc Cert.KernelScanDxIdeal.main_arg0) = m ((c.tc : Thread Cert.KernelScanDxIdeal.nD Cert.KernelScanDxIdeal.τ).loc Cert.KernelScanDxIdeal.main_arg0)
      ∧ r.2.mem ((c.tc : Thread Cert.KernelScanDxIdeal.nD Cert.KernelScanDxIdeal.τ).loc Cert.KernelScanDxIdeal.main_arg1) = m ((c.tc : Thread Cert.KernelScanDxIdeal.nD Cert.KernelScanDxIdeal.τ).loc Cert.KernelScanDxIdeal.main_arg1))
      ∧ r.2.sem = fun _ => 0)

def quiescent_ReferenceScanDxIdeal [hReferenceScanDxIdeal : Cert.ReferenceScanDxIdeal.Facts] : Prop :=
  ∀ (m : (ℓ : Loc Cert.ReferenceScanDxIdeal.nD Cert.ReferenceScanDxIdeal.τ Cert.ReferenceScanDxIdeal.sig) → Buf (Elt Ideal) ℓ) (g : Dev Cert.ReferenceScanDxIdeal.nD → PrngReg), Pre_ReferenceScanDxIdeal m →
    θ_run (Cert.ReferenceScanDxIdeal.defs (F := Ideal)) (onTc (τ := Cert.ReferenceScanDxIdeal.τ) (Cert.ReferenceScanDxIdeal.main (F := Ideal))) ⟨m, fun _ => 0, g⟩ (fun r => (∀ c : Dev Cert.ReferenceScanDxIdeal.nD,
      r.2.mem ((c.tc : Thread Cert.ReferenceScanDxIdeal.nD Cert.ReferenceScanDxIdeal.τ).loc Cert.ReferenceScanDxIdeal.main_arg0) = m ((c.tc : Thread Cert.ReferenceScanDxIdeal.nD Cert.ReferenceScanDxIdeal.τ).loc Cert.ReferenceScanDxIdeal.main_arg0)
      ∧ r.2.mem ((c.tc : Thread Cert.ReferenceScanDxIdeal.nD Cert.ReferenceScanDxIdeal.τ).loc Cert.ReferenceScanDxIdeal.main_arg1) = m ((c.tc : Thread Cert.ReferenceScanDxIdeal.nD Cert.ReferenceScanDxIdeal.τ).loc Cert.ReferenceScanDxIdeal.main_arg1))
      ∧ r.2.sem = fun _ => 0)

def quiescent_KernelScanDw [hKernelScanDw : Cert.KernelScanDw.Facts] : Prop :=
  ∀ (m : (ℓ : Loc Cert.KernelScanDw.nD Cert.KernelScanDw.τ Cert.KernelScanDw.sig) → Buf (Elt Bits) ℓ) (g : Dev Cert.KernelScanDw.nD → PrngReg), Pre_KernelScanDw m →
    θ_run (Cert.KernelScanDw.defs (F := Bits)) (onTc (τ := Cert.KernelScanDw.τ) (Cert.KernelScanDw.main (F := Bits))) ⟨m, fun _ => 0, g⟩ (fun r => (∀ c : Dev Cert.KernelScanDw.nD,
      r.2.mem ((c.tc : Thread Cert.KernelScanDw.nD Cert.KernelScanDw.τ).loc Cert.KernelScanDw.main_arg0) = m ((c.tc : Thread Cert.KernelScanDw.nD Cert.KernelScanDw.τ).loc Cert.KernelScanDw.main_arg0)
      ∧ r.2.mem ((c.tc : Thread Cert.KernelScanDw.nD Cert.KernelScanDw.τ).loc Cert.KernelScanDw.main_arg1) = m ((c.tc : Thread Cert.KernelScanDw.nD Cert.KernelScanDw.τ).loc Cert.KernelScanDw.main_arg1))
      ∧ r.2.sem = fun _ => 0)

def quiescent_KernelScanDwIdeal [hKernelScanDwIdeal : Cert.KernelScanDwIdeal.Facts] : Prop :=
  ∀ (m : (ℓ : Loc Cert.KernelScanDwIdeal.nD Cert.KernelScanDwIdeal.τ Cert.KernelScanDwIdeal.sig) → Buf (Elt Ideal) ℓ) (g : Dev Cert.KernelScanDwIdeal.nD → PrngReg), Pre_KernelScanDwIdeal m →
    θ_run (Cert.KernelScanDwIdeal.defs (F := Ideal)) (onTc (τ := Cert.KernelScanDwIdeal.τ) (Cert.KernelScanDwIdeal.main (F := Ideal))) ⟨m, fun _ => 0, g⟩ (fun r => (∀ c : Dev Cert.KernelScanDwIdeal.nD,
      r.2.mem ((c.tc : Thread Cert.KernelScanDwIdeal.nD Cert.KernelScanDwIdeal.τ).loc Cert.KernelScanDwIdeal.main_arg0) = m ((c.tc : Thread Cert.KernelScanDwIdeal.nD Cert.KernelScanDwIdeal.τ).loc Cert.KernelScanDwIdeal.main_arg0)
      ∧ r.2.mem ((c.tc : Thread Cert.KernelScanDwIdeal.nD Cert.KernelScanDwIdeal.τ).loc Cert.KernelScanDwIdeal.main_arg1) = m ((c.tc : Thread Cert.KernelScanDwIdeal.nD Cert.KernelScanDwIdeal.τ).loc Cert.KernelScanDwIdeal.main_arg1))
      ∧ r.2.sem = fun _ => 0)

def quiescent_ReferenceScanDwIdeal [hReferenceScanDwIdeal : Cert.ReferenceScanDwIdeal.Facts] : Prop :=
  ∀ (m : (ℓ : Loc Cert.ReferenceScanDwIdeal.nD Cert.ReferenceScanDwIdeal.τ Cert.ReferenceScanDwIdeal.sig) → Buf (Elt Ideal) ℓ) (g : Dev Cert.ReferenceScanDwIdeal.nD → PrngReg), Pre_ReferenceScanDwIdeal m →
    θ_run (Cert.ReferenceScanDwIdeal.defs (F := Ideal)) (onTc (τ := Cert.ReferenceScanDwIdeal.τ) (Cert.ReferenceScanDwIdeal.main (F := Ideal))) ⟨m, fun _ => 0, g⟩ (fun r => (∀ c : Dev Cert.ReferenceScanDwIdeal.nD,
      r.2.mem ((c.tc : Thread Cert.ReferenceScanDwIdeal.nD Cert.ReferenceScanDwIdeal.τ).loc Cert.ReferenceScanDwIdeal.main_arg0) = m ((c.tc : Thread Cert.ReferenceScanDwIdeal.nD Cert.ReferenceScanDwIdeal.τ).loc Cert.ReferenceScanDwIdeal.main_arg0)
      ∧ r.2.mem ((c.tc : Thread Cert.ReferenceScanDwIdeal.nD Cert.ReferenceScanDwIdeal.τ).loc Cert.ReferenceScanDwIdeal.main_arg1) = m ((c.tc : Thread Cert.ReferenceScanDwIdeal.nD Cert.ReferenceScanDwIdeal.τ).loc Cert.ReferenceScanDwIdeal.main_arg1))
      ∧ r.2.sem = fun _ => 0)

def quiescent_KernelScan [hKernelScan : Cert.KernelScan.Facts] : Prop :=
  ∀ (m : (ℓ : Loc Cert.KernelScan.nD Cert.KernelScan.τ Cert.KernelScan.sig) → Buf (Elt Bits) ℓ) (g : Dev Cert.KernelScan.nD → PrngReg), Pre_KernelScan m →
    θ_run (Cert.KernelScan.defs (F := Bits)) (onTc (τ := Cert.KernelScan.τ) (Cert.KernelScan.main (F := Bits))) ⟨m, fun _ => 0, g⟩ (fun r => (∀ c : Dev Cert.KernelScan.nD,
      r.2.mem ((c.tc : Thread Cert.KernelScan.nD Cert.KernelScan.τ).loc Cert.KernelScan.main_arg0) = m ((c.tc : Thread Cert.KernelScan.nD Cert.KernelScan.τ).loc Cert.KernelScan.main_arg0)
      ∧ r.2.mem ((c.tc : Thread Cert.KernelScan.nD Cert.KernelScan.τ).loc Cert.KernelScan.main_arg1) = m ((c.tc : Thread Cert.KernelScan.nD Cert.KernelScan.τ).loc Cert.KernelScan.main_arg1))
      ∧ r.2.sem = fun _ => 0)

def quiescent_KernelScanIdeal [hKernelScanIdeal : Cert.KernelScanIdeal.Facts] : Prop :=
  ∀ (m : (ℓ : Loc Cert.KernelScanIdeal.nD Cert.KernelScanIdeal.τ Cert.KernelScanIdeal.sig) → Buf (Elt Ideal) ℓ) (g : Dev Cert.KernelScanIdeal.nD → PrngReg), Pre_KernelScanIdeal m →
    θ_run (Cert.KernelScanIdeal.defs (F := Ideal)) (onTc (τ := Cert.KernelScanIdeal.τ) (Cert.KernelScanIdeal.main (F := Ideal))) ⟨m, fun _ => 0, g⟩ (fun r => (∀ c : Dev Cert.KernelScanIdeal.nD,
      r.2.mem ((c.tc : Thread Cert.KernelScanIdeal.nD Cert.KernelScanIdeal.τ).loc Cert.KernelScanIdeal.main_arg0) = m ((c.tc : Thread Cert.KernelScanIdeal.nD Cert.KernelScanIdeal.τ).loc Cert.KernelScanIdeal.main_arg0)
      ∧ r.2.mem ((c.tc : Thread Cert.KernelScanIdeal.nD Cert.KernelScanIdeal.τ).loc Cert.KernelScanIdeal.main_arg1) = m ((c.tc : Thread Cert.KernelScanIdeal.nD Cert.KernelScanIdeal.τ).loc Cert.KernelScanIdeal.main_arg1))
      ∧ r.2.sem = fun _ => 0)

def quiescent_ReferenceScanIdeal [hReferenceScanIdeal : Cert.ReferenceScanIdeal.Facts] : Prop :=
  ∀ (m : (ℓ : Loc Cert.ReferenceScanIdeal.nD Cert.ReferenceScanIdeal.τ Cert.ReferenceScanIdeal.sig) → Buf (Elt Ideal) ℓ) (g : Dev Cert.ReferenceScanIdeal.nD → PrngReg), Pre_ReferenceScanIdeal m →
    θ_run (Cert.ReferenceScanIdeal.defs (F := Ideal)) (onTc (τ := Cert.ReferenceScanIdeal.τ) (Cert.ReferenceScanIdeal.main (F := Ideal))) ⟨m, fun _ => 0, g⟩ (fun r => (∀ c : Dev Cert.ReferenceScanIdeal.nD,
      r.2.mem ((c.tc : Thread Cert.ReferenceScanIdeal.nD Cert.ReferenceScanIdeal.τ).loc Cert.ReferenceScanIdeal.main_arg0) = m ((c.tc : Thread Cert.ReferenceScanIdeal.nD Cert.ReferenceScanIdeal.τ).loc Cert.ReferenceScanIdeal.main_arg0)
      ∧ r.2.mem ((c.tc : Thread Cert.ReferenceScanIdeal.nD Cert.ReferenceScanIdeal.τ).loc Cert.ReferenceScanIdeal.main_arg1) = m ((c.tc : Thread Cert.ReferenceScanIdeal.nD Cert.ReferenceScanIdeal.τ).loc Cert.ReferenceScanIdeal.main_arg1))
      ∧ r.2.sem = fun _ => 0)

def quiescent_KernelAttn [hKernelAttn : Cert.KernelAttn.Facts] : Prop :=
  ∀ (m : (ℓ : Loc Cert.KernelAttn.nD Cert.KernelAttn.τ Cert.KernelAttn.sig) → Buf (Elt Bits) ℓ) (g : Dev Cert.KernelAttn.nD → PrngReg), Pre_KernelAttn m →
    θ_run (Cert.KernelAttn.defs (F := Bits)) (onTc (τ := Cert.KernelAttn.τ) (Cert.KernelAttn.main (F := Bits))) ⟨m, fun _ => 0, g⟩ (fun r => (∀ c : Dev Cert.KernelAttn.nD,
      r.2.mem ((c.tc : Thread Cert.KernelAttn.nD Cert.KernelAttn.τ).loc Cert.KernelAttn.main_arg0) = m ((c.tc : Thread Cert.KernelAttn.nD Cert.KernelAttn.τ).loc Cert.KernelAttn.main_arg0)
      ∧ r.2.mem ((c.tc : Thread Cert.KernelAttn.nD Cert.KernelAttn.τ).loc Cert.KernelAttn.main_arg1) = m ((c.tc : Thread Cert.KernelAttn.nD Cert.KernelAttn.τ).loc Cert.KernelAttn.main_arg1)
      ∧ r.2.mem ((c.tc : Thread Cert.KernelAttn.nD Cert.KernelAttn.τ).loc Cert.KernelAttn.main_arg2) = m ((c.tc : Thread Cert.KernelAttn.nD Cert.KernelAttn.τ).loc Cert.KernelAttn.main_arg2))
      ∧ r.2.sem = fun _ => 0)

def quiescent_KernelAttnIdeal [hKernelAttnIdeal : Cert.KernelAttnIdeal.Facts] : Prop :=
  ∀ (m : (ℓ : Loc Cert.KernelAttnIdeal.nD Cert.KernelAttnIdeal.τ Cert.KernelAttnIdeal.sig) → Buf (Elt Ideal) ℓ) (g : Dev Cert.KernelAttnIdeal.nD → PrngReg), Pre_KernelAttnIdeal m →
    θ_run (Cert.KernelAttnIdeal.defs (F := Ideal)) (onTc (τ := Cert.KernelAttnIdeal.τ) (Cert.KernelAttnIdeal.main (F := Ideal))) ⟨m, fun _ => 0, g⟩ (fun r => (∀ c : Dev Cert.KernelAttnIdeal.nD,
      r.2.mem ((c.tc : Thread Cert.KernelAttnIdeal.nD Cert.KernelAttnIdeal.τ).loc Cert.KernelAttnIdeal.main_arg0) = m ((c.tc : Thread Cert.KernelAttnIdeal.nD Cert.KernelAttnIdeal.τ).loc Cert.KernelAttnIdeal.main_arg0)
      ∧ r.2.mem ((c.tc : Thread Cert.KernelAttnIdeal.nD Cert.KernelAttnIdeal.τ).loc Cert.KernelAttnIdeal.main_arg1) = m ((c.tc : Thread Cert.KernelAttnIdeal.nD Cert.KernelAttnIdeal.τ).loc Cert.KernelAttnIdeal.main_arg1)
      ∧ r.2.mem ((c.tc : Thread Cert.KernelAttnIdeal.nD Cert.KernelAttnIdeal.τ).loc Cert.KernelAttnIdeal.main_arg2) = m ((c.tc : Thread Cert.KernelAttnIdeal.nD Cert.KernelAttnIdeal.τ).loc Cert.KernelAttnIdeal.main_arg2))
      ∧ r.2.sem = fun _ => 0)

def quiescent_KernelAttnIdeal_pre_finite_scores [hKernelAttnIdeal : Cert.KernelAttnIdeal.Facts] [hPre_finite_scores : Cert.Pre_finite_scores.Facts] : Prop :=
  ∀ (m : (ℓ : Loc Cert.KernelAttnIdeal.nD Cert.KernelAttnIdeal.τ Cert.KernelAttnIdeal.sig) → Buf (Elt Ideal) ℓ) (g : Dev Cert.KernelAttnIdeal.nD → PrngReg), Pre_KernelAttnIdeal_finite_scores m →
    θ_run (Cert.KernelAttnIdeal.defs (F := Ideal)) (onTc (τ := Cert.KernelAttnIdeal.τ) (Cert.KernelAttnIdeal.main (F := Ideal))) ⟨m, fun _ => 0, g⟩ (fun r => (∀ c : Dev Cert.KernelAttnIdeal.nD,
      r.2.mem ((c.tc : Thread Cert.KernelAttnIdeal.nD Cert.KernelAttnIdeal.τ).loc Cert.KernelAttnIdeal.main_arg0) = m ((c.tc : Thread Cert.KernelAttnIdeal.nD Cert.KernelAttnIdeal.τ).loc Cert.KernelAttnIdeal.main_arg0)
      ∧ r.2.mem ((c.tc : Thread Cert.KernelAttnIdeal.nD Cert.KernelAttnIdeal.τ).loc Cert.KernelAttnIdeal.main_arg1) = m ((c.tc : Thread Cert.KernelAttnIdeal.nD Cert.KernelAttnIdeal.τ).loc Cert.KernelAttnIdeal.main_arg1)
      ∧ r.2.mem ((c.tc : Thread Cert.KernelAttnIdeal.nD Cert.KernelAttnIdeal.τ).loc Cert.KernelAttnIdeal.main_arg2) = m ((c.tc : Thread Cert.KernelAttnIdeal.nD Cert.KernelAttnIdeal.τ).loc Cert.KernelAttnIdeal.main_arg2))
      ∧ r.2.sem = fun _ => 0)

def quiescent_ReferenceAttnIdeal [hReferenceAttnIdeal : Cert.ReferenceAttnIdeal.Facts] : Prop :=
  ∀ (m : (ℓ : Loc Cert.ReferenceAttnIdeal.nD Cert.ReferenceAttnIdeal.τ Cert.ReferenceAttnIdeal.sig) → Buf (Elt Ideal) ℓ) (g : Dev Cert.ReferenceAttnIdeal.nD → PrngReg), Pre_ReferenceAttnIdeal m →
    θ_run (Cert.ReferenceAttnIdeal.defs (F := Ideal)) (onTc (τ := Cert.ReferenceAttnIdeal.τ) (Cert.ReferenceAttnIdeal.main (F := Ideal))) ⟨m, fun _ => 0, g⟩ (fun r => (∀ c : Dev Cert.ReferenceAttnIdeal.nD,
      r.2.mem ((c.tc : Thread Cert.ReferenceAttnIdeal.nD Cert.ReferenceAttnIdeal.τ).loc Cert.ReferenceAttnIdeal.main_arg0) = m ((c.tc : Thread Cert.ReferenceAttnIdeal.nD Cert.ReferenceAttnIdeal.τ).loc Cert.ReferenceAttnIdeal.main_arg0)
      ∧ r.2.mem ((c.tc : Thread Cert.ReferenceAttnIdeal.nD Cert.ReferenceAttnIdeal.τ).loc Cert.ReferenceAttnIdeal.main_arg1) = m ((c.tc : Thread Cert.ReferenceAttnIdeal.nD Cert.ReferenceAttnIdeal.τ).loc Cert.ReferenceAttnIdeal.main_arg1)
      ∧ r.2.mem ((c.tc : Thread Cert.ReferenceAttnIdeal.nD Cert.ReferenceAttnIdeal.τ).loc Cert.ReferenceAttnIdeal.main_arg2) = m ((c.tc : Thread Cert.ReferenceAttnIdeal.nD Cert.ReferenceAttnIdeal.τ).loc Cert.ReferenceAttnIdeal.main_arg2))
      ∧ r.2.sem = fun _ => 0)

def quiescent_ReferenceAttnIdeal_pre_finite_scores [hReferenceAttnIdeal : Cert.ReferenceAttnIdeal.Facts] [hPre_finite_scores : Cert.Pre_finite_scores.Facts] : Prop :=
  ∀ (m : (ℓ : Loc Cert.ReferenceAttnIdeal.nD Cert.ReferenceAttnIdeal.τ Cert.ReferenceAttnIdeal.sig) → Buf (Elt Ideal) ℓ) (g : Dev Cert.ReferenceAttnIdeal.nD → PrngReg), Pre_ReferenceAttnIdeal_finite_scores m →
    θ_run (Cert.ReferenceAttnIdeal.defs (F := Ideal)) (onTc (τ := Cert.ReferenceAttnIdeal.τ) (Cert.ReferenceAttnIdeal.main (F := Ideal))) ⟨m, fun _ => 0, g⟩ (fun r => (∀ c : Dev Cert.ReferenceAttnIdeal.nD,
      r.2.mem ((c.tc : Thread Cert.ReferenceAttnIdeal.nD Cert.ReferenceAttnIdeal.τ).loc Cert.ReferenceAttnIdeal.main_arg0) = m ((c.tc : Thread Cert.ReferenceAttnIdeal.nD Cert.ReferenceAttnIdeal.τ).loc Cert.ReferenceAttnIdeal.main_arg0)
      ∧ r.2.mem ((c.tc : Thread Cert.ReferenceAttnIdeal.nD Cert.ReferenceAttnIdeal.τ).loc Cert.ReferenceAttnIdeal.main_arg1) = m ((c.tc : Thread Cert.ReferenceAttnIdeal.nD Cert.ReferenceAttnIdeal.τ).loc Cert.ReferenceAttnIdeal.main_arg1)
      ∧ r.2.mem ((c.tc : Thread Cert.ReferenceAttnIdeal.nD Cert.ReferenceAttnIdeal.τ).loc Cert.ReferenceAttnIdeal.main_arg2) = m ((c.tc : Thread Cert.ReferenceAttnIdeal.nD Cert.ReferenceAttnIdeal.τ).loc Cert.ReferenceAttnIdeal.main_arg2))
      ∧ r.2.sem = fun _ => 0)

def quiescent_KernelNorm [hKernelNorm : Cert.KernelNorm.Facts] : Prop :=
  ∀ (m : (ℓ : Loc Cert.KernelNorm.nD Cert.KernelNorm.τ Cert.KernelNorm.sig) → Buf (Elt Bits) ℓ) (g : Dev Cert.KernelNorm.nD → PrngReg), Pre_KernelNorm m →
    θ_run (Cert.KernelNorm.defs (F := Bits)) (onTc (τ := Cert.KernelNorm.τ) (Cert.KernelNorm.main (F := Bits))) ⟨m, fun _ => 0, g⟩ (fun r => (∀ c : Dev Cert.KernelNorm.nD,
      r.2.mem ((c.tc : Thread Cert.KernelNorm.nD Cert.KernelNorm.τ).loc Cert.KernelNorm.main_arg0) = m ((c.tc : Thread Cert.KernelNorm.nD Cert.KernelNorm.τ).loc Cert.KernelNorm.main_arg0)
      ∧ r.2.mem ((c.tc : Thread Cert.KernelNorm.nD Cert.KernelNorm.τ).loc Cert.KernelNorm.main_arg1) = m ((c.tc : Thread Cert.KernelNorm.nD Cert.KernelNorm.τ).loc Cert.KernelNorm.main_arg1))
      ∧ r.2.sem = fun _ => 0)

def quiescent_KernelNormIdeal [hKernelNormIdeal : Cert.KernelNormIdeal.Facts] : Prop :=
  ∀ (m : (ℓ : Loc Cert.KernelNormIdeal.nD Cert.KernelNormIdeal.τ Cert.KernelNormIdeal.sig) → Buf (Elt Ideal) ℓ) (g : Dev Cert.KernelNormIdeal.nD → PrngReg), Pre_KernelNormIdeal m →
    θ_run (Cert.KernelNormIdeal.defs (F := Ideal)) (onTc (τ := Cert.KernelNormIdeal.τ) (Cert.KernelNormIdeal.main (F := Ideal))) ⟨m, fun _ => 0, g⟩ (fun r => (∀ c : Dev Cert.KernelNormIdeal.nD,
      r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
      ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1))
      ∧ r.2.sem = fun _ => 0)

def quiescent_ReferenceNormIdeal [hReferenceNormIdeal : Cert.ReferenceNormIdeal.Facts] : Prop :=
  ∀ (m : (ℓ : Loc Cert.ReferenceNormIdeal.nD Cert.ReferenceNormIdeal.τ Cert.ReferenceNormIdeal.sig) → Buf (Elt Ideal) ℓ) (g : Dev Cert.ReferenceNormIdeal.nD → PrngReg), Pre_ReferenceNormIdeal m →
    θ_run (Cert.ReferenceNormIdeal.defs (F := Ideal)) (onTc (τ := Cert.ReferenceNormIdeal.τ) (Cert.ReferenceNormIdeal.main (F := Ideal))) ⟨m, fun _ => 0, g⟩ (fun r => (∀ c : Dev Cert.ReferenceNormIdeal.nD,
      r.2.mem ((c.tc : Thread Cert.ReferenceNormIdeal.nD Cert.ReferenceNormIdeal.τ).loc Cert.ReferenceNormIdeal.main_arg0) = m ((c.tc : Thread Cert.ReferenceNormIdeal.nD Cert.ReferenceNormIdeal.τ).loc Cert.ReferenceNormIdeal.main_arg0)
      ∧ r.2.mem ((c.tc : Thread Cert.ReferenceNormIdeal.nD Cert.ReferenceNormIdeal.τ).loc Cert.ReferenceNormIdeal.main_arg1) = m ((c.tc : Thread Cert.ReferenceNormIdeal.nD Cert.ReferenceNormIdeal.τ).loc Cert.ReferenceNormIdeal.main_arg1))
      ∧ r.2.sem = fun _ => 0)

def quiescent_KernelGelu [hKernelGelu : Cert.KernelGelu.Facts] : Prop :=
  ∀ (m : (ℓ : Loc Cert.KernelGelu.nD Cert.KernelGelu.τ Cert.KernelGelu.sig) → Buf (Elt Bits) ℓ) (g : Dev Cert.KernelGelu.nD → PrngReg), Pre_KernelGelu m →
    θ_run (Cert.KernelGelu.defs (F := Bits)) (onTc (τ := Cert.KernelGelu.τ) (Cert.KernelGelu.main (F := Bits))) ⟨m, fun _ => 0, g⟩ (fun r => (∀ c : Dev Cert.KernelGelu.nD,
      r.2.mem ((c.tc : Thread Cert.KernelGelu.nD Cert.KernelGelu.τ).loc Cert.KernelGelu.main_arg0) = m ((c.tc : Thread Cert.KernelGelu.nD Cert.KernelGelu.τ).loc Cert.KernelGelu.main_arg0)
      ∧ r.2.mem ((c.tc : Thread Cert.KernelGelu.nD Cert.KernelGelu.τ).loc Cert.KernelGelu.main_arg1) = m ((c.tc : Thread Cert.KernelGelu.nD Cert.KernelGelu.τ).loc Cert.KernelGelu.main_arg1)
      ∧ r.2.mem ((c.tc : Thread Cert.KernelGelu.nD Cert.KernelGelu.τ).loc Cert.KernelGelu.main_arg2) = m ((c.tc : Thread Cert.KernelGelu.nD Cert.KernelGelu.τ).loc Cert.KernelGelu.main_arg2))
      ∧ r.2.sem = fun _ => 0)

def quiescent_KernelGeluIdeal [hKernelGeluIdeal : Cert.KernelGeluIdeal.Facts] : Prop :=
  ∀ (m : (ℓ : Loc Cert.KernelGeluIdeal.nD Cert.KernelGeluIdeal.τ Cert.KernelGeluIdeal.sig) → Buf (Elt Ideal) ℓ) (g : Dev Cert.KernelGeluIdeal.nD → PrngReg), Pre_KernelGeluIdeal m →
    θ_run (Cert.KernelGeluIdeal.defs (F := Ideal)) (onTc (τ := Cert.KernelGeluIdeal.τ) (Cert.KernelGeluIdeal.main (F := Ideal))) ⟨m, fun _ => 0, g⟩ (fun r => (∀ c : Dev Cert.KernelGeluIdeal.nD,
      r.2.mem ((c.tc : Thread Cert.KernelGeluIdeal.nD Cert.KernelGeluIdeal.τ).loc Cert.KernelGeluIdeal.main_arg0) = m ((c.tc : Thread Cert.KernelGeluIdeal.nD Cert.KernelGeluIdeal.τ).loc Cert.KernelGeluIdeal.main_arg0)
      ∧ r.2.mem ((c.tc : Thread Cert.KernelGeluIdeal.nD Cert.KernelGeluIdeal.τ).loc Cert.KernelGeluIdeal.main_arg1) = m ((c.tc : Thread Cert.KernelGeluIdeal.nD Cert.KernelGeluIdeal.τ).loc Cert.KernelGeluIdeal.main_arg1)
      ∧ r.2.mem ((c.tc : Thread Cert.KernelGeluIdeal.nD Cert.KernelGeluIdeal.τ).loc Cert.KernelGeluIdeal.main_arg2) = m ((c.tc : Thread Cert.KernelGeluIdeal.nD Cert.KernelGeluIdeal.τ).loc Cert.KernelGeluIdeal.main_arg2))
      ∧ r.2.sem = fun _ => 0)

def quiescent_ReferenceGeluIdeal [hReferenceGeluIdeal : Cert.ReferenceGeluIdeal.Facts] : Prop :=
  ∀ (m : (ℓ : Loc Cert.ReferenceGeluIdeal.nD Cert.ReferenceGeluIdeal.τ Cert.ReferenceGeluIdeal.sig) → Buf (Elt Ideal) ℓ) (g : Dev Cert.ReferenceGeluIdeal.nD → PrngReg), Pre_ReferenceGeluIdeal m →
    θ_run (Cert.ReferenceGeluIdeal.defs (F := Ideal)) (onTc (τ := Cert.ReferenceGeluIdeal.τ) (Cert.ReferenceGeluIdeal.main (F := Ideal))) ⟨m, fun _ => 0, g⟩ (fun r => (∀ c : Dev Cert.ReferenceGeluIdeal.nD,
      r.2.mem ((c.tc : Thread Cert.ReferenceGeluIdeal.nD Cert.ReferenceGeluIdeal.τ).loc Cert.ReferenceGeluIdeal.main_arg0) = m ((c.tc : Thread Cert.ReferenceGeluIdeal.nD Cert.ReferenceGeluIdeal.τ).loc Cert.ReferenceGeluIdeal.main_arg0)
      ∧ r.2.mem ((c.tc : Thread Cert.ReferenceGeluIdeal.nD Cert.ReferenceGeluIdeal.τ).loc Cert.ReferenceGeluIdeal.main_arg1) = m ((c.tc : Thread Cert.ReferenceGeluIdeal.nD Cert.ReferenceGeluIdeal.τ).loc Cert.ReferenceGeluIdeal.main_arg1)
      ∧ r.2.mem ((c.tc : Thread Cert.ReferenceGeluIdeal.nD Cert.ReferenceGeluIdeal.τ).loc Cert.ReferenceGeluIdeal.main_arg2) = m ((c.tc : Thread Cert.ReferenceGeluIdeal.nD Cert.ReferenceGeluIdeal.τ).loc Cert.ReferenceGeluIdeal.main_arg2))
      ∧ r.2.sem = fun _ => 0)

def quiescent_KernelGluOut [hKernelGluOut : Cert.KernelGluOut.Facts] : Prop :=
  ∀ (m : (ℓ : Loc Cert.KernelGluOut.nD Cert.KernelGluOut.τ Cert.KernelGluOut.sig) → Buf (Elt Bits) ℓ) (g : Dev Cert.KernelGluOut.nD → PrngReg), Pre_KernelGluOut m →
    θ_run (Cert.KernelGluOut.defs (F := Bits)) (onTc (τ := Cert.KernelGluOut.τ) (Cert.KernelGluOut.main (F := Bits))) ⟨m, fun _ => 0, g⟩ (fun r => (∀ c : Dev Cert.KernelGluOut.nD,
      r.2.mem ((c.tc : Thread Cert.KernelGluOut.nD Cert.KernelGluOut.τ).loc Cert.KernelGluOut.main_arg0) = m ((c.tc : Thread Cert.KernelGluOut.nD Cert.KernelGluOut.τ).loc Cert.KernelGluOut.main_arg0)
      ∧ r.2.mem ((c.tc : Thread Cert.KernelGluOut.nD Cert.KernelGluOut.τ).loc Cert.KernelGluOut.main_arg1) = m ((c.tc : Thread Cert.KernelGluOut.nD Cert.KernelGluOut.τ).loc Cert.KernelGluOut.main_arg1)
      ∧ r.2.mem ((c.tc : Thread Cert.KernelGluOut.nD Cert.KernelGluOut.τ).loc Cert.KernelGluOut.main_arg2) = m ((c.tc : Thread Cert.KernelGluOut.nD Cert.KernelGluOut.τ).loc Cert.KernelGluOut.main_arg2))
      ∧ r.2.sem = fun _ => 0)

def quiescent_KernelGluOutIdeal [hKernelGluOutIdeal : Cert.KernelGluOutIdeal.Facts] : Prop :=
  ∀ (m : (ℓ : Loc Cert.KernelGluOutIdeal.nD Cert.KernelGluOutIdeal.τ Cert.KernelGluOutIdeal.sig) → Buf (Elt Ideal) ℓ) (g : Dev Cert.KernelGluOutIdeal.nD → PrngReg), Pre_KernelGluOutIdeal m →
    θ_run (Cert.KernelGluOutIdeal.defs (F := Ideal)) (onTc (τ := Cert.KernelGluOutIdeal.τ) (Cert.KernelGluOutIdeal.main (F := Ideal))) ⟨m, fun _ => 0, g⟩ (fun r => (∀ c : Dev Cert.KernelGluOutIdeal.nD,
      r.2.mem ((c.tc : Thread Cert.KernelGluOutIdeal.nD Cert.KernelGluOutIdeal.τ).loc Cert.KernelGluOutIdeal.main_arg0) = m ((c.tc : Thread Cert.KernelGluOutIdeal.nD Cert.KernelGluOutIdeal.τ).loc Cert.KernelGluOutIdeal.main_arg0)
      ∧ r.2.mem ((c.tc : Thread Cert.KernelGluOutIdeal.nD Cert.KernelGluOutIdeal.τ).loc Cert.KernelGluOutIdeal.main_arg1) = m ((c.tc : Thread Cert.KernelGluOutIdeal.nD Cert.KernelGluOutIdeal.τ).loc Cert.KernelGluOutIdeal.main_arg1)
      ∧ r.2.mem ((c.tc : Thread Cert.KernelGluOutIdeal.nD Cert.KernelGluOutIdeal.τ).loc Cert.KernelGluOutIdeal.main_arg2) = m ((c.tc : Thread Cert.KernelGluOutIdeal.nD Cert.KernelGluOutIdeal.τ).loc Cert.KernelGluOutIdeal.main_arg2))
      ∧ r.2.sem = fun _ => 0)

def quiescent_ReferenceGluOutIdeal [hReferenceGluOutIdeal : Cert.ReferenceGluOutIdeal.Facts] : Prop :=
  ∀ (m : (ℓ : Loc Cert.ReferenceGluOutIdeal.nD Cert.ReferenceGluOutIdeal.τ Cert.ReferenceGluOutIdeal.sig) → Buf (Elt Ideal) ℓ) (g : Dev Cert.ReferenceGluOutIdeal.nD → PrngReg), Pre_ReferenceGluOutIdeal m →
    θ_run (Cert.ReferenceGluOutIdeal.defs (F := Ideal)) (onTc (τ := Cert.ReferenceGluOutIdeal.τ) (Cert.ReferenceGluOutIdeal.main (F := Ideal))) ⟨m, fun _ => 0, g⟩ (fun r => (∀ c : Dev Cert.ReferenceGluOutIdeal.nD,
      r.2.mem ((c.tc : Thread Cert.ReferenceGluOutIdeal.nD Cert.ReferenceGluOutIdeal.τ).loc Cert.ReferenceGluOutIdeal.main_arg0) = m ((c.tc : Thread Cert.ReferenceGluOutIdeal.nD Cert.ReferenceGluOutIdeal.τ).loc Cert.ReferenceGluOutIdeal.main_arg0)
      ∧ r.2.mem ((c.tc : Thread Cert.ReferenceGluOutIdeal.nD Cert.ReferenceGluOutIdeal.τ).loc Cert.ReferenceGluOutIdeal.main_arg1) = m ((c.tc : Thread Cert.ReferenceGluOutIdeal.nD Cert.ReferenceGluOutIdeal.τ).loc Cert.ReferenceGluOutIdeal.main_arg1)
      ∧ r.2.mem ((c.tc : Thread Cert.ReferenceGluOutIdeal.nD Cert.ReferenceGluOutIdeal.τ).loc Cert.ReferenceGluOutIdeal.main_arg2) = m ((c.tc : Thread Cert.ReferenceGluOutIdeal.nD Cert.ReferenceGluOutIdeal.τ).loc Cert.ReferenceGluOutIdeal.main_arg2))
      ∧ r.2.sem = fun _ => 0)

def quiescent_KernelAdamUp [hKernelAdamUp : Cert.KernelAdamUp.Facts] : Prop :=
  ∀ (m : (ℓ : Loc Cert.KernelAdamUp.nD Cert.KernelAdamUp.τ Cert.KernelAdamUp.sig) → Buf (Elt Bits) ℓ) (g : Dev Cert.KernelAdamUp.nD → PrngReg), Pre_KernelAdamUp m →
    θ_run (Cert.KernelAdamUp.defs (F := Bits)) (onTc (τ := Cert.KernelAdamUp.τ) (Cert.KernelAdamUp.main (F := Bits))) ⟨m, fun _ => 0, g⟩ (fun r => (∀ c : Dev Cert.KernelAdamUp.nD,
      r.2.mem ((c.tc : Thread Cert.KernelAdamUp.nD Cert.KernelAdamUp.τ).loc Cert.KernelAdamUp.main_arg0) = m ((c.tc : Thread Cert.KernelAdamUp.nD Cert.KernelAdamUp.τ).loc Cert.KernelAdamUp.main_arg0)
      ∧ r.2.mem ((c.tc : Thread Cert.KernelAdamUp.nD Cert.KernelAdamUp.τ).loc Cert.KernelAdamUp.main_arg1) = m ((c.tc : Thread Cert.KernelAdamUp.nD Cert.KernelAdamUp.τ).loc Cert.KernelAdamUp.main_arg1)
      ∧ r.2.mem ((c.tc : Thread Cert.KernelAdamUp.nD Cert.KernelAdamUp.τ).loc Cert.KernelAdamUp.main_arg2) = m ((c.tc : Thread Cert.KernelAdamUp.nD Cert.KernelAdamUp.τ).loc Cert.KernelAdamUp.main_arg2)
      ∧ r.2.mem ((c.tc : Thread Cert.KernelAdamUp.nD Cert.KernelAdamUp.τ).loc Cert.KernelAdamUp.main_arg3) = m ((c.tc : Thread Cert.KernelAdamUp.nD Cert.KernelAdamUp.τ).loc Cert.KernelAdamUp.main_arg3))
      ∧ r.2.sem = fun _ => 0)

def quiescent_KernelAdamUpIdeal [hKernelAdamUpIdeal : Cert.KernelAdamUpIdeal.Facts] : Prop :=
  ∀ (m : (ℓ : Loc Cert.KernelAdamUpIdeal.nD Cert.KernelAdamUpIdeal.τ Cert.KernelAdamUpIdeal.sig) → Buf (Elt Ideal) ℓ) (g : Dev Cert.KernelAdamUpIdeal.nD → PrngReg), Pre_KernelAdamUpIdeal m →
    θ_run (Cert.KernelAdamUpIdeal.defs (F := Ideal)) (onTc (τ := Cert.KernelAdamUpIdeal.τ) (Cert.KernelAdamUpIdeal.main (F := Ideal))) ⟨m, fun _ => 0, g⟩ (fun r => (∀ c : Dev Cert.KernelAdamUpIdeal.nD,
      r.2.mem ((c.tc : Thread Cert.KernelAdamUpIdeal.nD Cert.KernelAdamUpIdeal.τ).loc Cert.KernelAdamUpIdeal.main_arg0) = m ((c.tc : Thread Cert.KernelAdamUpIdeal.nD Cert.KernelAdamUpIdeal.τ).loc Cert.KernelAdamUpIdeal.main_arg0)
      ∧ r.2.mem ((c.tc : Thread Cert.KernelAdamUpIdeal.nD Cert.KernelAdamUpIdeal.τ).loc Cert.KernelAdamUpIdeal.main_arg1) = m ((c.tc : Thread Cert.KernelAdamUpIdeal.nD Cert.KernelAdamUpIdeal.τ).loc Cert.KernelAdamUpIdeal.main_arg1)
      ∧ r.2.mem ((c.tc : Thread Cert.KernelAdamUpIdeal.nD Cert.KernelAdamUpIdeal.τ).loc Cert.KernelAdamUpIdeal.main_arg2) = m ((c.tc : Thread Cert.KernelAdamUpIdeal.nD Cert.KernelAdamUpIdeal.τ).loc Cert.KernelAdamUpIdeal.main_arg2)
      ∧ r.2.mem ((c.tc : Thread Cert.KernelAdamUpIdeal.nD Cert.KernelAdamUpIdeal.τ).loc Cert.KernelAdamUpIdeal.main_arg3) = m ((c.tc : Thread Cert.KernelAdamUpIdeal.nD Cert.KernelAdamUpIdeal.τ).loc Cert.KernelAdamUpIdeal.main_arg3))
      ∧ r.2.sem = fun _ => 0)

def quiescent_ReferenceAdamUpIdeal [hReferenceAdamUpIdeal : Cert.ReferenceAdamUpIdeal.Facts] : Prop :=
  ∀ (m : (ℓ : Loc Cert.ReferenceAdamUpIdeal.nD Cert.ReferenceAdamUpIdeal.τ Cert.ReferenceAdamUpIdeal.sig) → Buf (Elt Ideal) ℓ) (g : Dev Cert.ReferenceAdamUpIdeal.nD → PrngReg), Pre_ReferenceAdamUpIdeal m →
    θ_run (Cert.ReferenceAdamUpIdeal.defs (F := Ideal)) (onTc (τ := Cert.ReferenceAdamUpIdeal.τ) (Cert.ReferenceAdamUpIdeal.main (F := Ideal))) ⟨m, fun _ => 0, g⟩ (fun r => (∀ c : Dev Cert.ReferenceAdamUpIdeal.nD,
      r.2.mem ((c.tc : Thread Cert.ReferenceAdamUpIdeal.nD Cert.ReferenceAdamUpIdeal.τ).loc Cert.ReferenceAdamUpIdeal.main_arg0) = m ((c.tc : Thread Cert.ReferenceAdamUpIdeal.nD Cert.ReferenceAdamUpIdeal.τ).loc Cert.ReferenceAdamUpIdeal.main_arg0)
      ∧ r.2.mem ((c.tc : Thread Cert.ReferenceAdamUpIdeal.nD Cert.ReferenceAdamUpIdeal.τ).loc Cert.ReferenceAdamUpIdeal.main_arg1) = m ((c.tc : Thread Cert.ReferenceAdamUpIdeal.nD Cert.ReferenceAdamUpIdeal.τ).loc Cert.ReferenceAdamUpIdeal.main_arg1)
      ∧ r.2.mem ((c.tc : Thread Cert.ReferenceAdamUpIdeal.nD Cert.ReferenceAdamUpIdeal.τ).loc Cert.ReferenceAdamUpIdeal.main_arg2) = m ((c.tc : Thread Cert.ReferenceAdamUpIdeal.nD Cert.ReferenceAdamUpIdeal.τ).loc Cert.ReferenceAdamUpIdeal.main_arg2)
      ∧ r.2.mem ((c.tc : Thread Cert.ReferenceAdamUpIdeal.nD Cert.ReferenceAdamUpIdeal.τ).loc Cert.ReferenceAdamUpIdeal.main_arg3) = m ((c.tc : Thread Cert.ReferenceAdamUpIdeal.nD Cert.ReferenceAdamUpIdeal.τ).loc Cert.ReferenceAdamUpIdeal.main_arg3))
      ∧ r.2.sem = fun _ => 0)

def quiescent_KernelAdamDown [hKernelAdamDown : Cert.KernelAdamDown.Facts] : Prop :=
  ∀ (m : (ℓ : Loc Cert.KernelAdamDown.nD Cert.KernelAdamDown.τ Cert.KernelAdamDown.sig) → Buf (Elt Bits) ℓ) (g : Dev Cert.KernelAdamDown.nD → PrngReg), Pre_KernelAdamDown m →
    θ_run (Cert.KernelAdamDown.defs (F := Bits)) (onTc (τ := Cert.KernelAdamDown.τ) (Cert.KernelAdamDown.main (F := Bits))) ⟨m, fun _ => 0, g⟩ (fun r => (∀ c : Dev Cert.KernelAdamDown.nD,
      r.2.mem ((c.tc : Thread Cert.KernelAdamDown.nD Cert.KernelAdamDown.τ).loc Cert.KernelAdamDown.main_arg0) = m ((c.tc : Thread Cert.KernelAdamDown.nD Cert.KernelAdamDown.τ).loc Cert.KernelAdamDown.main_arg0)
      ∧ r.2.mem ((c.tc : Thread Cert.KernelAdamDown.nD Cert.KernelAdamDown.τ).loc Cert.KernelAdamDown.main_arg1) = m ((c.tc : Thread Cert.KernelAdamDown.nD Cert.KernelAdamDown.τ).loc Cert.KernelAdamDown.main_arg1)
      ∧ r.2.mem ((c.tc : Thread Cert.KernelAdamDown.nD Cert.KernelAdamDown.τ).loc Cert.KernelAdamDown.main_arg2) = m ((c.tc : Thread Cert.KernelAdamDown.nD Cert.KernelAdamDown.τ).loc Cert.KernelAdamDown.main_arg2)
      ∧ r.2.mem ((c.tc : Thread Cert.KernelAdamDown.nD Cert.KernelAdamDown.τ).loc Cert.KernelAdamDown.main_arg3) = m ((c.tc : Thread Cert.KernelAdamDown.nD Cert.KernelAdamDown.τ).loc Cert.KernelAdamDown.main_arg3))
      ∧ r.2.sem = fun _ => 0)

def quiescent_KernelAdamDownIdeal [hKernelAdamDownIdeal : Cert.KernelAdamDownIdeal.Facts] : Prop :=
  ∀ (m : (ℓ : Loc Cert.KernelAdamDownIdeal.nD Cert.KernelAdamDownIdeal.τ Cert.KernelAdamDownIdeal.sig) → Buf (Elt Ideal) ℓ) (g : Dev Cert.KernelAdamDownIdeal.nD → PrngReg), Pre_KernelAdamDownIdeal m →
    θ_run (Cert.KernelAdamDownIdeal.defs (F := Ideal)) (onTc (τ := Cert.KernelAdamDownIdeal.τ) (Cert.KernelAdamDownIdeal.main (F := Ideal))) ⟨m, fun _ => 0, g⟩ (fun r => (∀ c : Dev Cert.KernelAdamDownIdeal.nD,
      r.2.mem ((c.tc : Thread Cert.KernelAdamDownIdeal.nD Cert.KernelAdamDownIdeal.τ).loc Cert.KernelAdamDownIdeal.main_arg0) = m ((c.tc : Thread Cert.KernelAdamDownIdeal.nD Cert.KernelAdamDownIdeal.τ).loc Cert.KernelAdamDownIdeal.main_arg0)
      ∧ r.2.mem ((c.tc : Thread Cert.KernelAdamDownIdeal.nD Cert.KernelAdamDownIdeal.τ).loc Cert.KernelAdamDownIdeal.main_arg1) = m ((c.tc : Thread Cert.KernelAdamDownIdeal.nD Cert.KernelAdamDownIdeal.τ).loc Cert.KernelAdamDownIdeal.main_arg1)
      ∧ r.2.mem ((c.tc : Thread Cert.KernelAdamDownIdeal.nD Cert.KernelAdamDownIdeal.τ).loc Cert.KernelAdamDownIdeal.main_arg2) = m ((c.tc : Thread Cert.KernelAdamDownIdeal.nD Cert.KernelAdamDownIdeal.τ).loc Cert.KernelAdamDownIdeal.main_arg2)
      ∧ r.2.mem ((c.tc : Thread Cert.KernelAdamDownIdeal.nD Cert.KernelAdamDownIdeal.τ).loc Cert.KernelAdamDownIdeal.main_arg3) = m ((c.tc : Thread Cert.KernelAdamDownIdeal.nD Cert.KernelAdamDownIdeal.τ).loc Cert.KernelAdamDownIdeal.main_arg3))
      ∧ r.2.sem = fun _ => 0)

def quiescent_ReferenceAdamDownIdeal [hReferenceAdamDownIdeal : Cert.ReferenceAdamDownIdeal.Facts] : Prop :=
  ∀ (m : (ℓ : Loc Cert.ReferenceAdamDownIdeal.nD Cert.ReferenceAdamDownIdeal.τ Cert.ReferenceAdamDownIdeal.sig) → Buf (Elt Ideal) ℓ) (g : Dev Cert.ReferenceAdamDownIdeal.nD → PrngReg), Pre_ReferenceAdamDownIdeal m →
    θ_run (Cert.ReferenceAdamDownIdeal.defs (F := Ideal)) (onTc (τ := Cert.ReferenceAdamDownIdeal.τ) (Cert.ReferenceAdamDownIdeal.main (F := Ideal))) ⟨m, fun _ => 0, g⟩ (fun r => (∀ c : Dev Cert.ReferenceAdamDownIdeal.nD,
      r.2.mem ((c.tc : Thread Cert.ReferenceAdamDownIdeal.nD Cert.ReferenceAdamDownIdeal.τ).loc Cert.ReferenceAdamDownIdeal.main_arg0) = m ((c.tc : Thread Cert.ReferenceAdamDownIdeal.nD Cert.ReferenceAdamDownIdeal.τ).loc Cert.ReferenceAdamDownIdeal.main_arg0)
      ∧ r.2.mem ((c.tc : Thread Cert.ReferenceAdamDownIdeal.nD Cert.ReferenceAdamDownIdeal.τ).loc Cert.ReferenceAdamDownIdeal.main_arg1) = m ((c.tc : Thread Cert.ReferenceAdamDownIdeal.nD Cert.ReferenceAdamDownIdeal.τ).loc Cert.ReferenceAdamDownIdeal.main_arg1)
      ∧ r.2.mem ((c.tc : Thread Cert.ReferenceAdamDownIdeal.nD Cert.ReferenceAdamDownIdeal.τ).loc Cert.ReferenceAdamDownIdeal.main_arg2) = m ((c.tc : Thread Cert.ReferenceAdamDownIdeal.nD Cert.ReferenceAdamDownIdeal.τ).loc Cert.ReferenceAdamDownIdeal.main_arg2)
      ∧ r.2.mem ((c.tc : Thread Cert.ReferenceAdamDownIdeal.nD Cert.ReferenceAdamDownIdeal.τ).loc Cert.ReferenceAdamDownIdeal.main_arg3) = m ((c.tc : Thread Cert.ReferenceAdamDownIdeal.nD Cert.ReferenceAdamDownIdeal.τ).loc Cert.ReferenceAdamDownIdeal.main_arg3))
      ∧ r.2.sem = fun _ => 0)

def quiescent_KernelAdamIn [hKernelAdamIn : Cert.KernelAdamIn.Facts] : Prop :=
  ∀ (m : (ℓ : Loc Cert.KernelAdamIn.nD Cert.KernelAdamIn.τ Cert.KernelAdamIn.sig) → Buf (Elt Bits) ℓ) (g : Dev Cert.KernelAdamIn.nD → PrngReg), Pre_KernelAdamIn m →
    θ_run (Cert.KernelAdamIn.defs (F := Bits)) (onTc (τ := Cert.KernelAdamIn.τ) (Cert.KernelAdamIn.main (F := Bits))) ⟨m, fun _ => 0, g⟩ (fun r => (∀ c : Dev Cert.KernelAdamIn.nD,
      r.2.mem ((c.tc : Thread Cert.KernelAdamIn.nD Cert.KernelAdamIn.τ).loc Cert.KernelAdamIn.main_arg0) = m ((c.tc : Thread Cert.KernelAdamIn.nD Cert.KernelAdamIn.τ).loc Cert.KernelAdamIn.main_arg0)
      ∧ r.2.mem ((c.tc : Thread Cert.KernelAdamIn.nD Cert.KernelAdamIn.τ).loc Cert.KernelAdamIn.main_arg1) = m ((c.tc : Thread Cert.KernelAdamIn.nD Cert.KernelAdamIn.τ).loc Cert.KernelAdamIn.main_arg1)
      ∧ r.2.mem ((c.tc : Thread Cert.KernelAdamIn.nD Cert.KernelAdamIn.τ).loc Cert.KernelAdamIn.main_arg2) = m ((c.tc : Thread Cert.KernelAdamIn.nD Cert.KernelAdamIn.τ).loc Cert.KernelAdamIn.main_arg2)
      ∧ r.2.mem ((c.tc : Thread Cert.KernelAdamIn.nD Cert.KernelAdamIn.τ).loc Cert.KernelAdamIn.main_arg3) = m ((c.tc : Thread Cert.KernelAdamIn.nD Cert.KernelAdamIn.τ).loc Cert.KernelAdamIn.main_arg3))
      ∧ r.2.sem = fun _ => 0)

def quiescent_KernelAdamInIdeal [hKernelAdamInIdeal : Cert.KernelAdamInIdeal.Facts] : Prop :=
  ∀ (m : (ℓ : Loc Cert.KernelAdamInIdeal.nD Cert.KernelAdamInIdeal.τ Cert.KernelAdamInIdeal.sig) → Buf (Elt Ideal) ℓ) (g : Dev Cert.KernelAdamInIdeal.nD → PrngReg), Pre_KernelAdamInIdeal m →
    θ_run (Cert.KernelAdamInIdeal.defs (F := Ideal)) (onTc (τ := Cert.KernelAdamInIdeal.τ) (Cert.KernelAdamInIdeal.main (F := Ideal))) ⟨m, fun _ => 0, g⟩ (fun r => (∀ c : Dev Cert.KernelAdamInIdeal.nD,
      r.2.mem ((c.tc : Thread Cert.KernelAdamInIdeal.nD Cert.KernelAdamInIdeal.τ).loc Cert.KernelAdamInIdeal.main_arg0) = m ((c.tc : Thread Cert.KernelAdamInIdeal.nD Cert.KernelAdamInIdeal.τ).loc Cert.KernelAdamInIdeal.main_arg0)
      ∧ r.2.mem ((c.tc : Thread Cert.KernelAdamInIdeal.nD Cert.KernelAdamInIdeal.τ).loc Cert.KernelAdamInIdeal.main_arg1) = m ((c.tc : Thread Cert.KernelAdamInIdeal.nD Cert.KernelAdamInIdeal.τ).loc Cert.KernelAdamInIdeal.main_arg1)
      ∧ r.2.mem ((c.tc : Thread Cert.KernelAdamInIdeal.nD Cert.KernelAdamInIdeal.τ).loc Cert.KernelAdamInIdeal.main_arg2) = m ((c.tc : Thread Cert.KernelAdamInIdeal.nD Cert.KernelAdamInIdeal.τ).loc Cert.KernelAdamInIdeal.main_arg2)
      ∧ r.2.mem ((c.tc : Thread Cert.KernelAdamInIdeal.nD Cert.KernelAdamInIdeal.τ).loc Cert.KernelAdamInIdeal.main_arg3) = m ((c.tc : Thread Cert.KernelAdamInIdeal.nD Cert.KernelAdamInIdeal.τ).loc Cert.KernelAdamInIdeal.main_arg3))
      ∧ r.2.sem = fun _ => 0)

def quiescent_ReferenceAdamInIdeal [hReferenceAdamInIdeal : Cert.ReferenceAdamInIdeal.Facts] : Prop :=
  ∀ (m : (ℓ : Loc Cert.ReferenceAdamInIdeal.nD Cert.ReferenceAdamInIdeal.τ Cert.ReferenceAdamInIdeal.sig) → Buf (Elt Ideal) ℓ) (g : Dev Cert.ReferenceAdamInIdeal.nD → PrngReg), Pre_ReferenceAdamInIdeal m →
    θ_run (Cert.ReferenceAdamInIdeal.defs (F := Ideal)) (onTc (τ := Cert.ReferenceAdamInIdeal.τ) (Cert.ReferenceAdamInIdeal.main (F := Ideal))) ⟨m, fun _ => 0, g⟩ (fun r => (∀ c : Dev Cert.ReferenceAdamInIdeal.nD,
      r.2.mem ((c.tc : Thread Cert.ReferenceAdamInIdeal.nD Cert.ReferenceAdamInIdeal.τ).loc Cert.ReferenceAdamInIdeal.main_arg0) = m ((c.tc : Thread Cert.ReferenceAdamInIdeal.nD Cert.ReferenceAdamInIdeal.τ).loc Cert.ReferenceAdamInIdeal.main_arg0)
      ∧ r.2.mem ((c.tc : Thread Cert.ReferenceAdamInIdeal.nD Cert.ReferenceAdamInIdeal.τ).loc Cert.ReferenceAdamInIdeal.main_arg1) = m ((c.tc : Thread Cert.ReferenceAdamInIdeal.nD Cert.ReferenceAdamInIdeal.τ).loc Cert.ReferenceAdamInIdeal.main_arg1)
      ∧ r.2.mem ((c.tc : Thread Cert.ReferenceAdamInIdeal.nD Cert.ReferenceAdamInIdeal.τ).loc Cert.ReferenceAdamInIdeal.main_arg2) = m ((c.tc : Thread Cert.ReferenceAdamInIdeal.nD Cert.ReferenceAdamInIdeal.τ).loc Cert.ReferenceAdamInIdeal.main_arg2)
      ∧ r.2.mem ((c.tc : Thread Cert.ReferenceAdamInIdeal.nD Cert.ReferenceAdamInIdeal.τ).loc Cert.ReferenceAdamInIdeal.main_arg3) = m ((c.tc : Thread Cert.ReferenceAdamInIdeal.nD Cert.ReferenceAdamInIdeal.τ).loc Cert.ReferenceAdamInIdeal.main_arg3))
      ∧ r.2.sem = fun _ => 0)

def quiescent_KernelAdamUq [hKernelAdamUq : Cert.KernelAdamUq.Facts] : Prop :=
  ∀ (m : (ℓ : Loc Cert.KernelAdamUq.nD Cert.KernelAdamUq.τ Cert.KernelAdamUq.sig) → Buf (Elt Bits) ℓ) (g : Dev Cert.KernelAdamUq.nD → PrngReg), Pre_KernelAdamUq m →
    θ_run (Cert.KernelAdamUq.defs (F := Bits)) (onTc (τ := Cert.KernelAdamUq.τ) (Cert.KernelAdamUq.main (F := Bits))) ⟨m, fun _ => 0, g⟩ (fun r => (∀ c : Dev Cert.KernelAdamUq.nD,
      r.2.mem ((c.tc : Thread Cert.KernelAdamUq.nD Cert.KernelAdamUq.τ).loc Cert.KernelAdamUq.main_arg0) = m ((c.tc : Thread Cert.KernelAdamUq.nD Cert.KernelAdamUq.τ).loc Cert.KernelAdamUq.main_arg0)
      ∧ r.2.mem ((c.tc : Thread Cert.KernelAdamUq.nD Cert.KernelAdamUq.τ).loc Cert.KernelAdamUq.main_arg1) = m ((c.tc : Thread Cert.KernelAdamUq.nD Cert.KernelAdamUq.τ).loc Cert.KernelAdamUq.main_arg1)
      ∧ r.2.mem ((c.tc : Thread Cert.KernelAdamUq.nD Cert.KernelAdamUq.τ).loc Cert.KernelAdamUq.main_arg2) = m ((c.tc : Thread Cert.KernelAdamUq.nD Cert.KernelAdamUq.τ).loc Cert.KernelAdamUq.main_arg2)
      ∧ r.2.mem ((c.tc : Thread Cert.KernelAdamUq.nD Cert.KernelAdamUq.τ).loc Cert.KernelAdamUq.main_arg3) = m ((c.tc : Thread Cert.KernelAdamUq.nD Cert.KernelAdamUq.τ).loc Cert.KernelAdamUq.main_arg3))
      ∧ r.2.sem = fun _ => 0)

def quiescent_KernelAdamUqIdeal [hKernelAdamUqIdeal : Cert.KernelAdamUqIdeal.Facts] : Prop :=
  ∀ (m : (ℓ : Loc Cert.KernelAdamUqIdeal.nD Cert.KernelAdamUqIdeal.τ Cert.KernelAdamUqIdeal.sig) → Buf (Elt Ideal) ℓ) (g : Dev Cert.KernelAdamUqIdeal.nD → PrngReg), Pre_KernelAdamUqIdeal m →
    θ_run (Cert.KernelAdamUqIdeal.defs (F := Ideal)) (onTc (τ := Cert.KernelAdamUqIdeal.τ) (Cert.KernelAdamUqIdeal.main (F := Ideal))) ⟨m, fun _ => 0, g⟩ (fun r => (∀ c : Dev Cert.KernelAdamUqIdeal.nD,
      r.2.mem ((c.tc : Thread Cert.KernelAdamUqIdeal.nD Cert.KernelAdamUqIdeal.τ).loc Cert.KernelAdamUqIdeal.main_arg0) = m ((c.tc : Thread Cert.KernelAdamUqIdeal.nD Cert.KernelAdamUqIdeal.τ).loc Cert.KernelAdamUqIdeal.main_arg0)
      ∧ r.2.mem ((c.tc : Thread Cert.KernelAdamUqIdeal.nD Cert.KernelAdamUqIdeal.τ).loc Cert.KernelAdamUqIdeal.main_arg1) = m ((c.tc : Thread Cert.KernelAdamUqIdeal.nD Cert.KernelAdamUqIdeal.τ).loc Cert.KernelAdamUqIdeal.main_arg1)
      ∧ r.2.mem ((c.tc : Thread Cert.KernelAdamUqIdeal.nD Cert.KernelAdamUqIdeal.τ).loc Cert.KernelAdamUqIdeal.main_arg2) = m ((c.tc : Thread Cert.KernelAdamUqIdeal.nD Cert.KernelAdamUqIdeal.τ).loc Cert.KernelAdamUqIdeal.main_arg2)
      ∧ r.2.mem ((c.tc : Thread Cert.KernelAdamUqIdeal.nD Cert.KernelAdamUqIdeal.τ).loc Cert.KernelAdamUqIdeal.main_arg3) = m ((c.tc : Thread Cert.KernelAdamUqIdeal.nD Cert.KernelAdamUqIdeal.τ).loc Cert.KernelAdamUqIdeal.main_arg3))
      ∧ r.2.sem = fun _ => 0)

def quiescent_ReferenceAdamUqIdeal [hReferenceAdamUqIdeal : Cert.ReferenceAdamUqIdeal.Facts] : Prop :=
  ∀ (m : (ℓ : Loc Cert.ReferenceAdamUqIdeal.nD Cert.ReferenceAdamUqIdeal.τ Cert.ReferenceAdamUqIdeal.sig) → Buf (Elt Ideal) ℓ) (g : Dev Cert.ReferenceAdamUqIdeal.nD → PrngReg), Pre_ReferenceAdamUqIdeal m →
    θ_run (Cert.ReferenceAdamUqIdeal.defs (F := Ideal)) (onTc (τ := Cert.ReferenceAdamUqIdeal.τ) (Cert.ReferenceAdamUqIdeal.main (F := Ideal))) ⟨m, fun _ => 0, g⟩ (fun r => (∀ c : Dev Cert.ReferenceAdamUqIdeal.nD,
      r.2.mem ((c.tc : Thread Cert.ReferenceAdamUqIdeal.nD Cert.ReferenceAdamUqIdeal.τ).loc Cert.ReferenceAdamUqIdeal.main_arg0) = m ((c.tc : Thread Cert.ReferenceAdamUqIdeal.nD Cert.ReferenceAdamUqIdeal.τ).loc Cert.ReferenceAdamUqIdeal.main_arg0)
      ∧ r.2.mem ((c.tc : Thread Cert.ReferenceAdamUqIdeal.nD Cert.ReferenceAdamUqIdeal.τ).loc Cert.ReferenceAdamUqIdeal.main_arg1) = m ((c.tc : Thread Cert.ReferenceAdamUqIdeal.nD Cert.ReferenceAdamUqIdeal.τ).loc Cert.ReferenceAdamUqIdeal.main_arg1)
      ∧ r.2.mem ((c.tc : Thread Cert.ReferenceAdamUqIdeal.nD Cert.ReferenceAdamUqIdeal.τ).loc Cert.ReferenceAdamUqIdeal.main_arg2) = m ((c.tc : Thread Cert.ReferenceAdamUqIdeal.nD Cert.ReferenceAdamUqIdeal.τ).loc Cert.ReferenceAdamUqIdeal.main_arg2)
      ∧ r.2.mem ((c.tc : Thread Cert.ReferenceAdamUqIdeal.nD Cert.ReferenceAdamUqIdeal.τ).loc Cert.ReferenceAdamUqIdeal.main_arg3) = m ((c.tc : Thread Cert.ReferenceAdamUqIdeal.nD Cert.ReferenceAdamUqIdeal.τ).loc Cert.ReferenceAdamUqIdeal.main_arg3))
      ∧ r.2.sem = fun _ => 0)

def quiescent_KernelAdamUkv [hKernelAdamUkv : Cert.KernelAdamUkv.Facts] : Prop :=
  ∀ (m : (ℓ : Loc Cert.KernelAdamUkv.nD Cert.KernelAdamUkv.τ Cert.KernelAdamUkv.sig) → Buf (Elt Bits) ℓ) (g : Dev Cert.KernelAdamUkv.nD → PrngReg), Pre_KernelAdamUkv m →
    θ_run (Cert.KernelAdamUkv.defs (F := Bits)) (onTc (τ := Cert.KernelAdamUkv.τ) (Cert.KernelAdamUkv.main (F := Bits))) ⟨m, fun _ => 0, g⟩ (fun r => (∀ c : Dev Cert.KernelAdamUkv.nD,
      r.2.mem ((c.tc : Thread Cert.KernelAdamUkv.nD Cert.KernelAdamUkv.τ).loc Cert.KernelAdamUkv.main_arg0) = m ((c.tc : Thread Cert.KernelAdamUkv.nD Cert.KernelAdamUkv.τ).loc Cert.KernelAdamUkv.main_arg0)
      ∧ r.2.mem ((c.tc : Thread Cert.KernelAdamUkv.nD Cert.KernelAdamUkv.τ).loc Cert.KernelAdamUkv.main_arg1) = m ((c.tc : Thread Cert.KernelAdamUkv.nD Cert.KernelAdamUkv.τ).loc Cert.KernelAdamUkv.main_arg1)
      ∧ r.2.mem ((c.tc : Thread Cert.KernelAdamUkv.nD Cert.KernelAdamUkv.τ).loc Cert.KernelAdamUkv.main_arg2) = m ((c.tc : Thread Cert.KernelAdamUkv.nD Cert.KernelAdamUkv.τ).loc Cert.KernelAdamUkv.main_arg2)
      ∧ r.2.mem ((c.tc : Thread Cert.KernelAdamUkv.nD Cert.KernelAdamUkv.τ).loc Cert.KernelAdamUkv.main_arg3) = m ((c.tc : Thread Cert.KernelAdamUkv.nD Cert.KernelAdamUkv.τ).loc Cert.KernelAdamUkv.main_arg3))
      ∧ r.2.sem = fun _ => 0)

def quiescent_KernelAdamUkvIdeal [hKernelAdamUkvIdeal : Cert.KernelAdamUkvIdeal.Facts] : Prop :=
  ∀ (m : (ℓ : Loc Cert.KernelAdamUkvIdeal.nD Cert.KernelAdamUkvIdeal.τ Cert.KernelAdamUkvIdeal.sig) → Buf (Elt Ideal) ℓ) (g : Dev Cert.KernelAdamUkvIdeal.nD → PrngReg), Pre_KernelAdamUkvIdeal m →
    θ_run (Cert.KernelAdamUkvIdeal.defs (F := Ideal)) (onTc (τ := Cert.KernelAdamUkvIdeal.τ) (Cert.KernelAdamUkvIdeal.main (F := Ideal))) ⟨m, fun _ => 0, g⟩ (fun r => (∀ c : Dev Cert.KernelAdamUkvIdeal.nD,
      r.2.mem ((c.tc : Thread Cert.KernelAdamUkvIdeal.nD Cert.KernelAdamUkvIdeal.τ).loc Cert.KernelAdamUkvIdeal.main_arg0) = m ((c.tc : Thread Cert.KernelAdamUkvIdeal.nD Cert.KernelAdamUkvIdeal.τ).loc Cert.KernelAdamUkvIdeal.main_arg0)
      ∧ r.2.mem ((c.tc : Thread Cert.KernelAdamUkvIdeal.nD Cert.KernelAdamUkvIdeal.τ).loc Cert.KernelAdamUkvIdeal.main_arg1) = m ((c.tc : Thread Cert.KernelAdamUkvIdeal.nD Cert.KernelAdamUkvIdeal.τ).loc Cert.KernelAdamUkvIdeal.main_arg1)
      ∧ r.2.mem ((c.tc : Thread Cert.KernelAdamUkvIdeal.nD Cert.KernelAdamUkvIdeal.τ).loc Cert.KernelAdamUkvIdeal.main_arg2) = m ((c.tc : Thread Cert.KernelAdamUkvIdeal.nD Cert.KernelAdamUkvIdeal.τ).loc Cert.KernelAdamUkvIdeal.main_arg2)
      ∧ r.2.mem ((c.tc : Thread Cert.KernelAdamUkvIdeal.nD Cert.KernelAdamUkvIdeal.τ).loc Cert.KernelAdamUkvIdeal.main_arg3) = m ((c.tc : Thread Cert.KernelAdamUkvIdeal.nD Cert.KernelAdamUkvIdeal.τ).loc Cert.KernelAdamUkvIdeal.main_arg3))
      ∧ r.2.sem = fun _ => 0)

def quiescent_ReferenceAdamUkvIdeal [hReferenceAdamUkvIdeal : Cert.ReferenceAdamUkvIdeal.Facts] : Prop :=
  ∀ (m : (ℓ : Loc Cert.ReferenceAdamUkvIdeal.nD Cert.ReferenceAdamUkvIdeal.τ Cert.ReferenceAdamUkvIdeal.sig) → Buf (Elt Ideal) ℓ) (g : Dev Cert.ReferenceAdamUkvIdeal.nD → PrngReg), Pre_ReferenceAdamUkvIdeal m →
    θ_run (Cert.ReferenceAdamUkvIdeal.defs (F := Ideal)) (onTc (τ := Cert.ReferenceAdamUkvIdeal.τ) (Cert.ReferenceAdamUkvIdeal.main (F := Ideal))) ⟨m, fun _ => 0, g⟩ (fun r => (∀ c : Dev Cert.ReferenceAdamUkvIdeal.nD,
      r.2.mem ((c.tc : Thread Cert.ReferenceAdamUkvIdeal.nD Cert.ReferenceAdamUkvIdeal.τ).loc Cert.ReferenceAdamUkvIdeal.main_arg0) = m ((c.tc : Thread Cert.ReferenceAdamUkvIdeal.nD Cert.ReferenceAdamUkvIdeal.τ).loc Cert.ReferenceAdamUkvIdeal.main_arg0)
      ∧ r.2.mem ((c.tc : Thread Cert.ReferenceAdamUkvIdeal.nD Cert.ReferenceAdamUkvIdeal.τ).loc Cert.ReferenceAdamUkvIdeal.main_arg1) = m ((c.tc : Thread Cert.ReferenceAdamUkvIdeal.nD Cert.ReferenceAdamUkvIdeal.τ).loc Cert.ReferenceAdamUkvIdeal.main_arg1)
      ∧ r.2.mem ((c.tc : Thread Cert.ReferenceAdamUkvIdeal.nD Cert.ReferenceAdamUkvIdeal.τ).loc Cert.ReferenceAdamUkvIdeal.main_arg2) = m ((c.tc : Thread Cert.ReferenceAdamUkvIdeal.nD Cert.ReferenceAdamUkvIdeal.τ).loc Cert.ReferenceAdamUkvIdeal.main_arg2)
      ∧ r.2.mem ((c.tc : Thread Cert.ReferenceAdamUkvIdeal.nD Cert.ReferenceAdamUkvIdeal.τ).loc Cert.ReferenceAdamUkvIdeal.main_arg3) = m ((c.tc : Thread Cert.ReferenceAdamUkvIdeal.nD Cert.ReferenceAdamUkvIdeal.τ).loc Cert.ReferenceAdamUkvIdeal.main_arg3))
      ∧ r.2.sem = fun _ => 0)

def quiescent_KernelAdamOut [hKernelAdamOut : Cert.KernelAdamOut.Facts] : Prop :=
  ∀ (m : (ℓ : Loc Cert.KernelAdamOut.nD Cert.KernelAdamOut.τ Cert.KernelAdamOut.sig) → Buf (Elt Bits) ℓ) (g : Dev Cert.KernelAdamOut.nD → PrngReg), Pre_KernelAdamOut m →
    θ_run (Cert.KernelAdamOut.defs (F := Bits)) (onTc (τ := Cert.KernelAdamOut.τ) (Cert.KernelAdamOut.main (F := Bits))) ⟨m, fun _ => 0, g⟩ (fun r => (∀ c : Dev Cert.KernelAdamOut.nD,
      r.2.mem ((c.tc : Thread Cert.KernelAdamOut.nD Cert.KernelAdamOut.τ).loc Cert.KernelAdamOut.main_arg0) = m ((c.tc : Thread Cert.KernelAdamOut.nD Cert.KernelAdamOut.τ).loc Cert.KernelAdamOut.main_arg0)
      ∧ r.2.mem ((c.tc : Thread Cert.KernelAdamOut.nD Cert.KernelAdamOut.τ).loc Cert.KernelAdamOut.main_arg1) = m ((c.tc : Thread Cert.KernelAdamOut.nD Cert.KernelAdamOut.τ).loc Cert.KernelAdamOut.main_arg1)
      ∧ r.2.mem ((c.tc : Thread Cert.KernelAdamOut.nD Cert.KernelAdamOut.τ).loc Cert.KernelAdamOut.main_arg2) = m ((c.tc : Thread Cert.KernelAdamOut.nD Cert.KernelAdamOut.τ).loc Cert.KernelAdamOut.main_arg2)
      ∧ r.2.mem ((c.tc : Thread Cert.KernelAdamOut.nD Cert.KernelAdamOut.τ).loc Cert.KernelAdamOut.main_arg3) = m ((c.tc : Thread Cert.KernelAdamOut.nD Cert.KernelAdamOut.τ).loc Cert.KernelAdamOut.main_arg3))
      ∧ r.2.sem = fun _ => 0)

def quiescent_KernelAdamOutIdeal [hKernelAdamOutIdeal : Cert.KernelAdamOutIdeal.Facts] : Prop :=
  ∀ (m : (ℓ : Loc Cert.KernelAdamOutIdeal.nD Cert.KernelAdamOutIdeal.τ Cert.KernelAdamOutIdeal.sig) → Buf (Elt Ideal) ℓ) (g : Dev Cert.KernelAdamOutIdeal.nD → PrngReg), Pre_KernelAdamOutIdeal m →
    θ_run (Cert.KernelAdamOutIdeal.defs (F := Ideal)) (onTc (τ := Cert.KernelAdamOutIdeal.τ) (Cert.KernelAdamOutIdeal.main (F := Ideal))) ⟨m, fun _ => 0, g⟩ (fun r => (∀ c : Dev Cert.KernelAdamOutIdeal.nD,
      r.2.mem ((c.tc : Thread Cert.KernelAdamOutIdeal.nD Cert.KernelAdamOutIdeal.τ).loc Cert.KernelAdamOutIdeal.main_arg0) = m ((c.tc : Thread Cert.KernelAdamOutIdeal.nD Cert.KernelAdamOutIdeal.τ).loc Cert.KernelAdamOutIdeal.main_arg0)
      ∧ r.2.mem ((c.tc : Thread Cert.KernelAdamOutIdeal.nD Cert.KernelAdamOutIdeal.τ).loc Cert.KernelAdamOutIdeal.main_arg1) = m ((c.tc : Thread Cert.KernelAdamOutIdeal.nD Cert.KernelAdamOutIdeal.τ).loc Cert.KernelAdamOutIdeal.main_arg1)
      ∧ r.2.mem ((c.tc : Thread Cert.KernelAdamOutIdeal.nD Cert.KernelAdamOutIdeal.τ).loc Cert.KernelAdamOutIdeal.main_arg2) = m ((c.tc : Thread Cert.KernelAdamOutIdeal.nD Cert.KernelAdamOutIdeal.τ).loc Cert.KernelAdamOutIdeal.main_arg2)
      ∧ r.2.mem ((c.tc : Thread Cert.KernelAdamOutIdeal.nD Cert.KernelAdamOutIdeal.τ).loc Cert.KernelAdamOutIdeal.main_arg3) = m ((c.tc : Thread Cert.KernelAdamOutIdeal.nD Cert.KernelAdamOutIdeal.τ).loc Cert.KernelAdamOutIdeal.main_arg3))
      ∧ r.2.sem = fun _ => 0)

def quiescent_ReferenceAdamOutIdeal [hReferenceAdamOutIdeal : Cert.ReferenceAdamOutIdeal.Facts] : Prop :=
  ∀ (m : (ℓ : Loc Cert.ReferenceAdamOutIdeal.nD Cert.ReferenceAdamOutIdeal.τ Cert.ReferenceAdamOutIdeal.sig) → Buf (Elt Ideal) ℓ) (g : Dev Cert.ReferenceAdamOutIdeal.nD → PrngReg), Pre_ReferenceAdamOutIdeal m →
    θ_run (Cert.ReferenceAdamOutIdeal.defs (F := Ideal)) (onTc (τ := Cert.ReferenceAdamOutIdeal.τ) (Cert.ReferenceAdamOutIdeal.main (F := Ideal))) ⟨m, fun _ => 0, g⟩ (fun r => (∀ c : Dev Cert.ReferenceAdamOutIdeal.nD,
      r.2.mem ((c.tc : Thread Cert.ReferenceAdamOutIdeal.nD Cert.ReferenceAdamOutIdeal.τ).loc Cert.ReferenceAdamOutIdeal.main_arg0) = m ((c.tc : Thread Cert.ReferenceAdamOutIdeal.nD Cert.ReferenceAdamOutIdeal.τ).loc Cert.ReferenceAdamOutIdeal.main_arg0)
      ∧ r.2.mem ((c.tc : Thread Cert.ReferenceAdamOutIdeal.nD Cert.ReferenceAdamOutIdeal.τ).loc Cert.ReferenceAdamOutIdeal.main_arg1) = m ((c.tc : Thread Cert.ReferenceAdamOutIdeal.nD Cert.ReferenceAdamOutIdeal.τ).loc Cert.ReferenceAdamOutIdeal.main_arg1)
      ∧ r.2.mem ((c.tc : Thread Cert.ReferenceAdamOutIdeal.nD Cert.ReferenceAdamOutIdeal.τ).loc Cert.ReferenceAdamOutIdeal.main_arg2) = m ((c.tc : Thread Cert.ReferenceAdamOutIdeal.nD Cert.ReferenceAdamOutIdeal.τ).loc Cert.ReferenceAdamOutIdeal.main_arg2)
      ∧ r.2.mem ((c.tc : Thread Cert.ReferenceAdamOutIdeal.nD Cert.ReferenceAdamOutIdeal.τ).loc Cert.ReferenceAdamOutIdeal.main_arg3) = m ((c.tc : Thread Cert.ReferenceAdamOutIdeal.nD Cert.ReferenceAdamOutIdeal.τ).loc Cert.ReferenceAdamOutIdeal.main_arg3))
      ∧ r.2.sem = fun _ => 0)

def quiescent_KernelAdamScan [hKernelAdamScan : Cert.KernelAdamScan.Facts] : Prop :=
  ∀ (m : (ℓ : Loc Cert.KernelAdamScan.nD Cert.KernelAdamScan.τ Cert.KernelAdamScan.sig) → Buf (Elt Bits) ℓ) (g : Dev Cert.KernelAdamScan.nD → PrngReg), Pre_KernelAdamScan m →
    θ_run (Cert.KernelAdamScan.defs (F := Bits)) (onTc (τ := Cert.KernelAdamScan.τ) (Cert.KernelAdamScan.main (F := Bits))) ⟨m, fun _ => 0, g⟩ (fun r => (∀ c : Dev Cert.KernelAdamScan.nD,
      r.2.mem ((c.tc : Thread Cert.KernelAdamScan.nD Cert.KernelAdamScan.τ).loc Cert.KernelAdamScan.main_arg0) = m ((c.tc : Thread Cert.KernelAdamScan.nD Cert.KernelAdamScan.τ).loc Cert.KernelAdamScan.main_arg0)
      ∧ r.2.mem ((c.tc : Thread Cert.KernelAdamScan.nD Cert.KernelAdamScan.τ).loc Cert.KernelAdamScan.main_arg1) = m ((c.tc : Thread Cert.KernelAdamScan.nD Cert.KernelAdamScan.τ).loc Cert.KernelAdamScan.main_arg1)
      ∧ r.2.mem ((c.tc : Thread Cert.KernelAdamScan.nD Cert.KernelAdamScan.τ).loc Cert.KernelAdamScan.main_arg2) = m ((c.tc : Thread Cert.KernelAdamScan.nD Cert.KernelAdamScan.τ).loc Cert.KernelAdamScan.main_arg2)
      ∧ r.2.mem ((c.tc : Thread Cert.KernelAdamScan.nD Cert.KernelAdamScan.τ).loc Cert.KernelAdamScan.main_arg3) = m ((c.tc : Thread Cert.KernelAdamScan.nD Cert.KernelAdamScan.τ).loc Cert.KernelAdamScan.main_arg3))
      ∧ r.2.sem = fun _ => 0)

def quiescent_KernelAdamScanIdeal [hKernelAdamScanIdeal : Cert.KernelAdamScanIdeal.Facts] : Prop :=
  ∀ (m : (ℓ : Loc Cert.KernelAdamScanIdeal.nD Cert.KernelAdamScanIdeal.τ Cert.KernelAdamScanIdeal.sig) → Buf (Elt Ideal) ℓ) (g : Dev Cert.KernelAdamScanIdeal.nD → PrngReg), Pre_KernelAdamScanIdeal m →
    θ_run (Cert.KernelAdamScanIdeal.defs (F := Ideal)) (onTc (τ := Cert.KernelAdamScanIdeal.τ) (Cert.KernelAdamScanIdeal.main (F := Ideal))) ⟨m, fun _ => 0, g⟩ (fun r => (∀ c : Dev Cert.KernelAdamScanIdeal.nD,
      r.2.mem ((c.tc : Thread Cert.KernelAdamScanIdeal.nD Cert.KernelAdamScanIdeal.τ).loc Cert.KernelAdamScanIdeal.main_arg0) = m ((c.tc : Thread Cert.KernelAdamScanIdeal.nD Cert.KernelAdamScanIdeal.τ).loc Cert.KernelAdamScanIdeal.main_arg0)
      ∧ r.2.mem ((c.tc : Thread Cert.KernelAdamScanIdeal.nD Cert.KernelAdamScanIdeal.τ).loc Cert.KernelAdamScanIdeal.main_arg1) = m ((c.tc : Thread Cert.KernelAdamScanIdeal.nD Cert.KernelAdamScanIdeal.τ).loc Cert.KernelAdamScanIdeal.main_arg1)
      ∧ r.2.mem ((c.tc : Thread Cert.KernelAdamScanIdeal.nD Cert.KernelAdamScanIdeal.τ).loc Cert.KernelAdamScanIdeal.main_arg2) = m ((c.tc : Thread Cert.KernelAdamScanIdeal.nD Cert.KernelAdamScanIdeal.τ).loc Cert.KernelAdamScanIdeal.main_arg2)
      ∧ r.2.mem ((c.tc : Thread Cert.KernelAdamScanIdeal.nD Cert.KernelAdamScanIdeal.τ).loc Cert.KernelAdamScanIdeal.main_arg3) = m ((c.tc : Thread Cert.KernelAdamScanIdeal.nD Cert.KernelAdamScanIdeal.τ).loc Cert.KernelAdamScanIdeal.main_arg3))
      ∧ r.2.sem = fun _ => 0)

def quiescent_ReferenceAdamScanIdeal [hReferenceAdamScanIdeal : Cert.ReferenceAdamScanIdeal.Facts] : Prop :=
  ∀ (m : (ℓ : Loc Cert.ReferenceAdamScanIdeal.nD Cert.ReferenceAdamScanIdeal.τ Cert.ReferenceAdamScanIdeal.sig) → Buf (Elt Ideal) ℓ) (g : Dev Cert.ReferenceAdamScanIdeal.nD → PrngReg), Pre_ReferenceAdamScanIdeal m →
    θ_run (Cert.ReferenceAdamScanIdeal.defs (F := Ideal)) (onTc (τ := Cert.ReferenceAdamScanIdeal.τ) (Cert.ReferenceAdamScanIdeal.main (F := Ideal))) ⟨m, fun _ => 0, g⟩ (fun r => (∀ c : Dev Cert.ReferenceAdamScanIdeal.nD,
      r.2.mem ((c.tc : Thread Cert.ReferenceAdamScanIdeal.nD Cert.ReferenceAdamScanIdeal.τ).loc Cert.ReferenceAdamScanIdeal.main_arg0) = m ((c.tc : Thread Cert.ReferenceAdamScanIdeal.nD Cert.ReferenceAdamScanIdeal.τ).loc Cert.ReferenceAdamScanIdeal.main_arg0)
      ∧ r.2.mem ((c.tc : Thread Cert.ReferenceAdamScanIdeal.nD Cert.ReferenceAdamScanIdeal.τ).loc Cert.ReferenceAdamScanIdeal.main_arg1) = m ((c.tc : Thread Cert.ReferenceAdamScanIdeal.nD Cert.ReferenceAdamScanIdeal.τ).loc Cert.ReferenceAdamScanIdeal.main_arg1)
      ∧ r.2.mem ((c.tc : Thread Cert.ReferenceAdamScanIdeal.nD Cert.ReferenceAdamScanIdeal.τ).loc Cert.ReferenceAdamScanIdeal.main_arg2) = m ((c.tc : Thread Cert.ReferenceAdamScanIdeal.nD Cert.ReferenceAdamScanIdeal.τ).loc Cert.ReferenceAdamScanIdeal.main_arg2)
      ∧ r.2.mem ((c.tc : Thread Cert.ReferenceAdamScanIdeal.nD Cert.ReferenceAdamScanIdeal.τ).loc Cert.ReferenceAdamScanIdeal.main_arg3) = m ((c.tc : Thread Cert.ReferenceAdamScanIdeal.nD Cert.ReferenceAdamScanIdeal.τ).loc Cert.ReferenceAdamScanIdeal.main_arg3))
      ∧ r.2.sem = fun _ => 0)

def quiescent_KernelAdamGlu [hKernelAdamGlu : Cert.KernelAdamGlu.Facts] : Prop :=
  ∀ (m : (ℓ : Loc Cert.KernelAdamGlu.nD Cert.KernelAdamGlu.τ Cert.KernelAdamGlu.sig) → Buf (Elt Bits) ℓ) (g : Dev Cert.KernelAdamGlu.nD → PrngReg), Pre_KernelAdamGlu m →
    θ_run (Cert.KernelAdamGlu.defs (F := Bits)) (onTc (τ := Cert.KernelAdamGlu.τ) (Cert.KernelAdamGlu.main (F := Bits))) ⟨m, fun _ => 0, g⟩ (fun r => (∀ c : Dev Cert.KernelAdamGlu.nD,
      r.2.mem ((c.tc : Thread Cert.KernelAdamGlu.nD Cert.KernelAdamGlu.τ).loc Cert.KernelAdamGlu.main_arg0) = m ((c.tc : Thread Cert.KernelAdamGlu.nD Cert.KernelAdamGlu.τ).loc Cert.KernelAdamGlu.main_arg0)
      ∧ r.2.mem ((c.tc : Thread Cert.KernelAdamGlu.nD Cert.KernelAdamGlu.τ).loc Cert.KernelAdamGlu.main_arg1) = m ((c.tc : Thread Cert.KernelAdamGlu.nD Cert.KernelAdamGlu.τ).loc Cert.KernelAdamGlu.main_arg1)
      ∧ r.2.mem ((c.tc : Thread Cert.KernelAdamGlu.nD Cert.KernelAdamGlu.τ).loc Cert.KernelAdamGlu.main_arg2) = m ((c.tc : Thread Cert.KernelAdamGlu.nD Cert.KernelAdamGlu.τ).loc Cert.KernelAdamGlu.main_arg2)
      ∧ r.2.mem ((c.tc : Thread Cert.KernelAdamGlu.nD Cert.KernelAdamGlu.τ).loc Cert.KernelAdamGlu.main_arg3) = m ((c.tc : Thread Cert.KernelAdamGlu.nD Cert.KernelAdamGlu.τ).loc Cert.KernelAdamGlu.main_arg3))
      ∧ r.2.sem = fun _ => 0)

def quiescent_KernelAdamGluIdeal [hKernelAdamGluIdeal : Cert.KernelAdamGluIdeal.Facts] : Prop :=
  ∀ (m : (ℓ : Loc Cert.KernelAdamGluIdeal.nD Cert.KernelAdamGluIdeal.τ Cert.KernelAdamGluIdeal.sig) → Buf (Elt Ideal) ℓ) (g : Dev Cert.KernelAdamGluIdeal.nD → PrngReg), Pre_KernelAdamGluIdeal m →
    θ_run (Cert.KernelAdamGluIdeal.defs (F := Ideal)) (onTc (τ := Cert.KernelAdamGluIdeal.τ) (Cert.KernelAdamGluIdeal.main (F := Ideal))) ⟨m, fun _ => 0, g⟩ (fun r => (∀ c : Dev Cert.KernelAdamGluIdeal.nD,
      r.2.mem ((c.tc : Thread Cert.KernelAdamGluIdeal.nD Cert.KernelAdamGluIdeal.τ).loc Cert.KernelAdamGluIdeal.main_arg0) = m ((c.tc : Thread Cert.KernelAdamGluIdeal.nD Cert.KernelAdamGluIdeal.τ).loc Cert.KernelAdamGluIdeal.main_arg0)
      ∧ r.2.mem ((c.tc : Thread Cert.KernelAdamGluIdeal.nD Cert.KernelAdamGluIdeal.τ).loc Cert.KernelAdamGluIdeal.main_arg1) = m ((c.tc : Thread Cert.KernelAdamGluIdeal.nD Cert.KernelAdamGluIdeal.τ).loc Cert.KernelAdamGluIdeal.main_arg1)
      ∧ r.2.mem ((c.tc : Thread Cert.KernelAdamGluIdeal.nD Cert.KernelAdamGluIdeal.τ).loc Cert.KernelAdamGluIdeal.main_arg2) = m ((c.tc : Thread Cert.KernelAdamGluIdeal.nD Cert.KernelAdamGluIdeal.τ).loc Cert.KernelAdamGluIdeal.main_arg2)
      ∧ r.2.mem ((c.tc : Thread Cert.KernelAdamGluIdeal.nD Cert.KernelAdamGluIdeal.τ).loc Cert.KernelAdamGluIdeal.main_arg3) = m ((c.tc : Thread Cert.KernelAdamGluIdeal.nD Cert.KernelAdamGluIdeal.τ).loc Cert.KernelAdamGluIdeal.main_arg3))
      ∧ r.2.sem = fun _ => 0)

def quiescent_ReferenceAdamGluIdeal [hReferenceAdamGluIdeal : Cert.ReferenceAdamGluIdeal.Facts] : Prop :=
  ∀ (m : (ℓ : Loc Cert.ReferenceAdamGluIdeal.nD Cert.ReferenceAdamGluIdeal.τ Cert.ReferenceAdamGluIdeal.sig) → Buf (Elt Ideal) ℓ) (g : Dev Cert.ReferenceAdamGluIdeal.nD → PrngReg), Pre_ReferenceAdamGluIdeal m →
    θ_run (Cert.ReferenceAdamGluIdeal.defs (F := Ideal)) (onTc (τ := Cert.ReferenceAdamGluIdeal.τ) (Cert.ReferenceAdamGluIdeal.main (F := Ideal))) ⟨m, fun _ => 0, g⟩ (fun r => (∀ c : Dev Cert.ReferenceAdamGluIdeal.nD,
      r.2.mem ((c.tc : Thread Cert.ReferenceAdamGluIdeal.nD Cert.ReferenceAdamGluIdeal.τ).loc Cert.ReferenceAdamGluIdeal.main_arg0) = m ((c.tc : Thread Cert.ReferenceAdamGluIdeal.nD Cert.ReferenceAdamGluIdeal.τ).loc Cert.ReferenceAdamGluIdeal.main_arg0)
      ∧ r.2.mem ((c.tc : Thread Cert.ReferenceAdamGluIdeal.nD Cert.ReferenceAdamGluIdeal.τ).loc Cert.ReferenceAdamGluIdeal.main_arg1) = m ((c.tc : Thread Cert.ReferenceAdamGluIdeal.nD Cert.ReferenceAdamGluIdeal.τ).loc Cert.ReferenceAdamGluIdeal.main_arg1)
      ∧ r.2.mem ((c.tc : Thread Cert.ReferenceAdamGluIdeal.nD Cert.ReferenceAdamGluIdeal.τ).loc Cert.ReferenceAdamGluIdeal.main_arg2) = m ((c.tc : Thread Cert.ReferenceAdamGluIdeal.nD Cert.ReferenceAdamGluIdeal.τ).loc Cert.ReferenceAdamGluIdeal.main_arg2)
      ∧ r.2.mem ((c.tc : Thread Cert.ReferenceAdamGluIdeal.nD Cert.ReferenceAdamGluIdeal.τ).loc Cert.ReferenceAdamGluIdeal.main_arg3) = m ((c.tc : Thread Cert.ReferenceAdamGluIdeal.nD Cert.ReferenceAdamGluIdeal.τ).loc Cert.ReferenceAdamGluIdeal.main_arg3))
      ∧ r.2.sem = fun _ => 0)

def preserves_Kernel_KernelIdeal : Prop :=
  IdealRules.named_const.Statement Cert.KernelIdeal.κ "scale2" .f32 0x3E16C740#32 (((Real.sqrt 96)⁻¹ * (Real.log 2)⁻¹ : ℝ) : EReal)
  ∧ IdealRules.named_const.Statement Cert.KernelIdeal.κ "scale" .f32 0x3DD105EC#32 (((Real.sqrt 96)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v51_2)) (v1 : (c : Dev Cert.KernelIdeal.nD) → Buf (Elt Ideal) ((c.tc : Thread Cert.KernelIdeal.nD Cert.KernelIdeal.τ).loc Cert.KernelIdeal.main_v51_0)) (v2 : (c : Dev Cert.KernelIdeal.nD) → Buf (Elt Ideal) ((c.tc : Thread Cert.KernelIdeal.nD Cert.KernelIdeal.τ).loc Cert.KernelIdeal.main_v51_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51_2) = v0 c
          ∧ r.2.mem ((c.tc : Thread Cert.KernelIdeal.nD Cert.KernelIdeal.τ).loc Cert.KernelIdeal.main_v51_0) = v1 c
          ∧ r.2.mem ((c.tc : Thread Cert.KernelIdeal.nD Cert.KernelIdeal.τ).loc Cert.KernelIdeal.main_v51_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_v68) = v1 c
          ∧ r.2.mem ((c.tc : Thread Cert.ReferenceIdeal.nD Cert.ReferenceIdeal.τ).loc Cert.ReferenceIdeal.main_v70) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_KernelUpDw_KernelUpDwIdeal : Prop :=
  True

def algebraic_KernelUpDwIdeal_ReferenceUpDwIdeal [hKernelUpDwIdeal : Cert.KernelUpDwIdeal.Facts] [hReferenceUpDwIdeal : Cert.ReferenceUpDwIdeal.Facts] : Prop :=
  ∀ (m : (ℓ : Loc Cert.KernelUpDwIdeal.nD Cert.KernelUpDwIdeal.τ Cert.KernelUpDwIdeal.sig) → Buf (Elt Ideal) ℓ) (g : Dev Cert.KernelUpDwIdeal.nD → PrngReg)
    (m' : (ℓ : Loc Cert.ReferenceUpDwIdeal.nD Cert.ReferenceUpDwIdeal.τ Cert.ReferenceUpDwIdeal.sig) → Buf (Elt Ideal) ℓ) (g' : Dev Cert.ReferenceUpDwIdeal.nD → PrngReg), Pre_KernelUpDwIdeal m →
    (∀ c : Dev Cert.KernelUpDwIdeal.nD,
      m' ((c.tc : Thread Cert.ReferenceUpDwIdeal.nD Cert.ReferenceUpDwIdeal.τ).loc Cert.ReferenceUpDwIdeal.main_arg0) = m ((c.tc : Thread Cert.KernelUpDwIdeal.nD Cert.KernelUpDwIdeal.τ).loc Cert.KernelUpDwIdeal.main_arg0)
      ∧ m' ((c.tc : Thread Cert.ReferenceUpDwIdeal.nD Cert.ReferenceUpDwIdeal.τ).loc Cert.ReferenceUpDwIdeal.main_arg1) = m ((c.tc : Thread Cert.KernelUpDwIdeal.nD Cert.KernelUpDwIdeal.τ).loc Cert.KernelUpDwIdeal.main_arg1)) →
    ∃ (v0 : (c : Dev Cert.KernelUpDwIdeal.nD) → Buf (Elt Ideal) ((c.tc : Thread Cert.KernelUpDwIdeal.nD Cert.KernelUpDwIdeal.τ).loc Cert.KernelUpDwIdeal.main_v4)),
      θ_run (Cert.KernelUpDwIdeal.defs (F := Ideal)) (onTc (τ := Cert.KernelUpDwIdeal.τ) (Cert.KernelUpDwIdeal.main (F := Ideal))) ⟨m, fun _ => 0, g⟩ (fun r => ∀ c : Dev Cert.KernelUpDwIdeal.nD,
          r.2.mem ((c.tc : Thread Cert.KernelUpDwIdeal.nD Cert.KernelUpDwIdeal.τ).loc Cert.KernelUpDwIdeal.main_v4) = v0 c
          ∧ r.2.mem ((c.tc : Thread Cert.KernelUpDwIdeal.nD Cert.KernelUpDwIdeal.τ).loc Cert.KernelUpDwIdeal.main_arg0) = m ((c.tc : Thread Cert.KernelUpDwIdeal.nD Cert.KernelUpDwIdeal.τ).loc Cert.KernelUpDwIdeal.main_arg0)
          ∧ r.2.mem ((c.tc : Thread Cert.KernelUpDwIdeal.nD Cert.KernelUpDwIdeal.τ).loc Cert.KernelUpDwIdeal.main_arg1) = m ((c.tc : Thread Cert.KernelUpDwIdeal.nD Cert.KernelUpDwIdeal.τ).loc Cert.KernelUpDwIdeal.main_arg1))
      ∧ θ_run (Cert.ReferenceUpDwIdeal.defs (F := Ideal)) (onTc (τ := Cert.ReferenceUpDwIdeal.τ) (Cert.ReferenceUpDwIdeal.main (F := Ideal))) ⟨m', fun _ => 0, g'⟩ (fun r => ∀ c : Dev Cert.ReferenceUpDwIdeal.nD,
          r.2.mem ((c.tc : Thread Cert.ReferenceUpDwIdeal.nD Cert.ReferenceUpDwIdeal.τ).loc Cert.ReferenceUpDwIdeal.main_v6) = v0 c
          ∧ r.2.mem ((c.tc : Thread Cert.ReferenceUpDwIdeal.nD Cert.ReferenceUpDwIdeal.τ).loc Cert.ReferenceUpDwIdeal.main_arg0) = m' ((c.tc : Thread Cert.ReferenceUpDwIdeal.nD Cert.ReferenceUpDwIdeal.τ).loc Cert.ReferenceUpDwIdeal.main_arg0)
          ∧ r.2.mem ((c.tc : Thread Cert.ReferenceUpDwIdeal.nD Cert.ReferenceUpDwIdeal.τ).loc Cert.ReferenceUpDwIdeal.main_arg1) = m' ((c.tc : Thread Cert.ReferenceUpDwIdeal.nD Cert.ReferenceUpDwIdeal.τ).loc Cert.ReferenceUpDwIdeal.main_arg1))

def preserves_KernelUpDxA_KernelUpDxAIdeal : Prop :=
  True

def algebraic_KernelUpDxAIdeal_ReferenceUpDxAIdeal [hKernelUpDxAIdeal : Cert.KernelUpDxAIdeal.Facts] [hReferenceUpDxAIdeal : Cert.ReferenceUpDxAIdeal.Facts] : Prop :=
  ∀ (m : (ℓ : Loc Cert.KernelUpDxAIdeal.nD Cert.KernelUpDxAIdeal.τ Cert.KernelUpDxAIdeal.sig) → Buf (Elt Ideal) ℓ) (g : Dev Cert.KernelUpDxAIdeal.nD → PrngReg)
    (m' : (ℓ : Loc Cert.ReferenceUpDxAIdeal.nD Cert.ReferenceUpDxAIdeal.τ Cert.ReferenceUpDxAIdeal.sig) → Buf (Elt Ideal) ℓ) (g' : Dev Cert.ReferenceUpDxAIdeal.nD → PrngReg), Pre_KernelUpDxAIdeal m →
    (∀ c : Dev Cert.KernelUpDxAIdeal.nD,
      m' ((c.tc : Thread Cert.ReferenceUpDxAIdeal.nD Cert.ReferenceUpDxAIdeal.τ).loc Cert.ReferenceUpDxAIdeal.main_arg0) = m ((c.tc : Thread Cert.KernelUpDxAIdeal.nD Cert.KernelUpDxAIdeal.τ).loc Cert.KernelUpDxAIdeal.main_arg0)
      ∧ m' ((c.tc : Thread Cert.ReferenceUpDxAIdeal.nD Cert.ReferenceUpDxAIdeal.τ).loc Cert.ReferenceUpDxAIdeal.main_arg1) = m ((c.tc : Thread Cert.KernelUpDxAIdeal.nD Cert.KernelUpDxAIdeal.τ).loc Cert.KernelUpDxAIdeal.main_arg1)) →
    ∃ (v0 : (c : Dev Cert.KernelUpDxAIdeal.nD) → Buf (Elt Ideal) ((c.tc : Thread Cert.KernelUpDxAIdeal.nD Cert.KernelUpDxAIdeal.τ).loc Cert.KernelUpDxAIdeal.main_v6)),
      θ_run (Cert.KernelUpDxAIdeal.defs (F := Ideal)) (onTc (τ := Cert.KernelUpDxAIdeal.τ) (Cert.KernelUpDxAIdeal.main (F := Ideal))) ⟨m, fun _ => 0, g⟩ (fun r => ∀ c : Dev Cert.KernelUpDxAIdeal.nD,
          r.2.mem ((c.tc : Thread Cert.KernelUpDxAIdeal.nD Cert.KernelUpDxAIdeal.τ).loc Cert.KernelUpDxAIdeal.main_v6) = v0 c
          ∧ r.2.mem ((c.tc : Thread Cert.KernelUpDxAIdeal.nD Cert.KernelUpDxAIdeal.τ).loc Cert.KernelUpDxAIdeal.main_arg0) = m ((c.tc : Thread Cert.KernelUpDxAIdeal.nD Cert.KernelUpDxAIdeal.τ).loc Cert.KernelUpDxAIdeal.main_arg0)
          ∧ r.2.mem ((c.tc : Thread Cert.KernelUpDxAIdeal.nD Cert.KernelUpDxAIdeal.τ).loc Cert.KernelUpDxAIdeal.main_arg1) = m ((c.tc : Thread Cert.KernelUpDxAIdeal.nD Cert.KernelUpDxAIdeal.τ).loc Cert.KernelUpDxAIdeal.main_arg1))
      ∧ θ_run (Cert.ReferenceUpDxAIdeal.defs (F := Ideal)) (onTc (τ := Cert.ReferenceUpDxAIdeal.τ) (Cert.ReferenceUpDxAIdeal.main (F := Ideal))) ⟨m', fun _ => 0, g'⟩ (fun r => ∀ c : Dev Cert.ReferenceUpDxAIdeal.nD,
          r.2.mem ((c.tc : Thread Cert.ReferenceUpDxAIdeal.nD Cert.ReferenceUpDxAIdeal.τ).loc Cert.ReferenceUpDxAIdeal.main_v3) = v0 c
          ∧ r.2.mem ((c.tc : Thread Cert.ReferenceUpDxAIdeal.nD Cert.ReferenceUpDxAIdeal.τ).loc Cert.ReferenceUpDxAIdeal.main_arg0) = m' ((c.tc : Thread Cert.ReferenceUpDxAIdeal.nD Cert.ReferenceUpDxAIdeal.τ).loc Cert.ReferenceUpDxAIdeal.main_arg0)
          ∧ r.2.mem ((c.tc : Thread Cert.ReferenceUpDxAIdeal.nD Cert.ReferenceUpDxAIdeal.τ).loc Cert.ReferenceUpDxAIdeal.main_arg1) = m' ((c.tc : Thread Cert.ReferenceUpDxAIdeal.nD Cert.ReferenceUpDxAIdeal.τ).loc Cert.ReferenceUpDxAIdeal.main_arg1))

def preserves_KernelUpDxB_KernelUpDxBIdeal : Prop :=
  True

def algebraic_KernelUpDxBIdeal_ReferenceUpDxBIdeal [hKernelUpDxBIdeal : Cert.KernelUpDxBIdeal.Facts] [hReferenceUpDxBIdeal : Cert.ReferenceUpDxBIdeal.Facts] : Prop :=
  ∀ (m : (ℓ : Loc Cert.KernelUpDxBIdeal.nD Cert.KernelUpDxBIdeal.τ Cert.KernelUpDxBIdeal.sig) → Buf (Elt Ideal) ℓ) (g : Dev Cert.KernelUpDxBIdeal.nD → PrngReg)
    (m' : (ℓ : Loc Cert.ReferenceUpDxBIdeal.nD Cert.ReferenceUpDxBIdeal.τ Cert.ReferenceUpDxBIdeal.sig) → Buf (Elt Ideal) ℓ) (g' : Dev Cert.ReferenceUpDxBIdeal.nD → PrngReg), Pre_KernelUpDxBIdeal m →
    (∀ c : Dev Cert.KernelUpDxBIdeal.nD,
      m' ((c.tc : Thread Cert.ReferenceUpDxBIdeal.nD Cert.ReferenceUpDxBIdeal.τ).loc Cert.ReferenceUpDxBIdeal.main_arg0) = m ((c.tc : Thread Cert.KernelUpDxBIdeal.nD Cert.KernelUpDxBIdeal.τ).loc Cert.KernelUpDxBIdeal.main_arg0)
      ∧ m' ((c.tc : Thread Cert.ReferenceUpDxBIdeal.nD Cert.ReferenceUpDxBIdeal.τ).loc Cert.ReferenceUpDxBIdeal.main_arg1) = m ((c.tc : Thread Cert.KernelUpDxBIdeal.nD Cert.KernelUpDxBIdeal.τ).loc Cert.KernelUpDxBIdeal.main_arg1)
      ∧ m' ((c.tc : Thread Cert.ReferenceUpDxBIdeal.nD Cert.ReferenceUpDxBIdeal.τ).loc Cert.ReferenceUpDxBIdeal.main_arg2) = m ((c.tc : Thread Cert.KernelUpDxBIdeal.nD Cert.KernelUpDxBIdeal.τ).loc Cert.KernelUpDxBIdeal.main_arg2)) →
    ∃ (v0 : (c : Dev Cert.KernelUpDxBIdeal.nD) → Buf (Elt Ideal) ((c.tc : Thread Cert.KernelUpDxBIdeal.nD Cert.KernelUpDxBIdeal.τ).loc Cert.KernelUpDxBIdeal.main_v6)),
      θ_run (Cert.KernelUpDxBIdeal.defs (F := Ideal)) (onTc (τ := Cert.KernelUpDxBIdeal.τ) (Cert.KernelUpDxBIdeal.main (F := Ideal))) ⟨m, fun _ => 0, g⟩ (fun r => ∀ c : Dev Cert.KernelUpDxBIdeal.nD,
          r.2.mem ((c.tc : Thread Cert.KernelUpDxBIdeal.nD Cert.KernelUpDxBIdeal.τ).loc Cert.KernelUpDxBIdeal.main_v6) = v0 c
          ∧ r.2.mem ((c.tc : Thread Cert.KernelUpDxBIdeal.nD Cert.KernelUpDxBIdeal.τ).loc Cert.KernelUpDxBIdeal.main_arg0) = m ((c.tc : Thread Cert.KernelUpDxBIdeal.nD Cert.KernelUpDxBIdeal.τ).loc Cert.KernelUpDxBIdeal.main_arg0)
          ∧ r.2.mem ((c.tc : Thread Cert.KernelUpDxBIdeal.nD Cert.KernelUpDxBIdeal.τ).loc Cert.KernelUpDxBIdeal.main_arg1) = m ((c.tc : Thread Cert.KernelUpDxBIdeal.nD Cert.KernelUpDxBIdeal.τ).loc Cert.KernelUpDxBIdeal.main_arg1)
          ∧ r.2.mem ((c.tc : Thread Cert.KernelUpDxBIdeal.nD Cert.KernelUpDxBIdeal.τ).loc Cert.KernelUpDxBIdeal.main_arg2) = m ((c.tc : Thread Cert.KernelUpDxBIdeal.nD Cert.KernelUpDxBIdeal.τ).loc Cert.KernelUpDxBIdeal.main_arg2))
      ∧ θ_run (Cert.ReferenceUpDxBIdeal.defs (F := Ideal)) (onTc (τ := Cert.ReferenceUpDxBIdeal.τ) (Cert.ReferenceUpDxBIdeal.main (F := Ideal))) ⟨m', fun _ => 0, g'⟩ (fun r => ∀ c : Dev Cert.ReferenceUpDxBIdeal.nD,
          r.2.mem ((c.tc : Thread Cert.ReferenceUpDxBIdeal.nD Cert.ReferenceUpDxBIdeal.τ).loc Cert.ReferenceUpDxBIdeal.main_v4) = v0 c
          ∧ r.2.mem ((c.tc : Thread Cert.ReferenceUpDxBIdeal.nD Cert.ReferenceUpDxBIdeal.τ).loc Cert.ReferenceUpDxBIdeal.main_arg0) = m' ((c.tc : Thread Cert.ReferenceUpDxBIdeal.nD Cert.ReferenceUpDxBIdeal.τ).loc Cert.ReferenceUpDxBIdeal.main_arg0)
          ∧ r.2.mem ((c.tc : Thread Cert.ReferenceUpDxBIdeal.nD Cert.ReferenceUpDxBIdeal.τ).loc Cert.ReferenceUpDxBIdeal.main_arg1) = m' ((c.tc : Thread Cert.ReferenceUpDxBIdeal.nD Cert.ReferenceUpDxBIdeal.τ).loc Cert.ReferenceUpDxBIdeal.main_arg1)
          ∧ r.2.mem ((c.tc : Thread Cert.ReferenceUpDxBIdeal.nD Cert.ReferenceUpDxBIdeal.τ).loc Cert.ReferenceUpDxBIdeal.main_arg2) = m' ((c.tc : Thread Cert.ReferenceUpDxBIdeal.nD Cert.ReferenceUpDxBIdeal.τ).loc Cert.ReferenceUpDxBIdeal.main_arg2))

def preserves_KernelDownDx_KernelDownDxIdeal : Prop :=
  True

def algebraic_KernelDownDxIdeal_ReferenceDownDxIdeal [hKernelDownDxIdeal : Cert.KernelDownDxIdeal.Facts] [hReferenceDownDxIdeal : Cert.ReferenceDownDxIdeal.Facts] : Prop :=
  ∀ (m : (ℓ : Loc Cert.KernelDownDxIdeal.nD Cert.KernelDownDxIdeal.τ Cert.KernelDownDxIdeal.sig) → Buf (Elt Ideal) ℓ) (g : Dev Cert.KernelDownDxIdeal.nD → PrngReg)
    (m' : (ℓ : Loc Cert.ReferenceDownDxIdeal.nD Cert.ReferenceDownDxIdeal.τ Cert.ReferenceDownDxIdeal.sig) → Buf (Elt Ideal) ℓ) (g' : Dev Cert.ReferenceDownDxIdeal.nD → PrngReg), Pre_KernelDownDxIdeal m →
    (∀ c : Dev Cert.KernelDownDxIdeal.nD,
      m' ((c.tc : Thread Cert.ReferenceDownDxIdeal.nD Cert.ReferenceDownDxIdeal.τ).loc Cert.ReferenceDownDxIdeal.main_arg0) = m ((c.tc : Thread Cert.KernelDownDxIdeal.nD Cert.KernelDownDxIdeal.τ).loc Cert.KernelDownDxIdeal.main_arg0)
      ∧ m' ((c.tc : Thread Cert.ReferenceDownDxIdeal.nD Cert.ReferenceDownDxIdeal.τ).loc Cert.ReferenceDownDxIdeal.main_arg1) = m ((c.tc : Thread Cert.KernelDownDxIdeal.nD Cert.KernelDownDxIdeal.τ).loc Cert.KernelDownDxIdeal.main_arg1)) →
    ∃ (v0 : (c : Dev Cert.KernelDownDxIdeal.nD) → Buf (Elt Ideal) ((c.tc : Thread Cert.KernelDownDxIdeal.nD Cert.KernelDownDxIdeal.τ).loc Cert.KernelDownDxIdeal.main_v3)),
      θ_run (Cert.KernelDownDxIdeal.defs (F := Ideal)) (onTc (τ := Cert.KernelDownDxIdeal.τ) (Cert.KernelDownDxIdeal.main (F := Ideal))) ⟨m, fun _ => 0, g⟩ (fun r => ∀ c : Dev Cert.KernelDownDxIdeal.nD,
          r.2.mem ((c.tc : Thread Cert.KernelDownDxIdeal.nD Cert.KernelDownDxIdeal.τ).loc Cert.KernelDownDxIdeal.main_v3) = v0 c
          ∧ r.2.mem ((c.tc : Thread Cert.KernelDownDxIdeal.nD Cert.KernelDownDxIdeal.τ).loc Cert.KernelDownDxIdeal.main_arg0) = m ((c.tc : Thread Cert.KernelDownDxIdeal.nD Cert.KernelDownDxIdeal.τ).loc Cert.KernelDownDxIdeal.main_arg0)
          ∧ r.2.mem ((c.tc : Thread Cert.KernelDownDxIdeal.nD Cert.KernelDownDxIdeal.τ).loc Cert.KernelDownDxIdeal.main_arg1) = m ((c.tc : Thread Cert.KernelDownDxIdeal.nD Cert.KernelDownDxIdeal.τ).loc Cert.KernelDownDxIdeal.main_arg1))
      ∧ θ_run (Cert.ReferenceDownDxIdeal.defs (F := Ideal)) (onTc (τ := Cert.ReferenceDownDxIdeal.τ) (Cert.ReferenceDownDxIdeal.main (F := Ideal))) ⟨m', fun _ => 0, g'⟩ (fun r => ∀ c : Dev Cert.ReferenceDownDxIdeal.nD,
          r.2.mem ((c.tc : Thread Cert.ReferenceDownDxIdeal.nD Cert.ReferenceDownDxIdeal.τ).loc Cert.ReferenceDownDxIdeal.main_v4) = v0 c
          ∧ r.2.mem ((c.tc : Thread Cert.ReferenceDownDxIdeal.nD Cert.ReferenceDownDxIdeal.τ).loc Cert.ReferenceDownDxIdeal.main_arg0) = m' ((c.tc : Thread Cert.ReferenceDownDxIdeal.nD Cert.ReferenceDownDxIdeal.τ).loc Cert.ReferenceDownDxIdeal.main_arg0)
          ∧ r.2.mem ((c.tc : Thread Cert.ReferenceDownDxIdeal.nD Cert.ReferenceDownDxIdeal.τ).loc Cert.ReferenceDownDxIdeal.main_arg1) = m' ((c.tc : Thread Cert.ReferenceDownDxIdeal.nD Cert.ReferenceDownDxIdeal.τ).loc Cert.ReferenceDownDxIdeal.main_arg1))

def preserves_KernelDownDw_KernelDownDwIdeal : Prop :=
  True

def algebraic_KernelDownDwIdeal_ReferenceDownDwIdeal [hKernelDownDwIdeal : Cert.KernelDownDwIdeal.Facts] [hReferenceDownDwIdeal : Cert.ReferenceDownDwIdeal.Facts] : Prop :=
  ∀ (m : (ℓ : Loc Cert.KernelDownDwIdeal.nD Cert.KernelDownDwIdeal.τ Cert.KernelDownDwIdeal.sig) → Buf (Elt Ideal) ℓ) (g : Dev Cert.KernelDownDwIdeal.nD → PrngReg)
    (m' : (ℓ : Loc Cert.ReferenceDownDwIdeal.nD Cert.ReferenceDownDwIdeal.τ Cert.ReferenceDownDwIdeal.sig) → Buf (Elt Ideal) ℓ) (g' : Dev Cert.ReferenceDownDwIdeal.nD → PrngReg), Pre_KernelDownDwIdeal m →
    (∀ c : Dev Cert.KernelDownDwIdeal.nD,
      m' ((c.tc : Thread Cert.ReferenceDownDwIdeal.nD Cert.ReferenceDownDwIdeal.τ).loc Cert.ReferenceDownDwIdeal.main_arg0) = m ((c.tc : Thread Cert.KernelDownDwIdeal.nD Cert.KernelDownDwIdeal.τ).loc Cert.KernelDownDwIdeal.main_arg0)
      ∧ m' ((c.tc : Thread Cert.ReferenceDownDwIdeal.nD Cert.ReferenceDownDwIdeal.τ).loc Cert.ReferenceDownDwIdeal.main_arg1) = m ((c.tc : Thread Cert.KernelDownDwIdeal.nD Cert.KernelDownDwIdeal.τ).loc Cert.KernelDownDwIdeal.main_arg1)) →
    ∃ (v0 : (c : Dev Cert.KernelDownDwIdeal.nD) → Buf (Elt Ideal) ((c.tc : Thread Cert.KernelDownDwIdeal.nD Cert.KernelDownDwIdeal.τ).loc Cert.KernelDownDwIdeal.main_v4)),
      θ_run (Cert.KernelDownDwIdeal.defs (F := Ideal)) (onTc (τ := Cert.KernelDownDwIdeal.τ) (Cert.KernelDownDwIdeal.main (F := Ideal))) ⟨m, fun _ => 0, g⟩ (fun r => ∀ c : Dev Cert.KernelDownDwIdeal.nD,
          r.2.mem ((c.tc : Thread Cert.KernelDownDwIdeal.nD Cert.KernelDownDwIdeal.τ).loc Cert.KernelDownDwIdeal.main_v4) = v0 c
          ∧ r.2.mem ((c.tc : Thread Cert.KernelDownDwIdeal.nD Cert.KernelDownDwIdeal.τ).loc Cert.KernelDownDwIdeal.main_arg0) = m ((c.tc : Thread Cert.KernelDownDwIdeal.nD Cert.KernelDownDwIdeal.τ).loc Cert.KernelDownDwIdeal.main_arg0)
          ∧ r.2.mem ((c.tc : Thread Cert.KernelDownDwIdeal.nD Cert.KernelDownDwIdeal.τ).loc Cert.KernelDownDwIdeal.main_arg1) = m ((c.tc : Thread Cert.KernelDownDwIdeal.nD Cert.KernelDownDwIdeal.τ).loc Cert.KernelDownDwIdeal.main_arg1))
      ∧ θ_run (Cert.ReferenceDownDwIdeal.defs (F := Ideal)) (onTc (τ := Cert.ReferenceDownDwIdeal.τ) (Cert.ReferenceDownDwIdeal.main (F := Ideal))) ⟨m', fun _ => 0, g'⟩ (fun r => ∀ c : Dev Cert.ReferenceDownDwIdeal.nD,
          r.2.mem ((c.tc : Thread Cert.ReferenceDownDwIdeal.nD Cert.ReferenceDownDwIdeal.τ).loc Cert.ReferenceDownDwIdeal.main_v5) = v0 c
          ∧ r.2.mem ((c.tc : Thread Cert.ReferenceDownDwIdeal.nD Cert.ReferenceDownDwIdeal.τ).loc Cert.ReferenceDownDwIdeal.main_arg0) = m' ((c.tc : Thread Cert.ReferenceDownDwIdeal.nD Cert.ReferenceDownDwIdeal.τ).loc Cert.ReferenceDownDwIdeal.main_arg0)
          ∧ r.2.mem ((c.tc : Thread Cert.ReferenceDownDwIdeal.nD Cert.ReferenceDownDwIdeal.τ).loc Cert.ReferenceDownDwIdeal.main_arg1) = m' ((c.tc : Thread Cert.ReferenceDownDwIdeal.nD Cert.ReferenceDownDwIdeal.τ).loc Cert.ReferenceDownDwIdeal.main_arg1))

def preserves_KernelUp_KernelUpIdeal : Prop :=
  True

def algebraic_KernelUpIdeal_ReferenceUpIdeal [hKernelUpIdeal : Cert.KernelUpIdeal.Facts] [hReferenceUpIdeal : Cert.ReferenceUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg)
    (m' : (ℓ : Loc Cert.ReferenceUpIdeal.nD Cert.ReferenceUpIdeal.τ Cert.ReferenceUpIdeal.sig) → Buf (Elt Ideal) ℓ) (g' : Dev Cert.ReferenceUpIdeal.nD → PrngReg), Pre_KernelUpIdeal m →
    (∀ c : Dev Cert.KernelUpIdeal.nD,
      m' ((c.tc : Thread Cert.ReferenceUpIdeal.nD Cert.ReferenceUpIdeal.τ).loc Cert.ReferenceUpIdeal.main_arg0) = m ((c.tc : Thread Cert.KernelUpIdeal.nD Cert.KernelUpIdeal.τ).loc Cert.KernelUpIdeal.main_arg0)
      ∧ m' ((c.tc : Thread Cert.ReferenceUpIdeal.nD Cert.ReferenceUpIdeal.τ).loc Cert.ReferenceUpIdeal.main_arg1) = m ((c.tc : Thread Cert.KernelUpIdeal.nD Cert.KernelUpIdeal.τ).loc Cert.KernelUpIdeal.main_arg1)) →
    ∃ (v0 : (c : Dev Cert.KernelUpIdeal.nD) → Buf (Elt Ideal) ((c.tc : Thread Cert.KernelUpIdeal.nD Cert.KernelUpIdeal.τ).loc Cert.KernelUpIdeal.main_v4)),
      θ_run (Cert.KernelUpIdeal.defs (F := Ideal)) (onTc (τ := Cert.KernelUpIdeal.τ) (Cert.KernelUpIdeal.main (F := Ideal))) ⟨m, fun _ => 0, g⟩ (fun r => ∀ c : Dev Cert.KernelUpIdeal.nD,
          r.2.mem ((c.tc : Thread Cert.KernelUpIdeal.nD Cert.KernelUpIdeal.τ).loc Cert.KernelUpIdeal.main_v4) = v0 c
          ∧ r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
          ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1))
      ∧ θ_run (Cert.ReferenceUpIdeal.defs (F := Ideal)) (onTc (τ := Cert.ReferenceUpIdeal.τ) (Cert.ReferenceUpIdeal.main (F := Ideal))) ⟨m', fun _ => 0, g'⟩ (fun r => ∀ c : Dev Cert.ReferenceUpIdeal.nD,
          r.2.mem ((c.tc : Thread Cert.ReferenceUpIdeal.nD Cert.ReferenceUpIdeal.τ).loc Cert.ReferenceUpIdeal.main_v2) = v0 c
          ∧ r.2.mem ((c.tc : Thread Cert.ReferenceUpIdeal.nD Cert.ReferenceUpIdeal.τ).loc Cert.ReferenceUpIdeal.main_arg0) = m' ((c.tc : Thread Cert.ReferenceUpIdeal.nD Cert.ReferenceUpIdeal.τ).loc Cert.ReferenceUpIdeal.main_arg0)
          ∧ r.2.mem ((c.tc : Thread Cert.ReferenceUpIdeal.nD Cert.ReferenceUpIdeal.τ).loc Cert.ReferenceUpIdeal.main_arg1) = m' ((c.tc : Thread Cert.ReferenceUpIdeal.nD Cert.ReferenceUpIdeal.τ).loc Cert.ReferenceUpIdeal.main_arg1))

def preserves_KernelDown_KernelDownIdeal : Prop :=
  True

def algebraic_KernelDownIdeal_ReferenceDownIdeal [hKernelDownIdeal : Cert.KernelDownIdeal.Facts] [hReferenceDownIdeal : Cert.ReferenceDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg)
    (m' : (ℓ : Loc Cert.ReferenceDownIdeal.nD Cert.ReferenceDownIdeal.τ Cert.ReferenceDownIdeal.sig) → Buf (Elt Ideal) ℓ) (g' : Dev Cert.ReferenceDownIdeal.nD → PrngReg), Pre_KernelDownIdeal m →
    (∀ c : Dev Cert.KernelDownIdeal.nD,
      m' ((c.tc : Thread Cert.ReferenceDownIdeal.nD Cert.ReferenceDownIdeal.τ).loc Cert.ReferenceDownIdeal.main_arg0) = m ((c.tc : Thread Cert.KernelDownIdeal.nD Cert.KernelDownIdeal.τ).loc Cert.KernelDownIdeal.main_arg0)
      ∧ m' ((c.tc : Thread Cert.ReferenceDownIdeal.nD Cert.ReferenceDownIdeal.τ).loc Cert.ReferenceDownIdeal.main_arg1) = m ((c.tc : Thread Cert.KernelDownIdeal.nD Cert.KernelDownIdeal.τ).loc Cert.KernelDownIdeal.main_arg1)
      ∧ m' ((c.tc : Thread Cert.ReferenceDownIdeal.nD Cert.ReferenceDownIdeal.τ).loc Cert.ReferenceDownIdeal.main_arg2) = m ((c.tc : Thread Cert.KernelDownIdeal.nD Cert.KernelDownIdeal.τ).loc Cert.KernelDownIdeal.main_arg2)) →
    ∃ (v0 : (c : Dev Cert.KernelDownIdeal.nD) → Buf (Elt Ideal) ((c.tc : Thread Cert.KernelDownIdeal.nD Cert.KernelDownIdeal.τ).loc Cert.KernelDownIdeal.main_v5)),
      θ_run (Cert.KernelDownIdeal.defs (F := Ideal)) (onTc (τ := Cert.KernelDownIdeal.τ) (Cert.KernelDownIdeal.main (F := Ideal))) ⟨m, fun _ => 0, g⟩ (fun r => ∀ c : Dev Cert.KernelDownIdeal.nD,
          r.2.mem ((c.tc : Thread Cert.KernelDownIdeal.nD Cert.KernelDownIdeal.τ).loc Cert.KernelDownIdeal.main_v5) = v0 c
          ∧ r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
          ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
          ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2))
      ∧ θ_run (Cert.ReferenceDownIdeal.defs (F := Ideal)) (onTc (τ := Cert.ReferenceDownIdeal.τ) (Cert.ReferenceDownIdeal.main (F := Ideal))) ⟨m', fun _ => 0, g'⟩ (fun r => ∀ c : Dev Cert.ReferenceDownIdeal.nD,
          r.2.mem ((c.tc : Thread Cert.ReferenceDownIdeal.nD Cert.ReferenceDownIdeal.τ).loc Cert.ReferenceDownIdeal.main_v1) = v0 c
          ∧ r.2.mem ((c.tc : Thread Cert.ReferenceDownIdeal.nD Cert.ReferenceDownIdeal.τ).loc Cert.ReferenceDownIdeal.main_arg0) = m' ((c.tc : Thread Cert.ReferenceDownIdeal.nD Cert.ReferenceDownIdeal.τ).loc Cert.ReferenceDownIdeal.main_arg0)
          ∧ r.2.mem ((c.tc : Thread Cert.ReferenceDownIdeal.nD Cert.ReferenceDownIdeal.τ).loc Cert.ReferenceDownIdeal.main_arg1) = m' ((c.tc : Thread Cert.ReferenceDownIdeal.nD Cert.ReferenceDownIdeal.τ).loc Cert.ReferenceDownIdeal.main_arg1)
          ∧ r.2.mem ((c.tc : Thread Cert.ReferenceDownIdeal.nD Cert.ReferenceDownIdeal.τ).loc Cert.ReferenceDownIdeal.main_arg2) = m' ((c.tc : Thread Cert.ReferenceDownIdeal.nD Cert.ReferenceDownIdeal.τ).loc Cert.ReferenceDownIdeal.main_arg2))

def preserves_KernelOutDx_KernelOutDxIdeal : Prop :=
  True

def algebraic_KernelOutDxIdeal_ReferenceOutDxIdeal [hKernelOutDxIdeal : Cert.KernelOutDxIdeal.Facts] [hReferenceOutDxIdeal : Cert.ReferenceOutDxIdeal.Facts] : Prop :=
  ∀ (m : (ℓ : Loc Cert.KernelOutDxIdeal.nD Cert.KernelOutDxIdeal.τ Cert.KernelOutDxIdeal.sig) → Buf (Elt Ideal) ℓ) (g : Dev Cert.KernelOutDxIdeal.nD → PrngReg)
    (m' : (ℓ : Loc Cert.ReferenceOutDxIdeal.nD Cert.ReferenceOutDxIdeal.τ Cert.ReferenceOutDxIdeal.sig) → Buf (Elt Ideal) ℓ) (g' : Dev Cert.ReferenceOutDxIdeal.nD → PrngReg), Pre_KernelOutDxIdeal m →
    (∀ c : Dev Cert.KernelOutDxIdeal.nD,
      m' ((c.tc : Thread Cert.ReferenceOutDxIdeal.nD Cert.ReferenceOutDxIdeal.τ).loc Cert.ReferenceOutDxIdeal.main_arg0) = m ((c.tc : Thread Cert.KernelOutDxIdeal.nD Cert.KernelOutDxIdeal.τ).loc Cert.KernelOutDxIdeal.main_arg0)
      ∧ m' ((c.tc : Thread Cert.ReferenceOutDxIdeal.nD Cert.ReferenceOutDxIdeal.τ).loc Cert.ReferenceOutDxIdeal.main_arg1) = m ((c.tc : Thread Cert.KernelOutDxIdeal.nD Cert.KernelOutDxIdeal.τ).loc Cert.KernelOutDxIdeal.main_arg1)) →
    ∃ (v0 : (c : Dev Cert.KernelOutDxIdeal.nD) → Buf (Elt Ideal) ((c.tc : Thread Cert.KernelOutDxIdeal.nD Cert.KernelOutDxIdeal.τ).loc Cert.KernelOutDxIdeal.main_v2)),
      θ_run (Cert.KernelOutDxIdeal.defs (F := Ideal)) (onTc (τ := Cert.KernelOutDxIdeal.τ) (Cert.KernelOutDxIdeal.main (F := Ideal))) ⟨m, fun _ => 0, g⟩ (fun r => ∀ c : Dev Cert.KernelOutDxIdeal.nD,
          r.2.mem ((c.tc : Thread Cert.KernelOutDxIdeal.nD Cert.KernelOutDxIdeal.τ).loc Cert.KernelOutDxIdeal.main_v2) = v0 c
          ∧ r.2.mem ((c.tc : Thread Cert.KernelOutDxIdeal.nD Cert.KernelOutDxIdeal.τ).loc Cert.KernelOutDxIdeal.main_arg0) = m ((c.tc : Thread Cert.KernelOutDxIdeal.nD Cert.KernelOutDxIdeal.τ).loc Cert.KernelOutDxIdeal.main_arg0)
          ∧ r.2.mem ((c.tc : Thread Cert.KernelOutDxIdeal.nD Cert.KernelOutDxIdeal.τ).loc Cert.KernelOutDxIdeal.main_arg1) = m ((c.tc : Thread Cert.KernelOutDxIdeal.nD Cert.KernelOutDxIdeal.τ).loc Cert.KernelOutDxIdeal.main_arg1))
      ∧ θ_run (Cert.ReferenceOutDxIdeal.defs (F := Ideal)) (onTc (τ := Cert.ReferenceOutDxIdeal.τ) (Cert.ReferenceOutDxIdeal.main (F := Ideal))) ⟨m', fun _ => 0, g'⟩ (fun r => ∀ c : Dev Cert.ReferenceOutDxIdeal.nD,
          r.2.mem ((c.tc : Thread Cert.ReferenceOutDxIdeal.nD Cert.ReferenceOutDxIdeal.τ).loc Cert.ReferenceOutDxIdeal.main_v2) = v0 c
          ∧ r.2.mem ((c.tc : Thread Cert.ReferenceOutDxIdeal.nD Cert.ReferenceOutDxIdeal.τ).loc Cert.ReferenceOutDxIdeal.main_arg0) = m' ((c.tc : Thread Cert.ReferenceOutDxIdeal.nD Cert.ReferenceOutDxIdeal.τ).loc Cert.ReferenceOutDxIdeal.main_arg0)
          ∧ r.2.mem ((c.tc : Thread Cert.ReferenceOutDxIdeal.nD Cert.ReferenceOutDxIdeal.τ).loc Cert.ReferenceOutDxIdeal.main_arg1) = m' ((c.tc : Thread Cert.ReferenceOutDxIdeal.nD Cert.ReferenceOutDxIdeal.τ).loc Cert.ReferenceOutDxIdeal.main_arg1))

def preserves_KernelOutDw_KernelOutDwIdeal : Prop :=
  True

def algebraic_KernelOutDwIdeal_ReferenceOutDwIdeal [hKernelOutDwIdeal : Cert.KernelOutDwIdeal.Facts] [hReferenceOutDwIdeal : Cert.ReferenceOutDwIdeal.Facts] : Prop :=
  ∀ (m : (ℓ : Loc Cert.KernelOutDwIdeal.nD Cert.KernelOutDwIdeal.τ Cert.KernelOutDwIdeal.sig) → Buf (Elt Ideal) ℓ) (g : Dev Cert.KernelOutDwIdeal.nD → PrngReg)
    (m' : (ℓ : Loc Cert.ReferenceOutDwIdeal.nD Cert.ReferenceOutDwIdeal.τ Cert.ReferenceOutDwIdeal.sig) → Buf (Elt Ideal) ℓ) (g' : Dev Cert.ReferenceOutDwIdeal.nD → PrngReg), Pre_KernelOutDwIdeal m →
    (∀ c : Dev Cert.KernelOutDwIdeal.nD,
      m' ((c.tc : Thread Cert.ReferenceOutDwIdeal.nD Cert.ReferenceOutDwIdeal.τ).loc Cert.ReferenceOutDwIdeal.main_arg0) = m ((c.tc : Thread Cert.KernelOutDwIdeal.nD Cert.KernelOutDwIdeal.τ).loc Cert.KernelOutDwIdeal.main_arg0)
      ∧ m' ((c.tc : Thread Cert.ReferenceOutDwIdeal.nD Cert.ReferenceOutDwIdeal.τ).loc Cert.ReferenceOutDwIdeal.main_arg1) = m ((c.tc : Thread Cert.KernelOutDwIdeal.nD Cert.KernelOutDwIdeal.τ).loc Cert.KernelOutDwIdeal.main_arg1)) →
    ∃ (v0 : (c : Dev Cert.KernelOutDwIdeal.nD) → Buf (Elt Ideal) ((c.tc : Thread Cert.KernelOutDwIdeal.nD Cert.KernelOutDwIdeal.τ).loc Cert.KernelOutDwIdeal.main_v2)),
      θ_run (Cert.KernelOutDwIdeal.defs (F := Ideal)) (onTc (τ := Cert.KernelOutDwIdeal.τ) (Cert.KernelOutDwIdeal.main (F := Ideal))) ⟨m, fun _ => 0, g⟩ (fun r => ∀ c : Dev Cert.KernelOutDwIdeal.nD,
          r.2.mem ((c.tc : Thread Cert.KernelOutDwIdeal.nD Cert.KernelOutDwIdeal.τ).loc Cert.KernelOutDwIdeal.main_v2) = v0 c
          ∧ r.2.mem ((c.tc : Thread Cert.KernelOutDwIdeal.nD Cert.KernelOutDwIdeal.τ).loc Cert.KernelOutDwIdeal.main_arg0) = m ((c.tc : Thread Cert.KernelOutDwIdeal.nD Cert.KernelOutDwIdeal.τ).loc Cert.KernelOutDwIdeal.main_arg0)
          ∧ r.2.mem ((c.tc : Thread Cert.KernelOutDwIdeal.nD Cert.KernelOutDwIdeal.τ).loc Cert.KernelOutDwIdeal.main_arg1) = m ((c.tc : Thread Cert.KernelOutDwIdeal.nD Cert.KernelOutDwIdeal.τ).loc Cert.KernelOutDwIdeal.main_arg1))
      ∧ θ_run (Cert.ReferenceOutDwIdeal.defs (F := Ideal)) (onTc (τ := Cert.ReferenceOutDwIdeal.τ) (Cert.ReferenceOutDwIdeal.main (F := Ideal))) ⟨m', fun _ => 0, g'⟩ (fun r => ∀ c : Dev Cert.ReferenceOutDwIdeal.nD,
          r.2.mem ((c.tc : Thread Cert.ReferenceOutDwIdeal.nD Cert.ReferenceOutDwIdeal.τ).loc Cert.ReferenceOutDwIdeal.main_v3) = v0 c
          ∧ r.2.mem ((c.tc : Thread Cert.ReferenceOutDwIdeal.nD Cert.ReferenceOutDwIdeal.τ).loc Cert.ReferenceOutDwIdeal.main_arg0) = m' ((c.tc : Thread Cert.ReferenceOutDwIdeal.nD Cert.ReferenceOutDwIdeal.τ).loc Cert.ReferenceOutDwIdeal.main_arg0)
          ∧ r.2.mem ((c.tc : Thread Cert.ReferenceOutDwIdeal.nD Cert.ReferenceOutDwIdeal.τ).loc Cert.ReferenceOutDwIdeal.main_arg1) = m' ((c.tc : Thread Cert.ReferenceOutDwIdeal.nD Cert.ReferenceOutDwIdeal.τ).loc Cert.ReferenceOutDwIdeal.main_arg1))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)
      ∧ m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2)) →
    ∃ (v0 : (c : Dev Cert.KernelOutIdeal.nD) → Buf (Elt Ideal) ((c.tc : Thread Cert.KernelOutIdeal.nD Cert.KernelOutIdeal.τ).loc Cert.KernelOutIdeal.main_v2)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v2) = v0 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v1) = v0 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1)
          ∧ r.2.mem ((c.tc : Thread Cert.ReferenceOutIdeal.nD Cert.ReferenceOutIdeal.τ).loc Cert.ReferenceOutIdeal.main_arg2) = m' ((c.tc : Thread Cert.ReferenceOutIdeal.nD Cert.ReferenceOutIdeal.τ).loc Cert.ReferenceOutIdeal.main_arg2))

def preserves_KernelInDx_KernelInDxIdeal : Prop :=
  True

def algebraic_KernelInDxIdeal_ReferenceInDxIdeal [hKernelInDxIdeal : Cert.KernelInDxIdeal.Facts] [hReferenceInDxIdeal : Cert.ReferenceInDxIdeal.Facts] : Prop :=
  ∀ (m : (ℓ : Loc Cert.KernelInDxIdeal.nD Cert.KernelInDxIdeal.τ Cert.KernelInDxIdeal.sig) → Buf (Elt Ideal) ℓ) (g : Dev Cert.KernelInDxIdeal.nD → PrngReg)
    (m' : (ℓ : Loc Cert.ReferenceInDxIdeal.nD Cert.ReferenceInDxIdeal.τ Cert.ReferenceInDxIdeal.sig) → Buf (Elt Ideal) ℓ) (g' : Dev Cert.ReferenceInDxIdeal.nD → PrngReg), Pre_KernelInDxIdeal m →
    (∀ c : Dev Cert.KernelInDxIdeal.nD,
      m' ((c.tc : Thread Cert.ReferenceInDxIdeal.nD Cert.ReferenceInDxIdeal.τ).loc Cert.ReferenceInDxIdeal.main_arg0) = m ((c.tc : Thread Cert.KernelInDxIdeal.nD Cert.KernelInDxIdeal.τ).loc Cert.KernelInDxIdeal.main_arg0)
      ∧ m' ((c.tc : Thread Cert.ReferenceInDxIdeal.nD Cert.ReferenceInDxIdeal.τ).loc Cert.ReferenceInDxIdeal.main_arg1) = m ((c.tc : Thread Cert.KernelInDxIdeal.nD Cert.KernelInDxIdeal.τ).loc Cert.KernelInDxIdeal.main_arg1)) →
    ∃ (v0 : (c : Dev Cert.KernelInDxIdeal.nD) → Buf (Elt Ideal) ((c.tc : Thread Cert.KernelInDxIdeal.nD Cert.KernelInDxIdeal.τ).loc Cert.KernelInDxIdeal.main_v1)),
      θ_run (Cert.KernelInDxIdeal.defs (F := Ideal)) (onTc (τ := Cert.KernelInDxIdeal.τ) (Cert.KernelInDxIdeal.main (F := Ideal))) ⟨m, fun _ => 0, g⟩ (fun r => ∀ c : Dev Cert.KernelInDxIdeal.nD,
          r.2.mem ((c.tc : Thread Cert.KernelInDxIdeal.nD Cert.KernelInDxIdeal.τ).loc Cert.KernelInDxIdeal.main_v1) = v0 c
          ∧ r.2.mem ((c.tc : Thread Cert.KernelInDxIdeal.nD Cert.KernelInDxIdeal.τ).loc Cert.KernelInDxIdeal.main_arg0) = m ((c.tc : Thread Cert.KernelInDxIdeal.nD Cert.KernelInDxIdeal.τ).loc Cert.KernelInDxIdeal.main_arg0)
          ∧ r.2.mem ((c.tc : Thread Cert.KernelInDxIdeal.nD Cert.KernelInDxIdeal.τ).loc Cert.KernelInDxIdeal.main_arg1) = m ((c.tc : Thread Cert.KernelInDxIdeal.nD Cert.KernelInDxIdeal.τ).loc Cert.KernelInDxIdeal.main_arg1))
      ∧ θ_run (Cert.ReferenceInDxIdeal.defs (F := Ideal)) (onTc (τ := Cert.ReferenceInDxIdeal.τ) (Cert.ReferenceInDxIdeal.main (F := Ideal))) ⟨m', fun _ => 0, g'⟩ (fun r => ∀ c : Dev Cert.ReferenceInDxIdeal.nD,
          r.2.mem ((c.tc : Thread Cert.ReferenceInDxIdeal.nD Cert.ReferenceInDxIdeal.τ).loc Cert.ReferenceInDxIdeal.main_v2) = v0 c
          ∧ r.2.mem ((c.tc : Thread Cert.ReferenceInDxIdeal.nD Cert.ReferenceInDxIdeal.τ).loc Cert.ReferenceInDxIdeal.main_arg0) = m' ((c.tc : Thread Cert.ReferenceInDxIdeal.nD Cert.ReferenceInDxIdeal.τ).loc Cert.ReferenceInDxIdeal.main_arg0)
          ∧ r.2.mem ((c.tc : Thread Cert.ReferenceInDxIdeal.nD Cert.ReferenceInDxIdeal.τ).loc Cert.ReferenceInDxIdeal.main_arg1) = m' ((c.tc : Thread Cert.ReferenceInDxIdeal.nD Cert.ReferenceInDxIdeal.τ).loc Cert.ReferenceInDxIdeal.main_arg1))

def preserves_KernelInDw_KernelInDwIdeal : Prop :=
  True

def algebraic_KernelInDwIdeal_ReferenceInDwIdeal [hKernelInDwIdeal : Cert.KernelInDwIdeal.Facts] [hReferenceInDwIdeal : Cert.ReferenceInDwIdeal.Facts] : Prop :=
  ∀ (m : (ℓ : Loc Cert.KernelInDwIdeal.nD Cert.KernelInDwIdeal.τ Cert.KernelInDwIdeal.sig) → Buf (Elt Ideal) ℓ) (g : Dev Cert.KernelInDwIdeal.nD → PrngReg)
    (m' : (ℓ : Loc Cert.ReferenceInDwIdeal.nD Cert.ReferenceInDwIdeal.τ Cert.ReferenceInDwIdeal.sig) → Buf (Elt Ideal) ℓ) (g' : Dev Cert.ReferenceInDwIdeal.nD → PrngReg), Pre_KernelInDwIdeal m →
    (∀ c : Dev Cert.KernelInDwIdeal.nD,
      m' ((c.tc : Thread Cert.ReferenceInDwIdeal.nD Cert.ReferenceInDwIdeal.τ).loc Cert.ReferenceInDwIdeal.main_arg0) = m ((c.tc : Thread Cert.KernelInDwIdeal.nD Cert.KernelInDwIdeal.τ).loc Cert.KernelInDwIdeal.main_arg0)
      ∧ m' ((c.tc : Thread Cert.ReferenceInDwIdeal.nD Cert.ReferenceInDwIdeal.τ).loc Cert.ReferenceInDwIdeal.main_arg1) = m ((c.tc : Thread Cert.KernelInDwIdeal.nD Cert.KernelInDwIdeal.τ).loc Cert.KernelInDwIdeal.main_arg1)) →
    ∃ (v0 : (c : Dev Cert.KernelInDwIdeal.nD) → Buf (Elt Ideal) ((c.tc : Thread Cert.KernelInDwIdeal.nD Cert.KernelInDwIdeal.τ).loc Cert.KernelInDwIdeal.main_v1)),
      θ_run (Cert.KernelInDwIdeal.defs (F := Ideal)) (onTc (τ := Cert.KernelInDwIdeal.τ) (Cert.KernelInDwIdeal.main (F := Ideal))) ⟨m, fun _ => 0, g⟩ (fun r => ∀ c : Dev Cert.KernelInDwIdeal.nD,
          r.2.mem ((c.tc : Thread Cert.KernelInDwIdeal.nD Cert.KernelInDwIdeal.τ).loc Cert.KernelInDwIdeal.main_v1) = v0 c
          ∧ r.2.mem ((c.tc : Thread Cert.KernelInDwIdeal.nD Cert.KernelInDwIdeal.τ).loc Cert.KernelInDwIdeal.main_arg0) = m ((c.tc : Thread Cert.KernelInDwIdeal.nD Cert.KernelInDwIdeal.τ).loc Cert.KernelInDwIdeal.main_arg0)
          ∧ r.2.mem ((c.tc : Thread Cert.KernelInDwIdeal.nD Cert.KernelInDwIdeal.τ).loc Cert.KernelInDwIdeal.main_arg1) = m ((c.tc : Thread Cert.KernelInDwIdeal.nD Cert.KernelInDwIdeal.τ).loc Cert.KernelInDwIdeal.main_arg1))
      ∧ θ_run (Cert.ReferenceInDwIdeal.defs (F := Ideal)) (onTc (τ := Cert.ReferenceInDwIdeal.τ) (Cert.ReferenceInDwIdeal.main (F := Ideal))) ⟨m', fun _ => 0, g'⟩ (fun r => ∀ c : Dev Cert.ReferenceInDwIdeal.nD,
          r.2.mem ((c.tc : Thread Cert.ReferenceInDwIdeal.nD Cert.ReferenceInDwIdeal.τ).loc Cert.ReferenceInDwIdeal.main_v3) = v0 c
          ∧ r.2.mem ((c.tc : Thread Cert.ReferenceInDwIdeal.nD Cert.ReferenceInDwIdeal.τ).loc Cert.ReferenceInDwIdeal.main_arg0) = m' ((c.tc : Thread Cert.ReferenceInDwIdeal.nD Cert.ReferenceInDwIdeal.τ).loc Cert.ReferenceInDwIdeal.main_arg0)
          ∧ r.2.mem ((c.tc : Thread Cert.ReferenceInDwIdeal.nD Cert.ReferenceInDwIdeal.τ).loc Cert.ReferenceInDwIdeal.main_arg1) = m' ((c.tc : Thread Cert.ReferenceInDwIdeal.nD Cert.ReferenceInDwIdeal.τ).loc Cert.ReferenceInDwIdeal.main_arg1))

def preserves_KernelIn_KernelInIdeal : Prop :=
  True

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)) →
    ∃ (v0 : (c : Dev Cert.KernelInIdeal.nD) → Buf (Elt Ideal) ((c.tc : Thread Cert.KernelInIdeal.nD Cert.KernelInIdeal.τ).loc Cert.KernelInIdeal.main_v2)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v2) = v0 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v0) = v0 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1))

def preserves_KernelUqDx_KernelUqDxIdeal : Prop :=
  True

def algebraic_KernelUqDxIdeal_ReferenceUqDxIdeal [hKernelUqDxIdeal : Cert.KernelUqDxIdeal.Facts] [hReferenceUqDxIdeal : Cert.ReferenceUqDxIdeal.Facts] : Prop :=
  ∀ (m : (ℓ : Loc Cert.KernelUqDxIdeal.nD Cert.KernelUqDxIdeal.τ Cert.KernelUqDxIdeal.sig) → Buf (Elt Ideal) ℓ) (g : Dev Cert.KernelUqDxIdeal.nD → PrngReg)
    (m' : (ℓ : Loc Cert.ReferenceUqDxIdeal.nD Cert.ReferenceUqDxIdeal.τ Cert.ReferenceUqDxIdeal.sig) → Buf (Elt Ideal) ℓ) (g' : Dev Cert.ReferenceUqDxIdeal.nD → PrngReg), Pre_KernelUqDxIdeal m →
    (∀ c : Dev Cert.KernelUqDxIdeal.nD,
      m' ((c.tc : Thread Cert.ReferenceUqDxIdeal.nD Cert.ReferenceUqDxIdeal.τ).loc Cert.ReferenceUqDxIdeal.main_arg0) = m ((c.tc : Thread Cert.KernelUqDxIdeal.nD Cert.KernelUqDxIdeal.τ).loc Cert.KernelUqDxIdeal.main_arg0)
      ∧ m' ((c.tc : Thread Cert.ReferenceUqDxIdeal.nD Cert.ReferenceUqDxIdeal.τ).loc Cert.ReferenceUqDxIdeal.main_arg1) = m ((c.tc : Thread Cert.KernelUqDxIdeal.nD Cert.KernelUqDxIdeal.τ).loc Cert.KernelUqDxIdeal.main_arg1)) →
    ∃ (v0 : (c : Dev Cert.KernelUqDxIdeal.nD) → Buf (Elt Ideal) ((c.tc : Thread Cert.KernelUqDxIdeal.nD Cert.KernelUqDxIdeal.τ).loc Cert.KernelUqDxIdeal.main_v2)),
      θ_run (Cert.KernelUqDxIdeal.defs (F := Ideal)) (onTc (τ := Cert.KernelUqDxIdeal.τ) (Cert.KernelUqDxIdeal.main (F := Ideal))) ⟨m, fun _ => 0, g⟩ (fun r => ∀ c : Dev Cert.KernelUqDxIdeal.nD,
          r.2.mem ((c.tc : Thread Cert.KernelUqDxIdeal.nD Cert.KernelUqDxIdeal.τ).loc Cert.KernelUqDxIdeal.main_v2) = v0 c
          ∧ r.2.mem ((c.tc : Thread Cert.KernelUqDxIdeal.nD Cert.KernelUqDxIdeal.τ).loc Cert.KernelUqDxIdeal.main_arg0) = m ((c.tc : Thread Cert.KernelUqDxIdeal.nD Cert.KernelUqDxIdeal.τ).loc Cert.KernelUqDxIdeal.main_arg0)
          ∧ r.2.mem ((c.tc : Thread Cert.KernelUqDxIdeal.nD Cert.KernelUqDxIdeal.τ).loc Cert.KernelUqDxIdeal.main_arg1) = m ((c.tc : Thread Cert.KernelUqDxIdeal.nD Cert.KernelUqDxIdeal.τ).loc Cert.KernelUqDxIdeal.main_arg1))
      ∧ θ_run (Cert.ReferenceUqDxIdeal.defs (F := Ideal)) (onTc (τ := Cert.ReferenceUqDxIdeal.τ) (Cert.ReferenceUqDxIdeal.main (F := Ideal))) ⟨m', fun _ => 0, g'⟩ (fun r => ∀ c : Dev Cert.ReferenceUqDxIdeal.nD,
          r.2.mem ((c.tc : Thread Cert.ReferenceUqDxIdeal.nD Cert.ReferenceUqDxIdeal.τ).loc Cert.ReferenceUqDxIdeal.main_v2) = v0 c
          ∧ r.2.mem ((c.tc : Thread Cert.ReferenceUqDxIdeal.nD Cert.ReferenceUqDxIdeal.τ).loc Cert.ReferenceUqDxIdeal.main_arg0) = m' ((c.tc : Thread Cert.ReferenceUqDxIdeal.nD Cert.ReferenceUqDxIdeal.τ).loc Cert.ReferenceUqDxIdeal.main_arg0)
          ∧ r.2.mem ((c.tc : Thread Cert.ReferenceUqDxIdeal.nD Cert.ReferenceUqDxIdeal.τ).loc Cert.ReferenceUqDxIdeal.main_arg1) = m' ((c.tc : Thread Cert.ReferenceUqDxIdeal.nD Cert.ReferenceUqDxIdeal.τ).loc Cert.ReferenceUqDxIdeal.main_arg1))

def preserves_KernelUqDw_KernelUqDwIdeal : Prop :=
  True

def algebraic_KernelUqDwIdeal_ReferenceUqDwIdeal [hKernelUqDwIdeal : Cert.KernelUqDwIdeal.Facts] [hReferenceUqDwIdeal : Cert.ReferenceUqDwIdeal.Facts] : Prop :=
  ∀ (m : (ℓ : Loc Cert.KernelUqDwIdeal.nD Cert.KernelUqDwIdeal.τ Cert.KernelUqDwIdeal.sig) → Buf (Elt Ideal) ℓ) (g : Dev Cert.KernelUqDwIdeal.nD → PrngReg)
    (m' : (ℓ : Loc Cert.ReferenceUqDwIdeal.nD Cert.ReferenceUqDwIdeal.τ Cert.ReferenceUqDwIdeal.sig) → Buf (Elt Ideal) ℓ) (g' : Dev Cert.ReferenceUqDwIdeal.nD → PrngReg), Pre_KernelUqDwIdeal m →
    (∀ c : Dev Cert.KernelUqDwIdeal.nD,
      m' ((c.tc : Thread Cert.ReferenceUqDwIdeal.nD Cert.ReferenceUqDwIdeal.τ).loc Cert.ReferenceUqDwIdeal.main_arg0) = m ((c.tc : Thread Cert.KernelUqDwIdeal.nD Cert.KernelUqDwIdeal.τ).loc Cert.KernelUqDwIdeal.main_arg0)
      ∧ m' ((c.tc : Thread Cert.ReferenceUqDwIdeal.nD Cert.ReferenceUqDwIdeal.τ).loc Cert.ReferenceUqDwIdeal.main_arg1) = m ((c.tc : Thread Cert.KernelUqDwIdeal.nD Cert.KernelUqDwIdeal.τ).loc Cert.KernelUqDwIdeal.main_arg1)) →
    ∃ (v0 : (c : Dev Cert.KernelUqDwIdeal.nD) → Buf (Elt Ideal) ((c.tc : Thread Cert.KernelUqDwIdeal.nD Cert.KernelUqDwIdeal.τ).loc Cert.KernelUqDwIdeal.main_v2)),
      θ_run (Cert.KernelUqDwIdeal.defs (F := Ideal)) (onTc (τ := Cert.KernelUqDwIdeal.τ) (Cert.KernelUqDwIdeal.main (F := Ideal))) ⟨m, fun _ => 0, g⟩ (fun r => ∀ c : Dev Cert.KernelUqDwIdeal.nD,
          r.2.mem ((c.tc : Thread Cert.KernelUqDwIdeal.nD Cert.KernelUqDwIdeal.τ).loc Cert.KernelUqDwIdeal.main_v2) = v0 c
          ∧ r.2.mem ((c.tc : Thread Cert.KernelUqDwIdeal.nD Cert.KernelUqDwIdeal.τ).loc Cert.KernelUqDwIdeal.main_arg0) = m ((c.tc : Thread Cert.KernelUqDwIdeal.nD Cert.KernelUqDwIdeal.τ).loc Cert.KernelUqDwIdeal.main_arg0)
          ∧ r.2.mem ((c.tc : Thread Cert.KernelUqDwIdeal.nD Cert.KernelUqDwIdeal.τ).loc Cert.KernelUqDwIdeal.main_arg1) = m ((c.tc : Thread Cert.KernelUqDwIdeal.nD Cert.KernelUqDwIdeal.τ).loc Cert.KernelUqDwIdeal.main_arg1))
      ∧ θ_run (Cert.ReferenceUqDwIdeal.defs (F := Ideal)) (onTc (τ := Cert.ReferenceUqDwIdeal.τ) (Cert.ReferenceUqDwIdeal.main (F := Ideal))) ⟨m', fun _ => 0, g'⟩ (fun r => ∀ c : Dev Cert.ReferenceUqDwIdeal.nD,
          r.2.mem ((c.tc : Thread Cert.ReferenceUqDwIdeal.nD Cert.ReferenceUqDwIdeal.τ).loc Cert.ReferenceUqDwIdeal.main_v3) = v0 c
          ∧ r.2.mem ((c.tc : Thread Cert.ReferenceUqDwIdeal.nD Cert.ReferenceUqDwIdeal.τ).loc Cert.ReferenceUqDwIdeal.main_arg0) = m' ((c.tc : Thread Cert.ReferenceUqDwIdeal.nD Cert.ReferenceUqDwIdeal.τ).loc Cert.ReferenceUqDwIdeal.main_arg0)
          ∧ r.2.mem ((c.tc : Thread Cert.ReferenceUqDwIdeal.nD Cert.ReferenceUqDwIdeal.τ).loc Cert.ReferenceUqDwIdeal.main_arg1) = m' ((c.tc : Thread Cert.ReferenceUqDwIdeal.nD Cert.ReferenceUqDwIdeal.τ).loc Cert.ReferenceUqDwIdeal.main_arg1))

def preserves_KernelUq_KernelUqIdeal : Prop :=
  True

def algebraic_KernelUqIdeal_ReferenceUqIdeal [hKernelUqIdeal : Cert.KernelUqIdeal.Facts] [hReferenceUqIdeal : Cert.ReferenceUqIdeal.Facts] : Prop :=
  ∀ (m : (ℓ : Loc Cert.KernelUqIdeal.nD Cert.KernelUqIdeal.τ Cert.KernelUqIdeal.sig) → Buf (Elt Ideal) ℓ) (g : Dev Cert.KernelUqIdeal.nD → PrngReg)
    (m' : (ℓ : Loc Cert.ReferenceUqIdeal.nD Cert.ReferenceUqIdeal.τ Cert.ReferenceUqIdeal.sig) → Buf (Elt Ideal) ℓ) (g' : Dev Cert.ReferenceUqIdeal.nD → PrngReg), Pre_KernelUqIdeal m →
    (∀ c : Dev Cert.KernelUqIdeal.nD,
      m' ((c.tc : Thread Cert.ReferenceUqIdeal.nD Cert.ReferenceUqIdeal.τ).loc Cert.ReferenceUqIdeal.main_arg0) = m ((c.tc : Thread Cert.KernelUqIdeal.nD Cert.KernelUqIdeal.τ).loc Cert.KernelUqIdeal.main_arg0)
      ∧ m' ((c.tc : Thread Cert.ReferenceUqIdeal.nD Cert.ReferenceUqIdeal.τ).loc Cert.ReferenceUqIdeal.main_arg1) = m ((c.tc : Thread Cert.KernelUqIdeal.nD Cert.KernelUqIdeal.τ).loc Cert.KernelUqIdeal.main_arg1)) →
    ∃ (v0 : (c : Dev Cert.KernelUqIdeal.nD) → Buf (Elt Ideal) ((c.tc : Thread Cert.KernelUqIdeal.nD Cert.KernelUqIdeal.τ).loc Cert.KernelUqIdeal.main_v2)),
      θ_run (Cert.KernelUqIdeal.defs (F := Ideal)) (onTc (τ := Cert.KernelUqIdeal.τ) (Cert.KernelUqIdeal.main (F := Ideal))) ⟨m, fun _ => 0, g⟩ (fun r => ∀ c : Dev Cert.KernelUqIdeal.nD,
          r.2.mem ((c.tc : Thread Cert.KernelUqIdeal.nD Cert.KernelUqIdeal.τ).loc Cert.KernelUqIdeal.main_v2) = v0 c
          ∧ r.2.mem ((c.tc : Thread Cert.KernelUqIdeal.nD Cert.KernelUqIdeal.τ).loc Cert.KernelUqIdeal.main_arg0) = m ((c.tc : Thread Cert.KernelUqIdeal.nD Cert.KernelUqIdeal.τ).loc Cert.KernelUqIdeal.main_arg0)
          ∧ r.2.mem ((c.tc : Thread Cert.KernelUqIdeal.nD Cert.KernelUqIdeal.τ).loc Cert.KernelUqIdeal.main_arg1) = m ((c.tc : Thread Cert.KernelUqIdeal.nD Cert.KernelUqIdeal.τ).loc Cert.KernelUqIdeal.main_arg1))
      ∧ θ_run (Cert.ReferenceUqIdeal.defs (F := Ideal)) (onTc (τ := Cert.ReferenceUqIdeal.τ) (Cert.ReferenceUqIdeal.main (F := Ideal))) ⟨m', fun _ => 0, g'⟩ (fun r => ∀ c : Dev Cert.ReferenceUqIdeal.nD,
          r.2.mem ((c.tc : Thread Cert.ReferenceUqIdeal.nD Cert.ReferenceUqIdeal.τ).loc Cert.ReferenceUqIdeal.main_v0) = v0 c
          ∧ r.2.mem ((c.tc : Thread Cert.ReferenceUqIdeal.nD Cert.ReferenceUqIdeal.τ).loc Cert.ReferenceUqIdeal.main_arg0) = m' ((c.tc : Thread Cert.ReferenceUqIdeal.nD Cert.ReferenceUqIdeal.τ).loc Cert.ReferenceUqIdeal.main_arg0)
          ∧ r.2.mem ((c.tc : Thread Cert.ReferenceUqIdeal.nD Cert.ReferenceUqIdeal.τ).loc Cert.ReferenceUqIdeal.main_arg1) = m' ((c.tc : Thread Cert.ReferenceUqIdeal.nD Cert.ReferenceUqIdeal.τ).loc Cert.ReferenceUqIdeal.main_arg1))

def preserves_KernelUkvDx_KernelUkvDxIdeal : Prop :=
  True

def algebraic_KernelUkvDxIdeal_ReferenceUkvDxIdeal [hKernelUkvDxIdeal : Cert.KernelUkvDxIdeal.Facts] [hReferenceUkvDxIdeal : Cert.ReferenceUkvDxIdeal.Facts] : Prop :=
  ∀ (m : (ℓ : Loc Cert.KernelUkvDxIdeal.nD Cert.KernelUkvDxIdeal.τ Cert.KernelUkvDxIdeal.sig) → Buf (Elt Ideal) ℓ) (g : Dev Cert.KernelUkvDxIdeal.nD → PrngReg)
    (m' : (ℓ : Loc Cert.ReferenceUkvDxIdeal.nD Cert.ReferenceUkvDxIdeal.τ Cert.ReferenceUkvDxIdeal.sig) → Buf (Elt Ideal) ℓ) (g' : Dev Cert.ReferenceUkvDxIdeal.nD → PrngReg), Pre_KernelUkvDxIdeal m →
    (∀ c : Dev Cert.KernelUkvDxIdeal.nD,
      m' ((c.tc : Thread Cert.ReferenceUkvDxIdeal.nD Cert.ReferenceUkvDxIdeal.τ).loc Cert.ReferenceUkvDxIdeal.main_arg0) = m ((c.tc : Thread Cert.KernelUkvDxIdeal.nD Cert.KernelUkvDxIdeal.τ).loc Cert.KernelUkvDxIdeal.main_arg0)
      ∧ m' ((c.tc : Thread Cert.ReferenceUkvDxIdeal.nD Cert.ReferenceUkvDxIdeal.τ).loc Cert.ReferenceUkvDxIdeal.main_arg1) = m ((c.tc : Thread Cert.KernelUkvDxIdeal.nD Cert.KernelUkvDxIdeal.τ).loc Cert.KernelUkvDxIdeal.main_arg1)) →
    ∃ (v0 : (c : Dev Cert.KernelUkvDxIdeal.nD) → Buf (Elt Ideal) ((c.tc : Thread Cert.KernelUkvDxIdeal.nD Cert.KernelUkvDxIdeal.τ).loc Cert.KernelUkvDxIdeal.main_v2)),
      θ_run (Cert.KernelUkvDxIdeal.defs (F := Ideal)) (onTc (τ := Cert.KernelUkvDxIdeal.τ) (Cert.KernelUkvDxIdeal.main (F := Ideal))) ⟨m, fun _ => 0, g⟩ (fun r => ∀ c : Dev Cert.KernelUkvDxIdeal.nD,
          r.2.mem ((c.tc : Thread Cert.KernelUkvDxIdeal.nD Cert.KernelUkvDxIdeal.τ).loc Cert.KernelUkvDxIdeal.main_v2) = v0 c
          ∧ r.2.mem ((c.tc : Thread Cert.KernelUkvDxIdeal.nD Cert.KernelUkvDxIdeal.τ).loc Cert.KernelUkvDxIdeal.main_arg0) = m ((c.tc : Thread Cert.KernelUkvDxIdeal.nD Cert.KernelUkvDxIdeal.τ).loc Cert.KernelUkvDxIdeal.main_arg0)
          ∧ r.2.mem ((c.tc : Thread Cert.KernelUkvDxIdeal.nD Cert.KernelUkvDxIdeal.τ).loc Cert.KernelUkvDxIdeal.main_arg1) = m ((c.tc : Thread Cert.KernelUkvDxIdeal.nD Cert.KernelUkvDxIdeal.τ).loc Cert.KernelUkvDxIdeal.main_arg1))
      ∧ θ_run (Cert.ReferenceUkvDxIdeal.defs (F := Ideal)) (onTc (τ := Cert.ReferenceUkvDxIdeal.τ) (Cert.ReferenceUkvDxIdeal.main (F := Ideal))) ⟨m', fun _ => 0, g'⟩ (fun r => ∀ c : Dev Cert.ReferenceUkvDxIdeal.nD,
          r.2.mem ((c.tc : Thread Cert.ReferenceUkvDxIdeal.nD Cert.ReferenceUkvDxIdeal.τ).loc Cert.ReferenceUkvDxIdeal.main_v2) = v0 c
          ∧ r.2.mem ((c.tc : Thread Cert.ReferenceUkvDxIdeal.nD Cert.ReferenceUkvDxIdeal.τ).loc Cert.ReferenceUkvDxIdeal.main_arg0) = m' ((c.tc : Thread Cert.ReferenceUkvDxIdeal.nD Cert.ReferenceUkvDxIdeal.τ).loc Cert.ReferenceUkvDxIdeal.main_arg0)
          ∧ r.2.mem ((c.tc : Thread Cert.ReferenceUkvDxIdeal.nD Cert.ReferenceUkvDxIdeal.τ).loc Cert.ReferenceUkvDxIdeal.main_arg1) = m' ((c.tc : Thread Cert.ReferenceUkvDxIdeal.nD Cert.ReferenceUkvDxIdeal.τ).loc Cert.ReferenceUkvDxIdeal.main_arg1))

def preserves_KernelUkvDw_KernelUkvDwIdeal : Prop :=
  True

def algebraic_KernelUkvDwIdeal_ReferenceUkvDwIdeal [hKernelUkvDwIdeal : Cert.KernelUkvDwIdeal.Facts] [hReferenceUkvDwIdeal : Cert.ReferenceUkvDwIdeal.Facts] : Prop :=
  ∀ (m : (ℓ : Loc Cert.KernelUkvDwIdeal.nD Cert.KernelUkvDwIdeal.τ Cert.KernelUkvDwIdeal.sig) → Buf (Elt Ideal) ℓ) (g : Dev Cert.KernelUkvDwIdeal.nD → PrngReg)
    (m' : (ℓ : Loc Cert.ReferenceUkvDwIdeal.nD Cert.ReferenceUkvDwIdeal.τ Cert.ReferenceUkvDwIdeal.sig) → Buf (Elt Ideal) ℓ) (g' : Dev Cert.ReferenceUkvDwIdeal.nD → PrngReg), Pre_KernelUkvDwIdeal m →
    (∀ c : Dev Cert.KernelUkvDwIdeal.nD,
      m' ((c.tc : Thread Cert.ReferenceUkvDwIdeal.nD Cert.ReferenceUkvDwIdeal.τ).loc Cert.ReferenceUkvDwIdeal.main_arg0) = m ((c.tc : Thread Cert.KernelUkvDwIdeal.nD Cert.KernelUkvDwIdeal.τ).loc Cert.KernelUkvDwIdeal.main_arg0)
      ∧ m' ((c.tc : Thread Cert.ReferenceUkvDwIdeal.nD Cert.ReferenceUkvDwIdeal.τ).loc Cert.ReferenceUkvDwIdeal.main_arg1) = m ((c.tc : Thread Cert.KernelUkvDwIdeal.nD Cert.KernelUkvDwIdeal.τ).loc Cert.KernelUkvDwIdeal.main_arg1)) →
    ∃ (v0 : (c : Dev Cert.KernelUkvDwIdeal.nD) → Buf (Elt Ideal) ((c.tc : Thread Cert.KernelUkvDwIdeal.nD Cert.KernelUkvDwIdeal.τ).loc Cert.KernelUkvDwIdeal.main_v2)),
      θ_run (Cert.KernelUkvDwIdeal.defs (F := Ideal)) (onTc (τ := Cert.KernelUkvDwIdeal.τ) (Cert.KernelUkvDwIdeal.main (F := Ideal))) ⟨m, fun _ => 0, g⟩ (fun r => ∀ c : Dev Cert.KernelUkvDwIdeal.nD,
          r.2.mem ((c.tc : Thread Cert.KernelUkvDwIdeal.nD Cert.KernelUkvDwIdeal.τ).loc Cert.KernelUkvDwIdeal.main_v2) = v0 c
          ∧ r.2.mem ((c.tc : Thread Cert.KernelUkvDwIdeal.nD Cert.KernelUkvDwIdeal.τ).loc Cert.KernelUkvDwIdeal.main_arg0) = m ((c.tc : Thread Cert.KernelUkvDwIdeal.nD Cert.KernelUkvDwIdeal.τ).loc Cert.KernelUkvDwIdeal.main_arg0)
          ∧ r.2.mem ((c.tc : Thread Cert.KernelUkvDwIdeal.nD Cert.KernelUkvDwIdeal.τ).loc Cert.KernelUkvDwIdeal.main_arg1) = m ((c.tc : Thread Cert.KernelUkvDwIdeal.nD Cert.KernelUkvDwIdeal.τ).loc Cert.KernelUkvDwIdeal.main_arg1))
      ∧ θ_run (Cert.ReferenceUkvDwIdeal.defs (F := Ideal)) (onTc (τ := Cert.ReferenceUkvDwIdeal.τ) (Cert.ReferenceUkvDwIdeal.main (F := Ideal))) ⟨m', fun _ => 0, g'⟩ (fun r => ∀ c : Dev Cert.ReferenceUkvDwIdeal.nD,
          r.2.mem ((c.tc : Thread Cert.ReferenceUkvDwIdeal.nD Cert.ReferenceUkvDwIdeal.τ).loc Cert.ReferenceUkvDwIdeal.main_v3) = v0 c
          ∧ r.2.mem ((c.tc : Thread Cert.ReferenceUkvDwIdeal.nD Cert.ReferenceUkvDwIdeal.τ).loc Cert.ReferenceUkvDwIdeal.main_arg0) = m' ((c.tc : Thread Cert.ReferenceUkvDwIdeal.nD Cert.ReferenceUkvDwIdeal.τ).loc Cert.ReferenceUkvDwIdeal.main_arg0)
          ∧ r.2.mem ((c.tc : Thread Cert.ReferenceUkvDwIdeal.nD Cert.ReferenceUkvDwIdeal.τ).loc Cert.ReferenceUkvDwIdeal.main_arg1) = m' ((c.tc : Thread Cert.ReferenceUkvDwIdeal.nD Cert.ReferenceUkvDwIdeal.τ).loc Cert.ReferenceUkvDwIdeal.main_arg1))

def preserves_KernelUkv_KernelUkvIdeal : Prop :=
  True

def algebraic_KernelUkvIdeal_ReferenceUkvIdeal [hKernelUkvIdeal : Cert.KernelUkvIdeal.Facts] [hReferenceUkvIdeal : Cert.ReferenceUkvIdeal.Facts] : Prop :=
  ∀ (m : (ℓ : Loc Cert.KernelUkvIdeal.nD Cert.KernelUkvIdeal.τ Cert.KernelUkvIdeal.sig) → Buf (Elt Ideal) ℓ) (g : Dev Cert.KernelUkvIdeal.nD → PrngReg)
    (m' : (ℓ : Loc Cert.ReferenceUkvIdeal.nD Cert.ReferenceUkvIdeal.τ Cert.ReferenceUkvIdeal.sig) → Buf (Elt Ideal) ℓ) (g' : Dev Cert.ReferenceUkvIdeal.nD → PrngReg), Pre_KernelUkvIdeal m →
    (∀ c : Dev Cert.KernelUkvIdeal.nD,
      m' ((c.tc : Thread Cert.ReferenceUkvIdeal.nD Cert.ReferenceUkvIdeal.τ).loc Cert.ReferenceUkvIdeal.main_arg0) = m ((c.tc : Thread Cert.KernelUkvIdeal.nD Cert.KernelUkvIdeal.τ).loc Cert.KernelUkvIdeal.main_arg0)
      ∧ m' ((c.tc : Thread Cert.ReferenceUkvIdeal.nD Cert.ReferenceUkvIdeal.τ).loc Cert.ReferenceUkvIdeal.main_arg1) = m ((c.tc : Thread Cert.KernelUkvIdeal.nD Cert.KernelUkvIdeal.τ).loc Cert.KernelUkvIdeal.main_arg1)) →
    ∃ (v0 : (c : Dev Cert.KernelUkvIdeal.nD) → Buf (Elt Ideal) ((c.tc : Thread Cert.KernelUkvIdeal.nD Cert.KernelUkvIdeal.τ).loc Cert.KernelUkvIdeal.main_v2)),
      θ_run (Cert.KernelUkvIdeal.defs (F := Ideal)) (onTc (τ := Cert.KernelUkvIdeal.τ) (Cert.KernelUkvIdeal.main (F := Ideal))) ⟨m, fun _ => 0, g⟩ (fun r => ∀ c : Dev Cert.KernelUkvIdeal.nD,
          r.2.mem ((c.tc : Thread Cert.KernelUkvIdeal.nD Cert.KernelUkvIdeal.τ).loc Cert.KernelUkvIdeal.main_v2) = v0 c
          ∧ r.2.mem ((c.tc : Thread Cert.KernelUkvIdeal.nD Cert.KernelUkvIdeal.τ).loc Cert.KernelUkvIdeal.main_arg0) = m ((c.tc : Thread Cert.KernelUkvIdeal.nD Cert.KernelUkvIdeal.τ).loc Cert.KernelUkvIdeal.main_arg0)
          ∧ r.2.mem ((c.tc : Thread Cert.KernelUkvIdeal.nD Cert.KernelUkvIdeal.τ).loc Cert.KernelUkvIdeal.main_arg1) = m ((c.tc : Thread Cert.KernelUkvIdeal.nD Cert.KernelUkvIdeal.τ).loc Cert.KernelUkvIdeal.main_arg1))
      ∧ θ_run (Cert.ReferenceUkvIdeal.defs (F := Ideal)) (onTc (τ := Cert.ReferenceUkvIdeal.τ) (Cert.ReferenceUkvIdeal.main (F := Ideal))) ⟨m', fun _ => 0, g'⟩ (fun r => ∀ c : Dev Cert.ReferenceUkvIdeal.nD,
          r.2.mem ((c.tc : Thread Cert.ReferenceUkvIdeal.nD Cert.ReferenceUkvIdeal.τ).loc Cert.ReferenceUkvIdeal.main_v0) = v0 c
          ∧ r.2.mem ((c.tc : Thread Cert.ReferenceUkvIdeal.nD Cert.ReferenceUkvIdeal.τ).loc Cert.ReferenceUkvIdeal.main_arg0) = m' ((c.tc : Thread Cert.ReferenceUkvIdeal.nD Cert.ReferenceUkvIdeal.τ).loc Cert.ReferenceUkvIdeal.main_arg0)
          ∧ r.2.mem ((c.tc : Thread Cert.ReferenceUkvIdeal.nD Cert.ReferenceUkvIdeal.τ).loc Cert.ReferenceUkvIdeal.main_arg1) = m' ((c.tc : Thread Cert.ReferenceUkvIdeal.nD Cert.ReferenceUkvIdeal.τ).loc Cert.ReferenceUkvIdeal.main_arg1))

def preserves_KernelGluDx_KernelGluDxIdeal : Prop :=
  True

def algebraic_KernelGluDxIdeal_ReferenceGluDxIdeal [hKernelGluDxIdeal : Cert.KernelGluDxIdeal.Facts] [hReferenceGluDxIdeal : Cert.ReferenceGluDxIdeal.Facts] : Prop :=
  ∀ (m : (ℓ : Loc Cert.KernelGluDxIdeal.nD Cert.KernelGluDxIdeal.τ Cert.KernelGluDxIdeal.sig) → Buf (Elt Ideal) ℓ) (g : Dev Cert.KernelGluDxIdeal.nD → PrngReg)
    (m' : (ℓ : Loc Cert.ReferenceGluDxIdeal.nD Cert.ReferenceGluDxIdeal.τ Cert.ReferenceGluDxIdeal.sig) → Buf (Elt Ideal) ℓ) (g' : Dev Cert.ReferenceGluDxIdeal.nD → PrngReg), Pre_KernelGluDxIdeal m →
    (∀ c : Dev Cert.KernelGluDxIdeal.nD,
      m' ((c.tc : Thread Cert.ReferenceGluDxIdeal.nD Cert.ReferenceGluDxIdeal.τ).loc Cert.ReferenceGluDxIdeal.main_arg0) = m ((c.tc : Thread Cert.KernelGluDxIdeal.nD Cert.KernelGluDxIdeal.τ).loc Cert.KernelGluDxIdeal.main_arg0)
      ∧ m' ((c.tc : Thread Cert.ReferenceGluDxIdeal.nD Cert.ReferenceGluDxIdeal.τ).loc Cert.ReferenceGluDxIdeal.main_arg1) = m ((c.tc : Thread Cert.KernelGluDxIdeal.nD Cert.KernelGluDxIdeal.τ).loc Cert.KernelGluDxIdeal.main_arg1)) →
    ∃ (v0 : (c : Dev Cert.KernelGluDxIdeal.nD) → Buf (Elt Ideal) ((c.tc : Thread Cert.KernelGluDxIdeal.nD Cert.KernelGluDxIdeal.τ).loc Cert.KernelGluDxIdeal.main_v2)),
      θ_run (Cert.KernelGluDxIdeal.defs (F := Ideal)) (onTc (τ := Cert.KernelGluDxIdeal.τ) (Cert.KernelGluDxIdeal.main (F := Ideal))) ⟨m, fun _ => 0, g⟩ (fun r => ∀ c : Dev Cert.KernelGluDxIdeal.nD,
          r.2.mem ((c.tc : Thread Cert.KernelGluDxIdeal.nD Cert.KernelGluDxIdeal.τ).loc Cert.KernelGluDxIdeal.main_v2) = v0 c
          ∧ r.2.mem ((c.tc : Thread Cert.KernelGluDxIdeal.nD Cert.KernelGluDxIdeal.τ).loc Cert.KernelGluDxIdeal.main_arg0) = m ((c.tc : Thread Cert.KernelGluDxIdeal.nD Cert.KernelGluDxIdeal.τ).loc Cert.KernelGluDxIdeal.main_arg0)
          ∧ r.2.mem ((c.tc : Thread Cert.KernelGluDxIdeal.nD Cert.KernelGluDxIdeal.τ).loc Cert.KernelGluDxIdeal.main_arg1) = m ((c.tc : Thread Cert.KernelGluDxIdeal.nD Cert.KernelGluDxIdeal.τ).loc Cert.KernelGluDxIdeal.main_arg1))
      ∧ θ_run (Cert.ReferenceGluDxIdeal.defs (F := Ideal)) (onTc (τ := Cert.ReferenceGluDxIdeal.τ) (Cert.ReferenceGluDxIdeal.main (F := Ideal))) ⟨m', fun _ => 0, g'⟩ (fun r => ∀ c : Dev Cert.ReferenceGluDxIdeal.nD,
          r.2.mem ((c.tc : Thread Cert.ReferenceGluDxIdeal.nD Cert.ReferenceGluDxIdeal.τ).loc Cert.ReferenceGluDxIdeal.main_v2) = v0 c
          ∧ r.2.mem ((c.tc : Thread Cert.ReferenceGluDxIdeal.nD Cert.ReferenceGluDxIdeal.τ).loc Cert.ReferenceGluDxIdeal.main_arg0) = m' ((c.tc : Thread Cert.ReferenceGluDxIdeal.nD Cert.ReferenceGluDxIdeal.τ).loc Cert.ReferenceGluDxIdeal.main_arg0)
          ∧ r.2.mem ((c.tc : Thread Cert.ReferenceGluDxIdeal.nD Cert.ReferenceGluDxIdeal.τ).loc Cert.ReferenceGluDxIdeal.main_arg1) = m' ((c.tc : Thread Cert.ReferenceGluDxIdeal.nD Cert.ReferenceGluDxIdeal.τ).loc Cert.ReferenceGluDxIdeal.main_arg1))

def preserves_KernelGluDw_KernelGluDwIdeal : Prop :=
  True

def algebraic_KernelGluDwIdeal_ReferenceGluDwIdeal [hKernelGluDwIdeal : Cert.KernelGluDwIdeal.Facts] [hReferenceGluDwIdeal : Cert.ReferenceGluDwIdeal.Facts] : Prop :=
  ∀ (m : (ℓ : Loc Cert.KernelGluDwIdeal.nD Cert.KernelGluDwIdeal.τ Cert.KernelGluDwIdeal.sig) → Buf (Elt Ideal) ℓ) (g : Dev Cert.KernelGluDwIdeal.nD → PrngReg)
    (m' : (ℓ : Loc Cert.ReferenceGluDwIdeal.nD Cert.ReferenceGluDwIdeal.τ Cert.ReferenceGluDwIdeal.sig) → Buf (Elt Ideal) ℓ) (g' : Dev Cert.ReferenceGluDwIdeal.nD → PrngReg), Pre_KernelGluDwIdeal m →
    (∀ c : Dev Cert.KernelGluDwIdeal.nD,
      m' ((c.tc : Thread Cert.ReferenceGluDwIdeal.nD Cert.ReferenceGluDwIdeal.τ).loc Cert.ReferenceGluDwIdeal.main_arg0) = m ((c.tc : Thread Cert.KernelGluDwIdeal.nD Cert.KernelGluDwIdeal.τ).loc Cert.KernelGluDwIdeal.main_arg0)
      ∧ m' ((c.tc : Thread Cert.ReferenceGluDwIdeal.nD Cert.ReferenceGluDwIdeal.τ).loc Cert.ReferenceGluDwIdeal.main_arg1) = m ((c.tc : Thread Cert.KernelGluDwIdeal.nD Cert.KernelGluDwIdeal.τ).loc Cert.KernelGluDwIdeal.main_arg1)) →
    ∃ (v0 : (c : Dev Cert.KernelGluDwIdeal.nD) → Buf (Elt Ideal) ((c.tc : Thread Cert.KernelGluDwIdeal.nD Cert.KernelGluDwIdeal.τ).loc Cert.KernelGluDwIdeal.main_v2)),
      θ_run (Cert.KernelGluDwIdeal.defs (F := Ideal)) (onTc (τ := Cert.KernelGluDwIdeal.τ) (Cert.KernelGluDwIdeal.main (F := Ideal))) ⟨m, fun _ => 0, g⟩ (fun r => ∀ c : Dev Cert.KernelGluDwIdeal.nD,
          r.2.mem ((c.tc : Thread Cert.KernelGluDwIdeal.nD Cert.KernelGluDwIdeal.τ).loc Cert.KernelGluDwIdeal.main_v2) = v0 c
          ∧ r.2.mem ((c.tc : Thread Cert.KernelGluDwIdeal.nD Cert.KernelGluDwIdeal.τ).loc Cert.KernelGluDwIdeal.main_arg0) = m ((c.tc : Thread Cert.KernelGluDwIdeal.nD Cert.KernelGluDwIdeal.τ).loc Cert.KernelGluDwIdeal.main_arg0)
          ∧ r.2.mem ((c.tc : Thread Cert.KernelGluDwIdeal.nD Cert.KernelGluDwIdeal.τ).loc Cert.KernelGluDwIdeal.main_arg1) = m ((c.tc : Thread Cert.KernelGluDwIdeal.nD Cert.KernelGluDwIdeal.τ).loc Cert.KernelGluDwIdeal.main_arg1))
      ∧ θ_run (Cert.ReferenceGluDwIdeal.defs (F := Ideal)) (onTc (τ := Cert.ReferenceGluDwIdeal.τ) (Cert.ReferenceGluDwIdeal.main (F := Ideal))) ⟨m', fun _ => 0, g'⟩ (fun r => ∀ c : Dev Cert.ReferenceGluDwIdeal.nD,
          r.2.mem ((c.tc : Thread Cert.ReferenceGluDwIdeal.nD Cert.ReferenceGluDwIdeal.τ).loc Cert.ReferenceGluDwIdeal.main_v3) = v0 c
          ∧ r.2.mem ((c.tc : Thread Cert.ReferenceGluDwIdeal.nD Cert.ReferenceGluDwIdeal.τ).loc Cert.ReferenceGluDwIdeal.main_arg0) = m' ((c.tc : Thread Cert.ReferenceGluDwIdeal.nD Cert.ReferenceGluDwIdeal.τ).loc Cert.ReferenceGluDwIdeal.main_arg0)
          ∧ r.2.mem ((c.tc : Thread Cert.ReferenceGluDwIdeal.nD Cert.ReferenceGluDwIdeal.τ).loc Cert.ReferenceGluDwIdeal.main_arg1) = m' ((c.tc : Thread Cert.ReferenceGluDwIdeal.nD Cert.ReferenceGluDwIdeal.τ).loc Cert.ReferenceGluDwIdeal.main_arg1))

def preserves_KernelGlu_KernelGluIdeal : Prop :=
  True

def algebraic_KernelGluIdeal_ReferenceGluIdeal [hKernelGluIdeal : Cert.KernelGluIdeal.Facts] [hReferenceGluIdeal : Cert.ReferenceGluIdeal.Facts] : Prop :=
  ∀ (m : (ℓ : Loc Cert.KernelGluIdeal.nD Cert.KernelGluIdeal.τ Cert.KernelGluIdeal.sig) → Buf (Elt Ideal) ℓ) (g : Dev Cert.KernelGluIdeal.nD → PrngReg)
    (m' : (ℓ : Loc Cert.ReferenceGluIdeal.nD Cert.ReferenceGluIdeal.τ Cert.ReferenceGluIdeal.sig) → Buf (Elt Ideal) ℓ) (g' : Dev Cert.ReferenceGluIdeal.nD → PrngReg), Pre_KernelGluIdeal m →
    (∀ c : Dev Cert.KernelGluIdeal.nD,
      m' ((c.tc : Thread Cert.ReferenceGluIdeal.nD Cert.ReferenceGluIdeal.τ).loc Cert.ReferenceGluIdeal.main_arg0) = m ((c.tc : Thread Cert.KernelGluIdeal.nD Cert.KernelGluIdeal.τ).loc Cert.KernelGluIdeal.main_arg0)
      ∧ m' ((c.tc : Thread Cert.ReferenceGluIdeal.nD Cert.ReferenceGluIdeal.τ).loc Cert.ReferenceGluIdeal.main_arg1) = m ((c.tc : Thread Cert.KernelGluIdeal.nD Cert.KernelGluIdeal.τ).loc Cert.KernelGluIdeal.main_arg1)) →
    ∃ (v0 : (c : Dev Cert.KernelGluIdeal.nD) → Buf (Elt Ideal) ((c.tc : Thread Cert.KernelGluIdeal.nD Cert.KernelGluIdeal.τ).loc Cert.KernelGluIdeal.main_v2)),
      θ_run (Cert.KernelGluIdeal.defs (F := Ideal)) (onTc (τ := Cert.KernelGluIdeal.τ) (Cert.KernelGluIdeal.main (F := Ideal))) ⟨m, fun _ => 0, g⟩ (fun r => ∀ c : Dev Cert.KernelGluIdeal.nD,
          r.2.mem ((c.tc : Thread Cert.KernelGluIdeal.nD Cert.KernelGluIdeal.τ).loc Cert.KernelGluIdeal.main_v2) = v0 c
          ∧ r.2.mem ((c.tc : Thread Cert.KernelGluIdeal.nD Cert.KernelGluIdeal.τ).loc Cert.KernelGluIdeal.main_arg0) = m ((c.tc : Thread Cert.KernelGluIdeal.nD Cert.KernelGluIdeal.τ).loc Cert.KernelGluIdeal.main_arg0)
          ∧ r.2.mem ((c.tc : Thread Cert.KernelGluIdeal.nD Cert.KernelGluIdeal.τ).loc Cert.KernelGluIdeal.main_arg1) = m ((c.tc : Thread Cert.KernelGluIdeal.nD Cert.KernelGluIdeal.τ).loc Cert.KernelGluIdeal.main_arg1))
      ∧ θ_run (Cert.ReferenceGluIdeal.defs (F := Ideal)) (onTc (τ := Cert.ReferenceGluIdeal.τ) (Cert.ReferenceGluIdeal.main (F := Ideal))) ⟨m', fun _ => 0, g'⟩ (fun r => ∀ c : Dev Cert.ReferenceGluIdeal.nD,
          r.2.mem ((c.tc : Thread Cert.ReferenceGluIdeal.nD Cert.ReferenceGluIdeal.τ).loc Cert.ReferenceGluIdeal.main_v0) = v0 c
          ∧ r.2.mem ((c.tc : Thread Cert.ReferenceGluIdeal.nD Cert.ReferenceGluIdeal.τ).loc Cert.ReferenceGluIdeal.main_arg0) = m' ((c.tc : Thread Cert.ReferenceGluIdeal.nD Cert.ReferenceGluIdeal.τ).loc Cert.ReferenceGluIdeal.main_arg0)
          ∧ r.2.mem ((c.tc : Thread Cert.ReferenceGluIdeal.nD Cert.ReferenceGluIdeal.τ).loc Cert.ReferenceGluIdeal.main_arg1) = m' ((c.tc : Thread Cert.ReferenceGluIdeal.nD Cert.ReferenceGluIdeal.τ).loc Cert.ReferenceGluIdeal.main_arg1))

def preserves_KernelScanDx_KernelScanDxIdeal : Prop :=
  True

def algebraic_KernelScanDxIdeal_ReferenceScanDxIdeal [hKernelScanDxIdeal : Cert.KernelScanDxIdeal.Facts] [hReferenceScanDxIdeal : Cert.ReferenceScanDxIdeal.Facts] : Prop :=
  ∀ (m : (ℓ : Loc Cert.KernelScanDxIdeal.nD Cert.KernelScanDxIdeal.τ Cert.KernelScanDxIdeal.sig) → Buf (Elt Ideal) ℓ) (g : Dev Cert.KernelScanDxIdeal.nD → PrngReg)
    (m' : (ℓ : Loc Cert.ReferenceScanDxIdeal.nD Cert.ReferenceScanDxIdeal.τ Cert.ReferenceScanDxIdeal.sig) → Buf (Elt Ideal) ℓ) (g' : Dev Cert.ReferenceScanDxIdeal.nD → PrngReg), Pre_KernelScanDxIdeal m →
    (∀ c : Dev Cert.KernelScanDxIdeal.nD,
      m' ((c.tc : Thread Cert.ReferenceScanDxIdeal.nD Cert.ReferenceScanDxIdeal.τ).loc Cert.ReferenceScanDxIdeal.main_arg0) = m ((c.tc : Thread Cert.KernelScanDxIdeal.nD Cert.KernelScanDxIdeal.τ).loc Cert.KernelScanDxIdeal.main_arg0)
      ∧ m' ((c.tc : Thread Cert.ReferenceScanDxIdeal.nD Cert.ReferenceScanDxIdeal.τ).loc Cert.ReferenceScanDxIdeal.main_arg1) = m ((c.tc : Thread Cert.KernelScanDxIdeal.nD Cert.KernelScanDxIdeal.τ).loc Cert.KernelScanDxIdeal.main_arg1)) →
    ∃ (v0 : (c : Dev Cert.KernelScanDxIdeal.nD) → Buf (Elt Ideal) ((c.tc : Thread Cert.KernelScanDxIdeal.nD Cert.KernelScanDxIdeal.τ).loc Cert.KernelScanDxIdeal.main_v1)),
      θ_run (Cert.KernelScanDxIdeal.defs (F := Ideal)) (onTc (τ := Cert.KernelScanDxIdeal.τ) (Cert.KernelScanDxIdeal.main (F := Ideal))) ⟨m, fun _ => 0, g⟩ (fun r => ∀ c : Dev Cert.KernelScanDxIdeal.nD,
          r.2.mem ((c.tc : Thread Cert.KernelScanDxIdeal.nD Cert.KernelScanDxIdeal.τ).loc Cert.KernelScanDxIdeal.main_v1) = v0 c
          ∧ r.2.mem ((c.tc : Thread Cert.KernelScanDxIdeal.nD Cert.KernelScanDxIdeal.τ).loc Cert.KernelScanDxIdeal.main_arg0) = m ((c.tc : Thread Cert.KernelScanDxIdeal.nD Cert.KernelScanDxIdeal.τ).loc Cert.KernelScanDxIdeal.main_arg0)
          ∧ r.2.mem ((c.tc : Thread Cert.KernelScanDxIdeal.nD Cert.KernelScanDxIdeal.τ).loc Cert.KernelScanDxIdeal.main_arg1) = m ((c.tc : Thread Cert.KernelScanDxIdeal.nD Cert.KernelScanDxIdeal.τ).loc Cert.KernelScanDxIdeal.main_arg1))
      ∧ θ_run (Cert.ReferenceScanDxIdeal.defs (F := Ideal)) (onTc (τ := Cert.ReferenceScanDxIdeal.τ) (Cert.ReferenceScanDxIdeal.main (F := Ideal))) ⟨m', fun _ => 0, g'⟩ (fun r => ∀ c : Dev Cert.ReferenceScanDxIdeal.nD,
          r.2.mem ((c.tc : Thread Cert.ReferenceScanDxIdeal.nD Cert.ReferenceScanDxIdeal.τ).loc Cert.ReferenceScanDxIdeal.main_v2) = v0 c
          ∧ r.2.mem ((c.tc : Thread Cert.ReferenceScanDxIdeal.nD Cert.ReferenceScanDxIdeal.τ).loc Cert.ReferenceScanDxIdeal.main_arg0) = m' ((c.tc : Thread Cert.ReferenceScanDxIdeal.nD Cert.ReferenceScanDxIdeal.τ).loc Cert.ReferenceScanDxIdeal.main_arg0)
          ∧ r.2.mem ((c.tc : Thread Cert.ReferenceScanDxIdeal.nD Cert.ReferenceScanDxIdeal.τ).loc Cert.ReferenceScanDxIdeal.main_arg1) = m' ((c.tc : Thread Cert.ReferenceScanDxIdeal.nD Cert.ReferenceScanDxIdeal.τ).loc Cert.ReferenceScanDxIdeal.main_arg1))

def preserves_KernelScanDw_KernelScanDwIdeal : Prop :=
  True

def algebraic_KernelScanDwIdeal_ReferenceScanDwIdeal [hKernelScanDwIdeal : Cert.KernelScanDwIdeal.Facts] [hReferenceScanDwIdeal : Cert.ReferenceScanDwIdeal.Facts] : Prop :=
  ∀ (m : (ℓ : Loc Cert.KernelScanDwIdeal.nD Cert.KernelScanDwIdeal.τ Cert.KernelScanDwIdeal.sig) → Buf (Elt Ideal) ℓ) (g : Dev Cert.KernelScanDwIdeal.nD → PrngReg)
    (m' : (ℓ : Loc Cert.ReferenceScanDwIdeal.nD Cert.ReferenceScanDwIdeal.τ Cert.ReferenceScanDwIdeal.sig) → Buf (Elt Ideal) ℓ) (g' : Dev Cert.ReferenceScanDwIdeal.nD → PrngReg), Pre_KernelScanDwIdeal m →
    (∀ c : Dev Cert.KernelScanDwIdeal.nD,
      m' ((c.tc : Thread Cert.ReferenceScanDwIdeal.nD Cert.ReferenceScanDwIdeal.τ).loc Cert.ReferenceScanDwIdeal.main_arg0) = m ((c.tc : Thread Cert.KernelScanDwIdeal.nD Cert.KernelScanDwIdeal.τ).loc Cert.KernelScanDwIdeal.main_arg0)
      ∧ m' ((c.tc : Thread Cert.ReferenceScanDwIdeal.nD Cert.ReferenceScanDwIdeal.τ).loc Cert.ReferenceScanDwIdeal.main_arg1) = m ((c.tc : Thread Cert.KernelScanDwIdeal.nD Cert.KernelScanDwIdeal.τ).loc Cert.KernelScanDwIdeal.main_arg1)) →
    ∃ (v0 : (c : Dev Cert.KernelScanDwIdeal.nD) → Buf (Elt Ideal) ((c.tc : Thread Cert.KernelScanDwIdeal.nD Cert.KernelScanDwIdeal.τ).loc Cert.KernelScanDwIdeal.main_v1)),
      θ_run (Cert.KernelScanDwIdeal.defs (F := Ideal)) (onTc (τ := Cert.KernelScanDwIdeal.τ) (Cert.KernelScanDwIdeal.main (F := Ideal))) ⟨m, fun _ => 0, g⟩ (fun r => ∀ c : Dev Cert.KernelScanDwIdeal.nD,
          r.2.mem ((c.tc : Thread Cert.KernelScanDwIdeal.nD Cert.KernelScanDwIdeal.τ).loc Cert.KernelScanDwIdeal.main_v1) = v0 c
          ∧ r.2.mem ((c.tc : Thread Cert.KernelScanDwIdeal.nD Cert.KernelScanDwIdeal.τ).loc Cert.KernelScanDwIdeal.main_arg0) = m ((c.tc : Thread Cert.KernelScanDwIdeal.nD Cert.KernelScanDwIdeal.τ).loc Cert.KernelScanDwIdeal.main_arg0)
          ∧ r.2.mem ((c.tc : Thread Cert.KernelScanDwIdeal.nD Cert.KernelScanDwIdeal.τ).loc Cert.KernelScanDwIdeal.main_arg1) = m ((c.tc : Thread Cert.KernelScanDwIdeal.nD Cert.KernelScanDwIdeal.τ).loc Cert.KernelScanDwIdeal.main_arg1))
      ∧ θ_run (Cert.ReferenceScanDwIdeal.defs (F := Ideal)) (onTc (τ := Cert.ReferenceScanDwIdeal.τ) (Cert.ReferenceScanDwIdeal.main (F := Ideal))) ⟨m', fun _ => 0, g'⟩ (fun r => ∀ c : Dev Cert.ReferenceScanDwIdeal.nD,
          r.2.mem ((c.tc : Thread Cert.ReferenceScanDwIdeal.nD Cert.ReferenceScanDwIdeal.τ).loc Cert.ReferenceScanDwIdeal.main_v3) = v0 c
          ∧ r.2.mem ((c.tc : Thread Cert.ReferenceScanDwIdeal.nD Cert.ReferenceScanDwIdeal.τ).loc Cert.ReferenceScanDwIdeal.main_arg0) = m' ((c.tc : Thread Cert.ReferenceScanDwIdeal.nD Cert.ReferenceScanDwIdeal.τ).loc Cert.ReferenceScanDwIdeal.main_arg0)
          ∧ r.2.mem ((c.tc : Thread Cert.ReferenceScanDwIdeal.nD Cert.ReferenceScanDwIdeal.τ).loc Cert.ReferenceScanDwIdeal.main_arg1) = m' ((c.tc : Thread Cert.ReferenceScanDwIdeal.nD Cert.ReferenceScanDwIdeal.τ).loc Cert.ReferenceScanDwIdeal.main_arg1))

def preserves_KernelScan_KernelScanIdeal : Prop :=
  True

def algebraic_KernelScanIdeal_ReferenceScanIdeal [hKernelScanIdeal : Cert.KernelScanIdeal.Facts] [hReferenceScanIdeal : Cert.ReferenceScanIdeal.Facts] : Prop :=
  ∀ (m : (ℓ : Loc Cert.KernelScanIdeal.nD Cert.KernelScanIdeal.τ Cert.KernelScanIdeal.sig) → Buf (Elt Ideal) ℓ) (g : Dev Cert.KernelScanIdeal.nD → PrngReg)
    (m' : (ℓ : Loc Cert.ReferenceScanIdeal.nD Cert.ReferenceScanIdeal.τ Cert.ReferenceScanIdeal.sig) → Buf (Elt Ideal) ℓ) (g' : Dev Cert.ReferenceScanIdeal.nD → PrngReg), Pre_KernelScanIdeal m →
    (∀ c : Dev Cert.KernelScanIdeal.nD,
      m' ((c.tc : Thread Cert.ReferenceScanIdeal.nD Cert.ReferenceScanIdeal.τ).loc Cert.ReferenceScanIdeal.main_arg0) = m ((c.tc : Thread Cert.KernelScanIdeal.nD Cert.KernelScanIdeal.τ).loc Cert.KernelScanIdeal.main_arg0)
      ∧ m' ((c.tc : Thread Cert.ReferenceScanIdeal.nD Cert.ReferenceScanIdeal.τ).loc Cert.ReferenceScanIdeal.main_arg1) = m ((c.tc : Thread Cert.KernelScanIdeal.nD Cert.KernelScanIdeal.τ).loc Cert.KernelScanIdeal.main_arg1)) →
    ∃ (v0 : (c : Dev Cert.KernelScanIdeal.nD) → Buf (Elt Ideal) ((c.tc : Thread Cert.KernelScanIdeal.nD Cert.KernelScanIdeal.τ).loc Cert.KernelScanIdeal.main_v2)),
      θ_run (Cert.KernelScanIdeal.defs (F := Ideal)) (onTc (τ := Cert.KernelScanIdeal.τ) (Cert.KernelScanIdeal.main (F := Ideal))) ⟨m, fun _ => 0, g⟩ (fun r => ∀ c : Dev Cert.KernelScanIdeal.nD,
          r.2.mem ((c.tc : Thread Cert.KernelScanIdeal.nD Cert.KernelScanIdeal.τ).loc Cert.KernelScanIdeal.main_v2) = v0 c
          ∧ r.2.mem ((c.tc : Thread Cert.KernelScanIdeal.nD Cert.KernelScanIdeal.τ).loc Cert.KernelScanIdeal.main_arg0) = m ((c.tc : Thread Cert.KernelScanIdeal.nD Cert.KernelScanIdeal.τ).loc Cert.KernelScanIdeal.main_arg0)
          ∧ r.2.mem ((c.tc : Thread Cert.KernelScanIdeal.nD Cert.KernelScanIdeal.τ).loc Cert.KernelScanIdeal.main_arg1) = m ((c.tc : Thread Cert.KernelScanIdeal.nD Cert.KernelScanIdeal.τ).loc Cert.KernelScanIdeal.main_arg1))
      ∧ θ_run (Cert.ReferenceScanIdeal.defs (F := Ideal)) (onTc (τ := Cert.ReferenceScanIdeal.τ) (Cert.ReferenceScanIdeal.main (F := Ideal))) ⟨m', fun _ => 0, g'⟩ (fun r => ∀ c : Dev Cert.ReferenceScanIdeal.nD,
          r.2.mem ((c.tc : Thread Cert.ReferenceScanIdeal.nD Cert.ReferenceScanIdeal.τ).loc Cert.ReferenceScanIdeal.main_v0) = v0 c
          ∧ r.2.mem ((c.tc : Thread Cert.ReferenceScanIdeal.nD Cert.ReferenceScanIdeal.τ).loc Cert.ReferenceScanIdeal.main_arg0) = m' ((c.tc : Thread Cert.ReferenceScanIdeal.nD Cert.ReferenceScanIdeal.τ).loc Cert.ReferenceScanIdeal.main_arg0)
          ∧ r.2.mem ((c.tc : Thread Cert.ReferenceScanIdeal.nD Cert.ReferenceScanIdeal.τ).loc Cert.ReferenceScanIdeal.main_arg1) = m' ((c.tc : Thread Cert.ReferenceScanIdeal.nD Cert.ReferenceScanIdeal.τ).loc Cert.ReferenceScanIdeal.main_arg1))

def preserves_KernelAttn_KernelAttnIdeal : Prop :=
  IdealRules.named_const.Statement Cert.KernelAttnIdeal.κ "scale2" .f32 0x3E16C740#32 (((Real.sqrt 96)⁻¹ * (Real.log 2)⁻¹ : ℝ) : EReal)
  ∧ IdealRules.named_const.Statement Cert.KernelAttnIdeal.κ "scale" .f32 0x3DD105EC#32 (((Real.sqrt 96)⁻¹ : ℝ) : EReal)
  ∧ IdealRules.named_const.Statement Cert.KernelAttnIdeal.κ "log2e" .f32 0x3FB8AA3B#32 (((Real.log 2)⁻¹ : ℝ) : EReal)

def algebraic_KernelAttnIdeal_ReferenceAttnIdeal_pre_finite_scores [hKernelAttnIdeal : Cert.KernelAttnIdeal.Facts] [hReferenceAttnIdeal : Cert.ReferenceAttnIdeal.Facts] [hPre_finite_scores : Cert.Pre_finite_scores.Facts] : Prop :=
  ∀ (m : (ℓ : Loc Cert.KernelAttnIdeal.nD Cert.KernelAttnIdeal.τ Cert.KernelAttnIdeal.sig) → Buf (Elt Ideal) ℓ) (g : Dev Cert.KernelAttnIdeal.nD → PrngReg)
    (m' : (ℓ : Loc Cert.ReferenceAttnIdeal.nD Cert.ReferenceAttnIdeal.τ Cert.ReferenceAttnIdeal.sig) → Buf (Elt Ideal) ℓ) (g' : Dev Cert.ReferenceAttnIdeal.nD → PrngReg), Pre_KernelAttnIdeal_finite_scores m →
    (∀ c : Dev Cert.KernelAttnIdeal.nD,
      m' ((c.tc : Thread Cert.ReferenceAttnIdeal.nD Cert.ReferenceAttnIdeal.τ).loc Cert.ReferenceAttnIdeal.main_arg0) = m ((c.tc : Thread Cert.KernelAttnIdeal.nD Cert.KernelAttnIdeal.τ).loc Cert.KernelAttnIdeal.main_arg0)
      ∧ m' ((c.tc : Thread Cert.ReferenceAttnIdeal.nD Cert.ReferenceAttnIdeal.τ).loc Cert.ReferenceAttnIdeal.main_arg1) = m ((c.tc : Thread Cert.KernelAttnIdeal.nD Cert.KernelAttnIdeal.τ).loc Cert.KernelAttnIdeal.main_arg1)
      ∧ m' ((c.tc : Thread Cert.ReferenceAttnIdeal.nD Cert.ReferenceAttnIdeal.τ).loc Cert.ReferenceAttnIdeal.main_arg2) = m ((c.tc : Thread Cert.KernelAttnIdeal.nD Cert.KernelAttnIdeal.τ).loc Cert.KernelAttnIdeal.main_arg2)) →
    ∃ (v0 : (c : Dev Cert.KernelAttnIdeal.nD) → Buf (Elt Ideal) ((c.tc : Thread Cert.KernelAttnIdeal.nD Cert.KernelAttnIdeal.τ).loc Cert.KernelAttnIdeal.main_v11_0)) (v1 : (c : Dev Cert.KernelAttnIdeal.nD) → Buf (Elt Ideal) ((c.tc : Thread Cert.KernelAttnIdeal.nD Cert.KernelAttnIdeal.τ).loc Cert.KernelAttnIdeal.main_v11_1)),
      θ_run (Cert.KernelAttnIdeal.defs (F := Ideal)) (onTc (τ := Cert.KernelAttnIdeal.τ) (Cert.KernelAttnIdeal.main (F := Ideal))) ⟨m, fun _ => 0, g⟩ (fun r => ∀ c : Dev Cert.KernelAttnIdeal.nD,
          r.2.mem ((c.tc : Thread Cert.KernelAttnIdeal.nD Cert.KernelAttnIdeal.τ).loc Cert.KernelAttnIdeal.main_v11_0) = v0 c
          ∧ r.2.mem ((c.tc : Thread Cert.KernelAttnIdeal.nD Cert.KernelAttnIdeal.τ).loc Cert.KernelAttnIdeal.main_v11_1) = v1 c
          ∧ r.2.mem ((c.tc : Thread Cert.KernelAttnIdeal.nD Cert.KernelAttnIdeal.τ).loc Cert.KernelAttnIdeal.main_arg0) = m ((c.tc : Thread Cert.KernelAttnIdeal.nD Cert.KernelAttnIdeal.τ).loc Cert.KernelAttnIdeal.main_arg0)
          ∧ r.2.mem ((c.tc : Thread Cert.KernelAttnIdeal.nD Cert.KernelAttnIdeal.τ).loc Cert.KernelAttnIdeal.main_arg1) = m ((c.tc : Thread Cert.KernelAttnIdeal.nD Cert.KernelAttnIdeal.τ).loc Cert.KernelAttnIdeal.main_arg1)
          ∧ r.2.mem ((c.tc : Thread Cert.KernelAttnIdeal.nD Cert.KernelAttnIdeal.τ).loc Cert.KernelAttnIdeal.main_arg2) = m ((c.tc : Thread Cert.KernelAttnIdeal.nD Cert.KernelAttnIdeal.τ).loc Cert.KernelAttnIdeal.main_arg2))
      ∧ θ_run (Cert.ReferenceAttnIdeal.defs (F := Ideal)) (onTc (τ := Cert.ReferenceAttnIdeal.τ) (Cert.ReferenceAttnIdeal.main (F := Ideal))) ⟨m', fun _ => 0, g'⟩ (fun r => ∀ c : Dev Cert.ReferenceAttnIdeal.nD,
          r.2.mem ((c.tc : Thread Cert.ReferenceAttnIdeal.nD Cert.ReferenceAttnIdeal.τ).loc Cert.ReferenceAttnIdeal.main_v37) = v0 c
          ∧ r.2.mem ((c.tc : Thread Cert.ReferenceAttnIdeal.nD Cert.ReferenceAttnIdeal.τ).loc Cert.ReferenceAttnIdeal.main_v35) = v1 c
          ∧ r.2.mem ((c.tc : Thread Cert.ReferenceAttnIdeal.nD Cert.ReferenceAttnIdeal.τ).loc Cert.ReferenceAttnIdeal.main_arg0) = m' ((c.tc : Thread Cert.ReferenceAttnIdeal.nD Cert.ReferenceAttnIdeal.τ).loc Cert.ReferenceAttnIdeal.main_arg0)
          ∧ r.2.mem ((c.tc : Thread Cert.ReferenceAttnIdeal.nD Cert.ReferenceAttnIdeal.τ).loc Cert.ReferenceAttnIdeal.main_arg1) = m' ((c.tc : Thread Cert.ReferenceAttnIdeal.nD Cert.ReferenceAttnIdeal.τ).loc Cert.ReferenceAttnIdeal.main_arg1)
          ∧ r.2.mem ((c.tc : Thread Cert.ReferenceAttnIdeal.nD Cert.ReferenceAttnIdeal.τ).loc Cert.ReferenceAttnIdeal.main_arg2) = m' ((c.tc : Thread Cert.ReferenceAttnIdeal.nD Cert.ReferenceAttnIdeal.τ).loc Cert.ReferenceAttnIdeal.main_arg2))

def preserves_KernelNorm_KernelNormIdeal : Prop :=
  True

def algebraic_KernelNormIdeal_ReferenceNormIdeal [hKernelNormIdeal : Cert.KernelNormIdeal.Facts] [hReferenceNormIdeal : Cert.ReferenceNormIdeal.Facts] : Prop :=
  ∀ (m : (ℓ : Loc Cert.KernelNormIdeal.nD Cert.KernelNormIdeal.τ Cert.KernelNormIdeal.sig) → Buf (Elt Ideal) ℓ) (g : Dev Cert.KernelNormIdeal.nD → PrngReg)
    (m' : (ℓ : Loc Cert.ReferenceNormIdeal.nD Cert.ReferenceNormIdeal.τ Cert.ReferenceNormIdeal.sig) → Buf (Elt Ideal) ℓ) (g' : Dev Cert.ReferenceNormIdeal.nD → PrngReg), Pre_KernelNormIdeal m →
    (∀ c : Dev Cert.KernelNormIdeal.nD,
      m' ((c.tc : Thread Cert.ReferenceNormIdeal.nD Cert.ReferenceNormIdeal.τ).loc Cert.ReferenceNormIdeal.main_arg0) = m ((c.tc : Thread Cert.KernelNormIdeal.nD Cert.KernelNormIdeal.τ).loc Cert.KernelNormIdeal.main_arg0)
      ∧ m' ((c.tc : Thread Cert.ReferenceNormIdeal.nD Cert.ReferenceNormIdeal.τ).loc Cert.ReferenceNormIdeal.main_arg1) = m ((c.tc : Thread Cert.KernelNormIdeal.nD Cert.KernelNormIdeal.τ).loc Cert.KernelNormIdeal.main_arg1)) →
    ∃ (v0 : (c : Dev Cert.KernelNormIdeal.nD) → Buf (Elt Ideal) ((c.tc : Thread Cert.KernelNormIdeal.nD Cert.KernelNormIdeal.τ).loc Cert.KernelNormIdeal.main_v1)),
      θ_run (Cert.KernelNormIdeal.defs (F := Ideal)) (onTc (τ := Cert.KernelNormIdeal.τ) (Cert.KernelNormIdeal.main (F := Ideal))) ⟨m, fun _ => 0, g⟩ (fun r => ∀ c : Dev Cert.KernelNormIdeal.nD,
          r.2.mem ((c.tc : Thread Cert.KernelNormIdeal.nD Cert.KernelNormIdeal.τ).loc Cert.KernelNormIdeal.main_v1) = v0 c
          ∧ r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
          ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1))
      ∧ θ_run (Cert.ReferenceNormIdeal.defs (F := Ideal)) (onTc (τ := Cert.ReferenceNormIdeal.τ) (Cert.ReferenceNormIdeal.main (F := Ideal))) ⟨m', fun _ => 0, g'⟩ (fun r => ∀ c : Dev Cert.ReferenceNormIdeal.nD,
          r.2.mem ((c.tc : Thread Cert.ReferenceNormIdeal.nD Cert.ReferenceNormIdeal.τ).loc Cert.ReferenceNormIdeal.main_v13) = v0 c
          ∧ r.2.mem ((c.tc : Thread Cert.ReferenceNormIdeal.nD Cert.ReferenceNormIdeal.τ).loc Cert.ReferenceNormIdeal.main_arg0) = m' ((c.tc : Thread Cert.ReferenceNormIdeal.nD Cert.ReferenceNormIdeal.τ).loc Cert.ReferenceNormIdeal.main_arg0)
          ∧ r.2.mem ((c.tc : Thread Cert.ReferenceNormIdeal.nD Cert.ReferenceNormIdeal.τ).loc Cert.ReferenceNormIdeal.main_arg1) = m' ((c.tc : Thread Cert.ReferenceNormIdeal.nD Cert.ReferenceNormIdeal.τ).loc Cert.ReferenceNormIdeal.main_arg1))

def preserves_KernelGelu_KernelGeluIdeal : Prop :=
  True

def algebraic_KernelGeluIdeal_ReferenceGeluIdeal [hKernelGeluIdeal : Cert.KernelGeluIdeal.Facts] [hReferenceGeluIdeal : Cert.ReferenceGeluIdeal.Facts] : Prop :=
  ∀ (m : (ℓ : Loc Cert.KernelGeluIdeal.nD Cert.KernelGeluIdeal.τ Cert.KernelGeluIdeal.sig) → Buf (Elt Ideal) ℓ) (g : Dev Cert.KernelGeluIdeal.nD → PrngReg)
    (m' : (ℓ : Loc Cert.ReferenceGeluIdeal.nD Cert.ReferenceGeluIdeal.τ Cert.ReferenceGeluIdeal.sig) → Buf (Elt Ideal) ℓ) (g' : Dev Cert.ReferenceGeluIdeal.nD → PrngReg), Pre_KernelGeluIdeal m →
    (∀ c : Dev Cert.KernelGeluIdeal.nD,
      m' ((c.tc : Thread Cert.ReferenceGeluIdeal.nD Cert.ReferenceGeluIdeal.τ).loc Cert.ReferenceGeluIdeal.main_arg0) = m ((c.tc : Thread Cert.KernelGeluIdeal.nD Cert.KernelGeluIdeal.τ).loc Cert.KernelGeluIdeal.main_arg0)
      ∧ m' ((c.tc : Thread Cert.ReferenceGeluIdeal.nD Cert.ReferenceGeluIdeal.τ).loc Cert.ReferenceGeluIdeal.main_arg1) = m ((c.tc : Thread Cert.KernelGeluIdeal.nD Cert.KernelGeluIdeal.τ).loc Cert.KernelGeluIdeal.main_arg1)
      ∧ m' ((c.tc : Thread Cert.ReferenceGeluIdeal.nD Cert.ReferenceGeluIdeal.τ).loc Cert.ReferenceGeluIdeal.main_arg2) = m ((c.tc : Thread Cert.KernelGeluIdeal.nD Cert.KernelGeluIdeal.τ).loc Cert.KernelGeluIdeal.main_arg2)) →
    ∃ (v0 : (c : Dev Cert.KernelGeluIdeal.nD) → Buf (Elt Ideal) ((c.tc : Thread Cert.KernelGeluIdeal.nD Cert.KernelGeluIdeal.τ).loc Cert.KernelGeluIdeal.main_v1)),
      θ_run (Cert.KernelGeluIdeal.defs (F := Ideal)) (onTc (τ := Cert.KernelGeluIdeal.τ) (Cert.KernelGeluIdeal.main (F := Ideal))) ⟨m, fun _ => 0, g⟩ (fun r => ∀ c : Dev Cert.KernelGeluIdeal.nD,
          r.2.mem ((c.tc : Thread Cert.KernelGeluIdeal.nD Cert.KernelGeluIdeal.τ).loc Cert.KernelGeluIdeal.main_v1) = v0 c
          ∧ r.2.mem ((c.tc : Thread Cert.KernelGeluIdeal.nD Cert.KernelGeluIdeal.τ).loc Cert.KernelGeluIdeal.main_arg0) = m ((c.tc : Thread Cert.KernelGeluIdeal.nD Cert.KernelGeluIdeal.τ).loc Cert.KernelGeluIdeal.main_arg0)
          ∧ r.2.mem ((c.tc : Thread Cert.KernelGeluIdeal.nD Cert.KernelGeluIdeal.τ).loc Cert.KernelGeluIdeal.main_arg1) = m ((c.tc : Thread Cert.KernelGeluIdeal.nD Cert.KernelGeluIdeal.τ).loc Cert.KernelGeluIdeal.main_arg1)
          ∧ r.2.mem ((c.tc : Thread Cert.KernelGeluIdeal.nD Cert.KernelGeluIdeal.τ).loc Cert.KernelGeluIdeal.main_arg2) = m ((c.tc : Thread Cert.KernelGeluIdeal.nD Cert.KernelGeluIdeal.τ).loc Cert.KernelGeluIdeal.main_arg2))
      ∧ θ_run (Cert.ReferenceGeluIdeal.defs (F := Ideal)) (onTc (τ := Cert.ReferenceGeluIdeal.τ) (Cert.ReferenceGeluIdeal.main (F := Ideal))) ⟨m', fun _ => 0, g'⟩ (fun r => ∀ c : Dev Cert.ReferenceGeluIdeal.nD,
          r.2.mem ((c.tc : Thread Cert.ReferenceGeluIdeal.nD Cert.ReferenceGeluIdeal.τ).loc Cert.ReferenceGeluIdeal.main_v17) = v0 c
          ∧ r.2.mem ((c.tc : Thread Cert.ReferenceGeluIdeal.nD Cert.ReferenceGeluIdeal.τ).loc Cert.ReferenceGeluIdeal.main_arg0) = m' ((c.tc : Thread Cert.ReferenceGeluIdeal.nD Cert.ReferenceGeluIdeal.τ).loc Cert.ReferenceGeluIdeal.main_arg0)
          ∧ r.2.mem ((c.tc : Thread Cert.ReferenceGeluIdeal.nD Cert.ReferenceGeluIdeal.τ).loc Cert.ReferenceGeluIdeal.main_arg1) = m' ((c.tc : Thread Cert.ReferenceGeluIdeal.nD Cert.ReferenceGeluIdeal.τ).loc Cert.ReferenceGeluIdeal.main_arg1)
          ∧ r.2.mem ((c.tc : Thread Cert.ReferenceGeluIdeal.nD Cert.ReferenceGeluIdeal.τ).loc Cert.ReferenceGeluIdeal.main_arg2) = m' ((c.tc : Thread Cert.ReferenceGeluIdeal.nD Cert.ReferenceGeluIdeal.τ).loc Cert.ReferenceGeluIdeal.main_arg2))

def preserves_KernelGluOut_KernelGluOutIdeal : Prop :=
  True

def algebraic_KernelGluOutIdeal_ReferenceGluOutIdeal [hKernelGluOutIdeal : Cert.KernelGluOutIdeal.Facts] [hReferenceGluOutIdeal : Cert.ReferenceGluOutIdeal.Facts] : Prop :=
  ∀ (m : (ℓ : Loc Cert.KernelGluOutIdeal.nD Cert.KernelGluOutIdeal.τ Cert.KernelGluOutIdeal.sig) → Buf (Elt Ideal) ℓ) (g : Dev Cert.KernelGluOutIdeal.nD → PrngReg)
    (m' : (ℓ : Loc Cert.ReferenceGluOutIdeal.nD Cert.ReferenceGluOutIdeal.τ Cert.ReferenceGluOutIdeal.sig) → Buf (Elt Ideal) ℓ) (g' : Dev Cert.ReferenceGluOutIdeal.nD → PrngReg), Pre_KernelGluOutIdeal m →
    (∀ c : Dev Cert.KernelGluOutIdeal.nD,
      m' ((c.tc : Thread Cert.ReferenceGluOutIdeal.nD Cert.ReferenceGluOutIdeal.τ).loc Cert.ReferenceGluOutIdeal.main_arg0) = m ((c.tc : Thread Cert.KernelGluOutIdeal.nD Cert.KernelGluOutIdeal.τ).loc Cert.KernelGluOutIdeal.main_arg0)
      ∧ m' ((c.tc : Thread Cert.ReferenceGluOutIdeal.nD Cert.ReferenceGluOutIdeal.τ).loc Cert.ReferenceGluOutIdeal.main_arg1) = m ((c.tc : Thread Cert.KernelGluOutIdeal.nD Cert.KernelGluOutIdeal.τ).loc Cert.KernelGluOutIdeal.main_arg1)
      ∧ m' ((c.tc : Thread Cert.ReferenceGluOutIdeal.nD Cert.ReferenceGluOutIdeal.τ).loc Cert.ReferenceGluOutIdeal.main_arg2) = m ((c.tc : Thread Cert.KernelGluOutIdeal.nD Cert.KernelGluOutIdeal.τ).loc Cert.KernelGluOutIdeal.main_arg2)) →
    ∃ (v0 : (c : Dev Cert.KernelGluOutIdeal.nD) → Buf (Elt Ideal) ((c.tc : Thread Cert.KernelGluOutIdeal.nD Cert.KernelGluOutIdeal.τ).loc Cert.KernelGluOutIdeal.main_v3)),
      θ_run (Cert.KernelGluOutIdeal.defs (F := Ideal)) (onTc (τ := Cert.KernelGluOutIdeal.τ) (Cert.KernelGluOutIdeal.main (F := Ideal))) ⟨m, fun _ => 0, g⟩ (fun r => ∀ c : Dev Cert.KernelGluOutIdeal.nD,
          r.2.mem ((c.tc : Thread Cert.KernelGluOutIdeal.nD Cert.KernelGluOutIdeal.τ).loc Cert.KernelGluOutIdeal.main_v3) = v0 c
          ∧ r.2.mem ((c.tc : Thread Cert.KernelGluOutIdeal.nD Cert.KernelGluOutIdeal.τ).loc Cert.KernelGluOutIdeal.main_arg0) = m ((c.tc : Thread Cert.KernelGluOutIdeal.nD Cert.KernelGluOutIdeal.τ).loc Cert.KernelGluOutIdeal.main_arg0)
          ∧ r.2.mem ((c.tc : Thread Cert.KernelGluOutIdeal.nD Cert.KernelGluOutIdeal.τ).loc Cert.KernelGluOutIdeal.main_arg1) = m ((c.tc : Thread Cert.KernelGluOutIdeal.nD Cert.KernelGluOutIdeal.τ).loc Cert.KernelGluOutIdeal.main_arg1)
          ∧ r.2.mem ((c.tc : Thread Cert.KernelGluOutIdeal.nD Cert.KernelGluOutIdeal.τ).loc Cert.KernelGluOutIdeal.main_arg2) = m ((c.tc : Thread Cert.KernelGluOutIdeal.nD Cert.KernelGluOutIdeal.τ).loc Cert.KernelGluOutIdeal.main_arg2))
      ∧ θ_run (Cert.ReferenceGluOutIdeal.defs (F := Ideal)) (onTc (τ := Cert.ReferenceGluOutIdeal.τ) (Cert.ReferenceGluOutIdeal.main (F := Ideal))) ⟨m', fun _ => 0, g'⟩ (fun r => ∀ c : Dev Cert.ReferenceGluOutIdeal.nD,
          r.2.mem ((c.tc : Thread Cert.ReferenceGluOutIdeal.nD Cert.ReferenceGluOutIdeal.τ).loc Cert.ReferenceGluOutIdeal.main_v12) = v0 c
          ∧ r.2.mem ((c.tc : Thread Cert.ReferenceGluOutIdeal.nD Cert.ReferenceGluOutIdeal.τ).loc Cert.ReferenceGluOutIdeal.main_arg0) = m' ((c.tc : Thread Cert.ReferenceGluOutIdeal.nD Cert.ReferenceGluOutIdeal.τ).loc Cert.ReferenceGluOutIdeal.main_arg0)
          ∧ r.2.mem ((c.tc : Thread Cert.ReferenceGluOutIdeal.nD Cert.ReferenceGluOutIdeal.τ).loc Cert.ReferenceGluOutIdeal.main_arg1) = m' ((c.tc : Thread Cert.ReferenceGluOutIdeal.nD Cert.ReferenceGluOutIdeal.τ).loc Cert.ReferenceGluOutIdeal.main_arg1)
          ∧ r.2.mem ((c.tc : Thread Cert.ReferenceGluOutIdeal.nD Cert.ReferenceGluOutIdeal.τ).loc Cert.ReferenceGluOutIdeal.main_arg2) = m' ((c.tc : Thread Cert.ReferenceGluOutIdeal.nD Cert.ReferenceGluOutIdeal.τ).loc Cert.ReferenceGluOutIdeal.main_arg2))

def preserves_KernelAdamUp_KernelAdamUpIdeal : Prop :=
  True

def algebraic_KernelAdamUpIdeal_ReferenceAdamUpIdeal [hKernelAdamUpIdeal : Cert.KernelAdamUpIdeal.Facts] [hReferenceAdamUpIdeal : Cert.ReferenceAdamUpIdeal.Facts] : Prop :=
  ∀ (m : (ℓ : Loc Cert.KernelAdamUpIdeal.nD Cert.KernelAdamUpIdeal.τ Cert.KernelAdamUpIdeal.sig) → Buf (Elt Ideal) ℓ) (g : Dev Cert.KernelAdamUpIdeal.nD → PrngReg)
    (m' : (ℓ : Loc Cert.ReferenceAdamUpIdeal.nD Cert.ReferenceAdamUpIdeal.τ Cert.ReferenceAdamUpIdeal.sig) → Buf (Elt Ideal) ℓ) (g' : Dev Cert.ReferenceAdamUpIdeal.nD → PrngReg), Pre_KernelAdamUpIdeal m →
    (∀ c : Dev Cert.KernelAdamUpIdeal.nD,
      m' ((c.tc : Thread Cert.ReferenceAdamUpIdeal.nD Cert.ReferenceAdamUpIdeal.τ).loc Cert.ReferenceAdamUpIdeal.main_arg0) = m ((c.tc : Thread Cert.KernelAdamUpIdeal.nD Cert.KernelAdamUpIdeal.τ).loc Cert.KernelAdamUpIdeal.main_arg0)
      ∧ m' ((c.tc : Thread Cert.ReferenceAdamUpIdeal.nD Cert.ReferenceAdamUpIdeal.τ).loc Cert.ReferenceAdamUpIdeal.main_arg1) = m ((c.tc : Thread Cert.KernelAdamUpIdeal.nD Cert.KernelAdamUpIdeal.τ).loc Cert.KernelAdamUpIdeal.main_arg1)
      ∧ m' ((c.tc : Thread Cert.ReferenceAdamUpIdeal.nD Cert.ReferenceAdamUpIdeal.τ).loc Cert.ReferenceAdamUpIdeal.main_arg2) = m ((c.tc : Thread Cert.KernelAdamUpIdeal.nD Cert.KernelAdamUpIdeal.τ).loc Cert.KernelAdamUpIdeal.main_arg2)
      ∧ m' ((c.tc : Thread Cert.ReferenceAdamUpIdeal.nD Cert.ReferenceAdamUpIdeal.τ).loc Cert.ReferenceAdamUpIdeal.main_arg3) = m ((c.tc : Thread Cert.KernelAdamUpIdeal.nD Cert.KernelAdamUpIdeal.τ).loc Cert.KernelAdamUpIdeal.main_arg3)) →
    ∃ (v0 : (c : Dev Cert.KernelAdamUpIdeal.nD) → Buf (Elt Ideal) ((c.tc : Thread Cert.KernelAdamUpIdeal.nD Cert.KernelAdamUpIdeal.τ).loc Cert.KernelAdamUpIdeal.main_v0_0)) (v1 : (c : Dev Cert.KernelAdamUpIdeal.nD) → Buf (Elt Ideal) ((c.tc : Thread Cert.KernelAdamUpIdeal.nD Cert.KernelAdamUpIdeal.τ).loc Cert.KernelAdamUpIdeal.main_v0_1)) (v2 : (c : Dev Cert.KernelAdamUpIdeal.nD) → Buf (Elt Ideal) ((c.tc : Thread Cert.KernelAdamUpIdeal.nD Cert.KernelAdamUpIdeal.τ).loc Cert.KernelAdamUpIdeal.main_v0_2)) (v3 : (c : Dev Cert.KernelAdamUpIdeal.nD) → Buf (Elt Ideal) ((c.tc : Thread Cert.KernelAdamUpIdeal.nD Cert.KernelAdamUpIdeal.τ).loc Cert.KernelAdamUpIdeal.main_v0_3)),
      θ_run (Cert.KernelAdamUpIdeal.defs (F := Ideal)) (onTc (τ := Cert.KernelAdamUpIdeal.τ) (Cert.KernelAdamUpIdeal.main (F := Ideal))) ⟨m, fun _ => 0, g⟩ (fun r => ∀ c : Dev Cert.KernelAdamUpIdeal.nD,
          r.2.mem ((c.tc : Thread Cert.KernelAdamUpIdeal.nD Cert.KernelAdamUpIdeal.τ).loc Cert.KernelAdamUpIdeal.main_v0_0) = v0 c
          ∧ r.2.mem ((c.tc : Thread Cert.KernelAdamUpIdeal.nD Cert.KernelAdamUpIdeal.τ).loc Cert.KernelAdamUpIdeal.main_v0_1) = v1 c
          ∧ r.2.mem ((c.tc : Thread Cert.KernelAdamUpIdeal.nD Cert.KernelAdamUpIdeal.τ).loc Cert.KernelAdamUpIdeal.main_v0_2) = v2 c
          ∧ r.2.mem ((c.tc : Thread Cert.KernelAdamUpIdeal.nD Cert.KernelAdamUpIdeal.τ).loc Cert.KernelAdamUpIdeal.main_v0_3) = v3 c
          ∧ r.2.mem ((c.tc : Thread Cert.KernelAdamUpIdeal.nD Cert.KernelAdamUpIdeal.τ).loc Cert.KernelAdamUpIdeal.main_arg0) = m ((c.tc : Thread Cert.KernelAdamUpIdeal.nD Cert.KernelAdamUpIdeal.τ).loc Cert.KernelAdamUpIdeal.main_arg0)
          ∧ r.2.mem ((c.tc : Thread Cert.KernelAdamUpIdeal.nD Cert.KernelAdamUpIdeal.τ).loc Cert.KernelAdamUpIdeal.main_arg1) = m ((c.tc : Thread Cert.KernelAdamUpIdeal.nD Cert.KernelAdamUpIdeal.τ).loc Cert.KernelAdamUpIdeal.main_arg1)
          ∧ r.2.mem ((c.tc : Thread Cert.KernelAdamUpIdeal.nD Cert.KernelAdamUpIdeal.τ).loc Cert.KernelAdamUpIdeal.main_arg2) = m ((c.tc : Thread Cert.KernelAdamUpIdeal.nD Cert.KernelAdamUpIdeal.τ).loc Cert.KernelAdamUpIdeal.main_arg2)
          ∧ r.2.mem ((c.tc : Thread Cert.KernelAdamUpIdeal.nD Cert.KernelAdamUpIdeal.τ).loc Cert.KernelAdamUpIdeal.main_arg3) = m ((c.tc : Thread Cert.KernelAdamUpIdeal.nD Cert.KernelAdamUpIdeal.τ).loc Cert.KernelAdamUpIdeal.main_arg3))
      ∧ θ_run (Cert.ReferenceAdamUpIdeal.defs (F := Ideal)) (onTc (τ := Cert.ReferenceAdamUpIdeal.τ) (Cert.ReferenceAdamUpIdeal.main (F := Ideal))) ⟨m', fun _ => 0, g'⟩ (fun r => ∀ c : Dev Cert.ReferenceAdamUpIdeal.nD,
          r.2.mem ((c.tc : Thread Cert.ReferenceAdamUpIdeal.nD Cert.ReferenceAdamUpIdeal.τ).loc Cert.ReferenceAdamUpIdeal.main_v1) = v0 c
          ∧ r.2.mem ((c.tc : Thread Cert.ReferenceAdamUpIdeal.nD Cert.ReferenceAdamUpIdeal.τ).loc Cert.ReferenceAdamUpIdeal.main_v25) = v1 c
          ∧ r.2.mem ((c.tc : Thread Cert.ReferenceAdamUpIdeal.nD Cert.ReferenceAdamUpIdeal.τ).loc Cert.ReferenceAdamUpIdeal.main_v6) = v2 c
          ∧ r.2.mem ((c.tc : Thread Cert.ReferenceAdamUpIdeal.nD Cert.ReferenceAdamUpIdeal.τ).loc Cert.ReferenceAdamUpIdeal.main_v12) = v3 c
          ∧ r.2.mem ((c.tc : Thread Cert.ReferenceAdamUpIdeal.nD Cert.ReferenceAdamUpIdeal.τ).loc Cert.ReferenceAdamUpIdeal.main_arg0) = m' ((c.tc : Thread Cert.ReferenceAdamUpIdeal.nD Cert.ReferenceAdamUpIdeal.τ).loc Cert.ReferenceAdamUpIdeal.main_arg0)
          ∧ r.2.mem ((c.tc : Thread Cert.ReferenceAdamUpIdeal.nD Cert.ReferenceAdamUpIdeal.τ).loc Cert.ReferenceAdamUpIdeal.main_arg1) = m' ((c.tc : Thread Cert.ReferenceAdamUpIdeal.nD Cert.ReferenceAdamUpIdeal.τ).loc Cert.ReferenceAdamUpIdeal.main_arg1)
          ∧ r.2.mem ((c.tc : Thread Cert.ReferenceAdamUpIdeal.nD Cert.ReferenceAdamUpIdeal.τ).loc Cert.ReferenceAdamUpIdeal.main_arg2) = m' ((c.tc : Thread Cert.ReferenceAdamUpIdeal.nD Cert.ReferenceAdamUpIdeal.τ).loc Cert.ReferenceAdamUpIdeal.main_arg2)
          ∧ r.2.mem ((c.tc : Thread Cert.ReferenceAdamUpIdeal.nD Cert.ReferenceAdamUpIdeal.τ).loc Cert.ReferenceAdamUpIdeal.main_arg3) = m' ((c.tc : Thread Cert.ReferenceAdamUpIdeal.nD Cert.ReferenceAdamUpIdeal.τ).loc Cert.ReferenceAdamUpIdeal.main_arg3))

def preserves_KernelAdamDown_KernelAdamDownIdeal : Prop :=
  True

def algebraic_KernelAdamDownIdeal_ReferenceAdamDownIdeal [hKernelAdamDownIdeal : Cert.KernelAdamDownIdeal.Facts] [hReferenceAdamDownIdeal : Cert.ReferenceAdamDownIdeal.Facts] : Prop :=
  ∀ (m : (ℓ : Loc Cert.KernelAdamDownIdeal.nD Cert.KernelAdamDownIdeal.τ Cert.KernelAdamDownIdeal.sig) → Buf (Elt Ideal) ℓ) (g : Dev Cert.KernelAdamDownIdeal.nD → PrngReg)
    (m' : (ℓ : Loc Cert.ReferenceAdamDownIdeal.nD Cert.ReferenceAdamDownIdeal.τ Cert.ReferenceAdamDownIdeal.sig) → Buf (Elt Ideal) ℓ) (g' : Dev Cert.ReferenceAdamDownIdeal.nD → PrngReg), Pre_KernelAdamDownIdeal m →
    (∀ c : Dev Cert.KernelAdamDownIdeal.nD,
      m' ((c.tc : Thread Cert.ReferenceAdamDownIdeal.nD Cert.ReferenceAdamDownIdeal.τ).loc Cert.ReferenceAdamDownIdeal.main_arg0) = m ((c.tc : Thread Cert.KernelAdamDownIdeal.nD Cert.KernelAdamDownIdeal.τ).loc Cert.KernelAdamDownIdeal.main_arg0)
      ∧ m' ((c.tc : Thread Cert.ReferenceAdamDownIdeal.nD Cert.ReferenceAdamDownIdeal.τ).loc Cert.ReferenceAdamDownIdeal.main_arg1) = m ((c.tc : Thread Cert.KernelAdamDownIdeal.nD Cert.KernelAdamDownIdeal.τ).loc Cert.KernelAdamDownIdeal.main_arg1)
      ∧ m' ((c.tc : Thread Cert.ReferenceAdamDownIdeal.nD Cert.ReferenceAdamDownIdeal.τ).loc Cert.ReferenceAdamDownIdeal.main_arg2) = m ((c.tc : Thread Cert.KernelAdamDownIdeal.nD Cert.KernelAdamDownIdeal.τ).loc Cert.KernelAdamDownIdeal.main_arg2)
      ∧ m' ((c.tc : Thread Cert.ReferenceAdamDownIdeal.nD Cert.ReferenceAdamDownIdeal.τ).loc Cert.ReferenceAdamDownIdeal.main_arg3) = m ((c.tc : Thread Cert.KernelAdamDownIdeal.nD Cert.KernelAdamDownIdeal.τ).loc Cert.KernelAdamDownIdeal.main_arg3)) →
    ∃ (v0 : (c : Dev Cert.KernelAdamDownIdeal.nD) → Buf (Elt Ideal) ((c.tc : Thread Cert.KernelAdamDownIdeal.nD Cert.KernelAdamDownIdeal.τ).loc Cert.KernelAdamDownIdeal.main_v0_0)) (v1 : (c : Dev Cert.KernelAdamDownIdeal.nD) → Buf (Elt Ideal) ((c.tc : Thread Cert.KernelAdamDownIdeal.nD Cert.KernelAdamDownIdeal.τ).loc Cert.KernelAdamDownIdeal.main_v0_1)) (v2 : (c : Dev Cert.KernelAdamDownIdeal.nD) → Buf (Elt Ideal) ((c.tc : Thread Cert.KernelAdamDownIdeal.nD Cert.KernelAdamDownIdeal.τ).loc Cert.KernelAdamDownIdeal.main_v0_2)) (v3 : (c : Dev Cert.KernelAdamDownIdeal.nD) → Buf (Elt Ideal) ((c.tc : Thread Cert.KernelAdamDownIdeal.nD Cert.KernelAdamDownIdeal.τ).loc Cert.KernelAdamDownIdeal.main_v0_3)),
      θ_run (Cert.KernelAdamDownIdeal.defs (F := Ideal)) (onTc (τ := Cert.KernelAdamDownIdeal.τ) (Cert.KernelAdamDownIdeal.main (F := Ideal))) ⟨m, fun _ => 0, g⟩ (fun r => ∀ c : Dev Cert.KernelAdamDownIdeal.nD,
          r.2.mem ((c.tc : Thread Cert.KernelAdamDownIdeal.nD Cert.KernelAdamDownIdeal.τ).loc Cert.KernelAdamDownIdeal.main_v0_0) = v0 c
          ∧ r.2.mem ((c.tc : Thread Cert.KernelAdamDownIdeal.nD Cert.KernelAdamDownIdeal.τ).loc Cert.KernelAdamDownIdeal.main_v0_1) = v1 c
          ∧ r.2.mem ((c.tc : Thread Cert.KernelAdamDownIdeal.nD Cert.KernelAdamDownIdeal.τ).loc Cert.KernelAdamDownIdeal.main_v0_2) = v2 c
          ∧ r.2.mem ((c.tc : Thread Cert.KernelAdamDownIdeal.nD Cert.KernelAdamDownIdeal.τ).loc Cert.KernelAdamDownIdeal.main_v0_3) = v3 c
          ∧ r.2.mem ((c.tc : Thread Cert.KernelAdamDownIdeal.nD Cert.KernelAdamDownIdeal.τ).loc Cert.KernelAdamDownIdeal.main_arg0) = m ((c.tc : Thread Cert.KernelAdamDownIdeal.nD Cert.KernelAdamDownIdeal.τ).loc Cert.KernelAdamDownIdeal.main_arg0)
          ∧ r.2.mem ((c.tc : Thread Cert.KernelAdamDownIdeal.nD Cert.KernelAdamDownIdeal.τ).loc Cert.KernelAdamDownIdeal.main_arg1) = m ((c.tc : Thread Cert.KernelAdamDownIdeal.nD Cert.KernelAdamDownIdeal.τ).loc Cert.KernelAdamDownIdeal.main_arg1)
          ∧ r.2.mem ((c.tc : Thread Cert.KernelAdamDownIdeal.nD Cert.KernelAdamDownIdeal.τ).loc Cert.KernelAdamDownIdeal.main_arg2) = m ((c.tc : Thread Cert.KernelAdamDownIdeal.nD Cert.KernelAdamDownIdeal.τ).loc Cert.KernelAdamDownIdeal.main_arg2)
          ∧ r.2.mem ((c.tc : Thread Cert.KernelAdamDownIdeal.nD Cert.KernelAdamDownIdeal.τ).loc Cert.KernelAdamDownIdeal.main_arg3) = m ((c.tc : Thread Cert.KernelAdamDownIdeal.nD Cert.KernelAdamDownIdeal.τ).loc Cert.KernelAdamDownIdeal.main_arg3))
      ∧ θ_run (Cert.ReferenceAdamDownIdeal.defs (F := Ideal)) (onTc (τ := Cert.ReferenceAdamDownIdeal.τ) (Cert.ReferenceAdamDownIdeal.main (F := Ideal))) ⟨m', fun _ => 0, g'⟩ (fun r => ∀ c : Dev Cert.ReferenceAdamDownIdeal.nD,
          r.2.mem ((c.tc : Thread Cert.ReferenceAdamDownIdeal.nD Cert.ReferenceAdamDownIdeal.τ).loc Cert.ReferenceAdamDownIdeal.main_v1) = v0 c
          ∧ r.2.mem ((c.tc : Thread Cert.ReferenceAdamDownIdeal.nD Cert.ReferenceAdamDownIdeal.τ).loc Cert.ReferenceAdamDownIdeal.main_v25) = v1 c
          ∧ r.2.mem ((c.tc : Thread Cert.ReferenceAdamDownIdeal.nD Cert.ReferenceAdamDownIdeal.τ).loc Cert.ReferenceAdamDownIdeal.main_v6) = v2 c
          ∧ r.2.mem ((c.tc : Thread Cert.ReferenceAdamDownIdeal.nD Cert.ReferenceAdamDownIdeal.τ).loc Cert.ReferenceAdamDownIdeal.main_v12) = v3 c
          ∧ r.2.mem ((c.tc : Thread Cert.ReferenceAdamDownIdeal.nD Cert.ReferenceAdamDownIdeal.τ).loc Cert.ReferenceAdamDownIdeal.main_arg0) = m' ((c.tc : Thread Cert.ReferenceAdamDownIdeal.nD Cert.ReferenceAdamDownIdeal.τ).loc Cert.ReferenceAdamDownIdeal.main_arg0)
          ∧ r.2.mem ((c.tc : Thread Cert.ReferenceAdamDownIdeal.nD Cert.ReferenceAdamDownIdeal.τ).loc Cert.ReferenceAdamDownIdeal.main_arg1) = m' ((c.tc : Thread Cert.ReferenceAdamDownIdeal.nD Cert.ReferenceAdamDownIdeal.τ).loc Cert.ReferenceAdamDownIdeal.main_arg1)
          ∧ r.2.mem ((c.tc : Thread Cert.ReferenceAdamDownIdeal.nD Cert.ReferenceAdamDownIdeal.τ).loc Cert.ReferenceAdamDownIdeal.main_arg2) = m' ((c.tc : Thread Cert.ReferenceAdamDownIdeal.nD Cert.ReferenceAdamDownIdeal.τ).loc Cert.ReferenceAdamDownIdeal.main_arg2)
          ∧ r.2.mem ((c.tc : Thread Cert.ReferenceAdamDownIdeal.nD Cert.ReferenceAdamDownIdeal.τ).loc Cert.ReferenceAdamDownIdeal.main_arg3) = m' ((c.tc : Thread Cert.ReferenceAdamDownIdeal.nD Cert.ReferenceAdamDownIdeal.τ).loc Cert.ReferenceAdamDownIdeal.main_arg3))

def preserves_KernelAdamIn_KernelAdamInIdeal : Prop :=
  True

def algebraic_KernelAdamInIdeal_ReferenceAdamInIdeal [hKernelAdamInIdeal : Cert.KernelAdamInIdeal.Facts] [hReferenceAdamInIdeal : Cert.ReferenceAdamInIdeal.Facts] : Prop :=
  ∀ (m : (ℓ : Loc Cert.KernelAdamInIdeal.nD Cert.KernelAdamInIdeal.τ Cert.KernelAdamInIdeal.sig) → Buf (Elt Ideal) ℓ) (g : Dev Cert.KernelAdamInIdeal.nD → PrngReg)
    (m' : (ℓ : Loc Cert.ReferenceAdamInIdeal.nD Cert.ReferenceAdamInIdeal.τ Cert.ReferenceAdamInIdeal.sig) → Buf (Elt Ideal) ℓ) (g' : Dev Cert.ReferenceAdamInIdeal.nD → PrngReg), Pre_KernelAdamInIdeal m →
    (∀ c : Dev Cert.KernelAdamInIdeal.nD,
      m' ((c.tc : Thread Cert.ReferenceAdamInIdeal.nD Cert.ReferenceAdamInIdeal.τ).loc Cert.ReferenceAdamInIdeal.main_arg0) = m ((c.tc : Thread Cert.KernelAdamInIdeal.nD Cert.KernelAdamInIdeal.τ).loc Cert.KernelAdamInIdeal.main_arg0)
      ∧ m' ((c.tc : Thread Cert.ReferenceAdamInIdeal.nD Cert.ReferenceAdamInIdeal.τ).loc Cert.ReferenceAdamInIdeal.main_arg1) = m ((c.tc : Thread Cert.KernelAdamInIdeal.nD Cert.KernelAdamInIdeal.τ).loc Cert.KernelAdamInIdeal.main_arg1)
      ∧ m' ((c.tc : Thread Cert.ReferenceAdamInIdeal.nD Cert.ReferenceAdamInIdeal.τ).loc Cert.ReferenceAdamInIdeal.main_arg2) = m ((c.tc : Thread Cert.KernelAdamInIdeal.nD Cert.KernelAdamInIdeal.τ).loc Cert.KernelAdamInIdeal.main_arg2)
      ∧ m' ((c.tc : Thread Cert.ReferenceAdamInIdeal.nD Cert.ReferenceAdamInIdeal.τ).loc Cert.ReferenceAdamInIdeal.main_arg3) = m ((c.tc : Thread Cert.KernelAdamInIdeal.nD Cert.KernelAdamInIdeal.τ).loc Cert.KernelAdamInIdeal.main_arg3)) →
    ∃ (v0 : (c : Dev Cert.KernelAdamInIdeal.nD) → Buf (Elt Ideal) ((c.tc : Thread Cert.KernelAdamInIdeal.nD Cert.KernelAdamInIdeal.τ).loc Cert.KernelAdamInIdeal.main_v0_0)) (v1 : (c : Dev Cert.KernelAdamInIdeal.nD) → Buf (Elt Ideal) ((c.tc : Thread Cert.KernelAdamInIdeal.nD Cert.KernelAdamInIdeal.τ).loc Cert.KernelAdamInIdeal.main_v0_1)) (v2 : (c : Dev Cert.KernelAdamInIdeal.nD) → Buf (Elt Ideal) ((c.tc : Thread Cert.KernelAdamInIdeal.nD Cert.KernelAdamInIdeal.τ).loc Cert.KernelAdamInIdeal.main_v0_2)) (v3 : (c : Dev Cert.KernelAdamInIdeal.nD) → Buf (Elt Ideal) ((c.tc : Thread Cert.KernelAdamInIdeal.nD Cert.KernelAdamInIdeal.τ).loc Cert.KernelAdamInIdeal.main_v0_3)),
      θ_run (Cert.KernelAdamInIdeal.defs (F := Ideal)) (onTc (τ := Cert.KernelAdamInIdeal.τ) (Cert.KernelAdamInIdeal.main (F := Ideal))) ⟨m, fun _ => 0, g⟩ (fun r => ∀ c : Dev Cert.KernelAdamInIdeal.nD,
          r.2.mem ((c.tc : Thread Cert.KernelAdamInIdeal.nD Cert.KernelAdamInIdeal.τ).loc Cert.KernelAdamInIdeal.main_v0_0) = v0 c
          ∧ r.2.mem ((c.tc : Thread Cert.KernelAdamInIdeal.nD Cert.KernelAdamInIdeal.τ).loc Cert.KernelAdamInIdeal.main_v0_1) = v1 c
          ∧ r.2.mem ((c.tc : Thread Cert.KernelAdamInIdeal.nD Cert.KernelAdamInIdeal.τ).loc Cert.KernelAdamInIdeal.main_v0_2) = v2 c
          ∧ r.2.mem ((c.tc : Thread Cert.KernelAdamInIdeal.nD Cert.KernelAdamInIdeal.τ).loc Cert.KernelAdamInIdeal.main_v0_3) = v3 c
          ∧ r.2.mem ((c.tc : Thread Cert.KernelAdamInIdeal.nD Cert.KernelAdamInIdeal.τ).loc Cert.KernelAdamInIdeal.main_arg0) = m ((c.tc : Thread Cert.KernelAdamInIdeal.nD Cert.KernelAdamInIdeal.τ).loc Cert.KernelAdamInIdeal.main_arg0)
          ∧ r.2.mem ((c.tc : Thread Cert.KernelAdamInIdeal.nD Cert.KernelAdamInIdeal.τ).loc Cert.KernelAdamInIdeal.main_arg1) = m ((c.tc : Thread Cert.KernelAdamInIdeal.nD Cert.KernelAdamInIdeal.τ).loc Cert.KernelAdamInIdeal.main_arg1)
          ∧ r.2.mem ((c.tc : Thread Cert.KernelAdamInIdeal.nD Cert.KernelAdamInIdeal.τ).loc Cert.KernelAdamInIdeal.main_arg2) = m ((c.tc : Thread Cert.KernelAdamInIdeal.nD Cert.KernelAdamInIdeal.τ).loc Cert.KernelAdamInIdeal.main_arg2)
          ∧ r.2.mem ((c.tc : Thread Cert.KernelAdamInIdeal.nD Cert.KernelAdamInIdeal.τ).loc Cert.KernelAdamInIdeal.main_arg3) = m ((c.tc : Thread Cert.KernelAdamInIdeal.nD Cert.KernelAdamInIdeal.τ).loc Cert.KernelAdamInIdeal.main_arg3))
      ∧ θ_run (Cert.ReferenceAdamInIdeal.defs (F := Ideal)) (onTc (τ := Cert.ReferenceAdamInIdeal.τ) (Cert.ReferenceAdamInIdeal.main (F := Ideal))) ⟨m', fun _ => 0, g'⟩ (fun r => ∀ c : Dev Cert.ReferenceAdamInIdeal.nD,
          r.2.mem ((c.tc : Thread Cert.ReferenceAdamInIdeal.nD Cert.ReferenceAdamInIdeal.τ).loc Cert.ReferenceAdamInIdeal.main_v1) = v0 c
          ∧ r.2.mem ((c.tc : Thread Cert.ReferenceAdamInIdeal.nD Cert.ReferenceAdamInIdeal.τ).loc Cert.ReferenceAdamInIdeal.main_v25) = v1 c
          ∧ r.2.mem ((c.tc : Thread Cert.ReferenceAdamInIdeal.nD Cert.ReferenceAdamInIdeal.τ).loc Cert.ReferenceAdamInIdeal.main_v6) = v2 c
          ∧ r.2.mem ((c.tc : Thread Cert.ReferenceAdamInIdeal.nD Cert.ReferenceAdamInIdeal.τ).loc Cert.ReferenceAdamInIdeal.main_v12) = v3 c
          ∧ r.2.mem ((c.tc : Thread Cert.ReferenceAdamInIdeal.nD Cert.ReferenceAdamInIdeal.τ).loc Cert.ReferenceAdamInIdeal.main_arg0) = m' ((c.tc : Thread Cert.ReferenceAdamInIdeal.nD Cert.ReferenceAdamInIdeal.τ).loc Cert.ReferenceAdamInIdeal.main_arg0)
          ∧ r.2.mem ((c.tc : Thread Cert.ReferenceAdamInIdeal.nD Cert.ReferenceAdamInIdeal.τ).loc Cert.ReferenceAdamInIdeal.main_arg1) = m' ((c.tc : Thread Cert.ReferenceAdamInIdeal.nD Cert.ReferenceAdamInIdeal.τ).loc Cert.ReferenceAdamInIdeal.main_arg1)
          ∧ r.2.mem ((c.tc : Thread Cert.ReferenceAdamInIdeal.nD Cert.ReferenceAdamInIdeal.τ).loc Cert.ReferenceAdamInIdeal.main_arg2) = m' ((c.tc : Thread Cert.ReferenceAdamInIdeal.nD Cert.ReferenceAdamInIdeal.τ).loc Cert.ReferenceAdamInIdeal.main_arg2)
          ∧ r.2.mem ((c.tc : Thread Cert.ReferenceAdamInIdeal.nD Cert.ReferenceAdamInIdeal.τ).loc Cert.ReferenceAdamInIdeal.main_arg3) = m' ((c.tc : Thread Cert.ReferenceAdamInIdeal.nD Cert.ReferenceAdamInIdeal.τ).loc Cert.ReferenceAdamInIdeal.main_arg3))

def preserves_KernelAdamUq_KernelAdamUqIdeal : Prop :=
  True

def algebraic_KernelAdamUqIdeal_ReferenceAdamUqIdeal [hKernelAdamUqIdeal : Cert.KernelAdamUqIdeal.Facts] [hReferenceAdamUqIdeal : Cert.ReferenceAdamUqIdeal.Facts] : Prop :=
  ∀ (m : (ℓ : Loc Cert.KernelAdamUqIdeal.nD Cert.KernelAdamUqIdeal.τ Cert.KernelAdamUqIdeal.sig) → Buf (Elt Ideal) ℓ) (g : Dev Cert.KernelAdamUqIdeal.nD → PrngReg)
    (m' : (ℓ : Loc Cert.ReferenceAdamUqIdeal.nD Cert.ReferenceAdamUqIdeal.τ Cert.ReferenceAdamUqIdeal.sig) → Buf (Elt Ideal) ℓ) (g' : Dev Cert.ReferenceAdamUqIdeal.nD → PrngReg), Pre_KernelAdamUqIdeal m →
    (∀ c : Dev Cert.KernelAdamUqIdeal.nD,
      m' ((c.tc : Thread Cert.ReferenceAdamUqIdeal.nD Cert.ReferenceAdamUqIdeal.τ).loc Cert.ReferenceAdamUqIdeal.main_arg0) = m ((c.tc : Thread Cert.KernelAdamUqIdeal.nD Cert.KernelAdamUqIdeal.τ).loc Cert.KernelAdamUqIdeal.main_arg0)
      ∧ m' ((c.tc : Thread Cert.ReferenceAdamUqIdeal.nD Cert.ReferenceAdamUqIdeal.τ).loc Cert.ReferenceAdamUqIdeal.main_arg1) = m ((c.tc : Thread Cert.KernelAdamUqIdeal.nD Cert.KernelAdamUqIdeal.τ).loc Cert.KernelAdamUqIdeal.main_arg1)
      ∧ m' ((c.tc : Thread Cert.ReferenceAdamUqIdeal.nD Cert.ReferenceAdamUqIdeal.τ).loc Cert.ReferenceAdamUqIdeal.main_arg2) = m ((c.tc : Thread Cert.KernelAdamUqIdeal.nD Cert.KernelAdamUqIdeal.τ).loc Cert.KernelAdamUqIdeal.main_arg2)
      ∧ m' ((c.tc : Thread Cert.ReferenceAdamUqIdeal.nD Cert.ReferenceAdamUqIdeal.τ).loc Cert.ReferenceAdamUqIdeal.main_arg3) = m ((c.tc : Thread Cert.KernelAdamUqIdeal.nD Cert.KernelAdamUqIdeal.τ).loc Cert.KernelAdamUqIdeal.main_arg3)) →
    ∃ (v0 : (c : Dev Cert.KernelAdamUqIdeal.nD) → Buf (Elt Ideal) ((c.tc : Thread Cert.KernelAdamUqIdeal.nD Cert.KernelAdamUqIdeal.τ).loc Cert.KernelAdamUqIdeal.main_v0_0)) (v1 : (c : Dev Cert.KernelAdamUqIdeal.nD) → Buf (Elt Ideal) ((c.tc : Thread Cert.KernelAdamUqIdeal.nD Cert.KernelAdamUqIdeal.τ).loc Cert.KernelAdamUqIdeal.main_v0_1)) (v2 : (c : Dev Cert.KernelAdamUqIdeal.nD) → Buf (Elt Ideal) ((c.tc : Thread Cert.KernelAdamUqIdeal.nD Cert.KernelAdamUqIdeal.τ).loc Cert.KernelAdamUqIdeal.main_v0_2)) (v3 : (c : Dev Cert.KernelAdamUqIdeal.nD) → Buf (Elt Ideal) ((c.tc : Thread Cert.KernelAdamUqIdeal.nD Cert.KernelAdamUqIdeal.τ).loc Cert.KernelAdamUqIdeal.main_v0_3)),
      θ_run (Cert.KernelAdamUqIdeal.defs (F := Ideal)) (onTc (τ := Cert.KernelAdamUqIdeal.τ) (Cert.KernelAdamUqIdeal.main (F := Ideal))) ⟨m, fun _ => 0, g⟩ (fun r => ∀ c : Dev Cert.KernelAdamUqIdeal.nD,
          r.2.mem ((c.tc : Thread Cert.KernelAdamUqIdeal.nD Cert.KernelAdamUqIdeal.τ).loc Cert.KernelAdamUqIdeal.main_v0_0) = v0 c
          ∧ r.2.mem ((c.tc : Thread Cert.KernelAdamUqIdeal.nD Cert.KernelAdamUqIdeal.τ).loc Cert.KernelAdamUqIdeal.main_v0_1) = v1 c
          ∧ r.2.mem ((c.tc : Thread Cert.KernelAdamUqIdeal.nD Cert.KernelAdamUqIdeal.τ).loc Cert.KernelAdamUqIdeal.main_v0_2) = v2 c
          ∧ r.2.mem ((c.tc : Thread Cert.KernelAdamUqIdeal.nD Cert.KernelAdamUqIdeal.τ).loc Cert.KernelAdamUqIdeal.main_v0_3) = v3 c
          ∧ r.2.mem ((c.tc : Thread Cert.KernelAdamUqIdeal.nD Cert.KernelAdamUqIdeal.τ).loc Cert.KernelAdamUqIdeal.main_arg0) = m ((c.tc : Thread Cert.KernelAdamUqIdeal.nD Cert.KernelAdamUqIdeal.τ).loc Cert.KernelAdamUqIdeal.main_arg0)
          ∧ r.2.mem ((c.tc : Thread Cert.KernelAdamUqIdeal.nD Cert.KernelAdamUqIdeal.τ).loc Cert.KernelAdamUqIdeal.main_arg1) = m ((c.tc : Thread Cert.KernelAdamUqIdeal.nD Cert.KernelAdamUqIdeal.τ).loc Cert.KernelAdamUqIdeal.main_arg1)
          ∧ r.2.mem ((c.tc : Thread Cert.KernelAdamUqIdeal.nD Cert.KernelAdamUqIdeal.τ).loc Cert.KernelAdamUqIdeal.main_arg2) = m ((c.tc : Thread Cert.KernelAdamUqIdeal.nD Cert.KernelAdamUqIdeal.τ).loc Cert.KernelAdamUqIdeal.main_arg2)
          ∧ r.2.mem ((c.tc : Thread Cert.KernelAdamUqIdeal.nD Cert.KernelAdamUqIdeal.τ).loc Cert.KernelAdamUqIdeal.main_arg3) = m ((c.tc : Thread Cert.KernelAdamUqIdeal.nD Cert.KernelAdamUqIdeal.τ).loc Cert.KernelAdamUqIdeal.main_arg3))
      ∧ θ_run (Cert.ReferenceAdamUqIdeal.defs (F := Ideal)) (onTc (τ := Cert.ReferenceAdamUqIdeal.τ) (Cert.ReferenceAdamUqIdeal.main (F := Ideal))) ⟨m', fun _ => 0, g'⟩ (fun r => ∀ c : Dev Cert.ReferenceAdamUqIdeal.nD,
          r.2.mem ((c.tc : Thread Cert.ReferenceAdamUqIdeal.nD Cert.ReferenceAdamUqIdeal.τ).loc Cert.ReferenceAdamUqIdeal.main_v1) = v0 c
          ∧ r.2.mem ((c.tc : Thread Cert.ReferenceAdamUqIdeal.nD Cert.ReferenceAdamUqIdeal.τ).loc Cert.ReferenceAdamUqIdeal.main_v25) = v1 c
          ∧ r.2.mem ((c.tc : Thread Cert.ReferenceAdamUqIdeal.nD Cert.ReferenceAdamUqIdeal.τ).loc Cert.ReferenceAdamUqIdeal.main_v6) = v2 c
          ∧ r.2.mem ((c.tc : Thread Cert.ReferenceAdamUqIdeal.nD Cert.ReferenceAdamUqIdeal.τ).loc Cert.ReferenceAdamUqIdeal.main_v12) = v3 c
          ∧ r.2.mem ((c.tc : Thread Cert.ReferenceAdamUqIdeal.nD Cert.ReferenceAdamUqIdeal.τ).loc Cert.ReferenceAdamUqIdeal.main_arg0) = m' ((c.tc : Thread Cert.ReferenceAdamUqIdeal.nD Cert.ReferenceAdamUqIdeal.τ).loc Cert.ReferenceAdamUqIdeal.main_arg0)
          ∧ r.2.mem ((c.tc : Thread Cert.ReferenceAdamUqIdeal.nD Cert.ReferenceAdamUqIdeal.τ).loc Cert.ReferenceAdamUqIdeal.main_arg1) = m' ((c.tc : Thread Cert.ReferenceAdamUqIdeal.nD Cert.ReferenceAdamUqIdeal.τ).loc Cert.ReferenceAdamUqIdeal.main_arg1)
          ∧ r.2.mem ((c.tc : Thread Cert.ReferenceAdamUqIdeal.nD Cert.ReferenceAdamUqIdeal.τ).loc Cert.ReferenceAdamUqIdeal.main_arg2) = m' ((c.tc : Thread Cert.ReferenceAdamUqIdeal.nD Cert.ReferenceAdamUqIdeal.τ).loc Cert.ReferenceAdamUqIdeal.main_arg2)
          ∧ r.2.mem ((c.tc : Thread Cert.ReferenceAdamUqIdeal.nD Cert.ReferenceAdamUqIdeal.τ).loc Cert.ReferenceAdamUqIdeal.main_arg3) = m' ((c.tc : Thread Cert.ReferenceAdamUqIdeal.nD Cert.ReferenceAdamUqIdeal.τ).loc Cert.ReferenceAdamUqIdeal.main_arg3))

def preserves_KernelAdamUkv_KernelAdamUkvIdeal : Prop :=
  True

def algebraic_KernelAdamUkvIdeal_ReferenceAdamUkvIdeal [hKernelAdamUkvIdeal : Cert.KernelAdamUkvIdeal.Facts] [hReferenceAdamUkvIdeal : Cert.ReferenceAdamUkvIdeal.Facts] : Prop :=
  ∀ (m : (ℓ : Loc Cert.KernelAdamUkvIdeal.nD Cert.KernelAdamUkvIdeal.τ Cert.KernelAdamUkvIdeal.sig) → Buf (Elt Ideal) ℓ) (g : Dev Cert.KernelAdamUkvIdeal.nD → PrngReg)
    (m' : (ℓ : Loc Cert.ReferenceAdamUkvIdeal.nD Cert.ReferenceAdamUkvIdeal.τ Cert.ReferenceAdamUkvIdeal.sig) → Buf (Elt Ideal) ℓ) (g' : Dev Cert.ReferenceAdamUkvIdeal.nD → PrngReg), Pre_KernelAdamUkvIdeal m →
    (∀ c : Dev Cert.KernelAdamUkvIdeal.nD,
      m' ((c.tc : Thread Cert.ReferenceAdamUkvIdeal.nD Cert.ReferenceAdamUkvIdeal.τ).loc Cert.ReferenceAdamUkvIdeal.main_arg0) = m ((c.tc : Thread Cert.KernelAdamUkvIdeal.nD Cert.KernelAdamUkvIdeal.τ).loc Cert.KernelAdamUkvIdeal.main_arg0)
      ∧ m' ((c.tc : Thread Cert.ReferenceAdamUkvIdeal.nD Cert.ReferenceAdamUkvIdeal.τ).loc Cert.ReferenceAdamUkvIdeal.main_arg1) = m ((c.tc : Thread Cert.KernelAdamUkvIdeal.nD Cert.KernelAdamUkvIdeal.τ).loc Cert.KernelAdamUkvIdeal.main_arg1)
      ∧ m' ((c.tc : Thread Cert.ReferenceAdamUkvIdeal.nD Cert.ReferenceAdamUkvIdeal.τ).loc Cert.ReferenceAdamUkvIdeal.main_arg2) = m ((c.tc : Thread Cert.KernelAdamUkvIdeal.nD Cert.KernelAdamUkvIdeal.τ).loc Cert.KernelAdamUkvIdeal.main_arg2)
      ∧ m' ((c.tc : Thread Cert.ReferenceAdamUkvIdeal.nD Cert.ReferenceAdamUkvIdeal.τ).loc Cert.ReferenceAdamUkvIdeal.main_arg3) = m ((c.tc : Thread Cert.KernelAdamUkvIdeal.nD Cert.KernelAdamUkvIdeal.τ).loc Cert.KernelAdamUkvIdeal.main_arg3)) →
    ∃ (v0 : (c : Dev Cert.KernelAdamUkvIdeal.nD) → Buf (Elt Ideal) ((c.tc : Thread Cert.KernelAdamUkvIdeal.nD Cert.KernelAdamUkvIdeal.τ).loc Cert.KernelAdamUkvIdeal.main_v0_0)) (v1 : (c : Dev Cert.KernelAdamUkvIdeal.nD) → Buf (Elt Ideal) ((c.tc : Thread Cert.KernelAdamUkvIdeal.nD Cert.KernelAdamUkvIdeal.τ).loc Cert.KernelAdamUkvIdeal.main_v0_1)) (v2 : (c : Dev Cert.KernelAdamUkvIdeal.nD) → Buf (Elt Ideal) ((c.tc : Thread Cert.KernelAdamUkvIdeal.nD Cert.KernelAdamUkvIdeal.τ).loc Cert.KernelAdamUkvIdeal.main_v0_2)) (v3 : (c : Dev Cert.KernelAdamUkvIdeal.nD) → Buf (Elt Ideal) ((c.tc : Thread Cert.KernelAdamUkvIdeal.nD Cert.KernelAdamUkvIdeal.τ).loc Cert.KernelAdamUkvIdeal.main_v0_3)),
      θ_run (Cert.KernelAdamUkvIdeal.defs (F := Ideal)) (onTc (τ := Cert.KernelAdamUkvIdeal.τ) (Cert.KernelAdamUkvIdeal.main (F := Ideal))) ⟨m, fun _ => 0, g⟩ (fun r => ∀ c : Dev Cert.KernelAdamUkvIdeal.nD,
          r.2.mem ((c.tc : Thread Cert.KernelAdamUkvIdeal.nD Cert.KernelAdamUkvIdeal.τ).loc Cert.KernelAdamUkvIdeal.main_v0_0) = v0 c
          ∧ r.2.mem ((c.tc : Thread Cert.KernelAdamUkvIdeal.nD Cert.KernelAdamUkvIdeal.τ).loc Cert.KernelAdamUkvIdeal.main_v0_1) = v1 c
          ∧ r.2.mem ((c.tc : Thread Cert.KernelAdamUkvIdeal.nD Cert.KernelAdamUkvIdeal.τ).loc Cert.KernelAdamUkvIdeal.main_v0_2) = v2 c
          ∧ r.2.mem ((c.tc : Thread Cert.KernelAdamUkvIdeal.nD Cert.KernelAdamUkvIdeal.τ).loc Cert.KernelAdamUkvIdeal.main_v0_3) = v3 c
          ∧ r.2.mem ((c.tc : Thread Cert.KernelAdamUkvIdeal.nD Cert.KernelAdamUkvIdeal.τ).loc Cert.KernelAdamUkvIdeal.main_arg0) = m ((c.tc : Thread Cert.KernelAdamUkvIdeal.nD Cert.KernelAdamUkvIdeal.τ).loc Cert.KernelAdamUkvIdeal.main_arg0)
          ∧ r.2.mem ((c.tc : Thread Cert.KernelAdamUkvIdeal.nD Cert.KernelAdamUkvIdeal.τ).loc Cert.KernelAdamUkvIdeal.main_arg1) = m ((c.tc : Thread Cert.KernelAdamUkvIdeal.nD Cert.KernelAdamUkvIdeal.τ).loc Cert.KernelAdamUkvIdeal.main_arg1)
          ∧ r.2.mem ((c.tc : Thread Cert.KernelAdamUkvIdeal.nD Cert.KernelAdamUkvIdeal.τ).loc Cert.KernelAdamUkvIdeal.main_arg2) = m ((c.tc : Thread Cert.KernelAdamUkvIdeal.nD Cert.KernelAdamUkvIdeal.τ).loc Cert.KernelAdamUkvIdeal.main_arg2)
          ∧ r.2.mem ((c.tc : Thread Cert.KernelAdamUkvIdeal.nD Cert.KernelAdamUkvIdeal.τ).loc Cert.KernelAdamUkvIdeal.main_arg3) = m ((c.tc : Thread Cert.KernelAdamUkvIdeal.nD Cert.KernelAdamUkvIdeal.τ).loc Cert.KernelAdamUkvIdeal.main_arg3))
      ∧ θ_run (Cert.ReferenceAdamUkvIdeal.defs (F := Ideal)) (onTc (τ := Cert.ReferenceAdamUkvIdeal.τ) (Cert.ReferenceAdamUkvIdeal.main (F := Ideal))) ⟨m', fun _ => 0, g'⟩ (fun r => ∀ c : Dev Cert.ReferenceAdamUkvIdeal.nD,
          r.2.mem ((c.tc : Thread Cert.ReferenceAdamUkvIdeal.nD Cert.ReferenceAdamUkvIdeal.τ).loc Cert.ReferenceAdamUkvIdeal.main_v1) = v0 c
          ∧ r.2.mem ((c.tc : Thread Cert.ReferenceAdamUkvIdeal.nD Cert.ReferenceAdamUkvIdeal.τ).loc Cert.ReferenceAdamUkvIdeal.main_v25) = v1 c
          ∧ r.2.mem ((c.tc : Thread Cert.ReferenceAdamUkvIdeal.nD Cert.ReferenceAdamUkvIdeal.τ).loc Cert.ReferenceAdamUkvIdeal.main_v6) = v2 c
          ∧ r.2.mem ((c.tc : Thread Cert.ReferenceAdamUkvIdeal.nD Cert.ReferenceAdamUkvIdeal.τ).loc Cert.ReferenceAdamUkvIdeal.main_v12) = v3 c
          ∧ r.2.mem ((c.tc : Thread Cert.ReferenceAdamUkvIdeal.nD Cert.ReferenceAdamUkvIdeal.τ).loc Cert.ReferenceAdamUkvIdeal.main_arg0) = m' ((c.tc : Thread Cert.ReferenceAdamUkvIdeal.nD Cert.ReferenceAdamUkvIdeal.τ).loc Cert.ReferenceAdamUkvIdeal.main_arg0)
          ∧ r.2.mem ((c.tc : Thread Cert.ReferenceAdamUkvIdeal.nD Cert.ReferenceAdamUkvIdeal.τ).loc Cert.ReferenceAdamUkvIdeal.main_arg1) = m' ((c.tc : Thread Cert.ReferenceAdamUkvIdeal.nD Cert.ReferenceAdamUkvIdeal.τ).loc Cert.ReferenceAdamUkvIdeal.main_arg1)
          ∧ r.2.mem ((c.tc : Thread Cert.ReferenceAdamUkvIdeal.nD Cert.ReferenceAdamUkvIdeal.τ).loc Cert.ReferenceAdamUkvIdeal.main_arg2) = m' ((c.tc : Thread Cert.ReferenceAdamUkvIdeal.nD Cert.ReferenceAdamUkvIdeal.τ).loc Cert.ReferenceAdamUkvIdeal.main_arg2)
          ∧ r.2.mem ((c.tc : Thread Cert.ReferenceAdamUkvIdeal.nD Cert.ReferenceAdamUkvIdeal.τ).loc Cert.ReferenceAdamUkvIdeal.main_arg3) = m' ((c.tc : Thread Cert.ReferenceAdamUkvIdeal.nD Cert.ReferenceAdamUkvIdeal.τ).loc Cert.ReferenceAdamUkvIdeal.main_arg3))

def preserves_KernelAdamOut_KernelAdamOutIdeal : Prop :=
  True

def algebraic_KernelAdamOutIdeal_ReferenceAdamOutIdeal [hKernelAdamOutIdeal : Cert.KernelAdamOutIdeal.Facts] [hReferenceAdamOutIdeal : Cert.ReferenceAdamOutIdeal.Facts] : Prop :=
  ∀ (m : (ℓ : Loc Cert.KernelAdamOutIdeal.nD Cert.KernelAdamOutIdeal.τ Cert.KernelAdamOutIdeal.sig) → Buf (Elt Ideal) ℓ) (g : Dev Cert.KernelAdamOutIdeal.nD → PrngReg)
    (m' : (ℓ : Loc Cert.ReferenceAdamOutIdeal.nD Cert.ReferenceAdamOutIdeal.τ Cert.ReferenceAdamOutIdeal.sig) → Buf (Elt Ideal) ℓ) (g' : Dev Cert.ReferenceAdamOutIdeal.nD → PrngReg), Pre_KernelAdamOutIdeal m →
    (∀ c : Dev Cert.KernelAdamOutIdeal.nD,
      m' ((c.tc : Thread Cert.ReferenceAdamOutIdeal.nD Cert.ReferenceAdamOutIdeal.τ).loc Cert.ReferenceAdamOutIdeal.main_arg0) = m ((c.tc : Thread Cert.KernelAdamOutIdeal.nD Cert.KernelAdamOutIdeal.τ).loc Cert.KernelAdamOutIdeal.main_arg0)
      ∧ m' ((c.tc : Thread Cert.ReferenceAdamOutIdeal.nD Cert.ReferenceAdamOutIdeal.τ).loc Cert.ReferenceAdamOutIdeal.main_arg1) = m ((c.tc : Thread Cert.KernelAdamOutIdeal.nD Cert.KernelAdamOutIdeal.τ).loc Cert.KernelAdamOutIdeal.main_arg1)
      ∧ m' ((c.tc : Thread Cert.ReferenceAdamOutIdeal.nD Cert.ReferenceAdamOutIdeal.τ).loc Cert.ReferenceAdamOutIdeal.main_arg2) = m ((c.tc : Thread Cert.KernelAdamOutIdeal.nD Cert.KernelAdamOutIdeal.τ).loc Cert.KernelAdamOutIdeal.main_arg2)
      ∧ m' ((c.tc : Thread Cert.ReferenceAdamOutIdeal.nD Cert.ReferenceAdamOutIdeal.τ).loc Cert.ReferenceAdamOutIdeal.main_arg3) = m ((c.tc : Thread Cert.KernelAdamOutIdeal.nD Cert.KernelAdamOutIdeal.τ).loc Cert.KernelAdamOutIdeal.main_arg3)) →
    ∃ (v0 : (c : Dev Cert.KernelAdamOutIdeal.nD) → Buf (Elt Ideal) ((c.tc : Thread Cert.KernelAdamOutIdeal.nD Cert.KernelAdamOutIdeal.τ).loc Cert.KernelAdamOutIdeal.main_v0_0)) (v1 : (c : Dev Cert.KernelAdamOutIdeal.nD) → Buf (Elt Ideal) ((c.tc : Thread Cert.KernelAdamOutIdeal.nD Cert.KernelAdamOutIdeal.τ).loc Cert.KernelAdamOutIdeal.main_v0_1)) (v2 : (c : Dev Cert.KernelAdamOutIdeal.nD) → Buf (Elt Ideal) ((c.tc : Thread Cert.KernelAdamOutIdeal.nD Cert.KernelAdamOutIdeal.τ).loc Cert.KernelAdamOutIdeal.main_v0_2)) (v3 : (c : Dev Cert.KernelAdamOutIdeal.nD) → Buf (Elt Ideal) ((c.tc : Thread Cert.KernelAdamOutIdeal.nD Cert.KernelAdamOutIdeal.τ).loc Cert.KernelAdamOutIdeal.main_v0_3)),
      θ_run (Cert.KernelAdamOutIdeal.defs (F := Ideal)) (onTc (τ := Cert.KernelAdamOutIdeal.τ) (Cert.KernelAdamOutIdeal.main (F := Ideal))) ⟨m, fun _ => 0, g⟩ (fun r => ∀ c : Dev Cert.KernelAdamOutIdeal.nD,
          r.2.mem ((c.tc : Thread Cert.KernelAdamOutIdeal.nD Cert.KernelAdamOutIdeal.τ).loc Cert.KernelAdamOutIdeal.main_v0_0) = v0 c
          ∧ r.2.mem ((c.tc : Thread Cert.KernelAdamOutIdeal.nD Cert.KernelAdamOutIdeal.τ).loc Cert.KernelAdamOutIdeal.main_v0_1) = v1 c
          ∧ r.2.mem ((c.tc : Thread Cert.KernelAdamOutIdeal.nD Cert.KernelAdamOutIdeal.τ).loc Cert.KernelAdamOutIdeal.main_v0_2) = v2 c
          ∧ r.2.mem ((c.tc : Thread Cert.KernelAdamOutIdeal.nD Cert.KernelAdamOutIdeal.τ).loc Cert.KernelAdamOutIdeal.main_v0_3) = v3 c
          ∧ r.2.mem ((c.tc : Thread Cert.KernelAdamOutIdeal.nD Cert.KernelAdamOutIdeal.τ).loc Cert.KernelAdamOutIdeal.main_arg0) = m ((c.tc : Thread Cert.KernelAdamOutIdeal.nD Cert.KernelAdamOutIdeal.τ).loc Cert.KernelAdamOutIdeal.main_arg0)
          ∧ r.2.mem ((c.tc : Thread Cert.KernelAdamOutIdeal.nD Cert.KernelAdamOutIdeal.τ).loc Cert.KernelAdamOutIdeal.main_arg1) = m ((c.tc : Thread Cert.KernelAdamOutIdeal.nD Cert.KernelAdamOutIdeal.τ).loc Cert.KernelAdamOutIdeal.main_arg1)
          ∧ r.2.mem ((c.tc : Thread Cert.KernelAdamOutIdeal.nD Cert.KernelAdamOutIdeal.τ).loc Cert.KernelAdamOutIdeal.main_arg2) = m ((c.tc : Thread Cert.KernelAdamOutIdeal.nD Cert.KernelAdamOutIdeal.τ).loc Cert.KernelAdamOutIdeal.main_arg2)
          ∧ r.2.mem ((c.tc : Thread Cert.KernelAdamOutIdeal.nD Cert.KernelAdamOutIdeal.τ).loc Cert.KernelAdamOutIdeal.main_arg3) = m ((c.tc : Thread Cert.KernelAdamOutIdeal.nD Cert.KernelAdamOutIdeal.τ).loc Cert.KernelAdamOutIdeal.main_arg3))
      ∧ θ_run (Cert.ReferenceAdamOutIdeal.defs (F := Ideal)) (onTc (τ := Cert.ReferenceAdamOutIdeal.τ) (Cert.ReferenceAdamOutIdeal.main (F := Ideal))) ⟨m', fun _ => 0, g'⟩ (fun r => ∀ c : Dev Cert.ReferenceAdamOutIdeal.nD,
          r.2.mem ((c.tc : Thread Cert.ReferenceAdamOutIdeal.nD Cert.ReferenceAdamOutIdeal.τ).loc Cert.ReferenceAdamOutIdeal.main_v1) = v0 c
          ∧ r.2.mem ((c.tc : Thread Cert.ReferenceAdamOutIdeal.nD Cert.ReferenceAdamOutIdeal.τ).loc Cert.ReferenceAdamOutIdeal.main_v25) = v1 c
          ∧ r.2.mem ((c.tc : Thread Cert.ReferenceAdamOutIdeal.nD Cert.ReferenceAdamOutIdeal.τ).loc Cert.ReferenceAdamOutIdeal.main_v6) = v2 c
          ∧ r.2.mem ((c.tc : Thread Cert.ReferenceAdamOutIdeal.nD Cert.ReferenceAdamOutIdeal.τ).loc Cert.ReferenceAdamOutIdeal.main_v12) = v3 c
          ∧ r.2.mem ((c.tc : Thread Cert.ReferenceAdamOutIdeal.nD Cert.ReferenceAdamOutIdeal.τ).loc Cert.ReferenceAdamOutIdeal.main_arg0) = m' ((c.tc : Thread Cert.ReferenceAdamOutIdeal.nD Cert.ReferenceAdamOutIdeal.τ).loc Cert.ReferenceAdamOutIdeal.main_arg0)
          ∧ r.2.mem ((c.tc : Thread Cert.ReferenceAdamOutIdeal.nD Cert.ReferenceAdamOutIdeal.τ).loc Cert.ReferenceAdamOutIdeal.main_arg1) = m' ((c.tc : Thread Cert.ReferenceAdamOutIdeal.nD Cert.ReferenceAdamOutIdeal.τ).loc Cert.ReferenceAdamOutIdeal.main_arg1)
          ∧ r.2.mem ((c.tc : Thread Cert.ReferenceAdamOutIdeal.nD Cert.ReferenceAdamOutIdeal.τ).loc Cert.ReferenceAdamOutIdeal.main_arg2) = m' ((c.tc : Thread Cert.ReferenceAdamOutIdeal.nD Cert.ReferenceAdamOutIdeal.τ).loc Cert.ReferenceAdamOutIdeal.main_arg2)
          ∧ r.2.mem ((c.tc : Thread Cert.ReferenceAdamOutIdeal.nD Cert.ReferenceAdamOutIdeal.τ).loc Cert.ReferenceAdamOutIdeal.main_arg3) = m' ((c.tc : Thread Cert.ReferenceAdamOutIdeal.nD Cert.ReferenceAdamOutIdeal.τ).loc Cert.ReferenceAdamOutIdeal.main_arg3))

def preserves_KernelAdamScan_KernelAdamScanIdeal : Prop :=
  True

def algebraic_KernelAdamScanIdeal_ReferenceAdamScanIdeal [hKernelAdamScanIdeal : Cert.KernelAdamScanIdeal.Facts] [hReferenceAdamScanIdeal : Cert.ReferenceAdamScanIdeal.Facts] : Prop :=
  ∀ (m : (ℓ : Loc Cert.KernelAdamScanIdeal.nD Cert.KernelAdamScanIdeal.τ Cert.KernelAdamScanIdeal.sig) → Buf (Elt Ideal) ℓ) (g : Dev Cert.KernelAdamScanIdeal.nD → PrngReg)
    (m' : (ℓ : Loc Cert.ReferenceAdamScanIdeal.nD Cert.ReferenceAdamScanIdeal.τ Cert.ReferenceAdamScanIdeal.sig) → Buf (Elt Ideal) ℓ) (g' : Dev Cert.ReferenceAdamScanIdeal.nD → PrngReg), Pre_KernelAdamScanIdeal m →
    (∀ c : Dev Cert.KernelAdamScanIdeal.nD,
      m' ((c.tc : Thread Cert.ReferenceAdamScanIdeal.nD Cert.ReferenceAdamScanIdeal.τ).loc Cert.ReferenceAdamScanIdeal.main_arg0) = m ((c.tc : Thread Cert.KernelAdamScanIdeal.nD Cert.KernelAdamScanIdeal.τ).loc Cert.KernelAdamScanIdeal.main_arg0)
      ∧ m' ((c.tc : Thread Cert.ReferenceAdamScanIdeal.nD Cert.ReferenceAdamScanIdeal.τ).loc Cert.ReferenceAdamScanIdeal.main_arg1) = m ((c.tc : Thread Cert.KernelAdamScanIdeal.nD Cert.KernelAdamScanIdeal.τ).loc Cert.KernelAdamScanIdeal.main_arg1)
      ∧ m' ((c.tc : Thread Cert.ReferenceAdamScanIdeal.nD Cert.ReferenceAdamScanIdeal.τ).loc Cert.ReferenceAdamScanIdeal.main_arg2) = m ((c.tc : Thread Cert.KernelAdamScanIdeal.nD Cert.KernelAdamScanIdeal.τ).loc Cert.KernelAdamScanIdeal.main_arg2)
      ∧ m' ((c.tc : Thread Cert.ReferenceAdamScanIdeal.nD Cert.ReferenceAdamScanIdeal.τ).loc Cert.ReferenceAdamScanIdeal.main_arg3) = m ((c.tc : Thread Cert.KernelAdamScanIdeal.nD Cert.KernelAdamScanIdeal.τ).loc Cert.KernelAdamScanIdeal.main_arg3)) →
    ∃ (v0 : (c : Dev Cert.KernelAdamScanIdeal.nD) → Buf (Elt Ideal) ((c.tc : Thread Cert.KernelAdamScanIdeal.nD Cert.KernelAdamScanIdeal.τ).loc Cert.KernelAdamScanIdeal.main_v0_0)) (v1 : (c : Dev Cert.KernelAdamScanIdeal.nD) → Buf (Elt Ideal) ((c.tc : Thread Cert.KernelAdamScanIdeal.nD Cert.KernelAdamScanIdeal.τ).loc Cert.KernelAdamScanIdeal.main_v0_1)) (v2 : (c : Dev Cert.KernelAdamScanIdeal.nD) → Buf (Elt Ideal) ((c.tc : Thread Cert.KernelAdamScanIdeal.nD Cert.KernelAdamScanIdeal.τ).loc Cert.KernelAdamScanIdeal.main_v0_2)) (v3 : (c : Dev Cert.KernelAdamScanIdeal.nD) → Buf (Elt Ideal) ((c.tc : Thread Cert.KernelAdamScanIdeal.nD Cert.KernelAdamScanIdeal.τ).loc Cert.KernelAdamScanIdeal.main_v0_3)),
      θ_run (Cert.KernelAdamScanIdeal.defs (F := Ideal)) (onTc (τ := Cert.KernelAdamScanIdeal.τ) (Cert.KernelAdamScanIdeal.main (F := Ideal))) ⟨m, fun _ => 0, g⟩ (fun r => ∀ c : Dev Cert.KernelAdamScanIdeal.nD,
          r.2.mem ((c.tc : Thread Cert.KernelAdamScanIdeal.nD Cert.KernelAdamScanIdeal.τ).loc Cert.KernelAdamScanIdeal.main_v0_0) = v0 c
          ∧ r.2.mem ((c.tc : Thread Cert.KernelAdamScanIdeal.nD Cert.KernelAdamScanIdeal.τ).loc Cert.KernelAdamScanIdeal.main_v0_1) = v1 c
          ∧ r.2.mem ((c.tc : Thread Cert.KernelAdamScanIdeal.nD Cert.KernelAdamScanIdeal.τ).loc Cert.KernelAdamScanIdeal.main_v0_2) = v2 c
          ∧ r.2.mem ((c.tc : Thread Cert.KernelAdamScanIdeal.nD Cert.KernelAdamScanIdeal.τ).loc Cert.KernelAdamScanIdeal.main_v0_3) = v3 c
          ∧ r.2.mem ((c.tc : Thread Cert.KernelAdamScanIdeal.nD Cert.KernelAdamScanIdeal.τ).loc Cert.KernelAdamScanIdeal.main_arg0) = m ((c.tc : Thread Cert.KernelAdamScanIdeal.nD Cert.KernelAdamScanIdeal.τ).loc Cert.KernelAdamScanIdeal.main_arg0)
          ∧ r.2.mem ((c.tc : Thread Cert.KernelAdamScanIdeal.nD Cert.KernelAdamScanIdeal.τ).loc Cert.KernelAdamScanIdeal.main_arg1) = m ((c.tc : Thread Cert.KernelAdamScanIdeal.nD Cert.KernelAdamScanIdeal.τ).loc Cert.KernelAdamScanIdeal.main_arg1)
          ∧ r.2.mem ((c.tc : Thread Cert.KernelAdamScanIdeal.nD Cert.KernelAdamScanIdeal.τ).loc Cert.KernelAdamScanIdeal.main_arg2) = m ((c.tc : Thread Cert.KernelAdamScanIdeal.nD Cert.KernelAdamScanIdeal.τ).loc Cert.KernelAdamScanIdeal.main_arg2)
          ∧ r.2.mem ((c.tc : Thread Cert.KernelAdamScanIdeal.nD Cert.KernelAdamScanIdeal.τ).loc Cert.KernelAdamScanIdeal.main_arg3) = m ((c.tc : Thread Cert.KernelAdamScanIdeal.nD Cert.KernelAdamScanIdeal.τ).loc Cert.KernelAdamScanIdeal.main_arg3))
      ∧ θ_run (Cert.ReferenceAdamScanIdeal.defs (F := Ideal)) (onTc (τ := Cert.ReferenceAdamScanIdeal.τ) (Cert.ReferenceAdamScanIdeal.main (F := Ideal))) ⟨m', fun _ => 0, g'⟩ (fun r => ∀ c : Dev Cert.ReferenceAdamScanIdeal.nD,
          r.2.mem ((c.tc : Thread Cert.ReferenceAdamScanIdeal.nD Cert.ReferenceAdamScanIdeal.τ).loc Cert.ReferenceAdamScanIdeal.main_v1) = v0 c
          ∧ r.2.mem ((c.tc : Thread Cert.ReferenceAdamScanIdeal.nD Cert.ReferenceAdamScanIdeal.τ).loc Cert.ReferenceAdamScanIdeal.main_v25) = v1 c
          ∧ r.2.mem ((c.tc : Thread Cert.ReferenceAdamScanIdeal.nD Cert.ReferenceAdamScanIdeal.τ).loc Cert.ReferenceAdamScanIdeal.main_v6) = v2 c
          ∧ r.2.mem ((c.tc : Thread Cert.ReferenceAdamScanIdeal.nD Cert.ReferenceAdamScanIdeal.τ).loc Cert.ReferenceAdamScanIdeal.main_v12) = v3 c
          ∧ r.2.mem ((c.tc : Thread Cert.ReferenceAdamScanIdeal.nD Cert.ReferenceAdamScanIdeal.τ).loc Cert.ReferenceAdamScanIdeal.main_arg0) = m' ((c.tc : Thread Cert.ReferenceAdamScanIdeal.nD Cert.ReferenceAdamScanIdeal.τ).loc Cert.ReferenceAdamScanIdeal.main_arg0)
          ∧ r.2.mem ((c.tc : Thread Cert.ReferenceAdamScanIdeal.nD Cert.ReferenceAdamScanIdeal.τ).loc Cert.ReferenceAdamScanIdeal.main_arg1) = m' ((c.tc : Thread Cert.ReferenceAdamScanIdeal.nD Cert.ReferenceAdamScanIdeal.τ).loc Cert.ReferenceAdamScanIdeal.main_arg1)
          ∧ r.2.mem ((c.tc : Thread Cert.ReferenceAdamScanIdeal.nD Cert.ReferenceAdamScanIdeal.τ).loc Cert.ReferenceAdamScanIdeal.main_arg2) = m' ((c.tc : Thread Cert.ReferenceAdamScanIdeal.nD Cert.ReferenceAdamScanIdeal.τ).loc Cert.ReferenceAdamScanIdeal.main_arg2)
          ∧ r.2.mem ((c.tc : Thread Cert.ReferenceAdamScanIdeal.nD Cert.ReferenceAdamScanIdeal.τ).loc Cert.ReferenceAdamScanIdeal.main_arg3) = m' ((c.tc : Thread Cert.ReferenceAdamScanIdeal.nD Cert.ReferenceAdamScanIdeal.τ).loc Cert.ReferenceAdamScanIdeal.main_arg3))

def preserves_KernelAdamGlu_KernelAdamGluIdeal : Prop :=
  True

def algebraic_KernelAdamGluIdeal_ReferenceAdamGluIdeal [hKernelAdamGluIdeal : Cert.KernelAdamGluIdeal.Facts] [hReferenceAdamGluIdeal : Cert.ReferenceAdamGluIdeal.Facts] : Prop :=
  ∀ (m : (ℓ : Loc Cert.KernelAdamGluIdeal.nD Cert.KernelAdamGluIdeal.τ Cert.KernelAdamGluIdeal.sig) → Buf (Elt Ideal) ℓ) (g : Dev Cert.KernelAdamGluIdeal.nD → PrngReg)
    (m' : (ℓ : Loc Cert.ReferenceAdamGluIdeal.nD Cert.ReferenceAdamGluIdeal.τ Cert.ReferenceAdamGluIdeal.sig) → Buf (Elt Ideal) ℓ) (g' : Dev Cert.ReferenceAdamGluIdeal.nD → PrngReg), Pre_KernelAdamGluIdeal m →
    (∀ c : Dev Cert.KernelAdamGluIdeal.nD,
      m' ((c.tc : Thread Cert.ReferenceAdamGluIdeal.nD Cert.ReferenceAdamGluIdeal.τ).loc Cert.ReferenceAdamGluIdeal.main_arg0) = m ((c.tc : Thread Cert.KernelAdamGluIdeal.nD Cert.KernelAdamGluIdeal.τ).loc Cert.KernelAdamGluIdeal.main_arg0)
      ∧ m' ((c.tc : Thread Cert.ReferenceAdamGluIdeal.nD Cert.ReferenceAdamGluIdeal.τ).loc Cert.ReferenceAdamGluIdeal.main_arg1) = m ((c.tc : Thread Cert.KernelAdamGluIdeal.nD Cert.KernelAdamGluIdeal.τ).loc Cert.KernelAdamGluIdeal.main_arg1)
      ∧ m' ((c.tc : Thread Cert.ReferenceAdamGluIdeal.nD Cert.ReferenceAdamGluIdeal.τ).loc Cert.ReferenceAdamGluIdeal.main_arg2) = m ((c.tc : Thread Cert.KernelAdamGluIdeal.nD Cert.KernelAdamGluIdeal.τ).loc Cert.KernelAdamGluIdeal.main_arg2)
      ∧ m' ((c.tc : Thread Cert.ReferenceAdamGluIdeal.nD Cert.ReferenceAdamGluIdeal.τ).loc Cert.ReferenceAdamGluIdeal.main_arg3) = m ((c.tc : Thread Cert.KernelAdamGluIdeal.nD Cert.KernelAdamGluIdeal.τ).loc Cert.KernelAdamGluIdeal.main_arg3)) →
    ∃ (v0 : (c : Dev Cert.KernelAdamGluIdeal.nD) → Buf (Elt Ideal) ((c.tc : Thread Cert.KernelAdamGluIdeal.nD Cert.KernelAdamGluIdeal.τ).loc Cert.KernelAdamGluIdeal.main_v0_0)) (v1 : (c : Dev Cert.KernelAdamGluIdeal.nD) → Buf (Elt Ideal) ((c.tc : Thread Cert.KernelAdamGluIdeal.nD Cert.KernelAdamGluIdeal.τ).loc Cert.KernelAdamGluIdeal.main_v0_1)) (v2 : (c : Dev Cert.KernelAdamGluIdeal.nD) → Buf (Elt Ideal) ((c.tc : Thread Cert.KernelAdamGluIdeal.nD Cert.KernelAdamGluIdeal.τ).loc Cert.KernelAdamGluIdeal.main_v0_2)) (v3 : (c : Dev Cert.KernelAdamGluIdeal.nD) → Buf (Elt Ideal) ((c.tc : Thread Cert.KernelAdamGluIdeal.nD Cert.KernelAdamGluIdeal.τ).loc Cert.KernelAdamGluIdeal.main_v0_3)),
      θ_run (Cert.KernelAdamGluIdeal.defs (F := Ideal)) (onTc (τ := Cert.KernelAdamGluIdeal.τ) (Cert.KernelAdamGluIdeal.main (F := Ideal))) ⟨m, fun _ => 0, g⟩ (fun r => ∀ c : Dev Cert.KernelAdamGluIdeal.nD,
          r.2.mem ((c.tc : Thread Cert.KernelAdamGluIdeal.nD Cert.KernelAdamGluIdeal.τ).loc Cert.KernelAdamGluIdeal.main_v0_0) = v0 c
          ∧ r.2.mem ((c.tc : Thread Cert.KernelAdamGluIdeal.nD Cert.KernelAdamGluIdeal.τ).loc Cert.KernelAdamGluIdeal.main_v0_1) = v1 c
          ∧ r.2.mem ((c.tc : Thread Cert.KernelAdamGluIdeal.nD Cert.KernelAdamGluIdeal.τ).loc Cert.KernelAdamGluIdeal.main_v0_2) = v2 c
          ∧ r.2.mem ((c.tc : Thread Cert.KernelAdamGluIdeal.nD Cert.KernelAdamGluIdeal.τ).loc Cert.KernelAdamGluIdeal.main_v0_3) = v3 c
          ∧ r.2.mem ((c.tc : Thread Cert.KernelAdamGluIdeal.nD Cert.KernelAdamGluIdeal.τ).loc Cert.KernelAdamGluIdeal.main_arg0) = m ((c.tc : Thread Cert.KernelAdamGluIdeal.nD Cert.KernelAdamGluIdeal.τ).loc Cert.KernelAdamGluIdeal.main_arg0)
          ∧ r.2.mem ((c.tc : Thread Cert.KernelAdamGluIdeal.nD Cert.KernelAdamGluIdeal.τ).loc Cert.KernelAdamGluIdeal.main_arg1) = m ((c.tc : Thread Cert.KernelAdamGluIdeal.nD Cert.KernelAdamGluIdeal.τ).loc Cert.KernelAdamGluIdeal.main_arg1)
          ∧ r.2.mem ((c.tc : Thread Cert.KernelAdamGluIdeal.nD Cert.KernelAdamGluIdeal.τ).loc Cert.KernelAdamGluIdeal.main_arg2) = m ((c.tc : Thread Cert.KernelAdamGluIdeal.nD Cert.KernelAdamGluIdeal.τ).loc Cert.KernelAdamGluIdeal.main_arg2)
          ∧ r.2.mem ((c.tc : Thread Cert.KernelAdamGluIdeal.nD Cert.KernelAdamGluIdeal.τ).loc Cert.KernelAdamGluIdeal.main_arg3) = m ((c.tc : Thread Cert.KernelAdamGluIdeal.nD Cert.KernelAdamGluIdeal.τ).loc Cert.KernelAdamGluIdeal.main_arg3))
      ∧ θ_run (Cert.ReferenceAdamGluIdeal.defs (F := Ideal)) (onTc (τ := Cert.ReferenceAdamGluIdeal.τ) (Cert.ReferenceAdamGluIdeal.main (F := Ideal))) ⟨m', fun _ => 0, g'⟩ (fun r => ∀ c : Dev Cert.ReferenceAdamGluIdeal.nD,
          r.2.mem ((c.tc : Thread Cert.ReferenceAdamGluIdeal.nD Cert.ReferenceAdamGluIdeal.τ).loc Cert.ReferenceAdamGluIdeal.main_v1) = v0 c
          ∧ r.2.mem ((c.tc : Thread Cert.ReferenceAdamGluIdeal.nD Cert.ReferenceAdamGluIdeal.τ).loc Cert.ReferenceAdamGluIdeal.main_v25) = v1 c
          ∧ r.2.mem ((c.tc : Thread Cert.ReferenceAdamGluIdeal.nD Cert.ReferenceAdamGluIdeal.τ).loc Cert.ReferenceAdamGluIdeal.main_v6) = v2 c
          ∧ r.2.mem ((c.tc : Thread Cert.ReferenceAdamGluIdeal.nD Cert.ReferenceAdamGluIdeal.τ).loc Cert.ReferenceAdamGluIdeal.main_v12) = v3 c
          ∧ r.2.mem ((c.tc : Thread Cert.ReferenceAdamGluIdeal.nD Cert.ReferenceAdamGluIdeal.τ).loc Cert.ReferenceAdamGluIdeal.main_arg0) = m' ((c.tc : Thread Cert.ReferenceAdamGluIdeal.nD Cert.ReferenceAdamGluIdeal.τ).loc Cert.ReferenceAdamGluIdeal.main_arg0)
          ∧ r.2.mem ((c.tc : Thread Cert.ReferenceAdamGluIdeal.nD Cert.ReferenceAdamGluIdeal.τ).loc Cert.ReferenceAdamGluIdeal.main_arg1) = m' ((c.tc : Thread Cert.ReferenceAdamGluIdeal.nD Cert.ReferenceAdamGluIdeal.τ).loc Cert.ReferenceAdamGluIdeal.main_arg1)
          ∧ r.2.mem ((c.tc : Thread Cert.ReferenceAdamGluIdeal.nD Cert.ReferenceAdamGluIdeal.τ).loc Cert.ReferenceAdamGluIdeal.main_arg2) = m' ((c.tc : Thread Cert.ReferenceAdamGluIdeal.nD Cert.ReferenceAdamGluIdeal.τ).loc Cert.ReferenceAdamGluIdeal.main_arg2)
          ∧ r.2.mem ((c.tc : Thread Cert.ReferenceAdamGluIdeal.nD Cert.ReferenceAdamGluIdeal.τ).loc Cert.ReferenceAdamGluIdeal.main_arg3) = m' ((c.tc : Thread Cert.ReferenceAdamGluIdeal.nD Cert.ReferenceAdamGluIdeal.τ).loc Cert.ReferenceAdamGluIdeal.main_arg3))

def Claim : Prop :=
  ∃ (hKernel : Cert.Kernel.Facts) (hKernelIdeal : Cert.KernelIdeal.Facts) (hReferenceIdeal : Cert.ReferenceIdeal.Facts) (hKernelUpDw : Cert.KernelUpDw.Facts) (hKernelUpDwIdeal : Cert.KernelUpDwIdeal.Facts) (hReferenceUpDwIdeal : Cert.ReferenceUpDwIdeal.Facts) (hKernelUpDxA : Cert.KernelUpDxA.Facts) (hKernelUpDxAIdeal : Cert.KernelUpDxAIdeal.Facts) (hReferenceUpDxAIdeal : Cert.ReferenceUpDxAIdeal.Facts) (hKernelUpDxB : Cert.KernelUpDxB.Facts) (hKernelUpDxBIdeal : Cert.KernelUpDxBIdeal.Facts) (hReferenceUpDxBIdeal : Cert.ReferenceUpDxBIdeal.Facts) (hKernelDownDx : Cert.KernelDownDx.Facts) (hKernelDownDxIdeal : Cert.KernelDownDxIdeal.Facts) (hReferenceDownDxIdeal : Cert.ReferenceDownDxIdeal.Facts) (hKernelDownDw : Cert.KernelDownDw.Facts) (hKernelDownDwIdeal : Cert.KernelDownDwIdeal.Facts) (hReferenceDownDwIdeal : Cert.ReferenceDownDwIdeal.Facts) (hKernelUp : Cert.KernelUp.Facts) (hKernelUpIdeal : Cert.KernelUpIdeal.Facts) (hReferenceUpIdeal : Cert.ReferenceUpIdeal.Facts) (hKernelDown : Cert.KernelDown.Facts) (hKernelDownIdeal : Cert.KernelDownIdeal.Facts) (hReferenceDownIdeal : Cert.ReferenceDownIdeal.Facts) (hKernelOutDx : Cert.KernelOutDx.Facts) (hKernelOutDxIdeal : Cert.KernelOutDxIdeal.Facts) (hReferenceOutDxIdeal : Cert.ReferenceOutDxIdeal.Facts) (hKernelOutDw : Cert.KernelOutDw.Facts) (hKernelOutDwIdeal : Cert.KernelOutDwIdeal.Facts) (hReferenceOutDwIdeal : Cert.ReferenceOutDwIdeal.Facts) (hKernelOut : Cert.KernelOut.Facts) (hKernelOutIdeal : Cert.KernelOutIdeal.Facts) (hReferenceOutIdeal : Cert.ReferenceOutIdeal.Facts) (hKernelInDx : Cert.KernelInDx.Facts) (hKernelInDxIdeal : Cert.KernelInDxIdeal.Facts) (hReferenceInDxIdeal : Cert.ReferenceInDxIdeal.Facts) (hKernelInDw : Cert.KernelInDw.Facts) (hKernelInDwIdeal : Cert.KernelInDwIdeal.Facts) (hReferenceInDwIdeal : Cert.ReferenceInDwIdeal.Facts) (hKernelIn : Cert.KernelIn.Facts) (hKernelInIdeal : Cert.KernelInIdeal.Facts) (hReferenceInIdeal : Cert.ReferenceInIdeal.Facts) (hKernelUqDx : Cert.KernelUqDx.Facts) (hKernelUqDxIdeal : Cert.KernelUqDxIdeal.Facts) (hReferenceUqDxIdeal : Cert.ReferenceUqDxIdeal.Facts) (hKernelUqDw : Cert.KernelUqDw.Facts) (hKernelUqDwIdeal : Cert.KernelUqDwIdeal.Facts) (hReferenceUqDwIdeal : Cert.ReferenceUqDwIdeal.Facts) (hKernelUq : Cert.KernelUq.Facts) (hKernelUqIdeal : Cert.KernelUqIdeal.Facts) (hReferenceUqIdeal : Cert.ReferenceUqIdeal.Facts) (hKernelUkvDx : Cert.KernelUkvDx.Facts) (hKernelUkvDxIdeal : Cert.KernelUkvDxIdeal.Facts) (hReferenceUkvDxIdeal : Cert.ReferenceUkvDxIdeal.Facts) (hKernelUkvDw : Cert.KernelUkvDw.Facts) (hKernelUkvDwIdeal : Cert.KernelUkvDwIdeal.Facts) (hReferenceUkvDwIdeal : Cert.ReferenceUkvDwIdeal.Facts) (hKernelUkv : Cert.KernelUkv.Facts) (hKernelUkvIdeal : Cert.KernelUkvIdeal.Facts) (hReferenceUkvIdeal : Cert.ReferenceUkvIdeal.Facts) (hKernelGluDx : Cert.KernelGluDx.Facts) (hKernelGluDxIdeal : Cert.KernelGluDxIdeal.Facts) (hReferenceGluDxIdeal : Cert.ReferenceGluDxIdeal.Facts) (hKernelGluDw : Cert.KernelGluDw.Facts) (hKernelGluDwIdeal : Cert.KernelGluDwIdeal.Facts) (hReferenceGluDwIdeal : Cert.ReferenceGluDwIdeal.Facts) (hKernelGlu : Cert.KernelGlu.Facts) (hKernelGluIdeal : Cert.KernelGluIdeal.Facts) (hReferenceGluIdeal : Cert.ReferenceGluIdeal.Facts) (hKernelScanDx : Cert.KernelScanDx.Facts) (hKernelScanDxIdeal : Cert.KernelScanDxIdeal.Facts) (hReferenceScanDxIdeal : Cert.ReferenceScanDxIdeal.Facts) (hKernelScanDw : Cert.KernelScanDw.Facts) (hKernelScanDwIdeal : Cert.KernelScanDwIdeal.Facts) (hReferenceScanDwIdeal : Cert.ReferenceScanDwIdeal.Facts) (hKernelScan : Cert.KernelScan.Facts) (hKernelScanIdeal : Cert.KernelScanIdeal.Facts) (hReferenceScanIdeal : Cert.ReferenceScanIdeal.Facts) (hKernelAttn : Cert.KernelAttn.Facts) (hKernelAttnIdeal : Cert.KernelAttnIdeal.Facts) (hReferenceAttnIdeal : Cert.ReferenceAttnIdeal.Facts) (hKernelNorm : Cert.KernelNorm.Facts) (hKernelNormIdeal : Cert.KernelNormIdeal.Facts) (hReferenceNormIdeal : Cert.ReferenceNormIdeal.Facts) (hKernelGelu : Cert.KernelGelu.Facts) (hKernelGeluIdeal : Cert.KernelGeluIdeal.Facts) (hReferenceGeluIdeal : Cert.ReferenceGeluIdeal.Facts) (hKernelGluOut : Cert.KernelGluOut.Facts) (hKernelGluOutIdeal : Cert.KernelGluOutIdeal.Facts) (hReferenceGluOutIdeal : Cert.ReferenceGluOutIdeal.Facts) (hKernelAdamUp : Cert.KernelAdamUp.Facts) (hKernelAdamUpIdeal : Cert.KernelAdamUpIdeal.Facts) (hReferenceAdamUpIdeal : Cert.ReferenceAdamUpIdeal.Facts) (hKernelAdamDown : Cert.KernelAdamDown.Facts) (hKernelAdamDownIdeal : Cert.KernelAdamDownIdeal.Facts) (hReferenceAdamDownIdeal : Cert.ReferenceAdamDownIdeal.Facts) (hKernelAdamIn : Cert.KernelAdamIn.Facts) (hKernelAdamInIdeal : Cert.KernelAdamInIdeal.Facts) (hReferenceAdamInIdeal : Cert.ReferenceAdamInIdeal.Facts) (hKernelAdamUq : Cert.KernelAdamUq.Facts) (hKernelAdamUqIdeal : Cert.KernelAdamUqIdeal.Facts) (hReferenceAdamUqIdeal : Cert.ReferenceAdamUqIdeal.Facts) (hKernelAdamUkv : Cert.KernelAdamUkv.Facts) (hKernelAdamUkvIdeal : Cert.KernelAdamUkvIdeal.Facts) (hReferenceAdamUkvIdeal : Cert.ReferenceAdamUkvIdeal.Facts) (hKernelAdamOut : Cert.KernelAdamOut.Facts) (hKernelAdamOutIdeal : Cert.KernelAdamOutIdeal.Facts) (hReferenceAdamOutIdeal : Cert.ReferenceAdamOutIdeal.Facts) (hKernelAdamScan : Cert.KernelAdamScan.Facts) (hKernelAdamScanIdeal : Cert.KernelAdamScanIdeal.Facts) (hReferenceAdamScanIdeal : Cert.ReferenceAdamScanIdeal.Facts) (hKernelAdamGlu : Cert.KernelAdamGlu.Facts) (hKernelAdamGluIdeal : Cert.KernelAdamGluIdeal.Facts) (hReferenceAdamGluIdeal : Cert.ReferenceAdamGluIdeal.Facts) (hPre_finite : Cert.Pre_finite.Facts) (hPre_finite_scores : Cert.Pre_finite_scores.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelUpDw (hKernelUpDw := hKernelUpDw)
    ∧ quiescent_KernelUpDwIdeal (hKernelUpDwIdeal := hKernelUpDwIdeal)
    ∧ quiescent_ReferenceUpDwIdeal (hReferenceUpDwIdeal := hReferenceUpDwIdeal)
    ∧ quiescent_KernelUpDxA (hKernelUpDxA := hKernelUpDxA)
    ∧ quiescent_KernelUpDxAIdeal (hKernelUpDxAIdeal := hKernelUpDxAIdeal)
    ∧ quiescent_ReferenceUpDxAIdeal (hReferenceUpDxAIdeal := hReferenceUpDxAIdeal)
    ∧ quiescent_KernelUpDxB (hKernelUpDxB := hKernelUpDxB)
    ∧ quiescent_KernelUpDxBIdeal (hKernelUpDxBIdeal := hKernelUpDxBIdeal)
    ∧ quiescent_ReferenceUpDxBIdeal (hReferenceUpDxBIdeal := hReferenceUpDxBIdeal)
    ∧ quiescent_KernelDownDx (hKernelDownDx := hKernelDownDx)
    ∧ quiescent_KernelDownDxIdeal (hKernelDownDxIdeal := hKernelDownDxIdeal)
    ∧ quiescent_ReferenceDownDxIdeal (hReferenceDownDxIdeal := hReferenceDownDxIdeal)
    ∧ quiescent_KernelDownDw (hKernelDownDw := hKernelDownDw)
    ∧ quiescent_KernelDownDwIdeal (hKernelDownDwIdeal := hKernelDownDwIdeal)
    ∧ quiescent_ReferenceDownDwIdeal (hReferenceDownDwIdeal := hReferenceDownDwIdeal)
    ∧ quiescent_KernelUp (hKernelUp := hKernelUp)
    ∧ quiescent_KernelUpIdeal (hKernelUpIdeal := hKernelUpIdeal)
    ∧ quiescent_ReferenceUpIdeal (hReferenceUpIdeal := hReferenceUpIdeal)
    ∧ quiescent_KernelDown (hKernelDown := hKernelDown)
    ∧ quiescent_KernelDownIdeal (hKernelDownIdeal := hKernelDownIdeal)
    ∧ quiescent_ReferenceDownIdeal (hReferenceDownIdeal := hReferenceDownIdeal)
    ∧ quiescent_KernelOutDx (hKernelOutDx := hKernelOutDx)
    ∧ quiescent_KernelOutDxIdeal (hKernelOutDxIdeal := hKernelOutDxIdeal)
    ∧ quiescent_ReferenceOutDxIdeal (hReferenceOutDxIdeal := hReferenceOutDxIdeal)
    ∧ quiescent_KernelOutDw (hKernelOutDw := hKernelOutDw)
    ∧ quiescent_KernelOutDwIdeal (hKernelOutDwIdeal := hKernelOutDwIdeal)
    ∧ quiescent_ReferenceOutDwIdeal (hReferenceOutDwIdeal := hReferenceOutDwIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelInDx (hKernelInDx := hKernelInDx)
    ∧ quiescent_KernelInDxIdeal (hKernelInDxIdeal := hKernelInDxIdeal)
    ∧ quiescent_ReferenceInDxIdeal (hReferenceInDxIdeal := hReferenceInDxIdeal)
    ∧ quiescent_KernelInDw (hKernelInDw := hKernelInDw)
    ∧ quiescent_KernelInDwIdeal (hKernelInDwIdeal := hKernelInDwIdeal)
    ∧ quiescent_ReferenceInDwIdeal (hReferenceInDwIdeal := hReferenceInDwIdeal)
    ∧ quiescent_KernelIn (hKernelIn := hKernelIn)
    ∧ quiescent_KernelInIdeal (hKernelInIdeal := hKernelInIdeal)
    ∧ quiescent_ReferenceInIdeal (hReferenceInIdeal := hReferenceInIdeal)
    ∧ quiescent_KernelUqDx (hKernelUqDx := hKernelUqDx)
    ∧ quiescent_KernelUqDxIdeal (hKernelUqDxIdeal := hKernelUqDxIdeal)
    ∧ quiescent_ReferenceUqDxIdeal (hReferenceUqDxIdeal := hReferenceUqDxIdeal)
    ∧ quiescent_KernelUqDw (hKernelUqDw := hKernelUqDw)
    ∧ quiescent_KernelUqDwIdeal (hKernelUqDwIdeal := hKernelUqDwIdeal)
    ∧ quiescent_ReferenceUqDwIdeal (hReferenceUqDwIdeal := hReferenceUqDwIdeal)
    ∧ quiescent_KernelUq (hKernelUq := hKernelUq)
    ∧ quiescent_KernelUqIdeal (hKernelUqIdeal := hKernelUqIdeal)
    ∧ quiescent_ReferenceUqIdeal (hReferenceUqIdeal := hReferenceUqIdeal)
    ∧ quiescent_KernelUkvDx (hKernelUkvDx := hKernelUkvDx)
    ∧ quiescent_KernelUkvDxIdeal (hKernelUkvDxIdeal := hKernelUkvDxIdeal)
    ∧ quiescent_ReferenceUkvDxIdeal (hReferenceUkvDxIdeal := hReferenceUkvDxIdeal)
    ∧ quiescent_KernelUkvDw (hKernelUkvDw := hKernelUkvDw)
    ∧ quiescent_KernelUkvDwIdeal (hKernelUkvDwIdeal := hKernelUkvDwIdeal)
    ∧ quiescent_ReferenceUkvDwIdeal (hReferenceUkvDwIdeal := hReferenceUkvDwIdeal)
    ∧ quiescent_KernelUkv (hKernelUkv := hKernelUkv)
    ∧ quiescent_KernelUkvIdeal (hKernelUkvIdeal := hKernelUkvIdeal)
    ∧ quiescent_ReferenceUkvIdeal (hReferenceUkvIdeal := hReferenceUkvIdeal)
    ∧ quiescent_KernelGluDx (hKernelGluDx := hKernelGluDx)
    ∧ quiescent_KernelGluDxIdeal (hKernelGluDxIdeal := hKernelGluDxIdeal)
    ∧ quiescent_ReferenceGluDxIdeal (hReferenceGluDxIdeal := hReferenceGluDxIdeal)
    ∧ quiescent_KernelGluDw (hKernelGluDw := hKernelGluDw)
    ∧ quiescent_KernelGluDwIdeal (hKernelGluDwIdeal := hKernelGluDwIdeal)
    ∧ quiescent_ReferenceGluDwIdeal (hReferenceGluDwIdeal := hReferenceGluDwIdeal)
    ∧ quiescent_KernelGlu (hKernelGlu := hKernelGlu)
    ∧ quiescent_KernelGluIdeal (hKernelGluIdeal := hKernelGluIdeal)
    ∧ quiescent_ReferenceGluIdeal (hReferenceGluIdeal := hReferenceGluIdeal)
    ∧ quiescent_KernelScanDx (hKernelScanDx := hKernelScanDx)
    ∧ quiescent_KernelScanDxIdeal (hKernelScanDxIdeal := hKernelScanDxIdeal)
    ∧ quiescent_ReferenceScanDxIdeal (hReferenceScanDxIdeal := hReferenceScanDxIdeal)
    ∧ quiescent_KernelScanDw (hKernelScanDw := hKernelScanDw)
    ∧ quiescent_KernelScanDwIdeal (hKernelScanDwIdeal := hKernelScanDwIdeal)
    ∧ quiescent_ReferenceScanDwIdeal (hReferenceScanDwIdeal := hReferenceScanDwIdeal)
    ∧ quiescent_KernelScan (hKernelScan := hKernelScan)
    ∧ quiescent_KernelScanIdeal (hKernelScanIdeal := hKernelScanIdeal)
    ∧ quiescent_ReferenceScanIdeal (hReferenceScanIdeal := hReferenceScanIdeal)
    ∧ quiescent_KernelAttn (hKernelAttn := hKernelAttn)
    ∧ quiescent_KernelAttnIdeal (hKernelAttnIdeal := hKernelAttnIdeal)
    ∧ quiescent_KernelAttnIdeal_pre_finite_scores (hKernelAttnIdeal := hKernelAttnIdeal) (hPre_finite_scores := hPre_finite_scores)
    ∧ quiescent_ReferenceAttnIdeal (hReferenceAttnIdeal := hReferenceAttnIdeal)
    ∧ quiescent_ReferenceAttnIdeal_pre_finite_scores (hReferenceAttnIdeal := hReferenceAttnIdeal) (hPre_finite_scores := hPre_finite_scores)
    ∧ quiescent_KernelNorm (hKernelNorm := hKernelNorm)
    ∧ quiescent_KernelNormIdeal (hKernelNormIdeal := hKernelNormIdeal)
    ∧ quiescent_ReferenceNormIdeal (hReferenceNormIdeal := hReferenceNormIdeal)
    ∧ quiescent_KernelGelu (hKernelGelu := hKernelGelu)
    ∧ quiescent_KernelGeluIdeal (hKernelGeluIdeal := hKernelGeluIdeal)
    ∧ quiescent_ReferenceGeluIdeal (hReferenceGeluIdeal := hReferenceGeluIdeal)
    ∧ quiescent_KernelGluOut (hKernelGluOut := hKernelGluOut)
    ∧ quiescent_KernelGluOutIdeal (hKernelGluOutIdeal := hKernelGluOutIdeal)
    ∧ quiescent_ReferenceGluOutIdeal (hReferenceGluOutIdeal := hReferenceGluOutIdeal)
    ∧ quiescent_KernelAdamUp (hKernelAdamUp := hKernelAdamUp)
    ∧ quiescent_KernelAdamUpIdeal (hKernelAdamUpIdeal := hKernelAdamUpIdeal)
    ∧ quiescent_ReferenceAdamUpIdeal (hReferenceAdamUpIdeal := hReferenceAdamUpIdeal)
    ∧ quiescent_KernelAdamDown (hKernelAdamDown := hKernelAdamDown)
    ∧ quiescent_KernelAdamDownIdeal (hKernelAdamDownIdeal := hKernelAdamDownIdeal)
    ∧ quiescent_ReferenceAdamDownIdeal (hReferenceAdamDownIdeal := hReferenceAdamDownIdeal)
    ∧ quiescent_KernelAdamIn (hKernelAdamIn := hKernelAdamIn)
    ∧ quiescent_KernelAdamInIdeal (hKernelAdamInIdeal := hKernelAdamInIdeal)
    ∧ quiescent_ReferenceAdamInIdeal (hReferenceAdamInIdeal := hReferenceAdamInIdeal)
    ∧ quiescent_KernelAdamUq (hKernelAdamUq := hKernelAdamUq)
    ∧ quiescent_KernelAdamUqIdeal (hKernelAdamUqIdeal := hKernelAdamUqIdeal)
    ∧ quiescent_ReferenceAdamUqIdeal (hReferenceAdamUqIdeal := hReferenceAdamUqIdeal)
    ∧ quiescent_KernelAdamUkv (hKernelAdamUkv := hKernelAdamUkv)
    ∧ quiescent_KernelAdamUkvIdeal (hKernelAdamUkvIdeal := hKernelAdamUkvIdeal)
    ∧ quiescent_ReferenceAdamUkvIdeal (hReferenceAdamUkvIdeal := hReferenceAdamUkvIdeal)
    ∧ quiescent_KernelAdamOut (hKernelAdamOut := hKernelAdamOut)
    ∧ quiescent_KernelAdamOutIdeal (hKernelAdamOutIdeal := hKernelAdamOutIdeal)
    ∧ quiescent_ReferenceAdamOutIdeal (hReferenceAdamOutIdeal := hReferenceAdamOutIdeal)
    ∧ quiescent_KernelAdamScan (hKernelAdamScan := hKernelAdamScan)
    ∧ quiescent_KernelAdamScanIdeal (hKernelAdamScanIdeal := hKernelAdamScanIdeal)
    ∧ quiescent_ReferenceAdamScanIdeal (hReferenceAdamScanIdeal := hReferenceAdamScanIdeal)
    ∧ quiescent_KernelAdamGlu (hKernelAdamGlu := hKernelAdamGlu)
    ∧ quiescent_KernelAdamGluIdeal (hKernelAdamGluIdeal := hKernelAdamGluIdeal)
    ∧ quiescent_ReferenceAdamGluIdeal (hReferenceAdamGluIdeal := hReferenceAdamGluIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelUpDw_KernelUpDwIdeal
    ∧ algebraic_KernelUpDwIdeal_ReferenceUpDwIdeal (hKernelUpDwIdeal := hKernelUpDwIdeal) (hReferenceUpDwIdeal := hReferenceUpDwIdeal)
    ∧ preserves_KernelUpDxA_KernelUpDxAIdeal
    ∧ algebraic_KernelUpDxAIdeal_ReferenceUpDxAIdeal (hKernelUpDxAIdeal := hKernelUpDxAIdeal) (hReferenceUpDxAIdeal := hReferenceUpDxAIdeal)
    ∧ preserves_KernelUpDxB_KernelUpDxBIdeal
    ∧ algebraic_KernelUpDxBIdeal_ReferenceUpDxBIdeal (hKernelUpDxBIdeal := hKernelUpDxBIdeal) (hReferenceUpDxBIdeal := hReferenceUpDxBIdeal)
    ∧ preserves_KernelDownDx_KernelDownDxIdeal
    ∧ algebraic_KernelDownDxIdeal_ReferenceDownDxIdeal (hKernelDownDxIdeal := hKernelDownDxIdeal) (hReferenceDownDxIdeal := hReferenceDownDxIdeal)
    ∧ preserves_KernelDownDw_KernelDownDwIdeal
    ∧ algebraic_KernelDownDwIdeal_ReferenceDownDwIdeal (hKernelDownDwIdeal := hKernelDownDwIdeal) (hReferenceDownDwIdeal := hReferenceDownDwIdeal)
    ∧ preserves_KernelUp_KernelUpIdeal
    ∧ algebraic_KernelUpIdeal_ReferenceUpIdeal (hKernelUpIdeal := hKernelUpIdeal) (hReferenceUpIdeal := hReferenceUpIdeal)
    ∧ preserves_KernelDown_KernelDownIdeal
    ∧ algebraic_KernelDownIdeal_ReferenceDownIdeal (hKernelDownIdeal := hKernelDownIdeal) (hReferenceDownIdeal := hReferenceDownIdeal)
    ∧ preserves_KernelOutDx_KernelOutDxIdeal
    ∧ algebraic_KernelOutDxIdeal_ReferenceOutDxIdeal (hKernelOutDxIdeal := hKernelOutDxIdeal) (hReferenceOutDxIdeal := hReferenceOutDxIdeal)
    ∧ preserves_KernelOutDw_KernelOutDwIdeal
    ∧ algebraic_KernelOutDwIdeal_ReferenceOutDwIdeal (hKernelOutDwIdeal := hKernelOutDwIdeal) (hReferenceOutDwIdeal := hReferenceOutDwIdeal)
    ∧ preserves_KernelOut_KernelOutIdeal
    ∧ algebraic_KernelOutIdeal_ReferenceOutIdeal (hKernelOutIdeal := hKernelOutIdeal) (hReferenceOutIdeal := hReferenceOutIdeal)
    ∧ preserves_KernelInDx_KernelInDxIdeal
    ∧ algebraic_KernelInDxIdeal_ReferenceInDxIdeal (hKernelInDxIdeal := hKernelInDxIdeal) (hReferenceInDxIdeal := hReferenceInDxIdeal)
    ∧ preserves_KernelInDw_KernelInDwIdeal
    ∧ algebraic_KernelInDwIdeal_ReferenceInDwIdeal (hKernelInDwIdeal := hKernelInDwIdeal) (hReferenceInDwIdeal := hReferenceInDwIdeal)
    ∧ preserves_KernelIn_KernelInIdeal
    ∧ algebraic_KernelInIdeal_ReferenceInIdeal (hKernelInIdeal := hKernelInIdeal) (hReferenceInIdeal := hReferenceInIdeal)
    ∧ preserves_KernelUqDx_KernelUqDxIdeal
    ∧ algebraic_KernelUqDxIdeal_ReferenceUqDxIdeal (hKernelUqDxIdeal := hKernelUqDxIdeal) (hReferenceUqDxIdeal := hReferenceUqDxIdeal)
    ∧ preserves_KernelUqDw_KernelUqDwIdeal
    ∧ algebraic_KernelUqDwIdeal_ReferenceUqDwIdeal (hKernelUqDwIdeal := hKernelUqDwIdeal) (hReferenceUqDwIdeal := hReferenceUqDwIdeal)
    ∧ preserves_KernelUq_KernelUqIdeal
    ∧ algebraic_KernelUqIdeal_ReferenceUqIdeal (hKernelUqIdeal := hKernelUqIdeal) (hReferenceUqIdeal := hReferenceUqIdeal)
    ∧ preserves_KernelUkvDx_KernelUkvDxIdeal
    ∧ algebraic_KernelUkvDxIdeal_ReferenceUkvDxIdeal (hKernelUkvDxIdeal := hKernelUkvDxIdeal) (hReferenceUkvDxIdeal := hReferenceUkvDxIdeal)
    ∧ preserves_KernelUkvDw_KernelUkvDwIdeal
    ∧ algebraic_KernelUkvDwIdeal_ReferenceUkvDwIdeal (hKernelUkvDwIdeal := hKernelUkvDwIdeal) (hReferenceUkvDwIdeal := hReferenceUkvDwIdeal)
    ∧ preserves_KernelUkv_KernelUkvIdeal
    ∧ algebraic_KernelUkvIdeal_ReferenceUkvIdeal (hKernelUkvIdeal := hKernelUkvIdeal) (hReferenceUkvIdeal := hReferenceUkvIdeal)
    ∧ preserves_KernelGluDx_KernelGluDxIdeal
    ∧ algebraic_KernelGluDxIdeal_ReferenceGluDxIdeal (hKernelGluDxIdeal := hKernelGluDxIdeal) (hReferenceGluDxIdeal := hReferenceGluDxIdeal)
    ∧ preserves_KernelGluDw_KernelGluDwIdeal
    ∧ algebraic_KernelGluDwIdeal_ReferenceGluDwIdeal (hKernelGluDwIdeal := hKernelGluDwIdeal) (hReferenceGluDwIdeal := hReferenceGluDwIdeal)
    ∧ preserves_KernelGlu_KernelGluIdeal
    ∧ algebraic_KernelGluIdeal_ReferenceGluIdeal (hKernelGluIdeal := hKernelGluIdeal) (hReferenceGluIdeal := hReferenceGluIdeal)
    ∧ preserves_KernelScanDx_KernelScanDxIdeal
    ∧ algebraic_KernelScanDxIdeal_ReferenceScanDxIdeal (hKernelScanDxIdeal := hKernelScanDxIdeal) (hReferenceScanDxIdeal := hReferenceScanDxIdeal)
    ∧ preserves_KernelScanDw_KernelScanDwIdeal
    ∧ algebraic_KernelScanDwIdeal_ReferenceScanDwIdeal (hKernelScanDwIdeal := hKernelScanDwIdeal) (hReferenceScanDwIdeal := hReferenceScanDwIdeal)
    ∧ preserves_KernelScan_KernelScanIdeal
    ∧ algebraic_KernelScanIdeal_ReferenceScanIdeal (hKernelScanIdeal := hKernelScanIdeal) (hReferenceScanIdeal := hReferenceScanIdeal)
    ∧ preserves_KernelAttn_KernelAttnIdeal
    ∧ algebraic_KernelAttnIdeal_ReferenceAttnIdeal_pre_finite_scores (hKernelAttnIdeal := hKernelAttnIdeal) (hReferenceAttnIdeal := hReferenceAttnIdeal) (hPre_finite_scores := hPre_finite_scores)
    ∧ preserves_KernelNorm_KernelNormIdeal
    ∧ algebraic_KernelNormIdeal_ReferenceNormIdeal (hKernelNormIdeal := hKernelNormIdeal) (hReferenceNormIdeal := hReferenceNormIdeal)
    ∧ preserves_KernelGelu_KernelGeluIdeal
    ∧ algebraic_KernelGeluIdeal_ReferenceGeluIdeal (hKernelGeluIdeal := hKernelGeluIdeal) (hReferenceGeluIdeal := hReferenceGeluIdeal)
    ∧ preserves_KernelGluOut_KernelGluOutIdeal
    ∧ algebraic_KernelGluOutIdeal_ReferenceGluOutIdeal (hKernelGluOutIdeal := hKernelGluOutIdeal) (hReferenceGluOutIdeal := hReferenceGluOutIdeal)
    ∧ preserves_KernelAdamUp_KernelAdamUpIdeal
    ∧ algebraic_KernelAdamUpIdeal_ReferenceAdamUpIdeal (hKernelAdamUpIdeal := hKernelAdamUpIdeal) (hReferenceAdamUpIdeal := hReferenceAdamUpIdeal)
    ∧ preserves_KernelAdamDown_KernelAdamDownIdeal
    ∧ algebraic_KernelAdamDownIdeal_ReferenceAdamDownIdeal (hKernelAdamDownIdeal := hKernelAdamDownIdeal) (hReferenceAdamDownIdeal := hReferenceAdamDownIdeal)
    ∧ preserves_KernelAdamIn_KernelAdamInIdeal
    ∧ algebraic_KernelAdamInIdeal_ReferenceAdamInIdeal (hKernelAdamInIdeal := hKernelAdamInIdeal) (hReferenceAdamInIdeal := hReferenceAdamInIdeal)
    ∧ preserves_KernelAdamUq_KernelAdamUqIdeal
    ∧ algebraic_KernelAdamUqIdeal_ReferenceAdamUqIdeal (hKernelAdamUqIdeal := hKernelAdamUqIdeal) (hReferenceAdamUqIdeal := hReferenceAdamUqIdeal)
    ∧ preserves_KernelAdamUkv_KernelAdamUkvIdeal
    ∧ algebraic_KernelAdamUkvIdeal_ReferenceAdamUkvIdeal (hKernelAdamUkvIdeal := hKernelAdamUkvIdeal) (hReferenceAdamUkvIdeal := hReferenceAdamUkvIdeal)
    ∧ preserves_KernelAdamOut_KernelAdamOutIdeal
    ∧ algebraic_KernelAdamOutIdeal_ReferenceAdamOutIdeal (hKernelAdamOutIdeal := hKernelAdamOutIdeal) (hReferenceAdamOutIdeal := hReferenceAdamOutIdeal)
    ∧ preserves_KernelAdamScan_KernelAdamScanIdeal
    ∧ algebraic_KernelAdamScanIdeal_ReferenceAdamScanIdeal (hKernelAdamScanIdeal := hKernelAdamScanIdeal) (hReferenceAdamScanIdeal := hReferenceAdamScanIdeal)
    ∧ preserves_KernelAdamGlu_KernelAdamGluIdeal
    ∧ algebraic_KernelAdamGluIdeal_ReferenceAdamGluIdeal (hKernelAdamGluIdeal := hKernelAdamGluIdeal) (hReferenceAdamGluIdeal := hReferenceAdamGluIdeal)
-- ==== Pre_finite.lean ====
abbrev S8192x8x96 : Shape := ⟨3, ![8192, 8, 96]⟩
abbrev S8192x8x64 : Shape := ⟨3, ![8192, 8, 64]⟩
abbrev S_ : Shape := ⟨0, ![]⟩

class Facts : Prop where
  bcast_S_S8192x8x96 : S_.BroadcastsInDim S8192x8x96 (![] : Fin 0 → Fin S8192x8x96.rank)
  bcast_S_S8192x8x64 : S_.BroadcastsInDim S8192x8x64 (![] : Fin 0 → Fin S8192x8x64.rank)

variable [Facts]

def fn {F : FTy → Type} [FloatOps F] (main_arg0 : FVec F S8192x8x96 .f32) (main_arg1 : FVec F S8192x8x96 .f32) (main_arg2 : FVec F S8192x8x64 .f32) (main_arg3 : FVec F S8192x8x64 .f32) : IVec S8192x8x96 1 × IVec S8192x8x96 1 × IVec S8192x8x64 1 × IVec S8192x8x64 1 :=
  let main_v0 : FVec F S8192x8x96 .f32 := Host.absf main_arg0
  let main_cst : FVec F S_ .f32 := constant S_ .f32 0x7F800000#32
  let main_v1 : FVec F S8192x8x96 .f32 := broadcastInDim S8192x8x96 ![] bcast_S_S8192x8x96 main_cst
  let main_v2 : IVec S8192x8x96 1 := cmpf .olt main_v0 main_v1
  let main_v3 : FVec F S8192x8x96 .f32 := Host.absf main_arg1
  let main_cst_0 : FVec F S_ .f32 := constant S_ .f32 0x7F800000#32
  let main_v4 : FVec F S8192x8x96 .f32 := broadcastInDim S8192x8x96 ![] bcast_S_S8192x8x96 main_cst_0
  let main_v5 : IVec S8192x8x96 1 := cmpf .olt main_v3 main_v4
  let main_v6 : FVec F S8192x8x64 .f32 := Host.absf main_arg2
  let main_cst_1 : FVec F S_ .f32 := constant S_ .f32 0x7F800000#32
  let main_v7 : FVec F S8192x8x64 .f32 := broadcastInDim S8192x8x64 ![] bcast_S_S8192x8x64 main_cst_1
  let main_v8 : IVec S8192x8x64 1 := cmpf .olt main_v6 main_v7
  let main_v9 : FVec F S8192x8x64 .f32 := Host.absf main_arg3
  let main_cst_2 : FVec F S_ .f32 := constant S_ .f32 0x7F800000#32
  let main_v10 : FVec F S8192x8x64 .f32 := broadcastInDim S8192x8x64 ![] bcast_S_S8192x8x64 main_cst_2
  let main_v11 : IVec S8192x8x64 1 := cmpf .olt main_v9 main_v10
  (main_v2, main_v5, main_v8, main_v11)
-- ==== Pre_finite_scores.lean ====
abbrev S8192x8x96 : Shape := ⟨3, ![8192, 8, 96]⟩
abbrev S8192x8x64 : Shape := ⟨3, ![8192, 8, 64]⟩
abbrev S_ : Shape := ⟨0, ![]⟩

class Facts : Prop where
  bcast_S_S8192x8x96 : S_.BroadcastsInDim S8192x8x96 (![] : Fin 0 → Fin S8192x8x96.rank)

variable [Facts]

def fn {F : FTy → Type} [FloatOps F] (main_arg0 : FVec F S8192x8x96 .f32) (main_arg1 : FVec F S8192x8x96 .f32) (main_arg2 : FVec F S8192x8x64 .f32) : IVec S8192x8x96 1 × IVec S8192x8x96 1 :=
  let main_v0 : FVec F S8192x8x96 .f32 := Host.absf main_arg0
  let main_cst : FVec F S_ .f32 := constant S_ .f32 0x7F800000#32
  let main_v1 : FVec F S8192x8x96 .f32 := broadcastInDim S8192x8x96 ![] bcast_S_S8192x8x96 main_cst
  let main_v2 : IVec S8192x8x96 1 := cmpf .olt main_v0 main_v1
  let main_v3 : FVec F S8192x8x96 .f32 := Host.absf main_arg1
  let main_cst_0 : FVec F S_ .f32 := constant S_ .f32 0x7F800000#32
  let main_v4 : FVec F S8192x8x96 .f32 := broadcastInDim S8192x8x96 ![] bcast_S_S8192x8x96 main_cst_0
  let main_v5 : IVec S8192x8x96 1 := cmpf .olt main_v3 main_v4
  (main_v2, main_v5)
-- ==== Kernel.lean ====
abbrev S8192x8x96 : Shape := ⟨3, ![8192, 8, 96]⟩
abbrev S8192x8x64 : Shape := ⟨3, ![8192, 8, 64]⟩
abbrev S8x8192x8192 : Shape := ⟨3, ![8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8192x8192 : Shape := ⟨3, ![1, 8192, 8192]⟩
abbrev S8x8192 : Shape := ⟨2, ![8, 8192]⟩
abbrev S8x8192x1 : Shape := ⟨3, ![8, 8192, 1]⟩
abbrev S8x64x8192 : Shape := ⟨3, ![8, 64, 8192]⟩
abbrev S8192x8 : Shape := ⟨2, ![8192, 8]⟩
abbrev S8192x8x1 : Shape := ⟨3, ![8192, 8, 1]⟩
abbrev S8192x8x65 : Shape := ⟨3, ![8192, 8, 65]⟩
abbrev S8192x512 : Shape := ⟨2, ![8192, 512]⟩
abbrev S8192x8x128 : Shape := ⟨3, ![8192, 8, 128]⟩
abbrev S8192x1024 : Shape := ⟨2, ![8192, 1024]⟩
abbrev S8192x1536 : Shape := ⟨2, ![8192, 1536]⟩
abbrev S8x8x1x1024 : Shape := ⟨4, ![8, 8, 1, 1024]⟩
abbrev S8x8x8x1024 : Shape := ⟨4, ![8, 8, 8, 1024]⟩
abbrev S1024x128 : Shape := ⟨2, ![1024, 128]⟩
abbrev S8192x128 : Shape := ⟨2, ![8192, 128]⟩
abbrev S1x8x8x1024 : Shape := ⟨4, ![1, 8, 8, 1024]⟩
abbrev S1x1x1x1024 : Shape := ⟨4, ![1, 1, 1, 1024]⟩
abbrev S1x1024 : Shape := ⟨2, ![1, 1024]⟩
abbrev S1024x1024 : Shape := ⟨2, ![1024, 1024]⟩
abbrev S1x1x1x512 : Shape := ⟨4, ![1, 1, 1, 512]⟩
abbrev S1x512 : Shape := ⟨2, ![1, 512]⟩
abbrev S512x128 : Shape := ⟨2, ![512, 128]⟩
abbrev S512x512 : Shape := ⟨2, ![512, 512]⟩

abbrev nBuf : Space → Nat
  | .hbm => 77
  | .vmem => 20
  | .smem => 0
  | _ => 0

abbrev bufTy : (tb : Table) → Fin (tcTables nBuf tb) → BufTy
  | .hbm, ⟨0, _⟩ => ⟨S8192x8x96, .f32⟩
  | .hbm, ⟨1, _⟩ => ⟨S8192x8x96, .f32⟩
  | .hbm, ⟨2, _⟩ => ⟨S8192x8x64, .f32⟩
  | .hbm, ⟨3, _⟩ => ⟨S8192x8x64, .f32⟩
  | .hbm, ⟨4, _⟩ => ⟨S8x8192x8192, .f32⟩
  | .hbm, ⟨5, _⟩ => ⟨S_, .f32⟩
  | .hbm, ⟨6, _⟩ => ⟨S_, .f32⟩
  | .hbm, ⟨7, _⟩ => ⟨S8x8192x8192, .f32⟩
  | .hbm, ⟨8, _⟩ => ⟨S8x8192x8192, .f32⟩
  | .hbm, ⟨9, _⟩ => ⟨S8192, .i32⟩
  | .hbm, ⟨10, _⟩ => ⟨S1x8192, .i32⟩
  | .hbm, ⟨11, _⟩ => ⟨S8192x1, .i32⟩
  | .hbm, ⟨12, _⟩ => ⟨S8192x8192, .i32⟩
  | .hbm, ⟨13, _⟩ => ⟨S8192x8192, .i32⟩
  | .hbm, ⟨14, _⟩ => ⟨S8192x8192, .i1⟩
  | .hbm, ⟨15, _⟩ => ⟨S1x8192x8192, .i1⟩
  | .hbm, ⟨16, _⟩ => ⟨S_, .f32⟩
  | .hbm, ⟨17, _⟩ => ⟨S_, .f32⟩
  | .hbm, ⟨18, _⟩ => ⟨S8x8192x8192, .i1⟩
  | .hbm, ⟨19, _⟩ => ⟨S8x8192x8192, .f32⟩
  | .hbm, ⟨20, _⟩ => ⟨S8x8192x8192, .f32⟩
  | .hbm, ⟨21, _⟩ => ⟨S_, .f32⟩
  | .hbm, ⟨22, _⟩ => ⟨S8x8192, .f32⟩
  | .hbm, ⟨23, _⟩ => ⟨S8x8192x1, .f32⟩
  | .hbm, ⟨24, _⟩ => ⟨S8x8192x8192, .f32⟩
  | .hbm, ⟨25, _⟩ => ⟨S8x8192x8192, .f32⟩
  | .hbm, ⟨26, _⟩ => ⟨S8x8192x8192, .f32⟩
  | .hbm, ⟨27, _⟩ => ⟨S_, .f32⟩
  | .hbm, ⟨28, _⟩ => ⟨S8x8192, .f32⟩
  | .hbm, ⟨29, _⟩ => ⟨S8x8192x1, .f32⟩
  | .hbm, ⟨30, _⟩ => ⟨S8x8192x1, .f32⟩
  | .hbm, ⟨31, _⟩ => ⟨S8x8192x1, .f32⟩
  | .hbm, ⟨32, _⟩ => ⟨S8x8192, .f32⟩
  | .hbm, ⟨33, _⟩ => ⟨S8x8192x8192, .f32⟩
  | .hbm, ⟨34, _⟩ => ⟨S8x8192x8192, .f32⟩
  | .hbm, ⟨35, _⟩ => ⟨S8x64x8192, .f32⟩
  | .hbm, ⟨36, _⟩ => ⟨S8192x8x64, .f32⟩
  | .hbm, ⟨37, _⟩ => ⟨S8192x8x64, .f32⟩
  | .hbm, ⟨38, _⟩ => ⟨S_, .f32⟩
  | .hbm, ⟨39, _⟩ => ⟨S8192x8, .f32⟩
  | .hbm, ⟨40, _⟩ => ⟨S8x8192, .f32⟩
  | .hbm, ⟨41, _⟩ => ⟨S_, .f32⟩
  | .hbm, ⟨42, _⟩ => ⟨S8192x8x1, .f32⟩
  | .hbm, ⟨43, _⟩ => ⟨S8192x8x65, .f32⟩
  | .hbm, ⟨44, _⟩ => ⟨S_, .f32⟩
  | .hbm, ⟨45, _⟩ => ⟨S8192x512, .f32⟩
  | .hbm, ⟨46, _⟩ => ⟨S_, .i32⟩
  | .hbm, ⟨47, _⟩ => ⟨S_, .f32⟩
  | .hbm, ⟨48, _⟩ => ⟨S8192x8x128, .f32⟩
  | .hbm, ⟨49, _⟩ => ⟨S8192x1024, .f32⟩
  | .hbm, ⟨50, _⟩ => ⟨S8192x1536, .f32⟩
  | .hbm, ⟨51, _⟩ => ⟨S_, .i32⟩
  | .hbm, ⟨52, _⟩ => ⟨S_, .f32⟩
  | .hbm, ⟨53, _⟩ => ⟨S8192x8x128, .f32⟩
  | .hbm, ⟨54, _⟩ => ⟨S8192x1024, .f32⟩
  | .hbm, ⟨55, _⟩ => ⟨S8192x1024, .bf16⟩
  | .hbm, ⟨56, _⟩ => ⟨S_, .i32⟩
  | .hbm, ⟨57, _⟩ => ⟨S_, .f32⟩
  | .hbm, ⟨58, _⟩ => ⟨S8192x8x128, .f32⟩
  | .hbm, ⟨59, _⟩ => ⟨S8192x1024, .f32⟩
  | .hbm, ⟨60, _⟩ => ⟨S8192x1024, .bf16⟩
  | .hbm, ⟨61, _⟩ => ⟨S_, .i32⟩
  | .hbm, ⟨62, _⟩ => ⟨S_, .f32⟩
  | .hbm, ⟨63, _⟩ => ⟨S8192x8x128, .f32⟩
  | .hbm, ⟨64, _⟩ => ⟨S8192x1024, .f32⟩
  | .hbm, ⟨65, _⟩ => ⟨S8192x1024, .bf16⟩
  | .hbm, ⟨66, _⟩ => ⟨S_, .f32⟩
  | .hbm, ⟨67, _⟩ => ⟨S_, .f32⟩
  | .hbm, ⟨68, _⟩ => ⟨S8x8192, .f32⟩
  | .hbm, ⟨69, _⟩ => ⟨S8x8192, .f32⟩
  | .hbm, ⟨70, _⟩ => ⟨S8x8x1x1024, .f32⟩
  | .hbm, ⟨71, _⟩ => ⟨S8x8x8x1024, .f32⟩
  | .hbm, ⟨72, _⟩ => ⟨S8x8x1x1024, .f32⟩
  | .hbm, ⟨73, _⟩ => ⟨S8x8x8x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .local _ .vmem, ⟨0, _⟩ => ⟨S1024x128, .bf16⟩
  | .local _ .vmem, ⟨1, _⟩ => ⟨S1024x128, .bf16⟩
  | .local _ .vmem, ⟨2, _⟩ => ⟨S1024x128, .bf16⟩
  | .local _ .vmem, ⟨3, _⟩ => ⟨S1024x128, .bf16⟩
  | .local _ .vmem, ⟨4, _⟩ => ⟨S8192x128, .bf16⟩
  | .local _ .vmem, ⟨5, _⟩ => ⟨S8192x128, .bf16⟩
  | .local _ .vmem, ⟨6, _⟩ => ⟨S8192x128, .f32⟩
  | .local _ .vmem, ⟨7, _⟩ => ⟨S8192x128, .f32⟩
  | .local _ .vmem, ⟨8, _⟩ => ⟨S1x8x8x1024, .f32⟩
  | .local _ .vmem, ⟨9, _⟩ => ⟨S1x8x8x1024, .f32⟩
  | .local _ .vmem, ⟨10, _⟩ => ⟨S1x8x8x1024, .f32⟩
  | .local _ .vmem, ⟨11, _⟩ => ⟨S1x8x8x1024, .f32⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | .local _ .vmem, ⟨15, _⟩ => ⟨S1024x128, .f32⟩
  | .local _ .vmem, ⟨16, _⟩ => ⟨S8192x128, .f32⟩
  | .local _ .vmem, ⟨17, _⟩ => ⟨S8192x128, .f32⟩
  | .local _ .vmem, ⟨18, _⟩ => ⟨S1024x128, .f32⟩
  | .local _ .vmem, ⟨19, _⟩ => ⟨S1024x128, .f32⟩
  | _, _ => ⟨S8192x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_c : Ref sig .tc := ⟨.hbm, 46, rfl⟩
abbrev main_call1_v0 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_c_6 : Ref sig .tc := ⟨.hbm, 51, rfl⟩
abbrev main_call2_v0 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_c_7 : Ref sig .tc := ⟨.hbm, 56, rfl⟩
abbrev main_call3_v0 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_c_8 : Ref sig .tc := ⟨.hbm, 61, rfl⟩
abbrev main_call4_v0 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_9 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51_0 : Ref sig .tc := ⟨.hbm, 74, rfl⟩
abbrev main_v51_1 : Ref sig .tc := ⟨.hbm, 75, rfl⟩
abbrev main_v51_2 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 8], ![false, false]⟩

@[reducible] def k0_t1_loop (i : grid0.Coords) : Scf.Loop 32 :=
  let arg1 : BitVec 32 := BitVec.ofNat 32 (i 1).val
  let c1_i32 : BitVec 32 := 1#32
  let v11 : BitVec 32 := Scalar.addi arg1 c1_i32
  let c1_i32_5 : BitVec 32 := 1#32
  let v12 : BitVec 32 := Scalar.muli v11 c1_i32_5
  let c8_i32 : BitVec 32 := 8#32
  let v13 : BitVec 32 := Scalar.subi c8_i32 v12
  let c1_i32_7 : BitVec 32 := 1#32
  let v15 : BitVec 32 := Scalar.divsi v13 c1_i32_7
  let v16 : BitVec 32 := Scalar.muli v15 c1_i32_7
  let v17 : BitVec 32 := Scalar.addi v12 v16
  let c1_i32_8 : BitVec 32 := 1#32
  ⟨v12, v17, c1_i32_8⟩
def k0_mult1 (i : grid0.Coords) (k0_t1 : Fin (k0_t1_loop i).trips) : BitVec 32 :=
  let arg1 : BitVec 32 := BitVec.ofNat 32 (i 1).val
  let c1_i32 : BitVec 32 := 1#32
  let v11 : BitVec 32 := Scalar.addi arg1 c1_i32
  let c1_i32_5 : BitVec 32 := 1#32
  let v12 : BitVec 32 := Scalar.muli v11 c1_i32_5
  let c1_i32_8 : BitVec 32 := 1#32
  let arg13 : BitVec 32 := Scf.iv v12 c1_i32_8 k0_t1
  let c1024_i32_121 : BitVec 32 := 1024#32
  let v202 : BitVec 32 := Scalar.muli arg13 c1024_i32_121
  v202
def k0_off1 (i : grid0.Coords) (k0_t1 : Fin (k0_t1_loop i).trips) : Fin 4 → Nat :=
  let c0_122 : Index := 0#32
  let arg1 : BitVec 32 := BitVec.ofNat 32 (i 1).val
  let c1_i32 : BitVec 32 := 1#32
  let v11 : BitVec 32 := Scalar.addi arg1 c1_i32
  let c1_i32_5 : BitVec 32 := 1#32
  let v12 : BitVec 32 := Scalar.muli v11 c1_i32_5
  let c1_i32_8 : BitVec 32 := 1#32
  let arg13 : BitVec 32 := Scf.iv v12 c1_i32_8 k0_t1
  let v204 : Index := Scalar.indexCast arg13
  let c0_123 : Index := 0#32
  let c0_124 : Index := 0#32
  ![0, v204.toNat, 0, 0]
def k0_off2 (i : grid0.Coords) (k0_t1 : Fin (k0_t1_loop i).trips) : Fin 2 → Nat :=
  let arg1 : BitVec 32 := BitVec.ofNat 32 (i 1).val
  let c1_i32 : BitVec 32 := 1#32
  let v11 : BitVec 32 := Scalar.addi arg1 c1_i32
  let c1_i32_5 : BitVec 32 := 1#32
  let v12 : BitVec 32 := Scalar.muli v11 c1_i32_5
  let c1_i32_8 : BitVec 32 := 1#32
  let arg13 : BitVec 32 := Scf.iv v12 c1_i32_8 k0_t1
  let c1024_i32_121 : BitVec 32 := 1024#32
  let v202 : BitVec 32 := Scalar.muli arg13 c1024_i32_121
  let v203 : BitVec 32 := v202
  let v210 : Index := Scalar.indexCast v203
  let c0_128 : Index := 0#32
  ![v210.toNat, 0]
@[reducible] def k0_t2_loop (i : grid0.Coords) : Scf.Loop 32 :=
  let arg1 : BitVec 32 := BitVec.ofNat 32 (i 1).val
  let c1_i32 : BitVec 32 := 1#32
  let v11 : BitVec 32 := Scalar.addi arg1 c1_i32
  let c1_i32_5 : BitVec 32 := 1#32
  let v12 : BitVec 32 := Scalar.muli v11 c1_i32_5
  let c8_i32 : BitVec 32 := 8#32
  let v13 : BitVec 32 := Scalar.subi c8_i32 v12
  let c1_i32_7 : BitVec 32 := 1#32
  let v15 : BitVec 32 := Scalar.divsi v13 c1_i32_7
  let v16 : BitVec 32 := Scalar.muli v15 c1_i32_7
  let v17 : BitVec 32 := Scalar.addi v12 v16
  let v14 : BitVec 32 := Scalar.addi v12 v13
  let c1_i32_9 : BitVec 32 := 1#32
  ⟨v17, v14, c1_i32_9⟩
def k0_mult2 (i : grid0.Coords) (k0_t2 : Fin (k0_t2_loop i).trips) : BitVec 32 :=
  let arg1 : BitVec 32 := BitVec.ofNat 32 (i 1).val
  let c1_i32 : BitVec 32 := 1#32
  let v11 : BitVec 32 := Scalar.addi arg1 c1_i32
  let c1_i32_5 : BitVec 32 := 1#32
  let v12 : BitVec 32 := Scalar.muli v11 c1_i32_5
  let c8_i32 : BitVec 32 := 8#32
  let v13 : BitVec 32 := Scalar.subi c8_i32 v12
  let c1_i32_7 : BitVec 32 := 1#32
  let v15 : BitVec 32 := Scalar.divsi v13 c1_i32_7
  let v16 : BitVec 32 := Scalar.muli v15 c1_i32_7
  let v17 : BitVec 32 := Scalar.addi v12 v16
  let c1_i32_9 : BitVec 32 := 1#32
  let arg13 : BitVec 32 := Scf.iv v17 c1_i32_9 k0_t2
  let c1024_i32_121 : BitVec 32 := 1024#32
  let v202 : BitVec 32 := Scalar.muli arg13 c1024_i32_121
  v202
def k0_off3 (i : grid0.Coords) (k0_t2 : Fin (k0_t2_loop i).trips) : Fin 4 → Nat :=
  let c0_122 : Index := 0#32
  let arg1 : BitVec 32 := BitVec.ofNat 32 (i 1).val
  let c1_i32 : BitVec 32 := 1#32
  let v11 : BitVec 32 := Scalar.addi arg1 c1_i32
  let c1_i32_5 : BitVec 32 := 1#32
  let v12 : BitVec 32 := Scalar.muli v11 c1_i32_5
  let c8_i32 : BitVec 32 := 8#32
  let v13 : BitVec 32 := Scalar.subi c8_i32 v12
  let c1_i32_7 : BitVec 32 := 1#32
  let v15 : BitVec 32 := Scalar.divsi v13 c1_i32_7
  let v16 : BitVec 32 := Scalar.muli v15 c1_i32_7
  let v17 : BitVec 32 := Scalar.addi v12 v16
  let c1_i32_9 : BitVec 32 := 1#32
  let arg13 : BitVec 32 := Scf.iv v17 c1_i32_9 k0_t2
  let v204 : Index := Scalar.indexCast arg13
  let c0_123 : Index := 0#32
  let c0_124 : Index := 0#32
  ![0, v204.toNat, 0, 0]
def k0_off4 (i : grid0.Coords) (k0_t2 : Fin (k0_t2_loop i).trips) : Fin 2 → Nat :=
  let arg1 : BitVec 32 := BitVec.ofNat 32 (i 1).val
  let c1_i32 : BitVec 32 := 1#32
  let v11 : BitVec 32 := Scalar.addi arg1 c1_i32
  let c1_i32_5 : BitVec 32 := 1#32
  let v12 : BitVec 32 := Scalar.muli v11 c1_i32_5
  let c8_i32 : BitVec 32 := 8#32
  let v13 : BitVec 32 := Scalar.subi c8_i32 v12
  let c1_i32_7 : BitVec 32 := 1#32
  let v15 : BitVec 32 := Scalar.divsi v13 c1_i32_7
  let v16 : BitVec 32 := Scalar.muli v15 c1_i32_7
  let v17 : BitVec 32 := Scalar.addi v12 v16
  let c1_i32_9 : BitVec 32 := 1#32
  let arg13 : BitVec 32 := Scf.iv v17 c1_i32_9 k0_t2
  let c1024_i32_121 : BitVec 32 := 1024#32
  let v202 : BitVec 32 := Scalar.muli arg13 c1024_i32_121
  let v203 : BitVec 32 := v202
  let v210 : Index := Scalar.indexCast v203
  let c0_128 : Index := 0#32
  ![v210.toNat, 0]
def k0_mult3 (i : grid0.Coords) : BitVec 32 :=
  let arg1 : BitVec 32 := BitVec.ofNat 32 (i 1).val
  let c1024_i32 : BitVec 32 := 1024#32
  let v18 : BitVec 32 := Scalar.muli arg1 c1024_i32
  let c0_i32_10 : BitVec 32 := 0#32
  let v19 : BitVec 32 := Scalar.addi v18 c0_i32_10
  v19
def k0_off5 (i : grid0.Coords) : Fin 4 → Nat :=
  let c0_13 : Index := 0#32
  let arg1 : BitVec 32 := BitVec.ofNat 32 (i 1).val
  let c1_i32_11 : BitVec 32 := 1#32
  let v21 : BitVec 32 := Scalar.muli arg1 c1_i32_11
  let c0_i32_12 : BitVec 32 := 0#32
  let v22 : BitVec 32 := Scalar.addi v21 c0_i32_12
  let v23 : Index := Scalar.indexCast v22
  let c0_14 : Index := 0#32
  let c0_15 : Index := 0#32
  ![0, v23.toNat, 0, 0]
def k0_off6 (i : grid0.Coords) (c0_i32_10 : BitVec 32) : Fin 2 → Nat :=
  let arg1 : BitVec 32 := BitVec.ofNat 32 (i 1).val
  let c1024_i32 : BitVec 32 := 1024#32
  let v18 : BitVec 32 := Scalar.muli arg1 c1024_i32
  let v19 : BitVec 32 := Scalar.addi v18 c0_i32_10
  let v20 : BitVec 32 := v19
  let v29 : Index := Scalar.indexCast v20
  let c0_19 : Index := 0#32
  ![v29.toNat, 0]
def k0_mult4 (i : grid0.Coords) : BitVec 32 :=
  let arg1 : BitVec 32 := BitVec.ofNat 32 (i 1).val
  let c1024_i32_44 : BitVec 32 := 1024#32
  let v78 : BitVec 32 := Scalar.muli arg1 c1024_i32_44
  let c512_i32 : BitVec 32 := 512#32
  let v79 : BitVec 32 := Scalar.addi v78 c512_i32
  v79
def k0_off7 (i : grid0.Coords) : Fin 4 → Nat :=
  let c0_47 : Index := 0#32
  let arg1 : BitVec 32 := BitVec.ofNat 32 (i 1).val
  let c1_i32_45 : BitVec 32 := 1#32
  let v81 : BitVec 32 := Scalar.muli arg1 c1_i32_45
  let c0_i32_46 : BitVec 32 := 0#32
  let v82 : BitVec 32 := Scalar.addi v81 c0_i32_46
  let v83 : Index := Scalar.indexCast v82
  let c0_48 : Index := 0#32
  let c512 : Index := 512#32
  ![0, v83.toNat, 0, 512]
def k0_mult5 (i : grid0.Coords) : BitVec 32 :=
  let arg1 : BitVec 32 := BitVec.ofNat 32 (i 1).val
  let c1024_i32_76 : BitVec 32 := 1024#32
  let v133 : BitVec 32 := Scalar.muli arg1 c1024_i32_76
  let c512_i32_77 : BitVec 32 := 512#32
  let v134 : BitVec 32 := Scalar.addi v133 c512_i32_77
  v134
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8192x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x8x8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x8x8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8192x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== KernelIdeal.lean ====
variable {F : FTy → Type} [FloatOps F] [Named F]
def κ : String → Option EReal := fun
  | "scale" => some (((Real.sqrt 96)⁻¹ : ℝ) : EReal)
  | "scale2" => some (((Real.sqrt 96)⁻¹ * (Real.log 2)⁻¹ : ℝ) : EReal)
  | _ => none
-- ==== ReferenceIdeal.lean ====
abbrev S8192x8x96 : Shape := ⟨3, ![8192, 8, 96]⟩
abbrev S8192x8x64 : Shape := ⟨3, ![8192, 8, 64]⟩
abbrev S8x8192x8192 : Shape := ⟨3, ![8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8192x8192 : Shape := ⟨3, ![1, 8192, 8192]⟩
abbrev S8x8192 : Shape := ⟨2, ![8, 8192]⟩
abbrev S8x8192x1 : Shape := ⟨3, ![8, 8192, 1]⟩
abbrev S8x64x8192 : Shape := ⟨3, ![8, 64, 8192]⟩
abbrev S8x8192x96 : Shape := ⟨3, ![8, 8192, 96]⟩
abbrev S8192x8x128 : Shape := ⟨3, ![8192, 8, 128]⟩
abbrev S8192x1024 : Shape := ⟨2, ![8192, 1024]⟩

abbrev nBuf : Space → Nat
  | .hbm => 102
  | .vmem => 0
  | .smem => 0
  | _ => 0

abbrev bufTy : (tb : Table) → Fin (tcTables nBuf tb) → BufTy
  | .hbm, ⟨0, _⟩ => ⟨S8192x8x96, .f32⟩
  | .hbm, ⟨1, _⟩ => ⟨S8192x8x96, .f32⟩
  | .hbm, ⟨2, _⟩ => ⟨S8192x8x64, .f32⟩
  | .hbm, ⟨3, _⟩ => ⟨S8192x8x64, .f32⟩
  | .hbm, ⟨4, _⟩ => ⟨S8x8192x8192, .f32⟩
  | .hbm, ⟨5, _⟩ => ⟨S_, .f32⟩
  | .hbm, ⟨6, _⟩ => ⟨S_, .f32⟩
  | .hbm, ⟨7, _⟩ => ⟨S8x8192x8192, .f32⟩
  | .hbm, ⟨8, _⟩ => ⟨S8x8192x8192, .f32⟩
  | .hbm, ⟨9, _⟩ => ⟨S8192, .i32⟩
  | .hbm, ⟨10, _⟩ => ⟨S1x8192, .i32⟩
  | .hbm, ⟨11, _⟩ => ⟨S8192x1, .i32⟩
  | .hbm, ⟨12, _⟩ => ⟨S8192x8192, .i32⟩
  | .hbm, ⟨13, _⟩ => ⟨S8192x8192, .i32⟩
  | .hbm, ⟨14, _⟩ => ⟨S8192x8192, .i1⟩
  | .hbm, ⟨15, _⟩ => ⟨S1x8192x8192, .i1⟩
  | .hbm, ⟨16, _⟩ => ⟨S_, .f32⟩
  | .hbm, ⟨17, _⟩ => ⟨S_, .f32⟩
  | .hbm, ⟨18, _⟩ => ⟨S8x8192x8192, .i1⟩
  | .hbm, ⟨19, _⟩ => ⟨S8x8192x8192, .f32⟩
  | .hbm, ⟨20, _⟩ => ⟨S8x8192x8192, .f32⟩
  | .hbm, ⟨21, _⟩ => ⟨S_, .f32⟩
  | .hbm, ⟨22, _⟩ => ⟨S8x8192x8192, .f32⟩
  | .hbm, ⟨23, _⟩ => ⟨S_, .f32⟩
  | .hbm, ⟨24, _⟩ => ⟨S8x8192, .f32⟩
  | .hbm, ⟨25, _⟩ => ⟨S8x8192x1, .f32⟩
  | .hbm, ⟨26, _⟩ => ⟨S8x8192x8192, .f32⟩
  | .hbm, ⟨27, _⟩ => ⟨S8x8192x8192, .i1⟩
  | .hbm, ⟨28, _⟩ => ⟨S8x8192x8192, .f32⟩
  | .hbm, ⟨29, _⟩ => ⟨S_, .f32⟩
  | .hbm, ⟨30, _⟩ => ⟨S8x8192, .f32⟩
  | .hbm, ⟨31, _⟩ => ⟨S_, .f32⟩
  | .hbm, ⟨32, _⟩ => ⟨S8x8192, .f32⟩
  | .hbm, ⟨33, _⟩ => ⟨S8x8192, .f32⟩
  | .hbm, ⟨34, _⟩ => ⟨S_, .f32⟩
  | .hbm, ⟨35, _⟩ => ⟨S8x8192, .f32⟩
  | .hbm, ⟨36, _⟩ => ⟨S8x8192, .i1⟩
  | .hbm, ⟨37, _⟩ => ⟨S_, .f32⟩
  | .hbm, ⟨38, _⟩ => ⟨S8x8192, .f32⟩
  | .hbm, ⟨39, _⟩ => ⟨S8x8192, .i1⟩
  | .hbm, ⟨40, _⟩ => ⟨S_, .f32⟩
  | .hbm, ⟨41, _⟩ => ⟨S8x8192, .f32⟩
  | .hbm, ⟨42, _⟩ => ⟨S_, .f32⟩
  | .hbm, ⟨43, _⟩ => ⟨S8x8192, .f32⟩
  | .hbm, ⟨44, _⟩ => ⟨S_, .f32⟩
  | .hbm, ⟨45, _⟩ => ⟨S8x8192, .f32⟩
  | .hbm, ⟨46, _⟩ => ⟨S8x8192, .f32⟩
  | .hbm, ⟨47, _⟩ => ⟨S8x8192, .f32⟩
  | .hbm, ⟨48, _⟩ => ⟨S8x8192x1, .f32⟩
  | .hbm, ⟨49, _⟩ => ⟨S8x8192x8192, .f32⟩
  | .hbm, ⟨50, _⟩ => ⟨S8x8192x8192, .f32⟩
  | .hbm, ⟨51, _⟩ => ⟨S8x8192x8192, .f32⟩
  | .hbm, ⟨52, _⟩ => ⟨S_, .f32⟩
  | .hbm, ⟨53, _⟩ => ⟨S8x8192, .f32⟩
  | .hbm, ⟨54, _⟩ => ⟨S8x8192x1, .f32⟩
  | .hbm, ⟨55, _⟩ => ⟨S8x8192x8192, .f32⟩
  | .hbm, ⟨56, _⟩ => ⟨S8x8192x8192, .f32⟩
  | .hbm, ⟨57, _⟩ => ⟨S8x8192x1, .f32⟩
  | .hbm, ⟨58, _⟩ => ⟨S_, .f32⟩
  | .hbm, ⟨59, _⟩ => ⟨S8x8192x1, .f32⟩
  | .hbm, ⟨60, _⟩ => ⟨S8x8192x1, .f32⟩
  | .hbm, ⟨61, _⟩ => ⟨S8x64x8192, .f32⟩
  | .hbm, ⟨62, _⟩ => ⟨S8192x8x64, .f32⟩
  | .hbm, ⟨63, _⟩ => ⟨S8x64x8192, .f32⟩
  | .hbm, ⟨64, _⟩ => ⟨S8x8192x8192, .f32⟩
  | .hbm, ⟨65, _⟩ => ⟨S8x64x8192, .f32⟩
  | .hbm, ⟨66, _⟩ => ⟨S8192x8x64, .f32⟩
  | .hbm, ⟨67, _⟩ => ⟨S8x8192x8192, .f32⟩
  | .hbm, ⟨68, _⟩ => ⟨S8x8192x8192, .f32⟩
  | .hbm, ⟨69, _⟩ => ⟨S8x8192x8192, .f32⟩
  | .hbm, ⟨70, _⟩ => ⟨S_, .f32⟩
  | .hbm, ⟨71, _⟩ => ⟨S8x8192, .f32⟩
  | .hbm, ⟨72, _⟩ => ⟨S8x8192x1, .f32⟩
  | .hbm, ⟨73, _⟩ => ⟨S8x8192x1, .f32⟩
  | .hbm, ⟨74, _⟩ => ⟨S8x8192x8192, .f32⟩
  | .hbm, ⟨75, _⟩ => ⟨S8x8192x8192, .f32⟩
  | .hbm, ⟨76, _⟩ => ⟨S_, .f32⟩
  | .hbm, ⟨77, _⟩ => ⟨S8x8192, .f32⟩
  | .hbm, ⟨78, _⟩ => ⟨S8x8192x8192, .f32⟩
  | .hbm, ⟨79, _⟩ => ⟨S8x8192x8192, .f32⟩
  | .hbm, ⟨80, _⟩ => ⟨S8x8192x8192, .f32⟩
  | .hbm, ⟨81, _⟩ => ⟨S_, .f32⟩
  | .hbm, ⟨82, _⟩ => ⟨S8x8192x8192, .f32⟩
  | .hbm, ⟨83, _⟩ => ⟨S8x8192x8192, .f32⟩
  | .hbm, ⟨84, _⟩ => ⟨S8x8192x8192, .f32⟩
  | .hbm, ⟨85, _⟩ => ⟨S8x8192x8192, .f32⟩
  | .hbm, ⟨86, _⟩ => ⟨S8x8192x96, .f32⟩
  | .hbm, ⟨87, _⟩ => ⟨S8192x8x96, .f32⟩
  | .hbm, ⟨88, _⟩ => ⟨S8x8192x96, .f32⟩
  | .hbm, ⟨89, _⟩ => ⟨S8192x8x96, .f32⟩
  | .hbm, ⟨90, _⟩ => ⟨S_, .i32⟩
  | .hbm, ⟨91, _⟩ => ⟨S_, .f32⟩
  | .hbm, ⟨92, _⟩ => ⟨S8192x8x128, .f32⟩
  | .hbm, ⟨93, _⟩ => ⟨S8192x1024, .f32⟩
  | .hbm, ⟨94, _⟩ => ⟨S_, .i32⟩
  | .hbm, ⟨95, _⟩ => ⟨S_, .f32⟩
  | .hbm, ⟨96, _⟩ => ⟨S8192x8x128, .f32⟩
  | .hbm, ⟨97, _⟩ => ⟨S8192x1024, .f32⟩
  | .hbm, ⟨98, _⟩ => ⟨S_, .i32⟩
  | .hbm, ⟨99, _⟩ => ⟨S_, .f32⟩
  | .hbm, ⟨100, _⟩ => ⟨S8192x8x128, .f32⟩
  | .hbm, ⟨101, _⟩ => ⟨S8192x1024, .f32⟩
  | _, _ => ⟨S8192x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_call0_v0 : Ref sig .tc := ⟨.hbm, 17, rfl⟩
abbrev main_v11_1 : Ref sig .tc := ⟨.hbm, 18, rfl⟩
abbrev main_call0_v2 : Ref sig .tc := ⟨.hbm, 19, rfl⟩
abbrev main_v11_0 : Ref sig .tc := ⟨.hbm, 20, rfl⟩
abbrev main_call0_cst : Ref sig .tc := ⟨.hbm, 21, rfl⟩
abbrev main_v11_2 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_cst_5 : Ref sig .tc := ⟨.hbm, 37, rfl⟩
abbrev main_v22 : Ref sig .tc := ⟨.hbm, 38, rfl⟩
abbrev main_v23 : Ref sig .tc := ⟨.hbm, 39, rfl⟩
abbrev main_cst_6 : Ref sig .tc := ⟨.hbm, 40, rfl⟩
abbrev main_v24 : Ref sig .tc := ⟨.hbm, 41, rfl⟩
abbrev main_cst_7 : Ref sig .tc := ⟨.hbm, 42, rfl⟩
abbrev main_v25 : Ref sig .tc := ⟨.hbm, 43, rfl⟩
abbrev main_cst_8 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_9 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_10 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_11 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_12 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_call1_cst : Ref sig .tc := ⟨.hbm, 81, rfl⟩
abbrev main_call1_v0 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_c : Ref sig .tc := ⟨.hbm, 90, rfl⟩
abbrev main_call2_v0 : Ref sig .tc := ⟨.hbm, 91, rfl⟩
abbrev main_v65 : Ref sig .tc := ⟨.hbm, 92, rfl⟩
abbrev main_v66 : Ref sig .tc := ⟨.hbm, 93, rfl⟩
abbrev main_c_13 : Ref sig .tc := ⟨.hbm, 94, rfl⟩
abbrev main_call3_v0 : Ref sig .tc := ⟨.hbm, 95, rfl⟩
abbrev main_v67 : Ref sig .tc := ⟨.hbm, 96, rfl⟩
abbrev main_v68 : Ref sig .tc := ⟨.hbm, 97, rfl⟩
abbrev main_c_14 : Ref sig .tc := ⟨.hbm, 98, rfl⟩
abbrev main_call4_v0 : Ref sig .tc := ⟨.hbm, 99, rfl⟩
abbrev main_v69 : Ref sig .tc := ⟨.hbm, 100, rfl⟩
abbrev main_v70 : Ref sig .tc := ⟨.hbm, 101, rfl⟩

abbrev nD : Nat := 1
abbrev τ : Topo := Topo.v7x

variable {F : FTy → Type} [FloatOps F]
-- ==== KernelUpDw.lean ====
abbrev S8192x1024 : Shape := ⟨2, ![8192, 1024]⟩
abbrev S8192x2816 : Shape := ⟨2, ![8192, 2816]⟩
abbrev S8192x4x704 : Shape := ⟨3, ![8192, 4, 704]⟩
abbrev S4x8192x704 : Shape := ⟨3, ![4, 8192, 704]⟩
abbrev S4x1024x704 : Shape := ⟨3, ![4, 1024, 704]⟩
abbrev S2048x1024 : Shape := ⟨2, ![2048, 1024]⟩
abbrev S1x2048x704 : Shape := ⟨3, ![1, 2048, 704]⟩
abbrev S1x1024x704 : Shape := ⟨3, ![1, 1024, 704]⟩
abbrev S1024x704 : Shape := ⟨2, ![1024, 704]⟩
abbrev S2048x704 : Shape := ⟨2, ![2048, 704]⟩

abbrev nBuf : Space → Nat
  | .hbm => 7
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x2816, .f32⟩
  | .hbm, ⟨2, _⟩ => ⟨S8192x4x704, .f32⟩
  | .hbm, ⟨3, _⟩ => ⟨S4x8192x704, .f32⟩
  | .hbm, ⟨4, _⟩ => ⟨S4x8192x704, .bf16⟩
  | .hbm, ⟨5, _⟩ => ⟨S8192x1024, .bf16⟩
  | .hbm, ⟨6, _⟩ => ⟨S4x1024x704, .bf16⟩
  | .local _ .vmem, ⟨0, _⟩ => ⟨S2048x1024, .bf16⟩
  | .local _ .vmem, ⟨1, _⟩ => ⟨S2048x1024, .bf16⟩
  | .local _ .vmem, ⟨2, _⟩ => ⟨S1x2048x704, .bf16⟩
  | .local _ .vmem, ⟨3, _⟩ => ⟨S1x2048x704, .bf16⟩
  | .local _ .vmem, ⟨4, _⟩ => ⟨S1x1024x704, .bf16⟩
  | .local _ .vmem, ⟨5, _⟩ => ⟨S1x1024x704, .bf16⟩
  | .local _ .vmem, ⟨6, _⟩ => ⟨S1024x704, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![4, 1, 1, 4], ![false, false, false, false]⟩

def k0_cond3 (i : grid0.Coords) : BitVec 1 :=
  let arg3 : BitVec 32 := BitVec.ofNat 32 (i 3).val
  let c3_i32 : BitVec 32 := 3#32
  let v11 : BitVec 1 := Scalar.cmpi .eq arg3 c3_i32
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1x2048x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== ReferenceUpDwIdeal.lean ====
abbrev S8192x1024 : Shape := ⟨2, ![8192, 1024]⟩
abbrev S8192x2816 : Shape := ⟨2, ![8192, 2816]⟩
abbrev S_ : Shape := ⟨0, ![]⟩
abbrev S1024x2816 : Shape := ⟨2, ![1024, 2816]⟩
abbrev S2816x1024 : Shape := ⟨2, ![2816, 1024]⟩
abbrev S1024x4x704 : Shape := ⟨3, ![1024, 4, 704]⟩
abbrev S4x1024x704 : Shape := ⟨3, ![4, 1024, 704]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2816, .f32⟩
  | .hbm, ⟨2, _⟩ => ⟨S_, .f32⟩
  | .hbm, ⟨3, _⟩ => ⟨S1024x2816, .f32⟩
  | .hbm, ⟨4, _⟩ => ⟨S8192x2816, .f32⟩
  | .hbm, ⟨5, _⟩ => ⟨S2816x1024, .f32⟩
  | .hbm, ⟨6, _⟩ => ⟨S1024x2816, .f32⟩
  | .hbm, ⟨7, _⟩ => ⟨S1024x4x704, .f32⟩
  | .hbm, ⟨8, _⟩ => ⟨S4x1024x704, .f32⟩
  | .hbm, ⟨9, _⟩ => ⟨S4x1024x704, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelUpDxA.lean ====
abbrev S8192x2816 : Shape := ⟨2, ![8192, 2816]⟩
abbrev S1024x5632 : Shape := ⟨2, ![1024, 5632]⟩
abbrev S8192x4x704 : Shape := ⟨3, ![8192, 4, 704]⟩
abbrev S4x8192x704 : Shape := ⟨3, ![4, 8192, 704]⟩
abbrev S1024x8x704 : Shape := ⟨3, ![1024, 8, 704]⟩
abbrev S8x1024x704 : Shape := ⟨3, ![8, 1024, 704]⟩
abbrev S8192x1024 : Shape := ⟨2, ![8192, 1024]⟩
abbrev S4x1024x704 : Shape := ⟨3, ![4, 1024, 704]⟩
abbrev S4x512x704 : Shape := ⟨3, ![4, 512, 704]⟩
abbrev S1024x512 : Shape := ⟨2, ![1024, 512]⟩
abbrev S1x1024x704 : Shape := ⟨3, ![1, 1024, 704]⟩
abbrev S1024x704 : Shape := ⟨2, ![1024, 704]⟩
abbrev S1x512x704 : Shape := ⟨3, ![1, 512, 704]⟩
abbrev S512x704 : Shape := ⟨2, ![512, 704]⟩

abbrev nBuf : Space → Nat
  | .hbm => 9
  | .vmem => 7
  | .smem => 0
  | _ => 0

abbrev bufTy : (tb : Table) → Fin (tcTables nBuf tb) → BufTy
  | .hbm, ⟨0, _⟩ => ⟨S8192x2816, .f32⟩
  | .hbm, ⟨1, _⟩ => ⟨S1024x5632, .f32⟩
  | .hbm, ⟨2, _⟩ => ⟨S8192x4x704, .f32⟩
  | .hbm, ⟨3, _⟩ => ⟨S4x8192x704, .f32⟩
  | .hbm, ⟨4, _⟩ => ⟨S4x8192x704, .bf16⟩
  | .hbm, ⟨5, _⟩ => ⟨S1024x8x704, .f32⟩
  | .hbm, ⟨6, _⟩ => ⟨S8x1024x704, .f32⟩
  | .hbm, ⟨7, _⟩ => ⟨S8x1024x704, .bf16⟩
  | .hbm, ⟨8, _⟩ => ⟨S8192x1024, .f32⟩
  | .local _ .vmem, ⟨0, _⟩ => ⟨S4x1024x704, .bf16⟩
  | .local _ .vmem, ⟨1, _⟩ => ⟨S4x1024x704, .bf16⟩
  | .local _ .vmem, ⟨2, _⟩ => ⟨S4x512x704, .bf16⟩
  | .local _ .vmem, ⟨3, _⟩ => ⟨S4x512x704, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 8, 2, 1], ![false, false, false, false]⟩

def k0_cond3 (i : grid0.Coords) : BitVec 1 :=
  let arg3 : BitVec 32 := BitVec.ofNat 32 (i 3).val
  let c0_i32_26 : BitVec 32 := 0#32
  let v29 : BitVec 1 := Scalar.cmpi .eq arg3 c0_i32_26
  let v30 : BitVec 32 := Scalar.extui v29
  let c0_i32_27 : BitVec 32 := 0#32
  let v31 : BitVec 1 := Scalar.cmpi .ne v30 c0_i32_27
  v31

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg1.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg2.toNat, arg3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S4x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S4x512x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== ReferenceUpDxAIdeal.lean ====
abbrev S8192x2816 : Shape := ⟨2, ![8192, 2816]⟩
abbrev S1024x5632 : Shape := ⟨2, ![1024, 5632]⟩
abbrev S_ : Shape := ⟨0, ![]⟩
abbrev S8192x1024 : Shape := ⟨2, ![8192, 1024]⟩
abbrev S1024x2816 : Shape := ⟨2, ![1024, 2816]⟩

abbrev nBuf : Space → Nat
  | .hbm => 7
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S1024x5632, .f32⟩
  | .hbm, ⟨2, _⟩ => ⟨S_, .f32⟩
  | .hbm, ⟨3, _⟩ => ⟨S8192x1024, .f32⟩
  | .hbm, ⟨4, _⟩ => ⟨S1024x2816, .f32⟩
  | .hbm, ⟨5, _⟩ => ⟨S8192x2816, .f32⟩
  | .hbm, ⟨6, _⟩ => ⟨S8192x1024, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelUpDxB.lean ====
abbrev S8192x2816 : Shape := ⟨2, ![8192, 2816]⟩
abbrev S1024x5632 : Shape := ⟨2, ![1024, 5632]⟩
abbrev S8192x1024 : Shape := ⟨2, ![8192, 1024]⟩
abbrev S8192x4x704 : Shape := ⟨3, ![8192, 4, 704]⟩
abbrev S4x8192x704 : Shape := ⟨3, ![4, 8192, 704]⟩
abbrev S1024x8x704 : Shape := ⟨3, ![1024, 8, 704]⟩
abbrev S8x1024x704 : Shape := ⟨3, ![8, 1024, 704]⟩
abbrev S4x1024x704 : Shape := ⟨3, ![4, 1024, 704]⟩
abbrev S4x512x704 : Shape := ⟨3, ![4, 512, 704]⟩
abbrev S1024x512 : Shape := ⟨2, ![1024, 512]⟩
abbrev S1x1024x704 : Shape := ⟨3, ![1, 1024, 704]⟩
abbrev S1024x704 : Shape := ⟨2, ![1024, 704]⟩
abbrev S1x512x704 : Shape := ⟨3, ![1, 512, 704]⟩
abbrev S512x704 : Shape := ⟨2, ![512, 704]⟩

abbrev nBuf : Space → Nat
  | .hbm => 10
  | .vmem => 9
  | .smem => 0
  | _ => 0

abbrev bufTy : (tb : Table) → Fin (tcTables nBuf tb) → BufTy
  | .hbm, ⟨0, _⟩ => ⟨S8192x2816, .f32⟩
  | .hbm, ⟨1, _⟩ => ⟨S1024x5632, .f32⟩
  | .hbm, ⟨2, _⟩ => ⟨S8192x1024, .f32⟩
  | .hbm, ⟨3, _⟩ => ⟨S8192x4x704, .f32⟩
  | .hbm, ⟨4, _⟩ => ⟨S4x8192x704, .f32⟩
  | .hbm, ⟨5, _⟩ => ⟨S4x8192x704, .bf16⟩
  | .hbm, ⟨6, _⟩ => ⟨S1024x8x704, .f32⟩
  | .hbm, ⟨7, _⟩ => ⟨S8x1024x704, .f32⟩
  | .hbm, ⟨8, _⟩ => ⟨S8x1024x704, .bf16⟩
  | .hbm, ⟨9, _⟩ => ⟨S8192x1024, .f32⟩
  | .local _ .vmem, ⟨0, _⟩ => ⟨S4x1024x704, .bf16⟩
  | .local _ .vmem, ⟨1, _⟩ => ⟨S4x1024x704, .bf16⟩
  | .local _ .vmem, ⟨2, _⟩ => ⟨S4x512x704, .bf16⟩
  | .local _ .vmem, ⟨3, _⟩ => ⟨S4x512x704, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨4, ![1, 8, 2, 1], ![false, false, false, false]⟩

def k0_cond3 (i : grid0.Coords) : BitVec 1 :=
  let arg3 : BitVec 32 := BitVec.ofNat 32 (i 3).val
  let c0_i32_26 : BitVec 32 := 0#32
  let v29 : BitVec 1 := Scalar.cmpi .eq arg3 c0_i32_26
  let v30 : BitVec 32 := Scalar.extui v29
  let c0_i32_27 : BitVec 32 := 0#32
  let v31 : BitVec 1 := Scalar.cmpi .ne v30 c0_i32_27
  v31

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg1.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let c0_i32 : BitVec 32 := 0#32
  ![c1_i32.toNat, arg2.toNat, arg3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S4x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S4x512x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true, false]
-- ==== ReferenceUpDxBIdeal.lean ====
abbrev S8192x2816 : Shape := ⟨2, ![8192, 2816]⟩
abbrev S1024x5632 : Shape := ⟨2, ![1024, 5632]⟩
abbrev S8192x1024 : Shape := ⟨2, ![8192, 1024]⟩
abbrev S_ : Shape := ⟨0, ![]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S1024x5632, .f32⟩
  | .hbm, ⟨2, _⟩ => ⟨S8192x1024, .f32⟩
  | .hbm, ⟨3, _⟩ => ⟨S_, .f32⟩
  | .hbm, ⟨4, _⟩ => ⟨S8192x1024, .f32⟩
  | .hbm, ⟨5, _⟩ => ⟨S1024x2816, .f32⟩
  | .hbm, ⟨6, _⟩ => ⟨S8192x2816, .f32⟩
  | .hbm, ⟨7, _⟩ => ⟨S8192x1024, .f32⟩
  | .hbm, ⟨8, _⟩ => ⟨S8192x1024, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== KernelDownDx.lean ====
abbrev S8192x1024 : Shape := ⟨2, ![8192, 1024]⟩
abbrev S2816x1024 : Shape := ⟨2, ![2816, 1024]⟩
abbrev S4x704x1024 : Shape := ⟨3, ![4, 704, 1024]⟩
abbrev S4x8192x704 : Shape := ⟨3, ![4, 8192, 704]⟩
abbrev S1024x1024 : Shape := ⟨2, ![1024, 1024]⟩
abbrev S1x704x1024 : Shape := ⟨3, ![1, 704, 1024]⟩
abbrev S1x1024x704 : Shape := ⟨3, ![1, 1024, 704]⟩
abbrev S1024x704 : Shape := ⟨2, ![1024, 704]⟩
abbrev S704x1024 : Shape := ⟨2, ![704, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S2816x1024, .f32⟩
  | .hbm, ⟨2, _⟩ => ⟨S4x704x1024, .f32⟩
  | .hbm, ⟨3, _⟩ => ⟨S4x704x1024, .bf16⟩
  | .hbm, ⟨4, _⟩ => ⟨S8192x1024, .bf16⟩
  | .hbm, ⟨5, _⟩ => ⟨S4x8192x704, .f32⟩
  | .local _ .vmem, ⟨0, _⟩ => ⟨S1024x1024, .bf16⟩
  | .local _ .vmem, ⟨1, _⟩ => ⟨S1024x1024, .bf16⟩
  | .local _ .vmem, ⟨2, _⟩ => ⟨S1x704x1024, .bf16⟩
  | .local _ .vmem, ⟨3, _⟩ => ⟨S1x704x1024, .bf16⟩
  | .local _ .vmem, ⟨4, _⟩ => ⟨S1x1024x704, .f32⟩
  | .local _ .vmem, ⟨5, _⟩ => ⟨S1x1024x704, .f32⟩
  | .local _ .vmem, ⟨6, _⟩ => ⟨S1024x704, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![4, 8, 1, 1], ![false, false, false, false]⟩

def k0_cond3 (i : grid0.Coords) : BitVec 1 :=
  let arg3 : BitVec 32 := BitVec.ofNat 32 (i 3).val
  let c0_i32_7 : BitVec 32 := 0#32
  let v11 : BitVec 1 := Scalar.cmpi .eq arg3 c0_i32_7
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg3.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1x1024x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== ReferenceDownDxIdeal.lean ====
abbrev S8192x1024 : Shape := ⟨2, ![8192, 1024]⟩
abbrev S2816x1024 : Shape := ⟨2, ![2816, 1024]⟩
abbrev S_ : Shape := ⟨0, ![]⟩
abbrev S8192x2816 : Shape := ⟨2, ![8192, 2816]⟩
abbrev S8192x4x704 : Shape := ⟨3, ![8192, 4, 704]⟩
abbrev S4x8192x704 : Shape := ⟨3, ![4, 8192, 704]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2816x1024, .f32⟩
  | .hbm, ⟨2, _⟩ => ⟨S_, .f32⟩
  | .hbm, ⟨3, _⟩ => ⟨S8192x2816, .f32⟩
  | .hbm, ⟨4, _⟩ => ⟨S8192x1024, .f32⟩
  | .hbm, ⟨5, _⟩ => ⟨S8192x2816, .f32⟩
  | .hbm, ⟨6, _⟩ => ⟨S8192x4x704, .f32⟩
  | .hbm, ⟨7, _⟩ => ⟨S4x8192x704, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelDownDw.lean ====
abbrev S8192x2816 : Shape := ⟨2, ![8192, 2816]⟩
abbrev S8192x1024 : Shape := ⟨2, ![8192, 1024]⟩
abbrev S8192x4x704 : Shape := ⟨3, ![8192, 4, 704]⟩
abbrev S4x8192x704 : Shape := ⟨3, ![4, 8192, 704]⟩
abbrev S4x704x1024 : Shape := ⟨3, ![4, 704, 1024]⟩
abbrev S1x2048x704 : Shape := ⟨3, ![1, 2048, 704]⟩
abbrev S2048x512 : Shape := ⟨2, ![2048, 512]⟩
abbrev S1x704x512 : Shape := ⟨3, ![1, 704, 512]⟩
abbrev S704x512 : Shape := ⟨2, ![704, 512]⟩
abbrev S2048x704 : Shape := ⟨2, ![2048, 704]⟩

abbrev nBuf : Space → Nat
  | .hbm => 7
  | .vmem => 7
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S8192x4x704, .f32⟩
  | .hbm, ⟨3, _⟩ => ⟨S4x8192x704, .f32⟩
  | .hbm, ⟨4, _⟩ => ⟨S4x8192x704, .bf16⟩
  | .hbm, ⟨5, _⟩ => ⟨S8192x1024, .bf16⟩
  | .hbm, ⟨6, _⟩ => ⟨S4x704x1024, .bf16⟩
  | .local _ .vmem, ⟨0, _⟩ => ⟨S1x2048x704, .bf16⟩
  | .local _ .vmem, ⟨1, _⟩ => ⟨S1x2048x704, .bf16⟩
  | .local _ .vmem, ⟨2, _⟩ => ⟨S2048x512, .bf16⟩
  | .local _ .vmem, ⟨3, _⟩ => ⟨S2048x512, .bf16⟩
  | .local _ .vmem, ⟨4, _⟩ => ⟨S1x704x512, .bf16⟩
  | .local _ .vmem, ⟨5, _⟩ => ⟨S1x704x512, .bf16⟩
  | .local _ .vmem, ⟨6, _⟩ => ⟨S704x512, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![4, 1, 2, 4], ![false, false, false, false]⟩

def k0_cond3 (i : grid0.Coords) : BitVec 1 :=
  let arg3 : BitVec 32 := BitVec.ofNat 32 (i 3).val
  let c3_i32 : BitVec 32 := 3#32
  let v11 : BitVec 1 := Scalar.cmpi .eq arg3 c3_i32
  let v12 : BitVec 32 := Scalar.extui v11
  let c0_i32_7 : BitVec 32 := 0#32
  let v13 : BitVec 1 := Scalar.cmpi .ne v12 c0_i32_7
  v13

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1x704x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== ReferenceDownDwIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩
abbrev S4x704x1024 : Shape := ⟨3, ![4, 704, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S_, .f32⟩
  | .hbm, ⟨3, _⟩ => ⟨S2816x1024, .f32⟩
  | .hbm, ⟨4, _⟩ => ⟨S8192x1024, .f32⟩
  | .hbm, ⟨5, _⟩ => ⟨S1024x2816, .f32⟩
  | .hbm, ⟨6, _⟩ => ⟨S2816x1024, .f32⟩
  | .hbm, ⟨7, _⟩ => ⟨S4x704x1024, .f32⟩
  | .hbm, ⟨8, _⟩ => ⟨S4x704x1024, .bf16⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelUp.lean ====
abbrev S8192x1024 : Shape := ⟨2, ![8192, 1024]⟩
abbrev S1024x5632 : Shape := ⟨2, ![1024, 5632]⟩
abbrev S1024x8x704 : Shape := ⟨3, ![1024, 8, 704]⟩
abbrev S8x1024x704 : Shape := ⟨3, ![8, 1024, 704]⟩
abbrev S8x8192x704 : Shape := ⟨3, ![8, 8192, 704]⟩
abbrev S1024x1024 : Shape := ⟨2, ![1024, 1024]⟩
abbrev S1x1024x704 : Shape := ⟨3, ![1, 1024, 704]⟩
abbrev S1024x704 : Shape := ⟨2, ![1024, 704]⟩

abbrev nBuf : Space → Nat
  | .hbm => 7
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S8192x1024, .bf16⟩
  | .hbm, ⟨3, _⟩ => ⟨S1024x8x704, .f32⟩
  | .hbm, ⟨4, _⟩ => ⟨S8x1024x704, .f32⟩
  | .hbm, ⟨5, _⟩ => ⟨S8x1024x704, .bf16⟩
  | .hbm, ⟨6, _⟩ => ⟨S8x8192x704, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x704, .bf16⟩
  | .local _ .vmem, ⟨3, _⟩ => ⟨S1x1024x704, .bf16⟩
  | .local _ .vmem, ⟨4, _⟩ => ⟨S1x1024x704, .f32⟩
  | .local _ .vmem, ⟨5, _⟩ => ⟨S1x1024x704, .f32⟩
  | .local _ .vmem, ⟨6, _⟩ => ⟨S1024x704, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![8, 8, 1, 1], ![false, false, false, false]⟩

def k0_cond3 (i : grid0.Coords) : BitVec 1 :=
  let arg3 : BitVec 32 := BitVec.ofNat 32 (i 3).val
  let c0_i32_7 : BitVec 32 := 0#32
  let v11 : BitVec 1 := Scalar.cmpi .eq arg3 c0_i32_7
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1x1024x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== ReferenceUpIdeal.lean ====
abbrev S8192x1024 : Shape := ⟨2, ![8192, 1024]⟩
abbrev S1024x5632 : Shape := ⟨2, ![1024, 5632]⟩
abbrev S8192x5632 : Shape := ⟨2, ![8192, 5632]⟩
abbrev S8192x8x704 : Shape := ⟨3, ![8192, 8, 704]⟩
abbrev S8x8192x704 : Shape := ⟨3, ![8, 8192, 704]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S8192x5632, .f32⟩
  | .hbm, ⟨3, _⟩ => ⟨S8192x8x704, .f32⟩
  | .hbm, ⟨4, _⟩ => ⟨S8x8192x704, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KernelDown.lean ====
abbrev S8192x2816 : Shape := ⟨2, ![8192, 2816]⟩
abbrev S2816x1024 : Shape := ⟨2, ![2816, 1024]⟩
abbrev S8192x1024 : Shape := ⟨2, ![8192, 1024]⟩
abbrev S4x704x1024 : Shape := ⟨3, ![4, 704, 1024]⟩
abbrev S8192x4x704 : Shape := ⟨3, ![8192, 4, 704]⟩
abbrev S4x8192x704 : Shape := ⟨3, ![4, 8192, 704]⟩
abbrev S4x1024x704 : Shape := ⟨3, ![4, 1024, 704]⟩
abbrev S4x704x512 : Shape := ⟨3, ![4, 704, 512]⟩
abbrev S1024x512 : Shape := ⟨2, ![1024, 512]⟩
abbrev S1x1024x704 : Shape := ⟨3, ![1, 1024, 704]⟩
abbrev S1024x704 : Shape := ⟨2, ![1024, 704]⟩
abbrev S1x704x512 : Shape := ⟨3, ![1, 704, 512]⟩
abbrev S704x512 : Shape := ⟨2, ![704, 512]⟩

abbrev nBuf : Space → Nat
  | .hbm => 9
  | .vmem => 9
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S4x704x1024, .f32⟩
  | .hbm, ⟨4, _⟩ => ⟨S4x704x1024, .bf16⟩
  | .hbm, ⟨5, _⟩ => ⟨S8192x4x704, .f32⟩
  | .hbm, ⟨6, _⟩ => ⟨S4x8192x704, .f32⟩
  | .hbm, ⟨7, _⟩ => ⟨S4x8192x704, .bf16⟩
  | .hbm, ⟨8, _⟩ => ⟨S8192x1024, .f32⟩
  | .local _ .vmem, ⟨0, _⟩ => ⟨S4x1024x704, .bf16⟩
  | .local _ .vmem, ⟨1, _⟩ => ⟨S4x1024x704, .bf16⟩
  | .local _ .vmem, ⟨2, _⟩ => ⟨S4x704x512, .bf16⟩
  | .local _ .vmem, ⟨3, _⟩ => ⟨S4x704x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨4, ![1, 8, 2, 1], ![false, false, false, false]⟩

def k0_cond3 (i : grid0.Coords) : BitVec 1 :=
  let arg3 : BitVec 32 := BitVec.ofNat 32 (i 3).val
  let c0_i32_26 : BitVec 32 := 0#32
  let v29 : BitVec 1 := Scalar.cmpi .eq arg3 c0_i32_26
  let v30 : BitVec 32 := Scalar.extui v29
  let c0_i32_27 : BitVec 32 := 0#32
  let v31 : BitVec 1 := Scalar.cmpi .ne v30 c0_i32_27
  v31

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg1.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S4x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S4x704x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true, false]
-- ==== ReferenceDownIdeal.lean ====
abbrev S8192x2816 : Shape := ⟨2, ![8192, 2816]⟩
abbrev S2816x1024 : Shape := ⟨2, ![2816, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S8192x1024, .f32⟩
  | .hbm, ⟨4, _⟩ => ⟨S8192x1024, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== KernelOutDx.lean ====
abbrev S8192x1024 : Shape := ⟨2, ![8192, 1024]⟩
abbrev S1536x1024 : Shape := ⟨2, ![1536, 1024]⟩
abbrev S8192x1536 : Shape := ⟨2, ![8192, 1536]⟩
abbrev S1024x1024 : Shape := ⟨2, ![1024, 1024]⟩
abbrev S512x1024 : Shape := ⟨2, ![512, 1024]⟩
abbrev S1024x512 : Shape := ⟨2, ![1024, 512]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1536x1024, .f32⟩
  | .hbm, ⟨2, _⟩ => ⟨S8192x1024, .bf16⟩
  | .hbm, ⟨3, _⟩ => ⟨S1536x1024, .bf16⟩
  | .hbm, ⟨4, _⟩ => ⟨S8192x1536, .f32⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 8, 3, 1], ![false, false, false, false]⟩

def k0_cond3 (i : grid0.Coords) : BitVec 1 :=
  let arg3 : BitVec 32 := BitVec.ofNat 32 (i 3).val
  let c0_i32_6 : BitVec 32 := 0#32
  let v11 : BitVec 1 := Scalar.cmpi .eq arg3 c0_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== KernelOutDxIdeal.lean ====
abbrev S8192x1024 : Shape := ⟨2, ![8192, 1024]⟩
abbrev S1536x1024 : Shape := ⟨2, ![1536, 1024]⟩
abbrev S8192x1536 : Shape := ⟨2, ![8192, 1536]⟩
abbrev S1024x1024 : Shape := ⟨2, ![1024, 1024]⟩
abbrev S512x1024 : Shape := ⟨2, ![512, 1024]⟩
abbrev S1024x512 : Shape := ⟨2, ![1024, 512]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1536x1024, .f32⟩
  | .hbm, ⟨2, _⟩ => ⟨S8192x1024, .bf16⟩
  | .hbm, ⟨3, _⟩ => ⟨S1536x1024, .bf16⟩
  | .hbm, ⟨4, _⟩ => ⟨S8192x1536, .f32⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 8, 3, 1], ![false, false, false, false]⟩

def k0_cond3 (i : grid0.Coords) : BitVec 1 :=
  let arg3 : BitVec 32 := BitVec.ofNat 32 (i 3).val
  let c0_i32_6 : BitVec 32 := 0#32
  let v11 : BitVec 1 := Scalar.cmpi .eq arg3 c0_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== ReferenceOutDxIdeal.lean ====
abbrev S8192x1024 : Shape := ⟨2, ![8192, 1024]⟩
abbrev S1536x1024 : Shape := ⟨2, ![1536, 1024]⟩
abbrev S_ : Shape := ⟨0, ![]⟩
abbrev S8192x1536 : Shape := ⟨2, ![8192, 1536]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1536x1024, .f32⟩
  | .hbm, ⟨2, _⟩ => ⟨S_, .f32⟩
  | .hbm, ⟨3, _⟩ => ⟨S8192x1536, .f32⟩
  | .hbm, ⟨4, _⟩ => ⟨S8192x1024, .f32⟩
  | .hbm, ⟨5, _⟩ => ⟨S8192x1536, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== KernelOutDw.lean ====
abbrev S8192x1536 : Shape := ⟨2, ![8192, 1536]⟩
abbrev S8192x1024 : Shape := ⟨2, ![8192, 1024]⟩
abbrev S1536x1024 : Shape := ⟨2, ![1536, 1024]⟩
abbrev S2048x512 : Shape := ⟨2, ![2048, 512]⟩
abbrev S512x512 : Shape := ⟨2, ![512, 512]⟩

abbrev nBuf : Space → Nat
  | .hbm => 5
  | .vmem => 7
  | .smem => 0
  | _ => 0

abbrev bufTy : (tb : Table) → Fin (tcTables nBuf tb) → BufTy
  | .hbm, ⟨0, _⟩ => ⟨S8192x1536, .f32⟩
  | .hbm, ⟨1, _⟩ => ⟨S8192x1024, .f32⟩
  | .hbm, ⟨2, _⟩ => ⟨S8192x1536, .bf16⟩
  | .hbm, ⟨3, _⟩ => ⟨S8192x1024, .bf16⟩
  | .hbm, ⟨4, _⟩ => ⟨S1536x1024, .f32⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S8192x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 3, 2, 4], ![false, false, false, false]⟩

def k0_cond3 (i : grid0.Coords) : BitVec 1 :=
  let arg3 : BitVec 32 := BitVec.ofNat 32 (i 3).val
  let c3_i32 : BitVec 32 := 3#32
  let v11 : BitVec 1 := Scalar.cmpi .eq arg3 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== KernelOutDwIdeal.lean ====
abbrev S8192x1536 : Shape := ⟨2, ![8192, 1536]⟩
abbrev S8192x1024 : Shape := ⟨2, ![8192, 1024]⟩
abbrev S1536x1024 : Shape := ⟨2, ![1536, 1024]⟩
abbrev S2048x512 : Shape := ⟨2, ![2048, 512]⟩
abbrev S512x512 : Shape := ⟨2, ![512, 512]⟩

abbrev nBuf : Space → Nat
  | .hbm => 5
  | .vmem => 7
  | .smem => 0
  | _ => 0

abbrev bufTy : (tb : Table) → Fin (tcTables nBuf tb) → BufTy
  | .hbm, ⟨0, _⟩ => ⟨S8192x1536, .f32⟩
  | .hbm, ⟨1, _⟩ => ⟨S8192x1024, .f32⟩
  | .hbm, ⟨2, _⟩ => ⟨S8192x1536, .bf16⟩
  | .hbm, ⟨3, _⟩ => ⟨S8192x1024, .bf16⟩
  | .hbm, ⟨4, _⟩ => ⟨S1536x1024, .f32⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S8192x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 3, 2, 4], ![false, false, false, false]⟩

def k0_cond3 (i : grid0.Coords) : BitVec 1 :=
  let arg3 : BitVec 32 := BitVec.ofNat 32 (i 3).val
  let c3_i32 : BitVec 32 := 3#32
  let v11 : BitVec 1 := Scalar.cmpi .eq arg3 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== ReferenceOutDwIdeal.lean ====
abbrev S8192x1536 : Shape := ⟨2, ![8192, 1536]⟩
abbrev S8192x1024 : Shape := ⟨2, ![8192, 1024]⟩
abbrev S_ : Shape := ⟨0, ![]⟩
abbrev S1536x1024 : Shape := ⟨2, ![1536, 1024]⟩
abbrev S1024x1536 : Shape := ⟨2, ![1024, 1536]⟩

abbrev nBuf : Space → Nat
  | .hbm => 7
  | .vmem => 0
  | .smem => 0
  | _ => 0

abbrev bufTy : (tb : Table) → Fin (tcTables nBuf tb) → BufTy
  | .hbm, ⟨0, _⟩ => ⟨S8192x1536, .f32⟩
  | .hbm, ⟨1, _⟩ => ⟨S8192x1024, .f32⟩
  | .hbm, ⟨2, _⟩ => ⟨S_, .f32⟩
  | .hbm, ⟨3, _⟩ => ⟨S1536x1024, .f32⟩
  | .hbm, ⟨4, _⟩ => ⟨S8192x1024, .f32⟩
  | .hbm, ⟨5, _⟩ => ⟨S1024x1536, .f32⟩
  | .hbm, ⟨6, _⟩ => ⟨S1536x1024, .f32⟩
  | _, _ => ⟨S8192x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelOut.lean ====
abbrev S8192x1536 : Shape := ⟨2, ![8192, 1536]⟩
abbrev S1536x1024 : Shape := ⟨2, ![1536, 1024]⟩
abbrev S8192x1024 : Shape := ⟨2, ![8192, 1024]⟩
abbrev S1024x512 : Shape := ⟨2, ![1024, 512]⟩
abbrev S512x512 : Shape := ⟨2, ![512, 512]⟩

abbrev nBuf : Space → Nat
  | .hbm => 6
  | .vmem => 9
  | .smem => 0
  | _ => 0

abbrev bufTy : (tb : Table) → Fin (tcTables nBuf tb) → BufTy
  | .hbm, ⟨0, _⟩ => ⟨S8192x1536, .f32⟩
  | .hbm, ⟨1, _⟩ => ⟨S1536x1024, .f32⟩
  | .hbm, ⟨2, _⟩ => ⟨S8192x1024, .f32⟩
  | .hbm, ⟨3, _⟩ => ⟨S8192x1536, .bf16⟩
  | .hbm, ⟨4, _⟩ => ⟨S1536x1024, .bf16⟩
  | .hbm, ⟨5, _⟩ => ⟨S8192x1024, .f32⟩
  | .local _ .vmem, ⟨0, _⟩ => ⟨S1024x512, .bf16⟩
  | .local _ .vmem, ⟨1, _⟩ => ⟨S1024x512, .bf16⟩
  | .local _ .vmem, ⟨2, _⟩ => ⟨S512x512, .bf16⟩
  | .local _ .vmem, ⟨3, _⟩ => ⟨S512x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | _, _ => ⟨S8192x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨4, ![1, 8, 2, 3], ![false, false, false, false]⟩

def k0_cond3 (i : grid0.Coords) : BitVec 1 :=
  let arg3 : BitVec 32 := BitVec.ofNat 32 (i 3).val
  let c2_i32 : BitVec 32 := 2#32
  let v11 : BitVec 1 := Scalar.cmpi .eq arg3 c2_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true, false]
-- ==== ReferenceOutIdeal.lean ====
abbrev S8192x1536 : Shape := ⟨2, ![8192, 1536]⟩
abbrev S1536x1024 : Shape := ⟨2, ![1536, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1536, .f32⟩
  | .hbm, ⟨1, _⟩ => ⟨S1536x1024, .f32⟩
  | .hbm, ⟨2, _⟩ => ⟨S8192x1024, .f32⟩
  | .hbm, ⟨3, _⟩ => ⟨S8192x1024, .f32⟩
  | .hbm, ⟨4, _⟩ => ⟨S8192x1024, .f32⟩
  | _, _ => ⟨S8192x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== KernelInDx.lean ====
abbrev S8192x1536 : Shape := ⟨2, ![8192, 1536]⟩
abbrev S1024x1536 : Shape := ⟨2, ![1024, 1536]⟩
abbrev S8192x1024 : Shape := ⟨2, ![8192, 1024]⟩
abbrev S1024x512 : Shape := ⟨2, ![1024, 512]⟩
abbrev S512x512 : Shape := ⟨2, ![512, 512]⟩

abbrev nBuf : Space → Nat
  | .hbm => 4
  | .vmem => 7
  | .smem => 0
  | _ => 0

abbrev bufTy : (tb : Table) → Fin (tcTables nBuf tb) → BufTy
  | .hbm, ⟨0, _⟩ => ⟨S8192x1536, .f32⟩
  | .hbm, ⟨1, _⟩ => ⟨S1024x1536, .f32⟩
  | .hbm, ⟨2, _⟩ => ⟨S1024x1536, .bf16⟩
  | .hbm, ⟨3, _⟩ => ⟨S8192x1024, .f32⟩
  | .local _ .vmem, ⟨0, _⟩ => ⟨S1024x512, .f32⟩
  | .local _ .vmem, ⟨1, _⟩ => ⟨S1024x512, .f32⟩
  | .local _ .vmem, ⟨2, _⟩ => ⟨S512x512, .bf16⟩
  | .local _ .vmem, ⟨3, _⟩ => ⟨S512x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S8192x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 8, 2, 3], ![false, false, false, false]⟩

def k0_cond3 (i : grid0.Coords) : BitVec 1 :=
  let arg3 : BitVec 32 := BitVec.ofNat 32 (i 3).val
  let c2_i32 : BitVec 32 := 2#32
  let v11 : BitVec 1 := Scalar.cmpi .eq arg3 c2_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== KernelInDxIdeal.lean ====
abbrev S8192x1536 : Shape := ⟨2, ![8192, 1536]⟩
abbrev S1024x1536 : Shape := ⟨2, ![1024, 1536]⟩
abbrev S8192x1024 : Shape := ⟨2, ![8192, 1024]⟩
abbrev S1024x512 : Shape := ⟨2, ![1024, 512]⟩
abbrev S512x512 : Shape := ⟨2, ![512, 512]⟩

abbrev nBuf : Space → Nat
  | .hbm => 4
  | .vmem => 7
  | .smem => 0
  | _ => 0

abbrev bufTy : (tb : Table) → Fin (tcTables nBuf tb) → BufTy
  | .hbm, ⟨0, _⟩ => ⟨S8192x1536, .f32⟩
  | .hbm, ⟨1, _⟩ => ⟨S1024x1536, .f32⟩
  | .hbm, ⟨2, _⟩ => ⟨S1024x1536, .bf16⟩
  | .hbm, ⟨3, _⟩ => ⟨S8192x1024, .f32⟩
  | .local _ .vmem, ⟨0, _⟩ => ⟨S1024x512, .f32⟩
  | .local _ .vmem, ⟨1, _⟩ => ⟨S1024x512, .f32⟩
  | .local _ .vmem, ⟨2, _⟩ => ⟨S512x512, .bf16⟩
  | .local _ .vmem, ⟨3, _⟩ => ⟨S512x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S8192x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 8, 2, 3], ![false, false, false, false]⟩

def k0_cond3 (i : grid0.Coords) : BitVec 1 :=
  let arg3 : BitVec 32 := BitVec.ofNat 32 (i 3).val
  let c2_i32 : BitVec 32 := 2#32
  let v11 : BitVec 1 := Scalar.cmpi .eq arg3 c2_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== ReferenceInDxIdeal.lean ====
abbrev S8192x1536 : Shape := ⟨2, ![8192, 1536]⟩
abbrev S1024x1536 : Shape := ⟨2, ![1024, 1536]⟩
abbrev S_ : Shape := ⟨0, ![]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1536, .f32⟩
  | .hbm, ⟨1, _⟩ => ⟨S1024x1536, .f32⟩
  | .hbm, ⟨2, _⟩ => ⟨S_, .f32⟩
  | .hbm, ⟨3, _⟩ => ⟨S8192x1024, .f32⟩
  | .hbm, ⟨4, _⟩ => ⟨S8192x1536, .f32⟩
  | .hbm, ⟨5, _⟩ => ⟨S8192x1024, .f32⟩
  | _, _ => ⟨S8192x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== KernelInDw.lean ====
abbrev S8192x1024 : Shape := ⟨2, ![8192, 1024]⟩
abbrev S8192x1536 : Shape := ⟨2, ![8192, 1536]⟩
abbrev S1024x1536 : Shape := ⟨2, ![1024, 1536]⟩
abbrev S2048x1024 : Shape := ⟨2, ![2048, 1024]⟩
abbrev S2048x512 : Shape := ⟨2, ![2048, 512]⟩
abbrev S1024x512 : Shape := ⟨2, ![1024, 512]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x1536, .f32⟩
  | .hbm, ⟨2, _⟩ => ⟨S8192x1024, .bf16⟩
  | .hbm, ⟨3, _⟩ => ⟨S1024x1536, .f32⟩
  | .local _ .vmem, ⟨0, _⟩ => ⟨S2048x1024, .bf16⟩
  | .local _ .vmem, ⟨1, _⟩ => ⟨S2048x1024, .bf16⟩
  | .local _ .vmem, ⟨2, _⟩ => ⟨S2048x512, .f32⟩
  | .local _ .vmem, ⟨3, _⟩ => ⟨S2048x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 1, 3, 4], ![false, false, false, false]⟩

def k0_cond3 (i : grid0.Coords) : BitVec 1 :=
  let arg3 : BitVec 32 := BitVec.ofNat 32 (i 3).val
  let c3_i32 : BitVec 32 := 3#32
  let v11 : BitVec 1 := Scalar.cmpi .eq arg3 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== KernelInDwIdeal.lean ====
abbrev S8192x1024 : Shape := ⟨2, ![8192, 1024]⟩
abbrev S8192x1536 : Shape := ⟨2, ![8192, 1536]⟩
abbrev S1024x1536 : Shape := ⟨2, ![1024, 1536]⟩
abbrev S2048x1024 : Shape := ⟨2, ![2048, 1024]⟩
abbrev S2048x512 : Shape := ⟨2, ![2048, 512]⟩
abbrev S1024x512 : Shape := ⟨2, ![1024, 512]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x1536, .f32⟩
  | .hbm, ⟨2, _⟩ => ⟨S8192x1024, .bf16⟩
  | .hbm, ⟨3, _⟩ => ⟨S1024x1536, .f32⟩
  | .local _ .vmem, ⟨0, _⟩ => ⟨S2048x1024, .bf16⟩
  | .local _ .vmem, ⟨1, _⟩ => ⟨S2048x1024, .bf16⟩
  | .local _ .vmem, ⟨2, _⟩ => ⟨S2048x512, .f32⟩
  | .local _ .vmem, ⟨3, _⟩ => ⟨S2048x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 1, 3, 4], ![false, false, false, false]⟩

def k0_cond3 (i : grid0.Coords) : BitVec 1 :=
  let arg3 : BitVec 32 := BitVec.ofNat 32 (i 3).val
  let c3_i32 : BitVec 32 := 3#32
  let v11 : BitVec 1 := Scalar.cmpi .eq arg3 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== ReferenceInDwIdeal.lean ====
abbrev S8192x1024 : Shape := ⟨2, ![8192, 1024]⟩
abbrev S8192x1536 : Shape := ⟨2, ![8192, 1536]⟩
abbrev S_ : Shape := ⟨0, ![]⟩
abbrev S1024x1536 : Shape := ⟨2, ![1024, 1536]⟩
abbrev S1536x1024 : Shape := ⟨2, ![1536, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1536, .f32⟩
  | .hbm, ⟨2, _⟩ => ⟨S_, .f32⟩
  | .hbm, ⟨3, _⟩ => ⟨S1024x1536, .f32⟩
  | .hbm, ⟨4, _⟩ => ⟨S8192x1536, .f32⟩
  | .hbm, ⟨5, _⟩ => ⟨S1536x1024, .f32⟩
  | .hbm, ⟨6, _⟩ => ⟨S1024x1536, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelIn.lean ====
abbrev S8192x1024 : Shape := ⟨2, ![8192, 1024]⟩
abbrev S1024x1536 : Shape := ⟨2, ![1024, 1536]⟩
abbrev S8192x1536 : Shape := ⟨2, ![8192, 1536]⟩
abbrev S1024x1024 : Shape := ⟨2, ![1024, 1024]⟩
abbrev S1024x512 : Shape := ⟨2, ![1024, 512]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x1536, .f32⟩
  | .hbm, ⟨2, _⟩ => ⟨S8192x1024, .bf16⟩
  | .hbm, ⟨3, _⟩ => ⟨S1024x1536, .bf16⟩
  | .hbm, ⟨4, _⟩ => ⟨S8192x1536, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 8, 3, 1], ![false, false, false, false]⟩

def k0_cond3 (i : grid0.Coords) : BitVec 1 :=
  let arg3 : BitVec 32 := BitVec.ofNat 32 (i 3).val
  let c0_i32_6 : BitVec 32 := 0#32
  let v11 : BitVec 1 := Scalar.cmpi .eq arg3 c0_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== KernelInIdeal.lean ====
abbrev S8192x1024 : Shape := ⟨2, ![8192, 1024]⟩
abbrev S1024x1536 : Shape := ⟨2, ![1024, 1536]⟩
abbrev S8192x1536 : Shape := ⟨2, ![8192, 1536]⟩
abbrev S1024x1024 : Shape := ⟨2, ![1024, 1024]⟩
abbrev S1024x512 : Shape := ⟨2, ![1024, 512]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x1536, .f32⟩
  | .hbm, ⟨2, _⟩ => ⟨S8192x1024, .bf16⟩
  | .hbm, ⟨3, _⟩ => ⟨S1024x1536, .bf16⟩
  | .hbm, ⟨4, _⟩ => ⟨S8192x1536, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 8, 3, 1], ![false, false, false, false]⟩

def k0_cond3 (i : grid0.Coords) : BitVec 1 :=
  let arg3 : BitVec 32 := BitVec.ofNat 32 (i 3).val
  let c0_i32_6 : BitVec 32 := 0#32
  let v11 : BitVec 1 := Scalar.cmpi .eq arg3 c0_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== ReferenceInIdeal.lean ====
abbrev S8192x1024 : Shape := ⟨2, ![8192, 1024]⟩
abbrev S1024x1536 : Shape := ⟨2, ![1024, 1536]⟩
abbrev S8192x1536 : Shape := ⟨2, ![8192, 1536]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1536, .f32⟩
  | .hbm, ⟨2, _⟩ => ⟨S8192x1536, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== KernelUqDx.lean ====
abbrev S8192x1024 : Shape := ⟨2, ![8192, 1024]⟩
abbrev S256x1024 : Shape := ⟨2, ![256, 1024]⟩
abbrev S8192x256 : Shape := ⟨2, ![8192, 256]⟩
abbrev S1024x1024 : Shape := ⟨2, ![1024, 1024]⟩
abbrev S1024x256 : Shape := ⟨2, ![1024, 256]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S256x1024, .f32⟩
  | .hbm, ⟨2, _⟩ => ⟨S8192x1024, .bf16⟩
  | .hbm, ⟨3, _⟩ => ⟨S256x1024, .bf16⟩
  | .hbm, ⟨4, _⟩ => ⟨S8192x256, .f32⟩
  | .local _ .vmem, ⟨0, _⟩ => ⟨S1024x1024, .bf16⟩
  | .local _ .vmem, ⟨1, _⟩ => ⟨S1024x1024, .bf16⟩
  | .local _ .vmem, ⟨2, _⟩ => ⟨S256x1024, .bf16⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![1, 8, 1, 1], ![false, false, false, false]⟩

def k0_cond3 (i : grid0.Coords) : BitVec 1 :=
  let arg3 : BitVec 32 := BitVec.ofNat 32 (i 3).val
  let c0_i32_6 : BitVec 32 := 0#32
  let v11 : BitVec 1 := Scalar.cmpi .eq arg3 c0_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== KernelUqDxIdeal.lean ====
abbrev S8192x1024 : Shape := ⟨2, ![8192, 1024]⟩
abbrev S256x1024 : Shape := ⟨2, ![256, 1024]⟩
abbrev S8192x256 : Shape := ⟨2, ![8192, 256]⟩
abbrev S1024x1024 : Shape := ⟨2, ![1024, 1024]⟩
abbrev S1024x256 : Shape := ⟨2, ![1024, 256]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S256x1024, .f32⟩
  | .hbm, ⟨2, _⟩ => ⟨S8192x1024, .bf16⟩
  | .hbm, ⟨3, _⟩ => ⟨S256x1024, .bf16⟩
  | .hbm, ⟨4, _⟩ => ⟨S8192x256, .f32⟩
  | .local _ .vmem, ⟨0, _⟩ => ⟨S1024x1024, .bf16⟩
  | .local _ .vmem, ⟨1, _⟩ => ⟨S1024x1024, .bf16⟩
  | .local _ .vmem, ⟨2, _⟩ => ⟨S256x1024, .bf16⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![1, 8, 1, 1], ![false, false, false, false]⟩

def k0_cond3 (i : grid0.Coords) : BitVec 1 :=
  let arg3 : BitVec 32 := BitVec.ofNat 32 (i 3).val
  let c0_i32_6 : BitVec 32 := 0#32
  let v11 : BitVec 1 := Scalar.cmpi .eq arg3 c0_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== ReferenceUqDxIdeal.lean ====
abbrev S8192x1024 : Shape := ⟨2, ![8192, 1024]⟩
abbrev S256x1024 : Shape := ⟨2, ![256, 1024]⟩
abbrev S_ : Shape := ⟨0, ![]⟩
abbrev S8192x256 : Shape := ⟨2, ![8192, 256]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S256x1024, .f32⟩
  | .hbm, ⟨2, _⟩ => ⟨S_, .f32⟩
  | .hbm, ⟨3, _⟩ => ⟨S8192x256, .f32⟩
  | .hbm, ⟨4, _⟩ => ⟨S8192x1024, .f32⟩
  | .hbm, ⟨5, _⟩ => ⟨S8192x256, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== KernelUqDw.lean ====
abbrev S8192x256 : Shape := ⟨2, ![8192, 256]⟩
abbrev S8192x1024 : Shape := ⟨2, ![8192, 1024]⟩
abbrev S256x1024 : Shape := ⟨2, ![256, 1024]⟩
abbrev S2048x256 : Shape := ⟨2, ![2048, 256]⟩
abbrev S2048x512 : Shape := ⟨2, ![2048, 512]⟩
abbrev S256x512 : Shape := ⟨2, ![256, 512]⟩

abbrev nBuf : Space → Nat
  | .hbm => 5
  | .vmem => 7
  | .smem => 0
  | _ => 0

abbrev bufTy : (tb : Table) → Fin (tcTables nBuf tb) → BufTy
  | .hbm, ⟨0, _⟩ => ⟨S8192x256, .f32⟩
  | .hbm, ⟨1, _⟩ => ⟨S8192x1024, .f32⟩
  | .hbm, ⟨2, _⟩ => ⟨S8192x256, .bf16⟩
  | .hbm, ⟨3, _⟩ => ⟨S8192x1024, .bf16⟩
  | .hbm, ⟨4, _⟩ => ⟨S256x1024, .f32⟩
  | .local _ .vmem, ⟨0, _⟩ => ⟨S2048x256, .bf16⟩
  | .local _ .vmem, ⟨1, _⟩ => ⟨S2048x256, .bf16⟩
  | .local _ .vmem, ⟨2, _⟩ => ⟨S2048x512, .bf16⟩
  | .local _ .vmem, ⟨3, _⟩ => ⟨S2048x512, .bf16⟩
  | .local _ .vmem, ⟨4, _⟩ => ⟨S256x512, .f32⟩
  | .local _ .vmem, ⟨5, _⟩ => ⟨S256x512, .f32⟩
  | .local _ .vmem, ⟨6, _⟩ => ⟨S256x512, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 1, 2, 4], ![false, false, false, false]⟩

def k0_cond3 (i : grid0.Coords) : BitVec 1 :=
  let arg3 : BitVec 32 := BitVec.ofNat 32 (i 3).val
  let c3_i32 : BitVec 32 := 3#32
  let v11 : BitVec 1 := Scalar.cmpi .eq arg3 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== KernelUqDwIdeal.lean ====
abbrev S8192x256 : Shape := ⟨2, ![8192, 256]⟩
abbrev S8192x1024 : Shape := ⟨2, ![8192, 1024]⟩
abbrev S256x1024 : Shape := ⟨2, ![256, 1024]⟩
abbrev S2048x256 : Shape := ⟨2, ![2048, 256]⟩
abbrev S2048x512 : Shape := ⟨2, ![2048, 512]⟩
abbrev S256x512 : Shape := ⟨2, ![256, 512]⟩

abbrev nBuf : Space → Nat
  | .hbm => 5
  | .vmem => 7
  | .smem => 0
  | _ => 0

abbrev bufTy : (tb : Table) → Fin (tcTables nBuf tb) → BufTy
  | .hbm, ⟨0, _⟩ => ⟨S8192x256, .f32⟩
  | .hbm, ⟨1, _⟩ => ⟨S8192x1024, .f32⟩
  | .hbm, ⟨2, _⟩ => ⟨S8192x256, .bf16⟩
  | .hbm, ⟨3, _⟩ => ⟨S8192x1024, .bf16⟩
  | .hbm, ⟨4, _⟩ => ⟨S256x1024, .f32⟩
  | .local _ .vmem, ⟨0, _⟩ => ⟨S2048x256, .bf16⟩
  | .local _ .vmem, ⟨1, _⟩ => ⟨S2048x256, .bf16⟩
  | .local _ .vmem, ⟨2, _⟩ => ⟨S2048x512, .bf16⟩
  | .local _ .vmem, ⟨3, _⟩ => ⟨S2048x512, .bf16⟩
  | .local _ .vmem, ⟨4, _⟩ => ⟨S256x512, .f32⟩
  | .local _ .vmem, ⟨5, _⟩ => ⟨S256x512, .f32⟩
  | .local _ .vmem, ⟨6, _⟩ => ⟨S256x512, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 1, 2, 4], ![false, false, false, false]⟩

def k0_cond3 (i : grid0.Coords) : BitVec 1 :=
  let arg3 : BitVec 32 := BitVec.ofNat 32 (i 3).val
  let c3_i32 : BitVec 32 := 3#32
  let v11 : BitVec 1 := Scalar.cmpi .eq arg3 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== ReferenceUqDwIdeal.lean ====
abbrev S8192x256 : Shape := ⟨2, ![8192, 256]⟩
abbrev S8192x1024 : Shape := ⟨2, ![8192, 1024]⟩
abbrev S_ : Shape := ⟨0, ![]⟩
abbrev S256x1024 : Shape := ⟨2, ![256, 1024]⟩
abbrev S1024x256 : Shape := ⟨2, ![1024, 256]⟩

abbrev nBuf : Space → Nat
  | .hbm => 7
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x1024, .f32⟩
  | .hbm, ⟨2, _⟩ => ⟨S_, .f32⟩
  | .hbm, ⟨3, _⟩ => ⟨S256x1024, .f32⟩
  | .hbm, ⟨4, _⟩ => ⟨S8192x1024, .f32⟩
  | .hbm, ⟨5, _⟩ => ⟨S1024x256, .f32⟩
  | .hbm, ⟨6, _⟩ => ⟨S256x1024, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelUq.lean ====
abbrev S8192x256 : Shape := ⟨2, ![8192, 256]⟩
abbrev S256x1024 : Shape := ⟨2, ![256, 1024]⟩
abbrev S8192x1024 : Shape := ⟨2, ![8192, 1024]⟩
abbrev S1024x256 : Shape := ⟨2, ![1024, 256]⟩
abbrev S256x512 : Shape := ⟨2, ![256, 512]⟩
abbrev S1024x512 : Shape := ⟨2, ![1024, 512]⟩

abbrev nBuf : Space → Nat
  | .hbm => 5
  | .vmem => 7
  | .smem => 0
  | _ => 0

abbrev bufTy : (tb : Table) → Fin (tcTables nBuf tb) → BufTy
  | .hbm, ⟨0, _⟩ => ⟨S8192x256, .f32⟩
  | .hbm, ⟨1, _⟩ => ⟨S256x1024, .f32⟩
  | .hbm, ⟨2, _⟩ => ⟨S8192x256, .bf16⟩
  | .hbm, ⟨3, _⟩ => ⟨S256x1024, .bf16⟩
  | .hbm, ⟨4, _⟩ => ⟨S8192x1024, .f32⟩
  | .local _ .vmem, ⟨0, _⟩ => ⟨S1024x256, .bf16⟩
  | .local _ .vmem, ⟨1, _⟩ => ⟨S1024x256, .bf16⟩
  | .local _ .vmem, ⟨2, _⟩ => ⟨S256x512, .bf16⟩
  | .local _ .vmem, ⟨3, _⟩ => ⟨S256x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 8, 2, 1], ![false, false, false, false]⟩

def k0_cond3 (i : grid0.Coords) : BitVec 1 :=
  let arg3 : BitVec 32 := BitVec.ofNat 32 (i 3).val
  let c0_i32_6 : BitVec 32 := 0#32
  let v11 : BitVec 1 := Scalar.cmpi .eq arg3 c0_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== KernelUqIdeal.lean ====
abbrev S8192x256 : Shape := ⟨2, ![8192, 256]⟩
abbrev S256x1024 : Shape := ⟨2, ![256, 1024]⟩
abbrev S8192x1024 : Shape := ⟨2, ![8192, 1024]⟩
abbrev S1024x256 : Shape := ⟨2, ![1024, 256]⟩
abbrev S256x512 : Shape := ⟨2, ![256, 512]⟩
abbrev S1024x512 : Shape := ⟨2, ![1024, 512]⟩

abbrev nBuf : Space → Nat
  | .hbm => 5
  | .vmem => 7
  | .smem => 0
  | _ => 0

abbrev bufTy : (tb : Table) → Fin (tcTables nBuf tb) → BufTy
  | .hbm, ⟨0, _⟩ => ⟨S8192x256, .f32⟩
  | .hbm, ⟨1, _⟩ => ⟨S256x1024, .f32⟩
  | .hbm, ⟨2, _⟩ => ⟨S8192x256, .bf16⟩
  | .hbm, ⟨3, _⟩ => ⟨S256x1024, .bf16⟩
  | .hbm, ⟨4, _⟩ => ⟨S8192x1024, .f32⟩
  | .local _ .vmem, ⟨0, _⟩ => ⟨S1024x256, .bf16⟩
  | .local _ .vmem, ⟨1, _⟩ => ⟨S1024x256, .bf16⟩
  | .local _ .vmem, ⟨2, _⟩ => ⟨S256x512, .bf16⟩
  | .local _ .vmem, ⟨3, _⟩ => ⟨S256x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 8, 2, 1], ![false, false, false, false]⟩

def k0_cond3 (i : grid0.Coords) : BitVec 1 :=
  let arg3 : BitVec 32 := BitVec.ofNat 32 (i 3).val
  let c0_i32_6 : BitVec 32 := 0#32
  let v11 : BitVec 1 := Scalar.cmpi .eq arg3 c0_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== ReferenceUqIdeal.lean ====
abbrev S8192x256 : Shape := ⟨2, ![8192, 256]⟩
abbrev S256x1024 : Shape := ⟨2, ![256, 1024]⟩
abbrev S8192x1024 : Shape := ⟨2, ![8192, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S256x1024, .f32⟩
  | .hbm, ⟨2, _⟩ => ⟨S8192x1024, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== KernelUkvDx.lean ====
abbrev S8192x2048 : Shape := ⟨2, ![8192, 2048]⟩
abbrev S128x2048 : Shape := ⟨2, ![128, 2048]⟩
abbrev S8192x128 : Shape := ⟨2, ![8192, 128]⟩
abbrev S1024x1024 : Shape := ⟨2, ![1024, 1024]⟩
abbrev S128x1024 : Shape := ⟨2, ![128, 1024]⟩
abbrev S1024x128 : Shape := ⟨2, ![1024, 128]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S128x2048, .f32⟩
  | .hbm, ⟨2, _⟩ => ⟨S8192x2048, .bf16⟩
  | .hbm, ⟨3, _⟩ => ⟨S128x2048, .bf16⟩
  | .hbm, ⟨4, _⟩ => ⟨S8192x128, .f32⟩
  | .local _ .vmem, ⟨0, _⟩ => ⟨S1024x1024, .bf16⟩
  | .local _ .vmem, ⟨1, _⟩ => ⟨S1024x1024, .bf16⟩
  | .local _ .vmem, ⟨2, _⟩ => ⟨S128x1024, .bf16⟩
  | .local _ .vmem, ⟨3, _⟩ => ⟨S128x1024, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 8, 1, 2], ![false, false, false, false]⟩

def k0_cond3 (i : grid0.Coords) : BitVec 1 :=
  let arg3 : BitVec 32 := BitVec.ofNat 32 (i 3).val
  let c1_i32 : BitVec 32 := 1#32
  let v11 : BitVec 1 := Scalar.cmpi .eq arg3 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== KernelUkvDxIdeal.lean ====
abbrev S8192x2048 : Shape := ⟨2, ![8192, 2048]⟩
abbrev S128x2048 : Shape := ⟨2, ![128, 2048]⟩
abbrev S8192x128 : Shape := ⟨2, ![8192, 128]⟩
abbrev S1024x1024 : Shape := ⟨2, ![1024, 1024]⟩
abbrev S128x1024 : Shape := ⟨2, ![128, 1024]⟩
abbrev S1024x128 : Shape := ⟨2, ![1024, 128]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S128x2048, .f32⟩
  | .hbm, ⟨2, _⟩ => ⟨S8192x2048, .bf16⟩
  | .hbm, ⟨3, _⟩ => ⟨S128x2048, .bf16⟩
  | .hbm, ⟨4, _⟩ => ⟨S8192x128, .f32⟩
  | .local _ .vmem, ⟨0, _⟩ => ⟨S1024x1024, .bf16⟩
  | .local _ .vmem, ⟨1, _⟩ => ⟨S1024x1024, .bf16⟩
  | .local _ .vmem, ⟨2, _⟩ => ⟨S128x1024, .bf16⟩
  | .local _ .vmem, ⟨3, _⟩ => ⟨S128x1024, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 8, 1, 2], ![false, false, false, false]⟩

def k0_cond3 (i : grid0.Coords) : BitVec 1 :=
  let arg3 : BitVec 32 := BitVec.ofNat 32 (i 3).val
  let c1_i32 : BitVec 32 := 1#32
  let v11 : BitVec 1 := Scalar.cmpi .eq arg3 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== ReferenceUkvDxIdeal.lean ====
abbrev S8192x2048 : Shape := ⟨2, ![8192, 2048]⟩
abbrev S128x2048 : Shape := ⟨2, ![128, 2048]⟩
abbrev S_ : Shape := ⟨0, ![]⟩
abbrev S8192x128 : Shape := ⟨2, ![8192, 128]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S128x2048, .f32⟩
  | .hbm, ⟨2, _⟩ => ⟨S_, .f32⟩
  | .hbm, ⟨3, _⟩ => ⟨S8192x128, .f32⟩
  | .hbm, ⟨4, _⟩ => ⟨S8192x2048, .f32⟩
  | .hbm, ⟨5, _⟩ => ⟨S8192x128, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== KernelUkvDw.lean ====
abbrev S8192x128 : Shape := ⟨2, ![8192, 128]⟩
abbrev S8192x2048 : Shape := ⟨2, ![8192, 2048]⟩
abbrev S128x2048 : Shape := ⟨2, ![128, 2048]⟩
abbrev S2048x128 : Shape := ⟨2, ![2048, 128]⟩
abbrev S2048x512 : Shape := ⟨2, ![2048, 512]⟩
abbrev S128x512 : Shape := ⟨2, ![128, 512]⟩

abbrev nBuf : Space → Nat
  | .hbm => 5
  | .vmem => 7
  | .smem => 0
  | _ => 0

abbrev bufTy : (tb : Table) → Fin (tcTables nBuf tb) → BufTy
  | .hbm, ⟨0, _⟩ => ⟨S8192x128, .f32⟩
  | .hbm, ⟨1, _⟩ => ⟨S8192x2048, .f32⟩
  | .hbm, ⟨2, _⟩ => ⟨S8192x128, .bf16⟩
  | .hbm, ⟨3, _⟩ => ⟨S8192x2048, .bf16⟩
  | .hbm, ⟨4, _⟩ => ⟨S128x2048, .f32⟩
  | .local _ .vmem, ⟨0, _⟩ => ⟨S2048x128, .bf16⟩
  | .local _ .vmem, ⟨1, _⟩ => ⟨S2048x128, .bf16⟩
  | .local _ .vmem, ⟨2, _⟩ => ⟨S2048x512, .bf16⟩
  | .local _ .vmem, ⟨3, _⟩ => ⟨S2048x512, .bf16⟩
  | .local _ .vmem, ⟨4, _⟩ => ⟨S128x512, .f32⟩
  | .local _ .vmem, ⟨5, _⟩ => ⟨S128x512, .f32⟩
  | .local _ .vmem, ⟨6, _⟩ => ⟨S128x512, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 1, 4, 4], ![false, false, false, false]⟩

def k0_cond3 (i : grid0.Coords) : BitVec 1 :=
  let arg3 : BitVec 32 := BitVec.ofNat 32 (i 3).val
  let c3_i32 : BitVec 32 := 3#32
  let v11 : BitVec 1 := Scalar.cmpi .eq arg3 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== KernelUkvDwIdeal.lean ====
abbrev S8192x128 : Shape := ⟨2, ![8192, 128]⟩
abbrev S8192x2048 : Shape := ⟨2, ![8192, 2048]⟩
abbrev S128x2048 : Shape := ⟨2, ![128, 2048]⟩
abbrev S2048x128 : Shape := ⟨2, ![2048, 128]⟩
abbrev S2048x512 : Shape := ⟨2, ![2048, 512]⟩
abbrev S128x512 : Shape := ⟨2, ![128, 512]⟩

abbrev nBuf : Space → Nat
  | .hbm => 5
  | .vmem => 7
  | .smem => 0
  | _ => 0

abbrev bufTy : (tb : Table) → Fin (tcTables nBuf tb) → BufTy
  | .hbm, ⟨0, _⟩ => ⟨S8192x128, .f32⟩
  | .hbm, ⟨1, _⟩ => ⟨S8192x2048, .f32⟩
  | .hbm, ⟨2, _⟩ => ⟨S8192x128, .bf16⟩
  | .hbm, ⟨3, _⟩ => ⟨S8192x2048, .bf16⟩
  | .hbm, ⟨4, _⟩ => ⟨S128x2048, .f32⟩
  | .local _ .vmem, ⟨0, _⟩ => ⟨S2048x128, .bf16⟩
  | .local _ .vmem, ⟨1, _⟩ => ⟨S2048x128, .bf16⟩
  | .local _ .vmem, ⟨2, _⟩ => ⟨S2048x512, .bf16⟩
  | .local _ .vmem, ⟨3, _⟩ => ⟨S2048x512, .bf16⟩
  | .local _ .vmem, ⟨4, _⟩ => ⟨S128x512, .f32⟩
  | .local _ .vmem, ⟨5, _⟩ => ⟨S128x512, .f32⟩
  | .local _ .vmem, ⟨6, _⟩ => ⟨S128x512, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 1, 4, 4], ![false, false, false, false]⟩

def k0_cond3 (i : grid0.Coords) : BitVec 1 :=
  let arg3 : BitVec 32 := BitVec.ofNat 32 (i 3).val
  let c3_i32 : BitVec 32 := 3#32
  let v11 : BitVec 1 := Scalar.cmpi .eq arg3 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== ReferenceUkvDwIdeal.lean ====
abbrev S8192x128 : Shape := ⟨2, ![8192, 128]⟩
abbrev S8192x2048 : Shape := ⟨2, ![8192, 2048]⟩
abbrev S_ : Shape := ⟨0, ![]⟩
abbrev S128x2048 : Shape := ⟨2, ![128, 2048]⟩
abbrev S2048x128 : Shape := ⟨2, ![2048, 128]⟩

abbrev nBuf : Space → Nat
  | .hbm => 7
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x2048, .f32⟩
  | .hbm, ⟨2, _⟩ => ⟨S_, .f32⟩
  | .hbm, ⟨3, _⟩ => ⟨S128x2048, .f32⟩
  | .hbm, ⟨4, _⟩ => ⟨S8192x2048, .f32⟩
  | .hbm, ⟨5, _⟩ => ⟨S2048x128, .f32⟩
  | .hbm, ⟨6, _⟩ => ⟨S128x2048, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelUkv.lean ====
abbrev S8192x128 : Shape := ⟨2, ![8192, 128]⟩
abbrev S128x2048 : Shape := ⟨2, ![128, 2048]⟩
abbrev S8192x2048 : Shape := ⟨2, ![8192, 2048]⟩
abbrev S1024x128 : Shape := ⟨2, ![1024, 128]⟩
abbrev S128x512 : Shape := ⟨2, ![128, 512]⟩
abbrev S1024x512 : Shape := ⟨2, ![1024, 512]⟩

abbrev nBuf : Space → Nat
  | .hbm => 5
  | .vmem => 7
  | .smem => 0
  | _ => 0

abbrev bufTy : (tb : Table) → Fin (tcTables nBuf tb) → BufTy
  | .hbm, ⟨0, _⟩ => ⟨S8192x128, .f32⟩
  | .hbm, ⟨1, _⟩ => ⟨S128x2048, .f32⟩
  | .hbm, ⟨2, _⟩ => ⟨S8192x128, .bf16⟩
  | .hbm, ⟨3, _⟩ => ⟨S128x2048, .bf16⟩
  | .hbm, ⟨4, _⟩ => ⟨S8192x2048, .f32⟩
  | .local _ .vmem, ⟨0, _⟩ => ⟨S1024x128, .bf16⟩
  | .local _ .vmem, ⟨1, _⟩ => ⟨S1024x128, .bf16⟩
  | .local _ .vmem, ⟨2, _⟩ => ⟨S128x512, .bf16⟩
  | .local _ .vmem, ⟨3, _⟩ => ⟨S128x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 8, 4, 1], ![false, false, false, false]⟩

def k0_cond3 (i : grid0.Coords) : BitVec 1 :=
  let arg3 : BitVec 32 := BitVec.ofNat 32 (i 3).val
  let c0_i32_6 : BitVec 32 := 0#32
  let v11 : BitVec 1 := Scalar.cmpi .eq arg3 c0_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== KernelUkvIdeal.lean ====
abbrev S8192x128 : Shape := ⟨2, ![8192, 128]⟩
abbrev S128x2048 : Shape := ⟨2, ![128, 2048]⟩
abbrev S8192x2048 : Shape := ⟨2, ![8192, 2048]⟩
abbrev S1024x128 : Shape := ⟨2, ![1024, 128]⟩
abbrev S128x512 : Shape := ⟨2, ![128, 512]⟩
abbrev S1024x512 : Shape := ⟨2, ![1024, 512]⟩

abbrev nBuf : Space → Nat
  | .hbm => 5
  | .vmem => 7
  | .smem => 0
  | _ => 0

abbrev bufTy : (tb : Table) → Fin (tcTables nBuf tb) → BufTy
  | .hbm, ⟨0, _⟩ => ⟨S8192x128, .f32⟩
  | .hbm, ⟨1, _⟩ => ⟨S128x2048, .f32⟩
  | .hbm, ⟨2, _⟩ => ⟨S8192x128, .bf16⟩
  | .hbm, ⟨3, _⟩ => ⟨S128x2048, .bf16⟩
  | .hbm, ⟨4, _⟩ => ⟨S8192x2048, .f32⟩
  | .local _ .vmem, ⟨0, _⟩ => ⟨S1024x128, .bf16⟩
  | .local _ .vmem, ⟨1, _⟩ => ⟨S1024x128, .bf16⟩
  | .local _ .vmem, ⟨2, _⟩ => ⟨S128x512, .bf16⟩
  | .local _ .vmem, ⟨3, _⟩ => ⟨S128x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 8, 4, 1], ![false, false, false, false]⟩

def k0_cond3 (i : grid0.Coords) : BitVec 1 :=
  let arg3 : BitVec 32 := BitVec.ofNat 32 (i 3).val
  let c0_i32_6 : BitVec 32 := 0#32
  let v11 : BitVec 1 := Scalar.cmpi .eq arg3 c0_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== ReferenceUkvIdeal.lean ====
abbrev S8192x128 : Shape := ⟨2, ![8192, 128]⟩
abbrev S128x2048 : Shape := ⟨2, ![128, 2048]⟩
abbrev S8192x2048 : Shape := ⟨2, ![8192, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S128x2048, .f32⟩
  | .hbm, ⟨2, _⟩ => ⟨S8192x2048, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== KernelGluDx.lean ====
abbrev S8192x2048 : Shape := ⟨2, ![8192, 2048]⟩
abbrev S512x2048 : Shape := ⟨2, ![512, 2048]⟩
abbrev S8192x512 : Shape := ⟨2, ![8192, 512]⟩
abbrev S1024x1024 : Shape := ⟨2, ![1024, 1024]⟩
abbrev S512x1024 : Shape := ⟨2, ![512, 1024]⟩
abbrev S1024x512 : Shape := ⟨2, ![1024, 512]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S512x2048, .f32⟩
  | .hbm, ⟨2, _⟩ => ⟨S8192x2048, .bf16⟩
  | .hbm, ⟨3, _⟩ => ⟨S512x2048, .bf16⟩
  | .hbm, ⟨4, _⟩ => ⟨S8192x512, .f32⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 8, 1, 2], ![false, false, false, false]⟩

def k0_cond3 (i : grid0.Coords) : BitVec 1 :=
  let arg3 : BitVec 32 := BitVec.ofNat 32 (i 3).val
  let c1_i32 : BitVec 32 := 1#32
  let v11 : BitVec 1 := Scalar.cmpi .eq arg3 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== KernelGluDxIdeal.lean ====
abbrev S8192x2048 : Shape := ⟨2, ![8192, 2048]⟩
abbrev S512x2048 : Shape := ⟨2, ![512, 2048]⟩
abbrev S8192x512 : Shape := ⟨2, ![8192, 512]⟩
abbrev S1024x1024 : Shape := ⟨2, ![1024, 1024]⟩
abbrev S512x1024 : Shape := ⟨2, ![512, 1024]⟩
abbrev S1024x512 : Shape := ⟨2, ![1024, 512]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S512x2048, .f32⟩
  | .hbm, ⟨2, _⟩ => ⟨S8192x2048, .bf16⟩
  | .hbm, ⟨3, _⟩ => ⟨S512x2048, .bf16⟩
  | .hbm, ⟨4, _⟩ => ⟨S8192x512, .f32⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 8, 1, 2], ![false, false, false, false]⟩

def k0_cond3 (i : grid0.Coords) : BitVec 1 :=
  let arg3 : BitVec 32 := BitVec.ofNat 32 (i 3).val
  let c1_i32 : BitVec 32 := 1#32
  let v11 : BitVec 1 := Scalar.cmpi .eq arg3 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== ReferenceGluDxIdeal.lean ====
abbrev S8192x2048 : Shape := ⟨2, ![8192, 2048]⟩
abbrev S512x2048 : Shape := ⟨2, ![512, 2048]⟩
abbrev S_ : Shape := ⟨0, ![]⟩
abbrev S8192x512 : Shape := ⟨2, ![8192, 512]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S512x2048, .f32⟩
  | .hbm, ⟨2, _⟩ => ⟨S_, .f32⟩
  | .hbm, ⟨3, _⟩ => ⟨S8192x512, .f32⟩
  | .hbm, ⟨4, _⟩ => ⟨S8192x2048, .f32⟩
  | .hbm, ⟨5, _⟩ => ⟨S8192x512, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== KernelGluDw.lean ====
abbrev S8192x512 : Shape := ⟨2, ![8192, 512]⟩
abbrev S8192x2048 : Shape := ⟨2, ![8192, 2048]⟩
abbrev S512x2048 : Shape := ⟨2, ![512, 2048]⟩
abbrev S2048x512 : Shape := ⟨2, ![2048, 512]⟩
abbrev S512x512 : Shape := ⟨2, ![512, 512]⟩

abbrev nBuf : Space → Nat
  | .hbm => 5
  | .vmem => 7
  | .smem => 0
  | _ => 0

abbrev bufTy : (tb : Table) → Fin (tcTables nBuf tb) → BufTy
  | .hbm, ⟨0, _⟩ => ⟨S8192x512, .f32⟩
  | .hbm, ⟨1, _⟩ => ⟨S8192x2048, .f32⟩
  | .hbm, ⟨2, _⟩ => ⟨S8192x512, .bf16⟩
  | .hbm, ⟨3, _⟩ => ⟨S8192x2048, .bf16⟩
  | .hbm, ⟨4, _⟩ => ⟨S512x2048, .f32⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 1, 4, 4], ![false, false, false, false]⟩

def k0_cond3 (i : grid0.Coords) : BitVec 1 :=
  let arg3 : BitVec 32 := BitVec.ofNat 32 (i 3).val
  let c3_i32 : BitVec 32 := 3#32
  let v11 : BitVec 1 := Scalar.cmpi .eq arg3 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== KernelGluDwIdeal.lean ====
abbrev S8192x512 : Shape := ⟨2, ![8192, 512]⟩
abbrev S8192x2048 : Shape := ⟨2, ![8192, 2048]⟩
abbrev S512x2048 : Shape := ⟨2, ![512, 2048]⟩
abbrev S2048x512 : Shape := ⟨2, ![2048, 512]⟩
abbrev S512x512 : Shape := ⟨2, ![512, 512]⟩

abbrev nBuf : Space → Nat
  | .hbm => 5
  | .vmem => 7
  | .smem => 0
  | _ => 0

abbrev bufTy : (tb : Table) → Fin (tcTables nBuf tb) → BufTy
  | .hbm, ⟨0, _⟩ => ⟨S8192x512, .f32⟩
  | .hbm, ⟨1, _⟩ => ⟨S8192x2048, .f32⟩
  | .hbm, ⟨2, _⟩ => ⟨S8192x512, .bf16⟩
  | .hbm, ⟨3, _⟩ => ⟨S8192x2048, .bf16⟩
  | .hbm, ⟨4, _⟩ => ⟨S512x2048, .f32⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 1, 4, 4], ![false, false, false, false]⟩

def k0_cond3 (i : grid0.Coords) : BitVec 1 :=
  let arg3 : BitVec 32 := BitVec.ofNat 32 (i 3).val
  let c3_i32 : BitVec 32 := 3#32
  let v11 : BitVec 1 := Scalar.cmpi .eq arg3 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== ReferenceGluDwIdeal.lean ====
abbrev S8192x512 : Shape := ⟨2, ![8192, 512]⟩
abbrev S8192x2048 : Shape := ⟨2, ![8192, 2048]⟩
abbrev S_ : Shape := ⟨0, ![]⟩
abbrev S512x2048 : Shape := ⟨2, ![512, 2048]⟩
abbrev S2048x512 : Shape := ⟨2, ![2048, 512]⟩

abbrev nBuf : Space → Nat
  | .hbm => 7
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x2048, .f32⟩
  | .hbm, ⟨2, _⟩ => ⟨S_, .f32⟩
  | .hbm, ⟨3, _⟩ => ⟨S512x2048, .f32⟩
  | .hbm, ⟨4, _⟩ => ⟨S8192x2048, .f32⟩
  | .hbm, ⟨5, _⟩ => ⟨S2048x512, .f32⟩
  | .hbm, ⟨6, _⟩ => ⟨S512x2048, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelGlu.lean ====
abbrev S8192x512 : Shape := ⟨2, ![8192, 512]⟩
abbrev S512x2048 : Shape := ⟨2, ![512, 2048]⟩
abbrev S8192x2048 : Shape := ⟨2, ![8192, 2048]⟩
abbrev S1024x512 : Shape := ⟨2, ![1024, 512]⟩
abbrev S512x512 : Shape := ⟨2, ![512, 512]⟩

abbrev nBuf : Space → Nat
  | .hbm => 5
  | .vmem => 7
  | .smem => 0
  | _ => 0

abbrev bufTy : (tb : Table) → Fin (tcTables nBuf tb) → BufTy
  | .hbm, ⟨0, _⟩ => ⟨S8192x512, .f32⟩
  | .hbm, ⟨1, _⟩ => ⟨S512x2048, .f32⟩
  | .hbm, ⟨2, _⟩ => ⟨S8192x512, .bf16⟩
  | .hbm, ⟨3, _⟩ => ⟨S512x2048, .bf16⟩
  | .hbm, ⟨4, _⟩ => ⟨S8192x2048, .f32⟩
  | .local _ .vmem, ⟨0, _⟩ => ⟨S1024x512, .bf16⟩
  | .local _ .vmem, ⟨1, _⟩ => ⟨S1024x512, .bf16⟩
  | .local _ .vmem, ⟨2, _⟩ => ⟨S512x512, .bf16⟩
  | .local _ .vmem, ⟨3, _⟩ => ⟨S512x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 8, 4, 1], ![false, false, false, false]⟩

def k0_cond3 (i : grid0.Coords) : BitVec 1 :=
  let arg3 : BitVec 32 := BitVec.ofNat 32 (i 3).val
  let c0_i32_6 : BitVec 32 := 0#32
  let v11 : BitVec 1 := Scalar.cmpi .eq arg3 c0_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== KernelGluIdeal.lean ====
abbrev S8192x512 : Shape := ⟨2, ![8192, 512]⟩
abbrev S512x2048 : Shape := ⟨2, ![512, 2048]⟩
abbrev S8192x2048 : Shape := ⟨2, ![8192, 2048]⟩
abbrev S1024x512 : Shape := ⟨2, ![1024, 512]⟩
abbrev S512x512 : Shape := ⟨2, ![512, 512]⟩

abbrev nBuf : Space → Nat
  | .hbm => 5
  | .vmem => 7
  | .smem => 0
  | _ => 0

abbrev bufTy : (tb : Table) → Fin (tcTables nBuf tb) → BufTy
  | .hbm, ⟨0, _⟩ => ⟨S8192x512, .f32⟩
  | .hbm, ⟨1, _⟩ => ⟨S512x2048, .f32⟩
  | .hbm, ⟨2, _⟩ => ⟨S8192x512, .bf16⟩
  | .hbm, ⟨3, _⟩ => ⟨S512x2048, .bf16⟩
  | .hbm, ⟨4, _⟩ => ⟨S8192x2048, .f32⟩
  | .local _ .vmem, ⟨0, _⟩ => ⟨S1024x512, .bf16⟩
  | .local _ .vmem, ⟨1, _⟩ => ⟨S1024x512, .bf16⟩
  | .local _ .vmem, ⟨2, _⟩ => ⟨S512x512, .bf16⟩
  | .local _ .vmem, ⟨3, _⟩ => ⟨S512x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 8, 4, 1], ![false, false, false, false]⟩

def k0_cond3 (i : grid0.Coords) : BitVec 1 :=
  let arg3 : BitVec 32 := BitVec.ofNat 32 (i 3).val
  let c0_i32_6 : BitVec 32 := 0#32
  let v11 : BitVec 1 := Scalar.cmpi .eq arg3 c0_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== ReferenceGluIdeal.lean ====
abbrev S8192x512 : Shape := ⟨2, ![8192, 512]⟩
abbrev S512x2048 : Shape := ⟨2, ![512, 2048]⟩
abbrev S8192x2048 : Shape := ⟨2, ![8192, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x2048, .f32⟩
  | .hbm, ⟨2, _⟩ => ⟨S8192x2048, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== KernelScanDx.lean ====
abbrev S8192x512 : Shape := ⟨2, ![8192, 512]⟩
abbrev S1024x512 : Shape := ⟨2, ![1024, 512]⟩
abbrev S8192x1024 : Shape := ⟨2, ![8192, 1024]⟩
abbrev S512x512 : Shape := ⟨2, ![512, 512]⟩

abbrev nBuf : Space → Nat
  | .hbm => 4
  | .vmem => 7
  | .smem => 0
  | _ => 0

abbrev bufTy : (tb : Table) → Fin (tcTables nBuf tb) → BufTy
  | .hbm, ⟨0, _⟩ => ⟨S8192x512, .f32⟩
  | .hbm, ⟨1, _⟩ => ⟨S1024x512, .f32⟩
  | .hbm, ⟨2, _⟩ => ⟨S1024x512, .bf16⟩
  | .hbm, ⟨3, _⟩ => ⟨S8192x1024, .f32⟩
  | .local _ .vmem, ⟨0, _⟩ => ⟨S1024x512, .f32⟩
  | .local _ .vmem, ⟨1, _⟩ => ⟨S1024x512, .f32⟩
  | .local _ .vmem, ⟨2, _⟩ => ⟨S512x512, .bf16⟩
  | .local _ .vmem, ⟨3, _⟩ => ⟨S512x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 8, 2, 1], ![false, false, false, false]⟩

def k0_cond3 (i : grid0.Coords) : BitVec 1 :=
  let arg3 : BitVec 32 := BitVec.ofNat 32 (i 3).val
  let c0_i32_6 : BitVec 32 := 0#32
  let v11 : BitVec 1 := Scalar.cmpi .eq arg3 c0_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== KernelScanDxIdeal.lean ====
abbrev S8192x512 : Shape := ⟨2, ![8192, 512]⟩
abbrev S1024x512 : Shape := ⟨2, ![1024, 512]⟩
abbrev S8192x1024 : Shape := ⟨2, ![8192, 1024]⟩
abbrev S512x512 : Shape := ⟨2, ![512, 512]⟩

abbrev nBuf : Space → Nat
  | .hbm => 4
  | .vmem => 7
  | .smem => 0
  | _ => 0

abbrev bufTy : (tb : Table) → Fin (tcTables nBuf tb) → BufTy
  | .hbm, ⟨0, _⟩ => ⟨S8192x512, .f32⟩
  | .hbm, ⟨1, _⟩ => ⟨S1024x512, .f32⟩
  | .hbm, ⟨2, _⟩ => ⟨S1024x512, .bf16⟩
  | .hbm, ⟨3, _⟩ => ⟨S8192x1024, .f32⟩
  | .local _ .vmem, ⟨0, _⟩ => ⟨S1024x512, .f32⟩
  | .local _ .vmem, ⟨1, _⟩ => ⟨S1024x512, .f32⟩
  | .local _ .vmem, ⟨2, _⟩ => ⟨S512x512, .bf16⟩
  | .local _ .vmem, ⟨3, _⟩ => ⟨S512x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 8, 2, 1], ![false, false, false, false]⟩

def k0_cond3 (i : grid0.Coords) : BitVec 1 :=
  let arg3 : BitVec 32 := BitVec.ofNat 32 (i 3).val
  let c0_i32_6 : BitVec 32 := 0#32
  let v11 : BitVec 1 := Scalar.cmpi .eq arg3 c0_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== ReferenceScanDxIdeal.lean ====
abbrev S8192x512 : Shape := ⟨2, ![8192, 512]⟩
abbrev S1024x512 : Shape := ⟨2, ![1024, 512]⟩
abbrev S_ : Shape := ⟨0, ![]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S1024x512, .f32⟩
  | .hbm, ⟨2, _⟩ => ⟨S_, .f32⟩
  | .hbm, ⟨3, _⟩ => ⟨S8192x1024, .f32⟩
  | .hbm, ⟨4, _⟩ => ⟨S8192x512, .f32⟩
  | .hbm, ⟨5, _⟩ => ⟨S8192x1024, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== KernelScanDw.lean ====
abbrev S8192x1024 : Shape := ⟨2, ![8192, 1024]⟩
abbrev S8192x512 : Shape := ⟨2, ![8192, 512]⟩
abbrev S1024x512 : Shape := ⟨2, ![1024, 512]⟩
abbrev S2048x1024 : Shape := ⟨2, ![2048, 1024]⟩
abbrev S2048x512 : Shape := ⟨2, ![2048, 512]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x1024, .bf16⟩
  | .hbm, ⟨3, _⟩ => ⟨S1024x512, .f32⟩
  | .local _ .vmem, ⟨0, _⟩ => ⟨S2048x1024, .bf16⟩
  | .local _ .vmem, ⟨1, _⟩ => ⟨S2048x1024, .bf16⟩
  | .local _ .vmem, ⟨2, _⟩ => ⟨S2048x512, .f32⟩
  | .local _ .vmem, ⟨3, _⟩ => ⟨S2048x512, .f32⟩
  | .local _ .vmem, ⟨4, _⟩ => ⟨S1024x512, .f32⟩
  | .local _ .vmem, ⟨5, _⟩ => ⟨S1024x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨4, ![1, 1, 1, 4], ![false, false, false, false]⟩

def k0_cond3 (i : grid0.Coords) : BitVec 1 :=
  let arg3 : BitVec 32 := BitVec.ofNat 32 (i 3).val
  let c3_i32 : BitVec 32 := 3#32
  let v11 : BitVec 1 := Scalar.cmpi .eq arg3 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, true, false]
-- ==== KernelScanDwIdeal.lean ====
abbrev S8192x1024 : Shape := ⟨2, ![8192, 1024]⟩
abbrev S8192x512 : Shape := ⟨2, ![8192, 512]⟩
abbrev S1024x512 : Shape := ⟨2, ![1024, 512]⟩
abbrev S2048x1024 : Shape := ⟨2, ![2048, 1024]⟩
abbrev S2048x512 : Shape := ⟨2, ![2048, 512]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x1024, .bf16⟩
  | .hbm, ⟨3, _⟩ => ⟨S1024x512, .f32⟩
  | .local _ .vmem, ⟨0, _⟩ => ⟨S2048x1024, .bf16⟩
  | .local _ .vmem, ⟨1, _⟩ => ⟨S2048x1024, .bf16⟩
  | .local _ .vmem, ⟨2, _⟩ => ⟨S2048x512, .f32⟩
  | .local _ .vmem, ⟨3, _⟩ => ⟨S2048x512, .f32⟩
  | .local _ .vmem, ⟨4, _⟩ => ⟨S1024x512, .f32⟩
  | .local _ .vmem, ⟨5, _⟩ => ⟨S1024x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨4, ![1, 1, 1, 4], ![false, false, false, false]⟩

def k0_cond3 (i : grid0.Coords) : BitVec 1 :=
  let arg3 : BitVec 32 := BitVec.ofNat 32 (i 3).val
  let c3_i32 : BitVec 32 := 3#32
  let v11 : BitVec 1 := Scalar.cmpi .eq arg3 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, true, false]
-- ==== ReferenceScanDwIdeal.lean ====
abbrev S8192x1024 : Shape := ⟨2, ![8192, 1024]⟩
abbrev S8192x512 : Shape := ⟨2, ![8192, 512]⟩
abbrev S_ : Shape := ⟨0, ![]⟩
abbrev S1024x512 : Shape := ⟨2, ![1024, 512]⟩
abbrev S512x1024 : Shape := ⟨2, ![512, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S_, .f32⟩
  | .hbm, ⟨3, _⟩ => ⟨S1024x512, .f32⟩
  | .hbm, ⟨4, _⟩ => ⟨S8192x512, .f32⟩
  | .hbm, ⟨5, _⟩ => ⟨S512x1024, .f32⟩
  | .hbm, ⟨6, _⟩ => ⟨S1024x512, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelScan.lean ====
abbrev S8192x1024 : Shape := ⟨2, ![8192, 1024]⟩
abbrev S1024x512 : Shape := ⟨2, ![1024, 512]⟩
abbrev S8192x512 : Shape := ⟨2, ![8192, 512]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x512, .f32⟩
  | .hbm, ⟨2, _⟩ => ⟨S8192x1024, .bf16⟩
  | .hbm, ⟨3, _⟩ => ⟨S1024x512, .bf16⟩
  | .hbm, ⟨4, _⟩ => ⟨S8192x512, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![1, 8, 1, 1], ![false, false, false, false]⟩

def k0_cond3 (i : grid0.Coords) : BitVec 1 :=
  let arg3 : BitVec 32 := BitVec.ofNat 32 (i 3).val
  let c0_i32_6 : BitVec 32 := 0#32
  let v11 : BitVec 1 := Scalar.cmpi .eq arg3 c0_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== ReferenceScanIdeal.lean ====
abbrev S8192x1024 : Shape := ⟨2, ![8192, 1024]⟩
abbrev S1024x512 : Shape := ⟨2, ![1024, 512]⟩
abbrev S8192x512 : Shape := ⟨2, ![8192, 512]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x512, .f32⟩
  | .hbm, ⟨2, _⟩ => ⟨S8192x512, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== KernelAttn.lean ====
abbrev S8192x8x96 : Shape := ⟨3, ![8192, 8, 96]⟩
abbrev S8192x8x64 : Shape := ⟨3, ![8192, 8, 64]⟩
abbrev S_ : Shape := ⟨0, ![]⟩
abbrev S8192x8x1 : Shape := ⟨3, ![8192, 8, 1]⟩
abbrev S8192x8x65 : Shape := ⟨3, ![8192, 8, 65]⟩
abbrev S8192x8x128 : Shape := ⟨3, ![8192, 8, 128]⟩
abbrev S8192x1024 : Shape := ⟨2, ![8192, 1024]⟩
abbrev S8x8x8x1024 : Shape := ⟨4, ![8, 8, 8, 1024]⟩
abbrev S1024x128 : Shape := ⟨2, ![1024, 128]⟩
abbrev S8192x128 : Shape := ⟨2, ![8192, 128]⟩
abbrev S1x1x8x1024 : Shape := ⟨4, ![1, 1, 8, 1024]⟩
abbrev S1024x1024 : Shape := ⟨2, ![1024, 1024]⟩
abbrev S1024 : Shape := ⟨1, ![1024]⟩
abbrev S1024x1 : Shape := ⟨2, ![1024, 1]⟩
abbrev S512x128 : Shape := ⟨2, ![512, 128]⟩
abbrev S512x512 : Shape := ⟨2, ![512, 512]⟩
abbrev S512 : Shape := ⟨1, ![512]⟩
abbrev S512x1 : Shape := ⟨2, ![512, 1]⟩
abbrev S128x1024 : Shape := ⟨2, ![128, 1024]⟩
abbrev S8x1024 : Shape := ⟨2, ![8, 1024]⟩

abbrev nBuf : Space → Nat
  | .hbm => 23
  | .vmem => 12
  | .smem => 0
  | _ => 0

abbrev bufTy : (tb : Table) → Fin (tcTables nBuf tb) → BufTy
  | .hbm, ⟨0, _⟩ => ⟨S8192x8x96, .f32⟩
  | .hbm, ⟨1, _⟩ => ⟨S8192x8x96, .f32⟩
  | .hbm, ⟨2, _⟩ => ⟨S8192x8x64, .f32⟩
  | .hbm, ⟨3, _⟩ => ⟨S_, .f32⟩
  | .hbm, ⟨4, _⟩ => ⟨S8192x8x1, .f32⟩
  | .hbm, ⟨5, _⟩ => ⟨S8192x8x65, .f32⟩
  | .hbm, ⟨6, _⟩ => ⟨S_, .i32⟩
  | .hbm, ⟨7, _⟩ => ⟨S_, .f32⟩
  | .hbm, ⟨8, _⟩ => ⟨S8192x8x128, .f32⟩
  | .hbm, ⟨9, _⟩ => ⟨S8192x1024, .f32⟩
  | .hbm, ⟨10, _⟩ => ⟨S8192x1024, .bf16⟩
  | .hbm, ⟨11, _⟩ => ⟨S_, .i32⟩
  | .hbm, ⟨12, _⟩ => ⟨S_, .f32⟩
  | .hbm, ⟨13, _⟩ => ⟨S8192x8x128, .f32⟩
  | .hbm, ⟨14, _⟩ => ⟨S8192x1024, .f32⟩
  | .hbm, ⟨15, _⟩ => ⟨S8192x1024, .bf16⟩
  | .hbm, ⟨16, _⟩ => ⟨S_, .i32⟩
  | .hbm, ⟨17, _⟩ => ⟨S_, .f32⟩
  | .hbm, ⟨18, _⟩ => ⟨S8192x8x128, .f32⟩
  | .hbm, ⟨19, _⟩ => ⟨S8192x1024, .f32⟩
  | .hbm, ⟨20, _⟩ => ⟨S8192x1024, .bf16⟩
  | .hbm, ⟨21, _⟩ => ⟨S8192x1024, .bf16⟩
  | .hbm, ⟨22, _⟩ => ⟨S8x8x8x1024, .f32⟩
  | .local _ .vmem, ⟨0, _⟩ => ⟨S1024x128, .bf16⟩
  | .local _ .vmem, ⟨1, _⟩ => ⟨S1024x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S1024x128, .bf16⟩
  | .local _ .vmem, ⟨7, _⟩ => ⟨S1024x128, .bf16⟩
  | .local _ .vmem, ⟨8, _⟩ => ⟨S1x1x8x1024, .f32⟩
  | .local _ .vmem, ⟨9, _⟩ => ⟨S1x1x8x1024, .f32⟩
  | .local _ .vmem, ⟨10, _⟩ => ⟨S1024x128, .f32⟩
  | .local _ .vmem, ⟨11, _⟩ => ⟨S1024x128, .f32⟩
  | _, _ => ⟨S8192x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_call1_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_call2_v0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11_0 : Ref sig .tc := ⟨.hbm, 21, rfl⟩
abbrev main_v11_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

@[reducible] def k0_t1_loop (i : grid0.Coords) : Scf.Loop 32 :=
  let c0_i32_4 : BitVec 32 := 0#32
  let arg1 : BitVec 32 := BitVec.ofNat 32 (i 1).val
  let c1_i32 : BitVec 32 := 1#32
  let v8 : BitVec 32 := Scalar.muli arg1 c1_i32
  let v9 : BitVec 32 := Scalar.subi v8 c0_i32_4
  let c1_i32_5 : BitVec 32 := 1#32
  let v11 : BitVec 32 := Scalar.divsi v9 c1_i32_5
  let v12 : BitVec 32 := Scalar.muli v11 c1_i32_5
  let v13 : BitVec 32 := Scalar.addi c0_i32_4 v12
  let c1_i32_6 : BitVec 32 := 1#32
  ⟨c0_i32_4, v13, c1_i32_6⟩
def k0_mult1 (i : grid0.Coords) (k0_t1 : Fin (k0_t1_loop i).trips) : BitVec 32 :=
  let c0_i32_4 : BitVec 32 := 0#32
  let c1_i32_6 : BitVec 32 := 1#32
  let arg9 : BitVec 32 := Scf.iv c0_i32_4 c1_i32_6 k0_t1
  let c1024_i32_77 : BitVec 32 := 1024#32
  let v154 : BitVec 32 := Scalar.muli arg9 c1024_i32_77
  v154
def k0_off1 (i : grid0.Coords) (k0_t1 : Fin (k0_t1_loop i).trips) : Fin 2 → Nat :=
  let c0_i32_4 : BitVec 32 := 0#32
  let c1_i32_6 : BitVec 32 := 1#32
  let arg9 : BitVec 32 := Scf.iv c0_i32_4 c1_i32_6 k0_t1
  let c1024_i32_77 : BitVec 32 := 1024#32
  let v154 : BitVec 32 := Scalar.muli arg9 c1024_i32_77
  let v155 : BitVec 32 := v154
  let v156 : Index := Scalar.indexCast v155
  let c0_78 : Index := 0#32
  ![v156.toNat, 0]
@[reducible] def k0_t2_loop (i : grid0.Coords) : Scf.Loop 32 :=
  let c0_i32_4 : BitVec 32 := 0#32
  let arg1 : BitVec 32 := BitVec.ofNat 32 (i 1).val
  let c1_i32 : BitVec 32 := 1#32
  let v8 : BitVec 32 := Scalar.muli arg1 c1_i32
  let v9 : BitVec 32 := Scalar.subi v8 c0_i32_4
  let c1_i32_5 : BitVec 32 := 1#32
  let v11 : BitVec 32 := Scalar.divsi v9 c1_i32_5
  let v12 : BitVec 32 := Scalar.muli v11 c1_i32_5
  let v13 : BitVec 32 := Scalar.addi c0_i32_4 v12
  let v10 : BitVec 32 := Scalar.addi c0_i32_4 v9
  let c1_i32_7 : BitVec 32 := 1#32
  ⟨v13, v10, c1_i32_7⟩
def k0_mult2 (i : grid0.Coords) (k0_t2 : Fin (k0_t2_loop i).trips) : BitVec 32 :=
  let c0_i32_4 : BitVec 32 := 0#32
  let arg1 : BitVec 32 := BitVec.ofNat 32 (i 1).val
  let c1_i32 : BitVec 32 := 1#32
  let v8 : BitVec 32 := Scalar.muli arg1 c1_i32
  let v9 : BitVec 32 := Scalar.subi v8 c0_i32_4
  let c1_i32_5 : BitVec 32 := 1#32
  let v11 : BitVec 32 := Scalar.divsi v9 c1_i32_5
  let v12 : BitVec 32 := Scalar.muli v11 c1_i32_5
  let v13 : BitVec 32 := Scalar.addi c0_i32_4 v12
  let c1_i32_7 : BitVec 32 := 1#32
  let arg9 : BitVec 32 := Scf.iv v13 c1_i32_7 k0_t2
  let c1024_i32_77 : BitVec 32 := 1024#32
  let v154 : BitVec 32 := Scalar.muli arg9 c1024_i32_77
  v154
def k0_off2 (i : grid0.Coords) (k0_t2 : Fin (k0_t2_loop i).trips) : Fin 2 → Nat :=
  let c0_i32_4 : BitVec 32 := 0#32
  let arg1 : BitVec 32 := BitVec.ofNat 32 (i 1).val
  let c1_i32 : BitVec 32 := 1#32
  let v8 : BitVec 32 := Scalar.muli arg1 c1_i32
  let v9 : BitVec 32 := Scalar.subi v8 c0_i32_4
  let c1_i32_5 : BitVec 32 := 1#32
  let v11 : BitVec 32 := Scalar.divsi v9 c1_i32_5
  let v12 : BitVec 32 := Scalar.muli v11 c1_i32_5
  let v13 : BitVec 32 := Scalar.addi c0_i32_4 v12
  let c1_i32_7 : BitVec 32 := 1#32
  let arg9 : BitVec 32 := Scf.iv v13 c1_i32_7 k0_t2
  let c1024_i32_77 : BitVec 32 := 1024#32
  let v154 : BitVec 32 := Scalar.muli arg9 c1024_i32_77
  let v155 : BitVec 32 := v154
  let v156 : Index := Scalar.indexCast v155
  let c0_78 : Index := 0#32
  ![v156.toNat, 0]
def k0_mult3 (i : grid0.Coords) : BitVec 32 :=
  let arg1 : BitVec 32 := BitVec.ofNat 32 (i 1).val
  let c1024_i32 : BitVec 32 := 1024#32
  let v14 : BitVec 32 := Scalar.muli arg1 c1024_i32
  let c0_i32_8 : BitVec 32 := 0#32
  let v15 : BitVec 32 := Scalar.addi v14 c0_i32_8
  v15
def k0_off3 (i : grid0.Coords) (c0_i32_8 : BitVec 32) : Fin 2 → Nat :=
  let arg1 : BitVec 32 := BitVec.ofNat 32 (i 1).val
  let c1024_i32 : BitVec 32 := 1024#32
  let v14 : BitVec 32 := Scalar.muli arg1 c1024_i32
  let v15 : BitVec 32 := Scalar.addi v14 c0_i32_8
  let v16 : BitVec 32 := v15
  let v17 : Index := Scalar.indexCast v16
  let c0_9 : Index := 0#32
  ![v17.toNat, 0]
def k0_mult4 (i : grid0.Coords) : BitVec 32 :=
  let arg1 : BitVec 32 := BitVec.ofNat 32 (i 1).val
  let c1024_i32_27 : BitVec 32 := 1024#32
  let v56 : BitVec 32 := Scalar.muli arg1 c1024_i32_27
  let c0_i32_28 : BitVec 32 := 0#32
  let v57 : BitVec 32 := Scalar.addi v56 c0_i32_28
  v57
def k0_mult5 (i : grid0.Coords) : BitVec 32 :=
  let arg1 : BitVec 32 := BitVec.ofNat 32 (i 1).val
  let c1024_i32_45 : BitVec 32 := 1024#32
  let v93 : BitVec 32 := Scalar.muli arg1 c1024_i32_45
  let c512_i32 : BitVec 32 := 512#32
  let v94 : BitVec 32 := Scalar.addi v93 c512_i32
  v94
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelAttnIdeal.lean ====
variable {F : FTy → Type} [FloatOps F] [Named F]
def κ : String → Option EReal := fun
  | "log2e" => some (((Real.log 2)⁻¹ : ℝ) : EReal)
  | "scale" => some (((Real.sqrt 96)⁻¹ : ℝ) : EReal)
  | "scale2" => some (((Real.sqrt 96)⁻¹ * (Real.log 2)⁻¹ : ℝ) : EReal)
  | _ => none
-- ==== ReferenceAttnIdeal.lean ====
abbrev S8192x8x96 : Shape := ⟨3, ![8192, 8, 96]⟩
abbrev S8192x8x64 : Shape := ⟨3, ![8192, 8, 64]⟩
abbrev S8x8192x8192 : Shape := ⟨3, ![8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8192x8192 : Shape := ⟨3, ![1, 8192, 8192]⟩
abbrev S8x8192 : Shape := ⟨2, ![8, 8192]⟩
abbrev S8x8192x1 : Shape := ⟨3, ![8, 8192, 1]⟩
abbrev S8x64x8192 : Shape := ⟨3, ![8, 64, 8192]⟩
abbrev S8192x8x1 : Shape := ⟨3, ![8192, 8, 1]⟩
abbrev S8192x8x63 : Shape := ⟨3, ![8192, 8, 63]⟩
abbrev S8192x8x128 : Shape := ⟨3, ![8192, 8, 128]⟩
abbrev S8x8x1x1024 : Shape := ⟨4, ![8, 8, 1, 1024]⟩
abbrev S8x8x8x1024 : Shape := ⟨4, ![8, 8, 8, 1024]⟩
abbrev S8192x1024 : Shape := ⟨2, ![8192, 1024]⟩

abbrev nBuf : Space → Nat
  | .hbm => 53
  | .vmem => 0
  | .smem => 0
  | _ => 0

abbrev bufTy : (tb : Table) → Fin (tcTables nBuf tb) → BufTy
  | .hbm, ⟨0, _⟩ => ⟨S8192x8x96, .f32⟩
  | .hbm, ⟨1, _⟩ => ⟨S8192x8x96, .f32⟩
  | .hbm, ⟨2, _⟩ => ⟨S8192x8x64, .f32⟩
  | .hbm, ⟨3, _⟩ => ⟨S8x8192x8192, .f32⟩
  | .hbm, ⟨4, _⟩ => ⟨S_, .f32⟩
  | .hbm, ⟨5, _⟩ => ⟨S_, .f32⟩
  | .hbm, ⟨6, _⟩ => ⟨S8x8192x8192, .f32⟩
  | .hbm, ⟨7, _⟩ => ⟨S8x8192x8192, .f32⟩
  | .hbm, ⟨8, _⟩ => ⟨S8192, .i32⟩
  | .hbm, ⟨9, _⟩ => ⟨S1x8192, .i32⟩
  | .hbm, ⟨10, _⟩ => ⟨S8192x1, .i32⟩
  | .hbm, ⟨11, _⟩ => ⟨S8192x8192, .i32⟩
  | .hbm, ⟨12, _⟩ => ⟨S8192x8192, .i32⟩
  | .hbm, ⟨13, _⟩ => ⟨S8192x8192, .i1⟩
  | .hbm, ⟨14, _⟩ => ⟨S1x8192x8192, .i1⟩
  | .hbm, ⟨15, _⟩ => ⟨S_, .f32⟩
  | .hbm, ⟨16, _⟩ => ⟨S_, .f32⟩
  | .hbm, ⟨17, _⟩ => ⟨S8x8192x8192, .i1⟩
  | .hbm, ⟨18, _⟩ => ⟨S8x8192x8192, .f32⟩
  | .hbm, ⟨19, _⟩ => ⟨S8x8192x8192, .f32⟩
  | .hbm, ⟨20, _⟩ => ⟨S_, .f32⟩
  | .hbm, ⟨21, _⟩ => ⟨S8x8192, .f32⟩
  | .hbm, ⟨22, _⟩ => ⟨S_, .f32⟩
  | .hbm, ⟨23, _⟩ => ⟨S8x8192, .f32⟩
  | .hbm, ⟨24, _⟩ => ⟨S8x8192, .f32⟩
  | .hbm, ⟨25, _⟩ => ⟨S8x8192x1, .f32⟩
  | .hbm, ⟨26, _⟩ => ⟨S8x8192x8192, .f32⟩
  | .hbm, ⟨27, _⟩ => ⟨S8x8192x8192, .f32⟩
  | .hbm, ⟨28, _⟩ => ⟨S8x8192x8192, .f32⟩
  | .hbm, ⟨29, _⟩ => ⟨S_, .f32⟩
  | .hbm, ⟨30, _⟩ => ⟨S8x8192, .f32⟩
  | .hbm, ⟨31, _⟩ => ⟨S8x8192x1, .f32⟩
  | .hbm, ⟨32, _⟩ => ⟨S8x8192x8192, .f32⟩
  | .hbm, ⟨33, _⟩ => ⟨S8x8192x8192, .f32⟩
  | .hbm, ⟨34, _⟩ => ⟨S8x64x8192, .f32⟩
  | .hbm, ⟨35, _⟩ => ⟨S8192x8x64, .f32⟩
  | .hbm, ⟨36, _⟩ => ⟨S_, .f32⟩
  | .hbm, ⟨37, _⟩ => ⟨S8192x8x1, .f32⟩
  | .hbm, ⟨38, _⟩ => ⟨S_, .f32⟩
  | .hbm, ⟨39, _⟩ => ⟨S8192x8x63, .f32⟩
  | .hbm, ⟨40, _⟩ => ⟨S8192x8x128, .f32⟩
  | .hbm, ⟨41, _⟩ => ⟨S8x8192x8192, .f32⟩
  | .hbm, ⟨42, _⟩ => ⟨S_, .f32⟩
  | .hbm, ⟨43, _⟩ => ⟨S8x8192, .f32⟩
  | .hbm, ⟨44, _⟩ => ⟨S8x8192, .f32⟩
  | .hbm, ⟨45, _⟩ => ⟨S_, .f32⟩
  | .hbm, ⟨46, _⟩ => ⟨S_, .f32⟩
  | .hbm, ⟨47, _⟩ => ⟨S8x8192, .f32⟩
  | .hbm, ⟨48, _⟩ => ⟨S8x8192, .f32⟩
  | .hbm, ⟨49, _⟩ => ⟨S8x8x1x1024, .f32⟩
  | .hbm, ⟨50, _⟩ => ⟨S8x8x8x1024, .f32⟩
  | .hbm, ⟨51, _⟩ => ⟨S8192x1024, .f32⟩
  | .hbm, ⟨52, _⟩ => ⟨S8192x1024, .bf16⟩
  | _, _ => ⟨S8192x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_cst_7 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩

abbrev nD : Nat := 1
abbrev τ : Topo := Topo.v7x

variable {F : FTy → Type} [FloatOps F]
-- ==== KernelNorm.lean ====
abbrev S8192x1024 : Shape := ⟨2, ![8192, 1024]⟩
abbrev S1024 : Shape := ⟨1, ![1024]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1x1024, .f32⟩
  | .hbm, ⟨3, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceNormIdeal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S1x1024, .f32⟩
  | .hbm, ⟨16, _⟩ => ⟨S8192x1024, .f32⟩
  | .hbm, ⟨17, _⟩ => ⟨S8192x1024, .f32⟩
  | .hbm, ⟨18, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== KernelGelu.lean ====
abbrev S8192x512 : Shape := ⟨2, ![8192, 512]⟩
abbrev S512 : Shape := ⟨1, ![512]⟩
abbrev S1x512 : Shape := ⟨2, ![1, 512]⟩
abbrev S1024x512 : Shape := ⟨2, ![1024, 512]⟩

abbrev nBuf : Space → Nat
  | .hbm => 5
  | .vmem => 7
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S512, .f32⟩
  | .hbm, ⟨3, _⟩ => ⟨S1x512, .f32⟩
  | .hbm, ⟨4, _⟩ => ⟨S8192x512, .bf16⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1x512, .f32⟩
  | .local _ .vmem, ⟨5, _⟩ => ⟨S1024x512, .bf16⟩
  | .local _ .vmem, ⟨6, _⟩ => ⟨S1024x512, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceGeluIdeal.lean ====
abbrev S8192x512 : Shape := ⟨2, ![8192, 512]⟩
abbrev S512 : Shape := ⟨1, ![512]⟩
abbrev S1x512 : Shape := ⟨2, ![1, 512]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S512, .f32⟩
  | .hbm, ⟨3, _⟩ => ⟨S1x512, .f32⟩
  | .hbm, ⟨4, _⟩ => ⟨S8192x512, .f32⟩
  | .hbm, ⟨5, _⟩ => ⟨S8192x512, .f32⟩
  | .hbm, ⟨6, _⟩ => ⟨S8192x512, .f32⟩
  | .hbm, ⟨7, _⟩ => ⟨S8192x512, .f32⟩
  | .hbm, ⟨8, _⟩ => ⟨S8192x512, .f32⟩
  | .hbm, ⟨9, _⟩ => ⟨S_, .f32⟩
  | .hbm, ⟨10, _⟩ => ⟨S8192x512, .f32⟩
  | .hbm, ⟨11, _⟩ => ⟨S8192x512, .f32⟩
  | .hbm, ⟨12, _⟩ => ⟨S8192x512, .f32⟩
  | .hbm, ⟨13, _⟩ => ⟨S_, .f32⟩
  | .hbm, ⟨14, _⟩ => ⟨S8192x512, .f32⟩
  | .hbm, ⟨15, _⟩ => ⟨S8192x512, .f32⟩
  | .hbm, ⟨16, _⟩ => ⟨S8192x512, .f32⟩
  | .hbm, ⟨17, _⟩ => ⟨S_, .f32⟩
  | .hbm, ⟨18, _⟩ => ⟨S8192x512, .f32⟩
  | .hbm, ⟨19, _⟩ => ⟨S8192x512, .f32⟩
  | .hbm, ⟨20, _⟩ => ⟨S_, .f32⟩
  | .hbm, ⟨21, _⟩ => ⟨S8192x512, .f32⟩
  | .hbm, ⟨22, _⟩ => ⟨S8192x512, .f32⟩
  | .hbm, ⟨23, _⟩ => ⟨S8192x512, .f32⟩
  | .hbm, ⟨24, _⟩ => ⟨S8192x512, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== KernelGluOut.lean ====
abbrev S8192x2048 : Shape := ⟨2, ![8192, 2048]⟩
abbrev S8192x1024 : Shape := ⟨2, ![8192, 1024]⟩
abbrev S2048 : Shape := ⟨1, ![2048]⟩
abbrev S1x2048 : Shape := ⟨2, ![1, 2048]⟩
abbrev S1x1024 : Shape := ⟨2, ![1, 1024]⟩
abbrev S1024x1024 : Shape := ⟨2, ![1024, 1024]⟩

abbrev nBuf : Space → Nat
  | .hbm => 7
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S8192x1024, .f32⟩
  | .hbm, ⟨2, _⟩ => ⟨S2048, .f32⟩
  | .hbm, ⟨3, _⟩ => ⟨S1x2048, .f32⟩
  | .hbm, ⟨4, _⟩ => ⟨S1x1024, .f32⟩
  | .hbm, ⟨5, _⟩ => ⟨S1x1024, .f32⟩
  | .hbm, ⟨6, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceGluOutIdeal.lean ====
abbrev S8192x2048 : Shape := ⟨2, ![8192, 2048]⟩
abbrev S8192x1024 : Shape := ⟨2, ![8192, 1024]⟩
abbrev S2048 : Shape := ⟨1, ![2048]⟩
abbrev S1x2048 : Shape := ⟨2, ![1, 2048]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x1024, .f32⟩
  | .hbm, ⟨2, _⟩ => ⟨S2048, .f32⟩
  | .hbm, ⟨3, _⟩ => ⟨S1x2048, .f32⟩
  | .hbm, ⟨4, _⟩ => ⟨S8192x2048, .f32⟩
  | .hbm, ⟨5, _⟩ => ⟨S8192x2048, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== KernelAdamUp.lean ====
abbrev S8x1024x704 : Shape := ⟨3, ![8, 1024, 704]⟩
abbrev S1024x704 : Shape := ⟨2, ![1024, 704]⟩
abbrev S8x256x704 : Shape := ⟨3, ![8, 256, 704]⟩
abbrev S256x704 : Shape := ⟨2, ![256, 704]⟩
abbrev S1x256x704 : Shape := ⟨3, ![1, 256, 704]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x704, .bf16⟩
  | .hbm, ⟨1, _⟩ => ⟨S1024x704, .f32⟩
  | .hbm, ⟨2, _⟩ => ⟨S1024x704, .f32⟩
  | .hbm, ⟨3, _⟩ => ⟨S1024x704, .f32⟩
  | .hbm, ⟨4, _⟩ => ⟨S1024x704, .f32⟩
  | .hbm, ⟨5, _⟩ => ⟨S1024x704, .f32⟩
  | .hbm, ⟨6, _⟩ => ⟨S1024x704, .f32⟩
  | .hbm, ⟨7, _⟩ => ⟨S1024x704, .f32⟩
  | .local _ .vmem, ⟨0, _⟩ => ⟨S8x256x704, .bf16⟩
  | .local _ .vmem, ⟨1, _⟩ => ⟨S8x256x704, .bf16⟩
  | .local _ .vmem, ⟨2, _⟩ => ⟨S256x704, .f32⟩
  | .local _ .vmem, ⟨3, _⟩ => ⟨S256x704, .f32⟩
  | .local _ .vmem, ⟨4, _⟩ => ⟨S256x704, .f32⟩
  | .local _ .vmem, ⟨5, _⟩ => ⟨S256x704, .f32⟩
  | .local _ .vmem, ⟨6, _⟩ => ⟨S256x704, .f32⟩
  | .local _ .vmem, ⟨7, _⟩ => ⟨S256x704, .f32⟩
  | .local _ .vmem, ⟨8, _⟩ => ⟨S256x704, .f32⟩
  | .local _ .vmem, ⟨9, _⟩ => ⟨S256x704, .f32⟩
  | .local _ .vmem, ⟨10, _⟩ => ⟨S256x704, .f32⟩
  | .local _ .vmem, ⟨11, _⟩ => ⟨S256x704, .f32⟩
  | .local _ .vmem, ⟨12, _⟩ => ⟨S256x704, .f32⟩
  | .local _ .vmem, ⟨13, _⟩ => ⟨S256x704, .f32⟩
  | .local _ .vmem, ⟨14, _⟩ => ⟨S256x704, .f32⟩
  | .local _ .vmem, ⟨15, _⟩ => ⟨S256x704, .f32⟩
  | _, _ => ⟨S8x1024x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceAdamUpIdeal.lean ====
abbrev S8x1024x704 : Shape := ⟨3, ![8, 1024, 704]⟩
abbrev S1024x704 : Shape := ⟨2, ![1024, 704]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x1024x704, .bf16⟩
  | .hbm, ⟨1, _⟩ => ⟨S1024x704, .f32⟩
  | .hbm, ⟨2, _⟩ => ⟨S1024x704, .f32⟩
  | .hbm, ⟨3, _⟩ => ⟨S1024x704, .f32⟩
  | .hbm, ⟨4, _⟩ => ⟨S8x1024x704, .f32⟩
  | .hbm, ⟨5, _⟩ => ⟨S_, .f32⟩
  | .hbm, ⟨6, _⟩ => ⟨S1024x704, .f32⟩
  | .hbm, ⟨7, _⟩ => ⟨S_, .f32⟩
  | .hbm, ⟨8, _⟩ => ⟨S1024x704, .f32⟩
  | .hbm, ⟨9, _⟩ => ⟨S1024x704, .f32⟩
  | .hbm, ⟨10, _⟩ => ⟨S_, .f32⟩
  | .hbm, ⟨11, _⟩ => ⟨S1024x704, .f32⟩
  | .hbm, ⟨12, _⟩ => ⟨S1024x704, .f32⟩
  | .hbm, ⟨13, _⟩ => ⟨S1024x704, .f32⟩
  | .hbm, ⟨14, _⟩ => ⟨S_, .f32⟩
  | .hbm, ⟨15, _⟩ => ⟨S1024x704, .f32⟩
  | .hbm, ⟨16, _⟩ => ⟨S1024x704, .f32⟩
  | .hbm, ⟨17, _⟩ => ⟨S1024x704, .f32⟩
  | .hbm, ⟨18, _⟩ => ⟨S_, .f32⟩
  | .hbm, ⟨19, _⟩ => ⟨S1024x704, .f32⟩
  | .hbm, ⟨20, _⟩ => ⟨S1024x704, .f32⟩
  | .hbm, ⟨21, _⟩ => ⟨S1024x704, .f32⟩
  | .hbm, ⟨22, _⟩ => ⟨S_, .f32⟩
  | .hbm, ⟨23, _⟩ => ⟨S1024x704, .f32⟩
  | .hbm, ⟨24, _⟩ => ⟨S1024x704, .f32⟩
  | .hbm, ⟨25, _⟩ => ⟨S_, .f32⟩
  | .hbm, ⟨26, _⟩ => ⟨S1024x704, .f32⟩
  | .hbm, ⟨27, _⟩ => ⟨S1024x704, .f32⟩
  | .hbm, ⟨28, _⟩ => ⟨S1024x704, .f32⟩
  | .hbm, ⟨29, _⟩ => ⟨S_, .f32⟩
  | .hbm, ⟨30, _⟩ => ⟨S1024x704, .f32⟩
  | .hbm, ⟨31, _⟩ => ⟨S1024x704, .f32⟩
  | .hbm, ⟨32, _⟩ => ⟨S1024x704, .f32⟩
  | .hbm, ⟨33, _⟩ => ⟨S_, .f32⟩
  | .hbm, ⟨34, _⟩ => ⟨S1024x704, .f32⟩
  | .hbm, ⟨35, _⟩ => ⟨S1024x704, .f32⟩
  | .hbm, ⟨36, _⟩ => ⟨S1024x704, .f32⟩
  | .hbm, ⟨37, _⟩ => ⟨S_, .f32⟩
  | .hbm, ⟨38, _⟩ => ⟨S1024x704, .f32⟩
  | .hbm, ⟨39, _⟩ => ⟨S1024x704, .f32⟩
  | _, _ => ⟨S8x1024x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== KernelAdamDown.lean ====
abbrev S8x352x1024 : Shape := ⟨3, ![8, 352, 1024]⟩
abbrev S352x1024 : Shape := ⟨2, ![352, 1024]⟩
abbrev S1x352x1024 : Shape := ⟨3, ![1, 352, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x352x1024, .bf16⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S352x1024, .f32⟩
  | .hbm, ⟨7, _⟩ => ⟨S352x1024, .f32⟩
  | .local _ .vmem, ⟨0, _⟩ => ⟨S8x352x1024, .bf16⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x352x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S352x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S352x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S352x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S352x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S352x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S352x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S352x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== ReferenceAdamDownIdeal.lean ====
abbrev S8x352x1024 : Shape := ⟨3, ![8, 352, 1024]⟩
abbrev S352x1024 : Shape := ⟨2, ![352, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x352x1024, .bf16⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S8x352x1024, .f32⟩
  | .hbm, ⟨5, _⟩ => ⟨S_, .f32⟩
  | .hbm, ⟨6, _⟩ => ⟨S352x1024, .f32⟩
  | .hbm, ⟨7, _⟩ => ⟨S_, .f32⟩
  | .hbm, ⟨8, _⟩ => ⟨S352x1024, .f32⟩
  | .hbm, ⟨9, _⟩ => ⟨S352x1024, .f32⟩
  | .hbm, ⟨10, _⟩ => ⟨S_, .f32⟩
  | .hbm, ⟨11, _⟩ => ⟨S352x1024, .f32⟩
  | .hbm, ⟨12, _⟩ => ⟨S352x1024, .f32⟩
  | .hbm, ⟨13, _⟩ => ⟨S352x1024, .f32⟩
  | .hbm, ⟨14, _⟩ => ⟨S_, .f32⟩
  | .hbm, ⟨15, _⟩ => ⟨S352x1024, .f32⟩
  | .hbm, ⟨16, _⟩ => ⟨S352x1024, .f32⟩
  | .hbm, ⟨17, _⟩ => ⟨S352x1024, .f32⟩
  | .hbm, ⟨18, _⟩ => ⟨S_, .f32⟩
  | .hbm, ⟨19, _⟩ => ⟨S352x1024, .f32⟩
  | .hbm, ⟨20, _⟩ => ⟨S352x1024, .f32⟩
  | .hbm, ⟨21, _⟩ => ⟨S352x1024, .f32⟩
  | .hbm, ⟨22, _⟩ => ⟨S_, .f32⟩
  | .hbm, ⟨23, _⟩ => ⟨S352x1024, .f32⟩
  | .hbm, ⟨24, _⟩ => ⟨S352x1024, .f32⟩
  | .hbm, ⟨25, _⟩ => ⟨S_, .f32⟩
  | .hbm, ⟨26, _⟩ => ⟨S352x1024, .f32⟩
  | .hbm, ⟨27, _⟩ => ⟨S352x1024, .f32⟩
  | .hbm, ⟨28, _⟩ => ⟨S352x1024, .f32⟩
  | .hbm, ⟨29, _⟩ => ⟨S_, .f32⟩
  | .hbm, ⟨30, _⟩ => ⟨S352x1024, .f32⟩
  | .hbm, ⟨31, _⟩ => ⟨S352x1024, .f32⟩
  | .hbm, ⟨32, _⟩ => ⟨S352x1024, .f32⟩
  | .hbm, ⟨33, _⟩ => ⟨S_, .f32⟩
  | .hbm, ⟨34, _⟩ => ⟨S352x1024, .f32⟩
  | .hbm, ⟨35, _⟩ => ⟨S352x1024, .f32⟩
  | .hbm, ⟨36, _⟩ => ⟨S352x1024, .f32⟩
  | .hbm, ⟨37, _⟩ => ⟨S_, .f32⟩
  | .hbm, ⟨38, _⟩ => ⟨S352x1024, .f32⟩
  | .hbm, ⟨39, _⟩ => ⟨S352x1024, .f32⟩
  | _, _ => ⟨S8x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== KernelAdamIn.lean ====
abbrev S8x1024x180 : Shape := ⟨3, ![8, 1024, 180]⟩
abbrev S1024x180 : Shape := ⟨2, ![1024, 180]⟩
abbrev S8x256x180 : Shape := ⟨3, ![8, 256, 180]⟩
abbrev S256x180 : Shape := ⟨2, ![256, 180]⟩
abbrev S1x256x180 : Shape := ⟨3, ![1, 256, 180]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x180, .bf16⟩
  | .hbm, ⟨1, _⟩ => ⟨S1024x180, .f32⟩
  | .hbm, ⟨2, _⟩ => ⟨S1024x180, .f32⟩
  | .hbm, ⟨3, _⟩ => ⟨S1024x180, .f32⟩
  | .hbm, ⟨4, _⟩ => ⟨S1024x180, .f32⟩
  | .hbm, ⟨5, _⟩ => ⟨S1024x180, .f32⟩
  | .hbm, ⟨6, _⟩ => ⟨S1024x180, .f32⟩
  | .hbm, ⟨7, _⟩ => ⟨S1024x180, .f32⟩
  | .local _ .vmem, ⟨0, _⟩ => ⟨S8x256x180, .bf16⟩
  | .local _ .vmem, ⟨1, _⟩ => ⟨S8x256x180, .bf16⟩
  | .local _ .vmem, ⟨2, _⟩ => ⟨S256x180, .f32⟩
  | .local _ .vmem, ⟨3, _⟩ => ⟨S256x180, .f32⟩
  | .local _ .vmem, ⟨4, _⟩ => ⟨S256x180, .f32⟩
  | .local _ .vmem, ⟨5, _⟩ => ⟨S256x180, .f32⟩
  | .local _ .vmem, ⟨6, _⟩ => ⟨S256x180, .f32⟩
  | .local _ .vmem, ⟨7, _⟩ => ⟨S256x180, .f32⟩
  | .local _ .vmem, ⟨8, _⟩ => ⟨S256x180, .f32⟩
  | .local _ .vmem, ⟨9, _⟩ => ⟨S256x180, .f32⟩
  | .local _ .vmem, ⟨10, _⟩ => ⟨S256x180, .f32⟩
  | .local _ .vmem, ⟨11, _⟩ => ⟨S256x180, .f32⟩
  | .local _ .vmem, ⟨12, _⟩ => ⟨S256x180, .f32⟩
  | .local _ .vmem, ⟨13, _⟩ => ⟨S256x180, .f32⟩
  | .local _ .vmem, ⟨14, _⟩ => ⟨S256x180, .f32⟩
  | .local _ .vmem, ⟨15, _⟩ => ⟨S256x180, .f32⟩
  | _, _ => ⟨S8x1024x180, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x180 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x180 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x180 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x180 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x180 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x180 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x180 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x180 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceAdamInIdeal.lean ====
abbrev S8x1024x180 : Shape := ⟨3, ![8, 1024, 180]⟩
abbrev S1024x180 : Shape := ⟨2, ![1024, 180]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x1024x180, .bf16⟩
  | .hbm, ⟨1, _⟩ => ⟨S1024x180, .f32⟩
  | .hbm, ⟨2, _⟩ => ⟨S1024x180, .f32⟩
  | .hbm, ⟨3, _⟩ => ⟨S1024x180, .f32⟩
  | .hbm, ⟨4, _⟩ => ⟨S8x1024x180, .f32⟩
  | .hbm, ⟨5, _⟩ => ⟨S_, .f32⟩
  | .hbm, ⟨6, _⟩ => ⟨S1024x180, .f32⟩
  | .hbm, ⟨7, _⟩ => ⟨S_, .f32⟩
  | .hbm, ⟨8, _⟩ => ⟨S1024x180, .f32⟩
  | .hbm, ⟨9, _⟩ => ⟨S1024x180, .f32⟩
  | .hbm, ⟨10, _⟩ => ⟨S_, .f32⟩
  | .hbm, ⟨11, _⟩ => ⟨S1024x180, .f32⟩
  | .hbm, ⟨12, _⟩ => ⟨S1024x180, .f32⟩
  | .hbm, ⟨13, _⟩ => ⟨S1024x180, .f32⟩
  | .hbm, ⟨14, _⟩ => ⟨S_, .f32⟩
  | .hbm, ⟨15, _⟩ => ⟨S1024x180, .f32⟩
  | .hbm, ⟨16, _⟩ => ⟨S1024x180, .f32⟩
  | .hbm, ⟨17, _⟩ => ⟨S1024x180, .f32⟩
  | .hbm, ⟨18, _⟩ => ⟨S_, .f32⟩
  | .hbm, ⟨19, _⟩ => ⟨S1024x180, .f32⟩
  | .hbm, ⟨20, _⟩ => ⟨S1024x180, .f32⟩
  | .hbm, ⟨21, _⟩ => ⟨S1024x180, .f32⟩
  | .hbm, ⟨22, _⟩ => ⟨S_, .f32⟩
  | .hbm, ⟨23, _⟩ => ⟨S1024x180, .f32⟩
  | .hbm, ⟨24, _⟩ => ⟨S1024x180, .f32⟩
  | .hbm, ⟨25, _⟩ => ⟨S_, .f32⟩
  | .hbm, ⟨26, _⟩ => ⟨S1024x180, .f32⟩
  | .hbm, ⟨27, _⟩ => ⟨S1024x180, .f32⟩
  | .hbm, ⟨28, _⟩ => ⟨S1024x180, .f32⟩
  | .hbm, ⟨29, _⟩ => ⟨S_, .f32⟩
  | .hbm, ⟨30, _⟩ => ⟨S1024x180, .f32⟩
  | .hbm, ⟨31, _⟩ => ⟨S1024x180, .f32⟩
  | .hbm, ⟨32, _⟩ => ⟨S1024x180, .f32⟩
  | .hbm, ⟨33, _⟩ => ⟨S_, .f32⟩
  | .hbm, ⟨34, _⟩ => ⟨S1024x180, .f32⟩
  | .hbm, ⟨35, _⟩ => ⟨S1024x180, .f32⟩
  | .hbm, ⟨36, _⟩ => ⟨S1024x180, .f32⟩
  | .hbm, ⟨37, _⟩ => ⟨S_, .f32⟩
  | .hbm, ⟨38, _⟩ => ⟨S1024x180, .f32⟩
  | .hbm, ⟨39, _⟩ => ⟨S1024x180, .f32⟩
  | _, _ => ⟨S8x1024x180, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== KernelAdamUq.lean ====
abbrev S8x256x96 : Shape := ⟨3, ![8, 256, 96]⟩
abbrev S256x96 : Shape := ⟨2, ![256, 96]⟩
abbrev S1x256x96 : Shape := ⟨3, ![1, 256, 96]⟩

abbrev nBuf : Space → Nat
  | .hbm => 8
  | .vmem => 8
  | .smem => 0
  | _ => 0

abbrev bufTy : (tb : Table) → Fin (tcTables nBuf tb) → BufTy
  | .hbm, ⟨0, _⟩ => ⟨S8x256x96, .bf16⟩
  | .hbm, ⟨1, _⟩ => ⟨S256x96, .f32⟩
  | .hbm, ⟨2, _⟩ => ⟨S256x96, .f32⟩
  | .hbm, ⟨3, _⟩ => ⟨S256x96, .f32⟩
  | .hbm, ⟨4, _⟩ => ⟨S256x96, .f32⟩
  | .hbm, ⟨5, _⟩ => ⟨S256x96, .f32⟩
  | .hbm, ⟨6, _⟩ => ⟨S256x96, .f32⟩
  | .hbm, ⟨7, _⟩ => ⟨S256x96, .f32⟩
  | .local _ .vmem, ⟨0, _⟩ => ⟨S8x256x96, .bf16⟩
  | .local _ .vmem, ⟨1, _⟩ => ⟨S256x96, .f32⟩
  | .local _ .vmem, ⟨2, _⟩ => ⟨S256x96, .f32⟩
  | .local _ .vmem, ⟨3, _⟩ => ⟨S256x96, .f32⟩
  | .local _ .vmem, ⟨4, _⟩ => ⟨S256x96, .f32⟩
  | .local _ .vmem, ⟨5, _⟩ => ⟨S256x96, .f32⟩
  | .local _ .vmem, ⟨6, _⟩ => ⟨S256x96, .f32⟩
  | .local _ .vmem, ⟨7, _⟩ => ⟨S256x96, .f32⟩
  | _, _ => ⟨S8x256x96, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x256x96 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x96 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x96 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x96 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x96 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== ReferenceAdamUqIdeal.lean ====
abbrev S8x256x96 : Shape := ⟨3, ![8, 256, 96]⟩
abbrev S256x96 : Shape := ⟨2, ![256, 96]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x256x96, .bf16⟩
  | .hbm, ⟨1, _⟩ => ⟨S256x96, .f32⟩
  | .hbm, ⟨2, _⟩ => ⟨S256x96, .f32⟩
  | .hbm, ⟨3, _⟩ => ⟨S256x96, .f32⟩
  | .hbm, ⟨4, _⟩ => ⟨S8x256x96, .f32⟩
  | .hbm, ⟨5, _⟩ => ⟨S_, .f32⟩
  | .hbm, ⟨6, _⟩ => ⟨S256x96, .f32⟩
  | .hbm, ⟨7, _⟩ => ⟨S_, .f32⟩
  | .hbm, ⟨8, _⟩ => ⟨S256x96, .f32⟩
  | .hbm, ⟨9, _⟩ => ⟨S256x96, .f32⟩
  | .hbm, ⟨10, _⟩ => ⟨S_, .f32⟩
  | .hbm, ⟨11, _⟩ => ⟨S256x96, .f32⟩
  | .hbm, ⟨12, _⟩ => ⟨S256x96, .f32⟩
  | .hbm, ⟨13, _⟩ => ⟨S256x96, .f32⟩
  | .hbm, ⟨14, _⟩ => ⟨S_, .f32⟩
  | .hbm, ⟨15, _⟩ => ⟨S256x96, .f32⟩
  | .hbm, ⟨16, _⟩ => ⟨S256x96, .f32⟩
  | .hbm, ⟨17, _⟩ => ⟨S256x96, .f32⟩
  | .hbm, ⟨18, _⟩ => ⟨S_, .f32⟩
  | .hbm, ⟨19, _⟩ => ⟨S256x96, .f32⟩
  | .hbm, ⟨20, _⟩ => ⟨S256x96, .f32⟩
  | .hbm, ⟨21, _⟩ => ⟨S256x96, .f32⟩
  | .hbm, ⟨22, _⟩ => ⟨S_, .f32⟩
  | .hbm, ⟨23, _⟩ => ⟨S256x96, .f32⟩
  | .hbm, ⟨24, _⟩ => ⟨S256x96, .f32⟩
  | .hbm, ⟨25, _⟩ => ⟨S_, .f32⟩
  | .hbm, ⟨26, _⟩ => ⟨S256x96, .f32⟩
  | .hbm, ⟨27, _⟩ => ⟨S256x96, .f32⟩
  | .hbm, ⟨28, _⟩ => ⟨S256x96, .f32⟩
  | .hbm, ⟨29, _⟩ => ⟨S_, .f32⟩
  | .hbm, ⟨30, _⟩ => ⟨S256x96, .f32⟩
  | .hbm, ⟨31, _⟩ => ⟨S256x96, .f32⟩
  | .hbm, ⟨32, _⟩ => ⟨S256x96, .f32⟩
  | .hbm, ⟨33, _⟩ => ⟨S_, .f32⟩
  | .hbm, ⟨34, _⟩ => ⟨S256x96, .f32⟩
  | .hbm, ⟨35, _⟩ => ⟨S256x96, .f32⟩
  | .hbm, ⟨36, _⟩ => ⟨S256x96, .f32⟩
  | .hbm, ⟨37, _⟩ => ⟨S_, .f32⟩
  | .hbm, ⟨38, _⟩ => ⟨S256x96, .f32⟩
  | .hbm, ⟨39, _⟩ => ⟨S256x96, .f32⟩
  | _, _ => ⟨S8x256x96, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== KernelAdamUkv.lean ====
abbrev S8x128x128 : Shape := ⟨3, ![8, 128, 128]⟩
abbrev S128x128 : Shape := ⟨2, ![128, 128]⟩
abbrev S1x128x128 : Shape := ⟨3, ![1, 128, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x128x128, .bf16⟩
  | .hbm, ⟨1, _⟩ => ⟨S128x128, .f32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S128x128, .f32⟩
  | .local _ .vmem, ⟨0, _⟩ => ⟨S8x128x128, .bf16⟩
  | .local _ .vmem, ⟨1, _⟩ => ⟨S128x128, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | _, _ => ⟨S8x128x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== ReferenceAdamUkvIdeal.lean ====
abbrev S8x128x128 : Shape := ⟨3, ![8, 128, 128]⟩
abbrev S128x128 : Shape := ⟨2, ![128, 128]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x128x128, .bf16⟩
  | .hbm, ⟨1, _⟩ => ⟨S128x128, .f32⟩
  | .hbm, ⟨2, _⟩ => ⟨S128x128, .f32⟩
  | .hbm, ⟨3, _⟩ => ⟨S128x128, .f32⟩
  | .hbm, ⟨4, _⟩ => ⟨S8x128x128, .f32⟩
  | .hbm, ⟨5, _⟩ => ⟨S_, .f32⟩
  | .hbm, ⟨6, _⟩ => ⟨S128x128, .f32⟩
  | .hbm, ⟨7, _⟩ => ⟨S_, .f32⟩
  | .hbm, ⟨8, _⟩ => ⟨S128x128, .f32⟩
  | .hbm, ⟨9, _⟩ => ⟨S128x128, .f32⟩
  | .hbm, ⟨10, _⟩ => ⟨S_, .f32⟩
  | .hbm, ⟨11, _⟩ => ⟨S128x128, .f32⟩
  | .hbm, ⟨12, _⟩ => ⟨S128x128, .f32⟩
  | .hbm, ⟨13, _⟩ => ⟨S128x128, .f32⟩
  | .hbm, ⟨14, _⟩ => ⟨S_, .f32⟩
  | .hbm, ⟨15, _⟩ => ⟨S128x128, .f32⟩
  | .hbm, ⟨16, _⟩ => ⟨S128x128, .f32⟩
  | .hbm, ⟨17, _⟩ => ⟨S128x128, .f32⟩
  | .hbm, ⟨18, _⟩ => ⟨S_, .f32⟩
  | .hbm, ⟨19, _⟩ => ⟨S128x128, .f32⟩
  | .hbm, ⟨20, _⟩ => ⟨S128x128, .f32⟩
  | .hbm, ⟨21, _⟩ => ⟨S128x128, .f32⟩
  | .hbm, ⟨22, _⟩ => ⟨S_, .f32⟩
  | .hbm, ⟨23, _⟩ => ⟨S128x128, .f32⟩
  | .hbm, ⟨24, _⟩ => ⟨S128x128, .f32⟩
  | .hbm, ⟨25, _⟩ => ⟨S_, .f32⟩
  | .hbm, ⟨26, _⟩ => ⟨S128x128, .f32⟩
  | .hbm, ⟨27, _⟩ => ⟨S128x128, .f32⟩
  | .hbm, ⟨28, _⟩ => ⟨S128x128, .f32⟩
  | .hbm, ⟨29, _⟩ => ⟨S_, .f32⟩
  | .hbm, ⟨30, _⟩ => ⟨S128x128, .f32⟩
  | .hbm, ⟨31, _⟩ => ⟨S128x128, .f32⟩
  | .hbm, ⟨32, _⟩ => ⟨S128x128, .f32⟩
  | .hbm, ⟨33, _⟩ => ⟨S_, .f32⟩
  | .hbm, ⟨34, _⟩ => ⟨S128x128, .f32⟩
  | .hbm, ⟨35, _⟩ => ⟨S128x128, .f32⟩
  | .hbm, ⟨36, _⟩ => ⟨S128x128, .f32⟩
  | .hbm, ⟨37, _⟩ => ⟨S_, .f32⟩
  | .hbm, ⟨38, _⟩ => ⟨S128x128, .f32⟩
  | .hbm, ⟨39, _⟩ => ⟨S128x128, .f32⟩
  | _, _ => ⟨S8x128x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== KernelAdamOut.lean ====
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S8x128x1024, .bf16⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== ReferenceAdamOutIdeal.lean ====
abbrev S8x128x1024 : Shape := ⟨3, ![8, 128, 1024]⟩
abbrev S128x1024 : Shape := ⟨2, ![128, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S8x128x1024, .f32⟩
  | .hbm, ⟨5, _⟩ => ⟨S_, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S_, .f32⟩
  | .hbm, ⟨11, _⟩ => ⟨S128x1024, .f32⟩
  | .hbm, ⟨12, _⟩ => ⟨S128x1024, .f32⟩
  | .hbm, ⟨13, _⟩ => ⟨S128x1024, .f32⟩
  | .hbm, ⟨14, _⟩ => ⟨S_, .f32⟩
  | .hbm, ⟨15, _⟩ => ⟨S128x1024, .f32⟩
  | .hbm, ⟨16, _⟩ => ⟨S128x1024, .f32⟩
  | .hbm, ⟨17, _⟩ => ⟨S128x1024, .f32⟩
  | .hbm, ⟨18, _⟩ => ⟨S_, .f32⟩
  | .hbm, ⟨19, _⟩ => ⟨S128x1024, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S_, .f32⟩
  | .hbm, ⟨26, _⟩ => ⟨S128x1024, .f32⟩
  | .hbm, ⟨27, _⟩ => ⟨S128x1024, .f32⟩
  | .hbm, ⟨28, _⟩ => ⟨S128x1024, .f32⟩
  | .hbm, ⟨29, _⟩ => ⟨S_, .f32⟩
  | .hbm, ⟨30, _⟩ => ⟨S128x1024, .f32⟩
  | .hbm, ⟨31, _⟩ => ⟨S128x1024, .f32⟩
  | .hbm, ⟨32, _⟩ => ⟨S128x1024, .f32⟩
  | .hbm, ⟨33, _⟩ => ⟨S_, .f32⟩
  | .hbm, ⟨34, _⟩ => ⟨S128x1024, .f32⟩
  | .hbm, ⟨35, _⟩ => ⟨S128x1024, .f32⟩
  | .hbm, ⟨36, _⟩ => ⟨S128x1024, .f32⟩
  | .hbm, ⟨37, _⟩ => ⟨S_, .f32⟩
  | .hbm, ⟨38, _⟩ => ⟨S128x1024, .f32⟩
  | .hbm, ⟨39, _⟩ => ⟨S128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== KernelAdamScan.lean ====
abbrev S8x128x512 : Shape := ⟨3, ![8, 128, 512]⟩
abbrev S128x512 : Shape := ⟨2, ![128, 512]⟩
abbrev S1x128x512 : Shape := ⟨3, ![1, 128, 512]⟩

abbrev nBuf : Space → Nat
  | .hbm => 8
  | .vmem => 8
  | .smem => 0
  | _ => 0

abbrev bufTy : (tb : Table) → Fin (tcTables nBuf tb) → BufTy
  | .hbm, ⟨0, _⟩ => ⟨S8x128x512, .bf16⟩
  | .hbm, ⟨1, _⟩ => ⟨S128x512, .f32⟩
  | .hbm, ⟨2, _⟩ => ⟨S128x512, .f32⟩
  | .hbm, ⟨3, _⟩ => ⟨S128x512, .f32⟩
  | .hbm, ⟨4, _⟩ => ⟨S128x512, .f32⟩
  | .hbm, ⟨5, _⟩ => ⟨S128x512, .f32⟩
  | .hbm, ⟨6, _⟩ => ⟨S128x512, .f32⟩
  | .hbm, ⟨7, _⟩ => ⟨S128x512, .f32⟩
  | .local _ .vmem, ⟨0, _⟩ => ⟨S8x128x512, .bf16⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | _, _ => ⟨S8x128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== ReferenceAdamScanIdeal.lean ====
abbrev S8x128x512 : Shape := ⟨3, ![8, 128, 512]⟩
abbrev S128x512 : Shape := ⟨2, ![128, 512]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x128x512, .bf16⟩
  | .hbm, ⟨1, _⟩ => ⟨S128x512, .f32⟩
  | .hbm, ⟨2, _⟩ => ⟨S128x512, .f32⟩
  | .hbm, ⟨3, _⟩ => ⟨S128x512, .f32⟩
  | .hbm, ⟨4, _⟩ => ⟨S8x128x512, .f32⟩
  | .hbm, ⟨5, _⟩ => ⟨S_, .f32⟩
  | .hbm, ⟨6, _⟩ => ⟨S128x512, .f32⟩
  | .hbm, ⟨7, _⟩ => ⟨S_, .f32⟩
  | .hbm, ⟨8, _⟩ => ⟨S128x512, .f32⟩
  | .hbm, ⟨9, _⟩ => ⟨S128x512, .f32⟩
  | .hbm, ⟨10, _⟩ => ⟨S_, .f32⟩
  | .hbm, ⟨11, _⟩ => ⟨S128x512, .f32⟩
  | .hbm, ⟨12, _⟩ => ⟨S128x512, .f32⟩
  | .hbm, ⟨13, _⟩ => ⟨S128x512, .f32⟩
  | .hbm, ⟨14, _⟩ => ⟨S_, .f32⟩
  | .hbm, ⟨15, _⟩ => ⟨S128x512, .f32⟩
  | .hbm, ⟨16, _⟩ => ⟨S128x512, .f32⟩
  | .hbm, ⟨17, _⟩ => ⟨S128x512, .f32⟩
  | .hbm, ⟨18, _⟩ => ⟨S_, .f32⟩
  | .hbm, ⟨19, _⟩ => ⟨S128x512, .f32⟩
  | .hbm, ⟨20, _⟩ => ⟨S128x512, .f32⟩
  | .hbm, ⟨21, _⟩ => ⟨S128x512, .f32⟩
  | .hbm, ⟨22, _⟩ => ⟨S_, .f32⟩
  | .hbm, ⟨23, _⟩ => ⟨S128x512, .f32⟩
  | .hbm, ⟨24, _⟩ => ⟨S128x512, .f32⟩
  | .hbm, ⟨25, _⟩ => ⟨S_, .f32⟩
  | .hbm, ⟨26, _⟩ => ⟨S128x512, .f32⟩
  | .hbm, ⟨27, _⟩ => ⟨S128x512, .f32⟩
  | .hbm, ⟨28, _⟩ => ⟨S128x512, .f32⟩
  | .hbm, ⟨29, _⟩ => ⟨S_, .f32⟩
  | .hbm, ⟨30, _⟩ => ⟨S128x512, .f32⟩
  | .hbm, ⟨31, _⟩ => ⟨S128x512, .f32⟩
  | .hbm, ⟨32, _⟩ => ⟨S128x512, .f32⟩
  | .hbm, ⟨33, _⟩ => ⟨S_, .f32⟩
  | .hbm, ⟨34, _⟩ => ⟨S128x512, .f32⟩
  | .hbm, ⟨35, _⟩ => ⟨S128x512, .f32⟩
  | .hbm, ⟨36, _⟩ => ⟨S128x512, .f32⟩
  | .hbm, ⟨37, _⟩ => ⟨S_, .f32⟩
  | .hbm, ⟨38, _⟩ => ⟨S128x512, .f32⟩
  | .hbm, ⟨39, _⟩ => ⟨S128x512, .f32⟩
  | _, _ => ⟨S8x128x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== KernelAdamGlu.lean ====
abbrev S8x512x256 : Shape := ⟨3, ![8, 512, 256]⟩
abbrev S512x256 : Shape := ⟨2, ![512, 256]⟩
abbrev S8x256x256 : Shape := ⟨3, ![8, 256, 256]⟩
abbrev S256x256 : Shape := ⟨2, ![256, 256]⟩
abbrev S1x256x256 : Shape := ⟨3, ![1, 256, 256]⟩

abbrev nBuf : Space → Nat
  | .hbm => 8
  | .vmem => 16
  | .smem => 0
  | _ => 0

abbrev bufTy : (tb : Table) → Fin (tcTables nBuf tb) → BufTy
  | .hbm, ⟨0, _⟩ => ⟨S8x512x256, .bf16⟩
  | .hbm, ⟨1, _⟩ => ⟨S512x256, .f32⟩
  | .hbm, ⟨2, _⟩ => ⟨S512x256, .f32⟩
  | .hbm, ⟨3, _⟩ => ⟨S512x256, .f32⟩
  | .hbm, ⟨4, _⟩ => ⟨S512x256, .f32⟩
  | .hbm, ⟨5, _⟩ => ⟨S512x256, .f32⟩
  | .hbm, ⟨6, _⟩ => ⟨S512x256, .f32⟩
  | .hbm, ⟨7, _⟩ => ⟨S512x256, .f32⟩
  | .local _ .vmem, ⟨0, _⟩ => ⟨S8x256x256, .bf16⟩
  | .local _ .vmem, ⟨1, _⟩ => ⟨S8x256x256, .bf16⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | _, _ => ⟨S8x512x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceAdamGluIdeal.lean ====
abbrev S8x512x256 : Shape := ⟨3, ![8, 512, 256]⟩
abbrev S512x256 : Shape := ⟨2, ![512, 256]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x512x256, .bf16⟩
  | .hbm, ⟨1, _⟩ => ⟨S512x256, .f32⟩
  | .hbm, ⟨2, _⟩ => ⟨S512x256, .f32⟩
  | .hbm, ⟨3, _⟩ => ⟨S512x256, .f32⟩
  | .hbm, ⟨4, _⟩ => ⟨S8x512x256, .f32⟩
  | .hbm, ⟨5, _⟩ => ⟨S_, .f32⟩
  | .hbm, ⟨6, _⟩ => ⟨S512x256, .f32⟩
  | .hbm, ⟨7, _⟩ => ⟨S_, .f32⟩
  | .hbm, ⟨8, _⟩ => ⟨S512x256, .f32⟩
  | .hbm, ⟨9, _⟩ => ⟨S512x256, .f32⟩
  | .hbm, ⟨10, _⟩ => ⟨S_, .f32⟩
  | .hbm, ⟨11, _⟩ => ⟨S512x256, .f32⟩
  | .hbm, ⟨12, _⟩ => ⟨S512x256, .f32⟩
  | .hbm, ⟨13, _⟩ => ⟨S512x256, .f32⟩
  | .hbm, ⟨14, _⟩ => ⟨S_, .f32⟩
  | .hbm, ⟨15, _⟩ => ⟨S512x256, .f32⟩
  | .hbm, ⟨16, _⟩ => ⟨S512x256, .f32⟩
  | .hbm, ⟨17, _⟩ => ⟨S512x256, .f32⟩
  | .hbm, ⟨18, _⟩ => ⟨S_, .f32⟩
  | .hbm, ⟨19, _⟩ => ⟨S512x256, .f32⟩
  | .hbm, ⟨20, _⟩ => ⟨S512x256, .f32⟩
  | .hbm, ⟨21, _⟩ => ⟨S512x256, .f32⟩
  | .hbm, ⟨22, _⟩ => ⟨S_, .f32⟩
  | .hbm, ⟨23, _⟩ => ⟨S512x256, .f32⟩
  | .hbm, ⟨24, _⟩ => ⟨S512x256, .f32⟩
  | .hbm, ⟨25, _⟩ => ⟨S_, .f32⟩
  | .hbm, ⟨26, _⟩ => ⟨S512x256, .f32⟩
  | .hbm, ⟨27, _⟩ => ⟨S512x256, .f32⟩
  | .hbm, ⟨28, _⟩ => ⟨S512x256, .f32⟩
  | .hbm, ⟨29, _⟩ => ⟨S_, .f32⟩
  | .hbm, ⟨30, _⟩ => ⟨S512x256, .f32⟩
  | .hbm, ⟨31, _⟩ => ⟨S512x256, .f32⟩
  | .hbm, ⟨32, _⟩ => ⟨S512x256, .f32⟩
  | .hbm, ⟨33, _⟩ => ⟨S_, .f32⟩
  | .hbm, ⟨34, _⟩ => ⟨S512x256, .f32⟩
  | .hbm, ⟨35, _⟩ => ⟨S512x256, .f32⟩
  | .hbm, ⟨36, _⟩ => ⟨S512x256, .f32⟩
  | .hbm, ⟨37, _⟩ => ⟨S_, .f32⟩
  | .hbm, ⟨38, _⟩ => ⟨S512x256, .f32⟩
  | .hbm, ⟨39, _⟩ => ⟨S512x256, .f32⟩
  | _, _ => ⟨S8x512x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Proof.Payload.lean ====
/- What one block of the kernel's body computes, element by element, over the extended reals.

   Throughout, `k` is a row of the keys, `q` of the queries, `v` of the values and `o` of the output's cotangent, each of 128 lanes; `l` is the
   query row's log-sum (in powers of two) and `d` its row sum of cotangent times output. `wt` is the softmax weight of one key at one query and
   `gr` the gradient of its score before the scale. A score that the causal mask replaces by minus infinity weighs 0, so its gradient is 0. -/
module

public import proofs.«01_k».proof.Proof.Gen.KernelIdeal.Skeleton
public import Idealize.ShloMosaic.Lib.Pointwise

@[expose] public section

set_option maxRecDepth 16384

noncomputable section

namespace Cert.Proof

open Idealize.ShloMosaic Idealize.ShloMosaic.Pointwise
open Cert.KernelIdeal Cert.KernelIdeal.Gen

/-- `1 / √96`, the scores' scale. -/
def scl : ℝ := (Real.sqrt 96)⁻¹

/-- The scores' scale in powers of two. -/
def scl2 : ℝ := (Real.sqrt 96)⁻¹ * (Real.log 2)⁻¹

theorem named_scale : (Named.named κ "scale" 0x3DD105EC#32 : Ideal .f32) = (scl : EReal) :=
  IdealRules.named_const.ideal_named_scalar _ _ _ _ rfl

theorem named_scale2 : (Named.named κ "scale2" 0x3E16C740#32 : Ideal .f32) = (scl2 : EReal) :=
  IdealRules.named_const.ideal_named_scalar _ _ _ _ rfl

/-- The weight of a key at a query. -/
def wt (k q : Fin 128 → EReal) (l : EReal) : EReal := Ideal.exp2 ((∑ x, k x * q x) * (scl2 : EReal) - l)

/-- The gradient of a key's score at a query, before the scale. -/
def gr (k v q o : Fin 128 → EReal) (l d : EReal) : EReal := wt k q l * (∑ x, v x * o x - d)

theorem scl2_pos : 0 < scl2 :=
  mul_pos (inv_pos.mpr (Real.sqrt_pos.mpr (by norm_num))) (inv_pos.mpr (Real.log_pos (by norm_num)))

/-- A score of minus infinity has weight zero, whatever the log-sum. -/
theorem exp2_masked (l : EReal) : Ideal.exp2 ((⊥ : EReal) * (scl2 : EReal) - l) = 0 := by
  rw [EReal.bot_mul_coe_of_pos scl2_pos, sub_eq_add_neg, EReal.bot_add]
  rfl

theorem neg_inf : Ideal.ofBits FTy.f32 0xFF800000#32 = (⊥ : EReal) := by
  simp [Ideal.ofBits, Ideal.ieee]

/-- The causal mask of a diagonal block: the row's position is at most the column's. -/
theorem select_le {α : Type} (r s : Fin 512) (a b : α) :
    Scalar.select (IntOp.cmpi CmpIPredicate.sle (BitVec.ofNat 32 r.val) (BitVec.ofNat 32 s.val)) a b = if r.val ≤ s.val then a else b := by
  have hr := r.isLt
  have hs := s.isLt
  have e : (BitVec.ofNat 32 r.val).sle (BitVec.ofNat 32 s.val) = decide (r.val ≤ s.val) := by
    rw [BitVec.sle_eq_decide, BitVec.toInt_eq_toNat_of_lt (by simp; omega), BitVec.toInt_eq_toNat_of_lt (by simp; omega)]
    simp only [BitVec.toNat_ofNat]
    rw [Nat.mod_eq_of_lt (by omega), Nat.mod_eq_of_lt (by omega)]
    simp
  by_cases h : r.val ≤ s.val <;> simp [Scalar.select, IntOp.cmpi, e, h]

/-! ## A whole chunk of 1024 query rows -/

section Chunk

variable (l d : Vec Ideal S1x1x1x1024 .f32) (q k v : Vec Ideal S1024x128 .bf16) (o acc : Vec Ideal S1024x128 .f32)
  (ds : FVec Ideal S1024x1024 .bf16)

theorem pay7 (r s : Fin 1024) :
    k0_pay7 (F := Ideal) l q k (ix2 r s) = wt (fun x => k (ix2 r x)) (fun x => q (ix2 s x)) (l (ix4 0 0 0 s)) := by
  pointwise [k0_pay7, k0_pay5]
  rw [named_scale2]; rfl

theorem pay8 (r s : Fin 1024) :
    k0_pay8 (F := Ideal) l d q o k v (ix2 r s)
      = gr (fun x => k (ix2 r x)) (fun x => v (ix2 r x)) (fun x => q (ix2 s x)) (fun x => o (ix2 s x)) (l (ix4 0 0 0 s)) (d (ix4 0 0 0 s)) := by
  pointwise [k0_pay8, k0_pay6]
  exact congrArg (· * _) (pay7 l q k r s)

theorem pay9 (r : Fin 1024) (c : Fin 128) :
    k0_pay9 (F := Ideal) l q o k acc (ix2 r c)
      = acc (ix2 r c) + ∑ s : Fin 1024, wt (fun x => k (ix2 r x)) (fun x => q (ix2 s x)) (l (ix4 0 0 0 s)) * o (ix2 s c) := by
  pointwise [k0_pay9, k0_pay6]
  exact congrArg (acc (ix2 r c) + ·) (Finset.sum_congr rfl fun s _ => congrArg (· * _) (pay7 l q k r s))

theorem pay18 (r : Fin 1024) (c : Fin 128) :
    k0_pay18 (F := Ideal) (k0_pay5 (F := Ideal) q) ds acc (ix2 r c) = acc (ix2 r c) + ∑ s : Fin 1024, ds (ix2 r s) * q (ix2 s c) := by
  pointwise [k0_pay18, k0_pay5]

theorem pay19 (s : Fin 1024) (c : Fin 128) :
    k0_pay19 (F := Ideal) ds acc k (ix2 s c) = acc (ix2 s c) + ∑ r : Fin 1024, ds (ix2 r s) * k (ix2 r c) := by
  pointwise [k0_pay19]

theorem pay3 (r : Fin 1024) (c : Fin 128) : k0_pay3 (F := Ideal) acc (ix2 r c) = acc (ix2 r c) * (scl : EReal) := by
  pointwise [k0_pay3]
  rw [named_scale]

theorem pay4 (a : Vec Ideal S8192x128 .f32) (r : Fin 8192) (c : Fin 128) :
    k0_pay4 (F := Ideal) a (ix2 r c) = a (ix2 r c) * (scl : EReal) := by
  pointwise [k0_pay4]
  rw [named_scale]

theorem pay15 (r : Fin 1024) (c : Fin 128) : k0_pay15 (F := Ideal) (ix2 r c) = 0 := by
  pointwise [k0_pay15]

theorem pay16 (r : Fin 1024) (c : Fin 128) : k0_pay16 (F := Ideal) (ix2 r c) = 0 := by
  pointwise [k0_pay16]

theorem pay17 (r : Fin 8192) (c : Fin 128) : k0_pay17 (F := Ideal) (ix2 r c) = 0 := by
  pointwise [k0_pay17]

end Chunk

/-! ## The three blocks of 512 keys by 512 queries at the diagonal -/

section Diagonal

variable (l d : Vec Ideal S1x1x1x512 .f32) (q k v : Vec Ideal S512x128 .bf16) (o acc : Vec Ideal S512x128 .f32)
  (ds : FVec Ideal S512x512 .bf16)

/-- The first block, masked: the weight. -/
theorem pay25 (r s : Fin 512) :
    k0_pay25 (F := Ideal) (k0_pay22 (F := Ideal) l) q k (ix2 r s)
      = if r.val ≤ s.val then wt (fun x => k (ix2 r x)) (fun x => q (ix2 s x)) (l (ix4 0 0 0 s)) else 0 := by
  pointwise [k0_pay25, k0_pay23, k0_pay22]
  rw [named_scale2, select_le, neg_inf]
  by_cases h : r.val ≤ s.val
  · rw [if_pos h, if_pos h]; rfl
  · rw [if_neg h, if_neg h]; exact exp2_masked _

theorem pay26 (r s : Fin 512) :
    k0_pay26 (F := Ideal) (k0_pay22 (F := Ideal) l) d q o k v (ix2 r s)
      = if r.val ≤ s.val then gr (fun x => k (ix2 r x)) (fun x => v (ix2 r x)) (fun x => q (ix2 s x)) (fun x => o (ix2 s x)) (l (ix4 0 0 0 s)) (d (ix4 0 0 0 s)) else 0 := by
  pointwise [k0_pay26, k0_pay24]
  refine (congrArg (· * _) (pay25 l q k r s)).trans ?_
  by_cases h : r.val ≤ s.val
  · rw [if_pos h, if_pos h]; rfl
  · rw [if_neg h, if_neg h, zero_mul]

theorem pay27 (r : Fin 512) (c : Fin 128) :
    k0_pay27 (F := Ideal) (k0_pay22 (F := Ideal) l) q o k acc (ix2 r c)
      = acc (ix2 r c) + ∑ s : Fin 512, (if r.val ≤ s.val then wt (fun x => k (ix2 r x)) (fun x => q (ix2 s x)) (l (ix4 0 0 0 s)) else 0) * o (ix2 s c) := by
  pointwise [k0_pay27, k0_pay24]
  exact congrArg (acc (ix2 r c) + ·) (Finset.sum_congr rfl fun s _ => congrArg (· * _) (pay25 l q k r s))

theorem pay29 (r : Fin 512) (c : Fin 128) :
    k0_pay29 (F := Ideal) (k0_pay28 (F := Ideal) (k0_pay22 (F := Ideal) l) d q o k v acc) (ix2 r c)
      = acc (ix2 r c) + ∑ s : Fin 512, (if r.val ≤ s.val then gr (fun x => k (ix2 r x)) (fun x => v (ix2 r x)) (fun x => q (ix2 s x)) (fun x => o (ix2 s x)) (l (ix4 0 0 0 s)) (d (ix4 0 0 0 s)) else 0) * q (ix2 s c) := by
  pointwise [k0_pay29, k0_pay28, k0_pay23]
  exact congrArg (acc (ix2 r c) + ·) (Finset.sum_congr rfl fun s _ => congrArg (· * _) (pay26 l d q k v o r s))

theorem pay30 (s : Fin 512) (c : Fin 128) :
    k0_pay30 (F := Ideal) ds acc k (ix2 s c) = acc (ix2 s c) + ∑ r : Fin 512, ds (ix2 r s) * k (ix2 r c) := by
  pointwise [k0_pay30]

/-- The block above the diagonal, unmasked: the weight. -/
theorem pay34 (r s : Fin 512) :
    k0_pay34 (F := Ideal) l q k (ix2 r s) = wt (fun x => k (ix2 r x)) (fun x => q (ix2 s x)) (l (ix4 0 0 0 s)) := by
  pointwise [k0_pay34, k0_pay32]
  rw [named_scale2]; rfl

theorem pay35 (r s : Fin 512) :
    k0_pay35 (F := Ideal) (k0_pay31 (F := Ideal) d) (k0_pay33 (F := Ideal) o) (k0_pay34 (F := Ideal) l q k) v (ix2 r s)
      = gr (fun x => k (ix2 r x)) (fun x => v (ix2 r x)) (fun x => q (ix2 s x)) (fun x => o (ix2 s x)) (l (ix4 0 0 0 s)) (d (ix4 0 0 0 s)) := by
  pointwise [k0_pay35, k0_pay33, k0_pay31]
  exact congrArg (· * _) (pay34 l q k r s)

theorem pay36 (r : Fin 512) (c : Fin 128) :
    k0_pay36 (F := Ideal) (k0_pay33 (F := Ideal) o) (k0_pay34 (F := Ideal) l q k) acc (ix2 r c)
      = acc (ix2 r c) + ∑ s : Fin 512, wt (fun x => k (ix2 r x)) (fun x => q (ix2 s x)) (l (ix4 0 0 0 s)) * o (ix2 s c) := by
  pointwise [k0_pay36, k0_pay33]
  exact congrArg (acc (ix2 r c) + ·) (Finset.sum_congr rfl fun s _ => congrArg (· * _) (pay34 l q k r s))

theorem pay37 (r : Fin 512) (c : Fin 128) :
    k0_pay37 (F := Ideal) (k0_pay31 (F := Ideal) d) (k0_pay32 (F := Ideal) q) (k0_pay33 (F := Ideal) o) (k0_pay34 (F := Ideal) l q k) v acc (ix2 r c)
      = acc (ix2 r c) + ∑ s : Fin 512, gr (fun x => k (ix2 r x)) (fun x => v (ix2 r x)) (fun x => q (ix2 s x)) (fun x => o (ix2 s x)) (l (ix4 0 0 0 s)) (d (ix4 0 0 0 s)) * q (ix2 s c) := by
  pointwise [k0_pay37, k0_pay32]
  exact congrArg (acc (ix2 r c) + ·) (Finset.sum_congr rfl fun s _ => congrArg (· * _) (pay35 l d q k v o r s))

theorem pay38 (k' : Vec Ideal S512x128 .bf16) (s : Fin 512) (c : Fin 128) :
    k0_pay38 (F := Ideal) (k0_pay31 (F := Ideal) d) (k0_pay33 (F := Ideal) o) (k0_pay34 (F := Ideal) l q k) v acc k' (ix2 s c)
      = acc (ix2 s c) + ∑ r : Fin 512, gr (fun x => k (ix2 r x)) (fun x => v (ix2 r x)) (fun x => q (ix2 s x)) (fun x => o (ix2 s x)) (l (ix4 0 0 0 s)) (d (ix4 0 0 0 s)) * k' (ix2 r c) := by
  pointwise [k0_pay38]
  exact congrArg (acc (ix2 s c) + ·) (Finset.sum_congr rfl fun r _ => congrArg (· * _) (pay35 l d q k v o r s))

/-- The last block, masked: the weight. -/
theorem pay41 (r s : Fin 512) :
    k0_pay41 (F := Ideal) l q k (ix2 r s)
      = if r.val ≤ s.val then wt (fun x => k (ix2 r x)) (fun x => q (ix2 s x)) (l (ix4 0 0 0 s)) else 0 := by
  pointwise [k0_pay41, k0_pay39]
  rw [named_scale2, select_le, neg_inf]
  by_cases h : r.val ≤ s.val
  · rw [if_pos h, if_pos h]; rfl
  · rw [if_neg h, if_neg h]; exact exp2_masked _

theorem pay42 (r s : Fin 512) :
    k0_pay42 (F := Ideal) l d q o k v (ix2 r s)
      = if r.val ≤ s.val then gr (fun x => k (ix2 r x)) (fun x => v (ix2 r x)) (fun x => q (ix2 s x)) (fun x => o (ix2 s x)) (l (ix4 0 0 0 s)) (d (ix4 0 0 0 s)) else 0 := by
  pointwise [k0_pay42, k0_pay40]
  refine (congrArg (· * _) (pay41 l q k r s)).trans ?_
  by_cases h : r.val ≤ s.val
  · rw [if_pos h, if_pos h]; rfl
  · rw [if_neg h, if_neg h, zero_mul]

theorem pay43 (r : Fin 512) (c : Fin 128) :
    k0_pay43 (F := Ideal) l q o k acc (ix2 r c)
      = acc (ix2 r c) + ∑ s : Fin 512, (if r.val ≤ s.val then wt (fun x => k (ix2 r x)) (fun x => q (ix2 s x)) (l (ix4 0 0 0 s)) else 0) * o (ix2 s c) := by
  pointwise [k0_pay43, k0_pay40]
  exact congrArg (acc (ix2 r c) + ·) (Finset.sum_congr rfl fun s _ => congrArg (· * _) (pay41 l q k r s))

theorem pay1 (r : Fin 512) (c : Fin 128) :
    k0_pay1 (F := Ideal) (k0_pay39 (F := Ideal) q) ds acc (ix2 r c) = acc (ix2 r c) + ∑ s : Fin 512, ds (ix2 r s) * q (ix2 s c) := by
  pointwise [k0_pay1, k0_pay39]

theorem pay2 (s : Fin 512) (c : Fin 128) :
    k0_pay2 (F := Ideal) ds acc k (ix2 s c) = acc (ix2 s c) + ∑ r : Fin 512, ds (ix2 r s) * k (ix2 r c) := by
  pointwise [k0_pay2]

end Diagonal

end Cert.Proof

end
-- ==== Proof.Reals.lean ====
/- Causal attention and its gradient over the real numbers, and the two forms in which the programs compute them.

   `rP` is the softmax weight of key `j` at query `i`, `rD` the cotangent of that weight, and `rG` the gradient of the score before the scale:
   the weight times what its cotangent exceeds the row's mean `rM` by. -/
module

public import proofs.«01_k».proof.Proof.Payload

@[expose] public section

noncomputable section

namespace Cert.Proof

open Idealize.ShloMosaic

variable (q k : Fin 8192 → Fin 8 → Fin 96 → ℝ) (v o : Fin 8192 → Fin 8 → Fin 64 → ℝ)

/-- The scaled score. -/
def rS (h : Fin 8) (i j : Fin 8192) : ℝ := (∑ d, q i h d * k j h d) * scl

/-- The score's exponential, zero for a key after the query. -/
def rE (h : Fin 8) (i j : Fin 8192) : ℝ := if j ≤ i then Real.exp (rS q k h i j) else 0

def rL (h : Fin 8) (i : Fin 8192) : ℝ := ∑ j, rE q k h i j

def rP (h : Fin 8) (i j : Fin 8192) : ℝ := rE q k h i j / rL q k h i

def rD (h : Fin 8) (i j : Fin 8192) : ℝ := ∑ d, v j h d * o i h d

def rM (h : Fin 8) (i : Fin 8192) : ℝ := ∑ j, rP q k h i j * rD v o h i j

def rG (h : Fin 8) (i j : Fin 8192) : ℝ := rP q k h i j * (rD v o h i j - rM q k v o h i)

theorem rE_nonneg (h : Fin 8) (i j : Fin 8192) : 0 ≤ rE q k h i j := by
  unfold rE
  split
  · exact (Real.exp_pos _).le
  · exact le_rfl

theorem rL_pos (h : Fin 8) (i : Fin 8192) : 0 < rL q k h i :=
  Finset.sum_pos' (fun j _ => rE_nonneg q k h i j) ⟨i, Finset.mem_univ i, by rw [rE, if_pos le_rfl]; exact Real.exp_pos _⟩

theorem rP_masked (h : Fin 8) {i j : Fin 8192} (hij : ¬j ≤ i) : rP q k h i j = 0 := by
  rw [rP, rE, if_neg hij, zero_div]

theorem rG_masked (h : Fin 8) {i j : Fin 8192} (hij : ¬j ≤ i) : rG q k v o h i j = 0 := by
  rw [rG, rP_masked q k h hij, zero_mul]

theorem scl_pos : 0 < scl := inv_pos.mpr (Real.sqrt_pos.mpr (by norm_num))

/-- A common factor of the exponentials leaves the weight as it is. -/
theorem weight_shift (h : Fin 8) (i j : Fin 8192) {c : ℝ} (hc : 0 < c) :
    rE q k h i j * c / (rL q k h i * c) = rP q k h i j := by
  rw [rP, mul_div_mul_right _ _ hc.ne']

/-- The gradient by the quotient's rule: the numerator's part and the denominator's, over exponentials that share a factor. -/
theorem grad_quotient (h : Fin 8) (i j : Fin 8192) {c : ℝ} (hc : 0 < c) :
    (rD v o h i j / (rL q k h i * c) + -(∑ j', rD v o h i j' * (1 / (rL q k h i * c) ^ 2) * (rE q k h i j' * c))) * (rE q k h i j * c)
      = rG q k v o h i j := by
  have hl := (rL_pos q k h i).ne'
  have e : (∑ j', rD v o h i j' * (1 / (rL q k h i * c) ^ 2) * (rE q k h i j' * c)) = rM q k v o h i / (rL q k h i * c) := by
    rw [rM, Finset.sum_div]
    refine Finset.sum_congr rfl fun j' _ => ?_
    rw [rP]
    field_simp
  rw [e, rG, rP]
  field_simp
  ring

/-- The weight from the row's log-sum, in powers of two. -/
theorem weight_log (h : Fin 8) {i j : Fin 8192} (hij : j ≤ i) :
    Real.rpow 2 ((∑ d, q i h d * k j h d) * scl2 - Real.log (rL q k h i) / Real.log 2) = rP q k h i j := by
  have h2 : Real.log 2 ≠ 0 := (Real.log_pos (by norm_num)).ne'
  have hl := rL_pos q k h i
  have e (x : ℝ) : Real.rpow 2 x = Real.exp (Real.log 2 * x) := Real.rpow_def_of_pos (by norm_num) x
  rw [e, rP, rE, if_pos hij, rS, scl2, scl]
  rw [show Real.log 2 * ((∑ d, q i h d * k j h d) * ((√96)⁻¹ * (Real.log 2)⁻¹) - Real.log (rL q k h i) / Real.log 2)
      = (∑ d, q i h d * k j h d) * (√96)⁻¹ - Real.log (rL q k h i) by field_simp, Real.exp_sub, Real.exp_log hl]

/-- The row's mean of cotangents is the row sum of the output's cotangent times the output. -/
theorem mean_eq (h : Fin 8) (i : Fin 8192) : ∑ d, o i h d * (∑ j, v j h d * rP q k h i j) = rM q k v o h i := by
  simp only [rM, rD, Finset.mul_sum]
  rw [Finset.sum_comm]
  exact Finset.sum_congr rfl fun j _ => Finset.sum_congr rfl fun d _ => by ring

/-! ### The three gradients, each row padded to 128 lanes -/

/-- Entry `x` of a row of `n` numbers padded with zeros. -/
def padded {n : ℕ} (f : Fin n → ℝ) (x : ℕ) : ℝ := if hx : x < n then f ⟨x, hx⟩ else 0

def gradQ (i : Fin 8192) (h : Fin 8) (x : ℕ) : ℝ := padded (fun d => ∑ j, rG q k v o h i j * scl * k j h d) x

def gradK (j : Fin 8192) (h : Fin 8) (x : ℕ) : ℝ := padded (fun d => ∑ i, rG q k v o h i j * scl * q i h d) x

def gradV (j : Fin 8192) (h : Fin 8) (x : ℕ) : ℝ := padded (fun d => ∑ i, o i h d * rP q k h i j) x

/-! ### Real numbers among the extended reals -/

theorem coe_sum {ι : Type} [Fintype ι] (f : ι → ℝ) : ((∑ x, f x : ℝ) : EReal) = ∑ x, (f x : EReal) :=
  map_sum (⟨⟨Real.toEReal, rfl⟩, EReal.coe_add⟩ : ℝ →+ EReal) f Finset.univ

theorem div_real (x : ℝ) {y : ℝ} (hy : y ≠ 0) : Ideal.div (x : EReal) (y : EReal) = ((x / y : ℝ) : EReal) := by
  rw [Ideal.div_coe hy, ← EReal.coe_mul, mul_one_div]

theorem log_real {x : ℝ} (hx : 0 < x) : Ideal.log (x : EReal) = (Real.log x : EReal) := by
  rw [Ideal.log_coe, if_neg (not_le.mpr hx)]

theorem sqrt_real {x : ℝ} (hx : 0 ≤ x) : Ideal.sqrt (x : EReal) = (Real.sqrt x : EReal) := by
  rw [Ideal.sqrt_coe, if_neg (not_lt.mpr hx)]

end Cert.Proof
-- ==== Proof.Reference.lean ====
/- The reference's values at an index, as real numbers, for arguments that are real. -/
module

public import proofs.«01_k».proof.Proof.Reals
public import proofs.«01_k».proof.Proof.Gen.ReferenceIdeal.Read
public import Idealize.ShloMosaic.Lib.KernelVsHost
public import Idealize.ShloMosaic.Lib.Pointwise

@[expose] public section

set_option maxRecDepth 16384

noncomputable section

namespace Cert.Proof

open Idealize.ShloMosaic
open Cert.ReferenceIdeal Cert.ReferenceIdeal.Gen Cert.ReferenceIdeal.Read

/-- The array of extended reals with the given real entries. -/
abbrev coe3 {n : ℕ} (f : Fin 8192 → Fin 8 → Fin n → ℝ) : (⟨3, ![8192, 8, n]⟩ : Shape).Idx → EReal := fun i => (f (i 0) (i 1) (i 2) : EReal)

theorem word_zero : Ideal.ofBits FTy.f32 0x00000000#32 = 0 := by simp [Ideal.ofBits, Ideal.ieee]

theorem word_one : Ideal.ofBits FTy.f32 0x3F800000#32 = ((1 : ℝ) : EReal) := by
  simp [Ideal.ofBits, Ideal.ieee, -EReal.coe_mul, ← EReal.coe_mul]
  norm_num

theorem word_96 : Ideal.ofBits FTy.f32 0x42C00000#32 = ((96 : ℝ) : EReal) := by
  simp [Ideal.ofBits, Ideal.ieee, -EReal.coe_mul, ← EReal.coe_mul]
  norm_num

theorem word_bot : Ideal.ofBits FTy.f32 0xFF800000#32 = ⊥ := by simp [Ideal.ofBits, Ideal.ieee]

/-- The causal mask: the key's position is at most the query's. -/
theorem select_causal {α : Type} (r s : Fin 8192) (a b : α) :
    Scalar.select (IntOp.cmpi CmpIPredicate.sle (BitVec.ofNat 32 r.val) (BitVec.ofNat 32 s.val)) a b = if r ≤ s then a else b := by
  have hr := r.isLt
  have hs := s.isLt
  have e : (BitVec.ofNat 32 r.val).sle (BitVec.ofNat 32 s.val) = decide (r.val ≤ s.val) := by
    rw [BitVec.sle_eq_decide, BitVec.toInt_eq_toNat_of_lt (by simp; omega), BitVec.toInt_eq_toNat_of_lt (by simp; omega)]
    simp only [BitVec.toNat_ofNat]
    rw [Nat.mod_eq_of_lt (by omega), Nat.mod_eq_of_lt (by omega)]
    simp
  have e' : (r ≤ s) = (r.val ≤ s.val) := rfl
  by_cases h : r.val ≤ s.val <;> simp [Scalar.select, IntOp.cmpi, e, e', h]

theorem ref_root (i : S_.Idx) : val_main_v1 (F := Ideal) i = (Real.sqrt 96 : EReal) := by
  rw [val_main_v1_apply, val_main_cst_apply]
  show Ideal.sqrt (Ideal.ofBits FTy.f32 0x42C00000#32) = _
  rw [word_96, sqrt_real (by norm_num)]

variable (q k : Fin 8192 → Fin 8 → Fin 96 → ℝ) (v o : Fin 8192 → Fin 8 → Fin 64 → ℝ)

/-- A masked score. -/
theorem ref_score (i : S8x8192x8192.Idx) :
    val_main_v11_0 (F := Ideal) (coe3 q) (coe3 k) i = if i 2 ≤ i 1 then ((rS q k (i 0) (i 1) (i 2) : ℝ) : EReal) else ⊥ := by
  rw [val_main_v11_0_apply, val_main_v11_1_apply, val_main_v10_apply, val_main_v9_apply, val_main_v7_apply, val_main_v8_apply, val_main_v5_apply,
    val_main_v6_apply, val_main_v4_apply, val_main_v4_apply, val_main_v3_apply, val_main_v2_apply, ref_root, val_main_call0_v2_apply,
    val_main_call0_v0_apply, val_main_cst_0_apply, val_main_v0_apply]
  refine (select_causal (i 2) (i 1) _ _).trans ?_
  show (if i 2 ≤ i 1 then Ideal.div (∑ x : Fin 96, ((q (i 1) (i 0) x : ℝ) : EReal) * ((k (i 2) (i 0) x : ℝ) : EReal)) (Real.sqrt 96 : ℝ)
    else Ideal.ofBits FTy.f32 0xFF800000#32) = _
  rw [word_bot]
  simp only [← EReal.coe_mul, ← coe_sum]
  rw [div_real _ (Real.sqrt_pos.mpr (by norm_num)).ne', div_eq_mul_inv]
  rfl

/-- A maximum of reals and minus infinities, one of them real, is real. -/
theorem fold_max_real {f : Fin 8192 → EReal} (htop : ∀ j, f j ≠ ⊤) {j₀ : Fin 8192} (h₀ : f j₀ ≠ ⊥) :
    ∃ M : ℝ, Finset.univ.fold max ⊥ f = M := by
  have e : Finset.univ.fold max ⊥ f = Finset.univ.sup f := rfl
  obtain ⟨j, -, hj⟩ := Finset.exists_mem_eq_sup Finset.univ ⟨j₀, Finset.mem_univ _⟩ f
  refine ⟨(Finset.univ.sup f).toReal, ?_⟩
  rw [e, EReal.coe_toReal]
  · rw [hj]; exact htop j
  · intro hb
    exact h₀ (le_bot_iff.mp (hb ▸ Finset.le_sup (Finset.mem_univ j₀)))

theorem ref_max_exists (i : S8x8192.Idx) : ∃ M : ℝ, val_main_v12 (F := Ideal) (coe3 q) (coe3 k) i = M := by
  unfold val_main_v12
  have e := Host.reduce_eq_fold_single (FloatOps.maximumf (F := Ideal) (φ := .f32)) (val_main_v11_0 (F := Ideal) (coe3 q) (coe3 k))
    (val_main_cst_1 (F := Ideal)) reducesTo_S8x8192x8192_S8x8192_d2 (by decide) h_S_ i
  refine Exists.imp (fun M hM => e.trans hM) ?_
  rw [val_main_cst_1_apply]
  have hb : FloatOps.ofBits (F := Ideal) .f32 0xFF800000#32 = (⊥ : EReal) := word_bot
  rw [hb]
  refine fold_max_real (f := fun j : Fin 8192 => _) (fun j => ?_) (j₀ := i 1) ?_
  · show val_main_v11_0 (F := Ideal) (coe3 q) (coe3 k) _ ≠ ⊤
    rw [ref_score]
    split
    · exact EReal.coe_ne_top _
    · exact bot_ne_top
  · show val_main_v11_0 (F := Ideal) (coe3 q) (coe3 k) _ ≠ ⊥
    rw [ref_score]
    exact (if_pos (Fin.le_def.mpr (le_of_eq rfl))).trans_ne (EReal.coe_ne_bot _)

/-- A row's greatest score. -/
def rowMax (h : Fin 8) (a : Fin 8192) : ℝ := (ref_max_exists q k (ix2 h a)).choose

theorem ref_max (i : S8x8192.Idx) : val_main_v12 (F := Ideal) (coe3 q) (coe3 k) i = (rowMax q k (i 0) (i 1) : EReal) := by
  have e : i = ix2 (i 0) (i 1) := eq_ix2 i
  exact (congrArg (val_main_v12 (F := Ideal) (coe3 q) (coe3 k)) e).trans (ref_max_exists q k (ix2 (i 0) (i 1))).choose_spec

/-- What a row's exponentials are scaled by. -/
def rowC (h : Fin 8) (a : Fin 8192) : ℝ := Real.exp (-rowMax q k h a)

theorem rowC_pos (h : Fin 8) (a : Fin 8192) : 0 < rowC q k h a := Real.exp_pos _

/-- A row's sum of scaled exponentials. -/
theorem rowL_pos (h : Fin 8) (a : Fin 8192) : 0 < rL q k h a * rowC q k h a := mul_pos (rL_pos q k h a) (rowC_pos q k h a)

/-- The exponential of a masked score less the row's greatest. -/
theorem exp_shift (h : Fin 8) (a b : Fin 8192) :
    Ideal.exp ((if b ≤ a then ((rS q k h a b : ℝ) : EReal) else ⊥) - (rowMax q k h a : EReal)) = ((rE q k h a b * rowC q k h a : ℝ) : EReal) := by
  unfold rE rowC
  split
  · rw [← EReal.coe_sub, Ideal.exp_coe, ← Real.exp_add, sub_eq_add_neg]
  · rw [EReal.bot_sub, zero_mul]
    exact Ideal.exp_bot

theorem ref_exp (i : S8x8192x8192.Idx) :
    val_main_v32 (F := Ideal) (coe3 q) (coe3 k) i = ((rE q k (i 0) (i 1) (i 2) * rowC q k (i 0) (i 1) : ℝ) : EReal) := by
  rw [val_main_v32_apply, val_main_v31_apply, val_main_v30_apply, val_main_v29_apply, val_main_v19_apply, val_main_v18_apply, val_main_cst_3_apply,
    ref_score, ref_max]
  have hb : FloatOps.maximumf (F := Ideal) (φ := .f32) (FloatOps.ofBits .f32 0xFF800000#32) (rowMax q k (i 0) (i 1) : EReal)
      = (rowMax q k (i 0) (i 1) : EReal) := by
    show max (Ideal.ofBits .f32 0xFF800000#32) _ = _
    rw [word_bot]
    exact max_bot_left _
  refine Eq.trans ?_ (exp_shift q k (i 0) (i 1) (i 2))
  exact congrArg (fun z => Ideal.exp (_ - z)) hb

theorem ref_sum (i : S8x8192.Idx) :
    val_main_v33 (F := Ideal) (coe3 q) (coe3 k) i = ((rL q k (i 0) (i 1) * rowC q k (i 0) (i 1) : ℝ) : EReal) := by
  rw [val_main_v33_apply, val_main_cst_9_apply]
  simp only [ref_exp]
  show Ideal.ofBits FTy.f32 0x00000000#32 + ∑ j : Fin 8192, ((rE q k (i 0) (i 1) j * rowC q k (i 0) (i 1) : ℝ) : EReal) = _
  rw [word_zero, zero_add, ← coe_sum, ← Finset.sum_mul]
  rfl

/-- The softmax weight. -/
theorem ref_weight (i : S8x8192x8192.Idx) :
    val_main_v36 (F := Ideal) (coe3 q) (coe3 k) i = ((rP q k (i 0) (i 1) (i 2) : ℝ) : EReal) := by
  rw [val_main_v36_apply, val_main_v35_apply, val_main_v34_apply, ref_exp, ref_sum]
  refine (div_real _ (rowL_pos q k (i 0) (i 1)).ne').trans ?_
  rw [weight_shift q k (i 0) (i 1) (i 2) (rowC_pos q k (i 0) (i 1))]

theorem ref_cot (i : S8x8192x8192.Idx) :
    val_main_v43 (F := Ideal) (coe3 v) (coe3 o) i = ((rD v o (i 0) (i 1) (i 2) : ℝ) : EReal) := by
  rw [val_main_v43_apply]
  simp only [val_main_v42_apply]
  show ∑ d : Fin 64, ((o (i 1) (i 0) d : ℝ) : EReal) * ((v (i 2) (i 0) d : ℝ) : EReal) = _
  simp only [← EReal.coe_mul, ← coe_sum, rD, mul_comm]

/-- The reciprocal of a row sum's square. -/
theorem ref_square (i : S8x8192x1.Idx) :
    val_main_v39 (F := Ideal) (coe3 q) (coe3 k) i = ((1 / (rL q k (i 0) (i 1) * rowC q k (i 0) (i 1)) ^ 2 : ℝ) : EReal) := by
  rw [val_main_v39_apply, val_main_v38_apply, val_main_cst_10_apply, val_main_v37_apply, val_main_v34_apply, ref_sum]
  have hl := (rowL_pos q k (i 0) (i 1)).ne'
  show Ideal.div (Ideal.ofBits FTy.f32 0x3F800000#32)
    (((rL q k (i 0) (i 1) * rowC q k (i 0) (i 1) : ℝ) : EReal) * ((rL q k (i 0) (i 1) * rowC q k (i 0) (i 1) : ℝ) : EReal)) = _
  rw [word_one, ← EReal.coe_mul, div_real _ (mul_ne_zero hl hl), pow_two]

/-- The denominator's part of the gradient: the row's sum, negated. -/
theorem ref_part (i : S8x8192.Idx) :
    val_main_v54 (F := Ideal) (coe3 q) (coe3 k) (coe3 v) (coe3 o) i
      = ((-∑ j, rD v o (i 0) (i 1) j * (1 / (rL q k (i 0) (i 1) * rowC q k (i 0) (i 1)) ^ 2) * (rE q k (i 0) (i 1) j * rowC q k (i 0) (i 1)) : ℝ) : EReal) := by
  have e : idx_main_v50 (idx_main_v54 i 0) = i := by
    have h1 : (i 1).val < 8192 := (i 1).isLt
    refine (eq_ix2 _).trans ((congrArg₂ ix2 (Fin.ext ?_) (Fin.ext ?_)).trans (eq_ix2 i).symm)
    · show (((i 0).val * 8192 + (i 1).val) * 1 + 0) / 8192 = (i 0).val
      omega
    · show (((i 0).val * 8192 + (i 1).val) * 1 + 0) % 8192 = (i 1).val
      omega
  rw [val_main_v54_apply, val_main_cst_12_apply, Fin.sum_univ_one, val_main_v51_apply, val_main_v50_apply, e, val_main_v49_apply, val_main_cst_11_apply]
  simp only [val_main_v48_apply, val_main_v47_apply, val_main_v46_apply, ref_cot, ref_square, ref_exp]
  show Ideal.ofBits FTy.f32 0x00000000#32 + -(Ideal.ofBits FTy.f32 0x00000000#32 + ∑ j : Fin 8192, ((rD v o (i 0) (i 1) j : ℝ) : EReal)
    * ((1 / (rL q k (i 0) (i 1) * rowC q k (i 0) (i 1)) ^ 2 : ℝ) : EReal) * ((rE q k (i 0) (i 1) j * rowC q k (i 0) (i 1) : ℝ) : EReal)) = _
  rw [word_zero, zero_add, zero_add]
  simp only [← EReal.coe_mul, ← coe_sum, ← EReal.coe_neg]

/-- The gradient of a scaled score. -/
theorem ref_grad (i : S8x8192x8192.Idx) :
    val_main_v60 (F := Ideal) (coe3 q) (coe3 k) (coe3 v) (coe3 o) i = ((rG q k v o (i 0) (i 1) (i 2) * scl : ℝ) : EReal) := by
  have hl := (rowL_pos q k (i 0) (i 1)).ne'
  rw [val_main_v60_apply, val_main_v59_apply, ref_root, val_main_v58_apply, val_main_v11_1_apply, val_main_v10_apply, val_main_v9_apply,
    val_main_v7_apply, val_main_v8_apply, val_main_v5_apply, val_main_v6_apply, val_main_v4_apply, val_main_v4_apply, val_main_v57_apply,
    val_main_v56_apply, val_main_v53_apply, val_main_v52_apply, val_main_v34_apply, val_main_v55_apply, val_main_call1_v0_apply,
    val_main_call1_cst_apply, ref_sum, ref_cot, ref_part, ref_exp]
  refine (congrArg (fun z => Ideal.div z (Real.sqrt 96 : ℝ)) (select_causal (i 2) (i 1) _ _)).trans ?_
  have e : (if i 2 ≤ i 1 then (Ideal.div ((rD v o (i 0) (i 1) (i 2) : ℝ) : EReal) ((rL q k (i 0) (i 1) * rowC q k (i 0) (i 1) : ℝ) : EReal)
      + ((-∑ j, rD v o (i 0) (i 1) j * (1 / (rL q k (i 0) (i 1) * rowC q k (i 0) (i 1)) ^ 2) * (rE q k (i 0) (i 1) j * rowC q k (i 0) (i 1)) : ℝ) : EReal))
      * ((rE q k (i 0) (i 1) (i 2) * rowC q k (i 0) (i 1) : ℝ) : EReal) else Ideal.ofBits FTy.f32 0x00000000#32)
      = ((rG q k v o (i 0) (i 1) (i 2) : ℝ) : EReal) := by
    split
    · rw [div_real _ hl, ← EReal.coe_add, ← EReal.coe_mul, grad_quotient q k v o (i 0) (i 1) (i 2) (rowC_pos q k (i 0) (i 1))]
    · rename_i hm
      rw [word_zero, rG_masked q k v o (i 0) hm, EReal.coe_zero]
  refine (congrArg (fun z => Ideal.div z (Real.sqrt 96 : ℝ)) e).trans ?_
  rw [div_real _ (Real.sqrt_pos.mpr (by norm_num)).ne', div_eq_mul_inv]
  rfl

/-- A padded array at an index. -/
theorem pad_coe3 {n m : ℕ} (f : Fin 8192 → Fin 8 → Fin n → ℝ) (x : (⟨3, ![8192, 8, n]⟩ : Shape).Idx → EReal) (hx : x = coe3 f)
    {u : Shape} (z : u.Idx → EReal) (hp : (⟨3, ![8192, 8, n]⟩ : Shape).Pads (![0, 0, 0] : Fin 3 → ℕ) ![0, 0, m] ![0, 0, 0] ⟨3, ![8192, 8, 128]⟩)
    (hu : 0 < u.numel) (hz : z (Shape.Idx.first hu) = 0) (j : (⟨3, ![8192, 8, 128]⟩ : Shape).Idx) :
    pad ⟨3, ![8192, 8, 128]⟩ ![0, 0, 0] ![0, 0, m] ![0, 0, 0] x z hp hu j = ((padded (f (j 0) (j 1)) (j 2).val : ℝ) : EReal) := by
  unfold padded
  split
  · rename_i h
    rw [pad_apply_of_inside _ _ _ x z hp hu j (ix3 (j 0) (j 1) ⟨(j 2).val, h⟩) (fun a => by
      match a with
      | ⟨0, _⟩ => show (j 0).val = 0 + (j 0).val * (0 + 1); omega
      | ⟨1, _⟩ => show (j 1).val = 0 + (j 1).val * (0 + 1); omega
      | ⟨2, _⟩ => show (j 2).val = 0 + (j 2).val * (0 + 1); omega), hx]
    rfl
  · rename_i h
    rw [pad_apply_of_not_inside _ _ _ x z hp hu j 2 (fun hin => h (by
      have := hin.2.2
      change ((j 2).val - 0) / (0 + 1) < n at this
      omega)), hz, EReal.coe_zero]

theorem pad_word : FloatOps.sitofp (F := Ideal) .f32 (0#32 : BitVec 32) = (0 : EReal) := by
  show (((0#32 : BitVec 32).toInt : ℝ) : EReal) = 0
  simp

/-- The queries' gradient. -/
theorem ref_dq (i : S8192x1024.Idx) (h : Fin 8) (hh : h.val = (i 1).val / 128) :
    val_main_v66 (F := Ideal) (coe3 q) (coe3 k) (coe3 v) (coe3 o) i = ((gradQ q k v o (i 0) h ((i 1).val % 128) : ℝ) : EReal) := by
  have h1 : (i 1).val < 1024 := (i 1).isLt
  have hx : val_main_v64 (F := Ideal) (coe3 q) (coe3 k) (coe3 v) (coe3 o) = coe3 (fun a h d => ∑ j, rG q k v o h a j * scl * k j h d) := funext fun j => by
    rw [val_main_v64_apply, val_main_v63_apply]
    simp only [ref_grad]
    show ∑ b : Fin 8192, ((rG q k v o (j 1) (j 0) b * scl : ℝ) : EReal) * ((k b (j 1) (j 2) : ℝ) : EReal) = _
    simp only [← EReal.coe_mul, ← coe_sum]
  rw [val_main_v66_apply]
  unfold val_main_v65
  refine (pad_coe3 _ _ hx _ _ _ pad_word _).trans ?_
  have e0 : (idx_main_v66 i 0 : Fin 8192) = i 0 := Fin.ext (by show ((i 0).val * 1024 + (i 1).val) / 1024 = (i 0).val; omega)
  have e1 : (idx_main_v66 i 1 : Fin 8) = h := Fin.ext (by show ((i 0).val * 1024 + (i 1).val) / 128 % 8 = h.val; omega)
  have e2 : (idx_main_v66 i 2).val = (i 1).val % 128 := by show ((i 0).val * 1024 + (i 1).val) % 128 = _; omega
  rw [e0, e1, e2]
  rfl

/-- The keys' gradient. -/
theorem ref_dk (i : S8192x1024.Idx) (h : Fin 8) (hh : h.val = (i 1).val / 128) :
    val_main_v68 (F := Ideal) (coe3 q) (coe3 k) (coe3 v) (coe3 o) i = ((gradK q k v o (i 0) h ((i 1).val % 128) : ℝ) : EReal) := by
  have h1 : (i 1).val < 1024 := (i 1).isLt
  have hx : val_main_v62 (F := Ideal) (coe3 q) (coe3 k) (coe3 v) (coe3 o) = coe3 (fun b h d => ∑ a, rG q k v o h a b * scl * q a h d) := funext fun j => by
    rw [val_main_v62_apply, val_main_v61_apply]
    simp only [ref_grad]
    show ∑ a : Fin 8192, ((rG q k v o (j 1) a (j 0) * scl : ℝ) : EReal) * ((q a (j 1) (j 2) : ℝ) : EReal) = _
    simp only [← EReal.coe_mul, ← coe_sum]
  rw [val_main_v68_apply]
  unfold val_main_v67
  refine (pad_coe3 _ _ hx _ _ _ pad_word _).trans ?_
  have e0 : (idx_main_v68 i 0 : Fin 8192) = i 0 := Fin.ext (by show ((i 0).val * 1024 + (i 1).val) / 1024 = (i 0).val; omega)
  have e1 : (idx_main_v68 i 1 : Fin 8) = h := Fin.ext (by show ((i 0).val * 1024 + (i 1).val) / 128 % 8 = h.val; omega)
  have e2 : (idx_main_v68 i 2).val = (i 1).val % 128 := by show ((i 0).val * 1024 + (i 1).val) % 128 = _; omega
  rw [e0, e1, e2]
  rfl

/-- The values' gradient. -/
theorem ref_dv (i : S8192x1024.Idx) (h : Fin 8) (hh : h.val = (i 1).val / 128) :
    val_main_v70 (F := Ideal) (coe3 q) (coe3 k) (coe3 o) i = ((gradV q k o (i 0) h ((i 1).val % 128) : ℝ) : EReal) := by
  have h1 : (i 1).val < 1024 := (i 1).isLt
  have hx : val_main_v45 (F := Ideal) (coe3 q) (coe3 k) (coe3 o) = coe3 (fun b h d => ∑ a, o a h d * rP q k h a b) := funext fun j => by
    rw [val_main_v45_apply, val_main_v44_apply]
    simp only [val_main_v42_apply, ref_weight]
    show ∑ a : Fin 8192, ((o a (j 1) (j 2) : ℝ) : EReal) * ((rP q k (j 1) a (j 0) : ℝ) : EReal) = _
    simp only [← EReal.coe_mul, ← coe_sum]
  rw [val_main_v70_apply]
  unfold val_main_v69
  refine (pad_coe3 _ _ hx _ _ _ pad_word _).trans ?_
  have e0 : (idx_main_v70 i 0 : Fin 8192) = i 0 := Fin.ext (by show ((i 0).val * 1024 + (i 1).val) / 1024 = (i 0).val; omega)
  have e1 : (idx_main_v70 i 1 : Fin 8) = h := Fin.ext (by show ((i 0).val * 1024 + (i 1).val) / 128 % 8 = h.val; omega)
  have e2 : (idx_main_v70 i 2).val = (i 1).val % 128 := by show ((i 0).val * 1024 + (i 1).val) % 128 = _; omega
  rw [e0, e1, e2]
  rfl

end Cert.Proof
-- ==== Proof.Host.lean ====
/- What the host computes before the kernel: each query's log-sum, and the row sum of the output's cotangent times the output. -/
module

public import proofs.«01_k».proof.Proof.Reference
public import proofs.«01_k».proof.Proof.Gen.KernelIdeal.Value
public import Idealize.ShloMosaic.Lib.Pipeline.Value

@[expose] public section

set_option maxRecDepth 16384

noncomputable section

namespace Cert.Proof

open Idealize.ShloMosaic
open Cert.KernelIdeal Cert.KernelIdeal.Gen

section Terms

variable (x0 x1 : S8192x8x96.Idx → EReal) (x2 x3 : S8192x8x64.Idx → EReal)

/-- The masked scores. -/
def hS : FVec Ideal S8x8192x8192 .f32 := Cert.ReferenceIdeal.Read.val_main_v11_0 (F := Ideal) x0 x1

/-- The row maxima. -/
def hM : FVec Ideal S8x8192x1 .f32 :=
  broadcastInDim S8x8192x1 ![0, 1] bcast_S8x8192_S8x8192x1_0_1 (Cert.ReferenceIdeal.Read.val_main_v12 (F := Ideal) x0 x1)

/-- The exponentials. -/
def hE : FVec Ideal S8x8192x8192 .f32 :=
  Host.exp (subf (hS x0 x1) (broadcastInDim S8x8192x8192 ![0, 1, 2] bcast_S8x8192x1_S8x8192x8192_0_1_2 (hM x0 x1)))

/-- The row sums. -/
def hL : FVec Ideal S8x8192x1 .f32 :=
  broadcastInDim S8x8192x1 ![0, 1] bcast_S8x8192_S8x8192x1_0_1
    (Host.reduceAdd (hE x0 x1) (constant S_ .f32 0x00000000#32) reducesTo_S8x8192x8192_S8x8192_d2 h_S_)

/-- The log-sums. -/
def hLse : FVec Ideal S8x8192 .f32 := shapeCast S8x8192 (addf (hM x0 x1) (Host.log (hL x0 x1))) shapeCasts_S8x8192x1_S8x8192

/-- The weights. -/
def hW : FVec Ideal S8x8192x8192 .f32 :=
  Host.divf (hE x0 x1) (broadcastInDim S8x8192x8192 ![0, 1, 2] bcast_S8x8192x1_S8x8192x8192_0_1_2 (hL x0 x1))

/-- The output before its axes are exchanged. -/
def hO : FVec Ideal S8x64x8192 .f32 := Host.dotGeneral (F := Ideal) (φ₁ := .f32) (φ₂ := .f32) dot_S8192x8x64_S8x8192x8192_S8x64x8192_0_2_2_1_1_0 none x2 (hW x0 x1)

/-- The row sums of the output's cotangent times the output. -/
def hD : FVec Ideal S8x8192 .f32 :=
  transpose S8x8192 [1, 0]
    (Host.reduceAdd (mulf x3 (transpose S8192x8x64 [2, 0, 1] (hO x0 x1 x2) transposes_S8x64x8192_S8192x8x64_2_0_1)) (constant S_ .f32 0x00000000#32)
      reducesTo_S8192x8x64_S8192x8_d2 h_S_) transposes_S8192x8_S8x8192_1_0

end Terms

theorem column_apply (y : S8x8192.Idx → EReal) (i : S8x8192x1.Idx) :
    broadcastInDim S8x8192x1 ![0, 1] bcast_S8x8192_S8x8192x1_0_1 y i = y (ix2 (i 0) (i 1)) :=
  broadcastInDim_apply _ bcast_S8x8192_S8x8192x1_0_1 y i (ix2 (i 0) (i 1)) (fun a => match a with
    | ⟨0, _⟩ => by show (i 0).val = if (8 : Nat) = 1 then 0 else (i 0).val; rw [if_neg (by decide)]
    | ⟨1, _⟩ => by show (i 1).val = if (8192 : Nat) = 1 then 0 else (i 1).val; rw [if_neg (by decide)])

theorem spread_apply (y : S8x8192x1.Idx → EReal) (i : S8x8192x8192.Idx) :
    broadcastInDim S8x8192x8192 ![0, 1, 2] bcast_S8x8192x1_S8x8192x8192_0_1_2 y i = y (ix3 (i 0) (i 1) 0) :=
  broadcastInDim_apply _ bcast_S8x8192x1_S8x8192x8192_0_1_2 y i (ix3 (i 0) (i 1) 0) (fun a => match a with
    | ⟨0, _⟩ => by show (i 0).val = if (8 : Nat) = 1 then 0 else (i 0).val; rw [if_neg (by decide)]
    | ⟨1, _⟩ => by show (i 1).val = if (8192 : Nat) = 1 then 0 else (i 1).val; rw [if_neg (by decide)]
    | ⟨2, _⟩ => by show 0 = if (1 : Nat) = 1 then 0 else (i 2).val; rw [if_pos rfl])

/-! ### The product of the values and the weights at an index -/

theorem out_lhs_0 (i : S8x64x8192.Idx) (q : dot_S8192x8x64_S8x8192x8192_S8x64x8192_0_2_2_1_1_0.contr.Idx) :
    (dot_S8192x8x64_S8x8192x8192_S8x64x8192_0_2_2_1_1_0.lhsIdx i q 0).val = (q ⟨0, by decide⟩).val :=
  dot_S8192x8x64_S8x8192x8192_S8x64x8192_0_2_2_1_1_0.lhsIdx_val_of_single rfl i q
theorem out_lhs_1 (i : S8x64x8192.Idx) (q : dot_S8192x8x64_S8x8192x8192_S8x64x8192_0_2_2_1_1_0.contr.Idx) :
    (dot_S8192x8x64_S8x8192x8192_S8x64x8192_0_2_2_1_1_0.lhsIdx i q 1).val = (i 0).val := by
  unfold DotDims.lhsIdx
  rw [dif_pos (show (1 : Fin S8192x8x64.rank) ∈ dot_S8192x8x64_S8x8192x8192_S8x64x8192_0_2_2_1_1_0.lhsBatch by decide)]
  rfl
theorem out_lhs_2 (i : S8x64x8192.Idx) (q : dot_S8192x8x64_S8x8192x8192_S8x64x8192_0_2_2_1_1_0.contr.Idx) :
    (dot_S8192x8x64_S8x8192x8192_S8x64x8192_0_2_2_1_1_0.lhsIdx i q 2).val = (i 1).val := by
  unfold DotDims.lhsIdx
  rw [dif_neg (show ¬(2 : Fin S8192x8x64.rank) ∈ dot_S8192x8x64_S8x8192x8192_S8x64x8192_0_2_2_1_1_0.lhsBatch by decide),
    dif_pos (show (2 : Fin S8192x8x64.rank) ∈ dot_S8192x8x64_S8x8192x8192_S8x64x8192_0_2_2_1_1_0.lhsNonContracting by decide)]
  rfl
theorem out_rhs_0 (i : S8x64x8192.Idx) (q : dot_S8192x8x64_S8x8192x8192_S8x64x8192_0_2_2_1_1_0.contr.Idx) :
    (dot_S8192x8x64_S8x8192x8192_S8x64x8192_0_2_2_1_1_0.rhsIdx i q 0).val = (i 0).val := by
  unfold DotDims.rhsIdx
  rw [dif_pos (show (0 : Fin S8x8192x8192.rank) ∈ dot_S8192x8x64_S8x8192x8192_S8x64x8192_0_2_2_1_1_0.rhsBatch by decide)]
  rfl
theorem out_rhs_1 (i : S8x64x8192.Idx) (q : dot_S8192x8x64_S8x8192x8192_S8x64x8192_0_2_2_1_1_0.contr.Idx) :
    (dot_S8192x8x64_S8x8192x8192_S8x64x8192_0_2_2_1_1_0.rhsIdx i q 1).val = (i 2).val := by
  unfold DotDims.rhsIdx
  rw [dif_neg (show ¬(1 : Fin S8x8192x8192.rank) ∈ dot_S8192x8x64_S8x8192x8192_S8x64x8192_0_2_2_1_1_0.rhsBatch by decide),
    dif_pos (show (1 : Fin S8x8192x8192.rank) ∈ dot_S8192x8x64_S8x8192x8192_S8x64x8192_0_2_2_1_1_0.rhsNonContracting by decide)]
  rfl
theorem out_rhs_2 (i : S8x64x8192.Idx) (q : dot_S8192x8x64_S8x8192x8192_S8x64x8192_0_2_2_1_1_0.contr.Idx) :
    (dot_S8192x8x64_S8x8192x8192_S8x64x8192_0_2_2_1_1_0.rhsIdx i q 2).val = (q ⟨0, by decide⟩).val :=
  dot_S8192x8x64_S8x8192x8192_S8x64x8192_0_2_2_1_1_0.rhsIdx_val_of_single rfl i q

theorem out_apply (x : S8192x8x64.Idx → EReal) (y : S8x8192x8192.Idx → EReal) (i : S8x64x8192.Idx) :
    Host.dotGeneral (F := Ideal) (φ₁ := .f32) (φ₂ := .f32) dot_S8192x8x64_S8x8192x8192_S8x64x8192_0_2_2_1_1_0 none x y i
      = ∑ j : Fin 8192, x (ix3 j (i 0) (i 1)) * y (ix3 (i 0) (i 2) j) := by
  simp only [Host.dotGeneral]
  rw [Ideal.dotGeneral_apply, ← Equiv.sum_comp (ValueIdx.contrEquiv1 dot_S8192x8x64_S8x8192x8192_S8x64x8192_0_2_2_1_1_0 8192 rfl rfl).symm]
  refine Finset.sum_congr rfl fun j _ => ?_
  have hj := ValueIdx.contrEquiv1_symm_val dot_S8192x8x64_S8x8192x8192_S8x64x8192_0_2_2_1_1_0 8192 rfl rfl j
  refine congrArg₂ (· * ·) (congrArg x (funext fun a => Fin.ext ?_)) (congrArg y (funext fun a => Fin.ext ?_))
  · match a with
    | ⟨0, _⟩ => exact (out_lhs_0 _ _).trans hj
    | ⟨1, _⟩ => exact out_lhs_1 _ _
    | ⟨2, _⟩ => exact out_lhs_2 _ _
  · match a with
    | ⟨0, _⟩ => exact out_rhs_0 _ _
    | ⟨1, _⟩ => exact out_rhs_1 _ _
    | ⟨2, _⟩ => exact (out_rhs_2 _ _).trans hj

/-! ### The values over the reals -/

variable (q k : Fin 8192 → Fin 8 → Fin 96 → ℝ) (v o : Fin 8192 → Fin 8 → Fin 64 → ℝ)

theorem hM_real (i : S8x8192x1.Idx) : hM (coe3 q) (coe3 k) i = (rowMax q k (i 0) (i 1) : EReal) := by
  unfold hM
  rw [column_apply]
  exact ref_max q k (ix2 (i 0) (i 1))

theorem hE_real (i : S8x8192x8192.Idx) : hE (coe3 q) (coe3 k) i = ((rE q k (i 0) (i 1) (i 2) * rowC q k (i 0) (i 1) : ℝ) : EReal) := by
  unfold hE
  show Ideal.exp (hS (coe3 q) (coe3 k) i - broadcastInDim S8x8192x8192 ![0, 1, 2] bcast_S8x8192x1_S8x8192x8192_0_1_2 (hM (coe3 q) (coe3 k)) i) = _
  rw [spread_apply, hM_real]
  exact (congrArg (fun z => Ideal.exp (z - _)) (ref_score q k i)).trans (exp_shift q k (i 0) (i 1) (i 2))

theorem hL_real (i : S8x8192x1.Idx) : hL (coe3 q) (coe3 k) i = ((rL q k (i 0) (i 1) * rowC q k (i 0) (i 1) : ℝ) : EReal) := by
  unfold hL
  rw [column_apply]
  simp only [Host.reduceAdd, Ideal.hostReduceAdd_def]
  rw [Ideal.hostReduceAdd_single reducesTo_S8x8192x8192_S8x8192_d2 (by decide)]
  simp only [hE_real]
  show Ideal.ofBits FTy.f32 0x00000000#32 + ∑ j : Fin 8192, ((rE q k (i 0) (i 1) j * rowC q k (i 0) (i 1) : ℝ) : EReal) = _
  rw [word_zero, zero_add, ← coe_sum, ← Finset.sum_mul]
  rfl

/-- The greatest score and the log of the scaled sum make the log of the sum. -/
theorem log_shift (h : Fin 8) (a : Fin 8192) : rowMax q k h a + Real.log (rL q k h a * rowC q k h a) = Real.log (rL q k h a) := by
  rw [Real.log_mul (rL_pos q k h a).ne' (rowC_pos q k h a).ne', rowC, Real.log_exp]
  ring

theorem log_sum (h : Fin 8) (a : Fin 8192) :
    (rowMax q k h a : EReal) + Ideal.log ((rL q k h a * rowC q k h a : ℝ) : EReal) = (Real.log (rL q k h a) : EReal) := by
  rw [log_real (rowL_pos q k h a), ← EReal.coe_add, log_shift]

theorem column_index (y : S8x8192x1.Idx → EReal) (i : S8x8192.Idx) :
    shapeCast S8x8192 y shapeCasts_S8x8192x1_S8x8192 i = y (ix3 (i 0) (i 1) 0) :=
  shapeCast_apply y shapeCasts_S8x8192x1_S8x8192 i (ix3 (i 0) (i 1) 0) (by
    rewrite [Shape.rowMajor_val_three, Shape.rowMajor_val_two]
    have h1 : (i 1).val < 8192 := (i 1).isLt
    show ((i 0).val * 8192 + (i 1).val) * 1 + 0 = (i 0).val * 8192 + (i 1).val
    omega)

theorem hM_at (h : Fin 8) (a : Fin 8192) : hM (coe3 q) (coe3 k) (ix3 h a 0) = (rowMax q k h a : EReal) := hM_real q k (ix3 h a 0)

theorem hL_at (h : Fin 8) (a : Fin 8192) : hL (coe3 q) (coe3 k) (ix3 h a 0) = ((rL q k h a * rowC q k h a : ℝ) : EReal) := hL_real q k (ix3 h a 0)

theorem column_sum (x y : FVec Ideal S8x8192x1 .f32) (i : S8x8192.Idx) :
    shapeCast S8x8192 (addf x (Host.log y)) shapeCasts_S8x8192x1_S8x8192 i = x (ix3 (i 0) (i 1) 0) + Ideal.log (y (ix3 (i 0) (i 1) 0)) := by
  rw [column_index]
  rfl

theorem hLse_real (i : S8x8192.Idx) : hLse (coe3 q) (coe3 k) i = (Real.log (rL q k (i 0) (i 1)) : EReal) :=
  (column_sum _ _ i).trans ((congrArg₂ (fun a b => a + Ideal.log b) (hM_at q k (i 0) (i 1)) (hL_at q k (i 0) (i 1))).trans (log_sum q k (i 0) (i 1)))

theorem hW_real (i : S8x8192x8192.Idx) : hW (coe3 q) (coe3 k) i = ((rP q k (i 0) (i 1) (i 2) : ℝ) : EReal) := by
  unfold hW
  show Ideal.div (hE (coe3 q) (coe3 k) i) (broadcastInDim S8x8192x8192 ![0, 1, 2] bcast_S8x8192x1_S8x8192x8192_0_1_2 (hL (coe3 q) (coe3 k)) i) = _
  rw [spread_apply, hL_real, hE_real]
  refine (div_real _ (rowL_pos q k (i 0) (i 1)).ne').trans ?_
  rw [weight_shift q k (i 0) (i 1) (i 2) (rowC_pos q k (i 0) (i 1))]

theorem hO_real (i : S8x64x8192.Idx) :
    hO (coe3 q) (coe3 k) (coe3 v) i = ((∑ j, v j (i 0) (i 1) * rP q k (i 0) (i 2) j : ℝ) : EReal) := by
  unfold hO
  rw [out_apply]
  simp only [hW_real]
  show ∑ j : Fin 8192, ((v j (i 0) (i 1) : ℝ) : EReal) * ((rP q k (i 0) (i 2) j : ℝ) : EReal) = _
  simp only [← EReal.coe_mul, ← coe_sum]

theorem hD_real (i : S8x8192.Idx) :
    hD (coe3 q) (coe3 k) (coe3 v) (coe3 o) i = ((rM q k v o (i 0) (i 1) : ℝ) : EReal) := by
  unfold hD
  rw [transpose_apply [1, 0] _ transposes_S8192x8_S8x8192_1_0 i (ix2 (i 1) (i 0)) (fun b => match b with
    | ⟨0, _⟩ => rfl
    | ⟨1, _⟩ => rfl)]
  simp only [Host.reduceAdd, Ideal.hostReduceAdd_def]
  rw [Ideal.hostReduceAdd_single reducesTo_S8192x8x64_S8192x8_d2 (by decide)]
  show Ideal.ofBits FTy.f32 0x00000000#32 + ∑ d : Fin 64, ((o (i 1) (i 0) d : ℝ) : EReal)
    * transpose S8192x8x64 [2, 0, 1] (hO (coe3 q) (coe3 k) (coe3 v)) transposes_S8x64x8192_S8192x8x64_2_0_1 _ = _
  rw [word_zero, zero_add]
  have e (d : Fin 64) (j : S8192x8x64.Idx) (h0 : j 0 = i 1) (h1 : j 1 = i 0) (h2 : j 2 = d) :
      transpose S8192x8x64 [2, 0, 1] (hO (coe3 q) (coe3 k) (coe3 v)) transposes_S8x64x8192_S8192x8x64_2_0_1 j
        = ((∑ b, v b (i 0) d * rP q k (i 0) (i 1) b : ℝ) : EReal) := by
    rw [transpose_apply [2, 0, 1] _ transposes_S8x64x8192_S8192x8x64_2_0_1 j (ix3 (j 1) (j 2) (j 0)) (fun b => match b with
      | ⟨0, _⟩ => rfl
      | ⟨1, _⟩ => rfl
      | ⟨2, _⟩ => rfl), hO_real]
    show ((∑ b, v b (j 1) (j 2) * rP q k (j 1) (j 0) b : ℝ) : EReal) = _
    rw [h0, h1, h2]
  refine (Finset.sum_congr rfl fun d _ => congrArg (_ * ·) (e d _ (Fin.ext rfl) (Fin.ext rfl) (Fin.ext rfl))).trans ?_
  simp only [← EReal.coe_mul, ← coe_sum]
  exact congrArg _ (mean_eq q k v o (i 0) (i 1))

end Cert.Proof
-- ==== Proof.Trip.lean ====
/- One pass of the kernel's inner loop over the chunks above the diagonal, and the whole loop: what each accumulator holds afterwards. -/
module

public import proofs.«01_k».proof.Proof.Payload
public import proofs.«01_k».proof.Proof.Gen.KernelIdeal.Loops
public import Idealize.ShloMosaic.Lib.WritesUnit

@[expose] public section

set_option maxRecDepth 16384

noncomputable section

namespace Cert.Proof

open Idealize.ShloMosaic Idealize.ShloMosaic.Pointwise Idealize.ShloMosaic.TcCoe Idealize.ShloMosaic.Tactic
open Cert.KernelIdeal Cert.KernelIdeal.Gen

/-- Row `n` of an array of 128 columns, zero past its end. -/
def row {N : ℕ} (a : (⟨2, ![N, 128]⟩ : Shape).Idx → EReal) (n : ℕ) : Fin 128 → EReal :=
  fun x => if h : n < N then a (ix2 ⟨n, h⟩ x) else 0

/-- Entry `n` of a row of 8192 numbers held as eight chunks of 1024, each repeated along the third axis. -/
def lane (a : S1x8x8x1024.Idx → EReal) (n : ℕ) : EReal :=
  if h : n < 8192 then a (ix4 0 ⟨n / 1024, by omega⟩ 0 ⟨n % 1024, by omega⟩) else 0

theorem row_of_lt {N : ℕ} (a : (⟨2, ![N, 128]⟩ : Shape).Idx → EReal) {n : ℕ} (h : n < N) (c : Fin 128) : row a n c = a (ix2 ⟨n, h⟩ c) := dif_pos h

theorem row_ix {N : ℕ} (a : (⟨2, ![N, 128]⟩ : Shape).Idx → EReal) (r : Fin N) (c : Fin 128) : row a r.val c = a (ix2 r c) := row_of_lt a r.isLt c

/-- A load of whole rows reads the array's rows from the load's first one on. -/
theorem ld_rows {N M : ℕ} {Val : EltTy → Type} {e : EltTy} (a : (⟨2, ![N, 128]⟩ : Shape).Idx → Val e) {off : Fin 2 → ℕ} {inb} {o : ℕ}
    (h : off = ![o, 0]) (r : Fin M) (c : Fin 128) (hN : o + r.val < N) :
    View.ld a (Rect.unit (s := ⟨2, ![N, 128]⟩) off ![M, 128] inb) (ix2 r c) = a (ix2 ⟨o + r.val, hN⟩ c) := by
  subst h
  refine congrArg a (funext fun i => Fin.ext ?_)
  fin_cases i
  · show o + 1 * r.val = o + r.val
    rw [Nat.one_mul]
  · show 0 + 1 * c.val = c.val
    omega

theorem rows_fit {N M o : ℕ} {off : Fin 2 → ℕ} (inb : ∀ a : Fin 2, off a + (![M, 128] : Fin 2 → ℕ) a ≤ (![N, 128] : Fin 2 → ℕ) a)
    (h : off = ![o, 0]) (r : Fin M) : o + r.val < N := by
  subst h
  have := inb 0
  have hr := r.isLt
  simp at this
  omega

variable {κ' : Kind} {sp' : Space}

/-- What a load of a rectangle of a buffer reads. -/
abbrev LD {s : Shape} {e : EltTy} (m : Memref sig κ' sp' s e) (r : Rect s) (f : BufTy.Contents (Elt Ideal) m.view.ty) : r.shape.Idx → Elt Ideal e :=
  m.view.readAt (Elt Ideal) r.toLoadRect f

/-- The same, from a buffer that holds the array `a`, numbers of the wide format. -/
theorem read_rows {N M : ℕ} (m : Memref sig κ' sp' (⟨2, ![N, 128]⟩ : Shape) .f32) (hm : m.IsWhole) (a : (⟨2, ![N, 128]⟩ : Shape).Idx → Elt Ideal .f32)
    {off : Fin 2 → ℕ} {inb} {o : ℕ} (h : off = ![o, 0]) (r : Fin M) (c : Fin 128) :
    m.view.readAt (Elt Ideal) (Rect.unit (s := ⟨2, ![N, 128]⟩) off ![M, 128] inb).toLoadRect (hm.unread a) (ix2 r c) = row a (o + r.val) c := by
  rw [View.readAt_eq_ld, hm.read_unread]
  exact (ld_rows (Val := Elt Ideal) (e := .f32) a h r c (rows_fit inb h r)).trans (row_of_lt a (rows_fit inb h r) c).symm

/-- The same, of the narrow format. -/
theorem read_rows' {N M : ℕ} (m : Memref sig κ' sp' (⟨2, ![N, 128]⟩ : Shape) .bf16) (hm : m.IsWhole) (a : (⟨2, ![N, 128]⟩ : Shape).Idx → Elt Ideal .bf16)
    {off : Fin 2 → ℕ} {inb} {o : ℕ} (h : off = ![o, 0]) (r : Fin M) (c : Fin 128) :
    m.view.readAt (Elt Ideal) (Rect.unit (s := ⟨2, ![N, 128]⟩) off ![M, 128] inb).toLoadRect (hm.unread a) (ix2 r c) = row a (o + r.val) c := by
  rw [View.readAt_eq_ld, hm.read_unread]
  exact (ld_rows (Val := Elt Ideal) (e := .bf16) a h r c (rows_fit inb h r)).trans (row_of_lt a (rows_fit inb h r) c).symm

/-- A load of `M` entries of the row of numbers, from entry `p` of chunk `n` on. -/
theorem read_lane {M : ℕ} (m : Memref sig κ' sp' S1x8x8x1024 .f32) (hm : m.IsWhole) (a : S1x8x8x1024.Idx → Elt Ideal .f32)
    {off : Fin 4 → ℕ} {inb} {n p : ℕ} (h : off = ![0, n, 0, p]) (s : Fin M) :
    m.view.readAt (Elt Ideal) (Rect.unit (s := S1x8x8x1024) off ![1, 1, 1, M] inb).toLoadRect (hm.unread a) (ix4 0 0 0 s) = lane a (1024 * n + p + s.val) := by
  subst h
  have h1 : n < 8 := by
    have := inb 1
    simp at this
    omega
  have h3 : p + s.val < 1024 := by
    have := inb 3
    have hs := s.isLt
    simp at this
    omega
  rw [View.readAt_eq_ld, hm.read_unread, lane, dif_pos (by omega)]
  refine congrArg a (funext fun i => Fin.ext ?_)
  fin_cases i
  · rfl
  · show n + 1 * 0 = (1024 * n + p + s.val) / 1024
    omega
  · rfl
  · show p + 1 * s.val = (1024 * n + p + s.val) % 1024
    omega

section Weights

variable (x0 x1 : S1024x128.Idx → EReal) (x2 x3 : S8192x128.Idx → EReal) (x4 x5 : S1x8x8x1024.Idx → EReal)

/-- The weight of key row `r` of the tile at query row `n`. -/
def W (r n : ℕ) : EReal := wt (row x0 r) (row x2 n) (lane x4 n)

/-- The gradient of that score, before the scale. -/
def G (r n : ℕ) : EReal := gr (row x0 r) (row x1 r) (row x2 n) (row x3 n) (lane x4 n) (lane x5 n)

end Weights

section Loads

variable {Mk Mq : ℕ} (m2 : Memref sig κ' sp' S1024x128 .bf16) (h2 : m2.IsWhole) (m3 : Memref sig κ' sp' S1024x128 .bf16) (h3 : m3.IsWhole)
  (m4 : Memref sig κ' sp' S8192x128 .bf16) (h4 : m4.IsWhole) (m5 : Memref sig κ' sp' S8192x128 .f32) (h5 : m5.IsWhole)
  (m6 : Memref sig κ' sp' S1x8x8x1024 .f32) (h6 : m6.IsWhole) (m7 : Memref sig κ' sp' S1x8x8x1024 .f32) (h7 : m7.IsWhole)
  (x0 x1 : Vec Ideal S1024x128 .bf16) (x2 : Vec Ideal S8192x128 .bf16) (x3 : Vec Ideal S8192x128 .f32) (x4 x5 : Vec Ideal S1x8x8x1024 .f32)
  {offk offq : Fin 2 → ℕ} {offl : Fin 4 → ℕ} {ik iq il} {ok oq n p : ℕ}

theorem W_of (hk : offk = ![ok, 0]) (hq : offq = ![oq, 0]) (hl : offl = ![0, n, 0, p]) (ho : 1024 * n + p = oq) (r : Fin Mk) (s : Fin Mq) :
    wt (fun x => LD m2 (Rect.unit (s := S1024x128) offk ![Mk, 128] ik) (h2.unread x0) (ix2 r x)) (fun x => LD m4 (Rect.unit (s := S8192x128) offq ![Mq, 128] iq) (h4.unread x2) (ix2 s x))
        (LD m6 (Rect.unit (s := S1x8x8x1024) offl ![1, 1, 1, Mq] il) (h6.unread x4) (ix4 0 0 0 s))
      = W x0 x2 x4 (ok + r.val) (oq + s.val) := by
  subst ho
  exact congr (congr (congrArg wt (funext fun x => read_rows' m2 h2 x0 hk r x)) (funext fun x => read_rows' m4 h4 x2 hq s x)) (read_lane m6 h6 x4 hl s)

theorem G_of (hk : offk = ![ok, 0]) (hq : offq = ![oq, 0]) (hl : offl = ![0, n, 0, p]) (ho : 1024 * n + p = oq) (r : Fin Mk) (s : Fin Mq) :
    gr (fun x => LD m2 (Rect.unit (s := S1024x128) offk ![Mk, 128] ik) (h2.unread x0) (ix2 r x)) (fun x => LD m3 (Rect.unit (s := S1024x128) offk ![Mk, 128] ik) (h3.unread x1) (ix2 r x))
        (fun x => LD m4 (Rect.unit (s := S8192x128) offq ![Mq, 128] iq) (h4.unread x2) (ix2 s x)) (fun x => LD m5 (Rect.unit (s := S8192x128) offq ![Mq, 128] iq) (h5.unread x3) (ix2 s x))
        (LD m6 (Rect.unit (s := S1x8x8x1024) offl ![1, 1, 1, Mq] il) (h6.unread x4) (ix4 0 0 0 s)) (LD m7 (Rect.unit (s := S1x8x8x1024) offl ![1, 1, 1, Mq] il) (h7.unread x5) (ix4 0 0 0 s))
      = G x0 x1 x2 x3 x4 x5 (ok + r.val) (oq + s.val) := by
  subst ho
  exact congr (congr (congr (congr (congr (congrArg gr (funext fun x => read_rows' m2 h2 x0 hk r x)) (funext fun x => read_rows' m3 h3 x1 hk r x)) (funext fun x => read_rows' m4 h4 x2 hq s x))
    (funext fun x => read_rows m5 h5 x3 hq s x)) (read_lane m6 h6 x4 hl s)) (read_lane m7 h7 x5 hl s)

end Loads

/-- A load of whole rows of an accumulator reads what it holds there. -/
theorem read_acc {N M : ℕ} (m : Memref sig κ' sp' (⟨2, ![N, 128]⟩ : Shape) .f32) (f : BufTy.Contents (Elt Ideal) m.view.ty)
    {off : Fin 2 → ℕ} {inb} {o : ℕ} (h : off = ![o, 0]) (r : Fin M) (c : Fin 128) (y : Fin N) (hy : y.val = o + r.val) :
    LD m (Rect.unit (s := ⟨2, ![N, 128]⟩) off ![M, 128] inb) f (ix2 r c) = m.view.read (Elt Ideal) f (ix2 y c) := by
  rw [LD, View.readAt_eq_ld]
  refine (ld_rows (Val := Elt Ideal) (e := .f32) _ h r c (rows_fit inb h r)).trans ?_
  exact congrArg (fun y => m.view.read (Elt Ideal) f (ix2 y c)) (Fin.ext hy.symm)

/-- A sum over the `M` numbers from `b` on. -/
theorem sum_shift {M : ℕ} (f : ℕ → EReal) (b : ℕ) : ∑ s : Fin M, f (b + s.val) = ∑ q ∈ Finset.Ico b (b + M), f q := by
  rw [Finset.sum_Ico_eq_sum_range, Nat.add_sub_cancel_left, ← Fin.sum_univ_eq_sum_range (fun s => f (b + s))]

section Loop

variable (c : Dev nD) (i : grid0.Coords)
  (arg2 : Memref sig .tc .vmem S1024x128 .bf16) (harg2 : arg2.IsWhole) (arg3 : Memref sig .tc .vmem S1024x128 .bf16) (harg3 : arg3.IsWhole) (arg4 : Memref sig .tc .vmem S8192x128 .bf16) (harg4 : arg4.IsWhole) (arg5 : Memref sig .tc .vmem S8192x128 .f32) (harg5 : arg5.IsWhole) (arg6 : Memref sig .tc .vmem S1x8x8x1024 .f32) (harg6 : arg6.IsWhole) (arg7 : Memref sig .tc .vmem S1x8x8x1024 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S8192x128 .f32) (harg10 : arg10.IsWhole) (arg11 : Memref sig .tc .vmem S1024x128 .f32) (harg11 : arg11.IsWhole) (arg12 : Memref sig .tc .vmem S1024x128 .f32) (harg12 : arg12.IsWhole)
  (v12 : BitVec 32) (x0 x1 : Vec Ideal S1024x128 .bf16) (x2 : Vec Ideal S8192x128 .bf16) (x3 : Vec Ideal S8192x128 .f32) (x4 x5 : Vec Ideal S1x8x8x1024 .f32)

theorem trip_eq (t : Fin (k0_t1_loop i).trips) (f10 : BufTy.Contents (Elt Ideal) arg10.view.ty) (f11 : BufTy.Contents (Elt Ideal) arg11.view.ty) (f12 : BufTy.Contents (Elt Ideal) arg12.view.ty) :
    tripL_k0_t1 (F := Ideal) Variants.none c none i arg2 harg2 arg3 harg3 arg4 harg4 arg5 harg5 arg6 harg6 arg7 harg7 arg8 harg8 arg9 harg9 arg10 harg10 arg11 harg11 arg12 harg12 v12
        (harg2.unread x0) (harg3.unread x1) (harg4.unread x2) (harg5.unread x3) (harg6.unread x4) (harg7.unread x5) t f10 f11 f12 =
      ([⟨Rect.unit (k0_off2 i t) S1024x128.size (k0_off2_inb i t), k0_pay19 (k0_pay8 (LD arg6 (Rect.unit (k0_off1 i t) S1x1x1x1024.size (k0_off1_inb i t)) (harg6.unread x4)) (LD arg7 (Rect.unit (k0_off1 i t) S1x1x1x1024.size (k0_off1_inb i t)) (harg7.unread x5)) (LD arg4 (Rect.unit (k0_off2 i t) S1024x128.size (k0_off2_inb i t)) (harg4.unread x2)) (LD arg5 (Rect.unit (k0_off2 i t) S1024x128.size (k0_off2_inb i t)) (harg5.unread x3)) (LD arg2 (Rect.unit ![0, 0] S1024x128.size inb_S1024x128_S1024x128_0_0) (harg2.unread x0)) (LD arg3 (Rect.unit ![0, 0] S1024x128.size inb_S1024x128_S1024x128_0_0) (harg3.unread x1))) (LD arg10 (Rect.unit (k0_off2 i t) S1024x128.size (k0_off2_inb i t)) f10) (LD arg2 (Rect.unit ![0, 0] S1024x128.size inb_S1024x128_S1024x128_0_0) (harg2.unread x0))⟩],
       [⟨Rect.unit ![0, 0] S1024x128.size inb_S1024x128_S1024x128_0_0, k0_pay18 (k0_pay5 (LD arg4 (Rect.unit (k0_off2 i t) S1024x128.size (k0_off2_inb i t)) (harg4.unread x2))) (k0_pay8 (LD arg6 (Rect.unit (k0_off1 i t) S1x1x1x1024.size (k0_off1_inb i t)) (harg6.unread x4)) (LD arg7 (Rect.unit (k0_off1 i t) S1x1x1x1024.size (k0_off1_inb i t)) (harg7.unread x5)) (LD arg4 (Rect.unit (k0_off2 i t) S1024x128.size (k0_off2_inb i t)) (harg4.unread x2)) (LD arg5 (Rect.unit (k0_off2 i t) S1024x128.size (k0_off2_inb i t)) (harg5.unread x3)) (LD arg2 (Rect.unit ![0, 0] S1024x128.size inb_S1024x128_S1024x128_0_0) (harg2.unread x0)) (LD arg3 (Rect.unit ![0, 0] S1024x128.size inb_S1024x128_S1024x128_0_0) (harg3.unread x1))) (LD arg11 (Rect.unit ![0, 0] S1024x128.size inb_S1024x128_S1024x128_0_0) f11)⟩],
       [⟨Rect.unit ![0, 0] S1024x128.size inb_S1024x128_S1024x128_0_0, k0_pay9 (LD arg6 (Rect.unit (k0_off1 i t) S1x1x1x1024.size (k0_off1_inb i t)) (harg6.unread x4)) (LD arg4 (Rect.unit (k0_off2 i t) S1024x128.size (k0_off2_inb i t)) (harg4.unread x2)) (LD arg5 (Rect.unit (k0_off2 i t) S1024x128.size (k0_off2_inb i t)) (harg5.unread x3)) (LD arg2 (Rect.unit ![0, 0] S1024x128.size inb_S1024x128_S1024x128_0_0) (harg2.unread x0)) (LD arg12 (Rect.unit ![0, 0] S1024x128.size inb_S1024x128_S1024x128_0_0) f12)⟩]) := by
  unfold tripL_k0_t1 trip_k0_t1
  rfl

theorem trip12 (t : Fin (k0_t1_loop i).trips) (f10 f11 f12) (r : Fin 1024) (d : Fin 128) :
    arg12.view.read (Elt Ideal) (arg12.view.writes (Elt Ideal) f12 (tripL_k0_t1 (F := Ideal) Variants.none c none i arg2 harg2 arg3 harg3 arg4 harg4 arg5 harg5 arg6 harg6 arg7 harg7 arg8 harg8 arg9 harg9 arg10 harg10 arg11 harg11 arg12 harg12 v12 (harg2.unread x0) (harg3.unread x1) (harg4.unread x2) (harg5.unread x3) (harg6.unread x4) (harg7.unread x5) t f10 f11 f12).2.2) (ix2 r d)
      = arg12.view.read (Elt Ideal) f12 (ix2 r d)
        + ∑ q ∈ Finset.Ico (1024 * ((i 1).val + 1 + t.val)) (1024 * ((i 1).val + 1 + (t.val + 1))), W x0 x2 x4 r.val q * row x3 q d := by
  rw [trip_eq]
  refine (View.read_writes_cons_rows_of_mem (Val := Elt Ideal) arg12.view f12 _ _ [] (ix2 r d) (ix2 r d) rfl (Nat.zero_add _).symm rfl).trans ?_
  refine (pay9 _ _ _ _ _ r d).trans ?_
  have hb : 1024 * ((i 1).val + 1 + (t.val + 1)) = 1024 * ((i 1).val + 1 + t.val) + 1024 := by ring
  rw [hb, ← sum_shift]
  have hq : k0_off2 i t = ![1024 * ((i 1).val + 1 + t.val), 0] := (k0_off2_eq i t).trans (by congr 1; ring)
  have hl : k0_off1 i t = ![0, (i 1).val + 1 + t.val, 0, 0] := (k0_off1_eq i t).trans (by congr 2; ring)
  refine congr (congrArg HAdd.hAdd (read_acc arg12 f12 rfl r d r (Nat.zero_add _).symm)) (Finset.sum_congr rfl fun s _ => ?_)
  exact congr (congrArg HMul.hMul ((W_of arg2 harg2 arg4 harg4 arg6 harg6 x0 x2 x4 rfl hq hl rfl r s).trans (by rw [Nat.zero_add]))) (read_rows arg5 harg5 x3 hq s d)

theorem trip11 (t : Fin (k0_t1_loop i).trips) (f10 f11 f12) (r : Fin 1024) (d : Fin 128) :
    arg11.view.read (Elt Ideal) (arg11.view.writes (Elt Ideal) f11 (tripL_k0_t1 (F := Ideal) Variants.none c none i arg2 harg2 arg3 harg3 arg4 harg4 arg5 harg5 arg6 harg6 arg7 harg7 arg8 harg8 arg9 harg9 arg10 harg10 arg11 harg11 arg12 harg12 v12 (harg2.unread x0) (harg3.unread x1) (harg4.unread x2) (harg5.unread x3) (harg6.unread x4) (harg7.unread x5) t f10 f11 f12).2.1) (ix2 r d)
      = arg11.view.read (Elt Ideal) f11 (ix2 r d)
        + ∑ q ∈ Finset.Ico (1024 * ((i 1).val + 1 + t.val)) (1024 * ((i 1).val + 1 + (t.val + 1))), G x0 x1 x2 x3 x4 x5 r.val q * row x2 q d := by
  rw [trip_eq]
  refine (View.read_writes_cons_rows_of_mem (Val := Elt Ideal) arg11.view f11 _ _ [] (ix2 r d) (ix2 r d) rfl (Nat.zero_add _).symm rfl).trans ?_
  refine (pay18 _ _ _ r d).trans ?_
  have hb : 1024 * ((i 1).val + 1 + (t.val + 1)) = 1024 * ((i 1).val + 1 + t.val) + 1024 := by ring
  rw [hb, ← sum_shift]
  have hq : k0_off2 i t = ![1024 * ((i 1).val + 1 + t.val), 0] := (k0_off2_eq i t).trans (by congr 1; ring)
  have hl : k0_off1 i t = ![0, (i 1).val + 1 + t.val, 0, 0] := (k0_off1_eq i t).trans (by congr 2; ring)
  refine congr (congrArg HAdd.hAdd (read_acc arg11 f11 rfl r d r (Nat.zero_add _).symm)) (Finset.sum_congr rfl fun s _ => ?_)
  exact congr (congrArg HMul.hMul ((pay8 _ _ _ _ _ _ r s).trans ((G_of arg2 harg2 arg3 harg3 arg4 harg4 arg5 harg5 arg6 harg6 arg7 harg7 x0 x1 x2 x3 x4 x5 rfl hq hl rfl r s).trans (by rw [Nat.zero_add]))))
    (read_rows' arg4 harg4 x2 hq s d)

theorem trip10 (t : Fin (k0_t1_loop i).trips) (f10 f11 f12) (q : Fin 8192) (d : Fin 128) :
    arg10.view.read (Elt Ideal) (arg10.view.writes (Elt Ideal) f10 (tripL_k0_t1 (F := Ideal) Variants.none c none i arg2 harg2 arg3 harg3 arg4 harg4 arg5 harg5 arg6 harg6 arg7 harg7 arg8 harg8 arg9 harg9 arg10 harg10 arg11 harg11 arg12 harg12 v12 (harg2.unread x0) (harg3.unread x1) (harg4.unread x2) (harg5.unread x3) (harg6.unread x4) (harg7.unread x5) t f10 f11 f12).1) (ix2 q d)
      = arg10.view.read (Elt Ideal) f10 (ix2 q d)
        + if 1024 * ((i 1).val + 1 + t.val) ≤ q.val ∧ q.val < 1024 * ((i 1).val + 1 + (t.val + 1)) then ∑ r : Fin 1024, G x0 x1 x2 x3 x4 x5 r.val q.val * row x0 r.val d else 0 := by
  rw [trip_eq]
  have hq : k0_off2 i t = ![1024 * ((i 1).val + 1 + t.val), 0] := (k0_off2_eq i t).trans (by congr 1; ring)
  have hl : k0_off1 i t = ![0, (i 1).val + 1 + t.val, 0, 0] := (k0_off1_eq i t).trans (by congr 2; ring)
  by_cases h : 1024 * ((i 1).val + 1 + t.val) ≤ q.val ∧ q.val < 1024 * ((i 1).val + 1 + (t.val + 1))
  · rw [if_pos h]
    obtain ⟨s, hs⟩ : ∃ s : Fin 1024, q.val = 1024 * ((i 1).val + 1 + t.val) + s.val := ⟨⟨q.val - 1024 * ((i 1).val + 1 + t.val), by omega⟩, by simp only []; omega⟩
    refine (View.read_writes_cons_rows_of_mem (Val := Elt Ideal) arg10.view f10 _ _ [] (ix2 q d) (ix2 s d) hq hs rfl).trans ?_
    refine (pay19 _ _ _ s d).trans ?_
    refine congr (congrArg HAdd.hAdd (read_acc arg10 f10 hq s d q hs)) (Finset.sum_congr rfl fun r _ => ?_)
    rw [hs]
    exact congr (congrArg HMul.hMul ((pay8 _ _ _ _ _ _ r s).trans ((G_of arg2 harg2 arg3 harg3 arg4 harg4 arg5 harg5 arg6 harg6 arg7 harg7 x0 x1 x2 x3 x4 x5 rfl hq hl rfl r s).trans (by rw [Nat.zero_add]))))
      ((read_rows' arg2 harg2 x0 rfl r d).trans (by rw [Nat.zero_add]))
  · rw [if_neg h, add_zero]
    refine (View.read_writes_cons_rows_of_not_mem (Val := Elt Ideal) arg10.view f10 _ _ [] (ix2 q d) hq rfl ?_)
    show q.val < _ ∨ _ ≤ q.val
    simp only [S1024x128, Matrix.cons_val_zero]
    omega

/-- What the three accumulators hold after the first `n` chunks above the diagonal. -/
theorem loop_read (f10 f11 f12) (n : ℕ) (hn : n ≤ (k0_t1_loop i).trips) :
    (∀ (q : Fin 8192) (d : Fin 128), arg10.view.read (Elt Ideal) (arg10.view.writes (Elt Ideal) f10 (pb_k0_t1 (F := Ideal) Variants.none c none i arg2 harg2 arg3 harg3 arg4 harg4 arg5 harg5 arg6 harg6 arg7 harg7 arg8 harg8 arg9 harg9 arg10 harg10 arg11 harg11 arg12 harg12 v12 (harg2.unread x0) (harg3.unread x1) (harg4.unread x2) (harg5.unread x3) (harg6.unread x4) (harg7.unread x5) f10 f11 f12 n).1) (ix2 q d)
        = arg10.view.read (Elt Ideal) f10 (ix2 q d) + if 1024 * ((i 1).val + 1) ≤ q.val ∧ q.val < 1024 * ((i 1).val + 1 + n) then ∑ r : Fin 1024, G x0 x1 x2 x3 x4 x5 r.val q.val * row x0 r.val d else 0)
    ∧ (∀ (r : Fin 1024) (d : Fin 128), arg11.view.read (Elt Ideal) (arg11.view.writes (Elt Ideal) f11 (pb_k0_t1 (F := Ideal) Variants.none c none i arg2 harg2 arg3 harg3 arg4 harg4 arg5 harg5 arg6 harg6 arg7 harg7 arg8 harg8 arg9 harg9 arg10 harg10 arg11 harg11 arg12 harg12 v12 (harg2.unread x0) (harg3.unread x1) (harg4.unread x2) (harg5.unread x3) (harg6.unread x4) (harg7.unread x5) f10 f11 f12 n).2.1) (ix2 r d)
        = arg11.view.read (Elt Ideal) f11 (ix2 r d) + ∑ q ∈ Finset.Ico (1024 * ((i 1).val + 1)) (1024 * ((i 1).val + 1 + n)), G x0 x1 x2 x3 x4 x5 r.val q * row x2 q d)
    ∧ (∀ (r : Fin 1024) (d : Fin 128), arg12.view.read (Elt Ideal) (arg12.view.writes (Elt Ideal) f12 (pb_k0_t1 (F := Ideal) Variants.none c none i arg2 harg2 arg3 harg3 arg4 harg4 arg5 harg5 arg6 harg6 arg7 harg7 arg8 harg8 arg9 harg9 arg10 harg10 arg11 harg11 arg12 harg12 v12 (harg2.unread x0) (harg3.unread x1) (harg4.unread x2) (harg5.unread x3) (harg6.unread x4) (harg7.unread x5) f10 f11 f12 n).2.2) (ix2 r d)
        = arg12.view.read (Elt Ideal) f12 (ix2 r d) + ∑ q ∈ Finset.Ico (1024 * ((i 1).val + 1)) (1024 * ((i 1).val + 1 + n)), W x0 x2 x4 r.val q * row x3 q d) := by
  induction n with
  | zero =>
    refine ⟨fun q d => ?_, fun r d => ?_, fun r d => ?_⟩
    · rw [if_neg (by omega), add_zero]; rfl
    · rw [Nat.add_zero, Finset.Ico_self, Finset.sum_empty, add_zero]; rfl
    · rw [Nat.add_zero, Finset.Ico_self, Finset.sum_empty, add_zero]; rfl
  | succ n ih =>
    obtain ⟨i10, i11, i12⟩ := ih (by omega)
    have e := pb_k0_t1_succ (F := Ideal) Variants.none c none i arg2 harg2 arg3 harg3 arg4 harg4 arg5 harg5 arg6 harg6 arg7 harg7 arg8 harg8 arg9 harg9 arg10 harg10 arg11 harg11 arg12 harg12 v12 (harg2.unread x0) (harg3.unread x1) (harg4.unread x2) (harg5.unread x3) (harg6.unread x4) (harg7.unread x5) f10 f11 f12 ⟨n, by omega⟩
    refine ⟨fun q d => ?_, fun r d => ?_, fun r d => ?_⟩
    · rw [e, View.writes_append, trip10, i10, add_assoc]
      congr 1
      by_cases h1 : 1024 * ((i 1).val + 1) ≤ q.val ∧ q.val < 1024 * ((i 1).val + 1 + n)
      · rw [if_pos h1, if_neg (by simp only []; omega), if_pos (by omega), add_zero]
      · rw [if_neg h1, zero_add]
        exact if_congr (by simp only []; omega) rfl rfl
    · rw [e, View.writes_append, trip11, i11, add_assoc]
      congr 1
      exact Finset.sum_Ico_consecutive _ (by omega) (by simp only []; omega)
    · rw [e, View.writes_append, trip12, i12, add_assoc]
      congr 1
      exact Finset.sum_Ico_consecutive _ (by omega) (by simp only []; omega)

end Loop

/-- The loop runs over every chunk after the tile's own. -/
theorem trips_eq : ∀ i : grid0.Coords, (k0_t1_loop i).trips = 7 - (i 1).val := by decide +kernel

theorem trips2_eq (i : grid0.Coords) : (k0_t2_loop i).trips = 0 := Nat.le_zero.mp (k0_t2_abs i).2.1

end Cert.Proof

end
-- ==== Proof.Diag.lean ====
/- The three blocks at the diagonal: what each store adds to its accumulator, whatever was there before. Every addition is written with the causal
   condition, query row at least key row, so that the pieces join to one sum. -/
module

public import proofs.«01_k».proof.Proof.Trip

@[expose] public section

set_option maxRecDepth 16384

noncomputable section

namespace Cert.Proof

open Idealize.ShloMosaic Idealize.ShloMosaic.Pointwise Idealize.ShloMosaic.TcCoe Idealize.ShloMosaic.Tactic
open Cert.KernelIdeal Cert.KernelIdeal.Gen

/-- A masked sum over the block's queries, over the queries' own numbers. -/
theorem sum_masked_q (w g : ℕ → EReal) (b : ℕ) (r : ℕ) :
    ∑ s : Fin 512, (if r ≤ s.val then w (b + s.val) else 0) * g (b + s.val) = ∑ q ∈ Finset.Ico b (b + 512), if b + r ≤ q then w q * g q else 0 := by
  rw [← sum_shift (M := 512) (fun q => if b + r ≤ q then w q * g q else 0)]
  refine Finset.sum_congr rfl fun s _ => ?_
  by_cases h : r ≤ s.val
  · rw [if_pos h, if_pos (by omega)]
  · rw [if_neg h, if_neg (by omega), zero_mul]

/-- A masked sum over the block's keys, over the keys' own numbers within the tile. -/
theorem sum_masked_k (w g : ℕ → EReal) (b s : ℕ) :
    ∑ r : Fin 512, (if r.val ≤ s then w (b + r.val) else 0) * g (b + r.val) = ∑ r ∈ Finset.Ico b (b + 512), if r ≤ b + s then w r * g r else 0 := by
  rw [← sum_shift (M := 512) (fun r => if r ≤ b + s then w r * g r else 0)]
  refine Finset.sum_congr rfl fun r _ => ?_
  by_cases h : r.val ≤ s
  · rw [if_pos h, if_pos (by omega)]
  · rw [if_neg h, if_neg (by omega), zero_mul]

section Pieces

variable (c : Dev nD) (i : grid0.Coords)
  (arg2 : Memref sig .tc .vmem S1024x128 .bf16) (harg2 : arg2.IsWhole) (arg3 : Memref sig .tc .vmem S1024x128 .bf16) (harg3 : arg3.IsWhole) (arg4 : Memref sig .tc .vmem S8192x128 .bf16) (harg4 : arg4.IsWhole) (arg5 : Memref sig .tc .vmem S8192x128 .f32) (harg5 : arg5.IsWhole) (arg6 : Memref sig .tc .vmem S1x8x8x1024 .f32) (harg6 : arg6.IsWhole) (arg7 : Memref sig .tc .vmem S1x8x8x1024 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S8192x128 .f32) (harg10 : arg10.IsWhole) (arg11 : Memref sig .tc .vmem S1024x128 .f32) (harg11 : arg11.IsWhole) (arg12 : Memref sig .tc .vmem S1024x128 .f32) (harg12 : arg12.IsWhole)
  (x0 x1 : Vec Ideal S1024x128 .bf16) (x2 : Vec Ideal S8192x128 .bf16) (x3 : Vec Ideal S8192x128 .f32) (x4 x5 : Vec Ideal S1x8x8x1024 .f32)

theorem off6_0 : k0_off6 i 0#32 = ![1024 * (i 1).val, 0] := k0_off6_eq i ⟨0, by decide⟩

theorem off6_512 : k0_off6 i 512#32 = ![1024 * (i 1).val + 512, 0] := k0_off6_eq i ⟨1, by decide⟩

/-- The first block, masked, into the values' accumulator. -/
theorem v_first (f : BufTy.Contents (Elt Ideal) arg12.view.ty) (L : List (View.Piece (Elt Ideal) S1024x128 .f32)) {iq il} (r : Fin 1024) (d : Fin 128) :
    arg12.view.read (Elt Ideal) (arg12.view.writes (Elt Ideal) f (⟨Rect.unit ![0, 0] S512x128.size inb_S1024x128_S512x128_0_0, k0_pay27 (F := Ideal) (k0_pay22 (F := Ideal) (LD arg6 (Rect.unit (k0_off5 i) S1x1x1x512.size il) (harg6.unread x4))) (LD arg4 (Rect.unit (k0_off6 i 0#32) S512x128.size iq) (harg4.unread x2)) (LD arg5 (Rect.unit (k0_off6 i 0#32) S512x128.size iq) (harg5.unread x3)) (LD arg2 (Rect.unit ![0, 0] S512x128.size inb_S1024x128_S512x128_0_0) (harg2.unread x0)) (LD arg12 (Rect.unit ![0, 0] S512x128.size inb_S1024x128_S512x128_0_0) (arg12.view.writes (Elt Ideal) f L))⟩ :: L)) (ix2 r d)
      = arg12.view.read (Elt Ideal) (arg12.view.writes (Elt Ideal) f L) (ix2 r d)
        + (∑ q ∈ Finset.Ico (1024 * (i 1).val) (1024 * (i 1).val + 512), if 1024 * (i 1).val + r.val ≤ q then W x0 x2 x4 r.val q * row x3 q d else 0) := by
  by_cases h : r.val < 512
  ·
    obtain ⟨r', hr⟩ : ∃ r' : Fin 512, r.val = 0 + r'.val := ⟨⟨r.val, h⟩, (Nat.zero_add _).symm⟩
    refine (View.read_writes_cons_rows_of_mem (Val := Elt Ideal) arg12.view f _ _ L (ix2 r d) (ix2 r' d) rfl hr rfl).trans ?_
    refine (pay27 _ _ _ _ _ r' d).trans ?_
    refine congr (congrArg HAdd.hAdd (read_acc arg12 _ rfl r' d r hr)) ?_
    refine (Finset.sum_congr rfl fun s _ => congr (congrArg HMul.hMul (id (congrArg (fun w => if r'.val ≤ s.val then w else 0) (W_of arg2 harg2 arg4 harg4 arg6 harg6 x0 x2 x4 rfl (off6_0 i) (k0_off5_eq i) (by omega) r' s)))) (read_rows arg5 harg5 x3 (off6_0 i) s d)).trans ?_
    rw [← hr]
    refine (sum_masked_q (W x0 x2 x4 r.val) (fun q => row x3 q d) (1024 * (i 1).val) r'.val).trans ?_
    exact Finset.sum_congr rfl fun q _ => if_congr (by omega) rfl rfl
  · rw [Finset.sum_eq_zero (fun q hq => if_neg (by rw [Finset.mem_Ico] at hq; omega)), add_zero]
    refine View.read_writes_cons_rows_of_not_mem (Val := Elt Ideal) arg12.view f _ _ L (ix2 r d) rfl rfl ?_
    show r.val < _ ∨ _ ≤ r.val
    have := r.isLt
    simp only [S512x128, Matrix.cons_val_zero]
    omega

/-- The block above the diagonal, into the values' accumulator. -/
theorem v_above (f : BufTy.Contents (Elt Ideal) arg12.view.ty) (L : List (View.Piece (Elt Ideal) S1024x128 .f32)) {iq il} (r : Fin 1024) (d : Fin 128) :
    arg12.view.read (Elt Ideal) (arg12.view.writes (Elt Ideal) f (⟨Rect.unit ![0, 0] S512x128.size inb_S1024x128_S512x128_0_0, k0_pay36 (F := Ideal) (k0_pay33 (F := Ideal) (LD arg5 (Rect.unit (k0_off6 i 512#32) S512x128.size iq) (harg5.unread x3))) (k0_pay34 (F := Ideal) (LD arg6 (Rect.unit (k0_off7 i) S1x1x1x512.size il) (harg6.unread x4)) (LD arg4 (Rect.unit (k0_off6 i 512#32) S512x128.size iq) (harg4.unread x2)) (LD arg2 (Rect.unit ![0, 0] S512x128.size inb_S1024x128_S512x128_0_0) (harg2.unread x0))) (LD arg12 (Rect.unit ![0, 0] S512x128.size inb_S1024x128_S512x128_0_0) (arg12.view.writes (Elt Ideal) f L))⟩ :: L)) (ix2 r d)
      = arg12.view.read (Elt Ideal) (arg12.view.writes (Elt Ideal) f L) (ix2 r d)
        + if r.val < 512 then ∑ q ∈ Finset.Ico (1024 * (i 1).val + 512) (1024 * (i 1).val + 512 + 512), if 1024 * (i 1).val + r.val ≤ q then W x0 x2 x4 r.val q * row x3 q d else 0 else 0 := by
  by_cases h : r.val < 512
  · rw [if_pos h]
    obtain ⟨r', hr⟩ : ∃ r' : Fin 512, r.val = 0 + r'.val := ⟨⟨r.val, h⟩, (Nat.zero_add _).symm⟩
    refine (View.read_writes_cons_rows_of_mem (Val := Elt Ideal) arg12.view f _ _ L (ix2 r d) (ix2 r' d) rfl hr rfl).trans ?_
    refine (pay36 _ _ _ _ _ r' d).trans ?_
    refine congr (congrArg HAdd.hAdd (read_acc arg12 _ rfl r' d r hr)) ?_
    refine (Finset.sum_congr rfl fun s _ => congr (congrArg HMul.hMul (id (W_of arg2 harg2 arg4 harg4 arg6 harg6 x0 x2 x4 rfl (off6_512 i) (k0_off7_eq i) (by omega) r' s))) (read_rows arg5 harg5 x3 (off6_512 i) s d)).trans ?_
    rw [← hr]
    refine (sum_shift (M := 512) (fun q => W x0 x2 x4 r.val q * row x3 q d) (1024 * (i 1).val + 512)).trans ?_
    exact Finset.sum_congr rfl fun q hq => (if_pos (by rw [Finset.mem_Ico] at hq; omega)).symm
  · rw [if_neg h, add_zero]
    refine View.read_writes_cons_rows_of_not_mem (Val := Elt Ideal) arg12.view f _ _ L (ix2 r d) rfl rfl ?_
    show r.val < _ ∨ _ ≤ r.val
    have := r.isLt
    simp only [S512x128, Matrix.cons_val_zero]
    omega

/-- The last block, masked, into the values' accumulator. -/
theorem v_last (f : BufTy.Contents (Elt Ideal) arg12.view.ty) (L : List (View.Piece (Elt Ideal) S1024x128 .f32)) {iq il} (r : Fin 1024) (d : Fin 128) :
    arg12.view.read (Elt Ideal) (arg12.view.writes (Elt Ideal) f (⟨Rect.unit ![512, 0] S512x128.size inb_S1024x128_S512x128_512_0, k0_pay43 (F := Ideal) (LD arg6 (Rect.unit (k0_off7 i) S1x1x1x512.size il) (harg6.unread x4)) (LD arg4 (Rect.unit (k0_off6 i 512#32) S512x128.size iq) (harg4.unread x2)) (LD arg5 (Rect.unit (k0_off6 i 512#32) S512x128.size iq) (harg5.unread x3)) (LD arg2 (Rect.unit ![512, 0] S512x128.size inb_S1024x128_S512x128_512_0) (harg2.unread x0)) (LD arg12 (Rect.unit ![512, 0] S512x128.size inb_S1024x128_S512x128_512_0) (arg12.view.writes (Elt Ideal) f L))⟩ :: L)) (ix2 r d)
      = arg12.view.read (Elt Ideal) (arg12.view.writes (Elt Ideal) f L) (ix2 r d)
        + if 512 ≤ r.val then ∑ q ∈ Finset.Ico (1024 * (i 1).val + 512) (1024 * (i 1).val + 512 + 512), if 1024 * (i 1).val + r.val ≤ q then W x0 x2 x4 r.val q * row x3 q d else 0 else 0 := by
  by_cases h : 512 ≤ r.val
  · rw [if_pos h]
    obtain ⟨r', hr⟩ : ∃ r' : Fin 512, r.val = 512 + r'.val := ⟨⟨r.val - 512, by omega⟩, (by simp only []; omega)⟩
    refine (View.read_writes_cons_rows_of_mem (Val := Elt Ideal) arg12.view f _ _ L (ix2 r d) (ix2 r' d) rfl hr rfl).trans ?_
    refine (pay43 _ _ _ _ _ r' d).trans ?_
    refine congr (congrArg HAdd.hAdd (read_acc arg12 _ rfl r' d r hr)) ?_
    refine (Finset.sum_congr rfl fun s _ => congr (congrArg HMul.hMul (id (congrArg (fun w => if r'.val ≤ s.val then w else 0) (W_of arg2 harg2 arg4 harg4 arg6 harg6 x0 x2 x4 rfl (off6_512 i) (k0_off7_eq i) (by omega) r' s)))) (read_rows arg5 harg5 x3 (off6_512 i) s d)).trans ?_
    rw [← hr]
    refine (sum_masked_q (W x0 x2 x4 r.val) (fun q => row x3 q d) (1024 * (i 1).val + 512) r'.val).trans ?_
    exact Finset.sum_congr rfl fun q _ => if_congr (by omega) rfl rfl
  · rw [if_neg h, add_zero]
    refine View.read_writes_cons_rows_of_not_mem (Val := Elt Ideal) arg12.view f _ _ L (ix2 r d) rfl rfl ?_
    show r.val < _ ∨ _ ≤ r.val
    have := r.isLt
    simp only [S512x128, Matrix.cons_val_zero]
    omega

/-- The first block, masked, into the keys' accumulator. -/
theorem k_first (f : BufTy.Contents (Elt Ideal) arg11.view.ty) (L : List (View.Piece (Elt Ideal) S1024x128 .f32)) {iq il} (r : Fin 1024) (d : Fin 128) :
    arg11.view.read (Elt Ideal) (arg11.view.writes (Elt Ideal) f (⟨Rect.unit ![0, 0] S512x128.size inb_S1024x128_S512x128_0_0, k0_pay29 (F := Ideal) (k0_pay28 (F := Ideal) (k0_pay22 (F := Ideal) (LD arg6 (Rect.unit (k0_off5 i) S1x1x1x512.size il) (harg6.unread x4))) (LD arg7 (Rect.unit (k0_off5 i) S1x1x1x512.size il) (harg7.unread x5)) (LD arg4 (Rect.unit (k0_off6 i 0#32) S512x128.size iq) (harg4.unread x2)) (LD arg5 (Rect.unit (k0_off6 i 0#32) S512x128.size iq) (harg5.unread x3)) (LD arg2 (Rect.unit ![0, 0] S512x128.size inb_S1024x128_S512x128_0_0) (harg2.unread x0)) (LD arg3 (Rect.unit ![0, 0] S512x128.size inb_S1024x128_S512x128_0_0) (harg3.unread x1)) (LD arg11 (Rect.unit ![0, 0] S512x128.size inb_S1024x128_S512x128_0_0) (arg11.view.writes (Elt Ideal) f L)))⟩ :: L)) (ix2 r d)
      = arg11.view.read (Elt Ideal) (arg11.view.writes (Elt Ideal) f L) (ix2 r d)
        + (∑ q ∈ Finset.Ico (1024 * (i 1).val) (1024 * (i 1).val + 512), if 1024 * (i 1).val + r.val ≤ q then G x0 x1 x2 x3 x4 x5 r.val q * row x2 q d else 0) := by
  by_cases h : r.val < 512
  ·
    obtain ⟨r', hr⟩ : ∃ r' : Fin 512, r.val = 0 + r'.val := ⟨⟨r.val, h⟩, (Nat.zero_add _).symm⟩
    refine (View.read_writes_cons_rows_of_mem (Val := Elt Ideal) arg11.view f _ _ L (ix2 r d) (ix2 r' d) rfl hr rfl).trans ?_
    refine (pay29 _ _ _ _ _ _ _ r' d).trans ?_
    refine congr (congrArg HAdd.hAdd (read_acc arg11 _ rfl r' d r hr)) ?_
    refine (Finset.sum_congr rfl fun s _ => congr (congrArg HMul.hMul (id (congrArg (fun w => if r'.val ≤ s.val then w else 0) (G_of arg2 harg2 arg3 harg3 arg4 harg4 arg5 harg5 arg6 harg6 arg7 harg7 x0 x1 x2 x3 x4 x5 rfl (off6_0 i) (k0_off5_eq i) (by omega) r' s)))) (read_rows' arg4 harg4 x2 (off6_0 i) s d)).trans ?_
    rw [← hr]
    refine (sum_masked_q (G x0 x1 x2 x3 x4 x5 r.val) (fun q => row x2 q d) (1024 * (i 1).val) r'.val).trans ?_
    exact Finset.sum_congr rfl fun q _ => if_congr (by omega) rfl rfl
  · rw [Finset.sum_eq_zero (fun q hq => if_neg (by rw [Finset.mem_Ico] at hq; omega)), add_zero]
    refine View.read_writes_cons_rows_of_not_mem (Val := Elt Ideal) arg11.view f _ _ L (ix2 r d) rfl rfl ?_
    show r.val < _ ∨ _ ≤ r.val
    have := r.isLt
    simp only [S512x128, Matrix.cons_val_zero]
    omega

/-- The block above the diagonal, into the keys' accumulator. -/
theorem k_above (f : BufTy.Contents (Elt Ideal) arg11.view.ty) (L : List (View.Piece (Elt Ideal) S1024x128 .f32)) {iq il} (r : Fin 1024) (d : Fin 128) :
    arg11.view.read (Elt Ideal) (arg11.view.writes (Elt Ideal) f (⟨Rect.unit ![0, 0] S512x128.size inb_S1024x128_S512x128_0_0, k0_pay37 (F := Ideal) (k0_pay31 (F := Ideal) (LD arg7 (Rect.unit (k0_off7 i) S1x1x1x512.size il) (harg7.unread x5))) (k0_pay32 (F := Ideal) (LD arg4 (Rect.unit (k0_off6 i 512#32) S512x128.size iq) (harg4.unread x2))) (k0_pay33 (F := Ideal) (LD arg5 (Rect.unit (k0_off6 i 512#32) S512x128.size iq) (harg5.unread x3))) (k0_pay34 (F := Ideal) (LD arg6 (Rect.unit (k0_off7 i) S1x1x1x512.size il) (harg6.unread x4)) (LD arg4 (Rect.unit (k0_off6 i 512#32) S512x128.size iq) (harg4.unread x2)) (LD arg2 (Rect.unit ![0, 0] S512x128.size inb_S1024x128_S512x128_0_0) (harg2.unread x0))) (LD arg3 (Rect.unit ![0, 0] S512x128.size inb_S1024x128_S512x128_0_0) (harg3.unread x1)) (LD arg11 (Rect.unit ![0, 0] S512x128.size inb_S1024x128_S512x128_0_0) (arg11.view.writes (Elt Ideal) f L))⟩ :: L)) (ix2 r d)
      = arg11.view.read (Elt Ideal) (arg11.view.writes (Elt Ideal) f L) (ix2 r d)
        + if r.val < 512 then ∑ q ∈ Finset.Ico (1024 * (i 1).val + 512) (1024 * (i 1).val + 512 + 512), if 1024 * (i 1).val + r.val ≤ q then G x0 x1 x2 x3 x4 x5 r.val q * row x2 q d else 0 else 0 := by
  by_cases h : r.val < 512
  · rw [if_pos h]
    obtain ⟨r', hr⟩ : ∃ r' : Fin 512, r.val = 0 + r'.val := ⟨⟨r.val, h⟩, (Nat.zero_add _).symm⟩
    refine (View.read_writes_cons_rows_of_mem (Val := Elt Ideal) arg11.view f _ _ L (ix2 r d) (ix2 r' d) rfl hr rfl).trans ?_
    refine (pay37 _ _ _ _ _ _ _ r' d).trans ?_
    refine congr (congrArg HAdd.hAdd (read_acc arg11 _ rfl r' d r hr)) ?_
    refine (Finset.sum_congr rfl fun s _ => congr (congrArg HMul.hMul (id (G_of arg2 harg2 arg3 harg3 arg4 harg4 arg5 harg5 arg6 harg6 arg7 harg7 x0 x1 x2 x3 x4 x5 rfl (off6_512 i) (k0_off7_eq i) (by omega) r' s))) (read_rows' arg4 harg4 x2 (off6_512 i) s d)).trans ?_
    rw [← hr]
    refine (sum_shift (M := 512) (fun q => G x0 x1 x2 x3 x4 x5 r.val q * row x2 q d) (1024 * (i 1).val + 512)).trans ?_
    exact Finset.sum_congr rfl fun q hq => (if_pos (by rw [Finset.mem_Ico] at hq; omega)).symm
  · rw [if_neg h, add_zero]
    refine View.read_writes_cons_rows_of_not_mem (Val := Elt Ideal) arg11.view f _ _ L (ix2 r d) rfl rfl ?_
    show r.val < _ ∨ _ ≤ r.val
    have := r.isLt
    simp only [S512x128, Matrix.cons_val_zero]
    omega

/-- The last block, masked, into the keys' accumulator. -/
theorem k_last (f : BufTy.Contents (Elt Ideal) arg11.view.ty) (L : List (View.Piece (Elt Ideal) S1024x128 .f32)) {iq il} (r : Fin 1024) (d : Fin 128) :
    arg11.view.read (Elt Ideal) (arg11.view.writes (Elt Ideal) f (⟨Rect.unit ![512, 0] S512x128.size inb_S1024x128_S512x128_512_0, k0_pay1 (F := Ideal) (k0_pay39 (F := Ideal) (LD arg4 (Rect.unit (k0_off6 i 512#32) S512x128.size iq) (harg4.unread x2))) (k0_pay42 (F := Ideal) (LD arg6 (Rect.unit (k0_off7 i) S1x1x1x512.size il) (harg6.unread x4)) (LD arg7 (Rect.unit (k0_off7 i) S1x1x1x512.size il) (harg7.unread x5)) (LD arg4 (Rect.unit (k0_off6 i 512#32) S512x128.size iq) (harg4.unread x2)) (LD arg5 (Rect.unit (k0_off6 i 512#32) S512x128.size iq) (harg5.unread x3)) (LD arg2 (Rect.unit ![512, 0] S512x128.size inb_S1024x128_S512x128_512_0) (harg2.unread x0)) (LD arg3 (Rect.unit ![512, 0] S512x128.size inb_S1024x128_S512x128_512_0) (harg3.unread x1))) (LD arg11 (Rect.unit ![512, 0] S512x128.size inb_S1024x128_S512x128_512_0) (arg11.view.writes (Elt Ideal) f L))⟩ :: L)) (ix2 r d)
      = arg11.view.read (Elt Ideal) (arg11.view.writes (Elt Ideal) f L) (ix2 r d)
        + if 512 ≤ r.val then ∑ q ∈ Finset.Ico (1024 * (i 1).val + 512) (1024 * (i 1).val + 512 + 512), if 1024 * (i 1).val + r.val ≤ q then G x0 x1 x2 x3 x4 x5 r.val q * row x2 q d else 0 else 0 := by
  by_cases h : 512 ≤ r.val
  · rw [if_pos h]
    obtain ⟨r', hr⟩ : ∃ r' : Fin 512, r.val = 512 + r'.val := ⟨⟨r.val - 512, by omega⟩, (by simp only []; omega)⟩
    refine (View.read_writes_cons_rows_of_mem (Val := Elt Ideal) arg11.view f _ _ L (ix2 r d) (ix2 r' d) rfl hr rfl).trans ?_
    refine (pay1 _ _ _ r' d).trans ?_
    refine congr (congrArg HAdd.hAdd (read_acc arg11 _ rfl r' d r hr)) ?_
    refine (Finset.sum_congr rfl fun s _ => congr (congrArg HMul.hMul ((pay42 _ _ _ _ _ _ r' s).trans (congrArg (fun w => if r'.val ≤ s.val then w else 0) (G_of arg2 harg2 arg3 harg3 arg4 harg4 arg5 harg5 arg6 harg6 arg7 harg7 x0 x1 x2 x3 x4 x5 rfl (off6_512 i) (k0_off7_eq i) (by omega) r' s)))) (read_rows' arg4 harg4 x2 (off6_512 i) s d)).trans ?_
    rw [← hr]
    refine (sum_masked_q (G x0 x1 x2 x3 x4 x5 r.val) (fun q => row x2 q d) (1024 * (i 1).val + 512) r'.val).trans ?_
    exact Finset.sum_congr rfl fun q _ => if_congr (by omega) rfl rfl
  · rw [if_neg h, add_zero]
    refine View.read_writes_cons_rows_of_not_mem (Val := Elt Ideal) arg11.view f _ _ L (ix2 r d) rfl rfl ?_
    show r.val < _ ∨ _ ≤ r.val
    have := r.isLt
    simp only [S512x128, Matrix.cons_val_zero]
    omega

/-- The first block, masked, into the queries' accumulator. -/
theorem q_first (f : BufTy.Contents (Elt Ideal) arg10.view.ty) (L : List (View.Piece (Elt Ideal) S8192x128 .f32)) {iq il} (q : Fin 8192) (d : Fin 128) :
    arg10.view.read (Elt Ideal) (arg10.view.writes (Elt Ideal) f (⟨Rect.unit (k0_off6 i 0#32) S512x128.size iq, k0_pay30 (F := Ideal) (k0_pay26 (F := Ideal) (k0_pay22 (F := Ideal) (LD arg6 (Rect.unit (k0_off5 i) S1x1x1x512.size il) (harg6.unread x4))) (LD arg7 (Rect.unit (k0_off5 i) S1x1x1x512.size il) (harg7.unread x5)) (LD arg4 (Rect.unit (k0_off6 i 0#32) S512x128.size iq) (harg4.unread x2)) (LD arg5 (Rect.unit (k0_off6 i 0#32) S512x128.size iq) (harg5.unread x3)) (LD arg2 (Rect.unit ![0, 0] S512x128.size inb_S1024x128_S512x128_0_0) (harg2.unread x0)) (LD arg3 (Rect.unit ![0, 0] S512x128.size inb_S1024x128_S512x128_0_0) (harg3.unread x1))) (LD arg10 (Rect.unit (k0_off6 i 0#32) S512x128.size iq) (arg10.view.writes (Elt Ideal) f L)) (LD arg2 (Rect.unit ![0, 0] S512x128.size inb_S1024x128_S512x128_0_0) (harg2.unread x0))⟩ :: L)) (ix2 q d)
      = arg10.view.read (Elt Ideal) (arg10.view.writes (Elt Ideal) f L) (ix2 q d)
        + if 1024 * (i 1).val ≤ q.val ∧ q.val < 1024 * (i 1).val + 512 then ∑ r ∈ Finset.Ico 0 (0 + 512), if 1024 * (i 1).val + r ≤ q.val then G x0 x1 x2 x3 x4 x5 r q.val * row x0 r d else 0 else 0 := by
  by_cases h : 1024 * (i 1).val ≤ q.val ∧ q.val < 1024 * (i 1).val + 512
  · rw [if_pos h]
    obtain ⟨s, hs⟩ : ∃ s : Fin 512, q.val = 1024 * (i 1).val + s.val := ⟨⟨q.val - (1024 * (i 1).val), by omega⟩, by simp only []; omega⟩
    refine (View.read_writes_cons_rows_of_mem (Val := Elt Ideal) arg10.view f _ _ L (ix2 q d) (ix2 s d) (off6_0 i) hs rfl).trans ?_
    refine (pay30 _ _ _ s d).trans ?_
    refine congr (congrArg HAdd.hAdd (read_acc arg10 _ (off6_0 i) s d q hs)) ?_
    refine (Finset.sum_congr rfl fun r _ => congr (congrArg HMul.hMul ((pay26 _ _ _ _ _ _ r s).trans (congrArg (fun w => if r.val ≤ s.val then w else 0) (G_of arg2 harg2 arg3 harg3 arg4 harg4 arg5 harg5 arg6 harg6 arg7 harg7 x0 x1 x2 x3 x4 x5 rfl (off6_0 i) (k0_off5_eq i) (by omega) r s)))) (read_rows' arg2 harg2 x0 rfl r d)).trans ?_
    rw [← hs]
    refine (sum_masked_k (fun r => G x0 x1 x2 x3 x4 x5 r q.val) (fun r => row x0 r d) 0 s.val).trans ?_
    exact Finset.sum_congr rfl fun r _ => if_congr (by omega) rfl rfl
  · rw [if_neg h, add_zero]
    refine View.read_writes_cons_rows_of_not_mem (Val := Elt Ideal) arg10.view f _ _ L (ix2 q d) (off6_0 i) rfl ?_
    show q.val < _ ∨ _ ≤ q.val
    simp only [S512x128, Matrix.cons_val_zero]
    omega

/-- The block above the diagonal, into the queries' accumulator. -/
theorem q_above (f : BufTy.Contents (Elt Ideal) arg10.view.ty) (L : List (View.Piece (Elt Ideal) S8192x128 .f32)) {iq il} (q : Fin 8192) (d : Fin 128) :
    arg10.view.read (Elt Ideal) (arg10.view.writes (Elt Ideal) f (⟨Rect.unit (k0_off6 i 512#32) S512x128.size iq, k0_pay38 (F := Ideal) (k0_pay31 (F := Ideal) (LD arg7 (Rect.unit (k0_off7 i) S1x1x1x512.size il) (harg7.unread x5))) (k0_pay33 (F := Ideal) (LD arg5 (Rect.unit (k0_off6 i 512#32) S512x128.size iq) (harg5.unread x3))) (k0_pay34 (F := Ideal) (LD arg6 (Rect.unit (k0_off7 i) S1x1x1x512.size il) (harg6.unread x4)) (LD arg4 (Rect.unit (k0_off6 i 512#32) S512x128.size iq) (harg4.unread x2)) (LD arg2 (Rect.unit ![0, 0] S512x128.size inb_S1024x128_S512x128_0_0) (harg2.unread x0))) (LD arg3 (Rect.unit ![0, 0] S512x128.size inb_S1024x128_S512x128_0_0) (harg3.unread x1)) (LD arg10 (Rect.unit (k0_off6 i 512#32) S512x128.size iq) (arg10.view.writes (Elt Ideal) f L)) (LD arg2 (Rect.unit ![0, 0] S512x128.size inb_S1024x128_S512x128_0_0) (harg2.unread x0))⟩ :: L)) (ix2 q d)
      = arg10.view.read (Elt Ideal) (arg10.view.writes (Elt Ideal) f L) (ix2 q d)
        + if 1024 * (i 1).val + 512 ≤ q.val ∧ q.val < 1024 * (i 1).val + 512 + 512 then ∑ r ∈ Finset.Ico 0 (0 + 512), if 1024 * (i 1).val + r ≤ q.val then G x0 x1 x2 x3 x4 x5 r q.val * row x0 r d else 0 else 0 := by
  by_cases h : 1024 * (i 1).val + 512 ≤ q.val ∧ q.val < 1024 * (i 1).val + 512 + 512
  · rw [if_pos h]
    obtain ⟨s, hs⟩ : ∃ s : Fin 512, q.val = 1024 * (i 1).val + 512 + s.val := ⟨⟨q.val - (1024 * (i 1).val + 512), by omega⟩, by simp only []; omega⟩
    refine (View.read_writes_cons_rows_of_mem (Val := Elt Ideal) arg10.view f _ _ L (ix2 q d) (ix2 s d) (off6_512 i) hs rfl).trans ?_
    refine (pay38 _ _ _ _ _ _ _ _ s d).trans ?_
    refine congr (congrArg HAdd.hAdd (read_acc arg10 _ (off6_512 i) s d q hs)) ?_
    refine (Finset.sum_congr rfl fun r _ => congr (congrArg HMul.hMul (id (G_of arg2 harg2 arg3 harg3 arg4 harg4 arg5 harg5 arg6 harg6 arg7 harg7 x0 x1 x2 x3 x4 x5 rfl (off6_512 i) (k0_off7_eq i) (by omega) r s))) (read_rows' arg2 harg2 x0 rfl r d)).trans ?_
    rw [← hs]
    refine (sum_shift (M := 512) (fun r => G x0 x1 x2 x3 x4 x5 r q.val * row x0 r d) 0).trans ?_
    exact Finset.sum_congr rfl fun r hr => (if_pos (by rw [Finset.mem_Ico] at hr; omega)).symm
  · rw [if_neg h, add_zero]
    refine View.read_writes_cons_rows_of_not_mem (Val := Elt Ideal) arg10.view f _ _ L (ix2 q d) (off6_512 i) rfl ?_
    show q.val < _ ∨ _ ≤ q.val
    simp only [S512x128, Matrix.cons_val_zero]
    omega

/-- The last block, masked, into the queries' accumulator. -/
theorem q_last (f : BufTy.Contents (Elt Ideal) arg10.view.ty) (L : List (View.Piece (Elt Ideal) S8192x128 .f32)) {iq il} (q : Fin 8192) (d : Fin 128) :
    arg10.view.read (Elt Ideal) (arg10.view.writes (Elt Ideal) f (⟨Rect.unit (k0_off6 i 512#32) S512x128.size iq, k0_pay2 (F := Ideal) (k0_pay42 (F := Ideal) (LD arg6 (Rect.unit (k0_off7 i) S1x1x1x512.size il) (harg6.unread x4)) (LD arg7 (Rect.unit (k0_off7 i) S1x1x1x512.size il) (harg7.unread x5)) (LD arg4 (Rect.unit (k0_off6 i 512#32) S512x128.size iq) (harg4.unread x2)) (LD arg5 (Rect.unit (k0_off6 i 512#32) S512x128.size iq) (harg5.unread x3)) (LD arg2 (Rect.unit ![512, 0] S512x128.size inb_S1024x128_S512x128_512_0) (harg2.unread x0)) (LD arg3 (Rect.unit ![512, 0] S512x128.size inb_S1024x128_S512x128_512_0) (harg3.unread x1))) (LD arg10 (Rect.unit (k0_off6 i 512#32) S512x128.size iq) (arg10.view.writes (Elt Ideal) f L)) (LD arg2 (Rect.unit ![512, 0] S512x128.size inb_S1024x128_S512x128_512_0) (harg2.unread x0))⟩ :: L)) (ix2 q d)
      = arg10.view.read (Elt Ideal) (arg10.view.writes (Elt Ideal) f L) (ix2 q d)
        + if 1024 * (i 1).val + 512 ≤ q.val ∧ q.val < 1024 * (i 1).val + 512 + 512 then ∑ r ∈ Finset.Ico 512 (512 + 512), if 1024 * (i 1).val + r ≤ q.val then G x0 x1 x2 x3 x4 x5 r q.val * row x0 r d else 0 else 0 := by
  by_cases h : 1024 * (i 1).val + 512 ≤ q.val ∧ q.val < 1024 * (i 1).val + 512 + 512
  · rw [if_pos h]
    obtain ⟨s, hs⟩ : ∃ s : Fin 512, q.val = 1024 * (i 1).val + 512 + s.val := ⟨⟨q.val - (1024 * (i 1).val + 512), by omega⟩, by simp only []; omega⟩
    refine (View.read_writes_cons_rows_of_mem (Val := Elt Ideal) arg10.view f _ _ L (ix2 q d) (ix2 s d) (off6_512 i) hs rfl).trans ?_
    refine (pay2 _ _ _ s d).trans ?_
    refine congr (congrArg HAdd.hAdd (read_acc arg10 _ (off6_512 i) s d q hs)) ?_
    refine (Finset.sum_congr rfl fun r _ => congr (congrArg HMul.hMul ((pay42 _ _ _ _ _ _ r s).trans (congrArg (fun w => if r.val ≤ s.val then w else 0) (G_of arg2 harg2 arg3 harg3 arg4 harg4 arg5 harg5 arg6 harg6 arg7 harg7 x0 x1 x2 x3 x4 x5 rfl (off6_512 i) (k0_off7_eq i) (by omega) r s)))) (read_rows' arg2 harg2 x0 rfl r d)).trans ?_
    rw [← hs]
    refine (sum_masked_k (fun r => G x0 x1 x2 x3 x4 x5 r q.val) (fun r => row x0 r d) 512 s.val).trans ?_
    exact Finset.sum_congr rfl fun r _ => if_congr (by omega) rfl rfl
  · rw [if_neg h, add_zero]
    refine View.read_writes_cons_rows_of_not_mem (Val := Elt Ideal) arg10.view f _ _ L (ix2 q d) (off6_512 i) rfl ?_
    show q.val < _ ∨ _ ≤ q.val
    simp only [S512x128, Matrix.cons_val_zero]
    omega

/-- What a load of rows just stored reads does not depend on what was there before. -/
theorem q_reload (f f' : BufTy.Contents (Elt Ideal) arg10.view.ty) {iq} (w) (L : List (View.Piece (Elt Ideal) S8192x128 .f32)) :
    LD arg10 (Rect.unit (k0_off6 i 512#32) S512x128.size iq) (arg10.view.writes (Elt Ideal) f' (⟨Rect.unit (k0_off6 i 512#32) S512x128.size iq, w⟩ :: L)) = LD arg10 (Rect.unit (k0_off6 i 512#32) S512x128.size iq) (arg10.view.writes (Elt Ideal) f (⟨Rect.unit (k0_off6 i 512#32) S512x128.size iq, w⟩ :: L)) := by
  funext y
  rw [LD, LD, View.readAt_eq_ld, View.readAt_eq_ld]
  exact (View.read_writes_cons_emb arg10.view f' _ w L y).trans (View.read_writes_cons_emb arg10.view f _ w L y).symm

/-- The last block, where the rows it adds to were just stored and are read as those stores leave them. -/
theorem q_last' (f f' : BufTy.Contents (Elt Ideal) arg10.view.ty) {iq il} (w) (L : List (View.Piece (Elt Ideal) S8192x128 .f32)) (q : Fin 8192) (d : Fin 128) :
    arg10.view.read (Elt Ideal) (arg10.view.writes (Elt Ideal) f (⟨Rect.unit (k0_off6 i 512#32) S512x128.size iq, k0_pay2 (F := Ideal) (k0_pay42 (F := Ideal) (LD arg6 (Rect.unit (k0_off7 i) S1x1x1x512.size il) (harg6.unread x4)) (LD arg7 (Rect.unit (k0_off7 i) S1x1x1x512.size il) (harg7.unread x5)) (LD arg4 (Rect.unit (k0_off6 i 512#32) S512x128.size iq) (harg4.unread x2)) (LD arg5 (Rect.unit (k0_off6 i 512#32) S512x128.size iq) (harg5.unread x3)) (LD arg2 (Rect.unit ![512, 0] S512x128.size inb_S1024x128_S512x128_512_0) (harg2.unread x0)) (LD arg3 (Rect.unit ![512, 0] S512x128.size inb_S1024x128_S512x128_512_0) (harg3.unread x1))) (LD arg10 (Rect.unit (k0_off6 i 512#32) S512x128.size iq) (arg10.view.writes (Elt Ideal) f' (⟨Rect.unit (k0_off6 i 512#32) S512x128.size iq, w⟩ :: L))) (LD arg2 (Rect.unit ![512, 0] S512x128.size inb_S1024x128_S512x128_512_0) (harg2.unread x0))⟩ :: (⟨Rect.unit (k0_off6 i 512#32) S512x128.size iq, w⟩ :: L))) (ix2 q d)
      = arg10.view.read (Elt Ideal) (arg10.view.writes (Elt Ideal) f (⟨Rect.unit (k0_off6 i 512#32) S512x128.size iq, w⟩ :: L)) (ix2 q d)
        + if 1024 * (i 1).val + 512 ≤ q.val ∧ q.val < 1024 * (i 1).val + 512 + 512 then ∑ r ∈ Finset.Ico 512 (512 + 512), if 1024 * (i 1).val + r ≤ q.val then G x0 x1 x2 x3 x4 x5 r q.val * row x0 r d else 0 else 0 := by
  rw [q_reload i arg10 f f' w L]
  exact q_last i arg2 harg2 arg3 harg3 arg4 harg4 arg5 harg5 arg6 harg6 arg7 harg7 arg10 x0 x1 x2 x3 x4 x5 f _ q d

end Pieces

end Cert.Proof

end
-- ==== Proof.Point.lean ====
/- What one grid point leaves in each output's buffer: the point takes key tile `j` of one head and adds every query row's contribution, with the
   causal condition, to the tile's two accumulators and to the queries' gradient. -/
module

public import proofs.«01_k».proof.Proof.Diag
public import proofs.«01_k».proof.Proof.Gen.KernelIdeal.Frame

@[expose] public section

set_option maxRecDepth 16384

noncomputable section

namespace Cert.Proof

open Idealize.ShloMosaic Idealize.ShloMosaic.Pointwise Idealize.ShloMosaic.TcCoe Idealize.ShloMosaic.Tactic
open Cert.KernelIdeal Cert.KernelIdeal.Gen

/-- The three parts of a query-indexed sum join to the causal sum over every query row. -/
theorem join_q (f : ℕ → EReal) (j r : ℕ) (hj : j < 8) (hr : r < 1024) (a : EReal) :
    a + (∑ q ∈ Finset.Ico (1024 * (j + 1)) (1024 * (j + 1 + (7 - j))), f q)
        + (∑ q ∈ Finset.Ico (1024 * j) (1024 * j + 512), if 1024 * j + r ≤ q then f q else 0)
        + (if r < 512 then ∑ q ∈ Finset.Ico (1024 * j + 512) (1024 * j + 512 + 512), if 1024 * j + r ≤ q then f q else 0 else 0)
        + (if 512 ≤ r then ∑ q ∈ Finset.Ico (1024 * j + 512) (1024 * j + 512 + 512), if 1024 * j + r ≤ q then f q else 0 else 0)
      = a + ∑ q ∈ Finset.range 8192, if 1024 * j + r ≤ q then f q else 0 := by
  have e1 : (∑ q ∈ Finset.Ico (1024 * (j + 1)) (1024 * (j + 1 + (7 - j))), f q)
      = ∑ q ∈ Finset.Ico (1024 * j + 512 + 512) 8192, if 1024 * j + r ≤ q then f q else 0 := by
    rw [show 1024 * (j + 1 + (7 - j)) = 8192 by omega, show 1024 * (j + 1) = 1024 * j + 512 + 512 by ring]
    exact Finset.sum_congr rfl fun q hq => (if_pos (by rw [Finset.mem_Ico] at hq; omega)).symm
  have e2 : (if r < 512 then ∑ q ∈ Finset.Ico (1024 * j + 512) (1024 * j + 512 + 512), if 1024 * j + r ≤ q then f q else 0 else 0)
        + (if 512 ≤ r then ∑ q ∈ Finset.Ico (1024 * j + 512) (1024 * j + 512 + 512), if 1024 * j + r ≤ q then f q else 0 else 0)
      = ∑ q ∈ Finset.Ico (1024 * j + 512) (1024 * j + 512 + 512), if 1024 * j + r ≤ q then f q else 0 := by
    by_cases h : r < 512
    · rw [if_pos h, if_neg (by omega), add_zero]
    · rw [if_neg h, if_pos (by omega), zero_add]
  have e3 : (∑ q ∈ Finset.range 8192, if 1024 * j + r ≤ q then f q else 0)
      = ∑ q ∈ Finset.Ico (1024 * j) 8192, if 1024 * j + r ≤ q then f q else 0 := by
    rw [Finset.range_eq_Ico, ← Finset.sum_Ico_consecutive _ (Nat.zero_le (1024 * j)) (by omega : 1024 * j ≤ 8192),
      Finset.sum_eq_zero (fun q hq => if_neg (by rw [Finset.mem_Ico] at hq; omega)), zero_add]
  rw [add_assoc _ (if r < 512 then _ else _), e2, e1, e3, add_assoc, add_assoc]
  refine congrArg (a + ·) ?_
  rw [add_comm, Finset.sum_Ico_consecutive _ (by omega) (by omega), Finset.sum_Ico_consecutive _ (by omega) (by omega)]

/-- The parts of a key-indexed sum join to the causal sum over the tile's key rows. -/
theorem join_k (g : ℕ → EReal) (j q : ℕ) (hj : j < 8) (hq : q < 8192) (a : EReal) :
    a + (if 1024 * (j + 1) ≤ q ∧ q < 1024 * (j + 1 + (7 - j)) then ∑ r : Fin 1024, g r.val else 0)
        + (if 1024 * j ≤ q ∧ q < 1024 * j + 512 then ∑ r ∈ Finset.Ico 0 (0 + 512), if 1024 * j + r ≤ q then g r else 0 else 0)
        + (if 1024 * j + 512 ≤ q ∧ q < 1024 * j + 512 + 512 then ∑ r ∈ Finset.Ico 0 (0 + 512), if 1024 * j + r ≤ q then g r else 0 else 0)
        + (if 1024 * j + 512 ≤ q ∧ q < 1024 * j + 512 + 512 then ∑ r ∈ Finset.Ico 512 (512 + 512), if 1024 * j + r ≤ q then g r else 0 else 0)
      = a + ∑ r ∈ Finset.range 1024, if 1024 * j + r ≤ q then g r else 0 := by
  have hs : (∑ r ∈ Finset.range 1024, if 1024 * j + r ≤ q then g r else 0)
      = (∑ r ∈ Finset.Ico 0 (0 + 512), if 1024 * j + r ≤ q then g r else 0) + ∑ r ∈ Finset.Ico 512 (512 + 512), if 1024 * j + r ≤ q then g r else 0 := by
    rw [Finset.range_eq_Ico, Finset.sum_Ico_consecutive _ (by omega) (by omega)]
  by_cases h1 : 1024 * (j + 1) ≤ q
  · rw [if_pos ⟨h1, by omega⟩, if_neg (by omega), if_neg (by omega), if_neg (by omega), add_zero, add_zero, add_zero]
    refine congrArg (a + ·) ?_
    rw [Fin.sum_univ_eq_sum_range (fun r => g r) 1024]
    exact Finset.sum_congr rfl fun r hr => (if_pos (by rw [Finset.mem_range] at hr; omega)).symm
  · rw [if_neg (by omega), add_zero]
    by_cases h2 : 1024 * j + 512 ≤ q
    · rw [if_neg (by omega), if_pos (by omega), if_pos (by omega), add_zero, hs, add_assoc]
    · rw [if_neg (c := 1024 * j + 512 ≤ q ∧ _) (by omega), if_neg (c := 1024 * j + 512 ≤ q ∧ _) (by omega), add_zero, add_zero, hs]
      have z : (∑ r ∈ Finset.Ico 512 (512 + 512), if 1024 * j + r ≤ q then g r else 0) = 0 :=
        Finset.sum_eq_zero (fun r hr => if_neg (by rw [Finset.mem_Ico] at hr; omega))
      rw [z, add_zero]
      by_cases h3 : 1024 * j ≤ q
      · rw [if_pos (by omega)]
      · rw [if_neg (by omega), Finset.sum_eq_zero (fun r hr => if_neg (by omega))]

section Point

variable (c : Dev nD) (i : grid0.Coords)
  (arg2 : Memref sig .tc .vmem S1024x128 .bf16) (harg2 : arg2.IsWhole) (arg3 : Memref sig .tc .vmem S1024x128 .bf16) (harg3 : arg3.IsWhole) (arg4 : Memref sig .tc .vmem S8192x128 .bf16) (harg4 : arg4.IsWhole) (arg5 : Memref sig .tc .vmem S8192x128 .f32) (harg5 : arg5.IsWhole) (arg6 : Memref sig .tc .vmem S1x8x8x1024 .f32) (harg6 : arg6.IsWhole) (arg7 : Memref sig .tc .vmem S1x8x8x1024 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S8192x128 .f32) (harg10 : arg10.IsWhole) (arg11 : Memref sig .tc .vmem S1024x128 .f32) (harg11 : arg11.IsWhole) (arg12 : Memref sig .tc .vmem S1024x128 .f32) (harg12 : arg12.IsWhole)
  (x0 x1 : Vec Ideal S1024x128 .bf16) (x2 : Vec Ideal S8192x128 .bf16) (x3 : Vec Ideal S8192x128 .f32) (x4 x5 : Vec Ideal S1x8x8x1024 .f32) (xo8 : Vec Ideal S8192x128 .f32)

theorem loop2_nil (v : BitVec 32) (f10 f11 f12) (n : ℕ) (hn : n = 0) :
    pb_k0_t2 (F := Ideal) Variants.none c none i arg2 harg2 arg3 harg3 arg4 harg4 arg5 harg5 arg6 harg6 arg7 harg7 arg8 harg8 arg9 harg9 arg10 harg10 arg11 harg11 arg12 harg12 v (harg2.unread x0) (harg3.unread x1) (harg4.unread x2) (harg5.unread x3) (harg6.unread x4) (harg7.unread x5) f10 f11 f12 n = ([], [], []) := by
  subst hn; rfl

/-- Row `n`'s contribution to the tile's key gradient, and to the tile's value gradient, at lane `d`; and the tile's to row `q`'s. -/
def dkSum (x0 x1 : S1024x128.Idx → EReal) (x2 x3 : S8192x128.Idx → EReal) (x4 x5 : S1x8x8x1024.Idx → EReal) (j r : ℕ) (d : Fin 128) : EReal :=
  ∑ q ∈ Finset.range 8192, if 1024 * j + r ≤ q then G x0 x1 x2 x3 x4 x5 r q * row x2 q d else 0

def dvSum (x0 : S1024x128.Idx → EReal) (x2 x3 : S8192x128.Idx → EReal) (x4 : S1x8x8x1024.Idx → EReal) (j r : ℕ) (d : Fin 128) : EReal :=
  ∑ q ∈ Finset.range 8192, if 1024 * j + r ≤ q then W x0 x2 x4 r q * row x3 q d else 0

def dqSum (x0 x1 : S1024x128.Idx → EReal) (x2 x3 : S8192x128.Idx → EReal) (x4 x5 : S1x8x8x1024.Idx → EReal) (j q : ℕ) (d : Fin 128) : EReal :=
  ∑ r ∈ Finset.range 1024, if 1024 * j + r ≤ q then G x0 x1 x2 x3 x4 x5 r q * row x0 r d else 0

/-- The accumulators after both loops (the second never runs), the first begun from contents `g10`, `g11`, `g12`. -/
theorem loops_read (v v' : BitVec 32) (g10 g11 g12 h10 h11 h12 f10 f11 f12) (M10 : List (View.Piece (Elt Ideal) S8192x128 .f32)) (M11 M12 : List (View.Piece (Elt Ideal) S1024x128 .f32))
    (e10 : arg10.view.writes (Elt Ideal) f10 M10 = arg10.view.writes (Elt Ideal) g10 (pb_k0_t1 (F := Ideal) Variants.none c none i arg2 harg2 arg3 harg3 arg4 harg4 arg5 harg5 arg6 harg6 arg7 harg7 arg8 harg8 arg9 harg9 arg10 harg10 arg11 harg11 arg12 harg12 v (harg2.unread x0) (harg3.unread x1) (harg4.unread x2) (harg5.unread x3) (harg6.unread x4) (harg7.unread x5) g10 g11 g12 (k0_t1_loop i).trips).1)
    (e11 : arg11.view.writes (Elt Ideal) f11 M11 = arg11.view.writes (Elt Ideal) g11 (pb_k0_t1 (F := Ideal) Variants.none c none i arg2 harg2 arg3 harg3 arg4 harg4 arg5 harg5 arg6 harg6 arg7 harg7 arg8 harg8 arg9 harg9 arg10 harg10 arg11 harg11 arg12 harg12 v (harg2.unread x0) (harg3.unread x1) (harg4.unread x2) (harg5.unread x3) (harg6.unread x4) (harg7.unread x5) g10 g11 g12 (k0_t1_loop i).trips).2.1)
    (e12 : arg12.view.writes (Elt Ideal) f12 M12 = arg12.view.writes (Elt Ideal) g12 (pb_k0_t1 (F := Ideal) Variants.none c none i arg2 harg2 arg3 harg3 arg4 harg4 arg5 harg5 arg6 harg6 arg7 harg7 arg8 harg8 arg9 harg9 arg10 harg10 arg11 harg11 arg12 harg12 v (harg2.unread x0) (harg3.unread x1) (harg4.unread x2) (harg5.unread x3) (harg6.unread x4) (harg7.unread x5) g10 g11 g12 (k0_t1_loop i).trips).2.2) :
    (∀ (q : Fin 8192) (d : Fin 128), arg10.view.read (Elt Ideal) (arg10.view.writes (Elt Ideal) f10 ((pb_k0_t2 (F := Ideal) Variants.none c none i arg2 harg2 arg3 harg3 arg4 harg4 arg5 harg5 arg6 harg6 arg7 harg7 arg8 harg8 arg9 harg9 arg10 harg10 arg11 harg11 arg12 harg12 v' (harg2.unread x0) (harg3.unread x1) (harg4.unread x2) (harg5.unread x3) (harg6.unread x4) (harg7.unread x5) h10 h11 h12 (k0_t2_loop i).trips).1 ++ M10)) (ix2 q d)
        = arg10.view.read (Elt Ideal) g10 (ix2 q d) + if 1024 * ((i 1).val + 1) ≤ q.val ∧ q.val < 1024 * ((i 1).val + 1 + (7 - (i 1).val)) then ∑ r : Fin 1024, G x0 x1 x2 x3 x4 x5 r.val q.val * row x0 r.val d else 0)
    ∧ (∀ (r : Fin 1024) (d : Fin 128), arg11.view.read (Elt Ideal) (arg11.view.writes (Elt Ideal) f11 ((pb_k0_t2 (F := Ideal) Variants.none c none i arg2 harg2 arg3 harg3 arg4 harg4 arg5 harg5 arg6 harg6 arg7 harg7 arg8 harg8 arg9 harg9 arg10 harg10 arg11 harg11 arg12 harg12 v' (harg2.unread x0) (harg3.unread x1) (harg4.unread x2) (harg5.unread x3) (harg6.unread x4) (harg7.unread x5) h10 h11 h12 (k0_t2_loop i).trips).2.1 ++ M11)) (ix2 r d)
        = arg11.view.read (Elt Ideal) g11 (ix2 r d) + ∑ q ∈ Finset.Ico (1024 * ((i 1).val + 1)) (1024 * ((i 1).val + 1 + (7 - (i 1).val))), G x0 x1 x2 x3 x4 x5 r.val q * row x2 q d)
    ∧ (∀ (r : Fin 1024) (d : Fin 128), arg12.view.read (Elt Ideal) (arg12.view.writes (Elt Ideal) f12 ((pb_k0_t2 (F := Ideal) Variants.none c none i arg2 harg2 arg3 harg3 arg4 harg4 arg5 harg5 arg6 harg6 arg7 harg7 arg8 harg8 arg9 harg9 arg10 harg10 arg11 harg11 arg12 harg12 v' (harg2.unread x0) (harg3.unread x1) (harg4.unread x2) (harg5.unread x3) (harg6.unread x4) (harg7.unread x5) h10 h11 h12 (k0_t2_loop i).trips).2.2 ++ M12)) (ix2 r d)
        = arg12.view.read (Elt Ideal) g12 (ix2 r d) + ∑ q ∈ Finset.Ico (1024 * ((i 1).val + 1)) (1024 * ((i 1).val + 1 + (7 - (i 1).val))), W x0 x2 x4 r.val q * row x3 q d) := by
  obtain ⟨a, b, d⟩ := loop_read c i arg2 harg2 arg3 harg3 arg4 harg4 arg5 harg5 arg6 harg6 arg7 harg7 arg8 harg8 arg9 harg9 arg10 harg10 arg11 harg11 arg12 harg12 v x0 x1 x2 x3 x4 x5 g10 g11 g12 _ (le_refl (k0_t1_loop i).trips)
  rw [loop2_nil c i arg2 harg2 arg3 harg3 arg4 harg4 arg5 harg5 arg6 harg6 arg7 harg7 arg8 harg8 arg9 harg9 arg10 harg10 arg11 harg11 arg12 harg12 x0 x1 x2 x3 x4 x5 v' h10 h11 h12 _ (trips2_eq i), List.nil_append, List.nil_append, List.nil_append, e10, e11, e12]
  refine ⟨fun q l => ?_, fun r l => ?_, fun r l => ?_⟩
  · rw [a, trips_eq]
  · rw [b, trips_eq]
  · rw [d, trips_eq]

theorem whole_zero11 (r : Fin 1024) (d : Fin 128) {inb} : arg11.view.read (Elt Ideal) (arg11.view.writes (Elt Ideal) arg11.view.junk [⟨Rect.unit ![0, 0] S1024x128.size inb, k0_pay15 (F := Ideal)⟩]) (ix2 r d) = 0 :=
  (View.read_writes_cons_rows_of_mem (Val := Elt Ideal) arg11.view _ _ _ [] (ix2 r d) (ix2 r d) rfl (Nat.zero_add _).symm rfl).trans (pay15 r d)

theorem whole_zero12 (r : Fin 1024) (d : Fin 128) {inb} : arg12.view.read (Elt Ideal) (arg12.view.writes (Elt Ideal) arg12.view.junk [⟨Rect.unit ![0, 0] S1024x128.size inb, k0_pay16 (F := Ideal)⟩]) (ix2 r d) = 0 :=
  (View.read_writes_cons_rows_of_mem (Val := Elt Ideal) arg12.view _ _ _ [] (ix2 r d) (ix2 r d) rfl (Nat.zero_add _).symm rfl).trans (pay16 r d)

theorem whole_zero10 (q : Fin 8192) (d : Fin 128) {inb} : arg10.view.read (Elt Ideal) (arg10.view.writes (Elt Ideal) arg10.view.junk [⟨Rect.unit ![0, 0] S8192x128.size inb, k0_pay17 (F := Ideal)⟩]) (ix2 q d) = 0 :=
  (View.read_writes_cons_rows_of_mem (Val := Elt Ideal) arg10.view _ _ _ [] (ix2 q d) (ix2 q d) rfl (Nat.zero_add _).symm rfl).trans (pay17 q d)

theorem dk_A (hc0 : cond0_0 i) (hc1 : ¬cond0_1 i) (r : Fin 1024) (d : Fin 128) :
    out0_A_6 (F := Ideal) c i arg2 harg2 arg3 harg3 arg4 harg4 arg5 harg5 arg6 harg6 arg7 harg7 arg8 harg8 arg9 harg9 arg10 harg10 arg11 harg11 arg12 harg12 hc0 hc1 x0 x1 x2 x3 x4 x5 (ix2 r d) = dkSum x0 x1 x2 x3 x4 x5 (i 1).val r.val d * (scl : EReal) := by
  unfold out0_A_6 kernelRun0_A
  refine (View.read_writes_cons_rows_of_mem (Val := Elt Ideal) VO0_6 _ _ _ _ (ix2 r d) (ix2 r d) rfl (Nat.zero_add _).symm rfl).trans ?_
  refine (pay3 _ r d).trans (congrArg (· * (scl : EReal)) ?_)
  refine (read_acc arg11 _ rfl r d r (Nat.zero_add _).symm).trans ?_
  refine (k_last i arg2 harg2 arg3 harg3 arg4 harg4 arg5 harg5 arg6 harg6 arg7 harg7 arg11 x0 x1 x2 x3 x4 x5 _ _ r d).trans ?_
  refine (congrArg (· + _) (k_above i arg2 harg2 arg3 harg3 arg4 harg4 arg5 harg5 arg6 harg6 arg7 harg7 arg11 x0 x1 x2 x3 x4 x5 _ _ r d)).trans ?_
  refine (congrArg (· + _ + _) (k_first i arg2 harg2 arg3 harg3 arg4 harg4 arg5 harg5 arg6 harg6 arg7 harg7 arg11 x0 x1 x2 x3 x4 x5 _ _ r d)).trans ?_
  refine (congrArg (· + _ + _ + _) ((loops_read c i arg2 harg2 arg3 harg3 arg4 harg4 arg5 harg5 arg6 harg6 arg7 harg7 arg8 harg8 arg9 harg9 arg10 harg10 arg11 harg11 arg12 harg12 x0 x1 x2 x3 x4 x5 _ _ _ _ _ _ _ _ _ _ _ _ _ _ (View.writes_append ..) (View.writes_append ..) (View.writes_append ..)).2.1 r d)).trans ?_
  refine (congrArg (· + _ + _ + _ + _) (whole_zero11 arg11 r d)).trans ?_
  exact (join_q (fun q => G x0 x1 x2 x3 x4 x5 r.val q * row x2 q d) (i 1).val r.val (i 1).isLt r.isLt 0).trans (zero_add _)

theorem dv_A (hc0 : cond0_0 i) (hc1 : ¬cond0_1 i) (r : Fin 1024) (d : Fin 128) :
    out0_A_7 (F := Ideal) c i arg2 harg2 arg3 harg3 arg4 harg4 arg5 harg5 arg6 harg6 arg7 harg7 arg8 harg8 arg9 harg9 arg10 harg10 arg11 harg11 arg12 harg12 hc0 hc1 x0 x1 x2 x3 x4 x5 (ix2 r d) = dvSum x0 x2 x3 x4 (i 1).val r.val d := by
  unfold out0_A_7 kernelRun0_A
  refine (View.read_writes_cons_rows_of_mem (Val := Elt Ideal) VO0_7 _ _ _ _ (ix2 r d) (ix2 r d) rfl (Nat.zero_add _).symm rfl).trans ?_
  refine (read_acc arg12 _ rfl r d r (Nat.zero_add _).symm).trans ?_
  refine (v_last i arg2 harg2 arg4 harg4 arg5 harg5 arg6 harg6 arg12 x0 x2 x3 x4 _ _ r d).trans ?_
  refine (congrArg (· + _) (v_above i arg2 harg2 arg4 harg4 arg5 harg5 arg6 harg6 arg12 x0 x2 x3 x4 _ _ r d)).trans ?_
  refine (congrArg (· + _ + _) (v_first i arg2 harg2 arg4 harg4 arg5 harg5 arg6 harg6 arg12 x0 x2 x3 x4 _ _ r d)).trans ?_
  refine (congrArg (· + _ + _ + _) ((loops_read c i arg2 harg2 arg3 harg3 arg4 harg4 arg5 harg5 arg6 harg6 arg7 harg7 arg8 harg8 arg9 harg9 arg10 harg10 arg11 harg11 arg12 harg12 x0 x1 x2 x3 x4 x5 _ _ _ _ _ _ _ _ _ _ _ _ _ _ (View.writes_append ..) (View.writes_append ..) (View.writes_append ..)).2.2 r d)).trans ?_
  refine (congrArg (· + _ + _ + _ + _) (whole_zero12 arg12 r d)).trans ?_
  exact (join_q (fun q => W x0 x2 x4 r.val q * row x3 q d) (i 1).val r.val (i 1).isLt r.isLt 0).trans (zero_add _)

theorem dq_A (hc0 : cond0_0 i) (hc1 : ¬cond0_1 i) (q : Fin 8192) (d : Fin 128) :
    out0_A_8 (F := Ideal) c i arg2 harg2 arg3 harg3 arg4 harg4 arg5 harg5 arg6 harg6 arg7 harg7 arg8 harg8 arg9 harg9 arg10 harg10 arg11 harg11 arg12 harg12 hc0 hc1 x0 x1 x2 x3 x4 x5 (ix2 q d) = dqSum x0 x1 x2 x3 x4 x5 (i 1).val q.val d := by
  unfold out0_A_8
  rw [View.read_writes_of_cover VO0_8 _ arg10.view arg10.view.junk _ (cover0_A_8 c i arg2 harg2 arg3 harg3 arg4 harg4 arg5 harg5 arg6 harg6 arg7 harg7 arg8 harg8 arg9 harg9 arg10 harg10 arg11 harg11 arg12 harg12 hc0 hc1 x0 x1 x2 x3 x4 x5)]
  unfold kernelRun0_A
  refine (q_last i arg2 harg2 arg3 harg3 arg4 harg4 arg5 harg5 arg6 harg6 arg7 harg7 arg10 x0 x1 x2 x3 x4 x5 _ _ q d).trans ?_
  refine (congrArg (· + _) (q_above i arg2 harg2 arg3 harg3 arg4 harg4 arg5 harg5 arg6 harg6 arg7 harg7 arg10 x0 x1 x2 x3 x4 x5 _ _ q d)).trans ?_
  refine (congrArg (· + _ + _) (q_first i arg2 harg2 arg3 harg3 arg4 harg4 arg5 harg5 arg6 harg6 arg7 harg7 arg10 x0 x1 x2 x3 x4 x5 _ _ q d)).trans ?_
  refine (congrArg (· + _ + _ + _) ((loops_read c i arg2 harg2 arg3 harg3 arg4 harg4 arg5 harg5 arg6 harg6 arg7 harg7 arg8 harg8 arg9 harg9 arg10 harg10 arg11 harg11 arg12 harg12 x0 x1 x2 x3 x4 x5 _ _ _ _ _ _ _ _ _ _ _ _ _ _ (View.writes_append ..) (View.writes_append ..) (View.writes_append ..)).1 q d)).trans ?_
  refine (congrArg (· + _ + _ + _ + _) (whole_zero10 arg10 q d)).trans ?_
  exact (join_k (fun r => G x0 x1 x2 x3 x4 x5 r q.val * row x0 r d) (i 1).val q.val (i 1).isLt q.isLt 0).trans (zero_add _)

theorem dk_B (hc0 : ¬cond0_0 i) (hc1 : ¬cond0_1 i) (r : Fin 1024) (d : Fin 128) :
    out0_B_6 (F := Ideal) c i arg2 harg2 arg3 harg3 arg4 harg4 arg5 harg5 arg6 harg6 arg7 harg7 arg8 harg8 arg9 harg9 arg10 harg10 arg11 harg11 arg12 harg12 hc0 hc1 x0 x1 x2 x3 x4 x5 xo8 (ix2 r d) = dkSum x0 x1 x2 x3 x4 x5 (i 1).val r.val d * (scl : EReal) := by
  unfold out0_B_6 kernelRun0_B
  refine (View.read_writes_cons_rows_of_mem (Val := Elt Ideal) VO0_6 _ _ _ _ (ix2 r d) (ix2 r d) rfl (Nat.zero_add _).symm rfl).trans ?_
  refine (pay3 _ r d).trans (congrArg (· * (scl : EReal)) ?_)
  refine (read_acc arg11 _ rfl r d r (Nat.zero_add _).symm).trans ?_
  refine (k_last i arg2 harg2 arg3 harg3 arg4 harg4 arg5 harg5 arg6 harg6 arg7 harg7 arg11 x0 x1 x2 x3 x4 x5 _ _ r d).trans ?_
  refine (congrArg (· + _) (k_above i arg2 harg2 arg3 harg3 arg4 harg4 arg5 harg5 arg6 harg6 arg7 harg7 arg11 x0 x1 x2 x3 x4 x5 _ _ r d)).trans ?_
  refine (congrArg (· + _ + _) (k_first i arg2 harg2 arg3 harg3 arg4 harg4 arg5 harg5 arg6 harg6 arg7 harg7 arg11 x0 x1 x2 x3 x4 x5 _ _ r d)).trans ?_
  refine (congrArg (· + _ + _ + _) ((loops_read c i arg2 harg2 arg3 harg3 arg4 harg4 arg5 harg5 arg6 harg6 arg7 harg7 arg8 harg8 arg9 harg9 arg10 harg10 arg11 harg11 arg12 harg12 x0 x1 x2 x3 x4 x5 _ _ _ _ _ _ _ _ _ _ _ _ _ _ (rfl) (View.writes_append ..) (View.writes_append ..)).2.1 r d)).trans ?_
  refine (congrArg (· + _ + _ + _ + _) (whole_zero11 arg11 r d)).trans ?_
  exact (join_q (fun q => G x0 x1 x2 x3 x4 x5 r.val q * row x2 q d) (i 1).val r.val (i 1).isLt r.isLt 0).trans (zero_add _)

theorem dv_B (hc0 : ¬cond0_0 i) (hc1 : ¬cond0_1 i) (r : Fin 1024) (d : Fin 128) :
    out0_B_7 (F := Ideal) c i arg2 harg2 arg3 harg3 arg4 harg4 arg5 harg5 arg6 harg6 arg7 harg7 arg8 harg8 arg9 harg9 arg10 harg10 arg11 harg11 arg12 harg12 hc0 hc1 x0 x1 x2 x3 x4 x5 xo8 (ix2 r d) = dvSum x0 x2 x3 x4 (i 1).val r.val d := by
  unfold out0_B_7 kernelRun0_B
  refine (View.read_writes_cons_rows_of_mem (Val := Elt Ideal) VO0_7 _ _ _ _ (ix2 r d) (ix2 r d) rfl (Nat.zero_add _).symm rfl).trans ?_
  refine (read_acc arg12 _ rfl r d r (Nat.zero_add _).symm).trans ?_
  refine (v_last i arg2 harg2 arg4 harg4 arg5 harg5 arg6 harg6 arg12 x0 x2 x3 x4 _ _ r d).trans ?_
  refine (congrArg (· + _) (v_above i arg2 harg2 arg4 harg4 arg5 harg5 arg6 harg6 arg12 x0 x2 x3 x4 _ _ r d)).trans ?_
  refine (congrArg (· + _ + _) (v_first i arg2 harg2 arg4 harg4 arg5 harg5 arg6 harg6 arg12 x0 x2 x3 x4 _ _ r d)).trans ?_
  refine (congrArg (· + _ + _ + _) ((loops_read c i arg2 harg2 arg3 harg3 arg4 harg4 arg5 harg5 arg6 harg6 arg7 harg7 arg8 harg8 arg9 harg9 arg10 harg10 arg11 harg11 arg12 harg12 x0 x1 x2 x3 x4 x5 _ _ _ _ _ _ _ _ _ _ _ _ _ _ (rfl) (View.writes_append ..) (View.writes_append ..)).2.2 r d)).trans ?_
  refine (congrArg (· + _ + _ + _ + _) (whole_zero12 arg12 r d)).trans ?_
  exact (join_q (fun q => W x0 x2 x4 r.val q * row x3 q d) (i 1).val r.val (i 1).isLt r.isLt 0).trans (zero_add _)

theorem dq_B (hc0 : ¬cond0_0 i) (hc1 : ¬cond0_1 i) (q : Fin 8192) (d : Fin 128) :
    out0_B_8 (F := Ideal) c i arg2 harg2 arg3 harg3 arg4 harg4 arg5 harg5 arg6 harg6 arg7 harg7 arg8 harg8 arg9 harg9 arg10 harg10 arg11 harg11 arg12 harg12 hc0 hc1 x0 x1 x2 x3 x4 x5 xo8 (ix2 q d) = xo8 (ix2 q d) + dqSum x0 x1 x2 x3 x4 x5 (i 1).val q.val d := by
  unfold out0_B_8
  unfold kernelRun0_B
  refine (q_last' i arg2 harg2 arg3 harg3 arg4 harg4 arg5 harg5 arg6 harg6 arg7 harg7 arg10 x0 x1 x2 x3 x4 x5 _ _ _ _ q d).trans ?_
  refine (congrArg (· + _) (q_above i arg2 harg2 arg3 harg3 arg4 harg4 arg5 harg5 arg6 harg6 arg7 harg7 arg10 x0 x1 x2 x3 x4 x5 _ _ q d)).trans ?_
  refine (congrArg (· + _ + _) (q_first i arg2 harg2 arg3 harg3 arg4 harg4 arg5 harg5 arg6 harg6 arg7 harg7 arg10 x0 x1 x2 x3 x4 x5 _ _ q d)).trans ?_
  refine (congrArg (· + _ + _ + _) ((loops_read c i arg2 harg2 arg3 harg3 arg4 harg4 arg5 harg5 arg6 harg6 arg7 harg7 arg8 harg8 arg9 harg9 arg10 harg10 arg11 harg11 arg12 harg12 x0 x1 x2 x3 x4 x5 _ _ _ _ _ _ _ _ _ _ _ _ _ _ (rfl) (View.writes_append ..) (View.writes_append ..)).1 q d)).trans ?_
  refine (congrArg (· + _ + _ + _ + _) (congrFun (harg10.read_unread (Val := Elt Ideal) xo8) (ix2 q d))).trans ?_
  exact join_k (fun r => G x0 x1 x2 x3 x4 x5 r q.val * row x0 r d) (i 1).val q.val (i 1).isLt q.isLt _

theorem dk_C (hc0 : ¬cond0_0 i) (hc1 : cond0_1 i) (r : Fin 1024) (d : Fin 128) :
    out0_C_6 (F := Ideal) c i arg2 harg2 arg3 harg3 arg4 harg4 arg5 harg5 arg6 harg6 arg7 harg7 arg8 harg8 arg9 harg9 arg10 harg10 arg11 harg11 arg12 harg12 hc0 hc1 x0 x1 x2 x3 x4 x5 xo8 (ix2 r d) = dkSum x0 x1 x2 x3 x4 x5 (i 1).val r.val d * (scl : EReal) := by
  unfold out0_C_6 kernelRun0_C
  refine (View.read_writes_cons_rows_of_mem (Val := Elt Ideal) VO0_6 _ _ _ _ (ix2 r d) (ix2 r d) rfl (Nat.zero_add _).symm rfl).trans ?_
  refine (pay3 _ r d).trans (congrArg (· * (scl : EReal)) ?_)
  refine (read_acc arg11 _ rfl r d r (Nat.zero_add _).symm).trans ?_
  refine (k_last i arg2 harg2 arg3 harg3 arg4 harg4 arg5 harg5 arg6 harg6 arg7 harg7 arg11 x0 x1 x2 x3 x4 x5 _ _ r d).trans ?_
  refine (congrArg (· + _) (k_above i arg2 harg2 arg3 harg3 arg4 harg4 arg5 harg5 arg6 harg6 arg7 harg7 arg11 x0 x1 x2 x3 x4 x5 _ _ r d)).trans ?_
  refine (congrArg (· + _ + _) (k_first i arg2 harg2 arg3 harg3 arg4 harg4 arg5 harg5 arg6 harg6 arg7 harg7 arg11 x0 x1 x2 x3 x4 x5 _ _ r d)).trans ?_
  refine (congrArg (· + _ + _ + _) ((loops_read c i arg2 harg2 arg3 harg3 arg4 harg4 arg5 harg5 arg6 harg6 arg7 harg7 arg8 harg8 arg9 harg9 arg10 harg10 arg11 harg11 arg12 harg12 x0 x1 x2 x3 x4 x5 _ _ _ _ _ _ _ _ _ _ _ _ _ _ (rfl) (View.writes_append ..) (View.writes_append ..)).2.1 r d)).trans ?_
  refine (congrArg (· + _ + _ + _ + _) (whole_zero11 arg11 r d)).trans ?_
  exact (join_q (fun q => G x0 x1 x2 x3 x4 x5 r.val q * row x2 q d) (i 1).val r.val (i 1).isLt r.isLt 0).trans (zero_add _)

theorem dv_C (hc0 : ¬cond0_0 i) (hc1 : cond0_1 i) (r : Fin 1024) (d : Fin 128) :
    out0_C_7 (F := Ideal) c i arg2 harg2 arg3 harg3 arg4 harg4 arg5 harg5 arg6 harg6 arg7 harg7 arg8 harg8 arg9 harg9 arg10 harg10 arg11 harg11 arg12 harg12 hc0 hc1 x0 x1 x2 x3 x4 x5 xo8 (ix2 r d) = dvSum x0 x2 x3 x4 (i 1).val r.val d := by
  unfold out0_C_7 kernelRun0_C
  refine (View.read_writes_cons_rows_of_mem (Val := Elt Ideal) VO0_7 _ _ _ _ (ix2 r d) (ix2 r d) rfl (Nat.zero_add _).symm rfl).trans ?_
  refine (read_acc arg12 _ rfl r d r (Nat.zero_add _).symm).trans ?_
  refine (v_last i arg2 harg2 arg4 harg4 arg5 harg5 arg6 harg6 arg12 x0 x2 x3 x4 _ _ r d).trans ?_
  refine (congrArg (· + _) (v_above i arg2 harg2 arg4 harg4 arg5 harg5 arg6 harg6 arg12 x0 x2 x3 x4 _ _ r d)).trans ?_
  refine (congrArg (· + _ + _) (v_first i arg2 harg2 arg4 harg4 arg5 harg5 arg6 harg6 arg12 x0 x2 x3 x4 _ _ r d)).trans ?_
  refine (congrArg (· + _ + _ + _) ((loops_read c i arg2 harg2 arg3 harg3 arg4 harg4 arg5 harg5 arg6 harg6 arg7 harg7 arg8 harg8 arg9 harg9 arg10 harg10 arg11 harg11 arg12 harg12 x0 x1 x2 x3 x4 x5 _ _ _ _ _ _ _ _ _ _ _ _ _ _ (rfl) (View.writes_append ..) (View.writes_append ..)).2.2 r d)).trans ?_
  refine (congrArg (· + _ + _ + _ + _) (whole_zero12 arg12 r d)).trans ?_
  exact (join_q (fun q => W x0 x2 x4 r.val q * row x3 q d) (i 1).val r.val (i 1).isLt r.isLt 0).trans (zero_add _)

theorem dq_C (hc0 : ¬cond0_0 i) (hc1 : cond0_1 i) (q : Fin 8192) (d : Fin 128) :
    out0_C_8 (F := Ideal) c i arg2 harg2 arg3 harg3 arg4 harg4 arg5 harg5 arg6 harg6 arg7 harg7 arg8 harg8 arg9 harg9 arg10 harg10 arg11 harg11 arg12 harg12 hc0 hc1 x0 x1 x2 x3 x4 x5 xo8 (ix2 q d) = (xo8 (ix2 q d) + dqSum x0 x1 x2 x3 x4 x5 (i 1).val q.val d) * (scl : EReal) := by
  unfold out0_C_8
  unfold kernelRun0_C
  refine (View.read_writes_cons_rows_of_mem (Val := Elt Ideal) VO0_8 _ _ _ _ (ix2 q d) (ix2 q d) rfl (Nat.zero_add _).symm rfl).trans ?_
  refine (pay4 _ q d).trans (congrArg (· * (scl : EReal)) ?_)
  refine (read_acc arg10 _ rfl q d q (Nat.zero_add _).symm).trans ?_
  refine (q_last' i arg2 harg2 arg3 harg3 arg4 harg4 arg5 harg5 arg6 harg6 arg7 harg7 arg10 x0 x1 x2 x3 x4 x5 _ _ _ _ q d).trans ?_
  refine (congrArg (· + _) (q_above i arg2 harg2 arg3 harg3 arg4 harg4 arg5 harg5 arg6 harg6 arg7 harg7 arg10 x0 x1 x2 x3 x4 x5 _ _ q d)).trans ?_
  refine (congrArg (· + _ + _) (q_first i arg2 harg2 arg3 harg3 arg4 harg4 arg5 harg5 arg6 harg6 arg7 harg7 arg10 x0 x1 x2 x3 x4 x5 _ _ q d)).trans ?_
  refine (congrArg (· + _ + _ + _) ((loops_read c i arg2 harg2 arg3 harg3 arg4 harg4 arg5 harg5 arg6 harg6 arg7 harg7 arg8 harg8 arg9 harg9 arg10 harg10 arg11 harg11 arg12 harg12 x0 x1 x2 x3 x4 x5 _ _ _ _ _ _ _ _ _ _ _ _ _ _ (rfl) (View.writes_append ..) (View.writes_append ..)).1 q d)).trans ?_
  refine (congrArg (· + _ + _ + _ + _) (congrFun (harg10.read_unread (Val := Elt Ideal) xo8) (ix2 q d))).trans ?_
  exact join_k (fun r => G x0 x1 x2 x3 x4 x5 r q.val * row x0 r d) (i 1).val q.val (i 1).isLt q.isLt _

end Point

end Cert.Proof

end
-- ==== Proof.Blocks.lean ====
/- The blocks that a grid point is given, read in terms of the whole arrays. Point `t` works on head `t / 8` and key tile `t % 8`. -/
module

public import proofs.«01_k».proof.Proof.Point
public import proofs.«01_k».proof.Proof.Gen.KernelIdeal.Value
public import Idealize.ShloMosaic.Lib.Pipeline.ValueKit

@[expose] public section

set_option maxRecDepth 16384

noncomputable section

namespace Cert.Proof

open Idealize.ShloMosaic Idealize.ShloMosaic.Pointwise Idealize.ShloMosaic.TcCoe Idealize.ShloMosaic.Tactic
open Cert.KernelIdeal Cert.KernelIdeal.Gen

/-- Row `n` of head `h` in an array that holds eight heads of 128 lanes side by side. -/
def hrow (a : S8192x1024.Idx → EReal) (h n : ℕ) : Fin 128 → EReal := fun x =>
  if hh : n < 8192 ∧ h < 8 then a (ix2 ⟨n, hh.1⟩ ⟨128 * h + x.val, by have := x.isLt; omega⟩) else 0

/-- Row `n` of head `h` in an array that keeps 512 further lanes before its eight heads. -/
def orow (a : S8192x1536.Idx → EReal) (h n : ℕ) : Fin 128 → EReal := fun x =>
  if hh : n < 8192 ∧ h < 8 then a (ix2 ⟨n, hh.1⟩ ⟨512 + 128 * h + x.val, by have := x.isLt; omega⟩) else 0

/-- The number that an array of row statistics keeps for row `n` of head `h`. -/
def hlane (a : S8x8x8x1024.Idx → EReal) (h n : ℕ) : EReal :=
  if hh : n < 8192 ∧ h < 8 then a (ix4 ⟨h, hh.2⟩ ⟨n / 1024, by omega⟩ 0 ⟨n % 1024, Nat.mod_lt _ (by norm_num)⟩) else 0

theorem index0 : ∀ t : Fin cfg0.N, win0_0.index t = ![t.val % 8, t.val / 8] := by decide +kernel
theorem index1 : ∀ t : Fin cfg0.N, win0_1.index t = ![t.val % 8, t.val / 8] := by decide +kernel
theorem index2 : ∀ t : Fin cfg0.N, win0_2.index t = ![0, t.val / 8] := by decide +kernel
theorem index3 : ∀ t : Fin cfg0.N, win0_3.index t = ![0, 4 + t.val / 8] := by decide +kernel
theorem index4 : ∀ t : Fin cfg0.N, win0_4.index t = ![t.val / 8, 0, 0, 0] := by decide +kernel
theorem index5 : ∀ t : Fin cfg0.N, win0_5.index t = ![t.val / 8, 0, 0, 0] := by decide +kernel
theorem index6 : ∀ t : Fin cfg0.N, win0_6.index t = ![t.val % 8, t.val / 8] := by decide +kernel
theorem index7 : ∀ t : Fin cfg0.N, win0_7.index t = ![t.val % 8, t.val / 8] := by decide +kernel
theorem index8 : ∀ t : Fin cfg0.N, win0_8.index t = ![0, t.val / 8] := by decide +kernel

theorem tile_of : ∀ t : Fin cfg0.N, (grid0.coords t 1).val = t.val % 8 := by decide +kernel

theorem point_lt (t : Fin cfg0.N) : t.val < 64 := lt_of_lt_of_eq t.isLt N_0

variable (m : (ℓ : Loc nD τ sig) → Buf (Elt Ideal) ℓ) (c : Dev nD)

theorem block0 (t : Fin cfg0.N) (n : ℕ) (hn : n < 1024) :
    row (iblk m c 0 t) n = hrow (V m c main_v40) (t.val / 8) (1024 * (t.val % 8) + n) := by
  have ht := point_lt t
  funext x
  rw [row_of_lt _ hn, hrow, dif_pos ⟨by omega, by omega⟩]
  blk_ext [iblk, index0 t]

theorem block1 (t : Fin cfg0.N) (n : ℕ) (hn : n < 1024) :
    row (iblk m c 1 t) n = hrow (V m c main_v43) (t.val / 8) (1024 * (t.val % 8) + n) := by
  have ht := point_lt t
  funext x
  rw [row_of_lt _ hn, hrow, dif_pos ⟨by omega, by omega⟩]
  blk_ext [iblk, index1 t]

theorem block2 (t : Fin cfg0.N) (n : ℕ) (hn : n < 8192) :
    row (iblk m c 2 t) n = hrow (V m c main_v37) (t.val / 8) n := by
  have ht := point_lt t
  funext x
  rw [row_of_lt _ hn, hrow, dif_pos ⟨by omega, by omega⟩]
  blk_ext [iblk, index2 t]

theorem block3 (t : Fin cfg0.N) (n : ℕ) (hn : n < 8192) :
    row (iblk m c 3 t) n = orow (V m c main_v34) (t.val / 8) n := by
  have ht := point_lt t
  funext x
  rw [row_of_lt _ hn, orow, dif_pos ⟨by omega, by omega⟩]
  blk_ext [iblk, index3 t]

theorem block4 (t : Fin cfg0.N) (n : ℕ) (hn : n < 8192) :
    lane (iblk m c 4 t) n = hlane (V m c main_v48) (t.val / 8) n := by
  have ht := point_lt t
  rw [lane, dif_pos hn, hlane, dif_pos ⟨by omega, by omega⟩]
  blk_ext [iblk, index4 t]

theorem block5 (t : Fin cfg0.N) (n : ℕ) (hn : n < 8192) :
    lane (iblk m c 5 t) n = hlane (V m c main_v50) (t.val / 8) n := by
  have ht := point_lt t
  rw [lane, dif_pos hn, hlane, dif_pos ⟨by omega, by omega⟩]
  blk_ext [iblk, index5 t]

end Cert.Proof
-- ==== Proof.Arrays.lean ====
/- The three arrays that the kernel leaves: the keys' and values' gradients, each written tile by tile, and the queries' gradient, which gathers
   the eight key tiles of its head one after another and is scaled after the last. -/
module

public import proofs.«01_k».proof.Proof.Blocks

@[expose] public section

set_option maxRecDepth 16384

noncomputable section

namespace Cert.Proof

open Idealize.ShloMosaic Idealize.ShloMosaic.Pointwise Idealize.ShloMosaic.TcCoe Idealize.ShloMosaic.Tactic
open Cert.KernelIdeal Cert.KernelIdeal.Gen

variable (m : (ℓ : Loc nD τ sig) → Buf (Elt Ideal) ℓ) (c : Dev nD)

/-- The attention weight of key row `k` for query row `q` in head `h`, from the arrays that the kernel is given. -/
def HW (h k q : ℕ) : EReal := wt (hrow (V m c main_v40) h k) (hrow (V m c main_v37) h q) (hlane (V m c main_v48) h q)

/-- The gradient of their score, before the scale. -/
def HG (h k q : ℕ) : EReal :=
  gr (hrow (V m c main_v40) h k) (hrow (V m c main_v43) h k) (hrow (V m c main_v37) h q) (orow (V m c main_v34) h q)
    (hlane (V m c main_v48) h q) (hlane (V m c main_v50) h q)

theorem W_block (t : Fin cfg0.N) (r q : ℕ) (hr : r < 1024) (hq : q < 8192) :
    W (iblk m c 0 t) (iblk m c 2 t) (iblk m c 4 t) r q = HW m c (t.val / 8) (1024 * (t.val % 8) + r) q := by
  unfold W HW
  rw [block0 m c t r hr, block2 m c t q hq, block4 m c t q hq]

theorem G_block (t : Fin cfg0.N) (r q : ℕ) (hr : r < 1024) (hq : q < 8192) :
    G (iblk m c 0 t) (iblk m c 1 t) (iblk m c 2 t) (iblk m c 3 t) (iblk m c 4 t) (iblk m c 5 t) r q
      = HG m c (t.val / 8) (1024 * (t.val % 8) + r) q := by
  unfold G HG
  rw [block0 m c t r hr, block1 m c t r hr, block2 m c t q hq, block3 m c t q hq, block4 m c t q hq, block5 m c t q hq]

/-- Key row `k`'s gradient in head `h`, before the scale. -/
def keySum (h k : ℕ) (d : Fin 128) : EReal :=
  ∑ q ∈ Finset.range 8192, if k ≤ q then HG m c h k q * hrow (V m c main_v37) h q d else 0

/-- Value row `k`'s gradient in head `h`. -/
def valSum (h k : ℕ) (d : Fin 128) : EReal :=
  ∑ q ∈ Finset.range 8192, if k ≤ q then HW m c h k q * orow (V m c main_v34) h q d else 0

/-- What the key rows below `n` contribute to query row `q`'s gradient in head `h`, before the scale. -/
def qrySum (h n q : ℕ) (d : Fin 128) : EReal :=
  ∑ k ∈ Finset.range n, if k ≤ q then HG m c h k q * hrow (V m c main_v40) h k d else 0

theorem dkSum_block (t : Fin cfg0.N) (r : ℕ) (hr : r < 1024) (d : Fin 128) :
    dkSum (iblk m c 0 t) (iblk m c 1 t) (iblk m c 2 t) (iblk m c 3 t) (iblk m c 4 t) (iblk m c 5 t) (t.val % 8) r d
      = keySum m c (t.val / 8) (1024 * (t.val % 8) + r) d := by
  refine Finset.sum_congr rfl fun q hq => ?_
  rw [Finset.mem_range] at hq
  rw [G_block m c t r q hr hq, block2 m c t q hq]

theorem dvSum_block (t : Fin cfg0.N) (r : ℕ) (hr : r < 1024) (d : Fin 128) :
    dvSum (iblk m c 0 t) (iblk m c 2 t) (iblk m c 3 t) (iblk m c 4 t) (t.val % 8) r d
      = valSum m c (t.val / 8) (1024 * (t.val % 8) + r) d := by
  refine Finset.sum_congr rfl fun q hq => ?_
  rw [Finset.mem_range] at hq
  rw [W_block m c t r q hr hq, block3 m c t q hq]

theorem dqSum_block (t : Fin cfg0.N) (q : ℕ) (hq : q < 8192) (d : Fin 128) :
    qrySum m c (t.val / 8) (1024 * (t.val % 8)) q d
      + dqSum (iblk m c 0 t) (iblk m c 1 t) (iblk m c 2 t) (iblk m c 3 t) (iblk m c 4 t) (iblk m c 5 t) (t.val % 8) q d
      = qrySum m c (t.val / 8) (1024 * (t.val % 8 + 1)) q d := by
  rw [qrySum, qrySum, show 1024 * (t.val % 8 + 1) = 1024 * (t.val % 8) + 1024 by ring, Finset.sum_range_add]
  refine congrArg (_ + ·) (Finset.sum_congr rfl fun r hr => ?_)
  rw [Finset.mem_range] at hr
  rw [G_block m c t r q hr hq, block0 m c t r hr]

/-- What point `t` leaves of its key tile's gradient. -/
theorem key_point (t : Fin cfg0.N) (r : Fin 1024) (d : Fin 128) :
    (outsAt0 m c t.val t.isLt).1 (ix2 r d) = keySum m c (t.val / 8) (1024 * (t.val % 8) + r.val) d * (scl : EReal) := by
  suffices e : (outsAt0 m c t.val t.isLt).1 (ix2 r d) = dkSum (iblk m c 0 t) (iblk m c 1 t) (iblk m c 2 t) (iblk m c 3 t) (iblk m c 4 t) (iblk m c 5 t) (grid0.coords t 1).val r.val d * (scl : EReal) by
    rw [e, tile_of t, dkSum_block m c t r.val r.isLt d]
  by_cases h0 : t.val % 8 = 0
  · rw [outsAt0_A m c t h0 (by omega)]; dsimp only; exact dk_A ..
  · by_cases h1 : t.val % 8 = 7
    · rw [outsAt0_C m c t h0 h1]; dsimp only; exact dk_C ..
    · rw [outsAt0_B m c t h0 h1]; dsimp only; exact dk_B ..

/-- What point `t` leaves of its value tile's gradient. -/
theorem val_point (t : Fin cfg0.N) (r : Fin 1024) (d : Fin 128) :
    (outsAt0 m c t.val t.isLt).2.1 (ix2 r d) = valSum m c (t.val / 8) (1024 * (t.val % 8) + r.val) d := by
  suffices e : (outsAt0 m c t.val t.isLt).2.1 (ix2 r d) = dvSum (iblk m c 0 t) (iblk m c 2 t) (iblk m c 3 t) (iblk m c 4 t) (grid0.coords t 1).val r.val d by
    rw [e, tile_of t, dvSum_block m c t r.val r.isLt d]
  by_cases h0 : t.val % 8 = 0
  · rw [outsAt0_A m c t h0 (by omega)]; dsimp only; exact dv_A ..
  · by_cases h1 : t.val % 8 = 7
    · rw [outsAt0_C m c t h0 h1]; dsimp only; exact dv_C ..
    · rw [outsAt0_B m c t h0 h1]; dsimp only; exact dv_B ..

theorem qry_first (t : Fin cfg0.N) (h0 : t.val % 8 = 0) (q : Fin 8192) (d : Fin 128) :
    (outsAt0 m c t.val t.isLt).2.2 (ix2 q d)
      = dqSum (iblk m c 0 t) (iblk m c 1 t) (iblk m c 2 t) (iblk m c 3 t) (iblk m c 4 t) (iblk m c 5 t) (grid0.coords t 1).val q.val d := by
  rw [outsAt0_A m c t h0 (by omega)]
  dsimp only
  exact dq_A ..

theorem qry_next (t : Fin cfg0.N) (h0 : ¬t.val % 8 = 0) (h1 : ¬t.val % 8 = 7) (q : Fin 8192) (d : Fin 128) :
    (outsAt0 m c t.val t.isLt).2.2 (ix2 q d)
      = (outsAt0 m c (t.val - 1) (Nat.lt_of_le_of_lt (Nat.sub_le _ _) t.isLt)).2.2 (ix2 q d)
        + dqSum (iblk m c 0 t) (iblk m c 1 t) (iblk m c 2 t) (iblk m c 3 t) (iblk m c 4 t) (iblk m c 5 t) (grid0.coords t 1).val q.val d := by
  rw [outsAt0_B m c t h0 h1]
  dsimp only
  exact dq_B ..

theorem qry_last (t : Fin cfg0.N) (h1 : t.val % 8 = 7) (q : Fin 8192) (d : Fin 128) :
    (outsAt0 m c t.val t.isLt).2.2 (ix2 q d)
      = ((outsAt0 m c (t.val - 1) (Nat.lt_of_le_of_lt (Nat.sub_le _ _) t.isLt)).2.2 (ix2 q d)
        + dqSum (iblk m c 0 t) (iblk m c 1 t) (iblk m c 2 t) (iblk m c 3 t) (iblk m c 4 t) (iblk m c 5 t) (grid0.coords t 1).val q.val d) * (scl : EReal) := by
  rw [outsAt0_C m c t (by omega) h1]
  dsimp only
  exact dq_C ..

/-- The queries' gradient after the first points of a head, short of the last. -/
theorem qry_fold (n : ℕ) : ∀ (t : Fin cfg0.N), t.val = n → ¬t.val % 8 = 7 → ∀ (q : Fin 8192) (d : Fin 128),
    (outsAt0 m c t.val t.isLt).2.2 (ix2 q d) = qrySum m c (t.val / 8) (1024 * (t.val % 8 + 1)) q.val d := by
  induction n with
  | zero =>
    intro t ht h1 q d
    rw [qry_first m c t (by omega) q d, tile_of, ← dqSum_block m c t q.val q.isLt d, show qrySum m c (t.val / 8) (1024 * (t.val % 8)) q.val d = 0 by
      rw [show t.val % 8 = 0 by omega]; exact Finset.sum_range_zero _, zero_add]
  | succ n ih =>
    intro t ht h1 q d
    rw [← dqSum_block m c t q.val q.isLt d]
    by_cases h0 : t.val % 8 = 0
    · rw [qry_first m c t h0 q d, tile_of, show qrySum m c (t.val / 8) (1024 * (t.val % 8)) q.val d = 0 by
        rw [h0]; exact Finset.sum_range_zero _, zero_add]
    · rw [qry_next m c t h0 h1 q d, tile_of]
      have h : (outsAt0 m c (t.val - 1) (Nat.lt_of_le_of_lt (Nat.sub_le _ _) t.isLt)).2.2 (ix2 q d)
          = qrySum m c ((t.val - 1) / 8) (1024 * ((t.val - 1) % 8 + 1)) q.val d :=
        ih ⟨t.val - 1, Nat.lt_of_le_of_lt (Nat.sub_le _ _) t.isLt⟩ (by dsimp only; omega) (by dsimp only; omega) q d
      rw [h, show (t.val - 1) / 8 = t.val / 8 by omega, show (t.val - 1) % 8 + 1 = t.val % 8 by omega]

/-- The queries' gradient after a head's last point. -/
theorem qry_point (t : Fin cfg0.N) (h1 : t.val % 8 = 7) (q : Fin 8192) (d : Fin 128) :
    (outsAt0 m c t.val t.isLt).2.2 (ix2 q d) = qrySum m c (t.val / 8) 8192 q.val d * (scl : EReal) := by
  rw [qry_last m c t h1 q d, tile_of]
  have h : (outsAt0 m c (t.val - 1) (Nat.lt_of_le_of_lt (Nat.sub_le _ _) t.isLt)).2.2 (ix2 q d)
      = qrySum m c ((t.val - 1) / 8) (1024 * ((t.val - 1) % 8 + 1)) q.val d :=
    qry_fold m c _ ⟨t.val - 1, Nat.lt_of_le_of_lt (Nat.sub_le _ _) t.isLt⟩ rfl (by dsimp only; omega) q d
  rw [h, show (t.val - 1) / 8 = t.val / 8 by omega, show (t.val - 1) % 8 + 1 = t.val % 8 by omega, dqSum_block m c t q.val q.isLt d, h1]

/-- The head, row and lane that an element of an output array belongs to. -/
theorem ix2_eta {M N : ℕ} (y : (⟨2, ![M, N]⟩ : Shape).Idx) : y = ix2 (y 0) (y 1) := by
  funext a
  fin_cases a <;> rfl

theorem key_array : (dats m 0 c).arrAt 6 cfg0.N
    = fun i : S8192x1024.Idx => keySum m c ((i 1).val / 128) (i 0).val ⟨(i 1).val % 128, Nat.mod_lt _ (by norm_num)⟩ * (scl : EReal) := by
  refine (dats m 0 c).arrAt_eq_of_covers 6 _ (by decide +kernel) fun t hf y => ?_
  blk_simp
  rw [after0_6]
  obtain ⟨r, d, rfl⟩ : ∃ (r : Fin 1024) (d : Fin 128), y = ix2 r d := ⟨_, _, ix2_eta y⟩
  refine (key_point m c t r d).trans ?_
  have h0 : win0_6.index t 0 = t.val % 8 := congrFun (index6 t) 0
  have h1 : win0_6.index t 1 = t.val / 8 := congrFun (index6 t) 1
  have hd := d.isLt
  refine congrArg (· * (scl : EReal)) ?_
  show _ = keySum m c ((win0_6.index t 1 * 128 + d.val) / 128) (win0_6.index t 0 * 1024 + r.val) ⟨(win0_6.index t 1 * 128 + d.val) % 128, _⟩
  congr 1
  · rw [h1]; omega
  · rw [h0]; omega
  · exact Fin.ext (by dsimp only; rw [h1]; omega)

theorem val_array : (dats m 0 c).arrAt 7 cfg0.N
    = fun i : S8192x1024.Idx => valSum m c ((i 1).val / 128) (i 0).val ⟨(i 1).val % 128, Nat.mod_lt _ (by norm_num)⟩ := by
  refine (dats m 0 c).arrAt_eq_of_covers 7 _ (by decide +kernel) fun t hf y => ?_
  blk_simp
  rw [after0_7]
  obtain ⟨r, d, rfl⟩ : ∃ (r : Fin 1024) (d : Fin 128), y = ix2 r d := ⟨_, _, ix2_eta y⟩
  refine (val_point m c t r d).trans ?_
  have h0 : win0_7.index t 0 = t.val % 8 := congrFun (index7 t) 0
  have h1 : win0_7.index t 1 = t.val / 8 := congrFun (index7 t) 1
  have hd := d.isLt
  show _ = valSum m c ((win0_7.index t 1 * 128 + d.val) / 128) (win0_7.index t 0 * 1024 + r.val) ⟨(win0_7.index t 1 * 128 + d.val) % 128, _⟩
  congr 1
  · rw [h1]; omega
  · rw [h0]; omega
  · exact Fin.ext (by dsimp only; rw [h1]; omega)

theorem qry_flush : ∀ t : Fin cfg0.N, (cfg0.win 8).flush t = true → t.val % 8 = 7 := by decide +kernel

theorem qry_array : (dats m 0 c).arrAt 8 cfg0.N
    = fun i : S8192x1024.Idx => qrySum m c ((i 1).val / 128) 8192 (i 0).val ⟨(i 1).val % 128, Nat.mod_lt _ (by norm_num)⟩ * (scl : EReal) := by
  refine (dats m 0 c).arrAt_eq_of_covers 8 _ (by decide +kernel) fun t hf y => ?_
  blk_simp
  rw [after0_8]
  obtain ⟨r, d, rfl⟩ : ∃ (r : Fin 8192) (d : Fin 128), y = ix2 r d := ⟨_, _, ix2_eta y⟩
  refine (qry_point m c t (qry_flush t hf) r d).trans ?_
  have h0 : win0_8.index t 0 = 0 := congrFun (index8 t) 0
  have h1 : win0_8.index t 1 = t.val / 8 := congrFun (index8 t) 1
  have hd := d.isLt
  refine congrArg (· * (scl : EReal)) ?_
  show _ = qrySum m c ((win0_8.index t 1 * 128 + d.val) / 128) 8192 (win0_8.index t 0 * 8192 + r.val) ⟨(win0_8.index t 1 * 128 + d.val) % 128, _⟩
  congr 1
  · rw [h1]; omega
  · rw [h0]; omega
  · exact Fin.ext (by dsimp only; rw [h1]; omega)

end Cert.Proof
-- ==== Proof.Entry.lean ====
/- The arrays that the kernel is given, at an index, for arguments that are real. -/
module

public import proofs.«01_k».proof.Proof.Host
public import proofs.«01_k».proof.Proof.Arrays

@[expose] public section

set_option maxRecDepth 16384

noncomputable section

namespace Cert.Proof

open Idealize.ShloMosaic Idealize.ShloMosaic.TcCoe Idealize.ShloMosaic.Tactic
open Cert.KernelIdeal Cert.KernelIdeal.Gen

/-! ### The host's arrays as terms -/

/-- Eight heads of 128 lanes, side by side. -/
def flat (y : FVec Ideal S8192x8x128 .f32) : FVec Ideal S8192x1024 .f32 := shapeCast S8192x1024 y shapeCasts_S8192x8x128_S8192x1024

/-- A row statistic, each value repeated over the sublanes. -/
def lanes (y : FVec Ideal S8x8192 .f32) : FVec Ideal S8x8x8x1024 .f32 :=
  broadcastInDim S8x8x8x1024 ![0, 1, 2, 3] bcast_S8x8x1x1024_S8x8x8x1024_0_1_2_3 (shapeCast S8x8x1x1024 y shapeCasts_S8x8192_S8x8x1x1024)

def pad96 (x : FVec Ideal S8192x8x96 .f32) : FVec Ideal S8192x8x128 .f32 :=
  pad S8192x8x128 ![0, 0, 0] ![0, 0, 32] ![0, 0, 0] x (sitofp (F := Ideal) .f32 (constantI S_ 32 0#32)) pads_S8192x8x96_S8192x8x128_000_000_0320 h_S_

def pad64 (x : FVec Ideal S8192x8x64 .f32) : FVec Ideal S8192x8x128 .f32 :=
  pad S8192x8x128 ![0, 0, 0] ![0, 0, 64] ![0, 0, 0] x (sitofp (F := Ideal) .f32 (constantI S_ 32 0#32)) pads_S8192x8x64_S8192x8x128_000_000_0640 h_S_

def pad65 (x : FVec Ideal S8192x8x65 .f32) : FVec Ideal S8192x8x128 .f32 :=
  pad S8192x8x128 ![0, 0, 0] ![0, 0, 63] ![0, 0, 0] x (sitofp (F := Ideal) .f32 (constantI S_ 32 0#32)) pads_S8192x8x65_S8192x8x128_000_000_0630 h_S_

/-- The values with a lane of ones after them. -/
def withOne (a : FVec Ideal S8192x8x64 .f32) (b : FVec Ideal S8192x8x1 .f32) : FVec Ideal S8192x8x65 .f32 :=
  concatenate S8192x8x65 2 [⟨S8192x8x64, a⟩, ⟨S8192x8x1, b⟩] concatenates_S8192x8x64_S8192x8x1_S8192x8x65_d2

/-- An array with 512 lanes before it. -/
def after512 (a : FVec Ideal S8192x512 .f32) (b : FVec Ideal S8192x1024 .f32) : FVec Ideal S8192x1536 .f32 :=
  concatenate S8192x1536 1 [⟨S8192x512, a⟩, ⟨S8192x1024, b⟩] concatenates_S8192x512_S8192x1024_S8192x1536_d1

section Terms

variable (m : (ℓ : Loc nD τ sig) → Buf (Elt Ideal) ℓ) (c : Dev nD)

set_option maxHeartbeats 4000000 in
/-- The queries. -/
theorem entry_q : V m c main_v37 = truncf .bf16 (flat (pad96 (m (c, Proc.tc.devRef main_arg0)))) bitsLt_bf16_f32 := by
  show StableHlo.after (List.flatten [hostOps0, hostOps0_1, hostOps0_2, hostOps0_3, hostOps0_4, hostOps0_5, hostOps0_6, hostOps0_7, hostOps0_8, hostOps0_9, hostOps0_10])
    (fun b => m (c, b)) (Proc.tc.devRef main_v37) = _
  simp only [hostOps0, hostOps0_1, hostOps0_2, hostOps0_3, hostOps0_4, hostOps0_5, hostOps0_6, hostOps0_7, hostOps0_8, hostOps0_9, hostOps0_10, List.flatten_cons,
    List.flatten_nil, List.cons_append, List.nil_append, List.append_nil, StableHlo.TRef.binary, StableHlo.TRef.nullary, StableHlo.TRef.ternary,
    StableHlo.TRef.unary, StableHlo.TRef.toBuf, StableHlo.TRef.ofBuf, cast_eq]
  after_results_simp
  rfl

set_option maxHeartbeats 4000000 in
/-- The keys. -/
theorem entry_k : V m c main_v40 = truncf .bf16 (flat (pad96 (m (c, Proc.tc.devRef main_arg1)))) bitsLt_bf16_f32 := by
  show StableHlo.after (List.flatten [hostOps0, hostOps0_1, hostOps0_2, hostOps0_3, hostOps0_4, hostOps0_5, hostOps0_6, hostOps0_7, hostOps0_8, hostOps0_9, hostOps0_10])
    (fun b => m (c, b)) (Proc.tc.devRef main_v40) = _
  simp only [hostOps0, hostOps0_1, hostOps0_2, hostOps0_3, hostOps0_4, hostOps0_5, hostOps0_6, hostOps0_7, hostOps0_8, hostOps0_9, hostOps0_10, List.flatten_cons,
    List.flatten_nil, List.cons_append, List.nil_append, List.append_nil, StableHlo.TRef.binary, StableHlo.TRef.nullary, StableHlo.TRef.ternary,
    StableHlo.TRef.unary, StableHlo.TRef.toBuf, StableHlo.TRef.ofBuf, cast_eq]
  after_results_simp
  rfl

set_option maxHeartbeats 4000000 in
/-- The values and their lane of ones. -/
theorem entry_v : V m c main_v43 = truncf .bf16 (flat (pad65 (withOne (m (c, Proc.tc.devRef main_arg2)) (broadcastInDim S8192x8x1 ![] bcast_S_S8192x8x1 (constant S_ .f32 0x3F800000#32))))) bitsLt_bf16_f32 := by
  show StableHlo.after (List.flatten [hostOps0, hostOps0_1, hostOps0_2, hostOps0_3, hostOps0_4, hostOps0_5, hostOps0_6, hostOps0_7, hostOps0_8, hostOps0_9, hostOps0_10])
    (fun b => m (c, b)) (Proc.tc.devRef main_v43) = _
  simp only [hostOps0, hostOps0_1, hostOps0_2, hostOps0_3, hostOps0_4, hostOps0_5, hostOps0_6, hostOps0_7, hostOps0_8, hostOps0_9, hostOps0_10, List.flatten_cons,
    List.flatten_nil, List.cons_append, List.nil_append, List.append_nil, StableHlo.TRef.binary, StableHlo.TRef.nullary, StableHlo.TRef.ternary,
    StableHlo.TRef.unary, StableHlo.TRef.toBuf, StableHlo.TRef.ofBuf, cast_eq]
  generalize hw : (fun (a : (⟨S8192x8x64, .f32⟩ : BufTy).Contents (Elt Ideal)) (b : (⟨S8192x8x1, .f32⟩ : BufTy).Contents (Elt Ideal)) =>
    concatenate S8192x8x65 2 [⟨S8192x8x64, a⟩, ⟨S8192x8x1, b⟩] concatenates_S8192x8x64_S8192x8x1_S8192x8x65_d2) = w
  generalize hz : (fun (a : (⟨S8192x512, .f32⟩ : BufTy).Contents (Elt Ideal)) (b : (⟨S8192x1024, .f32⟩ : BufTy).Contents (Elt Ideal)) =>
    concatenate S8192x1536 1 [⟨S8192x512, a⟩, ⟨S8192x1024, b⟩] concatenates_S8192x512_S8192x1024_S8192x1536_d1) = z
  after_results_simp
  subst hw hz
  rfl

set_option maxHeartbeats 4000000 in
/-- The output's cotangent. -/
theorem entry_o : V m c main_v34 = after512 (broadcastInDim S8192x512 ![] bcast_S_S8192x512 (constant S_ .f32 0x00000000#32)) (flat (pad64 (m (c, Proc.tc.devRef main_arg3)))) := by
  show StableHlo.after (List.flatten [hostOps0, hostOps0_1, hostOps0_2, hostOps0_3, hostOps0_4, hostOps0_5, hostOps0_6, hostOps0_7, hostOps0_8, hostOps0_9, hostOps0_10])
    (fun b => m (c, b)) (Proc.tc.devRef main_v34) = _
  simp only [hostOps0, hostOps0_1, hostOps0_2, hostOps0_3, hostOps0_4, hostOps0_5, hostOps0_6, hostOps0_7, hostOps0_8, hostOps0_9, hostOps0_10, List.flatten_cons,
    List.flatten_nil, List.cons_append, List.nil_append, List.append_nil, StableHlo.TRef.binary, StableHlo.TRef.nullary, StableHlo.TRef.ternary,
    StableHlo.TRef.unary, StableHlo.TRef.toBuf, StableHlo.TRef.ofBuf, cast_eq]
  generalize hw : (fun (a : (⟨S8192x8x64, .f32⟩ : BufTy).Contents (Elt Ideal)) (b : (⟨S8192x8x1, .f32⟩ : BufTy).Contents (Elt Ideal)) =>
    concatenate S8192x8x65 2 [⟨S8192x8x64, a⟩, ⟨S8192x8x1, b⟩] concatenates_S8192x8x64_S8192x8x1_S8192x8x65_d2) = w
  generalize hz : (fun (a : (⟨S8192x512, .f32⟩ : BufTy).Contents (Elt Ideal)) (b : (⟨S8192x1024, .f32⟩ : BufTy).Contents (Elt Ideal)) =>
    concatenate S8192x1536 1 [⟨S8192x512, a⟩, ⟨S8192x1024, b⟩] concatenates_S8192x512_S8192x1024_S8192x1536_d1) = z
  after_results_simp
  subst hw hz
  rfl

set_option maxHeartbeats 4000000 in
/-- The log-sums, in powers of two. -/
theorem entry_l : V m c main_v48 = lanes (Host.divf (hLse (m (c, Proc.tc.devRef main_arg0)) (m (c, Proc.tc.devRef main_arg1))) (broadcastInDim S8x8192 ![] bcast_S_S8x8192 (Host.log (constant S_ .f32 0x40000000#32)))) := by
  show StableHlo.after (List.flatten [hostOps0, hostOps0_1, hostOps0_2, hostOps0_3, hostOps0_4, hostOps0_5, hostOps0_6, hostOps0_7, hostOps0_8, hostOps0_9, hostOps0_10])
    (fun b => m (c, b)) (Proc.tc.devRef main_v48) = _
  simp only [hostOps0, hostOps0_1, hostOps0_2, hostOps0_3, hostOps0_4, hostOps0_5, hostOps0_6, hostOps0_7, hostOps0_8, hostOps0_9, hostOps0_10, List.flatten_cons,
    List.flatten_nil, List.cons_append, List.nil_append, List.append_nil, StableHlo.TRef.binary, StableHlo.TRef.nullary, StableHlo.TRef.ternary,
    StableHlo.TRef.unary, StableHlo.TRef.toBuf, StableHlo.TRef.ofBuf, cast_eq]
  after_results_simp
  rfl

set_option maxHeartbeats 4000000 in
/-- The row sums of cotangent times output. -/
theorem entry_d : V m c main_v50 = lanes (hD (m (c, Proc.tc.devRef main_arg0)) (m (c, Proc.tc.devRef main_arg1)) (m (c, Proc.tc.devRef main_arg2)) (m (c, Proc.tc.devRef main_arg3))) := by
  show StableHlo.after (List.flatten [hostOps0, hostOps0_1, hostOps0_2, hostOps0_3, hostOps0_4, hostOps0_5, hostOps0_6, hostOps0_7, hostOps0_8, hostOps0_9, hostOps0_10])
    (fun b => m (c, b)) (Proc.tc.devRef main_v50) = _
  simp only [hostOps0, hostOps0_1, hostOps0_2, hostOps0_3, hostOps0_4, hostOps0_5, hostOps0_6, hostOps0_7, hostOps0_8, hostOps0_9, hostOps0_10, List.flatten_cons,
    List.flatten_nil, List.cons_append, List.nil_append, List.append_nil, StableHlo.TRef.binary, StableHlo.TRef.nullary, StableHlo.TRef.ternary,
    StableHlo.TRef.unary, StableHlo.TRef.toBuf, StableHlo.TRef.ofBuf, cast_eq]
  after_results_simp
  rfl

end Terms

end Cert.Proof
-- ==== Proof.Rows.lean ====
/- The kernel's results over the reals: for real arguments they are the three gradients. -/
module

public import proofs.«01_k».proof.Proof.Entry

@[expose] public section

set_option maxRecDepth 16384

noncomputable section

namespace Cert.Proof

open Idealize.ShloMosaic Idealize.ShloMosaic.TcCoe Idealize.ShloMosaic.Tactic
open Cert.KernelIdeal Cert.KernelIdeal.Gen

/-! ### The layouts at an index -/

theorem flat_apply (y : FVec Ideal S8192x8x128 .f32) (n : Fin 8192) (h : Fin 8) (x : Fin 128) (w : 128 * h.val + x.val < 1024) :
    flat y (ix2 n ⟨128 * h.val + x.val, w⟩) = y (ix3 n h x) :=
  shapeCast_apply y shapeCasts_S8192x8x128_S8192x1024 (ix2 n ⟨128 * h.val + x.val, w⟩) (ix3 n h x) (by
    rewrite [Shape.rowMajor_val_three, Shape.rowMajor_val_two]
    show (n.val * 8 + h.val) * 128 + x.val = n.val * 1024 + (128 * h.val + x.val)
    omega)

theorem hrow_flat (y : FVec Ideal S8192x8x128 .f32) (n : Fin 8192) (h : Fin 8) (x : Fin 128) :
    hrow (truncf .bf16 (flat y) bitsLt_bf16_f32) h.val n.val x = y (ix3 n h x) := by
  unfold hrow
  rw [dif_pos ⟨n.isLt, h.isLt⟩]
  exact flat_apply y n h x _

theorem orow_after (a : FVec Ideal S8192x512 .f32) (y : FVec Ideal S8192x8x128 .f32) (n : Fin 8192) (h : Fin 8) (x : Fin 128) :
    orow (after512 a (flat y)) h.val n.val x = y (ix3 n h x) := by
  have hx := x.isLt
  have hh := h.isLt
  unfold orow after512
  rw [dif_pos ⟨n.isLt, h.isLt⟩]
  refine (concatenate_pair_apply_right 1 a (flat y) concatenates_S8192x512_S8192x1024_S8192x1536_d1 _ rfl rfl
    (ix2 n ⟨128 * h.val + x.val, by omega⟩) ?_ ?_).trans (flat_apply y n h x _)
  · intro b hb
    match b with
    | ⟨0, _⟩ => rfl
    | ⟨1, _⟩ => exact absurd rfl hb
  · show 128 * h.val + x.val + 512 = 512 + 128 * h.val + x.val
    omega

theorem hlane_lanes (y : FVec Ideal S8x8192 .f32) (n : Fin 8192) (h : Fin 8) : hlane (lanes y) h.val n.val = y (ix2 h n) := by
  have hn := n.isLt
  unfold hlane lanes
  rw [dif_pos ⟨n.isLt, h.isLt⟩]
  rw [broadcastInDim_apply _ bcast_S8x8x1x1024_S8x8x8x1024_0_1_2_3 _ _ (ix4 h ⟨n.val / 1024, by omega⟩ 0 ⟨n.val % 1024, Nat.mod_lt _ (by norm_num)⟩)
    (fun a => match a with
      | ⟨0, _⟩ => by show h.val = if (8 : Nat) = 1 then 0 else h.val; rw [if_neg (by decide)]
      | ⟨1, _⟩ => by show n.val / 1024 = if (8 : Nat) = 1 then 0 else n.val / 1024; rw [if_neg (by decide)]
      | ⟨2, _⟩ => by show 0 = if (1 : Nat) = 1 then 0 else 0; rw [if_pos rfl]
      | ⟨3, _⟩ => by show n.val % 1024 = if (1024 : Nat) = 1 then 0 else n.val % 1024; rw [if_neg (by decide)])]
  refine shapeCast_apply y shapeCasts_S8x8192_S8x8x1x1024 _ (ix2 h n) ?_
  rewrite [Shape.rowMajor_val_two, Shape.rowMajor_val_four]
  show h.val * 8192 + n.val = ((h.val * 8 + n.val / 1024) * 1 + 0) * 1024 + n.val % 1024
  omega

/-- A row with a one after it. -/
def oneAfter (f : Fin 64 → ℝ) : Fin 65 → ℝ := fun d => if hd : d.val < 64 then f ⟨d.val, hd⟩ else 1

theorem withOne_real (v : Fin 8192 → Fin 8 → Fin 64 → ℝ) :
    withOne (coe3 v) (broadcastInDim S8192x8x1 ![] bcast_S_S8192x8x1 (constant (F := Ideal) S_ .f32 0x3F800000#32)) = coe3 (fun n h => oneAfter (v n h)) := by
  funext j
  unfold withOne
  show _ = ((oneAfter (v (j 0) (j 1)) (j 2) : ℝ) : EReal)
  unfold oneAfter
  split
  · rename_i hd
    exact concatenate_pair_apply_left 2 (coe3 v) _ concatenates_S8192x8x64_S8192x8x1_S8192x8x65_d2 j rfl (ix3 (j 0) (j 1) ⟨(j 2).val, hd⟩) (fun b =>
      match b with
      | ⟨0, _⟩ => rfl
      | ⟨1, _⟩ => rfl
      | ⟨2, _⟩ => rfl)
  · rename_i hd
    have h2 : (j 2).val < 65 := (j 2).isLt
    refine (concatenate_pair_apply_right 2 (coe3 v) _ concatenates_S8192x8x64_S8192x8x1_S8192x8x65_d2 j rfl rfl (ix3 (j 0) (j 1) 0) ?_ ?_).trans ?_
    · intro b hb
      match b with
      | ⟨0, _⟩ => rfl
      | ⟨1, _⟩ => rfl
      | ⟨2, _⟩ => exact absurd rfl hb
    · show 0 + 64 = (j 2).val
      omega
    · exact word_one

/-! ### The rows that the kernel works on -/

section Rows

variable (m : (ℓ : Loc nD τ sig) → Buf (Elt Ideal) ℓ) (c : Dev nD)
variable (q k : Fin 8192 → Fin 8 → Fin 96 → ℝ) (v o : Fin 8192 → Fin 8 → Fin 64 → ℝ)

theorem row_q (h0 : m (c, Proc.tc.devRef main_arg0) = coe3 q) (h : Fin 8) (n : Fin 8192) (x : Fin 128) :
    hrow (V m c main_v37) h.val n.val x = ((padded (q n h) x.val : ℝ) : EReal) := by
  rw [entry_q, h0, hrow_flat]
  exact pad_coe3 q _ rfl _ _ _ pad_word (ix3 n h x)

theorem row_k (h1 : m (c, Proc.tc.devRef main_arg1) = coe3 k) (h : Fin 8) (n : Fin 8192) (x : Fin 128) :
    hrow (V m c main_v40) h.val n.val x = ((padded (k n h) x.val : ℝ) : EReal) := by
  rw [entry_k, h1, hrow_flat]
  exact pad_coe3 k _ rfl _ _ _ pad_word (ix3 n h x)

theorem row_v (h2 : m (c, Proc.tc.devRef main_arg2) = coe3 v) (h : Fin 8) (n : Fin 8192) (x : Fin 128) :
    hrow (V m c main_v43) h.val n.val x = ((padded (oneAfter (v n h)) x.val : ℝ) : EReal) := by
  rw [entry_v, h2, hrow_flat]
  exact pad_coe3 (fun n h => oneAfter (v n h)) _ (withOne_real v) _ _ _ pad_word (ix3 n h x)

theorem row_o (h3 : m (c, Proc.tc.devRef main_arg3) = coe3 o) (h : Fin 8) (n : Fin 8192) (x : Fin 128) :
    orow (V m c main_v34) h.val n.val x = ((padded (o n h) x.val : ℝ) : EReal) := by
  rw [entry_o, h3, orow_after]
  exact pad_coe3 o _ rfl _ _ _ pad_word (ix3 n h x)

theorem word_two : Ideal.ofBits FTy.f32 0x40000000#32 = ((2 : ℝ) : EReal) := by
  simp [Ideal.ofBits, Ideal.ieee, -EReal.coe_mul, ← EReal.coe_mul]
  norm_num

theorem log_two : Ideal.log (Ideal.ofBits FTy.f32 0x40000000#32) = ((Real.log 2 : ℝ) : EReal) := by
  rw [word_two, log_real (by norm_num)]

theorem log_base (l : ℝ) : Ideal.div (l : EReal) (Ideal.log (Ideal.ofBits FTy.f32 0x40000000#32)) = ((l / Real.log 2 : ℝ) : EReal) := by
  rw [log_two, div_real _ (Real.log_pos (by norm_num)).ne']

theorem lane_l (h0 : m (c, Proc.tc.devRef main_arg0) = coe3 q) (h1 : m (c, Proc.tc.devRef main_arg1) = coe3 k) (h : Fin 8) (n : Fin 8192) :
    hlane (V m c main_v48) h.val n.val = ((Real.log (rL q k h n) / Real.log 2 : ℝ) : EReal) := by
  rw [entry_l, h0, h1, hlane_lanes]
  refine Eq.trans ?_ (log_base _)
  exact congrArg (fun z => Ideal.div z (Ideal.log (Ideal.ofBits FTy.f32 0x40000000#32))) (hLse_real q k (ix2 h n))

theorem lane_d (h0 : m (c, Proc.tc.devRef main_arg0) = coe3 q) (h1 : m (c, Proc.tc.devRef main_arg1) = coe3 k)
    (h2 : m (c, Proc.tc.devRef main_arg2) = coe3 v) (h3 : m (c, Proc.tc.devRef main_arg3) = coe3 o) (h : Fin 8) (n : Fin 8192) :
    hlane (V m c main_v50) h.val n.val = ((rM q k v o h n : ℝ) : EReal) := by
  rw [entry_d, h0, h1, h2, h3, hlane_lanes]
  exact hD_real q k v o (ix2 h n)

/-! ### The weights and the gradients -/

theorem padded_lt {n : ℕ} (f : Fin n → ℝ) {x : ℕ} (hx : x < n) : padded f x = f ⟨x, hx⟩ := dif_pos hx

theorem padded_ge {n : ℕ} (f : Fin n → ℝ) {x : ℕ} (hx : ¬x < n) : padded f x = 0 := dif_neg hx

/-- A product's sum over 128 lanes is the sum over the lanes that are not padding. -/
theorem sum_lanes {n : ℕ} (hn : n ≤ 128) (f g : Fin n → ℝ) : ∑ x : Fin 128, padded f x.val * padded g x.val = ∑ d, f d * g d := by
  rw [← Finset.sum_range (fun x => padded f x * padded g x), ← Finset.sum_subset (Finset.range_mono hn), Finset.sum_range]
  · exact Finset.sum_congr rfl fun d _ => by rw [padded_lt f d.isLt, padded_lt g d.isLt]
  · intro x _ hx
    rw [padded_ge f (by simpa using hx), zero_mul]

theorem oneAfter_mul (f g : Fin 64 → ℝ) (x : ℕ) : padded (oneAfter f) x * padded g x = padded f x * padded g x := by
  by_cases hx : x < 64
  · rw [padded_lt (oneAfter f) (by omega), padded_lt f hx]
    show (if hd : x < 64 then f ⟨x, hd⟩ else 1) * _ = _
    rw [dif_pos hx]
  · rw [padded_ge g hx, mul_zero, mul_zero]

variable (h0 : m (c, Proc.tc.devRef main_arg0) = coe3 q) (h1 : m (c, Proc.tc.devRef main_arg1) = coe3 k)
  (h2 : m (c, Proc.tc.devRef main_arg2) = coe3 v) (h3 : m (c, Proc.tc.devRef main_arg3) = coe3 o)

include h0 h1 in
theorem HW_real (h : Fin 8) {i j : Fin 8192} (hij : j ≤ i) : HW m c h.val j.val i.val = ((rP q k h i j : ℝ) : EReal) := by
  unfold HW wt
  rw [lane_l m c q k h0 h1 h i]
  simp only [row_q m c q h0 h i, row_k m c k h1 h j, ← EReal.coe_mul, ← coe_sum]
  rw [← EReal.coe_sub, Ideal.exp2_coe, sum_lanes (by norm_num) (k j h) (q i h), ← weight_log q k h hij]
  simp only [mul_comm (k j h _)]

include h0 h1 h2 h3 in
theorem HG_real (h : Fin 8) {i j : Fin 8192} (hij : j ≤ i) : HG m c h.val j.val i.val = ((rG q k v o h i j : ℝ) : EReal) := by
  have hw := HW_real m c q k h0 h1 h hij
  unfold HG gr
  unfold HW at hw
  rw [hw, lane_d m c q k v o h0 h1 h2 h3 h i]
  simp only [row_v m c v h2 h j, row_o m c o h3 h i, ← EReal.coe_mul, ← coe_sum, oneAfter_mul]
  rw [← EReal.coe_sub, ← EReal.coe_mul, sum_lanes (by norm_num) (v j h) (o i h)]
  rfl

include h0 h1 h2 h3 in
theorem keySum_real (h : Fin 8) (j : Fin 8192) (x : Fin 128) :
    keySum m c h.val j.val x * (scl : EReal) = ((gradK q k v o j h x.val : ℝ) : EReal) := by
  have e : keySum m c h.val j.val x = ((∑ i, rG q k v o h i j * padded (q i h) x.val : ℝ) : EReal) := by
    unfold keySum
    rw [Finset.sum_range, coe_sum]
    refine Finset.sum_congr rfl fun i _ => ?_
    by_cases hij : j ≤ i
    · rw [if_pos (Fin.le_def.mp hij), HG_real m c q k v o h0 h1 h2 h3 h hij, row_q m c q h0 h i x, ← EReal.coe_mul]
    · rw [if_neg (fun w => hij (Fin.le_def.mpr w)), rG_masked q k v o h hij, zero_mul, EReal.coe_zero]
  rw [e, ← EReal.coe_mul, gradK, Finset.sum_mul]
  refine congrArg Real.toEReal ?_
  by_cases hx : x.val < 96
  · rw [padded_lt _ hx]
    exact Finset.sum_congr rfl fun i _ => by rw [padded_lt _ hx]; ring
  · rw [padded_ge _ hx]
    exact Finset.sum_eq_zero fun i _ => by rw [padded_ge _ hx]; ring

include h0 h1 h2 h3 in
theorem qrySum_real (h : Fin 8) (i : Fin 8192) (x : Fin 128) :
    qrySum m c h.val 8192 i.val x * (scl : EReal) = ((gradQ q k v o i h x.val : ℝ) : EReal) := by
  have e : qrySum m c h.val 8192 i.val x = ((∑ j, rG q k v o h i j * padded (k j h) x.val : ℝ) : EReal) := by
    unfold qrySum
    rw [Finset.sum_range, coe_sum]
    refine Finset.sum_congr rfl fun j _ => ?_
    by_cases hij : j ≤ i
    · rw [if_pos (Fin.le_def.mp hij), HG_real m c q k v o h0 h1 h2 h3 h hij, row_k m c k h1 h j x, ← EReal.coe_mul]
    · rw [if_neg (fun w => hij (Fin.le_def.mpr w)), rG_masked q k v o h hij, zero_mul, EReal.coe_zero]
  rw [e, ← EReal.coe_mul, gradQ, Finset.sum_mul]
  refine congrArg Real.toEReal ?_
  by_cases hx : x.val < 96
  · rw [padded_lt _ hx]
    exact Finset.sum_congr rfl fun j _ => by rw [padded_lt _ hx]; ring
  · rw [padded_ge _ hx]
    exact Finset.sum_eq_zero fun j _ => by rw [padded_ge _ hx]; ring

include h0 h1 h3 in
theorem valSum_real (h : Fin 8) (j : Fin 8192) (x : Fin 128) : valSum m c h.val j.val x = ((gradV q k o j h x.val : ℝ) : EReal) := by
  have e : valSum m c h.val j.val x = ((∑ i, rP q k h i j * padded (o i h) x.val : ℝ) : EReal) := by
    unfold valSum
    rw [Finset.sum_range, coe_sum]
    refine Finset.sum_congr rfl fun i _ => ?_
    by_cases hij : j ≤ i
    · rw [if_pos (Fin.le_def.mp hij), HW_real m c q k h0 h1 h hij, row_o m c o h3 h i x, ← EReal.coe_mul]
    · rw [if_neg (fun w => hij (Fin.le_def.mpr w)), rP_masked q k h hij, zero_mul, EReal.coe_zero]
  rw [e, gradV]
  refine congrArg Real.toEReal ?_
  by_cases hx : x.val < 64
  · rw [padded_lt _ hx]
    exact Finset.sum_congr rfl fun i _ => by rw [padded_lt _ hx]; ring
  · rw [padded_ge _ hx]
    exact Finset.sum_eq_zero fun i _ => by rw [padded_ge _ hx, mul_zero]

end Rows

end Cert.Proof
-- ==== Proof.Results.lean ====
/- The kernel's three results are the reference's, for arguments that are finite. -/
module

public import proofs.«01_k».proof.Defs
public import proofs.«01_k».proof.Proof.Rows
public import proofs.«01_k».proof.Proof.Gen.Pre_finite
public import proofs.«01_k».proof.Proof.Gen.KernelIdeal.Frame
public import Idealize.ShloMosaic.Lib.Claim

@[expose] public section

set_option maxRecDepth 16384

noncomputable section

namespace Cert.Proof

open Idealize.ShloMosaic Idealize.ShloMosaic.TcCoe Idealize.ShloMosaic.Tactic
open Cert.KernelIdeal Cert.KernelIdeal.Gen

/-- An extended real whose absolute value is below infinity is a real. -/
theorem real_of_lt {x : EReal} (h : Ideal.cmp .olt (max x (-x)) (Ideal.ofBits FTy.f32 0x7F800000#32) = 1#1) : x = (x.toReal : EReal) := by
  have ht : Ideal.ofBits FTy.f32 0x7F800000#32 = (⊤ : EReal) := by simp [Ideal.ofBits, Ideal.ieee]
  rw [ht] at h
  have hl : max x (-x) < ⊤ := by
    by_contra hc
    simp [Ideal.cmp, hc] at h
  rw [EReal.coe_toReal]
  · intro hx
    rw [hx] at hl
    simp at hl
  · intro hx
    rw [hx] at hl
    simp at hl

/-- An array whose every element is below infinity in absolute value is an array of reals. -/
theorem real_of_finite {n : ℕ} (x : FVec Ideal ⟨3, ![8192, 8, n]⟩ .f32) (hb : (⟨0, ![]⟩ : Shape).BroadcastsInDim ⟨3, ![8192, 8, n]⟩ ![])
    (h : cmpf .olt (Host.absf x) (broadcastInDim ⟨3, ![8192, 8, n]⟩ ![] hb (constant (F := Ideal) ⟨0, ![]⟩ .f32 0x7F800000#32)) = fun _ => 1#1) :
    ∃ f : Fin 8192 → Fin 8 → Fin n → ℝ, x = coe3 f :=
  ⟨fun a b d => (x (ix3 a b d)).toReal, funext fun i => (real_of_lt (congrFun h i)).trans
    (congrArg (fun j => ((x j).toReal : EReal)) (eq_ix3 i))⟩

section Results

variable (m : (ℓ : Loc nD τ sig) → Buf (Elt Ideal) ℓ) (c : Dev nD)
variable (q k : Fin 8192 → Fin 8 → Fin 96 → ℝ) (v o : Fin 8192 → Fin 8 → Fin 64 → ℝ)
variable (h0 : m (c, Proc.tc.devRef main_arg0) = coe3 q) (h1 : m (c, Proc.tc.devRef main_arg1) = coe3 k)
  (h2 : m (c, Proc.tc.devRef main_arg2) = coe3 v) (h3 : m (c, Proc.tc.devRef main_arg3) = coe3 o)

/-- The head of a lane. -/
def headOf (i : S8192x1024.Idx) : Fin 8 := ⟨(i 1).val / 128, by have h : (i 1).val < 1024 := (i 1).isLt; omega⟩

include h0 h1 h2 h3 in
theorem dq_eq : (dats m 0 c).arrAt 8 cfg0.N = Cert.ReferenceIdeal.Read.val_main_v66 (F := Ideal) (coe3 q) (coe3 k) (coe3 v) (coe3 o) := by
  rw [qry_array]
  exact funext fun i => (qrySum_real m c q k v o h0 h1 h2 h3 (headOf i) (i 0) ⟨(i 1).val % 128, Nat.mod_lt _ (by norm_num)⟩).trans
    (ref_dq q k v o i (headOf i) rfl).symm

include h0 h1 h2 h3 in
theorem dk_eq : (dats m 0 c).arrAt 6 cfg0.N = Cert.ReferenceIdeal.Read.val_main_v68 (F := Ideal) (coe3 q) (coe3 k) (coe3 v) (coe3 o) := by
  rw [key_array]
  exact funext fun i => (keySum_real m c q k v o h0 h1 h2 h3 (headOf i) (i 0) ⟨(i 1).val % 128, Nat.mod_lt _ (by norm_num)⟩).trans
    (ref_dk q k v o i (headOf i) rfl).symm

include h0 h1 h3 in
theorem dv_eq : (dats m 0 c).arrAt 7 cfg0.N = Cert.ReferenceIdeal.Read.val_main_v70 (F := Ideal) (coe3 q) (coe3 k) (coe3 o) := by
  rw [val_array]
  exact funext fun i => (valSum_real m c q k o h0 h1 h3 (headOf i) (i 0) ⟨(i 1).val % 128, Nat.mod_lt _ (by norm_num)⟩).trans
    (ref_dv q k o i (headOf i) rfl).symm

end Results

/-- On finite arguments the kernel and the reference end with the same three gradients. -/
theorem algebraic : Cert.algebraic_KernelIdeal_ReferenceIdeal_pre_finite := by
  intro m g m' g' hpre hagree
  have hreal (c : Dev nD) : ∃ q k v o, m (c, Proc.tc.devRef main_arg0) = coe3 q ∧ m (c, Proc.tc.devRef main_arg1) = coe3 k
      ∧ m (c, Proc.tc.devRef main_arg2) = coe3 v ∧ m (c, Proc.tc.devRef main_arg3) = coe3 o := by
    obtain ⟨p0, p1, p2, p3⟩ := hpre c
    obtain ⟨q, hq⟩ := real_of_finite _ _ p0
    obtain ⟨k, hk⟩ := real_of_finite _ _ p1
    obtain ⟨v, hv⟩ := real_of_finite _ _ p2
    obtain ⟨o, ho⟩ := real_of_finite _ _ p3
    exact ⟨q, k, v, o, hq, hk, hv, ho⟩
  refine ⟨fun c => (dats m 0 c).arrAt 8 cfg0.N, fun c => (dats m 0 c).arrAt 6 cfg0.N, fun c => (dats m 0 c).arrAt 7 cfg0.N,
    (θ_run defs _ _).mono (fun r h c => ⟨(h c).2.2.1, (h c).1, (h c).2.1, (h c).2.2.2⟩) (Cert.KernelIdeal.Value.run_blocks m g),
    (θ_run Cert.ReferenceIdeal.defs _ _).mono (fun r h c => ?_) (Cert.ReferenceIdeal.Value.run m' g')⟩
  obtain ⟨q, k, v, o, h0, h1, h2, h3⟩ := hreal c
  obtain ⟨a0, a1, a2, a3⟩ := hagree c
  have b0 := a0.trans h0
  have b1 := a1.trans h1
  have b2 := a2.trans h2
  have b3 := a3.trans h3
  exact ⟨(h c).1.trans ((Cert.ReferenceIdeal.Read.val_main_v66_eq m' c).trans
      ((congr (congr (congr (congrArg (Cert.ReferenceIdeal.Read.val_main_v66 (F := Ideal)) b0) b1) b2) b3).trans (dq_eq m c q k v o h0 h1 h2 h3).symm)),
    (h c).2.1.trans ((Cert.ReferenceIdeal.Read.val_main_v68_eq m' c).trans
      ((congr (congr (congr (congrArg (Cert.ReferenceIdeal.Read.val_main_v68 (F := Ideal)) b0) b1) b2) b3).trans (dk_eq m c q k v o h0 h1 h2 h3).symm)),
    (h c).2.2.1.trans ((Cert.ReferenceIdeal.Read.val_main_v70_eq m' c).trans
      ((congr (congr (congrArg (Cert.ReferenceIdeal.Read.val_main_v70 (F := Ideal)) b0) b1) b3).trans (dv_eq m c q k o h0 h1 h3).symm)),
    (h c).2.2.2⟩

end Cert.Proof
-- ==== Proof.Online.lean ====
/- Softmax by one pass over the keys: sums of exponentials about a running base, and the change of the base. -/
module

public import proofs.«01_k».proof.Proof.Reals
public import proofs.«01_k».proof.Proof.Trip

@[expose] public section

noncomputable section

namespace Cert.Online

open Idealize.ShloMosaic Cert.Proof

/-- The extended real is a number or minus infinity. -/
def Low (x : EReal) : Prop := x = ⊥ ∨ ∃ r : ℝ, x = r

/-- The weight of score `s` about the base `m`, in powers of two. -/
def ex (s m : EReal) : EReal := Ideal.exp2 ((s - m) * (scl2 : ℝ))

/-- The weighted sum over the first `n` keys about the base `m`. -/
def acc (s v : ℕ → EReal) (n : ℕ) (m : EReal) : EReal := ∑ j ∈ Finset.range n, ex (s j) m * v j

theorem scl2_pos : 0 < scl2 := mul_pos scl_pos (inv_pos.mpr (Real.log_pos (by norm_num)))

theorem ex_bot (m : EReal) : ex ⊥ m = 0 := by
  rw [ex, EReal.bot_sub, EReal.bot_mul_coe_of_pos scl2_pos, Ideal.exp2_bot]

theorem ex_real (x M : ℝ) : ex (x : EReal) (M : EReal) = ((Real.rpow 2 ((x - M) * scl2) : ℝ) : EReal) := by
  rw [ex, ← EReal.coe_sub, ← EReal.coe_mul, Ideal.exp2_coe]

theorem rpow_pos (x : ℝ) : 0 < Real.rpow 2 x := Real.rpow_pos_of_pos (by norm_num) x

/-- Two changes of base make one. -/
theorem ex_mul {s : EReal} (hs : Low s) (M M' : ℝ) : ex (M : EReal) M' * ex s M = ex s M' := by
  rcases hs with rfl | ⟨x, rfl⟩
  · rw [ex_bot, ex_bot, mul_zero]
  · rw [ex_real, ex_real, ex_real, ← EReal.coe_mul]
    congr 1
    refine (Real.rpow_add (by norm_num) _ _).symm.trans ?_
    congr 1
    ring

/-- A nonnegative real times a sum. -/
theorem real_mul_sum {ι : Type} (t : Finset ι) (f : ι → EReal) {x : ℝ} (hx : 0 ≤ x) :
    (x : EReal) * ∑ j ∈ t, f j = ∑ j ∈ t, (x : EReal) * f j := by
  classical
  induction t using Finset.induction_on with
  | empty => simp
  | insert a t ha ih =>
    rw [Finset.sum_insert ha, Finset.sum_insert ha, EReal.left_distrib_of_nonneg_of_ne_top (by exact_mod_cast hx) (EReal.coe_ne_top x), ih]

/-- One block of keys more: the sum so far is rescaled to the new base and the block's terms are added. -/
theorem acc_step (s v : ℕ → EReal) (hs : ∀ j, Low (s j)) {n l : ℕ} (hnl : n ≤ l) {m : EReal} (hm : m = ⊥ ∧ n = 0 ∨ ∃ M : ℝ, m = M) (M' : ℝ) :
    ex m M' * acc s v n m + ∑ j ∈ Finset.Ico n l, ex (s j) M' * v j = acc s v l M' := by
  have e : ex m M' * acc s v n m = acc s v n M' := by
    rcases hm with ⟨rfl, rfl⟩ | ⟨M, rfl⟩
    · simp [acc]
    · rw [acc, ex_real, real_mul_sum _ _ (rpow_pos _).le, ← ex_real]
      exact Finset.sum_congr rfl fun j _ => by rw [← mul_assoc, ex_mul (hs j)]
  rw [e, acc, acc, Finset.sum_range_add_sum_Ico _ hnl]

/-- Keys that are masked add nothing. -/
theorem acc_tail (s v : ℕ → EReal) {n l : ℕ} (hnl : n ≤ l) (h : ∀ j, n ≤ j → j < l → s j = ⊥) (m : EReal) : acc s v l m = acc s v n m := by
  rw [acc, acc, ← Finset.sum_range_add_sum_Ico _ hnl, Finset.sum_eq_zero (s := Finset.Ico n l), add_zero]
  intro j hj
  rw [h j (Finset.mem_Ico.mp hj).1 (Finset.mem_Ico.mp hj).2, ex_bot, zero_mul]

/-- The greatest of a base and of a block's scores is a number once one of the scores is. -/
theorem max_low {n : ℕ} {m : EReal} (hm : m = ⊥ ∨ ∃ M : ℝ, m = M) {f : Fin n → EReal} (hf : ∀ j, Low (f j)) {j₀ : Fin n} (h₀ : f j₀ ≠ ⊥) :
    ∃ M : ℝ, max m (Finset.univ.fold max ⊥ f) = M := by
  have e : Finset.univ.fold max ⊥ f = Finset.univ.sup f := rfl
  obtain ⟨j, -, hj⟩ := Finset.exists_mem_eq_sup Finset.univ ⟨j₀, Finset.mem_univ _⟩ f
  have hb : Finset.univ.sup f ≠ ⊥ := fun h => h₀ (le_bot_iff.mp (h ▸ Finset.le_sup (Finset.mem_univ j₀)))
  have ht : Finset.univ.sup f ≠ ⊤ := by
    rw [hj]
    rcases hf j with h | ⟨r, h⟩ <;> rw [h]
    · exact bot_ne_top
    · exact EReal.coe_ne_top r
  refine ⟨(max m (Finset.univ.sup f)).toReal, ?_⟩
  rw [e, EReal.coe_toReal]
  · rcases hm with rfl | ⟨M, rfl⟩
    · rwa [max_bot_left]
    · exact (max_lt (EReal.coe_lt_top M) (lt_top_iff_ne_top.mpr ht)).ne
  · exact (lt_of_lt_of_le (bot_lt_iff_ne_bot.mpr hb) (le_max_right _ _)).ne'

/-- The base after a block of scores. -/
def nxt (M : EReal) {n : ℕ} (s : Fin n → EReal) : EReal := max M (Finset.univ.fold max ⊥ s)

/-- The weighted sum after the block, about the new base. -/
def upd (M a : EReal) {n : ℕ} (s v : Fin n → EReal) : EReal := ex M (nxt M s) * a + ∑ j, ex (s j) (nxt M s) * v j

/-- A row's state after `n` keys: every lane of the base is the same, and lane `d` of the sum is the weighted sum of the values' lane `d`. -/
def Inv (s : ℕ → EReal) (v : Fin 128 → ℕ → EReal) (n : ℕ) (m a : Fin 128 → EReal) : Prop :=
  ∃ M : EReal, (M = ⊥ ∧ n = 0 ∨ ∃ R : ℝ, M = R) ∧ (∀ d, m d = M) ∧ ∀ d, a d = acc s (v d) n M

theorem inv_start (s : ℕ → EReal) (v : Fin 128 → ℕ → EReal) {m a : Fin 128 → EReal} (hm : ∀ d, m d = ⊥) (ha : ∀ d, a d = 0) : Inv s v 0 m a :=
  ⟨⊥, .inl ⟨rfl, rfl⟩, hm, fun d => (ha d).trans (by rw [acc, Finset.range_zero, Finset.sum_empty])⟩

theorem inv_congr {s : ℕ → EReal} {v : Fin 128 → ℕ → EReal} {n : ℕ} {m a m' a' : Fin 128 → EReal} (h : Inv s v n m a) (hm : ∀ d, m' d = m d)
    (ha : ∀ d, a' d = a d) : Inv s v n m' a' := by
  obtain rfl : m' = m := funext hm
  obtain rfl : a' = a := funext ha
  exact h

/-- One block of `w` keys more. -/
theorem inv_step {s : ℕ → EReal} {v : Fin 128 → ℕ → EReal} (hs : ∀ j, Low (s j)) {n w : ℕ} (hw : 0 < w) (h₀ : s n ≠ ⊥) {m a m' a' : Fin 128 → EReal}
    (h : Inv s v n m a) (hm : ∀ d, m' d = nxt (m d) (fun j : Fin w => s (n + j.val)))
    (ha : ∀ M, (∀ d, m d = M) → ∀ d, a' d = upd M (a d) (fun j : Fin w => s (n + j.val)) (fun j => v d (n + j.val))) : Inv s v (n + w) m' a' := by
  obtain ⟨M, hM, h1, h2⟩ := h
  obtain ⟨R, hR⟩ : ∃ R : ℝ, nxt M (fun j : Fin w => s (n + j.val)) = R :=
    max_low (hM.imp And.left id) (fun j => hs _) (j₀ := ⟨0, hw⟩) (by simpa using h₀)
  refine ⟨R, .inr ⟨R, rfl⟩, fun d => by rw [hm, h1, hR], fun d => ?_⟩
  rw [ha M h1, upd, hR, h2, Cert.Proof.sum_shift (fun j => ex (s j) R * v d j) n]
  exact acc_step s (v d) hs (Nat.le_add_right n w) hM R

section Rows

variable (q k : Fin 8192 → Fin 8 → Fin 96 → ℝ)

/-- The factor by which a row's sums about the base `M` exceed its sums of exponentials. -/
def fac (M : ℝ) : ℝ := Real.exp (-(M * scl))

theorem fac_pos (M : ℝ) : 0 < fac M := Real.exp_pos _

/-- The masked score before the scale. -/
def sc (h : Fin 8) (i j : Fin 8192) : EReal := if j ≤ i then ((∑ d, q i h d * k j h d : ℝ) : EReal) else ⊥

theorem sc_low (h : Fin 8) (i j : Fin 8192) : Low (sc q k h i j) := by
  unfold sc
  split
  · exact .inr ⟨_, rfl⟩
  · exact .inl rfl

theorem ex_sc (h : Fin 8) (i j : Fin 8192) (M : ℝ) : ex (sc q k h i j) M = ((rE q k h i j * fac M : ℝ) : EReal) := by
  unfold sc rE
  split
  · rw [ex_real]
    congr 1
    have h2 : Real.log 2 ≠ 0 := (Real.log_pos (by norm_num)).ne'
    refine (Real.rpow_def_of_pos (by norm_num) _).trans ?_
    rw [fac, ← Real.exp_add, rS, show scl2 = scl * (Real.log 2)⁻¹ from rfl]
    generalize scl = z
    congr 1
    field_simp
    ring
  · rw [ex_bot, zero_mul, EReal.coe_zero]

/-- The base's part and the logarithm of the sum about it are the logarithm of the row's sum. -/
theorem log_fac (h : Fin 8) (i : Fin 8192) (M : ℝ) : M * scl + Real.log (rL q k h i * fac M) = Real.log (rL q k h i) := by
  rw [Real.log_mul (rL_pos q k h i).ne' (fac_pos M).ne', fac, Real.log_exp]
  ring

/-- The weighted sum over all the keys divided by the sum of the weights. -/
theorem quotient (h : Fin 8) (i : Fin 8192) (M : ℝ) (v : Fin 8192 → EReal) :
    Ideal.div (∑ j, ((rE q k h i j * fac M : ℝ) : EReal) * v j) ((rL q k h i * fac M : ℝ) : EReal) = ∑ j, ((rP q k h i j : ℝ) : EReal) * v j := by
  have hl : 0 < rL q k h i * fac M := mul_pos (rL_pos q k h i) (fac_pos M)
  rw [Ideal.div_coe hl.ne', mul_comm, real_mul_sum _ _ (one_div_nonneg.mpr hl.le)]
  refine Finset.sum_congr rfl fun j _ => ?_
  rw [← mul_assoc, ← EReal.coe_mul, mul_comm (1 / _), mul_one_div, weight_shift q k h i j (fac_pos M)]

end Rows

end Cert.Online
-- ==== Proof.AttnPayload.lean ====
/- What one block of the attention's forward body computes, element by element: the new base of each row, and the row's rescaled weighted sum. -/
module

public import proofs.«01_k».proof.Proof.Online
public import proofs.«01_k».proof.Proof.Gen.KernelAttnIdeal.Skeleton
public import Idealize.ShloMosaic.Lib.Pointwise

@[expose] public section

set_option maxRecDepth 16384

noncomputable section

namespace Cert.Attn

open Idealize.ShloMosaic Idealize.ShloMosaic.Pointwise
open Cert.KernelAttnIdeal Cert.KernelAttnIdeal.Gen
open Cert.Proof (scl scl2 select_le neg_inf)
open Cert.Online

theorem named_scale : (Named.named κ "scale" 0x3DD105EC#32 : Ideal .f32) = (scl : EReal) :=
  IdealRules.named_const.ideal_named_scalar _ _ _ _ rfl

theorem named_scale2 : (Named.named κ "scale2" 0x3E16C740#32 : Ideal .f32) = (scl2 : EReal) :=
  IdealRules.named_const.ideal_named_scalar _ _ _ _ rfl

theorem named_log2e : (Named.named κ "log2e" 0x3FB8AA3B#32 : Ideal .f32) = (((Real.log 2)⁻¹ : ℝ) : EReal) :=
  IdealRules.named_const.ideal_named_scalar _ _ _ _ rfl

/-- A score, before the scale. -/
def dot (q k : Fin 128 → EReal) : EReal := ∑ x, q x * k x

section Chunk

variable (k v q : Vec Ideal S1024x128 .bf16) (m a : Vec Ideal S1024x128 .f32) (r : Fin 1024) (d : Fin 128)

theorem pay5 : k0_pay5 (F := Ideal) k q m (ix2 r d) = nxt (m (ix2 r d)) (fun j : Fin 1024 => dot (fun x => q (ix2 r x)) (fun x => k (ix2 j x))) := by
  pointwise [k0_pay5, k0_pay4]
  rw [neg_inf]
  rfl

theorem pay7 : k0_pay7 (F := Ideal) k q m (ix2 r d) = nxt (m (ix2 r d)) (fun j : Fin 1024 => dot (fun x => q (ix2 r x)) (fun x => k (ix2 j x))) := by
  pointwise [k0_pay7]
  exact pay5 k q m r d

theorem pay6 {M : EReal} (hm : ∀ d, m (ix2 r d) = M) :
    k0_pay6 (F := Ideal) k v q m a (ix2 r d) = upd M (a (ix2 r d)) (fun j : Fin 1024 => dot (fun x => q (ix2 r x)) (fun x => k (ix2 j x))) (fun j => v (ix2 j d)) := by
  pointwise [k0_pay6, k0_pay4]
  simp only [pay5, hm, dite_eq_ite, ite_self, named_scale2]
  rfl

theorem pay2 : k0_pay2 (F := Ideal) (ix2 r d) = ⊥ := by
  pointwise [k0_pay2]
  exact neg_inf

theorem pay3 : k0_pay3 (F := Ideal) (ix2 r d) = 0 := by
  pointwise [k0_pay3]

/-- The output: the weighted sum over the weights' sum. -/
theorem pay28 (l : Vec Ideal S1024x1 .f32) : k0_pay28 (F := Ideal) l a (ix2 r d) = Ideal.div (a (ix2 r d)) (l (ix2 r 0)) := by
  pointwise [k0_pay28]

theorem pay29 (l : Vec Ideal S1024x1 .f32) : k0_pay29 (F := Ideal) l m (ix2 r d) = m (ix2 r d) * (scl : EReal) + Ideal.log (l (ix2 r 0)) := by
  pointwise [k0_pay29]
  rw [named_scale]

/-- The row's log-sum in base two, laid along the lanes. -/
theorem pay1 (s : Fin 8) : k0_pay1 (F := Ideal) a (ix4 0 0 s r) = a (ix2 r ⟨s.val, by omega⟩) * (((Real.log 2)⁻¹ : ℝ) : EReal) := by
  pointwise [k0_pay1]
  rw [named_log2e]

end Chunk

section Diagonal

variable (k v q : Vec Ideal S512x128 .bf16) (m a : Vec Ideal S512x128 .f32) (s : FVec Ideal S512x512 .f32) (r : Fin 512) (d : Fin 128)

theorem pay13 (j : Fin 512) : k0_pay13 (F := Ideal) k q (ix2 r j) = if j.val ≤ r.val then dot (fun x => q (ix2 r x)) (fun x => k (ix2 j x)) else ⊥ := by
  pointwise [k0_pay13]
  rw [select_le, neg_inf]
  rfl

theorem pay18 (j : Fin 512) : k0_pay18 (F := Ideal) k q (ix2 r j) = dot (fun x => q (ix2 r x)) (fun x => k (ix2 j x)) := by
  pointwise [k0_pay18]
  rfl

theorem pay24 (j : Fin 512) : k0_pay24 (F := Ideal) k q (ix2 r j) = if j.val ≤ r.val then dot (fun x => q (ix2 r x)) (fun x => k (ix2 j x)) else ⊥ := by
  pointwise [k0_pay24]
  rw [select_le, neg_inf]
  rfl

theorem pay14 : k0_pay14 (F := Ideal) s m (ix2 r d) = nxt (m (ix2 r d)) (fun j : Fin 512 => s (ix2 r j)) := by
  pointwise [k0_pay14]
  rw [neg_inf]
  rfl

theorem pay16 : k0_pay16 (F := Ideal) s m (ix2 r d) = nxt (m (ix2 r d)) (fun j : Fin 512 => s (ix2 r j)) := by
  pointwise [k0_pay16]
  exact pay14 m s r d

theorem pay15 {M : EReal} (hm : ∀ d, m (ix2 r d) = M) :
    k0_pay15 (F := Ideal) (k0_pay12 (F := Ideal) v) s m a (ix2 r d) = upd M (a (ix2 r d)) (fun j : Fin 512 => s (ix2 r j)) (fun j => v (ix2 j d)) := by
  pointwise [k0_pay15, k0_pay12]
  simp only [pay14, hm, dite_eq_ite, ite_self, named_scale2]
  rfl

theorem pay25 : k0_pay25 (F := Ideal) s m (ix2 r d) = nxt (m (ix2 r d)) (fun j : Fin 512 => s (ix2 r j)) := by
  pointwise [k0_pay25]
  rw [neg_inf]
  rfl

theorem pay27 : k0_pay27 (F := Ideal) s m (ix2 r d) = nxt (m (ix2 r d)) (fun j : Fin 512 => s (ix2 r j)) := by
  pointwise [k0_pay27]
  exact pay25 m s r d

theorem pay26 {M : EReal} (hm : ∀ d, m (ix2 r d) = M) :
    k0_pay26 (F := Ideal) (k0_pay23 (F := Ideal) v) s m a (ix2 r d) = upd M (a (ix2 r d)) (fun j : Fin 512 => s (ix2 r j)) (fun j => v (ix2 j d)) := by
  pointwise [k0_pay26, k0_pay23]
  simp only [pay25, hm, dite_eq_ite, ite_self, named_scale2]
  rfl

theorem pay20 : k0_pay20 (F := Ideal) m (k0_pay19 (F := Ideal) k q) (ix2 r d) = nxt (m (ix2 r d)) (fun j : Fin 512 => dot (fun x => q (ix2 r x)) (fun x => k (ix2 j x))) := by
  pointwise [k0_pay20, k0_pay19]
  simp only [pay18, neg_inf]
  rfl

theorem pay22 : k0_pay22 (F := Ideal) m (k0_pay19 (F := Ideal) k q) (ix2 r d) = nxt (m (ix2 r d)) (fun j : Fin 512 => dot (fun x => q (ix2 r x)) (fun x => k (ix2 j x))) := by
  pointwise [k0_pay22]
  exact pay20 k q m r d

theorem pay21 {M : EReal} (hm : ∀ d, m (ix2 r d) = M) :
    k0_pay21 (F := Ideal) (k0_pay17 (F := Ideal) v) (k0_pay18 (F := Ideal) k q) m (k0_pay19 (F := Ideal) k q) a (ix2 r d)
      = upd M (a (ix2 r d)) (fun j : Fin 512 => dot (fun x => q (ix2 r x)) (fun x => k (ix2 j x))) (fun j => v (ix2 j d)) := by
  pointwise [k0_pay21, k0_pay17]
  simp only [pay20, pay18, hm, dite_eq_ite, ite_self, named_scale2]
  rfl

end Diagonal

end Cert.Attn
-- ==== Proof.AttnTrip.lean ====
/- The attention's forward loop over the key blocks before the tile's own: each pass takes every row's state one block further. -/
module

public import proofs.«01_k».proof.Proof.AttnPayload
public import proofs.«01_k».proof.Proof.Gen.KernelAttnIdeal.Loops
public import Idealize.ShloMosaic.Lib.WritesUnit

@[expose] public section

set_option maxRecDepth 16384

noncomputable section

namespace Cert.Attn

open Idealize.ShloMosaic Idealize.ShloMosaic.Pointwise Idealize.ShloMosaic.TcCoe Idealize.ShloMosaic.Tactic
open Cert.KernelAttnIdeal Cert.KernelAttnIdeal.Gen
open Cert.Proof (row row_of_lt row_ix ld_rows rows_fit)
open Cert.Online

variable {κ' : Kind} {sp' : Space}

/-- What a load of a rectangle of a buffer reads. -/
abbrev LD {s : Shape} {e : EltTy} (m : Memref sig κ' sp' s e) (r : Rect s) (f : BufTy.Contents (Elt Ideal) m.view.ty) : r.shape.Idx → Elt Ideal e :=
  m.view.readAt (Elt Ideal) r.toLoadRect f

/-- The same, from a buffer that holds the array `a`. -/
theorem read_rows {N M : ℕ} (m : Memref sig κ' sp' (⟨2, ![N, 128]⟩ : Shape) .bf16) (hm : m.IsWhole) (a : (⟨2, ![N, 128]⟩ : Shape).Idx → Elt Ideal .bf16)
    {off : Fin 2 → ℕ} {inb} {o : ℕ} (h : off = ![o, 0]) (r : Fin M) (c : Fin 128) :
    m.view.readAt (Elt Ideal) (Rect.unit (s := ⟨2, ![N, 128]⟩) off ![M, 128] inb).toLoadRect (hm.unread a) (ix2 r c) = row a (o + r.val) c := by
  rw [View.readAt_eq_ld, hm.read_unread]
  exact (ld_rows (Val := Elt Ideal) (e := .bf16) a h r c (rows_fit inb h r)).trans (row_of_lt a (rows_fit inb h r) c).symm

/-- A load of whole rows of an accumulator reads what it holds there. -/
theorem read_acc {N M : ℕ} (m : Memref sig κ' sp' (⟨2, ![N, 128]⟩ : Shape) .f32) (f : BufTy.Contents (Elt Ideal) m.view.ty)
    {off : Fin 2 → ℕ} {inb} {o : ℕ} (h : off = ![o, 0]) (r : Fin M) (c : Fin 128) (y : Fin N) (hy : y.val = o + r.val) :
    LD m (Rect.unit (s := ⟨2, ![N, 128]⟩) off ![M, 128] inb) f (ix2 r c) = m.view.read (Elt Ideal) f (ix2 y c) := by
  rw [LD, View.readAt_eq_ld]
  refine (ld_rows (Val := Elt Ideal) (e := .f32) _ h r c (rows_fit inb h r)).trans ?_
  exact congrArg (fun y => m.view.read (Elt Ideal) f (ix2 y c)) (Fin.ext hy.symm)

/-- The masked score of row `r` of tile `i` at key `j`, before the scale. -/
def S (x0 : S1024x128.Idx → EReal) (x1 : S8192x128.Idx → EReal) (i r j : ℕ) : EReal := if j ≤ 1024 * i + r then dot (row x0 r) (row x1 j) else ⊥

/-- Lane `d` of value row `j`. -/
def V (x2 : S8192x128.Idx → EReal) (d : Fin 128) (j : ℕ) : EReal := row x2 j d

/-- Every score is a number. -/
def Num (x0 : S1024x128.Idx → EReal) (x1 : S8192x128.Idx → EReal) : Prop := ∀ r j, ∃ z : ℝ, dot (row x0 r) (row x1 j) = z

theorem S_low {x0 : S1024x128.Idx → EReal} {x1 : S8192x128.Idx → EReal} (hn : Num x0 x1) (i r j : ℕ) : Low (S x0 x1 i r j) := by
  unfold S
  split
  · exact .inr (hn r j)
  · exact .inl rfl

theorem S_pos (x0 : S1024x128.Idx → EReal) (x1 : S8192x128.Idx → EReal) {i r j : ℕ} (h : j ≤ 1024 * i + r) :
    S x0 x1 i r j = dot (row x0 r) (row x1 j) := if_pos h

theorem S_ne {x0 : S1024x128.Idx → EReal} {x1 : S8192x128.Idx → EReal} (hn : Num x0 x1) {i r j : ℕ} (h : j ≤ 1024 * i + r) : S x0 x1 i r j ≠ ⊥ := by
  obtain ⟨z, hz⟩ := hn r j
  rw [S_pos x0 x1 h, hz]
  exact EReal.coe_ne_bot z

theorem nxt_congr {n : ℕ} {M M' : EReal} {s s' : Fin n → EReal} (hM : M = M') (hs : ∀ j, s j = s' j) : nxt M s = nxt M' s' := by
  rw [hM, funext hs]

theorem upd_congr (M : EReal) {n : ℕ} {a a' : EReal} {s s' v v' : Fin n → EReal} (ha : a = a') (hs : ∀ j, s j = s' j) (hv : ∀ j, v j = v' j) :
    upd M a s v = upd M a' s' v' := by
  rw [ha, funext hs, funext hv]

/-- The loop runs over every block before the tile's own. -/
theorem trips_eq : ∀ i : grid0.Coords, (k0_t1_loop i).trips = (i 1).val := by decide +kernel

theorem trips2_eq (i : grid0.Coords) : (k0_t2_loop i).trips = 0 := Nat.le_zero.mp (k0_t2_abs i).2.1

section Loads

variable {Mk Mq : ℕ} (m2 : Memref sig κ' sp' S1024x128 .bf16) (h2 : m2.IsWhole) (m3 : Memref sig κ' sp' S8192x128 .bf16) (h3 : m3.IsWhole)
  (x0 : Vec Ideal S1024x128 .bf16) (x1 : Vec Ideal S8192x128 .bf16) {offq offk : Fin 2 → ℕ} {iq ik} {oq ok : ℕ}

theorem dot_of (hq : offq = ![oq, 0]) (hk : offk = ![ok, 0]) (r : Fin Mq) (j : Fin Mk) :
    dot (fun x => LD m2 (Rect.unit (s := S1024x128) offq ![Mq, 128] iq) (h2.unread x0) (ix2 r x))
        (fun x => LD m3 (Rect.unit (s := S8192x128) offk ![Mk, 128] ik) (h3.unread x1) (ix2 j x))
      = dot (row x0 (oq + r.val)) (row x1 (ok + j.val)) :=
  congr (congrArg dot (funext fun x => read_rows m2 h2 x0 hq r x)) (funext fun x => read_rows m3 h3 x1 hk j x)

end Loads

section Loop

variable (c : Dev nD) (i : grid0.Coords)
  (arg2 : Memref sig .tc .vmem S1024x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S1024x128 .bf16) (harg5 : arg5.IsWhole) (arg6 : Memref sig .tc .vmem S1x1x8x1024 .f32) (harg6 : arg6.IsWhole) (arg7 : Memref sig .tc .vmem S1024x128 .f32) (harg7 : arg7.IsWhole) (arg8 : Memref sig .tc .vmem S1024x128 .f32) (harg8 : arg8.IsWhole)
  (x0 : Vec Ideal S1024x128 .bf16) (x1 x2 : Vec Ideal S8192x128 .bf16)

theorem trip_eq (t : Fin (k0_t1_loop i).trips) (f7 : BufTy.Contents (Elt Ideal) arg7.view.ty) (f8 : BufTy.Contents (Elt Ideal) arg8.view.ty) :
    tripL_k0_t1 (F := Ideal) Variants.none c none i arg2 harg2 arg3 harg3 arg4 harg4 arg5 harg5 arg6 harg6 arg7 harg7 arg8 harg8 (harg2.unread x0) (harg3.unread x1) (harg4.unread x2) t f7 f8 =
      ([⟨Rect.unit ![0, 0] S1024x128.size inb_S1024x128_S1024x128_0_0, k0_pay7 (LD arg3 (Rect.unit (k0_off1 i t) S1024x128.size (k0_off1_inb i t)) (harg3.unread x1)) (LD arg2 (Rect.unit ![0, 0] S1024x128.size inb_S1024x128_S1024x128_0_0) (harg2.unread x0)) (LD arg7 (Rect.unit ![0, 0] S1024x128.size inb_S1024x128_S1024x128_0_0) f7)⟩],
       [⟨Rect.unit ![0, 0] S1024x128.size inb_S1024x128_S1024x128_0_0, k0_pay6 (LD arg3 (Rect.unit (k0_off1 i t) S1024x128.size (k0_off1_inb i t)) (harg3.unread x1)) (LD arg4 (Rect.unit (k0_off1 i t) S1024x128.size (k0_off1_inb i t)) (harg4.unread x2)) (LD arg2 (Rect.unit ![0, 0] S1024x128.size inb_S1024x128_S1024x128_0_0) (harg2.unread x0)) (LD arg7 (Rect.unit ![0, 0] S1024x128.size inb_S1024x128_S1024x128_0_0) f7) (LD arg8 (Rect.unit ![0, 0] S1024x128.size inb_S1024x128_S1024x128_0_0) f8)⟩]) := by
  unfold tripL_k0_t1 trip_k0_t1
  rfl

/-- One pass. -/
theorem trip (hn : Num x0 x1) (t : Fin (k0_t1_loop i).trips) (f7 f8) (r : Fin 1024)
    (h : Inv (S x0 x1 (i 1).val r.val) (V x2) (1024 * t.val) (fun d => arg7.view.read (Elt Ideal) f7 (ix2 r d)) (fun d => arg8.view.read (Elt Ideal) f8 (ix2 r d))) :
    Inv (S x0 x1 (i 1).val r.val) (V x2) (1024 * t.val + 1024)
      (fun d => arg7.view.read (Elt Ideal) (arg7.view.writes (Elt Ideal) f7 (tripL_k0_t1 (F := Ideal) Variants.none c none i arg2 harg2 arg3 harg3 arg4 harg4 arg5 harg5 arg6 harg6 arg7 harg7 arg8 harg8 (harg2.unread x0) (harg3.unread x1) (harg4.unread x2) t f7 f8).1) (ix2 r d))
      (fun d => arg8.view.read (Elt Ideal) (arg8.view.writes (Elt Ideal) f8 (tripL_k0_t1 (F := Ideal) Variants.none c none i arg2 harg2 arg3 harg3 arg4 harg4 arg5 harg5 arg6 harg6 arg7 harg7 arg8 harg8 (harg2.unread x0) (harg3.unread x1) (harg4.unread x2) t f7 f8).2) (ix2 r d)) := by
  have ht : t.val < (i 1).val := lt_of_lt_of_eq t.isLt (trips_eq i)
  have hs (j : Fin 1024) : dot (fun x => (LD arg2 (Rect.unit ![0, 0] S1024x128.size inb_S1024x128_S1024x128_0_0) (harg2.unread x0)) (ix2 r x)) (fun x => (LD arg3 (Rect.unit (k0_off1 i t) S1024x128.size (k0_off1_inb i t)) (harg3.unread x1)) (ix2 j x))
      = S x0 x1 (i 1).val r.val (1024 * t.val + j.val) := by
    refine (dot_of arg2 harg2 arg3 harg3 x0 x1 rfl (k0_off1_eq i t) r j).trans ?_
    rw [Nat.zero_add, S_pos x0 x1 (by omega)]
  rw [trip_eq]
  refine inv_step (S_low hn _ _) (by norm_num) (S_ne hn (by omega)) h (fun d => ?_) (fun M hM d => ?_)
  · refine (View.read_writes_cons_rows_of_mem (Val := Elt Ideal) arg7.view f7 _ _ [] (ix2 r d) (ix2 r d) rfl (Nat.zero_add _).symm rfl).trans ?_
    refine (pay7 _ _ _ r d).trans ?_
    exact nxt_congr (read_acc arg7 f7 rfl r d r (Nat.zero_add _).symm) hs
  · refine (View.read_writes_cons_rows_of_mem (Val := Elt Ideal) arg8.view f8 _ _ [] (ix2 r d) (ix2 r d) rfl (Nat.zero_add _).symm rfl).trans ?_
    refine (pay6 _ _ _ _ _ r d (M := M) (fun d => (read_acc arg7 f7 rfl r d r (Nat.zero_add _).symm).trans (hM d))).trans ?_
    exact upd_congr M (read_acc arg8 f8 rfl r d r (Nat.zero_add _).symm) hs fun j => read_rows arg4 harg4 x2 (k0_off1_eq i t) j d

/-- The first `n` passes. -/
theorem loop_read (hn : Num x0 x1) (f7 f8) (r : Fin 1024)
    (h : Inv (S x0 x1 (i 1).val r.val) (V x2) 0 (fun d => arg7.view.read (Elt Ideal) f7 (ix2 r d)) (fun d => arg8.view.read (Elt Ideal) f8 (ix2 r d)))
    (n : ℕ) (hle : n ≤ (k0_t1_loop i).trips) :
    Inv (S x0 x1 (i 1).val r.val) (V x2) (1024 * n)
      (fun d => arg7.view.read (Elt Ideal) (arg7.view.writes (Elt Ideal) f7 (pb_k0_t1 (F := Ideal) Variants.none c none i arg2 harg2 arg3 harg3 arg4 harg4 arg5 harg5 arg6 harg6 arg7 harg7 arg8 harg8 (harg2.unread x0) (harg3.unread x1) (harg4.unread x2) f7 f8 n).1) (ix2 r d))
      (fun d => arg8.view.read (Elt Ideal) (arg8.view.writes (Elt Ideal) f8 (pb_k0_t1 (F := Ideal) Variants.none c none i arg2 harg2 arg3 harg3 arg4 harg4 arg5 harg5 arg6 harg6 arg7 harg7 arg8 harg8 (harg2.unread x0) (harg3.unread x1) (harg4.unread x2) f7 f8 n).2) (ix2 r d)) := by
  induction n with
  | zero => exact h
  | succ n ih =>
    have e := pb_k0_t1_succ (F := Ideal) Variants.none c none i arg2 harg2 arg3 harg3 arg4 harg4 arg5 harg5 arg6 harg6 arg7 harg7 arg8 harg8 (harg2.unread x0) (harg3.unread x1) (harg4.unread x2) f7 f8 ⟨n, by omega⟩
    rw [e, View.writes_append, View.writes_append, Nat.mul_succ]
    exact trip c i arg2 harg2 arg3 harg3 arg4 harg4 arg5 harg5 arg6 harg6 arg7 harg7 arg8 harg8 x0 x1 x2 hn ⟨n, by omega⟩ _ _ r (ih (by omega))

end Loop

end Cert.Attn
-- ==== Proof.AttnDiag.lean ====
/- The attention's forward blocks at the diagonal: each takes its own half of the tile's rows one half-block of keys further and leaves the other half as it
   was. -/
module

public import proofs.«01_k».proof.Proof.AttnTrip
public import proofs.«01_k».proof.Proof.Gen.KernelAttnIdeal.Frame

@[expose] public section

set_option maxRecDepth 16384

noncomputable section

namespace Cert.Attn

open Idealize.ShloMosaic Idealize.ShloMosaic.Pointwise Idealize.ShloMosaic.TcCoe Idealize.ShloMosaic.Tactic
open Cert.KernelAttnIdeal Cert.KernelAttnIdeal.Gen
open Cert.Proof (row row_of_lt row_ix ld_rows rows_fit scl)
open Cert.Online

section Pieces

variable (c : Dev nD) (i : grid0.Coords)
  (arg2 : Memref sig .tc .vmem S1024x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S1024x128 .bf16) (harg5 : arg5.IsWhole) (arg6 : Memref sig .tc .vmem S1x1x8x1024 .f32) (harg6 : arg6.IsWhole) (arg7 : Memref sig .tc .vmem S1024x128 .f32) (harg7 : arg7.IsWhole) (arg8 : Memref sig .tc .vmem S1024x128 .f32) (harg8 : arg8.IsWhole)
  (x0 : Vec Ideal S1024x128 .bf16) (x1 x2 : Vec Ideal S8192x128 .bf16)

theorem off3_0 : k0_off3 i 0#32 = ![1024 * (i 1).val, 0] := k0_off3_eq i ⟨0, by decide⟩

theorem off3_512 : k0_off3 i 512#32 = ![1024 * (i 1).val + 512, 0] := k0_off3_eq i ⟨1, by decide⟩

/-- A store into the first 512 rows leaves the others. -/
theorem skip_low {κ' : Kind} {sp' : Space} (m : Memref sig κ' sp' S1024x128 .f32) (f : BufTy.Contents (Elt Ideal) m.view.ty) (L : List (View.Piece (Elt Ideal) S1024x128 .f32)) (g) (r : Fin 1024) (h : 512 ≤ r.val) (d : Fin 128) :
    m.view.read (Elt Ideal) (m.view.writes (Elt Ideal) f (⟨Rect.unit ![0, 0] S512x128.size inb_S1024x128_S512x128_0_0, g⟩ :: L)) (ix2 r d) = m.view.read (Elt Ideal) (m.view.writes (Elt Ideal) f L) (ix2 r d) := by
  refine View.read_writes_cons_rows_of_not_mem (Val := Elt Ideal) m.view f _ _ L (ix2 r d) rfl rfl ?_
  show r.val < _ ∨ _ ≤ r.val
  have := r.isLt
  simp only [S512x128, Matrix.cons_val_zero]
  omega

/-- A store into the last 512 rows leaves the others. -/
theorem skip_high {κ' : Kind} {sp' : Space} (m : Memref sig κ' sp' S1024x128 .f32) (f : BufTy.Contents (Elt Ideal) m.view.ty) (L : List (View.Piece (Elt Ideal) S1024x128 .f32)) (g) (r : Fin 1024) (h : r.val < 512) (d : Fin 128) :
    m.view.read (Elt Ideal) (m.view.writes (Elt Ideal) f (⟨Rect.unit ![512, 0] S512x128.size inb_S1024x128_S512x128_512_0, g⟩ :: L)) (ix2 r d) = m.view.read (Elt Ideal) (m.view.writes (Elt Ideal) f L) (ix2 r d) := by
  refine View.read_writes_cons_rows_of_not_mem (Val := Elt Ideal) m.view f _ _ L (ix2 r d) rfl rfl ?_
  show r.val < _ ∨ _ ≤ r.val
  have := r.isLt
  simp only [S512x128, Matrix.cons_val_zero]
  omega

/-- The first half of the rows against the first half of the keys, masked. -/
theorem first (hn : Num x0 x1) (f7 : BufTy.Contents (Elt Ideal) arg7.view.ty) (f8 : BufTy.Contents (Elt Ideal) arg8.view.ty) (L7 L8 : List (View.Piece (Elt Ideal) S1024x128 .f32)) {ik} (r : Fin 1024) (h : r.val < 512)
    (hi : Inv (S x0 x1 (i 1).val r.val) (V x2) (1024 * (i 1).val) (fun d => arg7.view.read (Elt Ideal) (arg7.view.writes (Elt Ideal) f7 L7) (ix2 r d)) (fun d => arg8.view.read (Elt Ideal) (arg8.view.writes (Elt Ideal) f8 L8) (ix2 r d))) :
    Inv (S x0 x1 (i 1).val r.val) (V x2) (1024 * (i 1).val + 512)
      (fun d => arg7.view.read (Elt Ideal) (arg7.view.writes (Elt Ideal) f7 (⟨(Rect.unit ![0, 0] S512x128.size inb_S1024x128_S512x128_0_0), k0_pay16 (F := Ideal) (k0_pay13 (F := Ideal) (LD arg3 (Rect.unit (k0_off3 i 0#32) S512x128.size ik) (harg3.unread x1)) (LD arg2 (Rect.unit ![0, 0] S512x128.size inb_S1024x128_S512x128_0_0) (harg2.unread x0))) (LD arg7 (Rect.unit ![0, 0] S512x128.size inb_S1024x128_S512x128_0_0) (arg7.view.writes (Elt Ideal) f7 L7))⟩ :: L7)) (ix2 r d))
      (fun d => arg8.view.read (Elt Ideal) (arg8.view.writes (Elt Ideal) f8 (⟨(Rect.unit ![0, 0] S512x128.size inb_S1024x128_S512x128_0_0), k0_pay15 (F := Ideal) (k0_pay12 (F := Ideal) (LD arg4 (Rect.unit (k0_off3 i 0#32) S512x128.size ik) (harg4.unread x2))) (k0_pay13 (F := Ideal) (LD arg3 (Rect.unit (k0_off3 i 0#32) S512x128.size ik) (harg3.unread x1)) (LD arg2 (Rect.unit ![0, 0] S512x128.size inb_S1024x128_S512x128_0_0) (harg2.unread x0))) (LD arg7 (Rect.unit ![0, 0] S512x128.size inb_S1024x128_S512x128_0_0) (arg7.view.writes (Elt Ideal) f7 L7)) (LD arg8 (Rect.unit ![0, 0] S512x128.size inb_S1024x128_S512x128_0_0) (arg8.view.writes (Elt Ideal) f8 L8))⟩ :: L8)) (ix2 r d)) := by
  have hs (r' : Fin 512) (hr : r.val = 0 + r'.val) (j : Fin 512) : k0_pay13 (F := Ideal) (LD arg3 (Rect.unit (k0_off3 i 0#32) S512x128.size ik) (harg3.unread x1)) (LD arg2 (Rect.unit ![0, 0] S512x128.size inb_S1024x128_S512x128_0_0) (harg2.unread x0)) (ix2 r' j) = S x0 x1 (i 1).val r.val (1024 * (i 1).val + j.val) := by
    refine (pay13 _ _ r' j).trans ?_
    rw [dot_of arg2 harg2 arg3 harg3 x0 x1 rfl (off3_0 i) r' j, ← hr]
    exact if_congr (by omega) rfl rfl
  obtain ⟨r', hr⟩ : ∃ r' : Fin 512, r.val = 0 + r'.val := ⟨⟨r.val, h⟩, (Nat.zero_add _).symm⟩
  refine inv_step (S_low hn _ _) (by norm_num) (S_ne hn (by omega)) hi (fun d => ?_) (fun M hM d => ?_)
  · refine (View.read_writes_cons_rows_of_mem (Val := Elt Ideal) arg7.view f7 _ _ L7 (ix2 r d) (ix2 r' d) rfl hr rfl).trans ?_
    refine (pay16 _ _ r' d).trans ?_
    exact nxt_congr (read_acc arg7 _ rfl r' d r hr) (hs r' hr)
  · refine (View.read_writes_cons_rows_of_mem (Val := Elt Ideal) arg8.view f8 _ _ L8 (ix2 r d) (ix2 r' d) rfl hr rfl).trans ?_
    refine (pay15 _ _ _ _ r' d (M := M) (fun d => (read_acc arg7 _ rfl r' d r hr).trans (hM d))).trans ?_
    exact upd_congr M (read_acc arg8 _ rfl r' d r hr) (hs r' hr) fun j => read_rows arg4 harg4 x2 (off3_0 i) j d

/-- The last half of the rows against the first half of the keys, unmasked. -/
theorem second (hn : Num x0 x1) (f7 : BufTy.Contents (Elt Ideal) arg7.view.ty) (f8 : BufTy.Contents (Elt Ideal) arg8.view.ty) (L7 L8 : List (View.Piece (Elt Ideal) S1024x128 .f32)) {ik} (r : Fin 1024) (h : 512 ≤ r.val)
    (hi : Inv (S x0 x1 (i 1).val r.val) (V x2) (1024 * (i 1).val) (fun d => arg7.view.read (Elt Ideal) (arg7.view.writes (Elt Ideal) f7 L7) (ix2 r d)) (fun d => arg8.view.read (Elt Ideal) (arg8.view.writes (Elt Ideal) f8 L8) (ix2 r d))) :
    Inv (S x0 x1 (i 1).val r.val) (V x2) (1024 * (i 1).val + 512)
      (fun d => arg7.view.read (Elt Ideal) (arg7.view.writes (Elt Ideal) f7 (⟨(Rect.unit ![512, 0] S512x128.size inb_S1024x128_S512x128_512_0), k0_pay22 (F := Ideal) (LD arg7 (Rect.unit ![512, 0] S512x128.size inb_S1024x128_S512x128_512_0) (arg7.view.writes (Elt Ideal) f7 L7)) (k0_pay19 (F := Ideal) (LD arg3 (Rect.unit (k0_off3 i 0#32) S512x128.size ik) (harg3.unread x1)) (LD arg2 (Rect.unit ![512, 0] S512x128.size inb_S1024x128_S512x128_512_0) (harg2.unread x0)))⟩ :: L7)) (ix2 r d))
      (fun d => arg8.view.read (Elt Ideal) (arg8.view.writes (Elt Ideal) f8 (⟨(Rect.unit ![512, 0] S512x128.size inb_S1024x128_S512x128_512_0), k0_pay21 (F := Ideal) (k0_pay17 (F := Ideal) (LD arg4 (Rect.unit (k0_off3 i 0#32) S512x128.size ik) (harg4.unread x2))) (k0_pay18 (F := Ideal) (LD arg3 (Rect.unit (k0_off3 i 0#32) S512x128.size ik) (harg3.unread x1)) (LD arg2 (Rect.unit ![512, 0] S512x128.size inb_S1024x128_S512x128_512_0) (harg2.unread x0))) (LD arg7 (Rect.unit ![512, 0] S512x128.size inb_S1024x128_S512x128_512_0) (arg7.view.writes (Elt Ideal) f7 L7)) (k0_pay19 (F := Ideal) (LD arg3 (Rect.unit (k0_off3 i 0#32) S512x128.size ik) (harg3.unread x1)) (LD arg2 (Rect.unit ![512, 0] S512x128.size inb_S1024x128_S512x128_512_0) (harg2.unread x0))) (LD arg8 (Rect.unit ![512, 0] S512x128.size inb_S1024x128_S512x128_512_0) (arg8.view.writes (Elt Ideal) f8 L8))⟩ :: L8)) (ix2 r d)) := by
  have hs (r' : Fin 512) (hr : r.val = 512 + r'.val) (j : Fin 512) : dot (fun x => (LD arg2 (Rect.unit ![512, 0] S512x128.size inb_S1024x128_S512x128_512_0) (harg2.unread x0)) (ix2 r' x)) (fun x => (LD arg3 (Rect.unit (k0_off3 i 0#32) S512x128.size ik) (harg3.unread x1)) (ix2 j x)) = S x0 x1 (i 1).val r.val (1024 * (i 1).val + j.val) := by
    rw [dot_of arg2 harg2 arg3 harg3 x0 x1 rfl (off3_0 i) r' j, ← hr]
    exact (S_pos x0 x1 (by omega)).symm
  obtain ⟨r', hr⟩ : ∃ r' : Fin 512, r.val = 512 + r'.val := ⟨⟨r.val - 512, by omega⟩, (by simp only []; omega)⟩
  refine inv_step (S_low hn _ _) (by norm_num) (S_ne hn (by omega)) hi (fun d => ?_) (fun M hM d => ?_)
  · refine (View.read_writes_cons_rows_of_mem (Val := Elt Ideal) arg7.view f7 _ _ L7 (ix2 r d) (ix2 r' d) rfl hr rfl).trans ?_
    refine (pay22 _ _ _ r' d).trans ?_
    exact nxt_congr (read_acc arg7 _ rfl r' d r hr) (hs r' hr)
  · refine (View.read_writes_cons_rows_of_mem (Val := Elt Ideal) arg8.view f8 _ _ L8 (ix2 r d) (ix2 r' d) rfl hr rfl).trans ?_
    refine (pay21 _ _ _ _ _ r' d (M := M) (fun d => (read_acc arg7 _ rfl r' d r hr).trans (hM d))).trans ?_
    exact upd_congr M (read_acc arg8 _ rfl r' d r hr) (hs r' hr) fun j => read_rows arg4 harg4 x2 (off3_0 i) j d

/-- The last half of the rows against the last half of the keys, masked. -/
theorem third (hn : Num x0 x1) (f7 : BufTy.Contents (Elt Ideal) arg7.view.ty) (f8 : BufTy.Contents (Elt Ideal) arg8.view.ty) (L7 L8 : List (View.Piece (Elt Ideal) S1024x128 .f32)) {ik} (r : Fin 1024) (h : 512 ≤ r.val)
    (hi : Inv (S x0 x1 (i 1).val r.val) (V x2) (1024 * (i 1).val + 512) (fun d => arg7.view.read (Elt Ideal) (arg7.view.writes (Elt Ideal) f7 L7) (ix2 r d)) (fun d => arg8.view.read (Elt Ideal) (arg8.view.writes (Elt Ideal) f8 L8) (ix2 r d))) :
    Inv (S x0 x1 (i 1).val r.val) (V x2) (1024 * (i 1).val + 512 + 512)
      (fun d => arg7.view.read (Elt Ideal) (arg7.view.writes (Elt Ideal) f7 (⟨(Rect.unit ![512, 0] S512x128.size inb_S1024x128_S512x128_512_0), k0_pay27 (F := Ideal) (k0_pay24 (F := Ideal) (LD arg3 (Rect.unit (k0_off3 i 512#32) S512x128.size ik) (harg3.unread x1)) (LD arg2 (Rect.unit ![512, 0] S512x128.size inb_S1024x128_S512x128_512_0) (harg2.unread x0))) (LD arg7 (Rect.unit ![512, 0] S512x128.size inb_S1024x128_S512x128_512_0) (arg7.view.writes (Elt Ideal) f7 L7))⟩ :: L7)) (ix2 r d))
      (fun d => arg8.view.read (Elt Ideal) (arg8.view.writes (Elt Ideal) f8 (⟨(Rect.unit ![512, 0] S512x128.size inb_S1024x128_S512x128_512_0), k0_pay26 (F := Ideal) (k0_pay23 (F := Ideal) (LD arg4 (Rect.unit (k0_off3 i 512#32) S512x128.size ik) (harg4.unread x2))) (k0_pay24 (F := Ideal) (LD arg3 (Rect.unit (k0_off3 i 512#32) S512x128.size ik) (harg3.unread x1)) (LD arg2 (Rect.unit ![512, 0] S512x128.size inb_S1024x128_S512x128_512_0) (harg2.unread x0))) (LD arg7 (Rect.unit ![512, 0] S512x128.size inb_S1024x128_S512x128_512_0) (arg7.view.writes (Elt Ideal) f7 L7)) (LD arg8 (Rect.unit ![512, 0] S512x128.size inb_S1024x128_S512x128_512_0) (arg8.view.writes (Elt Ideal) f8 L8))⟩ :: L8)) (ix2 r d)) := by
  have hs (r' : Fin 512) (hr : r.val = 512 + r'.val) (j : Fin 512) : k0_pay24 (F := Ideal) (LD arg3 (Rect.unit (k0_off3 i 512#32) S512x128.size ik) (harg3.unread x1)) (LD arg2 (Rect.unit ![512, 0] S512x128.size inb_S1024x128_S512x128_512_0) (harg2.unread x0)) (ix2 r' j) = S x0 x1 (i 1).val r.val (1024 * (i 1).val + 512 + j.val) := by
    refine (pay24 _ _ r' j).trans ?_
    rw [dot_of arg2 harg2 arg3 harg3 x0 x1 rfl (off3_512 i) r' j, ← hr]
    exact if_congr (by omega) rfl rfl
  obtain ⟨r', hr⟩ : ∃ r' : Fin 512, r.val = 512 + r'.val := ⟨⟨r.val - 512, by omega⟩, (by simp only []; omega)⟩
  refine inv_step (S_low hn _ _) (by norm_num) (S_ne hn (by omega)) hi (fun d => ?_) (fun M hM d => ?_)
  · refine (View.read_writes_cons_rows_of_mem (Val := Elt Ideal) arg7.view f7 _ _ L7 (ix2 r d) (ix2 r' d) rfl hr rfl).trans ?_
    refine (pay27 _ _ r' d).trans ?_
    exact nxt_congr (read_acc arg7 _ rfl r' d r hr) (hs r' hr)
  · refine (View.read_writes_cons_rows_of_mem (Val := Elt Ideal) arg8.view f8 _ _ L8 (ix2 r d) (ix2 r' d) rfl hr rfl).trans ?_
    refine (pay26 _ _ _ _ r' d (M := M) (fun d => (read_acc arg7 _ rfl r' d r hr).trans (hM d))).trans ?_
    exact upd_congr M (read_acc arg8 _ rfl r' d r hr) (hs r' hr) fun j => read_rows arg4 harg4 x2 (off3_512 i) j d

end Pieces

end Cert.Attn
-- ==== Proof.AttnPoint.lean ====
/- What one grid point of the attention's forward leaves: each row's weighted sum over every key, divided by the weights' sum, and the row's log-sum. -/
module

public import proofs.«01_k».proof.Proof.AttnDiag

@[expose] public section

set_option maxRecDepth 16384

noncomputable section

namespace Cert.Attn

open Idealize.ShloMosaic Idealize.ShloMosaic.Pointwise Idealize.ShloMosaic.TcCoe Idealize.ShloMosaic.Tactic
open Cert.KernelAttnIdeal Cert.KernelAttnIdeal.Gen
open Cert.Proof (row row_of_lt row_ix ld_rows rows_fit scl)
open Cert.Online

section Point

variable (c : Dev nD) (i : grid0.Coords)
  (arg2 : Memref sig .tc .vmem S1024x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S1024x128 .bf16) (harg5 : arg5.IsWhole) (arg6 : Memref sig .tc .vmem S1x1x8x1024 .f32) (harg6 : arg6.IsWhole) (arg7 : Memref sig .tc .vmem S1024x128 .f32) (harg7 : arg7.IsWhole) (arg8 : Memref sig .tc .vmem S1024x128 .f32) (harg8 : arg8.IsWhole)
  (x0 : Vec Ideal S1024x128 .bf16) (x1 x2 : Vec Ideal S8192x128 .bf16)

theorem loop2_nil (h7 : BufTy.Contents (Elt Ideal) arg7.view.ty) (h8 : BufTy.Contents (Elt Ideal) arg8.view.ty) (n : ℕ) (hn : n = 0) : (pb_k0_t2 (F := Ideal) Variants.none c none i arg2 harg2 arg3 harg3 arg4 harg4 arg5 harg5 arg6 harg6 arg7 harg7 arg8 harg8 (harg2.unread x0) (harg3.unread x1) (harg4.unread x2) h7 h8 n) = ([], []) := by
  subst hn; rfl

/-- The row's state after both loops; the second never runs. -/
theorem loops (hn : Num x0 x1) (r : Fin 1024) {f7 g7 h7 : BufTy.Contents (Elt Ideal) arg7.view.ty} {f8 g8 h8 : BufTy.Contents (Elt Ideal) arg8.view.ty} {M7 M8 : List (View.Piece (Elt Ideal) S1024x128 .f32)}
    (e7 : arg7.view.writes (Elt Ideal) f7 M7 = arg7.view.writes (Elt Ideal) g7 (pb_k0_t1 (F := Ideal) Variants.none c none i arg2 harg2 arg3 harg3 arg4 harg4 arg5 harg5 arg6 harg6 arg7 harg7 arg8 harg8 (harg2.unread x0) (harg3.unread x1) (harg4.unread x2) g7 g8 (k0_t1_loop i).trips).1)
    (e8 : arg8.view.writes (Elt Ideal) f8 M8 = arg8.view.writes (Elt Ideal) g8 (pb_k0_t1 (F := Ideal) Variants.none c none i arg2 harg2 arg3 harg3 arg4 harg4 arg5 harg5 arg6 harg6 arg7 harg7 arg8 harg8 (harg2.unread x0) (harg3.unread x1) (harg4.unread x2) g7 g8 (k0_t1_loop i).trips).2)
    (h : Inv (S x0 x1 (i 1).val r.val) (V x2) 0 (fun d => arg7.view.read (Elt Ideal) g7 (ix2 r d)) (fun d => arg8.view.read (Elt Ideal) g8 (ix2 r d))) :
    Inv (S x0 x1 (i 1).val r.val) (V x2) (1024 * (i 1).val) (fun d => arg7.view.read (Elt Ideal) (arg7.view.writes (Elt Ideal) f7 ((pb_k0_t2 (F := Ideal) Variants.none c none i arg2 harg2 arg3 harg3 arg4 harg4 arg5 harg5 arg6 harg6 arg7 harg7 arg8 harg8 (harg2.unread x0) (harg3.unread x1) (harg4.unread x2) h7 h8 (k0_t2_loop i).trips).1 ++ M7)) (ix2 r d)) (fun d => arg8.view.read (Elt Ideal) (arg8.view.writes (Elt Ideal) f8 ((pb_k0_t2 (F := Ideal) Variants.none c none i arg2 harg2 arg3 harg3 arg4 harg4 arg5 harg5 arg6 harg6 arg7 harg7 arg8 harg8 (harg2.unread x0) (harg3.unread x1) (harg4.unread x2) h7 h8 (k0_t2_loop i).trips).2 ++ M8)) (ix2 r d)) := by
  rw [loop2_nil c i arg2 harg2 arg3 harg3 arg4 harg4 arg5 harg5 arg6 harg6 arg7 harg7 arg8 harg8 x0 x1 x2 h7 h8 _ (trips2_eq i), List.nil_append, List.nil_append, e7, e8]
  have a := loop_read c i arg2 harg2 arg3 harg3 arg4 harg4 arg5 harg5 arg6 harg6 arg7 harg7 arg8 harg8 x0 x1 x2 hn g7 g8 r h _ (le_refl (k0_t1_loop i).trips)
  have e : 1024 * (k0_t1_loop i).trips = 1024 * (i 1).val := by rw [trips_eq]
  rw [e] at a
  exact a

theorem start7 (r : Fin 1024) (d : Fin 128) {inb} : arg7.view.read (Elt Ideal) (arg7.view.writes (Elt Ideal) arg7.view.junk [⟨Rect.unit ![0, 0] S1024x128.size inb, k0_pay2 (F := Ideal)⟩]) (ix2 r d) = ⊥ :=
  (View.read_writes_cons_rows_of_mem (Val := Elt Ideal) arg7.view _ _ _ [] (ix2 r d) (ix2 r d) rfl (Nat.zero_add _).symm rfl).trans (pay2 r d)

theorem start8 (r : Fin 1024) (d : Fin 128) {inb} : arg8.view.read (Elt Ideal) (arg8.view.writes (Elt Ideal) arg8.view.junk [⟨Rect.unit ![0, 0] S1024x128.size inb, k0_pay3 (F := Ideal)⟩]) (ix2 r d) = 0 :=
  (View.read_writes_cons_rows_of_mem (Val := Elt Ideal) arg8.view _ _ _ [] (ix2 r d) (ix2 r d) rfl (Nat.zero_add _).symm rfl).trans (pay3 r d)

/-- A state that has seen every unmasked key has seen every key. -/
theorem all_keys {s : ℕ → EReal} {v : Fin 128 → ℕ → EReal} {n : ℕ} {m a : Fin 128 → EReal} (hn0 : n ≠ 0) (hnl : n ≤ 8192) (hs : ∀ j, n ≤ j → j < 8192 → s j = ⊥)
    (h : Inv s v n m a) : ∃ M : ℝ, (∀ d, m d = (M : EReal)) ∧ ∀ d, a d = acc s (v d) 8192 M := by
  obtain ⟨M, hM, h1, h2⟩ := h
  obtain ⟨R, rfl⟩ : ∃ R : ℝ, M = R := hM.resolve_left fun h => hn0 h.2
  exact ⟨R, h1, fun d => (h2 d).trans (acc_tail s (v d) hnl hs R).symm⟩

/-- The row's state after the diagonal's blocks. -/
theorem final (hn : Num x0 x1) (r : Fin 1024) {f7 : BufTy.Contents (Elt Ideal) arg7.view.ty} {f8 : BufTy.Contents (Elt Ideal) arg8.view.ty} {L7 A7 B7 C7 L8 A8 B8 C8 : List (View.Piece (Elt Ideal) S1024x128 .f32)} {ik0 ik512}
    (eC8 : C8 = ⟨(Rect.unit ![512, 0] S512x128.size inb_S1024x128_S512x128_512_0), k0_pay26 (F := Ideal) (k0_pay23 (F := Ideal) (LD arg4 (Rect.unit (k0_off3 i 512#32) S512x128.size ik512) (harg4.unread x2))) (k0_pay24 (F := Ideal) (LD arg3 (Rect.unit (k0_off3 i 512#32) S512x128.size ik512) (harg3.unread x1)) (LD arg2 (Rect.unit ![512, 0] S512x128.size inb_S1024x128_S512x128_512_0) (harg2.unread x0))) (LD arg7 (Rect.unit ![512, 0] S512x128.size inb_S1024x128_S512x128_512_0) (arg7.view.writes (Elt Ideal) f7 B7)) (LD arg8 (Rect.unit ![512, 0] S512x128.size inb_S1024x128_S512x128_512_0) (arg8.view.writes (Elt Ideal) f8 B8))⟩ :: B8) (eC7 : C7 = ⟨(Rect.unit ![512, 0] S512x128.size inb_S1024x128_S512x128_512_0), k0_pay27 (F := Ideal) (k0_pay24 (F := Ideal) (LD arg3 (Rect.unit (k0_off3 i 512#32) S512x128.size ik512) (harg3.unread x1)) (LD arg2 (Rect.unit ![512, 0] S512x128.size inb_S1024x128_S512x128_512_0) (harg2.unread x0))) (LD arg7 (Rect.unit ![512, 0] S512x128.size inb_S1024x128_S512x128_512_0) (arg7.view.writes (Elt Ideal) f7 B7))⟩ :: B7)
    (eB8 : B8 = ⟨(Rect.unit ![512, 0] S512x128.size inb_S1024x128_S512x128_512_0), k0_pay21 (F := Ideal) (k0_pay17 (F := Ideal) (LD arg4 (Rect.unit (k0_off3 i 0#32) S512x128.size ik0) (harg4.unread x2))) (k0_pay18 (F := Ideal) (LD arg3 (Rect.unit (k0_off3 i 0#32) S512x128.size ik0) (harg3.unread x1)) (LD arg2 (Rect.unit ![512, 0] S512x128.size inb_S1024x128_S512x128_512_0) (harg2.unread x0))) (LD arg7 (Rect.unit ![512, 0] S512x128.size inb_S1024x128_S512x128_512_0) (arg7.view.writes (Elt Ideal) f7 A7)) (k0_pay19 (F := Ideal) (LD arg3 (Rect.unit (k0_off3 i 0#32) S512x128.size ik0) (harg3.unread x1)) (LD arg2 (Rect.unit ![512, 0] S512x128.size inb_S1024x128_S512x128_512_0) (harg2.unread x0))) (LD arg8 (Rect.unit ![512, 0] S512x128.size inb_S1024x128_S512x128_512_0) (arg8.view.writes (Elt Ideal) f8 A8))⟩ :: A8) (eB7 : B7 = ⟨(Rect.unit ![512, 0] S512x128.size inb_S1024x128_S512x128_512_0), k0_pay22 (F := Ideal) (LD arg7 (Rect.unit ![512, 0] S512x128.size inb_S1024x128_S512x128_512_0) (arg7.view.writes (Elt Ideal) f7 A7)) (k0_pay19 (F := Ideal) (LD arg3 (Rect.unit (k0_off3 i 0#32) S512x128.size ik0) (harg3.unread x1)) (LD arg2 (Rect.unit ![512, 0] S512x128.size inb_S1024x128_S512x128_512_0) (harg2.unread x0)))⟩ :: A7)
    (eA8 : A8 = ⟨(Rect.unit ![0, 0] S512x128.size inb_S1024x128_S512x128_0_0), k0_pay15 (F := Ideal) (k0_pay12 (F := Ideal) (LD arg4 (Rect.unit (k0_off3 i 0#32) S512x128.size ik0) (harg4.unread x2))) (k0_pay13 (F := Ideal) (LD arg3 (Rect.unit (k0_off3 i 0#32) S512x128.size ik0) (harg3.unread x1)) (LD arg2 (Rect.unit ![0, 0] S512x128.size inb_S1024x128_S512x128_0_0) (harg2.unread x0))) (LD arg7 (Rect.unit ![0, 0] S512x128.size inb_S1024x128_S512x128_0_0) (arg7.view.writes (Elt Ideal) f7 L7)) (LD arg8 (Rect.unit ![0, 0] S512x128.size inb_S1024x128_S512x128_0_0) (arg8.view.writes (Elt Ideal) f8 L8))⟩ :: L8) (eA7 : A7 = ⟨(Rect.unit ![0, 0] S512x128.size inb_S1024x128_S512x128_0_0), k0_pay16 (F := Ideal) (k0_pay13 (F := Ideal) (LD arg3 (Rect.unit (k0_off3 i 0#32) S512x128.size ik0) (harg3.unread x1)) (LD arg2 (Rect.unit ![0, 0] S512x128.size inb_S1024x128_S512x128_0_0) (harg2.unread x0))) (LD arg7 (Rect.unit ![0, 0] S512x128.size inb_S1024x128_S512x128_0_0) (arg7.view.writes (Elt Ideal) f7 L7))⟩ :: L7)
    (h : Inv (S x0 x1 (i 1).val r.val) (V x2) (1024 * (i 1).val) (fun d => arg7.view.read (Elt Ideal) (arg7.view.writes (Elt Ideal) f7 (L7)) (ix2 r d)) (fun d => arg8.view.read (Elt Ideal) (arg8.view.writes (Elt Ideal) f8 (L8)) (ix2 r d))) :
    ∃ M : ℝ, (∀ d, arg7.view.read (Elt Ideal) (arg7.view.writes (Elt Ideal) f7 (C7)) (ix2 r d) = (M : EReal)) ∧ ∀ d, arg8.view.read (Elt Ideal) (arg8.view.writes (Elt Ideal) f8 (C8)) (ix2 r d) = acc (S x0 x1 (i 1).val r.val) (V x2 d) 8192 M := by
  have hi : (i 1).val < 8 := (i 1).isLt
  have hr := r.isLt
  by_cases h0 : r.val < 512
  · have a := first i arg2 harg2 arg3 harg3 arg4 harg4 arg7 arg8 x0 x1 x2 hn f7 f8 L7 L8 (ik := ik0) r h0 h
    rw [← eA7, ← eA8] at a
    refine all_keys (n := 1024 * (i 1).val + 512) (by omega) (by omega) (fun j h1 _ => if_neg (by omega)) (inv_congr a (fun d => ?_) (fun d => ?_))
    · rw [eC7, skip_high arg7 f7 B7 _ r h0 d, eB7, skip_high arg7 f7 A7 _ r h0 d]
    · rw [eC8, skip_high arg8 f8 B8 _ r h0 d, eB8, skip_high arg8 f8 A8 _ r h0 d]
  · have h1 : 512 ≤ r.val := by omega
    have a : Inv (S x0 x1 (i 1).val r.val) (V x2) (1024 * (i 1).val) (fun d => arg7.view.read (Elt Ideal) (arg7.view.writes (Elt Ideal) f7 (A7)) (ix2 r d)) (fun d => arg8.view.read (Elt Ideal) (arg8.view.writes (Elt Ideal) f8 (A8)) (ix2 r d)) :=
      inv_congr h (fun d => by rw [eA7, skip_low arg7 f7 L7 _ r h1 d]) (fun d => by rw [eA8, skip_low arg8 f8 L8 _ r h1 d])
    have b := second i arg2 harg2 arg3 harg3 arg4 harg4 arg7 arg8 x0 x1 x2 hn f7 f8 A7 A8 (ik := ik0) r h1 a
    rw [← eB7, ← eB8] at b
    have e := third i arg2 harg2 arg3 harg3 arg4 harg4 arg7 arg8 x0 x1 x2 hn f7 f8 B7 B8 (ik := ik512) r h1 b
    rw [← eC7, ← eC8] at e
    exact all_keys (n := 1024 * (i 1).val + 512 + 512) (by omega) (by omega) (fun j h1 _ => if_neg (by omega)) e

/-- A load of one column reads it. -/
theorem read_col {κ' : Kind} {sp' : Space} (m : Memref sig κ' sp' S1024x128 .f32) (f : BufTy.Contents (Elt Ideal) m.view.ty) {inb} (r : Fin 1024) :
    LD m (Rect.unit (s := S1024x128) ![0, 64] S1024x1.size inb) f (ix2 r 0) = m.view.read (Elt Ideal) f (ix2 r 64) := by
  rw [LD, View.readAt_eq_ld]
  refine congrArg (m.view.read (Elt Ideal) f) (funext fun a => Fin.ext ?_)
  fin_cases a
  · show 0 + 1 * r.val = r.val
    omega
  · rfl

/-- The row's state as the point leaves it. -/
theorem state (hn : Num x0 x1) (r : Fin 1024) :
    ∃ M : ℝ, (∀ d, arg7.view.read (Elt Ideal) (arg7.view.writes (Elt Ideal) arg7.view.junk (kernelRun0_A.sl.HS0_3 (F := Ideal) c i arg2 harg2 arg3 harg3 arg4 harg4 arg5 harg5 arg6 harg6 arg7 harg7 arg8 harg8 x0 x1 x2)) (ix2 r d) = (M : EReal))
      ∧ ∀ d, arg8.view.read (Elt Ideal) (arg8.view.writes (Elt Ideal) arg8.view.junk (kernelRun0_A.sl.HS1_3 (F := Ideal) c i arg2 harg2 arg3 harg3 arg4 harg4 arg5 harg5 arg6 harg6 arg7 harg7 arg8 harg8 x0 x1 x2)) (ix2 r d)
        = acc (S x0 x1 (i 1).val r.val) (V x2 d) 8192 M :=
  final i arg2 harg2 arg3 harg3 arg4 harg4 arg7 arg8 x0 x1 x2 hn r rfl rfl rfl rfl rfl rfl
    (loops c i arg2 harg2 arg3 harg3 arg4 harg4 arg5 harg5 arg6 harg6 arg7 harg7 arg8 harg8 x0 x1 x2 hn r (View.writes_append ..) (View.writes_append ..) (inv_start _ _ (fun d => start7 arg7 r d) (fun d => start8 arg8 r d)))

/-- The row's outputs: its sums over every key, over the weights' sum; and its log-sum. -/
theorem out_A (hn : Num x0 x1) (r : Fin 1024) :
    ∃ M : ℝ, (∀ d, out0_A_3 (F := Ideal) c i arg2 harg2 arg3 harg3 arg4 harg4 arg5 harg5 arg6 harg6 arg7 harg7 arg8 harg8 x0 x1 x2 (ix2 r d)
        = Ideal.div (acc (S x0 x1 (i 1).val r.val) (V x2 d) 8192 M) (acc (S x0 x1 (i 1).val r.val) (V x2 64) 8192 M))
      ∧ ∀ s : Fin 8, out0_A_4 (F := Ideal) c i arg2 harg2 arg3 harg3 arg4 harg4 arg5 harg5 arg6 harg6 arg7 harg7 arg8 harg8 x0 x1 x2 (ix4 0 0 s r)
        = ((M : EReal) * (scl : EReal) + Ideal.log (acc (S x0 x1 (i 1).val r.val) (V x2 64) 8192 M)) * (((Real.log 2)⁻¹ : ℝ) : EReal) := by
  obtain ⟨M, h1, h2⟩ := state c i arg2 harg2 arg3 harg3 arg4 harg4 arg5 harg5 arg6 harg6 arg7 harg7 arg8 harg8 x0 x1 x2 hn r
  refine ⟨M, fun d => ?_, fun s => ?_⟩
  · unfold out0_A_3 kernelRun0_A
    refine (View.read_writes_cons_rows_of_mem (Val := Elt Ideal) VO0_3 _ _ _ _ (ix2 r d) (ix2 r d) rfl (Nat.zero_add _).symm rfl).trans ?_
    refine (pay28 _ r d _).trans ?_
    exact congr (congrArg Ideal.div ((read_acc arg8 _ rfl r d r (Nat.zero_add _).symm).trans (h2 d))) ((read_col arg8 _ r).trans (h2 64))
  · unfold out0_A_4 kernelRun0_A
    refine (View.read_writes_cons_unit_of_mem (Val := Elt Ideal) VO0_4 _ _ _ _ (ix4 0 0 s r) (ix4 0 0 s r) rfl (fun a => match a with | 0 => rfl | 1 => rfl | 2 => (Nat.zero_add _).symm | 3 => (Nat.zero_add _).symm)).trans ?_
    refine (pay1 _ r s).trans (congrArg (· * (((Real.log 2)⁻¹ : ℝ) : EReal)) ?_)
    refine (pay29 _ r _ _).trans ?_
    exact congr (congrArg HAdd.hAdd (congrArg (· * (scl : EReal)) ((read_acc arg7 _ rfl r _ r (Nat.zero_add _).symm).trans (h1 _))))
      (congrArg Ideal.log ((read_col arg8 _ r).trans (h2 64)))

end Point

end Cert.Attn
-- ==== Proof.AttnRows.lean ====
/- The attention's forward arrays, as the kernel is given them and as it leaves them, for queries and keys that are real. -/
module

public import proofs.«01_k».proof.Proof.AttnPoint
public import proofs.«01_k».proof.Proof.Rows
public import proofs.«01_k».proof.Proof.Gen.KernelAttnIdeal.Value
public import Idealize.ShloMosaic.Lib.Pipeline.ValueKit

@[expose] public section

set_option maxRecDepth 16384

noncomputable section

namespace Cert.Attn

open Idealize.ShloMosaic Idealize.ShloMosaic.Pointwise Idealize.ShloMosaic.TcCoe Idealize.ShloMosaic.Tactic
open Cert.KernelAttnIdeal Cert.KernelAttnIdeal.Gen
open Cert.Proof (row row_of_lt scl hrow hrow_flat flat pad96 pad65 withOne coe3 padded pad_coe3 pad_word sum_lanes coe_sum ix2_eta rE rL rP rS word_one rL_pos
  weight_shift log_real)
open Cert.Online

theorem index0 : ∀ t : Fin cfg0.N, win0_0.index t = ![t.val % 8, t.val / 8] := by decide +kernel
theorem index1 : ∀ t : Fin cfg0.N, win0_1.index t = ![0, t.val / 8] := by decide +kernel
theorem index2 : ∀ t : Fin cfg0.N, win0_2.index t = ![0, t.val / 8] := by decide +kernel
theorem index3 : ∀ t : Fin cfg0.N, win0_3.index t = ![t.val % 8, t.val / 8] := by decide +kernel
theorem index4 : ∀ t : Fin cfg0.N, win0_4.index t = ![t.val / 8, t.val % 8, 0, 0] := by decide +kernel

theorem tile_of : ∀ t : Fin cfg0.N, (grid0.coords t 1).val = t.val % 8 := by decide +kernel

theorem point_lt (t : Fin cfg0.N) : t.val < 64 := lt_of_lt_of_eq t.isLt N_0

section Given

variable (m : (ℓ : Loc nD τ sig) → Buf (Elt Ideal) ℓ) (c : Dev nD)

theorem block0 (t : Fin cfg0.N) (n : ℕ) (hn : n < 1024) :
    row (iblk m c 0 t) n = hrow (Gen.V m c main_v4) (t.val / 8) (1024 * (t.val % 8) + n) := by
  have ht := point_lt t
  funext x
  rw [row_of_lt _ hn, hrow, dif_pos ⟨by omega, by omega⟩]
  blk_ext [iblk, index0 t]

theorem block1 (t : Fin cfg0.N) (n : ℕ) (hn : n < 8192) : row (iblk m c 1 t) n = hrow (Gen.V m c main_v7) (t.val / 8) n := by
  have ht := point_lt t
  funext x
  rw [row_of_lt _ hn, hrow, dif_pos ⟨by omega, by omega⟩]
  blk_ext [iblk, index1 t]

theorem block2 (t : Fin cfg0.N) (n : ℕ) (hn : n < 8192) : row (iblk m c 2 t) n = hrow (Gen.V m c main_v10) (t.val / 8) n := by
  have ht := point_lt t
  funext x
  rw [row_of_lt _ hn, hrow, dif_pos ⟨by omega, by omega⟩]
  blk_ext [iblk, index2 t]

set_option maxHeartbeats 4000000 in
/-- The queries. -/
theorem entry_q : Gen.V m c main_v4 = truncf .bf16 (flat (pad96 (m (c, Proc.tc.devRef main_arg0)))) bitsLt_bf16_f32 := by
  show StableHlo.after (List.flatten [hostOps0, hostOps0_1, hostOps0_2, hostOps0_3, hostOps0_4, hostOps0_5, hostOps0_6])
    (fun b => m (c, b)) (Proc.tc.devRef main_v4) = _
  simp only [hostOps0, hostOps0_1, hostOps0_2, hostOps0_3, hostOps0_4, hostOps0_5, hostOps0_6, List.flatten_cons,
    List.flatten_nil, List.cons_append, List.nil_append, List.append_nil, StableHlo.TRef.binary, StableHlo.TRef.nullary, StableHlo.TRef.ternary,
    StableHlo.TRef.unary, StableHlo.TRef.toBuf, StableHlo.TRef.ofBuf, cast_eq]
  after_results_simp
  rfl

set_option maxHeartbeats 4000000 in
/-- The keys. -/
theorem entry_k : Gen.V m c main_v7 = truncf .bf16 (flat (pad96 (m (c, Proc.tc.devRef main_arg1)))) bitsLt_bf16_f32 := by
  show StableHlo.after (List.flatten [hostOps0, hostOps0_1, hostOps0_2, hostOps0_3, hostOps0_4, hostOps0_5, hostOps0_6])
    (fun b => m (c, b)) (Proc.tc.devRef main_v7) = _
  simp only [hostOps0, hostOps0_1, hostOps0_2, hostOps0_3, hostOps0_4, hostOps0_5, hostOps0_6, List.flatten_cons,
    List.flatten_nil, List.cons_append, List.nil_append, List.append_nil, StableHlo.TRef.binary, StableHlo.TRef.nullary, StableHlo.TRef.ternary,
    StableHlo.TRef.unary, StableHlo.TRef.toBuf, StableHlo.TRef.ofBuf, cast_eq]
  after_results_simp
  rfl

set_option maxHeartbeats 4000000 in
/-- The values and their lane of ones. -/
theorem entry_v : Gen.V m c main_v10 = truncf .bf16 (flat (pad65 (withOne (m (c, Proc.tc.devRef main_arg2)) (broadcastInDim S8192x8x1 ![] bcast_S_S8192x8x1 (constant S_ .f32 0x3F800000#32))))) bitsLt_bf16_f32 := by
  show StableHlo.after (List.flatten [hostOps0, hostOps0_1, hostOps0_2, hostOps0_3, hostOps0_4, hostOps0_5, hostOps0_6])
    (fun b => m (c, b)) (Proc.tc.devRef main_v10) = _
  simp only [hostOps0, hostOps0_1, hostOps0_2, hostOps0_3, hostOps0_4, hostOps0_5, hostOps0_6, List.flatten_cons,
    List.flatten_nil, List.cons_append, List.nil_append, List.append_nil, StableHlo.TRef.binary, StableHlo.TRef.nullary, StableHlo.TRef.ternary,
    StableHlo.TRef.unary, StableHlo.TRef.toBuf, StableHlo.TRef.ofBuf, cast_eq]
  generalize hw : (fun (a : (⟨S8192x8x64, .f32⟩ : BufTy).Contents (Elt Ideal)) (b : (⟨S8192x8x1, .f32⟩ : BufTy).Contents (Elt Ideal)) =>
    concatenate S8192x8x65 2 [⟨S8192x8x64, a⟩, ⟨S8192x8x1, b⟩] concatenates_S8192x8x64_S8192x8x1_S8192x8x65_d2) = w
  after_results_simp
  subst hw
  rfl

end Given

/-- A value row with a one after it, padded with zeros. -/
def vlane (v : S8192x8x64.Idx → EReal) (h : Fin 8) (x : Fin 128) (n : Fin 8192) : EReal :=
  if hd : x.val < 64 then v (ix3 n h ⟨x.val, hd⟩) else if x.val = 64 then 1 else 0

theorem pad65_apply (v : FVec Ideal S8192x8x64 .f32) (n : Fin 8192) (h : Fin 8) (x : Fin 128) :
    pad65 (withOne v (broadcastInDim S8192x8x1 ![] bcast_S_S8192x8x1 (constant (F := Ideal) S_ .f32 0x3F800000#32))) (ix3 n h x) = vlane v h x n := by
  unfold pad65 vlane
  by_cases hx : x.val < 65
  · refine (pad_apply_of_inside _ _ _ _ _ _ _ (ix3 n h x) (ix3 n h ⟨x.val, hx⟩) (fun a => by
      match a with
      | ⟨0, _⟩ => show n.val = 0 + n.val * (0 + 1); omega
      | ⟨1, _⟩ => show h.val = 0 + h.val * (0 + 1); omega
      | ⟨2, _⟩ => show x.val = 0 + x.val * (0 + 1); omega)).trans ?_
    unfold withOne
    split
    · rename_i hd
      exact concatenate_pair_apply_left 2 v _ Cert.KernelIdeal.Gen.concatenates_S8192x8x64_S8192x8x1_S8192x8x65_d2 (ix3 n h ⟨x.val, hx⟩) rfl (ix3 n h ⟨x.val, hd⟩) (fun b =>
        match b with
        | ⟨0, _⟩ => rfl
        | ⟨1, _⟩ => rfl
        | ⟨2, _⟩ => rfl)
    · rename_i hd
      rw [if_pos (by omega)]
      refine (concatenate_pair_apply_right 2 v _ Cert.KernelIdeal.Gen.concatenates_S8192x8x64_S8192x8x1_S8192x8x65_d2 (ix3 n h ⟨x.val, hx⟩) rfl rfl (ix3 n h 0) ?_ ?_).trans ?_
      · intro b hb
        match b with
        | ⟨0, _⟩ => rfl
        | ⟨1, _⟩ => rfl
        | ⟨2, _⟩ => exact absurd rfl hb
      · show 0 + 64 = x.val
        omega
      · exact word_one.trans EReal.coe_one
  · rw [dif_neg (by omega), if_neg (by omega)]
    exact (pad_apply_of_not_inside _ _ _ _ _ _ _ (ix3 n h x) 2 (fun hin => hx (by
      have := hin.2.2
      change (x.val - 0) / (0 + 1) < 65 at this
      omega))).trans pad_word

section Real

variable (m : (ℓ : Loc nD τ sig) → Buf (Elt Ideal) ℓ) (c : Dev nD)
variable (q k : Fin 8192 → Fin 8 → Fin 96 → ℝ) (v : S8192x8x64.Idx → EReal)
variable (h0 : m (c, Proc.tc.devRef main_arg0) = coe3 q) (h1 : m (c, Proc.tc.devRef main_arg1) = coe3 k) (h2 : m (c, Proc.tc.devRef main_arg2) = v)

include h0 in
theorem row_q (h : Fin 8) (n : Fin 8192) (x : Fin 128) : hrow (Gen.V m c main_v4) h.val n.val x = ((padded (q n h) x.val : ℝ) : EReal) := by
  rw [entry_q, h0, hrow_flat]
  exact pad_coe3 q _ rfl _ _ _ pad_word (ix3 n h x)

include h1 in
theorem row_k (h : Fin 8) (n : Fin 8192) (x : Fin 128) : hrow (Gen.V m c main_v7) h.val n.val x = ((padded (k n h) x.val : ℝ) : EReal) := by
  rw [entry_k, h1, hrow_flat]
  exact pad_coe3 k _ rfl _ _ _ pad_word (ix3 n h x)

include h2 in
theorem row_v (h : Fin 8) (n : Fin 8192) (x : Fin 128) : hrow (Gen.V m c main_v10) h.val n.val x = vlane v h x n := by
  rw [entry_v, h2, hrow_flat]
  exact pad65_apply v n h x

/-- A point's head. -/
def hd (t : Fin cfg0.N) : Fin 8 := ⟨t.val / 8, by have := point_lt t; omega⟩

/-- Row `r` of a point's tile. -/
def at_ (t : Fin cfg0.N) (r : Fin 1024) : Fin 8192 := ⟨1024 * (t.val % 8) + r.val, by have := r.isLt; omega⟩

theorem dot_coe (f g : Fin 128 → ℝ) : dot (fun x => (f x : EReal)) (fun x => (g x : EReal)) = ((∑ x, f x * g x : ℝ) : EReal) := by
  simp only [dot, ← EReal.coe_mul, ← coe_sum]

theorem row_past {N : ℕ} (a : (⟨2, ![N, 128]⟩ : Shape).Idx → EReal) {n : ℕ} (h : ¬n < N) : row a n = fun _ => ((0 : ℝ) : EReal) :=
  funext fun x => (dif_neg h).trans EReal.coe_zero.symm

include h0 in
theorem real_q (t : Fin cfg0.N) (n : ℕ) : ∃ f : Fin 128 → ℝ, row (iblk m c 0 t) n = fun x => (f x : EReal) := by
  by_cases hn : n < 1024
  · exact ⟨_, (block0 m c t n hn).trans (funext fun x => row_q m c q h0 (hd t) (at_ t ⟨n, hn⟩) x)⟩
  · exact ⟨_, row_past _ hn⟩

include h1 in
theorem real_k (t : Fin cfg0.N) (n : ℕ) : ∃ f : Fin 128 → ℝ, row (iblk m c 1 t) n = fun x => (f x : EReal) := by
  by_cases hn : n < 8192
  · exact ⟨_, (block1 m c t n hn).trans (funext fun x => row_k m c k h1 (hd t) ⟨n, hn⟩ x)⟩
  · exact ⟨_, row_past _ hn⟩

include h0 h1 in
theorem num (t : Fin cfg0.N) : Num (iblk m c 0 t) (iblk m c 1 t) := fun r j => by
  obtain ⟨f, hf⟩ := real_q m c q h0 t r
  obtain ⟨g, hg⟩ := real_k m c k h1 t j
  rw [hf, hg, dot_coe]
  exact ⟨_, rfl⟩

include h0 h1 in
/-- A point's scores are the masked ones. -/
theorem scores (t : Fin cfg0.N) (r : Fin 1024) (j : Fin 8192) :
    S (iblk m c 0 t) (iblk m c 1 t) (t.val % 8) r.val j.val = sc q k (hd t) (at_ t r) j := by
  unfold S sc
  refine if_congr Iff.rfl ?_ rfl
  rw [block0 m c t r.val r.isLt, block1 m c t j.val j.isLt]
  refine (congrArg₂ dot (funext fun x => row_q m c q h0 (hd t) (at_ t r) x) (funext fun x => row_k m c k h1 (hd t) j x)).trans ?_
  rw [dot_coe, sum_lanes (by norm_num)]

include h0 h1 h2 in
/-- Lane `d` of a row's sum over every key. -/
theorem sums (t : Fin cfg0.N) (r : Fin 1024) (d : Fin 128) (M : ℝ) :
    acc (S (iblk m c 0 t) (iblk m c 1 t) (t.val % 8) r.val) (V (iblk m c 2 t) d) 8192 M
      = ∑ j, ((rE q k (hd t) (at_ t r) j * fac M : ℝ) : EReal) * vlane v (hd t) d j := by
  rw [acc, Finset.sum_range]
  refine Finset.sum_congr rfl fun j _ => ?_
  rw [scores m c q k h0 h1 t r j, ex_sc]
  refine congrArg (_ * ·) ?_
  refine (congrFun (block2 m c t j.val j.isLt) d).trans ?_
  exact row_v m c v h2 (hd t) j d

theorem lane_one (h : Fin 8) (j : Fin 8192) : vlane v h 64 j = 1 := by
  unfold vlane
  exact (dif_neg (by decide)).trans (if_pos rfl)

include h0 h1 h2 in
/-- The lane of ones carries the sum of the weights. -/
theorem total (t : Fin cfg0.N) (r : Fin 1024) (M : ℝ) :
    acc (S (iblk m c 0 t) (iblk m c 1 t) (t.val % 8) r.val) (V (iblk m c 2 t) 64) 8192 M = ((rL q k (hd t) (at_ t r) * fac M : ℝ) : EReal) := by
  rw [sums m c q k v h0 h1 h2 t r 64 M]
  simp only [lane_one, mul_one]
  rw [← coe_sum, ← Finset.sum_mul]
  rfl

/-- A row's output: the mean of the values' rows under the softmax weights. -/
def outLane (h : Fin 8) (n : Fin 8192) (d : Fin 128) : EReal := ∑ j, ((rP q k h n j : ℝ) : EReal) * vlane v h d j

/-- A row's log-sum, in powers of two. -/
def lseOf (h : Fin 8) (n : Fin 8192) : EReal := ((Real.log (rL q k h n) / Real.log 2 : ℝ) : EReal)

end Real

end Cert.Attn
-- ==== Proof.AttnArrays.lean ====
/- The attention's forward results as arrays, for queries and keys that are real. -/
module

public import proofs.«01_k».proof.Proof.AttnRows

@[expose] public section

set_option maxRecDepth 16384

noncomputable section

namespace Cert.Attn

open Idealize.ShloMosaic Idealize.ShloMosaic.Pointwise Idealize.ShloMosaic.TcCoe Idealize.ShloMosaic.Tactic
open Cert.KernelAttnIdeal Cert.KernelAttnIdeal.Gen
open Cert.Proof (row row_of_lt scl hrow hrow_flat flat pad96 pad65 withOne coe3 padded pad_coe3 pad_word sum_lanes coe_sum ix2_eta rE rL rP rS word_one rL_pos
  weight_shift log_real)
open Cert.Online

section Real

variable (m : (ℓ : Loc nD τ sig) → Buf (Elt Ideal) ℓ) (c : Dev nD)
variable (q k : Fin 8192 → Fin 8 → Fin 96 → ℝ) (v : S8192x8x64.Idx → EReal)
variable (h0 : m (c, Proc.tc.devRef main_arg0) = coe3 q) (h1 : m (c, Proc.tc.devRef main_arg1) = coe3 k) (h2 : m (c, Proc.tc.devRef main_arg2) = v)

include h0 h1 h2 in
theorem point (t : Fin cfg0.N) (r : Fin 1024) :
    (∀ d, (outsAt0 m c t).1 (ix2 r d) = outLane q k v (hd t) (at_ t r) d) ∧ ∀ s : Fin 8, (outsAt0 m c t).2 (ix4 0 0 s r) = lseOf q k (hd t) (at_ t r) := by
  unfold outsAt0
  dsimp only
  obtain ⟨M, ho, hl⟩ := out_A c (grid0.coords t) _ (hs0_0 t) _ (hs0_1 t) _ (hs0_2 t) _ (hs0_3 t) _ (hs0_4 t) scM0_0 (Memref.isWhole_whole _) scM0_1 (Memref.isWhole_whole _)
    (iblk m c 0 t) (iblk m c 1 t) (iblk m c 2 t) (num m c q k h0 h1 t) r
  rw [tile_of t] at ho hl
  refine ⟨fun d => (ho d).trans ?_, fun s => (hl s).trans ?_⟩
  · rw [sums m c q k v h0 h1 h2 t r d M, total m c q k v h0 h1 h2 t r M]
    exact quotient q k (hd t) (at_ t r) M _
  · rw [total m c q k v h0 h1 h2 t r M, log_real (mul_pos (rL_pos q k _ _) (fac_pos M)), ← EReal.coe_mul, ← EReal.coe_add, log_fac, ← EReal.coe_mul]
    rfl

/-- The output as an array. -/
def oAt (i : S8192x1024.Idx) : EReal :=
  outLane q k v ⟨(i 1).val / 128, by have h : (i 1).val < 1024 := (i 1).isLt; omega⟩ (i 0) ⟨(i 1).val % 128, Nat.mod_lt _ (by norm_num)⟩

/-- The row log-sums as an array: each is held eight times. -/
def lAt (i : S8x8x8x1024.Idx) : EReal :=
  lseOf q k (i 0) ⟨1024 * (i 1).val + (i 3).val, by have h : (i 1).val < 8 := (i 1).isLt; have h' : (i 3).val < 1024 := (i 3).isLt; omega⟩

theorem oAt_eq (t : Fin cfg0.N) (r : Fin 1024) (d : Fin 128) (i : S8192x1024.Idx) (e0 : (i 0).val = t.val % 8 * 1024 + r.val)
    (e1 : (i 1).val = t.val / 8 * 128 + d.val) : outLane q k v (hd t) (at_ t r) d = oAt q k v i := by
  have hd' := d.isLt
  have a0 : hd t = ⟨(i 1).val / 128, by have h : (i 1).val < 1024 := (i 1).isLt; omega⟩ := Fin.ext (by show t.val / 8 = (i 1).val / 128; omega)
  have a1 : at_ t r = i 0 := Fin.ext (by show 1024 * (t.val % 8) + r.val = (i 0).val; omega)
  have a2 : d = ⟨(i 1).val % 128, Nat.mod_lt _ (by norm_num)⟩ := Fin.ext (by show d.val = (i 1).val % 128; omega)
  exact congr (congr (congrArg (outLane q k v) a0) a1) a2

theorem lAt_eq (t : Fin cfg0.N) (r : Fin 1024) (i : S8x8x8x1024.Idx) (e0 : (i 0).val = t.val / 8) (e1 : (i 1).val = t.val % 8) (e3 : (i 3).val = r.val) :
    lseOf q k (hd t) (at_ t r) = lAt q k i := by
  have a0 : hd t = i 0 := Fin.ext (by show t.val / 8 = (i 0).val; omega)
  have a1 : at_ t r = ⟨1024 * (i 1).val + (i 3).val, by have h : (i 1).val < 8 := (i 1).isLt; have h' : (i 3).val < 1024 := (i 3).isLt; omega⟩ :=
    Fin.ext (by show 1024 * (t.val % 8) + r.val = 1024 * (i 1).val + (i 3).val; omega)
  exact congr (congrArg (lseOf q k) a0) a1

include h0 h1 h2 in
theorem o_array : (dats m 0 c).arrAt 3 cfg0.N = oAt q k v := by
  refine (dats m 0 c).arrAt_eq_of_covers 3 _ (by decide +kernel) fun t hf y => ?_
  blk_simp
  rw [after0_3]
  obtain ⟨r, d, rfl⟩ : ∃ (r : Fin 1024) (d : Fin 128), y = ix2 r d := ⟨_, _, ix2_eta y⟩
  refine ((point m c q k v h0 h1 h2 t r).1 d).trans ?_
  have e0 : win0_3.index t 0 = t.val % 8 := congrFun (index3 t) 0
  have e1 : win0_3.index t 1 = t.val / 8 := congrFun (index3 t) 1
  refine oAt_eq q k v t r d _ ?_ ?_
  · show win0_3.index t 0 * 1024 + 1 * r.val = _
    rw [e0, Nat.one_mul]
  · show win0_3.index t 1 * 128 + 1 * d.val = _
    rw [e1, Nat.one_mul]

include h0 h1 h2 in
theorem l_array : (dats m 0 c).arrAt 4 cfg0.N = lAt q k := by
  refine (dats m 0 c).arrAt_eq_of_covers 4 _ (by decide +kernel) fun t hf y => ?_
  blk_simp
  rw [after0_4]
  obtain ⟨s, r, rfl⟩ : ∃ (s : Fin 8) (r : Fin 1024), y = ix4 0 0 s r := ⟨y 2, y 3, by
    funext a
    match a with
    | ⟨0, _⟩ => exact Subsingleton.elim (α := Fin 1) _ _
    | ⟨1, _⟩ => exact Subsingleton.elim (α := Fin 1) _ _
    | ⟨2, _⟩ => rfl
    | ⟨3, _⟩ => rfl⟩
  refine ((point m c q k v h0 h1 h2 t r).2 s).trans ?_
  have e0 : win0_4.index t 0 = t.val / 8 := congrFun (index4 t) 0
  have e1 : win0_4.index t 1 = t.val % 8 := congrFun (index4 t) 1
  have e3 : win0_4.index t 3 = 0 := congrFun (index4 t) 3
  refine lAt_eq q k t r _ ?_ ?_ ?_
  · show win0_4.index t 0 * 1 + 0 = _
    rw [e0]
    omega
  · show win0_4.index t 1 * 1 + 0 = _
    rw [e1]
    omega
  · show win0_4.index t 3 * 1024 + 1 * r.val = _
    rw [e3]
    omega

end Real

end Cert.Attn
-- ==== Proof.AttnReference.lean ====
/- The attention's reference results at an index, for queries and keys that are real. -/
module

public import proofs.«01_k».proof.Proof.AttnArrays
public import proofs.«01_k».proof.Proof.Reference
public import proofs.«01_k».proof.Proof.Gen.ReferenceAttnIdeal.Read

@[expose] public section

set_option maxRecDepth 16384

noncomputable section

namespace Cert.Attn

open Idealize.ShloMosaic
open Cert.ReferenceAttnIdeal Cert.ReferenceAttnIdeal.Gen Cert.ReferenceAttnIdeal.Read
open Cert.Proof (coe3 select_causal fold_max_real word_zero word_one word_96 word_bot word_two scl coe_sum rE rL rP rS rL_pos weight_shift sqrt_real div_real log_real
  log_base ix2_eta)

theorem ref_root (i : S_.Idx) : val_main_v1 (F := Ideal) i = (Real.sqrt 96 : EReal) := by
  rw [val_main_v1_apply, val_main_cst_apply]
  show Ideal.sqrt (Ideal.ofBits FTy.f32 0x42C00000#32) = _
  rw [word_96, sqrt_real (by norm_num)]

variable (q k : Fin 8192 → Fin 8 → Fin 96 → ℝ) (v : S8192x8x64.Idx → EReal)

/-- A masked score. -/
theorem ref_score (i : S8x8192x8192.Idx) :
    val_main_v11 (F := Ideal) (coe3 q) (coe3 k) i = if i 2 ≤ i 1 then ((rS q k (i 0) (i 1) (i 2) : ℝ) : EReal) else ⊥ := by
  rw [val_main_v11_apply, val_main_call0_v1_apply, val_main_v10_apply, val_main_v9_apply, val_main_v7_apply, val_main_v8_apply, val_main_v5_apply,
    val_main_v6_apply, val_main_v4_apply, val_main_v4_apply, val_main_v3_apply, val_main_v2_apply, ref_root, val_main_call0_v2_apply,
    val_main_call0_v0_apply, val_main_cst_0_apply, val_main_v0_apply]
  refine (select_causal (i 2) (i 1) _ _).trans ?_
  show (if i 2 ≤ i 1 then Ideal.div (∑ x : Fin 96, ((q (i 1) (i 0) x : ℝ) : EReal) * ((k (i 2) (i 0) x : ℝ) : EReal)) (Real.sqrt 96 : ℝ)
    else Ideal.ofBits FTy.f32 0xFF800000#32) = _
  rw [word_bot]
  simp only [← EReal.coe_mul, ← coe_sum]
  rw [div_real _ (Real.sqrt_pos.mpr (by norm_num)).ne', div_eq_mul_inv]
  rfl

theorem ref_max_exists (i : S8x8192.Idx) : ∃ M : ℝ, val_main_v12 (F := Ideal) (coe3 q) (coe3 k) i = M := by
  unfold val_main_v12
  have e := Host.reduce_eq_fold_single (FloatOps.maximumf (F := Ideal) (φ := .f32)) (val_main_v11 (F := Ideal) (coe3 q) (coe3 k))
    (val_main_cst_1 (F := Ideal)) reducesTo_S8x8192x8192_S8x8192_d2 (by decide) h_S_ i
  refine Exists.imp (fun M hM => e.trans hM) ?_
  rw [val_main_cst_1_apply]
  have hb : FloatOps.ofBits (F := Ideal) .f32 0xFF800000#32 = (⊥ : EReal) := word_bot
  rw [hb]
  refine fold_max_real (f := fun j : Fin 8192 => _) (fun j => ?_) (j₀ := i 1) ?_
  · show val_main_v11 (F := Ideal) (coe3 q) (coe3 k) _ ≠ ⊤
    rw [ref_score]
    split
    · exact EReal.coe_ne_top _
    · exact bot_ne_top
  · show val_main_v11 (F := Ideal) (coe3 q) (coe3 k) _ ≠ ⊥
    rw [ref_score]
    exact (if_pos (Fin.le_def.mpr (le_of_eq rfl))).trans_ne (EReal.coe_ne_bot _)

/-- A row's greatest score. -/
def rowMax (h : Fin 8) (a : Fin 8192) : ℝ := (ref_max_exists q k (ix2 h a)).choose

theorem ref_max (i : S8x8192.Idx) : val_main_v12 (F := Ideal) (coe3 q) (coe3 k) i = (rowMax q k (i 0) (i 1) : EReal) := by
  have e : i = ix2 (i 0) (i 1) := eq_ix2 i
  exact (congrArg (val_main_v12 (F := Ideal) (coe3 q) (coe3 k)) e).trans (ref_max_exists q k (ix2 (i 0) (i 1))).choose_spec

/-- What a row's exponentials are scaled by. -/
def rowC (h : Fin 8) (a : Fin 8192) : ℝ := Real.exp (-rowMax q k h a)

theorem rowC_pos (h : Fin 8) (a : Fin 8192) : 0 < rowC q k h a := Real.exp_pos _

theorem exp_shift (h : Fin 8) (a b : Fin 8192) :
    Ideal.exp ((if b ≤ a then ((rS q k h a b : ℝ) : EReal) else ⊥) - (rowMax q k h a : EReal)) = ((rE q k h a b * rowC q k h a : ℝ) : EReal) := by
  unfold rE rowC
  split
  · rw [← EReal.coe_sub, Ideal.exp_coe, ← Real.exp_add, sub_eq_add_neg]
  · rw [EReal.bot_sub, zero_mul]
    exact Ideal.exp_bot

theorem ref_exp (i : S8x8192x8192.Idx) :
    val_main_v18 (F := Ideal) (coe3 q) (coe3 k) i = ((rE q k (i 0) (i 1) (i 2) * rowC q k (i 0) (i 1) : ℝ) : EReal) := by
  rw [val_main_v18_apply, val_main_v17_apply, val_main_v16_apply, val_main_v15_apply, val_main_v14_apply, val_main_v13_apply, val_main_cst_2_apply,
    ref_score, ref_max]
  have hb : FloatOps.maximumf (F := Ideal) (φ := .f32) (FloatOps.ofBits .f32 0xFF800000#32) (rowMax q k (i 0) (i 1) : EReal)
      = (rowMax q k (i 0) (i 1) : EReal) := by
    show max (Ideal.ofBits .f32 0xFF800000#32) _ = _
    rw [word_bot]
    exact max_bot_left _
  refine Eq.trans ?_ (exp_shift q k (i 0) (i 1) (i 2))
  exact congrArg (fun z => Ideal.exp (_ - z)) hb

theorem ref_sum (i : S8x8192.Idx) :
    val_main_v19 (F := Ideal) (coe3 q) (coe3 k) i = ((rL q k (i 0) (i 1) * rowC q k (i 0) (i 1) : ℝ) : EReal) := by
  rw [val_main_v19_apply, val_main_cst_3_apply]
  simp only [ref_exp]
  show Ideal.ofBits FTy.f32 0x00000000#32 + ∑ j : Fin 8192, ((rE q k (i 0) (i 1) j * rowC q k (i 0) (i 1) : ℝ) : EReal) = _
  rw [word_zero, zero_add, ← coe_sum, ← Finset.sum_mul]
  rfl

/-- The softmax weight. -/
theorem ref_weight (i : S8x8192x8192.Idx) :
    val_main_v22 (F := Ideal) (coe3 q) (coe3 k) i = ((rP q k (i 0) (i 1) (i 2) : ℝ) : EReal) := by
  rw [val_main_v22_apply, val_main_v21_apply, val_main_v20_apply, ref_exp, ref_sum]
  refine (div_real _ (mul_pos (rL_pos q k (i 0) (i 1)) (rowC_pos q k (i 0) (i 1))).ne').trans ?_
  rw [weight_shift q k (i 0) (i 1) (i 2) (rowC_pos q k (i 0) (i 1))]

/-- The weighted mean of the values. -/
theorem ref_mean (i : S8192x8x64.Idx) :
    val_main_v24 (F := Ideal) (coe3 q) (coe3 k) v i = ∑ j : Fin 8192, ((rP q k (i 1) (i 0) j : ℝ) : EReal) * v (ix3 j (i 1) (i 2)) := by
  rw [val_main_v24_apply, val_main_v23_apply]
  simp only [ref_weight]
  refine Finset.sum_congr rfl fun j _ => ?_
  rw [mul_comm]
  refine congrArg (_ * v ·) ?_
  exact eq_ix3 _

/-- A row's weights sum to one. -/
theorem weights_one (h : Fin 8) (a : Fin 8192) : ∑ j, ((rP q k h a j : ℝ) : EReal) = 1 := by
  rw [← coe_sum]
  have e : ∑ j, rP q k h a j = 1 := by
    unfold rP
    rw [← Finset.sum_div]
    exact div_self (rL_pos q k h a).ne'
  rw [e, EReal.coe_one]

/-- A lane of the reference's padded rows. -/
theorem ref_lane (n : Fin 8192) (h : Fin 8) (d : Fin 128) :
    val_main_v27 (F := Ideal) (coe3 q) (coe3 k) v (ix3 n h d) = outLane q k v h n d := by
  have hd' := d.isLt
  unfold val_main_v27 outLane vlane
  by_cases h1 : d.val < 64
  · refine (concatenate_apply_piece (t := S8192x8x128) 2 [⟨S8192x8x64, val_main_v24 (F := Ideal) (coe3 q) (coe3 k) v⟩, ⟨S8192x8x1, val_main_v25 (F := Ideal)⟩, ⟨S8192x8x63, val_main_v26 (F := Ideal)⟩]
      concatenates_S8192x8x64_S8192x8x1_S8192x8x63_S8192x8x128_d2 (ix3 n h d) 0 (show 0 < 3 by decide) S8192x8x64 _ rfl rfl 0 rfl
      (ix3 n h ⟨d.val, h1⟩) (fun b hb => ?_) (Nat.zero_add _)).trans ?_
    · match b with
      | ⟨0, _⟩ => rfl
      | ⟨1, _⟩ => rfl
      | ⟨2, _⟩ => exact absurd rfl hb
    · refine (ref_mean q k v _).trans ?_
      simp only [dif_pos h1]
      rfl
  · by_cases h2 : d.val = 64
    · refine (concatenate_apply_piece (t := S8192x8x128) 2 [⟨S8192x8x64, val_main_v24 (F := Ideal) (coe3 q) (coe3 k) v⟩, ⟨S8192x8x1, val_main_v25 (F := Ideal)⟩, ⟨S8192x8x63, val_main_v26 (F := Ideal)⟩]
      concatenates_S8192x8x64_S8192x8x1_S8192x8x63_S8192x8x128_d2 (ix3 n h d) 1 (show 1 < 3 by decide) S8192x8x1 _ rfl rfl 64 rfl
        (ix3 n h 0) (fun b hb => ?_) ?_).trans ?_
      · match b with
        | ⟨0, _⟩ => rfl
        | ⟨1, _⟩ => rfl
        | ⟨2, _⟩ => exact absurd rfl hb
      · show 64 + 0 = d.val
        omega
      · simp only [dif_neg h1, if_pos h2, mul_one, weights_one]
        exact word_one.trans EReal.coe_one
    · refine (concatenate_apply_piece (t := S8192x8x128) 2 [⟨S8192x8x64, val_main_v24 (F := Ideal) (coe3 q) (coe3 k) v⟩, ⟨S8192x8x1, val_main_v25 (F := Ideal)⟩, ⟨S8192x8x63, val_main_v26 (F := Ideal)⟩]
      concatenates_S8192x8x64_S8192x8x1_S8192x8x63_S8192x8x128_d2 (ix3 n h d) 2 (show 2 < 3 by decide) S8192x8x63 _ rfl rfl 65 rfl
        (ix3 n h ⟨d.val - 65, (by omega : d.val - 65 < 63)⟩) (fun b hb => ?_) ?_).trans ?_
      · match b with
        | ⟨0, _⟩ => rfl
        | ⟨1, _⟩ => rfl
        | ⟨2, _⟩ => exact absurd rfl hb
      · show 65 + (d.val - 65) = d.val
        omega
      · simp only [dif_neg h1, if_neg h2, mul_zero, Finset.sum_const_zero]
        exact word_zero

/-- The reference's output. -/
theorem ref_o (i : S8192x1024.Idx) : val_main_v37 (F := Ideal) (coe3 q) (coe3 k) v i = oAt q k v i := by
  have h1 : (i 1).val < 1024 := (i 1).isLt
  have e : idx_main_v36 i = ix3 (i 0) ⟨(i 1).val / 128, (by omega : (i 1).val / 128 < 8)⟩ ⟨(i 1).val % 128, Nat.mod_lt _ (by norm_num)⟩ := by
    refine (eq_ix3 _).trans ?_
    have e0 : (idx_main_v36 i 0 : Fin 8192) = i 0 := Fin.ext (by show ((i 0).val * 1024 + (i 1).val) / 1024 = (i 0).val; omega)
    have e1 : (idx_main_v36 i 1 : Fin 8) = ⟨(i 1).val / 128, (by omega : (i 1).val / 128 < 8)⟩ := Fin.ext (by show ((i 0).val * 1024 + (i 1).val) / 128 % 8 = (i 1).val / 128; omega)
    have e2 : (idx_main_v36 i 2 : Fin 128) = ⟨(i 1).val % 128, Nat.mod_lt _ (by norm_num)⟩ :=
      Fin.ext (by show ((i 0).val * 1024 + (i 1).val) % 128 = (i 1).val % 128; omega)
    exact congr (congr (congrArg ix3 e0) e1) e2
  refine (val_main_v37_apply _ _ _ i).trans ((val_main_v36_apply _ _ _ i).trans ?_)
  rw [e]
  exact ref_lane q k v _ _ _

/-- A row's log-sum. -/
theorem ref_log (i : S8x8192.Idx) : val_main_v33 (F := Ideal) (coe3 q) (coe3 k) i = lseOf q k (i 0) (i 1) := by
  have hs : val_main_v29 (F := Ideal) (coe3 q) (coe3 k) i = ((rL q k (i 0) (i 1) : ℝ) : EReal) := by
    rw [val_main_v29_apply, val_main_cst_6_apply]
    have he : ∀ j : Fin 8192, val_main_v28 (F := Ideal) (coe3 q) (coe3 k) (idx_main_v29 i j) = ((rE q k (i 0) (i 1) j : ℝ) : EReal) := fun j => by
      rw [val_main_v28_apply, ref_score]
      show Ideal.exp (if j ≤ i 1 then ((rS q k (i 0) (i 1) j : ℝ) : EReal) else ⊥) = _
      unfold rE
      split
      · exact Ideal.exp_coe _
      · exact Ideal.exp_bot
    simp only [he]
    show Ideal.ofBits FTy.f32 0x00000000#32 + ∑ j : Fin 8192, ((rE q k (i 0) (i 1) j : ℝ) : EReal) = _
    rw [word_zero, zero_add, ← coe_sum]
    rfl
  rw [val_main_v33_apply, val_main_v30_apply, val_main_v32_apply, val_main_v31_apply, val_main_cst_7_apply, hs]
  show Ideal.div (Ideal.log ((rL q k (i 0) (i 1) : ℝ) : EReal)) (Ideal.log (Ideal.ofBits .f32 0x40000000#32)) = _
  exact (congrArg (Ideal.div · _) (log_real (rL_pos q k (i 0) (i 1)))).trans (log_base _)

/-- The reference's row log-sums. -/
theorem ref_l (i : S8x8x8x1024.Idx) : val_main_v35 (F := Ideal) (coe3 q) (coe3 k) i = lAt q k i := by
  have h1 : (i 1).val < 8 := (i 1).isLt
  have h3 : (i 3).val < 1024 := (i 3).isLt
  rw [val_main_v35_apply, val_main_v34_apply, ref_log]
  have e0 : (idx_main_v34 (idx_main_v35 i) 0 : Fin 8) = i 0 :=
    Fin.ext (by show ((((i 0).val * 8 + (i 1).val) * 1 + 0) * 1024 + (i 3).val) / 8192 = (i 0).val; omega)
  have e1 : (idx_main_v34 (idx_main_v35 i) 1 : Fin 8192) = ⟨1024 * (i 1).val + (i 3).val, (by omega : 1024 * (i 1).val + (i 3).val < 8192)⟩ :=
    Fin.ext (by show ((((i 0).val * 8 + (i 1).val) * 1 + 0) * 1024 + (i 3).val) % 8192 = 1024 * (i 1).val + (i 3).val; omega)
  exact congr (congrArg (lseOf q k) e0) e1

end Cert.Attn
-- ==== Proof.Attn.lean ====
/- The attention's forward call: on finite queries and keys the kernel and the reference end with the same output and row log-sums. -/
module

public import proofs.«01_k».proof.Defs
public import proofs.«01_k».proof.Proof.AttnReference
public import proofs.«01_k».proof.Proof.Results
public import proofs.«01_k».proof.Proof.Gen.ReferenceAttnIdeal.Run
public import proofs.«01_k».proof.Proof.Gen.Pre_finite_scores
public import Idealize.ShloMosaic.Lib.Claim

@[expose] public section

set_option maxRecDepth 16384

noncomputable section

namespace Cert.Attn

open Idealize.ShloMosaic Idealize.ShloMosaic.TcCoe Idealize.ShloMosaic.Tactic
open Cert.KernelAttnIdeal Cert.KernelAttnIdeal.Gen
open Cert.Proof (coe3 real_of_finite)

section Results

variable (m : (ℓ : Loc nD τ sig) → Buf (Elt Ideal) ℓ) (c : Dev nD)
variable (q k : Fin 8192 → Fin 8 → Fin 96 → ℝ) (v : S8192x8x64.Idx → EReal)
variable (h0 : m (c, Proc.tc.devRef main_arg0) = coe3 q) (h1 : m (c, Proc.tc.devRef main_arg1) = coe3 k) (h2 : m (c, Proc.tc.devRef main_arg2) = v)

include h0 h1 h2 in
theorem o_eq : (dats m 0 c).arrAt 3 cfg0.N = Cert.ReferenceAttnIdeal.Read.val_main_v37 (F := Ideal) (coe3 q) (coe3 k) v := by
  rw [o_array m c q k v h0 h1 h2]
  exact funext fun i => (ref_o q k v i).symm

include h0 h1 h2 in
theorem l_eq : (dats m 0 c).arrAt 4 cfg0.N = Cert.ReferenceAttnIdeal.Read.val_main_v35 (F := Ideal) (coe3 q) (coe3 k) := by
  rw [l_array m c q k v h0 h1 h2]
  exact funext fun i => (ref_l q k i).symm

end Results

/-- On finite queries and keys the kernel and the reference end with the same output and row log-sums. -/
theorem algebraic : Cert.algebraic_KernelAttnIdeal_ReferenceAttnIdeal_pre_finite_scores := by
  intro m g m' g' hpre hagree
  have hreal (c : Dev nD) : ∃ q k, m (c, Proc.tc.devRef main_arg0) = coe3 q ∧ m (c, Proc.tc.devRef main_arg1) = coe3 k := by
    obtain ⟨p0, p1⟩ := hpre c
    obtain ⟨q, hq⟩ := real_of_finite _ _ p0
    obtain ⟨k, hk⟩ := real_of_finite _ _ p1
    exact ⟨q, k, hq, hk⟩
  refine ⟨fun c => (dats m 0 c).arrAt 3 cfg0.N, fun c => (dats m 0 c).arrAt 4 cfg0.N, Cert.KernelAttnIdeal.Value.run_blocks m g,
    (θ_run Cert.ReferenceAttnIdeal.defs _ _).mono (fun r h c => ?_) (Cert.ReferenceAttnIdeal.Value.run m' g')⟩
  obtain ⟨q, k, h0, h1⟩ := hreal c
  obtain ⟨a0, a1, a2⟩ := hagree c
  have b0 := a0.trans h0
  have b1 := a1.trans h1
  exact ⟨(h c).1.trans ((Cert.ReferenceAttnIdeal.Read.val_main_v37_eq m' c).trans
      ((congr (congr (congrArg (Cert.ReferenceAttnIdeal.Read.val_main_v37 (F := Ideal)) b0) b1) a2).trans (o_eq m c q k _ h0 h1 rfl).symm)),
    (h c).2.1.trans ((Cert.ReferenceAttnIdeal.Read.val_main_v35_eq _ _).trans
      ((congr (congrArg (Cert.ReferenceAttnIdeal.Read.val_main_v35 (F := Ideal)) b0) b1).trans (l_eq m c q k _ h0 h1 rfl).symm)),
    (h c).2.2⟩

end Cert.Attn
-- ==== Proof.Linear.lean ====
/- Facts that the proofs of the feed-forward products share: offsets of zero, the indices of a three-axis array, and sums taken block by block. -/
module

public import Idealize.ShloMosaic.Lib.Pipeline.ValueKit
public import Idealize.ShloMosaic.Lib.Pointwise

@[expose] public section

noncomputable section

namespace Cert.Proof.Linear

open Idealize.ShloMosaic Idealize.ShloMosaic.Pointwise

theorem hz2 : (![0, 0] : Fin 2 → ℕ) = fun _ => 0 := funext fun a => by fin_cases a <;> rfl

theorem hz3 : (![0, 0, 0] : Fin 3 → ℕ) = fun _ => 0 := funext fun a => by fin_cases a <;> rfl

theorem ix2_congr {M N : ℕ} {a a' : Fin M} {b b' : Fin N} (ha : a = a') (hb : b = b') : ix2 a b = ix2 a' b' := by
  rw [ha, hb]

theorem ix3_congr {L M N : ℕ} {a a' : Fin L} {b b' : Fin M} {d d' : Fin N} (ha : a = a') (hb : b = b') (hd : d = d') : ix3 a b d = ix3 a' b' d' := by
  rw [ha, hb, hd]

/-- A load of one of an array's leading slabs. -/
theorem ld_slab {G M N : ℕ} {Val : EltTy → Type} {e : EltTy} (a : (⟨3, ![G, M, N]⟩ : Shape).Idx → Val e) (g : ℕ) (hg : g < G) {inb} (r : Fin M) (k : Fin N) :
    View.ld a (Rect.unit (s := ⟨3, ![G, M, N]⟩) ![g, 0, 0] ![1, M, N] inb) (ix3 (0 : Fin 1) r k) = a (ix3 ⟨g, hg⟩ r k) := by
  refine congrArg a (funext fun i => Fin.ext ?_)
  fin_cases i
  · rfl
  · show 0 + 1 * r.val = r.val
    omega
  · show 0 + 1 * k.val = k.val
    omega

/-- A sum over `a * b` indices is the sum, over `a` blocks, of each block's sum. -/
theorem sum_blocks (a b n : ℕ) (h : n = a * b) (f : Fin n → EReal) :
    ∑ k, f k = ∑ i : Fin a, ∑ j : Fin b, f ⟨b * i.val + j.val, by
      rw [h]
      calc b * i.val + j.val < b * i.val + b := Nat.add_lt_add_left j.isLt _
        _ = b * (i.val + 1) := by ring
        _ ≤ b * a := Nat.mul_le_mul_left _ i.isLt
        _ = a * b := Nat.mul_comm _ _⟩ := by
  subst h
  rw [← Equiv.sum_comp finProdFinEquiv, Fintype.sum_prod_type]
  refine Finset.sum_congr rfl fun i _ => Finset.sum_congr rfl fun j _ => congrArg f (Fin.ext ?_)
  rw [finProdFinEquiv_apply_val]
  exact Nat.add_comm _ _

end Cert.Proof.Linear
-- ==== Proof.Norm.lean ====
/- The model's norm: each row over its root mean square, times the gain. Row by row the kernel's arithmetic is the reference's. -/
module

public import proofs.«01_k».proof.Defs
public import proofs.«01_k».proof.Proof.Linear
public import proofs.«01_k».proof.Proof.Gen.KernelNormIdeal.Value
public import proofs.«01_k».proof.Proof.Gen.ReferenceNormIdeal.Read

@[expose] public section

set_option maxRecDepth 16384

noncomputable section

namespace Cert.Proof.Norm

open Idealize.ShloMosaic Idealize.ShloMosaic.Pointwise Idealize.ShloMosaic.TcCoe Idealize.ShloMosaic.Tactic
open Cert.Proof.Linear Cert.KernelNormIdeal Cert.KernelNormIdeal.Gen

/-- One element of a normalised row: the row's element, the sum of the row's squares, and the gain. -/
def normed (x q g : EReal) : EReal :=
  x * Ideal.rsqrt (Ideal.div q (Ideal.ofBits .f32 0x44800000#32) + Ideal.ofBits .f32 0x358637BD#32) * g

/-- What one block's body computes. -/
theorem payload (x : Vec Ideal S1024x1024 .f32) (g : Vec Ideal S1x1024 .f32) (r s : Fin 1024) :
    k0_pay1 (F := Ideal) x g (ix2 r s) = normed (x (ix2 r s)) (∑ k : Fin 1024, x (ix2 r k) * x (ix2 r k)) (g (ix2 0 s)) := by
  unfold normed
  pointwise [k0_pay1]

theorem out_eq (x : Vec Ideal S1024x1024 .f32) (g : Vec Ideal S1x1024 .f32) : out0_2 x g = k0_pay1 (F := Ideal) x g := by
  unfold out0_2
  rw [View.canon_unit_zero (S := S1024x1024) hz2, View.ld_unit_zero (S := S1024x1024) hz2, View.ld_unit_zero (S := S1x1024) hz2]

theorem index0 : ∀ t : Fin cfg0.N, win0_0.index t = ![t.val, 0] := by decide +kernel
theorem index1 : ∀ t : Fin cfg0.N, win0_1.index t = ![0, 0] := by decide +kernel
theorem indexOut : ∀ t : Fin cfg0.N, win0_2.index t = ![t.val, 0] := by decide +kernel

variable (m : (ℓ : Loc nD τ sig) → Buf (Elt Ideal) ℓ) (c : Dev nD)

theorem block0 (t : Fin cfg0.N) (r k : Fin 1024) :
    iblk m c 0 t (ix2 r k) = V m c main_arg0 (ix2 (⟨1024 * t.val + r.val, by have := lt_of_lt_of_eq t.isLt N_0; omega⟩ : Fin 8192) k) := by
  blk_ext [iblk, index0 t]

theorem block1 (t : Fin cfg0.N) (s : Fin 1024) : iblk m c 1 t (ix2 (0 : Fin 1) s) = V m c main_v0 (ix2 (0 : Fin 1) s) := by
  blk_ext [iblk, index1 t]

/-- The whole array's rows, normalised. -/
def rows (x : S8192x1024.Idx → EReal) (g : S1x1024.Idx → EReal) : S8192x1024.Idx → EReal := fun i =>
  normed (x i) (∑ k : Fin 1024, x (ix2 (i 0) k) * x (ix2 (i 0) k)) (g (ix2 0 (i 1)))

theorem rows_eq (x : S8192x1024.Idx → EReal) (g : S1x1024.Idx → EReal) (t : Fin cfg0.N) (r s : Fin 1024) (i : S8192x1024.Idx)
    (hr : (i 0).val = 1024 * t.val + r.val) (hs : (i 1).val = s.val) :
    normed (x (ix2 (⟨1024 * t.val + r.val, by have := lt_of_lt_of_eq t.isLt N_0; omega⟩ : Fin 8192) s))
      (∑ k : Fin 1024, x (ix2 (⟨1024 * t.val + r.val, by have := lt_of_lt_of_eq t.isLt N_0; omega⟩ : Fin 8192) k)
        * x (ix2 (⟨1024 * t.val + r.val, by have := lt_of_lt_of_eq t.isLt N_0; omega⟩ : Fin 8192) k)) (g (ix2 (0 : Fin 1) s)) = rows x g i := by
  obtain ⟨a, b, rfl⟩ : ∃ (a : Fin 8192) (b : Fin 1024), i = ix2 a b := ⟨i 0, i 1, (ix2_eta i).symm⟩
  rw [show a = ⟨1024 * t.val + r.val, by have := lt_of_lt_of_eq t.isLt N_0; omega⟩ from Fin.ext hr, show b = s from Fin.ext hs]
  rfl

theorem array : (dats m 0 c).arrAt 2 cfg0.N = rows (V m c main_arg0) (V m c main_v0) := by
  refine (dats m 0 c).arrAt_eq_of_covers 2 _ (by decide +kernel) fun t hf y => ?_
  have hN := lt_of_lt_of_eq t.isLt N_0
  blk_simp
  rw [after0_2]
  obtain ⟨r, s, rfl⟩ : ∃ r s : Fin 1024, y = ix2 r s := ⟨y 0, y 1, (ix2_eta y).symm⟩
  have h0 : win0_2.index t 0 = t.val := congrFun (indexOut t) 0
  have h1 : win0_2.index t 1 = 0 := congrFun (indexOut t) 1
  rw [out_eq]
  refine (payload (iblk m c 0 t) (iblk m c 1 t) r s).trans ?_
  simp only [block0, block1]
  refine rows_eq _ _ t r s _ ?_ ?_
  · show win0_2.index t 0 * 1024 + 1 * r.val = _
    rw [h0]
    omega
  · show win0_2.index t 1 * 1024 + 1 * s.val = _
    rw [h1]
    omega

/-- The gain as the call is given it: one row. -/
theorem entry : V m c main_v0 = shapeCast S1x1024 (m (c, Proc.tc.devRef main_arg1)) shapeCasts_S1024_S1x1024 := by
  show StableHlo.after hostOps0 (fun b => m (c, b)) (Proc.tc.devRef main_v0) = _
  simp only [hostOps0, StableHlo.TRef.binary, StableHlo.TRef.nullary, StableHlo.TRef.ternary,
    StableHlo.TRef.unary, StableHlo.TRef.toBuf, StableHlo.TRef.ofBuf, cast_eq]
  after_results_simp
  rfl

/-- The reference's norm at an index. -/
theorem ref_at (x : FVec Ideal S8192x1024 .f32) (g : FVec Ideal S1024 .f32) (r : Fin 8192) (s : Fin 1024) :
    Cert.ReferenceNormIdeal.Read.val_main_v13 (F := Ideal) x g (ix2 r s)
      = normed (x (ix2 r s)) (∑ k : Fin 1024, x (ix2 r k) * x (ix2 r k)) (g (ix1 s)) := by
  unfold normed
  rw [← Cert.ReferenceNormIdeal.Read.val_main_v13_eq]
  pointwise

theorem row_at (g : FVec Ideal S1024 .f32) (s : Fin 1024) : shapeCast S1x1024 g shapeCasts_S1024_S1x1024 (ix2 (0 : Fin 1) s) = g (ix1 s) := by
  pointwise

/-- The kernel's array is the reference's. -/
theorem result : (dats m 0 c).arrAt 2 cfg0.N
    = Cert.ReferenceNormIdeal.Read.val_main_v13 (F := Ideal) (m (c, Proc.tc.devRef main_arg0)) (m (c, Proc.tc.devRef main_arg1)) := by
  rw [array, entry, V_main_arg0]
  funext i
  obtain ⟨r, s, rfl⟩ : ∃ (r : Fin 8192) (s : Fin 1024), i = ix2 r s := ⟨i 0, i 1, (ix2_eta i).symm⟩
  refine Eq.trans ?_ (ref_at _ _ r s).symm
  exact congrArg (normed _ _) (row_at _ s)

theorem algebraic : Cert.algebraic_KernelNormIdeal_ReferenceNormIdeal := by
  intro m g m' g' _ hagree
  refine ⟨fun c => (dats m 0 c).arrAt 2 cfg0.N, Cert.KernelNormIdeal.Value.run_blocks m g,
    (θ_run Cert.ReferenceNormIdeal.defs _ _).mono (fun r h c => ?_) (Cert.ReferenceNormIdeal.Value.run m' g')⟩
  obtain ⟨a0, a1⟩ := hagree c
  exact ⟨(h c).1.trans ((Cert.ReferenceNormIdeal.Read.val_main_v13_eq _ _).trans
    ((congr (congrArg (Cert.ReferenceNormIdeal.Read.val_main_v13 (F := Ideal)) a0) a1).trans (result m c).symm)), (h c).2⟩

end Cert.Proof.Norm
-- ==== Proof.Gelu.lean ====
/- The S5 layer's activation: the scan's result plus the skip, through the smooth rectifier. Element by element the kernel's arithmetic is the reference's. -/
module

public import proofs.«01_k».proof.Defs
public import proofs.«01_k».proof.Proof.Linear
public import proofs.«01_k».proof.Proof.Gen.KernelGeluIdeal.Value
public import proofs.«01_k».proof.Proof.Gen.ReferenceGeluIdeal.Read

@[expose] public section

set_option maxRecDepth 16384

noncomputable section

namespace Cert.Proof.Gelu

open Idealize.ShloMosaic Idealize.ShloMosaic.Pointwise Idealize.ShloMosaic.TcCoe Idealize.ShloMosaic.Tactic
open Cert.Proof.Linear Cert.KernelGeluIdeal Cert.KernelGeluIdeal.Gen

/-- One element: the scan's, the skip's input and the skip's weight. -/
def act (y u d : EReal) : EReal :=
  (y + d * u) * (Ideal.ofBits .f32 0x3F000000#32 * (Ideal.ofBits .f32 0x3F800000#32
    + Ideal.tanh (Ideal.ofBits .f32 0x3F4C422A#32 * ((y + d * u)
      + Ideal.ofBits .f32 0x3D372713#32 * ((y + d * u) * ((y + d * u) * (y + d * u)))))))

/-- What one block's body computes. -/
theorem payload (y u : Vec Ideal S1024x512 .f32) (d : Vec Ideal S1x512 .f32) (r : Fin 1024) (s : Fin 512) :
    k0_pay1 (F := Ideal) y u d (ix2 r s) = act (y (ix2 r s)) (u (ix2 r s)) (d (ix2 0 s)) := by
  unfold act
  pointwise [k0_pay1]

theorem out_eq (y u : Vec Ideal S1024x512 .f32) (d : Vec Ideal S1x512 .f32) : out0_3 y u d = k0_pay1 (F := Ideal) y u d := by
  unfold out0_3
  rw [View.canon_unit_zero (S := S1024x512) hz2, View.ld_unit_zero (S := S1024x512) hz2, View.ld_unit_zero (S := S1024x512) hz2,
    View.ld_unit_zero (S := S1x512) hz2]

theorem index0 : ∀ t : Fin cfg0.N, win0_0.index t = ![t.val, 0] := by decide +kernel
theorem index1 : ∀ t : Fin cfg0.N, win0_1.index t = ![t.val, 0] := by decide +kernel
theorem index2 : ∀ t : Fin cfg0.N, win0_2.index t = ![0, 0] := by decide +kernel
theorem indexOut : ∀ t : Fin cfg0.N, win0_3.index t = ![t.val, 0] := by decide +kernel

variable (m : (ℓ : Loc nD τ sig) → Buf (Elt Ideal) ℓ) (c : Dev nD)

theorem block0 (t : Fin cfg0.N) (r : Fin 1024) (k : Fin 512) :
    iblk m c 0 t (ix2 r k) = V m c main_arg0 (ix2 (⟨1024 * t.val + r.val, by have := lt_of_lt_of_eq t.isLt N_0; omega⟩ : Fin 8192) k) := by
  blk_ext [iblk, index0 t]

theorem block1 (t : Fin cfg0.N) (r : Fin 1024) (k : Fin 512) :
    iblk m c 1 t (ix2 r k) = V m c main_arg1 (ix2 (⟨1024 * t.val + r.val, by have := lt_of_lt_of_eq t.isLt N_0; omega⟩ : Fin 8192) k) := by
  blk_ext [iblk, index1 t]

theorem block2 (t : Fin cfg0.N) (s : Fin 512) : iblk m c 2 t (ix2 (0 : Fin 1) s) = V m c main_v0 (ix2 (0 : Fin 1) s) := by
  blk_ext [iblk, index2 t]

/-- The whole array. -/
def rows (y u : S8192x512.Idx → EReal) (d : S1x512.Idx → EReal) : S8192x512.Idx → EReal := fun i => act (y i) (u i) (d (ix2 0 (i 1)))

theorem rows_eq (y u : S8192x512.Idx → EReal) (d : S1x512.Idx → EReal) (t : Fin cfg0.N) (r : Fin 1024) (s : Fin 512) (i : S8192x512.Idx)
    (hr : (i 0).val = 1024 * t.val + r.val) (hs : (i 1).val = s.val) :
    act (y (ix2 (⟨1024 * t.val + r.val, by have := lt_of_lt_of_eq t.isLt N_0; omega⟩ : Fin 8192) s)) (u (ix2 (⟨1024 * t.val + r.val, by have := lt_of_lt_of_eq t.isLt N_0; omega⟩ : Fin 8192) s)) (d (ix2 (0 : Fin 1) s)) = rows y u d i := by
  obtain ⟨a, b, rfl⟩ : ∃ (a : Fin 8192) (b : Fin 512), i = ix2 a b := ⟨i 0, i 1, (ix2_eta i).symm⟩
  rw [show a = (⟨1024 * t.val + r.val, by have := lt_of_lt_of_eq t.isLt N_0; omega⟩ : Fin 8192) from Fin.ext hr, show b = s from Fin.ext hs]
  rfl

theorem array : (dats m 0 c).arrAt 3 cfg0.N = rows (V m c main_arg0) (V m c main_arg1) (V m c main_v0) := by
  refine (dats m 0 c).arrAt_eq_of_covers 3 _ (by decide +kernel) fun t hf y => ?_
  blk_simp
  rw [after0_3]
  obtain ⟨r, s, rfl⟩ : ∃ (r : Fin 1024) (s : Fin 512), y = ix2 r s := ⟨y 0, y 1, (ix2_eta y).symm⟩
  have h0 : win0_3.index t 0 = t.val := congrFun (indexOut t) 0
  have h1 : win0_3.index t 1 = 0 := congrFun (indexOut t) 1
  rw [out_eq]
  refine (payload (iblk m c 0 t) (iblk m c 1 t) (iblk m c 2 t) r s).trans ?_
  simp only [block0, block1, block2]
  refine rows_eq _ _ _ t r s _ ?_ ?_
  · show win0_3.index t 0 * 1024 + 1 * r.val = _
    rw [h0]
    omega
  · show win0_3.index t 1 * 512 + 1 * s.val = _
    rw [h1]
    omega

/-- The skip's weights as the call is given them: one row. -/
theorem entry : V m c main_v0 = shapeCast S1x512 (m (c, Proc.tc.devRef main_arg2)) shapeCasts_S512_S1x512 := by
  show StableHlo.after hostOps0 (fun b => m (c, b)) (Proc.tc.devRef main_v0) = _
  simp only [hostOps0, StableHlo.TRef.binary, StableHlo.TRef.nullary, StableHlo.TRef.ternary,
    StableHlo.TRef.unary, StableHlo.TRef.toBuf, StableHlo.TRef.ofBuf, cast_eq]
  after_results_simp
  rfl

/-- The reference at an index: the cube is taken from the other side. -/
theorem ref_at (y u : FVec Ideal S8192x512 .f32) (d : FVec Ideal S512 .f32) (r : Fin 8192) (s : Fin 512) :
    Cert.ReferenceGeluIdeal.Read.val_main_v17 (F := Ideal) y u d (ix2 r s) = act (y (ix2 r s)) (u (ix2 r s)) (d (ix1 s)) := by
  unfold act
  rw [← Cert.ReferenceGeluIdeal.Read.val_main_v17_eq]
  rw [← mul_assoc (y (ix2 r s) + d (ix1 s) * u (ix2 r s)) (y (ix2 r s) + d (ix1 s) * u (ix2 r s))]
  pointwise

theorem row_at (d : FVec Ideal S512 .f32) (s : Fin 512) : shapeCast S1x512 d shapeCasts_S512_S1x512 (ix2 (0 : Fin 1) s) = d (ix1 s) := by
  pointwise

/-- The kernel's array is the reference's. -/
theorem result : (dats m 0 c).arrAt 3 cfg0.N
    = Cert.ReferenceGeluIdeal.Read.val_main_v17 (F := Ideal) (m (c, Proc.tc.devRef main_arg0)) (m (c, Proc.tc.devRef main_arg1))
      (m (c, Proc.tc.devRef main_arg2)) := by
  rw [array, entry, V_main_arg0, V_main_arg1]
  funext i
  obtain ⟨r, s, rfl⟩ : ∃ (r : Fin 8192) (s : Fin 512), i = ix2 r s := ⟨i 0, i 1, (ix2_eta i).symm⟩
  refine Eq.trans ?_ (ref_at _ _ _ r s).symm
  exact congrArg (act _ _) (row_at _ s)

theorem algebraic : Cert.algebraic_KernelGeluIdeal_ReferenceGeluIdeal := by
  intro m g m' g' _ hagree
  refine ⟨fun c => (dats m 0 c).arrAt 3 cfg0.N, Cert.KernelGeluIdeal.Value.run_blocks m g,
    (θ_run Cert.ReferenceGeluIdeal.defs _ _).mono (fun r h c => ?_) (Cert.ReferenceGeluIdeal.Value.run m' g')⟩
  obtain ⟨a0, a1, a2⟩ := hagree c
  exact ⟨(h c).1.trans ((Cert.ReferenceGeluIdeal.Read.val_main_v17_eq _ _ _).trans
    ((congr (congr (congrArg (Cert.ReferenceGeluIdeal.Read.val_main_v17 (F := Ideal)) a0) a1) a2).trans (result m c).symm)), (h c).2⟩

end Cert.Proof.Gelu
-- ==== Proof.GluOut.lean ====
/- The S5 layer's gate: the product's two halves with their biases, the first times the logistic of the second, added to the residual. Element by element the kernel's arithmetic is the reference's. -/
module

public import proofs.«01_k».proof.Defs
public import proofs.«01_k».proof.Proof.Linear
public import proofs.«01_k».proof.Proof.Gen.KernelGluOutIdeal.Value
public import proofs.«01_k».proof.Proof.Gen.ReferenceGluOutIdeal.Read

@[expose] public section

set_option maxRecDepth 16384

noncomputable section

namespace Cert.Proof.GluOut

open Idealize.ShloMosaic Idealize.ShloMosaic.Pointwise Idealize.ShloMosaic.TcCoe Idealize.ShloMosaic.Tactic
open Cert.Proof.Linear Cert.KernelGluOutIdeal Cert.KernelGluOutIdeal.Gen

/-- One element: the two halves of the product, the residual, the two halves of the bias. -/
def gate (p q x b e : EReal) : EReal := x + (p + b) * Ideal.logistic (q + e)

/-- What one block's body computes. -/
theorem payload (p q x : Vec Ideal S1024x1024 .f32) (b e : Vec Ideal S1x1024 .f32) (r s : Fin 1024) :
    k0_pay1 (F := Ideal) p q x b e (ix2 r s) = gate (p (ix2 r s)) (q (ix2 r s)) (x (ix2 r s)) (b (ix2 0 s)) (e (ix2 0 s)) := by
  unfold gate
  pointwise [k0_pay1]

theorem out_eq (p q x : Vec Ideal S1024x1024 .f32) (b e : Vec Ideal S1x1024 .f32) :
    out0_5 p q x b e = k0_pay1 (F := Ideal) p q x b e := by
  unfold out0_5
  rw [View.canon_unit_zero (S := S1024x1024) hz2]
  simp only [View.ld_unit_zero (S := S1024x1024) hz2, View.ld_unit_zero (S := S1x1024) hz2]

theorem index0 : ∀ t : Fin cfg0.N, win0_0.index t = ![t.val, 0] := by decide +kernel
theorem index1 : ∀ t : Fin cfg0.N, win0_1.index t = ![t.val, 1] := by decide +kernel
theorem index2 : ∀ t : Fin cfg0.N, win0_2.index t = ![t.val, 0] := by decide +kernel
theorem index3 : ∀ t : Fin cfg0.N, win0_3.index t = ![0, 0] := by decide +kernel
theorem index4 : ∀ t : Fin cfg0.N, win0_4.index t = ![0, 0] := by decide +kernel
theorem indexOut : ∀ t : Fin cfg0.N, win0_5.index t = ![t.val, 0] := by decide +kernel

variable (m : (ℓ : Loc nD τ sig) → Buf (Elt Ideal) ℓ) (c : Dev nD)

theorem block0 (t : Fin cfg0.N) (r k : Fin 1024) :
    iblk m c 0 t (ix2 r k) = V m c main_arg0 (ix2 (⟨1024 * t.val + r.val, by have := lt_of_lt_of_eq t.isLt N_0; omega⟩ : Fin 8192) (⟨k.val, by omega⟩ : Fin 2048)) := by
  blk_ext [iblk, index0 t]

theorem block1 (t : Fin cfg0.N) (r k : Fin 1024) :
    iblk m c 1 t (ix2 r k) = V m c main_arg0 (ix2 (⟨1024 * t.val + r.val, by have := lt_of_lt_of_eq t.isLt N_0; omega⟩ : Fin 8192) (⟨1024 + k.val, by omega⟩ : Fin 2048)) := by
  blk_ext [iblk, index1 t]

theorem block2 (t : Fin cfg0.N) (r k : Fin 1024) :
    iblk m c 2 t (ix2 r k) = V m c main_arg1 (ix2 (⟨1024 * t.val + r.val, by have := lt_of_lt_of_eq t.isLt N_0; omega⟩ : Fin 8192) k) := by
  blk_ext [iblk, index2 t]

theorem block3 (t : Fin cfg0.N) (s : Fin 1024) : iblk m c 3 t (ix2 (0 : Fin 1) s) = V m c main_v1 (ix2 (0 : Fin 1) s) := by
  blk_ext [iblk, index3 t]

theorem block4 (t : Fin cfg0.N) (s : Fin 1024) : iblk m c 4 t (ix2 (0 : Fin 1) s) = V m c main_v2 (ix2 (0 : Fin 1) s) := by
  blk_ext [iblk, index4 t]

/-- The gate at a row and a column of the result. -/
def cell (z : S8192x2048.Idx → EReal) (x : S8192x1024.Idx → EReal) (b e : S1x1024.Idx → EReal) (r : Fin 8192) (k : Fin 1024) : EReal :=
  gate (z (ix2 r (⟨k.val, by omega⟩ : Fin 2048))) (z (ix2 r (⟨1024 + k.val, by omega⟩ : Fin 2048))) (x (ix2 r k)) (b (ix2 (0 : Fin 1) k)) (e (ix2 (0 : Fin 1) k))

/-- The whole array. -/
def rows (z : S8192x2048.Idx → EReal) (x : S8192x1024.Idx → EReal) (b e : S1x1024.Idx → EReal) : S8192x1024.Idx → EReal :=
  fun i => cell z x b e (i 0) (i 1)

theorem rows_eq (z : S8192x2048.Idx → EReal) (x : S8192x1024.Idx → EReal) (b e : S1x1024.Idx → EReal) (t : Fin cfg0.N) (r s : Fin 1024)
    (i : S8192x1024.Idx) (hr : (i 0).val = 1024 * t.val + r.val) (hs : (i 1).val = s.val) :
    cell z x b e (⟨1024 * t.val + r.val, by have := lt_of_lt_of_eq t.isLt N_0; omega⟩ : Fin 8192) s = rows z x b e i := by
  obtain ⟨a, k, rfl⟩ : ∃ (a : Fin 8192) (k : Fin 1024), i = ix2 a k := ⟨i 0, i 1, (ix2_eta i).symm⟩
  rw [show a = (⟨1024 * t.val + r.val, by have := lt_of_lt_of_eq t.isLt N_0; omega⟩ : Fin 8192) from Fin.ext hr, show k = s from Fin.ext hs]
  rfl

theorem array : (dats m 0 c).arrAt 5 cfg0.N = rows (V m c main_arg0) (V m c main_arg1) (V m c main_v1) (V m c main_v2) := by
  refine (dats m 0 c).arrAt_eq_of_covers 5 _ (by decide +kernel) fun t hf y => ?_
  blk_simp
  rw [after0_5]
  obtain ⟨r, s, rfl⟩ : ∃ r s : Fin 1024, y = ix2 r s := ⟨y 0, y 1, (ix2_eta y).symm⟩
  have h0 : win0_5.index t 0 = t.val := congrFun (indexOut t) 0
  have h1 : win0_5.index t 1 = 0 := congrFun (indexOut t) 1
  rw [out_eq]
  refine (payload (iblk m c 0 t) (iblk m c 1 t) (iblk m c 2 t) (iblk m c 3 t) (iblk m c 4 t) r s).trans ?_
  simp only [block0, block1, block2, block3, block4]
  refine rows_eq _ _ _ _ t r s _ ?_ ?_
  · show win0_5.index t 0 * 1024 + 1 * r.val = _
    rw [h0]
    omega
  · show win0_5.index t 1 * 1024 + 1 * s.val = _
    rw [h1]
    omega

/-- The bias's first half as the call is given it: one row. -/
theorem entry1 : V m c main_v1 = extractStridedSlice S1x1024 ![0, 0]
    (shapeCast S1x2048 (m (c, Proc.tc.devRef main_arg2)) shapeCasts_S2048_S1x2048) slices_S1x2048_S1x1024_0_0 := by
  show StableHlo.after hostOps0 (fun b => m (c, b)) (Proc.tc.devRef main_v1) = _
  simp only [hostOps0, StableHlo.TRef.binary, StableHlo.TRef.nullary, StableHlo.TRef.ternary,
    StableHlo.TRef.unary, StableHlo.TRef.toBuf, StableHlo.TRef.ofBuf, cast_eq]
  after_results_simp
  rfl

/-- The bias's second half as the call is given it: one row. -/
theorem entry2 : V m c main_v2 = extractStridedSlice S1x1024 ![0, 1024]
    (shapeCast S1x2048 (m (c, Proc.tc.devRef main_arg2)) shapeCasts_S2048_S1x2048) slices_S1x2048_S1x1024_0_1024 := by
  show StableHlo.after hostOps0 (fun b => m (c, b)) (Proc.tc.devRef main_v2) = _
  simp only [hostOps0, StableHlo.TRef.binary, StableHlo.TRef.nullary, StableHlo.TRef.ternary,
    StableHlo.TRef.unary, StableHlo.TRef.toBuf, StableHlo.TRef.ofBuf, cast_eq]
  after_results_simp
  rfl

/-- The reference at an index. -/
theorem ref_at (z : FVec Ideal S8192x2048 .f32) (x : FVec Ideal S8192x1024 .f32) (b : FVec Ideal S2048 .f32) (r : Fin 8192) (k : Fin 1024) :
    Cert.ReferenceGluOutIdeal.Read.val_main_v12 (F := Ideal) z x b (ix2 r k)
      = gate (z (ix2 r (⟨k.val, by omega⟩ : Fin 2048))) (z (ix2 r (⟨1024 + k.val, by omega⟩ : Fin 2048))) (x (ix2 r k)) (b (ix1 (⟨k.val, by omega⟩ : Fin 2048))) (b (ix1 (⟨1024 + k.val, by omega⟩ : Fin 2048))) := by
  unfold gate Ideal.logistic
  rw [← Cert.ReferenceGluOutIdeal.Read.val_main_v12_eq]
  pointwise

theorem low_at (b : FVec Ideal S2048 .f32) (k : Fin 1024) : extractStridedSlice S1x1024 ![0, 0]
    (shapeCast S1x2048 b shapeCasts_S2048_S1x2048) slices_S1x2048_S1x1024_0_0 (ix2 (0 : Fin 1) k) = b (ix1 (⟨k.val, by omega⟩ : Fin 2048)) := by
  pointwise

theorem high_at (b : FVec Ideal S2048 .f32) (k : Fin 1024) : extractStridedSlice S1x1024 ![0, 1024]
    (shapeCast S1x2048 b shapeCasts_S2048_S1x2048) slices_S1x2048_S1x1024_0_1024 (ix2 (0 : Fin 1) k) = b (ix1 (⟨1024 + k.val, by omega⟩ : Fin 2048)) := by
  pointwise

/-- The kernel's array is the reference's. -/
theorem result : (dats m 0 c).arrAt 5 cfg0.N
    = Cert.ReferenceGluOutIdeal.Read.val_main_v12 (F := Ideal) (m (c, Proc.tc.devRef main_arg0)) (m (c, Proc.tc.devRef main_arg1))
      (m (c, Proc.tc.devRef main_arg2)) := by
  rw [array, entry1, entry2, V_main_arg0, V_main_arg1]
  funext i
  obtain ⟨r, k, rfl⟩ : ∃ (r : Fin 8192) (k : Fin 1024), i = ix2 r k := ⟨i 0, i 1, (ix2_eta i).symm⟩
  refine Eq.trans ?_ (ref_at _ _ _ r k).symm
  exact congrArg₂ (gate _ _ _) (low_at _ k) (high_at _ k)

theorem algebraic : Cert.algebraic_KernelGluOutIdeal_ReferenceGluOutIdeal := by
  intro m g m' g' _ hagree
  refine ⟨fun c => (dats m 0 c).arrAt 5 cfg0.N, Cert.KernelGluOutIdeal.Value.run_blocks m g,
    (θ_run Cert.ReferenceGluOutIdeal.defs _ _).mono (fun r h c => ?_) (Cert.ReferenceGluOutIdeal.Value.run m' g')⟩
  obtain ⟨a0, a1, a2⟩ := hagree c
  exact ⟨(h c).1.trans ((Cert.ReferenceGluOutIdeal.Read.val_main_v12_eq _ _ _).trans
    ((congr (congr (congrArg (Cert.ReferenceGluOutIdeal.Read.val_main_v12 (F := Ideal)) a0) a1) a2).trans (result m c).symm)), (h c).2⟩

end Cert.Proof.GluOut
-- ==== Proof.Adam.lean ====
/- One step of AdamW, element by element: the sum of the devices' parts of a gradient, the two moments, and the weight's change. -/
module

public import proofs.«01_k».proof.Proof.Linear

@[expose] public section

noncomputable section

namespace Cert.Proof.Adam

open Idealize.ShloMosaic Idealize.ShloMosaic.Pointwise

/-- The eight devices' parts, added from the first on. -/
def parts (p : Fin 8 → EReal) : EReal := p 0 + p 1 + p 2 + p 3 + p 4 + p 5 + p 6 + p 7

theorem sum_parts (p : Fin 8 → EReal) : Ideal.ofBits .f32 0x00000000#32 + ∑ n : Fin 8, p n = parts p := by
  rw [Ideal.ofBits_zero, zero_add, Fin.sum_univ_eight]
  rfl

/-- The gradient's running mean. -/
def first (g m : EReal) : EReal := Ideal.ofBits .f32 0x3F666666#32 * m + Ideal.ofBits .f32 0x3DCCCCCD#32 * g

/-- The running mean of its square. -/
def second (g v : EReal) : EReal := Ideal.ofBits .f32 0x3F7FBE77#32 * v + Ideal.ofBits .f32 0x3A83126F#32 * (g * g)

/-- The weight's change. -/
def change (g w m v : EReal) : EReal :=
  Ideal.ofBits .f32 0xBA83126F#32 * (Ideal.div (Ideal.div (first g m) (Ideal.ofBits .f32 0x3F26BD02#32))
      (Ideal.sqrt (Ideal.div (second g v) (Ideal.ofBits .f32 0x3C231ACC#32)) + Ideal.ofBits .f32 0x322BCC77#32)
    + Ideal.ofBits .f32 0x3C23D70A#32 * w)

/-- A result of the step as a function of the gradient, the weight and the two moments. -/
abbrev Fn := EReal → EReal → EReal → EReal → EReal

def fnG : Fn := fun g _ _ _ => g
def fnM : Fn := fun g _ m _ => first g m
def fnV : Fn := fun g _ _ v => second g v

/-- Where a block's row and column lie in the array. -/
theorem row_at {T t r : ℕ} {x : Fin 2 → ℕ} (h : x = ![t, 0]) : x 0 * T + 1 * r = T * t + r := by
  rw [h]
  show t * T + 1 * r = _
  rw [mul_comm, one_mul]

theorem col_at {T t r : ℕ} {x : Fin 2 → ℕ} (h : x = ![t, 0]) : x 1 * T + 1 * r = r := by
  rw [h]
  show 0 * T + 1 * r = _
  omega

section Arrays

variable {R C : ℕ} (f : Fn) (p : (⟨3, ![8, R, C]⟩ : Shape).Idx → EReal)
  (w m v : (⟨2, ![R, C]⟩ : Shape).Idx → EReal)

/-- A function of the gradient, the weight and the two moments, at every element of a shard. -/
def each : (⟨2, ![R, C]⟩ : Shape).Idx → EReal := fun i =>
  f (parts fun n => p (ix3 n (i 0) (i 1))) (w i) (m i) (v i)

/-- A block of a shard: what is done to the block's elements is done to the shard's. -/
theorem each_block {T : ℕ} (p' : (⟨3, ![8, T, C]⟩ : Shape).Idx → EReal) (w' m' v' : (⟨2, ![T, C]⟩ : Shape).Idx → EReal) (r : Fin T) (a : Fin R) (s : Fin C)
    (hp : ∀ n, p' (ix3 n r s) = p (ix3 n a s)) (hw : w' (ix2 r s) = w (ix2 a s)) (hm : m' (ix2 r s) = m (ix2 a s)) (hv : v' (ix2 r s) = v (ix2 a s))
    (i : (⟨2, ![R, C]⟩ : Shape).Idx) (ha : (i 0).val = a.val) (hs : (i 1).val = s.val) :
    each f p' w' m' v' (ix2 r s) = each f p w m v i := by
  obtain ⟨a', s', rfl⟩ : ∃ (a' : Fin R) (s' : Fin C), i = ix2 a' s' := ⟨i 0, i 1, (ix2_eta i).symm⟩
  rw [show a' = a from Fin.ext ha, show s' = s from Fin.ext hs]
  show f (parts fun n => p' (ix3 n r s)) _ _ _ = f (parts fun n => p (ix3 n a s)) _ _ _
  rw [hw, hm, hv, funext hp]

end Arrays

end Cert.Proof.Adam
-- ==== Proof.AdamUp.lean ====
/- The optimiser's step on a shard of the up-projection's weight: block by block the call's four results are the reference's. -/
module

public import proofs.«01_k».proof.Defs
public import proofs.«01_k».proof.Proof.Adam
public import proofs.«01_k».proof.Proof.Gen.KernelAdamUpIdeal.Value
public import proofs.«01_k».proof.Proof.Gen.ReferenceAdamUpIdeal.Read

@[expose] public section

set_option maxRecDepth 16384

noncomputable section

namespace Cert.Proof.AdamUp

open Idealize.ShloMosaic Idealize.ShloMosaic.Pointwise Idealize.ShloMosaic.TcCoe Idealize.ShloMosaic.Tactic
open Cert.Proof.Linear Cert.Proof.Adam Cert.KernelAdamUpIdeal Cert.KernelAdamUpIdeal.Gen

section Payload

variable (p : Vec Ideal S8x256x704 .bf16) (w m v : Vec Ideal S256x704 .f32)

theorem parts_eq : k0_pay5 (F := Ideal) p w m v = each fnG p w m v := by
  funext i
  obtain ⟨r, s, rfl⟩ : ∃ (r : Fin 256) (s : Fin 704), i = ix2 r s := ⟨i 0, i 1, (ix2_eta i).symm⟩
  show _ = parts fun n => p (ix3 n r s)
  unfold k0_pay5 parts
  pointwise [k0_pay4]

theorem out4 : out0_4 (F := Ideal) p w m v = each fnG p w m v := by
  unfold out0_4
  rw [View.canon_unit_zero (S := S256x704) hz2, parts_eq]

theorem out5 : out0_5 (F := Ideal) p w m v = each change p w m v := by
  unfold out0_5
  rw [View.canon_unit_zero (S := S256x704) hz2, parts_eq]
  simp only [View.ld_unit_zero (S := S256x704) hz2]
  rfl

theorem out6 : out0_6 (F := Ideal) p w m v = each fnM p w m v := by
  unfold out0_6
  rw [View.canon_unit_zero (S := S256x704) hz2, View.ld_unit_zero (S := S256x704) hz2, parts_eq]
  rfl

theorem out7 : out0_7 (F := Ideal) p w m v = each fnV p w m v := by
  unfold out0_7
  rw [View.canon_unit_zero (S := S256x704) hz2, View.ld_unit_zero (S := S256x704) hz2, parts_eq]
  rfl

end Payload

theorem index : ∀ t : Fin cfg0.N, win0_0.index t = ![0, t.val, 0] ∧ win0_1.index t = ![t.val, 0] ∧ win0_2.index t = ![t.val, 0]
    ∧ win0_3.index t = ![t.val, 0] := by decide +kernel

theorem index_out : ∀ t : Fin cfg0.N, win0_4.index t = ![t.val, 0] ∧ win0_5.index t = ![t.val, 0] ∧ win0_6.index t = ![t.val, 0]
    ∧ win0_7.index t = ![t.val, 0] := by decide +kernel

section Arrays

variable (m : (ℓ : Loc nD τ sig) → Buf (Elt Ideal) ℓ) (c : Dev nD) (f : Fn)

/-- What the call leaves in a result: a function of the four arguments, element by element. -/
def left : S1024x704.Idx → EReal := each f (V m c main_arg0) (V m c main_arg1) (V m c main_arg2) (V m c main_arg3)

/-- A block of that. -/
theorem left_block (t : Fin cfg0.N) (y : S256x704.Idx) (i : S1024x704.Idx) (h0 : (i 0).val = 256 * t.val + (y 0).val) (h1 : (i 1).val = (y 1).val) :
    each f (iblk m c 0 t) (iblk m c 1 t) (iblk m c 2 t) (iblk m c 3 t) y = left m c f i := by
  obtain ⟨r, s, rfl⟩ : ∃ (r : Fin 256) (s : Fin 704), y = ix2 r s := ⟨y 0, y 1, (ix2_eta y).symm⟩
  refine each_block f _ _ _ _ _ _ _ _ r (⟨256 * t.val + r.val, by have := lt_of_lt_of_eq t.isLt N_0; omega⟩ : Fin 1024) s (fun n => ?_) ?_ ?_ ?_ i h0 h1
  · blk_ext [iblk, (index t).1]
  · blk_ext [iblk, (index t).2.1]
  · blk_ext [iblk, (index t).2.2.1]
  · blk_ext [iblk, (index t).2.2.2]

theorem array4 : (dats m 0 c).arrAt 4 cfg0.N = left m c fnG := by
  refine (dats m 0 c).arrAt_eq_of_covers 4 _ (by decide +kernel) fun t hf y => ?_
  blk_simp
  rw [after0_4, out4]
  exact left_block m c fnG t y _ (row_at (index_out t).1) (col_at (index_out t).1)

theorem array5 : (dats m 0 c).arrAt 5 cfg0.N = left m c change := by
  refine (dats m 0 c).arrAt_eq_of_covers 5 _ (by decide +kernel) fun t hf y => ?_
  blk_simp
  rw [after0_5, out5]
  exact left_block m c change t y _ (row_at (index_out t).2.1) (col_at (index_out t).2.1)

theorem array6 : (dats m 0 c).arrAt 6 cfg0.N = left m c fnM := by
  refine (dats m 0 c).arrAt_eq_of_covers 6 _ (by decide +kernel) fun t hf y => ?_
  blk_simp
  rw [after0_6, out6]
  exact left_block m c fnM t y _ (row_at (index_out t).2.2.1) (col_at (index_out t).2.2.1)

theorem array7 : (dats m 0 c).arrAt 7 cfg0.N = left m c fnV := by
  refine (dats m 0 c).arrAt_eq_of_covers 7 _ (by decide +kernel) fun t hf y => ?_
  blk_simp
  rw [after0_7, out7]
  exact left_block m c fnV t y _ (row_at (index_out t).2.2.2) (col_at (index_out t).2.2.2)

end Arrays

section Reference

open Cert.ReferenceAdamUpIdeal.Read

variable (p : FVec Ideal S8x1024x704 .bf16) (w m v : FVec Ideal S1024x704 .f32)

theorem ref_g : each fnG p w m v = val_main_v1 (F := Ideal) p := by
  funext i
  obtain ⟨r, s, rfl⟩ : ∃ (r : Fin 1024) (s : Fin 704), i = ix2 r s := ⟨i 0, i 1, (ix2_eta i).symm⟩
  refine (sum_parts fun n => p (ix3 n r s)).symm.trans ?_
  rw [← val_main_v1_eq]
  pointwise

theorem ref_m : each fnM p w m v = val_main_v6 (F := Ideal) p m := by
  funext i
  show first (each fnG p w m v i) _ = _
  rw [ref_g]
  rfl

theorem ref_v : each fnV p w m v = val_main_v12 (F := Ideal) p v := by
  funext i
  show second (each fnG p w m v i) _ = _
  rw [ref_g]
  rfl

theorem ref_d : each change p w m v = val_main_v25 (F := Ideal) p w m v := by
  funext i
  show change (each fnG p w m v i) _ _ _ = _
  rw [ref_g]
  rfl

end Reference

theorem algebraic : Cert.algebraic_KernelAdamUpIdeal_ReferenceAdamUpIdeal := by
  intro m g m' g' _ hagree
  refine ⟨fun c => (dats m 0 c).arrAt 4 cfg0.N, fun c => (dats m 0 c).arrAt 5 cfg0.N, fun c => (dats m 0 c).arrAt 6 cfg0.N,
    fun c => (dats m 0 c).arrAt 7 cfg0.N, Cert.KernelAdamUpIdeal.Value.run_blocks m g,
    (θ_run Cert.ReferenceAdamUpIdeal.defs _ _).mono (fun r h c => ?_) (Cert.ReferenceAdamUpIdeal.Value.run m' g')⟩
  obtain ⟨a0, a1, a2, a3⟩ := hagree c
  refine ⟨(h c).1.trans ?_, (h c).2.1.trans ?_, (h c).2.2.1.trans ?_, (h c).2.2.2.1.trans ?_, (h c).2.2.2.2⟩
  · refine (Cert.ReferenceAdamUpIdeal.Read.val_main_v1_eq _).trans ?_
    rw [a0]
    exact ((array4 m c).trans (ref_g _ _ _ _)).symm
  · refine (Cert.ReferenceAdamUpIdeal.Read.val_main_v25_eq _ _ _ _).trans ?_
    rw [a0, a1, a2, a3]
    exact ((array5 m c).trans (ref_d _ _ _ _)).symm
  · refine (Cert.ReferenceAdamUpIdeal.Read.val_main_v6_eq _ _).trans ?_
    rw [a0, a2]
    exact ((array6 m c).trans (ref_m _ _ _ _)).symm
  · refine (Cert.ReferenceAdamUpIdeal.Read.val_main_v12_eq _ _).trans ?_
    rw [a0, a3]
    exact ((array7 m c).trans (ref_v _ _ _ _)).symm

end Cert.Proof.AdamUp
-- ==== Proof.AdamDown.lean ====
/- The optimiser's step on a shard of the down-projection's weight: block by block the call's four results are the reference's. -/
module

public import proofs.«01_k».proof.Defs
public import proofs.«01_k».proof.Proof.Adam
public import proofs.«01_k».proof.Proof.Gen.KernelAdamDownIdeal.Value
public import proofs.«01_k».proof.Proof.Gen.ReferenceAdamDownIdeal.Read

@[expose] public section

set_option maxRecDepth 16384

noncomputable section

namespace Cert.Proof.AdamDown

open Idealize.ShloMosaic Idealize.ShloMosaic.Pointwise Idealize.ShloMosaic.TcCoe Idealize.ShloMosaic.Tactic
open Cert.Proof.Linear Cert.Proof.Adam Cert.KernelAdamDownIdeal Cert.KernelAdamDownIdeal.Gen

section Payload

variable (p : Vec Ideal S8x352x1024 .bf16) (w m v : Vec Ideal S352x1024 .f32)

theorem parts_eq : k0_pay5 (F := Ideal) p w m v = each fnG p w m v := by
  funext i
  obtain ⟨r, s, rfl⟩ : ∃ (r : Fin 352) (s : Fin 1024), i = ix2 r s := ⟨i 0, i 1, (ix2_eta i).symm⟩
  show _ = parts fun n => p (ix3 n r s)
  unfold k0_pay5 parts
  pointwise [k0_pay4]

theorem out4 : out0_4 (F := Ideal) p w m v = each fnG p w m v := by
  unfold out0_4
  rw [View.canon_unit_zero (S := S352x1024) hz2, parts_eq]

theorem out5 : out0_5 (F := Ideal) p w m v = each change p w m v := by
  unfold out0_5
  rw [View.canon_unit_zero (S := S352x1024) hz2, parts_eq]
  simp only [View.ld_unit_zero (S := S352x1024) hz2]
  rfl

theorem out6 : out0_6 (F := Ideal) p w m v = each fnM p w m v := by
  unfold out0_6
  rw [View.canon_unit_zero (S := S352x1024) hz2, View.ld_unit_zero (S := S352x1024) hz2, parts_eq]
  rfl

theorem out7 : out0_7 (F := Ideal) p w m v = each fnV p w m v := by
  unfold out0_7
  rw [View.canon_unit_zero (S := S352x1024) hz2, View.ld_unit_zero (S := S352x1024) hz2, parts_eq]
  rfl

end Payload

theorem index : ∀ t : Fin cfg0.N, win0_0.index t = ![0, t.val, 0] ∧ win0_1.index t = ![t.val, 0] ∧ win0_2.index t = ![t.val, 0]
    ∧ win0_3.index t = ![t.val, 0] := by decide +kernel

theorem index_out : ∀ t : Fin cfg0.N, win0_4.index t = ![t.val, 0] ∧ win0_5.index t = ![t.val, 0] ∧ win0_6.index t = ![t.val, 0]
    ∧ win0_7.index t = ![t.val, 0] := by decide +kernel

section Arrays

variable (m : (ℓ : Loc nD τ sig) → Buf (Elt Ideal) ℓ) (c : Dev nD) (f : Fn)

/-- What the call leaves in a result: a function of the four arguments, element by element. -/
def left : S352x1024.Idx → EReal := each f (V m c main_arg0) (V m c main_arg1) (V m c main_arg2) (V m c main_arg3)

/-- A block of that. -/
theorem left_block (t : Fin cfg0.N) (y : S352x1024.Idx) (i : S352x1024.Idx) (h0 : (i 0).val = 352 * t.val + (y 0).val) (h1 : (i 1).val = (y 1).val) :
    each f (iblk m c 0 t) (iblk m c 1 t) (iblk m c 2 t) (iblk m c 3 t) y = left m c f i := by
  obtain ⟨r, s, rfl⟩ : ∃ (r : Fin 352) (s : Fin 1024), y = ix2 r s := ⟨y 0, y 1, (ix2_eta y).symm⟩
  refine each_block f _ _ _ _ _ _ _ _ r (⟨352 * t.val + r.val, by have := lt_of_lt_of_eq t.isLt N_0; omega⟩ : Fin 352) s (fun n => ?_) ?_ ?_ ?_ i h0 h1
  · blk_ext [iblk, (index t).1]
  · blk_ext [iblk, (index t).2.1]
  · blk_ext [iblk, (index t).2.2.1]
  · blk_ext [iblk, (index t).2.2.2]

theorem array4 : (dats m 0 c).arrAt 4 cfg0.N = left m c fnG := by
  refine (dats m 0 c).arrAt_eq_of_covers 4 _ (by decide +kernel) fun t hf y => ?_
  blk_simp
  rw [after0_4, out4]
  exact left_block m c fnG t y _ (row_at (index_out t).1) (col_at (index_out t).1)

theorem array5 : (dats m 0 c).arrAt 5 cfg0.N = left m c change := by
  refine (dats m 0 c).arrAt_eq_of_covers 5 _ (by decide +kernel) fun t hf y => ?_
  blk_simp
  rw [after0_5, out5]
  exact left_block m c change t y _ (row_at (index_out t).2.1) (col_at (index_out t).2.1)

theorem array6 : (dats m 0 c).arrAt 6 cfg0.N = left m c fnM := by
  refine (dats m 0 c).arrAt_eq_of_covers 6 _ (by decide +kernel) fun t hf y => ?_
  blk_simp
  rw [after0_6, out6]
  exact left_block m c fnM t y _ (row_at (index_out t).2.2.1) (col_at (index_out t).2.2.1)

theorem array7 : (dats m 0 c).arrAt 7 cfg0.N = left m c fnV := by
  refine (dats m 0 c).arrAt_eq_of_covers 7 _ (by decide +kernel) fun t hf y => ?_
  blk_simp
  rw [after0_7, out7]
  exact left_block m c fnV t y _ (row_at (index_out t).2.2.2) (col_at (index_out t).2.2.2)

end Arrays

section Reference

open Cert.ReferenceAdamDownIdeal.Read

variable (p : FVec Ideal S8x352x1024 .bf16) (w m v : FVec Ideal S352x1024 .f32)

theorem ref_g : each fnG p w m v = val_main_v1 (F := Ideal) p := by
  funext i
  obtain ⟨r, s, rfl⟩ : ∃ (r : Fin 352) (s : Fin 1024), i = ix2 r s := ⟨i 0, i 1, (ix2_eta i).symm⟩
  refine (sum_parts fun n => p (ix3 n r s)).symm.trans ?_
  rw [← val_main_v1_eq]
  pointwise

theorem ref_m : each fnM p w m v = val_main_v6 (F := Ideal) p m := by
  funext i
  show first (each fnG p w m v i) _ = _
  rw [ref_g]
  rfl

theorem ref_v : each fnV p w m v = val_main_v12 (F := Ideal) p v := by
  funext i
  show second (each fnG p w m v i) _ = _
  rw [ref_g]
  rfl

theorem ref_d : each change p w m v = val_main_v25 (F := Ideal) p w m v := by
  funext i
  show change (each fnG p w m v i) _ _ _ = _
  rw [ref_g]
  rfl

end Reference

theorem algebraic : Cert.algebraic_KernelAdamDownIdeal_ReferenceAdamDownIdeal := by
  intro m g m' g' _ hagree
  refine ⟨fun c => (dats m 0 c).arrAt 4 cfg0.N, fun c => (dats m 0 c).arrAt 5 cfg0.N, fun c => (dats m 0 c).arrAt 6 cfg0.N,
    fun c => (dats m 0 c).arrAt 7 cfg0.N, Cert.KernelAdamDownIdeal.Value.run_blocks m g,
    (θ_run Cert.ReferenceAdamDownIdeal.defs _ _).mono (fun r h c => ?_) (Cert.ReferenceAdamDownIdeal.Value.run m' g')⟩
  obtain ⟨a0, a1, a2, a3⟩ := hagree c
  refine ⟨(h c).1.trans ?_, (h c).2.1.trans ?_, (h c).2.2.1.trans ?_, (h c).2.2.2.1.trans ?_, (h c).2.2.2.2⟩
  · refine (Cert.ReferenceAdamDownIdeal.Read.val_main_v1_eq _).trans ?_
    rw [a0]
    exact ((array4 m c).trans (ref_g _ _ _ _)).symm
  · refine (Cert.ReferenceAdamDownIdeal.Read.val_main_v25_eq _ _ _ _).trans ?_
    rw [a0, a1, a2, a3]
    exact ((array5 m c).trans (ref_d _ _ _ _)).symm
  · refine (Cert.ReferenceAdamDownIdeal.Read.val_main_v6_eq _ _).trans ?_
    rw [a0, a2]
    exact ((array6 m c).trans (ref_m _ _ _ _)).symm
  · refine (Cert.ReferenceAdamDownIdeal.Read.val_main_v12_eq _ _).trans ?_
    rw [a0, a3]
    exact ((array7 m c).trans (ref_v _ _ _ _)).symm

end Cert.Proof.AdamDown
-- ==== Proof.AdamIn.lean ====
/- The optimiser's step on a shard of the attention layer's input projection's weight: block by block the call's four results are the reference's. -/
module

public import proofs.«01_k».proof.Defs
public import proofs.«01_k».proof.Proof.Adam
public import proofs.«01_k».proof.Proof.Gen.KernelAdamInIdeal.Value
public import proofs.«01_k».proof.Proof.Gen.ReferenceAdamInIdeal.Read

@[expose] public section

set_option maxRecDepth 16384

noncomputable section

namespace Cert.Proof.AdamIn

open Idealize.ShloMosaic Idealize.ShloMosaic.Pointwise Idealize.ShloMosaic.TcCoe Idealize.ShloMosaic.Tactic
open Cert.Proof.Linear Cert.Proof.Adam Cert.KernelAdamInIdeal Cert.KernelAdamInIdeal.Gen

section Payload

variable (p : Vec Ideal S8x256x180 .bf16) (w m v : Vec Ideal S256x180 .f32)

theorem parts_eq : k0_pay5 (F := Ideal) p w m v = each fnG p w m v := by
  funext i
  obtain ⟨r, s, rfl⟩ : ∃ (r : Fin 256) (s : Fin 180), i = ix2 r s := ⟨i 0, i 1, (ix2_eta i).symm⟩
  show _ = parts fun n => p (ix3 n r s)
  unfold k0_pay5 parts
  pointwise [k0_pay4]

theorem out4 : out0_4 (F := Ideal) p w m v = each fnG p w m v := by
  unfold out0_4
  rw [View.canon_unit_zero (S := S256x180) hz2, parts_eq]

theorem out5 : out0_5 (F := Ideal) p w m v = each change p w m v := by
  unfold out0_5
  rw [View.canon_unit_zero (S := S256x180) hz2, parts_eq]
  simp only [View.ld_unit_zero (S := S256x180) hz2]
  rfl

theorem out6 : out0_6 (F := Ideal) p w m v = each fnM p w m v := by
  unfold out0_6
  rw [View.canon_unit_zero (S := S256x180) hz2, View.ld_unit_zero (S := S256x180) hz2, parts_eq]
  rfl

theorem out7 : out0_7 (F := Ideal) p w m v = each fnV p w m v := by
  unfold out0_7
  rw [View.canon_unit_zero (S := S256x180) hz2, View.ld_unit_zero (S := S256x180) hz2, parts_eq]
  rfl

end Payload

theorem index : ∀ t : Fin cfg0.N, win0_0.index t = ![0, t.val, 0] ∧ win0_1.index t = ![t.val, 0] ∧ win0_2.index t = ![t.val, 0]
    ∧ win0_3.index t = ![t.val, 0] := by decide +kernel

theorem index_out : ∀ t : Fin cfg0.N, win0_4.index t = ![t.val, 0] ∧ win0_5.index t = ![t.val, 0] ∧ win0_6.index t = ![t.val, 0]
    ∧ win0_7.index t = ![t.val, 0] := by decide +kernel

section Arrays

variable (m : (ℓ : Loc nD τ sig) → Buf (Elt Ideal) ℓ) (c : Dev nD) (f : Fn)

/-- What the call leaves in a result: a function of the four arguments, element by element. -/
def left : S1024x180.Idx → EReal := each f (V m c main_arg0) (V m c main_arg1) (V m c main_arg2) (V m c main_arg3)

/-- A block of that. -/
theorem left_block (t : Fin cfg0.N) (y : S256x180.Idx) (i : S1024x180.Idx) (h0 : (i 0).val = 256 * t.val + (y 0).val) (h1 : (i 1).val = (y 1).val) :
    each f (iblk m c 0 t) (iblk m c 1 t) (iblk m c 2 t) (iblk m c 3 t) y = left m c f i := by
  obtain ⟨r, s, rfl⟩ : ∃ (r : Fin 256) (s : Fin 180), y = ix2 r s := ⟨y 0, y 1, (ix2_eta y).symm⟩
  refine each_block f _ _ _ _ _ _ _ _ r (⟨256 * t.val + r.val, by have := lt_of_lt_of_eq t.isLt N_0; omega⟩ : Fin 1024) s (fun n => ?_) ?_ ?_ ?_ i h0 h1
  · blk_ext [iblk, (index t).1]
  · blk_ext [iblk, (index t).2.1]
  · blk_ext [iblk, (index t).2.2.1]
  · blk_ext [iblk, (index t).2.2.2]

theorem array4 : (dats m 0 c).arrAt 4 cfg0.N = left m c fnG := by
  refine (dats m 0 c).arrAt_eq_of_covers 4 _ (by decide +kernel) fun t hf y => ?_
  blk_simp
  rw [after0_4, out4]
  exact left_block m c fnG t y _ (row_at (index_out t).1) (col_at (index_out t).1)

theorem array5 : (dats m 0 c).arrAt 5 cfg0.N = left m c change := by
  refine (dats m 0 c).arrAt_eq_of_covers 5 _ (by decide +kernel) fun t hf y => ?_
  blk_simp
  rw [after0_5, out5]
  exact left_block m c change t y _ (row_at (index_out t).2.1) (col_at (index_out t).2.1)

theorem array6 : (dats m 0 c).arrAt 6 cfg0.N = left m c fnM := by
  refine (dats m 0 c).arrAt_eq_of_covers 6 _ (by decide +kernel) fun t hf y => ?_
  blk_simp
  rw [after0_6, out6]
  exact left_block m c fnM t y _ (row_at (index_out t).2.2.1) (col_at (index_out t).2.2.1)

theorem array7 : (dats m 0 c).arrAt 7 cfg0.N = left m c fnV := by
  refine (dats m 0 c).arrAt_eq_of_covers 7 _ (by decide +kernel) fun t hf y => ?_
  blk_simp
  rw [after0_7, out7]
  exact left_block m c fnV t y _ (row_at (index_out t).2.2.2) (col_at (index_out t).2.2.2)

end Arrays

section Reference

open Cert.ReferenceAdamInIdeal.Read

variable (p : FVec Ideal S8x1024x180 .bf16) (w m v : FVec Ideal S1024x180 .f32)

theorem ref_g : each fnG p w m v = val_main_v1 (F := Ideal) p := by
  funext i
  obtain ⟨r, s, rfl⟩ : ∃ (r : Fin 1024) (s : Fin 180), i = ix2 r s := ⟨i 0, i 1, (ix2_eta i).symm⟩
  refine (sum_parts fun n => p (ix3 n r s)).symm.trans ?_
  rw [← val_main_v1_eq]
  pointwise

theorem ref_m : each fnM p w m v = val_main_v6 (F := Ideal) p m := by
  funext i
  show first (each fnG p w m v i) _ = _
  rw [ref_g]
  rfl

theorem ref_v : each fnV p w m v = val_main_v12 (F := Ideal) p v := by
  funext i
  show second (each fnG p w m v i) _ = _
  rw [ref_g]
  rfl

theorem ref_d : each change p w m v = val_main_v25 (F := Ideal) p w m v := by
  funext i
  show change (each fnG p w m v i) _ _ _ = _
  rw [ref_g]
  rfl

end Reference

theorem algebraic : Cert.algebraic_KernelAdamInIdeal_ReferenceAdamInIdeal := by
  intro m g m' g' _ hagree
  refine ⟨fun c => (dats m 0 c).arrAt 4 cfg0.N, fun c => (dats m 0 c).arrAt 5 cfg0.N, fun c => (dats m 0 c).arrAt 6 cfg0.N,
    fun c => (dats m 0 c).arrAt 7 cfg0.N, Cert.KernelAdamInIdeal.Value.run_blocks m g,
    (θ_run Cert.ReferenceAdamInIdeal.defs _ _).mono (fun r h c => ?_) (Cert.ReferenceAdamInIdeal.Value.run m' g')⟩
  obtain ⟨a0, a1, a2, a3⟩ := hagree c
  refine ⟨(h c).1.trans ?_, (h c).2.1.trans ?_, (h c).2.2.1.trans ?_, (h c).2.2.2.1.trans ?_, (h c).2.2.2.2⟩
  · refine (Cert.ReferenceAdamInIdeal.Read.val_main_v1_eq _).trans ?_
    rw [a0]
    exact ((array4 m c).trans (ref_g _ _ _ _)).symm
  · refine (Cert.ReferenceAdamInIdeal.Read.val_main_v25_eq _ _ _ _).trans ?_
    rw [a0, a1, a2, a3]
    exact ((array5 m c).trans (ref_d _ _ _ _)).symm
  · refine (Cert.ReferenceAdamInIdeal.Read.val_main_v6_eq _ _).trans ?_
    rw [a0, a2]
    exact ((array6 m c).trans (ref_m _ _ _ _)).symm
  · refine (Cert.ReferenceAdamInIdeal.Read.val_main_v12_eq _ _).trans ?_
    rw [a0, a3]
    exact ((array7 m c).trans (ref_v _ _ _ _)).symm

end Cert.Proof.AdamIn
-- ==== Proof.AdamUq.lean ====
/- The optimiser's step on a shard of the queries' projection's weight: block by block the call's four results are the reference's. -/
module

public import proofs.«01_k».proof.Defs
public import proofs.«01_k».proof.Proof.Adam
public import proofs.«01_k».proof.Proof.Gen.KernelAdamUqIdeal.Value
public import proofs.«01_k».proof.Proof.Gen.ReferenceAdamUqIdeal.Read

@[expose] public section

set_option maxRecDepth 16384

noncomputable section

namespace Cert.Proof.AdamUq

open Idealize.ShloMosaic Idealize.ShloMosaic.Pointwise Idealize.ShloMosaic.TcCoe Idealize.ShloMosaic.Tactic
open Cert.Proof.Linear Cert.Proof.Adam Cert.KernelAdamUqIdeal Cert.KernelAdamUqIdeal.Gen

section Payload

variable (p : Vec Ideal S8x256x96 .bf16) (w m v : Vec Ideal S256x96 .f32)

theorem parts_eq : k0_pay5 (F := Ideal) p w m v = each fnG p w m v := by
  funext i
  obtain ⟨r, s, rfl⟩ : ∃ (r : Fin 256) (s : Fin 96), i = ix2 r s := ⟨i 0, i 1, (ix2_eta i).symm⟩
  show _ = parts fun n => p (ix3 n r s)
  unfold k0_pay5 parts
  pointwise [k0_pay4]

theorem out4 : out0_4 (F := Ideal) p w m v = each fnG p w m v := by
  unfold out0_4
  rw [View.canon_unit_zero (S := S256x96) hz2, parts_eq]

theorem out5 : out0_5 (F := Ideal) p w m v = each change p w m v := by
  unfold out0_5
  rw [View.canon_unit_zero (S := S256x96) hz2, parts_eq]
  simp only [View.ld_unit_zero (S := S256x96) hz2]
  rfl

theorem out6 : out0_6 (F := Ideal) p w m v = each fnM p w m v := by
  unfold out0_6
  rw [View.canon_unit_zero (S := S256x96) hz2, View.ld_unit_zero (S := S256x96) hz2, parts_eq]
  rfl

theorem out7 : out0_7 (F := Ideal) p w m v = each fnV p w m v := by
  unfold out0_7
  rw [View.canon_unit_zero (S := S256x96) hz2, View.ld_unit_zero (S := S256x96) hz2, parts_eq]
  rfl

end Payload

theorem index : ∀ t : Fin cfg0.N, win0_0.index t = ![0, t.val, 0] ∧ win0_1.index t = ![t.val, 0] ∧ win0_2.index t = ![t.val, 0]
    ∧ win0_3.index t = ![t.val, 0] := by decide +kernel

theorem index_out : ∀ t : Fin cfg0.N, win0_4.index t = ![t.val, 0] ∧ win0_5.index t = ![t.val, 0] ∧ win0_6.index t = ![t.val, 0]
    ∧ win0_7.index t = ![t.val, 0] := by decide +kernel

section Arrays

variable (m : (ℓ : Loc nD τ sig) → Buf (Elt Ideal) ℓ) (c : Dev nD) (f : Fn)

/-- What the call leaves in a result: a function of the four arguments, element by element. -/
def left : S256x96.Idx → EReal := each f (V m c main_arg0) (V m c main_arg1) (V m c main_arg2) (V m c main_arg3)

/-- A block of that. -/
theorem left_block (t : Fin cfg0.N) (y : S256x96.Idx) (i : S256x96.Idx) (h0 : (i 0).val = 256 * t.val + (y 0).val) (h1 : (i 1).val = (y 1).val) :
    each f (iblk m c 0 t) (iblk m c 1 t) (iblk m c 2 t) (iblk m c 3 t) y = left m c f i := by
  obtain ⟨r, s, rfl⟩ : ∃ (r : Fin 256) (s : Fin 96), y = ix2 r s := ⟨y 0, y 1, (ix2_eta y).symm⟩
  refine each_block f _ _ _ _ _ _ _ _ r (⟨256 * t.val + r.val, by have := lt_of_lt_of_eq t.isLt N_0; omega⟩ : Fin 256) s (fun n => ?_) ?_ ?_ ?_ i h0 h1
  · blk_ext [iblk, (index t).1]
  · blk_ext [iblk, (index t).2.1]
  · blk_ext [iblk, (index t).2.2.1]
  · blk_ext [iblk, (index t).2.2.2]

theorem array4 : (dats m 0 c).arrAt 4 cfg0.N = left m c fnG := by
  refine (dats m 0 c).arrAt_eq_of_covers 4 _ (by decide +kernel) fun t hf y => ?_
  blk_simp
  rw [after0_4, out4]
  exact left_block m c fnG t y _ (row_at (index_out t).1) (col_at (index_out t).1)

theorem array5 : (dats m 0 c).arrAt 5 cfg0.N = left m c change := by
  refine (dats m 0 c).arrAt_eq_of_covers 5 _ (by decide +kernel) fun t hf y => ?_
  blk_simp
  rw [after0_5, out5]
  exact left_block m c change t y _ (row_at (index_out t).2.1) (col_at (index_out t).2.1)

theorem array6 : (dats m 0 c).arrAt 6 cfg0.N = left m c fnM := by
  refine (dats m 0 c).arrAt_eq_of_covers 6 _ (by decide +kernel) fun t hf y => ?_
  blk_simp
  rw [after0_6, out6]
  exact left_block m c fnM t y _ (row_at (index_out t).2.2.1) (col_at (index_out t).2.2.1)

theorem array7 : (dats m 0 c).arrAt 7 cfg0.N = left m c fnV := by
  refine (dats m 0 c).arrAt_eq_of_covers 7 _ (by decide +kernel) fun t hf y => ?_
  blk_simp
  rw [after0_7, out7]
  exact left_block m c fnV t y _ (row_at (index_out t).2.2.2) (col_at (index_out t).2.2.2)

end Arrays

section Reference

open Cert.ReferenceAdamUqIdeal.Read

variable (p : FVec Ideal S8x256x96 .bf16) (w m v : FVec Ideal S256x96 .f32)

theorem ref_g : each fnG p w m v = val_main_v1 (F := Ideal) p := by
  funext i
  obtain ⟨r, s, rfl⟩ : ∃ (r : Fin 256) (s : Fin 96), i = ix2 r s := ⟨i 0, i 1, (ix2_eta i).symm⟩
  refine (sum_parts fun n => p (ix3 n r s)).symm.trans ?_
  rw [← val_main_v1_eq]
  pointwise

theorem ref_m : each fnM p w m v = val_main_v6 (F := Ideal) p m := by
  funext i
  show first (each fnG p w m v i) _ = _
  rw [ref_g]
  rfl

theorem ref_v : each fnV p w m v = val_main_v12 (F := Ideal) p v := by
  funext i
  show second (each fnG p w m v i) _ = _
  rw [ref_g]
  rfl

theorem ref_d : each change p w m v = val_main_v25 (F := Ideal) p w m v := by
  funext i
  show change (each fnG p w m v i) _ _ _ = _
  rw [ref_g]
  rfl

end Reference

theorem algebraic : Cert.algebraic_KernelAdamUqIdeal_ReferenceAdamUqIdeal := by
  intro m g m' g' _ hagree
  refine ⟨fun c => (dats m 0 c).arrAt 4 cfg0.N, fun c => (dats m 0 c).arrAt 5 cfg0.N, fun c => (dats m 0 c).arrAt 6 cfg0.N,
    fun c => (dats m 0 c).arrAt 7 cfg0.N, Cert.KernelAdamUqIdeal.Value.run_blocks m g,
    (θ_run Cert.ReferenceAdamUqIdeal.defs _ _).mono (fun r h c => ?_) (Cert.ReferenceAdamUqIdeal.Value.run m' g')⟩
  obtain ⟨a0, a1, a2, a3⟩ := hagree c
  refine ⟨(h c).1.trans ?_, (h c).2.1.trans ?_, (h c).2.2.1.trans ?_, (h c).2.2.2.1.trans ?_, (h c).2.2.2.2⟩
  · refine (Cert.ReferenceAdamUqIdeal.Read.val_main_v1_eq _).trans ?_
    rw [a0]
    exact ((array4 m c).trans (ref_g _ _ _ _)).symm
  · refine (Cert.ReferenceAdamUqIdeal.Read.val_main_v25_eq _ _ _ _).trans ?_
    rw [a0, a1, a2, a3]
    exact ((array5 m c).trans (ref_d _ _ _ _)).symm
  · refine (Cert.ReferenceAdamUqIdeal.Read.val_main_v6_eq _ _).trans ?_
    rw [a0, a2]
    exact ((array6 m c).trans (ref_m _ _ _ _)).symm
  · refine (Cert.ReferenceAdamUqIdeal.Read.val_main_v12_eq _ _).trans ?_
    rw [a0, a3]
    exact ((array7 m c).trans (ref_v _ _ _ _)).symm

end Cert.Proof.AdamUq
-- ==== Proof.AdamUkv.lean ====
/- The optimiser's step on a shard of the keys' and values' projection's weight: block by block the call's four results are the reference's. -/
module

public import proofs.«01_k».proof.Defs
public import proofs.«01_k».proof.Proof.Adam
public import proofs.«01_k».proof.Proof.Gen.KernelAdamUkvIdeal.Value
public import proofs.«01_k».proof.Proof.Gen.ReferenceAdamUkvIdeal.Read

@[expose] public section

set_option maxRecDepth 16384

noncomputable section

namespace Cert.Proof.AdamUkv

open Idealize.ShloMosaic Idealize.ShloMosaic.Pointwise Idealize.ShloMosaic.TcCoe Idealize.ShloMosaic.Tactic
open Cert.Proof.Linear Cert.Proof.Adam Cert.KernelAdamUkvIdeal Cert.KernelAdamUkvIdeal.Gen

section Payload

variable (p : Vec Ideal S8x128x128 .bf16) (w m v : Vec Ideal S128x128 .f32)

theorem parts_eq : k0_pay5 (F := Ideal) p w m v = each fnG p w m v := by
  funext i
  obtain ⟨r, s, rfl⟩ : ∃ (r : Fin 128) (s : Fin 128), i = ix2 r s := ⟨i 0, i 1, (ix2_eta i).symm⟩
  show _ = parts fun n => p (ix3 n r s)
  unfold k0_pay5 parts
  pointwise [k0_pay4]

theorem out4 : out0_4 (F := Ideal) p w m v = each fnG p w m v := by
  unfold out0_4
  rw [View.canon_unit_zero (S := S128x128) hz2, parts_eq]

theorem out5 : out0_5 (F := Ideal) p w m v = each change p w m v := by
  unfold out0_5
  rw [View.canon_unit_zero (S := S128x128) hz2, parts_eq]
  simp only [View.ld_unit_zero (S := S128x128) hz2]
  rfl

theorem out6 : out0_6 (F := Ideal) p w m v = each fnM p w m v := by
  unfold out0_6
  rw [View.canon_unit_zero (S := S128x128) hz2, View.ld_unit_zero (S := S128x128) hz2, parts_eq]
  rfl

theorem out7 : out0_7 (F := Ideal) p w m v = each fnV p w m v := by
  unfold out0_7
  rw [View.canon_unit_zero (S := S128x128) hz2, View.ld_unit_zero (S := S128x128) hz2, parts_eq]
  rfl

end Payload

theorem index : ∀ t : Fin cfg0.N, win0_0.index t = ![0, t.val, 0] ∧ win0_1.index t = ![t.val, 0] ∧ win0_2.index t = ![t.val, 0]
    ∧ win0_3.index t = ![t.val, 0] := by decide +kernel

theorem index_out : ∀ t : Fin cfg0.N, win0_4.index t = ![t.val, 0] ∧ win0_5.index t = ![t.val, 0] ∧ win0_6.index t = ![t.val, 0]
    ∧ win0_7.index t = ![t.val, 0] := by decide +kernel

section Arrays

variable (m : (ℓ : Loc nD τ sig) → Buf (Elt Ideal) ℓ) (c : Dev nD) (f : Fn)

/-- What the call leaves in a result: a function of the four arguments, element by element. -/
def left : S128x128.Idx → EReal := each f (V m c main_arg0) (V m c main_arg1) (V m c main_arg2) (V m c main_arg3)

/-- A block of that. -/
theorem left_block (t : Fin cfg0.N) (y : S128x128.Idx) (i : S128x128.Idx) (h0 : (i 0).val = 128 * t.val + (y 0).val) (h1 : (i 1).val = (y 1).val) :
    each f (iblk m c 0 t) (iblk m c 1 t) (iblk m c 2 t) (iblk m c 3 t) y = left m c f i := by
  obtain ⟨r, s, rfl⟩ : ∃ (r : Fin 128) (s : Fin 128), y = ix2 r s := ⟨y 0, y 1, (ix2_eta y).symm⟩
  refine each_block f _ _ _ _ _ _ _ _ r (⟨128 * t.val + r.val, by have := lt_of_lt_of_eq t.isLt N_0; omega⟩ : Fin 128) s (fun n => ?_) ?_ ?_ ?_ i h0 h1
  · blk_ext [iblk, (index t).1]
  · blk_ext [iblk, (index t).2.1]
  · blk_ext [iblk, (index t).2.2.1]
  · blk_ext [iblk, (index t).2.2.2]

theorem array4 : (dats m 0 c).arrAt 4 cfg0.N = left m c fnG := by
  refine (dats m 0 c).arrAt_eq_of_covers 4 _ (by decide +kernel) fun t hf y => ?_
  blk_simp
  rw [after0_4, out4]
  exact left_block m c fnG t y _ (row_at (index_out t).1) (col_at (index_out t).1)

theorem array5 : (dats m 0 c).arrAt 5 cfg0.N = left m c change := by
  refine (dats m 0 c).arrAt_eq_of_covers 5 _ (by decide +kernel) fun t hf y => ?_
  blk_simp
  rw [after0_5, out5]
  exact left_block m c change t y _ (row_at (index_out t).2.1) (col_at (index_out t).2.1)

theorem array6 : (dats m 0 c).arrAt 6 cfg0.N = left m c fnM := by
  refine (dats m 0 c).arrAt_eq_of_covers 6 _ (by decide +kernel) fun t hf y => ?_
  blk_simp
  rw [after0_6, out6]
  exact left_block m c fnM t y _ (row_at (index_out t).2.2.1) (col_at (index_out t).2.2.1)

theorem array7 : (dats m 0 c).arrAt 7 cfg0.N = left m c fnV := by
  refine (dats m 0 c).arrAt_eq_of_covers 7 _ (by decide +kernel) fun t hf y => ?_
  blk_simp
  rw [after0_7, out7]
  exact left_block m c fnV t y _ (row_at (index_out t).2.2.2) (col_at (index_out t).2.2.2)

end Arrays

section Reference

open Cert.ReferenceAdamUkvIdeal.Read

variable (p : FVec Ideal S8x128x128 .bf16) (w m v : FVec Ideal S128x128 .f32)

theorem ref_g : each fnG p w m v = val_main_v1 (F := Ideal) p := by
  funext i
  obtain ⟨r, s, rfl⟩ : ∃ (r : Fin 128) (s : Fin 128), i = ix2 r s := ⟨i 0, i 1, (ix2_eta i).symm⟩
  refine (sum_parts fun n => p (ix3 n r s)).symm.trans ?_
  rw [← val_main_v1_eq]
  pointwise

theorem ref_m : each fnM p w m v = val_main_v6 (F := Ideal) p m := by
  funext i
  show first (each fnG p w m v i) _ = _
  rw [ref_g]
  rfl

theorem ref_v : each fnV p w m v = val_main_v12 (F := Ideal) p v := by
  funext i
  show second (each fnG p w m v i) _ = _
  rw [ref_g]
  rfl

theorem ref_d : each change p w m v = val_main_v25 (F := Ideal) p w m v := by
  funext i
  show change (each fnG p w m v i) _ _ _ = _
  rw [ref_g]
  rfl

end Reference

theorem algebraic : Cert.algebraic_KernelAdamUkvIdeal_ReferenceAdamUkvIdeal := by
  intro m g m' g' _ hagree
  refine ⟨fun c => (dats m 0 c).arrAt 4 cfg0.N, fun c => (dats m 0 c).arrAt 5 cfg0.N, fun c => (dats m 0 c).arrAt 6 cfg0.N,
    fun c => (dats m 0 c).arrAt 7 cfg0.N, Cert.KernelAdamUkvIdeal.Value.run_blocks m g,
    (θ_run Cert.ReferenceAdamUkvIdeal.defs _ _).mono (fun r h c => ?_) (Cert.ReferenceAdamUkvIdeal.Value.run m' g')⟩
  obtain ⟨a0, a1, a2, a3⟩ := hagree c
  refine ⟨(h c).1.trans ?_, (h c).2.1.trans ?_, (h c).2.2.1.trans ?_, (h c).2.2.2.1.trans ?_, (h c).2.2.2.2⟩
  · refine (Cert.ReferenceAdamUkvIdeal.Read.val_main_v1_eq _).trans ?_
    rw [a0]
    exact ((array4 m c).trans (ref_g _ _ _ _)).symm
  · refine (Cert.ReferenceAdamUkvIdeal.Read.val_main_v25_eq _ _ _ _).trans ?_
    rw [a0, a1, a2, a3]
    exact ((array5 m c).trans (ref_d _ _ _ _)).symm
  · refine (Cert.ReferenceAdamUkvIdeal.Read.val_main_v6_eq _ _).trans ?_
    rw [a0, a2]
    exact ((array6 m c).trans (ref_m _ _ _ _)).symm
  · refine (Cert.ReferenceAdamUkvIdeal.Read.val_main_v12_eq _ _).trans ?_
    rw [a0, a3]
    exact ((array7 m c).trans (ref_v _ _ _ _)).symm

end Cert.Proof.AdamUkv
-- ==== Proof.AdamOut.lean ====
/- The optimiser's step on a shard of the attention layer's output projection's weight: block by block the call's four results are the reference's. -/
module

public import proofs.«01_k».proof.Defs
public import proofs.«01_k».proof.Proof.Adam
public import proofs.«01_k».proof.Proof.Gen.KernelAdamOutIdeal.Value
public import proofs.«01_k».proof.Proof.Gen.ReferenceAdamOutIdeal.Read

@[expose] public section

set_option maxRecDepth 16384

noncomputable section

namespace Cert.Proof.AdamOut

open Idealize.ShloMosaic Idealize.ShloMosaic.Pointwise Idealize.ShloMosaic.TcCoe Idealize.ShloMosaic.Tactic
open Cert.Proof.Linear Cert.Proof.Adam Cert.KernelAdamOutIdeal Cert.KernelAdamOutIdeal.Gen

section Payload

variable (p : Vec Ideal S8x128x1024 .bf16) (w m v : Vec Ideal S128x1024 .f32)

theorem parts_eq : k0_pay5 (F := Ideal) p w m v = each fnG p w m v := by
  funext i
  obtain ⟨r, s, rfl⟩ : ∃ (r : Fin 128) (s : Fin 1024), i = ix2 r s := ⟨i 0, i 1, (ix2_eta i).symm⟩
  show _ = parts fun n => p (ix3 n r s)
  unfold k0_pay5 parts
  pointwise [k0_pay4]

theorem out4 : out0_4 (F := Ideal) p w m v = each fnG p w m v := by
  unfold out0_4
  rw [View.canon_unit_zero (S := S128x1024) hz2, parts_eq]

theorem out5 : out0_5 (F := Ideal) p w m v = each change p w m v := by
  unfold out0_5
  rw [View.canon_unit_zero (S := S128x1024) hz2, parts_eq]
  simp only [View.ld_unit_zero (S := S128x1024) hz2]
  rfl

theorem out6 : out0_6 (F := Ideal) p w m v = each fnM p w m v := by
  unfold out0_6
  rw [View.canon_unit_zero (S := S128x1024) hz2, View.ld_unit_zero (S := S128x1024) hz2, parts_eq]
  rfl

theorem out7 : out0_7 (F := Ideal) p w m v = each fnV p w m v := by
  unfold out0_7
  rw [View.canon_unit_zero (S := S128x1024) hz2, View.ld_unit_zero (S := S128x1024) hz2, parts_eq]
  rfl

end Payload

theorem index : ∀ t : Fin cfg0.N, win0_0.index t = ![0, t.val, 0] ∧ win0_1.index t = ![t.val, 0] ∧ win0_2.index t = ![t.val, 0]
    ∧ win0_3.index t = ![t.val, 0] := by decide +kernel

theorem index_out : ∀ t : Fin cfg0.N, win0_4.index t = ![t.val, 0] ∧ win0_5.index t = ![t.val, 0] ∧ win0_6.index t = ![t.val, 0]
    ∧ win0_7.index t = ![t.val, 0] := by decide +kernel

section Arrays

variable (m : (ℓ : Loc nD τ sig) → Buf (Elt Ideal) ℓ) (c : Dev nD) (f : Fn)

/-- What the call leaves in a result: a function of the four arguments, element by element. -/
def left : S128x1024.Idx → EReal := each f (V m c main_arg0) (V m c main_arg1) (V m c main_arg2) (V m c main_arg3)

/-- A block of that. -/
theorem left_block (t : Fin cfg0.N) (y : S128x1024.Idx) (i : S128x1024.Idx) (h0 : (i 0).val = 128 * t.val + (y 0).val) (h1 : (i 1).val = (y 1).val) :
    each f (iblk m c 0 t) (iblk m c 1 t) (iblk m c 2 t) (iblk m c 3 t) y = left m c f i := by
  obtain ⟨r, s, rfl⟩ : ∃ (r : Fin 128) (s : Fin 1024), y = ix2 r s := ⟨y 0, y 1, (ix2_eta y).symm⟩
  refine each_block f _ _ _ _ _ _ _ _ r (⟨128 * t.val + r.val, by have := lt_of_lt_of_eq t.isLt N_0; omega⟩ : Fin 128) s (fun n => ?_) ?_ ?_ ?_ i h0 h1
  · blk_ext [iblk, (index t).1]
  · blk_ext [iblk, (index t).2.1]
  · blk_ext [iblk, (index t).2.2.1]
  · blk_ext [iblk, (index t).2.2.2]

theorem array4 : (dats m 0 c).arrAt 4 cfg0.N = left m c fnG := by
  refine (dats m 0 c).arrAt_eq_of_covers 4 _ (by decide +kernel) fun t hf y => ?_
  blk_simp
  rw [after0_4, out4]
  exact left_block m c fnG t y _ (row_at (index_out t).1) (col_at (index_out t).1)

theorem array5 : (dats m 0 c).arrAt 5 cfg0.N = left m c change := by
  refine (dats m 0 c).arrAt_eq_of_covers 5 _ (by decide +kernel) fun t hf y => ?_
  blk_simp
  rw [after0_5, out5]
  exact left_block m c change t y _ (row_at (index_out t).2.1) (col_at (index_out t).2.1)

theorem array6 : (dats m 0 c).arrAt 6 cfg0.N = left m c fnM := by
  refine (dats m 0 c).arrAt_eq_of_covers 6 _ (by decide +kernel) fun t hf y => ?_
  blk_simp
  rw [after0_6, out6]
  exact left_block m c fnM t y _ (row_at (index_out t).2.2.1) (col_at (index_out t).2.2.1)

theorem array7 : (dats m 0 c).arrAt 7 cfg0.N = left m c fnV := by
  refine (dats m 0 c).arrAt_eq_of_covers 7 _ (by decide +kernel) fun t hf y => ?_
  blk_simp
  rw [after0_7, out7]
  exact left_block m c fnV t y _ (row_at (index_out t).2.2.2) (col_at (index_out t).2.2.2)

end Arrays

section Reference

open Cert.ReferenceAdamOutIdeal.Read

variable (p : FVec Ideal S8x128x1024 .bf16) (w m v : FVec Ideal S128x1024 .f32)

theorem ref_g : each fnG p w m v = val_main_v1 (F := Ideal) p := by
  funext i
  obtain ⟨r, s, rfl⟩ : ∃ (r : Fin 128) (s : Fin 1024), i = ix2 r s := ⟨i 0, i 1, (ix2_eta i).symm⟩
  refine (sum_parts fun n => p (ix3 n r s)).symm.trans ?_
  rw [← val_main_v1_eq]
  pointwise

theorem ref_m : each fnM p w m v = val_main_v6 (F := Ideal) p m := by
  funext i
  show first (each fnG p w m v i) _ = _
  rw [ref_g]
  rfl

theorem ref_v : each fnV p w m v = val_main_v12 (F := Ideal) p v := by
  funext i
  show second (each fnG p w m v i) _ = _
  rw [ref_g]
  rfl

theorem ref_d : each change p w m v = val_main_v25 (F := Ideal) p w m v := by
  funext i
  show change (each fnG p w m v i) _ _ _ = _
  rw [ref_g]
  rfl

end Reference

theorem algebraic : Cert.algebraic_KernelAdamOutIdeal_ReferenceAdamOutIdeal := by
  intro m g m' g' _ hagree
  refine ⟨fun c => (dats m 0 c).arrAt 4 cfg0.N, fun c => (dats m 0 c).arrAt 5 cfg0.N, fun c => (dats m 0 c).arrAt 6 cfg0.N,
    fun c => (dats m 0 c).arrAt 7 cfg0.N, Cert.KernelAdamOutIdeal.Value.run_blocks m g,
    (θ_run Cert.ReferenceAdamOutIdeal.defs _ _).mono (fun r h c => ?_) (Cert.ReferenceAdamOutIdeal.Value.run m' g')⟩
  obtain ⟨a0, a1, a2, a3⟩ := hagree c
  refine ⟨(h c).1.trans ?_, (h c).2.1.trans ?_, (h c).2.2.1.trans ?_, (h c).2.2.2.1.trans ?_, (h c).2.2.2.2⟩
  · refine (Cert.ReferenceAdamOutIdeal.Read.val_main_v1_eq _).trans ?_
    rw [a0]
    exact ((array4 m c).trans (ref_g _ _ _ _)).symm
  · refine (Cert.ReferenceAdamOutIdeal.Read.val_main_v25_eq _ _ _ _).trans ?_
    rw [a0, a1, a2, a3]
    exact ((array5 m c).trans (ref_d _ _ _ _)).symm
  · refine (Cert.ReferenceAdamOutIdeal.Read.val_main_v6_eq _ _).trans ?_
    rw [a0, a2]
    exact ((array6 m c).trans (ref_m _ _ _ _)).symm
  · refine (Cert.ReferenceAdamOutIdeal.Read.val_main_v12_eq _ _).trans ?_
    rw [a0, a3]
    exact ((array7 m c).trans (ref_v _ _ _ _)).symm

end Cert.Proof.AdamOut
-- ==== Proof.AdamScan.lean ====
/- The optimiser's step on a shard of the state-space layer's input projection's weight: block by block the call's four results are the reference's. -/
module

public import proofs.«01_k».proof.Defs
public import proofs.«01_k».proof.Proof.Adam
public import proofs.«01_k».proof.Proof.Gen.KernelAdamScanIdeal.Value
public import proofs.«01_k».proof.Proof.Gen.ReferenceAdamScanIdeal.Read

@[expose] public section

set_option maxRecDepth 16384

noncomputable section

namespace Cert.Proof.AdamScan

open Idealize.ShloMosaic Idealize.ShloMosaic.Pointwise Idealize.ShloMosaic.TcCoe Idealize.ShloMosaic.Tactic
open Cert.Proof.Linear Cert.Proof.Adam Cert.KernelAdamScanIdeal Cert.KernelAdamScanIdeal.Gen

section Payload

variable (p : Vec Ideal S8x128x512 .bf16) (w m v : Vec Ideal S128x512 .f32)

theorem parts_eq : k0_pay5 (F := Ideal) p w m v = each fnG p w m v := by
  funext i
  obtain ⟨r, s, rfl⟩ : ∃ (r : Fin 128) (s : Fin 512), i = ix2 r s := ⟨i 0, i 1, (ix2_eta i).symm⟩
  show _ = parts fun n => p (ix3 n r s)
  unfold k0_pay5 parts
  pointwise [k0_pay4]

theorem out4 : out0_4 (F := Ideal) p w m v = each fnG p w m v := by
  unfold out0_4
  rw [View.canon_unit_zero (S := S128x512) hz2, parts_eq]

theorem out5 : out0_5 (F := Ideal) p w m v = each change p w m v := by
  unfold out0_5
  rw [View.canon_unit_zero (S := S128x512) hz2, parts_eq]
  simp only [View.ld_unit_zero (S := S128x512) hz2]
  rfl

theorem out6 : out0_6 (F := Ideal) p w m v = each fnM p w m v := by
  unfold out0_6
  rw [View.canon_unit_zero (S := S128x512) hz2, View.ld_unit_zero (S := S128x512) hz2, parts_eq]
  rfl

theorem out7 : out0_7 (F := Ideal) p w m v = each fnV p w m v := by
  unfold out0_7
  rw [View.canon_unit_zero (S := S128x512) hz2, View.ld_unit_zero (S := S128x512) hz2, parts_eq]
  rfl

end Payload

theorem index : ∀ t : Fin cfg0.N, win0_0.index t = ![0, t.val, 0] ∧ win0_1.index t = ![t.val, 0] ∧ win0_2.index t = ![t.val, 0]
    ∧ win0_3.index t = ![t.val, 0] := by decide +kernel

theorem index_out : ∀ t : Fin cfg0.N, win0_4.index t = ![t.val, 0] ∧ win0_5.index t = ![t.val, 0] ∧ win0_6.index t = ![t.val, 0]
    ∧ win0_7.index t = ![t.val, 0] := by decide +kernel

section Arrays

variable (m : (ℓ : Loc nD τ sig) → Buf (Elt Ideal) ℓ) (c : Dev nD) (f : Fn)

/-- What the call leaves in a result: a function of the four arguments, element by element. -/
def left : S128x512.Idx → EReal := each f (V m c main_arg0) (V m c main_arg1) (V m c main_arg2) (V m c main_arg3)

/-- A block of that. -/
theorem left_block (t : Fin cfg0.N) (y : S128x512.Idx) (i : S128x512.Idx) (h0 : (i 0).val = 128 * t.val + (y 0).val) (h1 : (i 1).val = (y 1).val) :
    each f (iblk m c 0 t) (iblk m c 1 t) (iblk m c 2 t) (iblk m c 3 t) y = left m c f i := by
  obtain ⟨r, s, rfl⟩ : ∃ (r : Fin 128) (s : Fin 512), y = ix2 r s := ⟨y 0, y 1, (ix2_eta y).symm⟩
  refine each_block f _ _ _ _ _ _ _ _ r (⟨128 * t.val + r.val, by have := lt_of_lt_of_eq t.isLt N_0; omega⟩ : Fin 128) s (fun n => ?_) ?_ ?_ ?_ i h0 h1
  · blk_ext [iblk, (index t).1]
  · blk_ext [iblk, (index t).2.1]
  · blk_ext [iblk, (index t).2.2.1]
  · blk_ext [iblk, (index t).2.2.2]

theorem array4 : (dats m 0 c).arrAt 4 cfg0.N = left m c fnG := by
  refine (dats m 0 c).arrAt_eq_of_covers 4 _ (by decide +kernel) fun t hf y => ?_
  blk_simp
  rw [after0_4, out4]
  exact left_block m c fnG t y _ (row_at (index_out t).1) (col_at (index_out t).1)

theorem array5 : (dats m 0 c).arrAt 5 cfg0.N = left m c change := by
  refine (dats m 0 c).arrAt_eq_of_covers 5 _ (by decide +kernel) fun t hf y => ?_
  blk_simp
  rw [after0_5, out5]
  exact left_block m c change t y _ (row_at (index_out t).2.1) (col_at (index_out t).2.1)

theorem array6 : (dats m 0 c).arrAt 6 cfg0.N = left m c fnM := by
  refine (dats m 0 c).arrAt_eq_of_covers 6 _ (by decide +kernel) fun t hf y => ?_
  blk_simp
  rw [after0_6, out6]
  exact left_block m c fnM t y _ (row_at (index_out t).2.2.1) (col_at (index_out t).2.2.1)

theorem array7 : (dats m 0 c).arrAt 7 cfg0.N = left m c fnV := by
  refine (dats m 0 c).arrAt_eq_of_covers 7 _ (by decide +kernel) fun t hf y => ?_
  blk_simp
  rw [after0_7, out7]
  exact left_block m c fnV t y _ (row_at (index_out t).2.2.2) (col_at (index_out t).2.2.2)

end Arrays

section Reference

open Cert.ReferenceAdamScanIdeal.Read

variable (p : FVec Ideal S8x128x512 .bf16) (w m v : FVec Ideal S128x512 .f32)

theorem ref_g : each fnG p w m v = val_main_v1 (F := Ideal) p := by
  funext i
  obtain ⟨r, s, rfl⟩ : ∃ (r : Fin 128) (s : Fin 512), i = ix2 r s := ⟨i 0, i 1, (ix2_eta i).symm⟩
  refine (sum_parts fun n => p (ix3 n r s)).symm.trans ?_
  rw [← val_main_v1_eq]
  pointwise

theorem ref_m : each fnM p w m v = val_main_v6 (F := Ideal) p m := by
  funext i
  show first (each fnG p w m v i) _ = _
  rw [ref_g]
  rfl

theorem ref_v : each fnV p w m v = val_main_v12 (F := Ideal) p v := by
  funext i
  show second (each fnG p w m v i) _ = _
  rw [ref_g]
  rfl

theorem ref_d : each change p w m v = val_main_v25 (F := Ideal) p w m v := by
  funext i
  show change (each fnG p w m v i) _ _ _ = _
  rw [ref_g]
  rfl

end Reference

theorem algebraic : Cert.algebraic_KernelAdamScanIdeal_ReferenceAdamScanIdeal := by
  intro m g m' g' _ hagree
  refine ⟨fun c => (dats m 0 c).arrAt 4 cfg0.N, fun c => (dats m 0 c).arrAt 5 cfg0.N, fun c => (dats m 0 c).arrAt 6 cfg0.N,
    fun c => (dats m 0 c).arrAt 7 cfg0.N, Cert.KernelAdamScanIdeal.Value.run_blocks m g,
    (θ_run Cert.ReferenceAdamScanIdeal.defs _ _).mono (fun r h c => ?_) (Cert.ReferenceAdamScanIdeal.Value.run m' g')⟩
  obtain ⟨a0, a1, a2, a3⟩ := hagree c
  refine ⟨(h c).1.trans ?_, (h c).2.1.trans ?_, (h c).2.2.1.trans ?_, (h c).2.2.2.1.trans ?_, (h c).2.2.2.2⟩
  · refine (Cert.ReferenceAdamScanIdeal.Read.val_main_v1_eq _).trans ?_
    rw [a0]
    exact ((array4 m c).trans (ref_g _ _ _ _)).symm
  · refine (Cert.ReferenceAdamScanIdeal.Read.val_main_v25_eq _ _ _ _).trans ?_
    rw [a0, a1, a2, a3]
    exact ((array5 m c).trans (ref_d _ _ _ _)).symm
  · refine (Cert.ReferenceAdamScanIdeal.Read.val_main_v6_eq _ _).trans ?_
    rw [a0, a2]
    exact ((array6 m c).trans (ref_m _ _ _ _)).symm
  · refine (Cert.ReferenceAdamScanIdeal.Read.val_main_v12_eq _ _).trans ?_
    rw [a0, a3]
    exact ((array7 m c).trans (ref_v _ _ _ _)).symm

end Cert.Proof.AdamScan
-- ==== Proof.AdamGlu.lean ====
/- The optimiser's step on a shard of the state-space layer's output projection's weight: block by block the call's four results are the reference's. -/
module

public import proofs.«01_k».proof.Defs
public import proofs.«01_k».proof.Proof.Adam
public import proofs.«01_k».proof.Proof.Gen.KernelAdamGluIdeal.Value
public import proofs.«01_k».proof.Proof.Gen.ReferenceAdamGluIdeal.Read

@[expose] public section

set_option maxRecDepth 16384

noncomputable section

namespace Cert.Proof.AdamGlu

open Idealize.ShloMosaic Idealize.ShloMosaic.Pointwise Idealize.ShloMosaic.TcCoe Idealize.ShloMosaic.Tactic
open Cert.Proof.Linear Cert.Proof.Adam Cert.KernelAdamGluIdeal Cert.KernelAdamGluIdeal.Gen

section Payload

variable (p : Vec Ideal S8x256x256 .bf16) (w m v : Vec Ideal S256x256 .f32)

theorem parts_eq : k0_pay5 (F := Ideal) p w m v = each fnG p w m v := by
  funext i
  obtain ⟨r, s, rfl⟩ : ∃ (r : Fin 256) (s : Fin 256), i = ix2 r s := ⟨i 0, i 1, (ix2_eta i).symm⟩
  show _ = parts fun n => p (ix3 n r s)
  unfold k0_pay5 parts
  pointwise [k0_pay4]

theorem out4 : out0_4 (F := Ideal) p w m v = each fnG p w m v := by
  unfold out0_4
  rw [View.canon_unit_zero (S := S256x256) hz2, parts_eq]

theorem out5 : out0_5 (F := Ideal) p w m v = each change p w m v := by
  unfold out0_5
  rw [View.canon_unit_zero (S := S256x256) hz2, parts_eq]
  simp only [View.ld_unit_zero (S := S256x256) hz2]
  rfl

theorem out6 : out0_6 (F := Ideal) p w m v = each fnM p w m v := by
  unfold out0_6
  rw [View.canon_unit_zero (S := S256x256) hz2, View.ld_unit_zero (S := S256x256) hz2, parts_eq]
  rfl

theorem out7 : out0_7 (F := Ideal) p w m v = each fnV p w m v := by
  unfold out0_7
  rw [View.canon_unit_zero (S := S256x256) hz2, View.ld_unit_zero (S := S256x256) hz2, parts_eq]
  rfl

end Payload

theorem index : ∀ t : Fin cfg0.N, win0_0.index t = ![0, t.val, 0] ∧ win0_1.index t = ![t.val, 0] ∧ win0_2.index t = ![t.val, 0]
    ∧ win0_3.index t = ![t.val, 0] := by decide +kernel

theorem index_out : ∀ t : Fin cfg0.N, win0_4.index t = ![t.val, 0] ∧ win0_5.index t = ![t.val, 0] ∧ win0_6.index t = ![t.val, 0]
    ∧ win0_7.index t = ![t.val, 0] := by decide +kernel

section Arrays

variable (m : (ℓ : Loc nD τ sig) → Buf (Elt Ideal) ℓ) (c : Dev nD) (f : Fn)

/-- What the call leaves in a result: a function of the four arguments, element by element. -/
def left : S512x256.Idx → EReal := each f (V m c main_arg0) (V m c main_arg1) (V m c main_arg2) (V m c main_arg3)

/-- A block of that. -/
theorem left_block (t : Fin cfg0.N) (y : S256x256.Idx) (i : S512x256.Idx) (h0 : (i 0).val = 256 * t.val + (y 0).val) (h1 : (i 1).val = (y 1).val) :
    each f (iblk m c 0 t) (iblk m c 1 t) (iblk m c 2 t) (iblk m c 3 t) y = left m c f i := by
  obtain ⟨r, s, rfl⟩ : ∃ (r : Fin 256) (s : Fin 256), y = ix2 r s := ⟨y 0, y 1, (ix2_eta y).symm⟩
  refine each_block f _ _ _ _ _ _ _ _ r (⟨256 * t.val + r.val, by have := lt_of_lt_of_eq t.isLt N_0; omega⟩ : Fin 512) s (fun n => ?_) ?_ ?_ ?_ i h0 h1
  · blk_ext [iblk, (index t).1]
  · blk_ext [iblk, (index t).2.1]
  · blk_ext [iblk, (index t).2.2.1]
  · blk_ext [iblk, (index t).2.2.2]

theorem array4 : (dats m 0 c).arrAt 4 cfg0.N = left m c fnG := by
  refine (dats m 0 c).arrAt_eq_of_covers 4 _ (by decide +kernel) fun t hf y => ?_
  blk_simp
  rw [after0_4, out4]
  exact left_block m c fnG t y _ (row_at (index_out t).1) (col_at (index_out t).1)

theorem array5 : (dats m 0 c).arrAt 5 cfg0.N = left m c change := by
  refine (dats m 0 c).arrAt_eq_of_covers 5 _ (by decide +kernel) fun t hf y => ?_
  blk_simp
  rw [after0_5, out5]
  exact left_block m c change t y _ (row_at (index_out t).2.1) (col_at (index_out t).2.1)

theorem array6 : (dats m 0 c).arrAt 6 cfg0.N = left m c fnM := by
  refine (dats m 0 c).arrAt_eq_of_covers 6 _ (by decide +kernel) fun t hf y => ?_
  blk_simp
  rw [after0_6, out6]
  exact left_block m c fnM t y _ (row_at (index_out t).2.2.1) (col_at (index_out t).2.2.1)

theorem array7 : (dats m 0 c).arrAt 7 cfg0.N = left m c fnV := by
  refine (dats m 0 c).arrAt_eq_of_covers 7 _ (by decide +kernel) fun t hf y => ?_
  blk_simp
  rw [after0_7, out7]
  exact left_block m c fnV t y _ (row_at (index_out t).2.2.2) (col_at (index_out t).2.2.2)

end Arrays

section Reference

open Cert.ReferenceAdamGluIdeal.Read

variable (p : FVec Ideal S8x512x256 .bf16) (w m v : FVec Ideal S512x256 .f32)

theorem ref_g : each fnG p w m v = val_main_v1 (F := Ideal) p := by
  funext i
  obtain ⟨r, s, rfl⟩ : ∃ (r : Fin 512) (s : Fin 256), i = ix2 r s := ⟨i 0, i 1, (ix2_eta i).symm⟩
  refine (sum_parts fun n => p (ix3 n r s)).symm.trans ?_
  rw [← val_main_v1_eq]
  pointwise

theorem ref_m : each fnM p w m v = val_main_v6 (F := Ideal) p m := by
  funext i
  show first (each fnG p w m v i) _ = _
  rw [ref_g]
  rfl

theorem ref_v : each fnV p w m v = val_main_v12 (F := Ideal) p v := by
  funext i
  show second (each fnG p w m v i) _ = _
  rw [ref_g]
  rfl

theorem ref_d : each change p w m v = val_main_v25 (F := Ideal) p w m v := by
  funext i
  show change (each fnG p w m v i) _ _ _ = _
  rw [ref_g]
  rfl

end Reference

theorem algebraic : Cert.algebraic_KernelAdamGluIdeal_ReferenceAdamGluIdeal := by
  intro m g m' g' _ hagree
  refine ⟨fun c => (dats m 0 c).arrAt 4 cfg0.N, fun c => (dats m 0 c).arrAt 5 cfg0.N, fun c => (dats m 0 c).arrAt 6 cfg0.N,
    fun c => (dats m 0 c).arrAt 7 cfg0.N, Cert.KernelAdamGluIdeal.Value.run_blocks m g,
    (θ_run Cert.ReferenceAdamGluIdeal.defs _ _).mono (fun r h c => ?_) (Cert.ReferenceAdamGluIdeal.Value.run m' g')⟩
  obtain ⟨a0, a1, a2, a3⟩ := hagree c
  refine ⟨(h c).1.trans ?_, (h c).2.1.trans ?_, (h c).2.2.1.trans ?_, (h c).2.2.2.1.trans ?_, (h c).2.2.2.2⟩
  · refine (Cert.ReferenceAdamGluIdeal.Read.val_main_v1_eq _).trans ?_
    rw [a0]
    exact ((array4 m c).trans (ref_g _ _ _ _)).symm
  · refine (Cert.ReferenceAdamGluIdeal.Read.val_main_v25_eq _ _ _ _).trans ?_
    rw [a0, a1, a2, a3]
    exact ((array5 m c).trans (ref_d _ _ _ _)).symm
  · refine (Cert.ReferenceAdamGluIdeal.Read.val_main_v6_eq _ _).trans ?_
    rw [a0, a2]
    exact ((array6 m c).trans (ref_m _ _ _ _)).symm
  · refine (Cert.ReferenceAdamGluIdeal.Read.val_main_v12_eq _ _).trans ?_
    rw [a0, a3]
    exact ((array7 m c).trans (ref_v _ _ _ _)).symm

end Cert.Proof.AdamGlu
-- ==== Proof.UpDw.lean ====
/- The gradient of the feed-forward up weight: each output element is a column of the activations against a column of the gradient, added over four tiles of 2048 rows that a scratch carries from point to point. -/
module

public import proofs.«01_k».proof.Defs
public import proofs.«01_k».proof.Proof.Linear
public import proofs.«01_k».proof.Proof.Gen.KernelUpDwIdeal.Value
public import proofs.«01_k».proof.Proof.Gen.ReferenceUpDwIdeal.Read

@[expose] public section

set_option maxRecDepth 16384

noncomputable section

namespace Cert.Proof.UpDw

open Idealize.ShloMosaic Idealize.ShloMosaic.Pointwise Idealize.ShloMosaic.TcCoe Idealize.ShloMosaic.Tactic
open Cert.Proof.Linear Cert.KernelUpDwIdeal Cert.KernelUpDwIdeal.Gen

/-- One tile's product. -/
theorem product (x : FVec Ideal S2048x1024 .bf16) (y : FVec Ideal S1x2048x704 .bf16) (r : Fin 1024) (s : Fin 704) :
    k0_pay1 (F := Ideal) x y (ix2 r s) = ∑ k : Fin 2048, x (ix2 k r) * y (ix3 0 k s) := by
  pointwise [k0_pay1]

theorem start_at (x : Vec Ideal S2048x1024 .bf16) (y : Vec Ideal S1x2048x704 .bf16) (r : Fin 1024) (s : Fin 704) :
    k0_pay2 (F := Ideal) x y (ix2 r s) = k0_pay1 (F := Ideal) x y (ix2 r s) := by
  unfold k0_pay2
  generalize k0_pay1 (F := Ideal) x y = f
  exact congrFun (shapeCast_self f _) _

theorem step_at (x : Vec Ideal S2048x1024 .bf16) (y : Vec Ideal S1x2048x704 .bf16) (z : Vec Ideal S1024x704 .f32) (r : Fin 1024) (s : Fin 704) :
    k0_pay3 (F := Ideal) x y z (ix2 r s) = (z (ix2 r s) : EReal) + k0_pay1 (F := Ideal) x y (ix2 r s) := by
  unfold k0_pay3
  generalize k0_pay1 (F := Ideal) x y = f
  exact congrFun (shapeCast_self (addf (F := Ideal) z f) _) _

theorem last_at (z : Vec Ideal S1024x704 .f32) (r : Fin 1024) (s : Fin 704) :
    k0_pay4 (F := Ideal) z (ix3 0 r s) = (z (ix2 r s) : EReal) := by
  pointwise [k0_pay4]

theorem first_eq (c : Dev nD) (i : grid0.Coords) (arg4 : Memref sig .tc .vmem S2048x1024 .bf16) (harg4 : arg4.IsWhole) (arg5 : Memref sig .tc .vmem S1x2048x704 .bf16) (harg5 : arg5.IsWhole)
    (arg6 : Memref sig .tc .vmem S1x1024x704 .bf16) (harg6 : arg6.IsWhole) (arg7 : Memref sig .tc .vmem S1024x704 .f32) (harg7 : arg7.IsWhole) (hc0 : cond0_0 i) (hc1 : ¬cond0_1 i) (hc2 : ¬cond0_2 i)
    (x : Vec Ideal S2048x1024 .bf16) (y : Vec Ideal S1x2048x704 .bf16) :
    sout0_A_0 c i arg4 harg4 arg5 harg5 arg6 harg6 arg7 harg7 hc0 hc1 hc2 x y = k0_pay2 (F := Ideal) x y := by
  unfold sout0_A_0
  rw [View.read_writes_eq_canon _ _ _ (scover0_A_0 c i arg4 harg4 arg5 harg5 arg6 harg6 arg7 harg7 hc0 hc1 hc2 x y)]
  unfold kernelRun0_A
  dsimp only
  sl_unfold_words
  rw [View.canon_unit_zero (S := S1024x704) hz2]
  simp only [View.readAt_eq_ld, harg4.read_unread, harg5.read_unread, View.ld_unit_zero (S := S2048x1024) hz2, View.ld_unit_zero (S := S1x2048x704) hz3]

theorem next_eq (c : Dev nD) (i : grid0.Coords) (arg4 : Memref sig .tc .vmem S2048x1024 .bf16) (harg4 : arg4.IsWhole) (arg5 : Memref sig .tc .vmem S1x2048x704 .bf16) (harg5 : arg5.IsWhole)
    (arg6 : Memref sig .tc .vmem S1x1024x704 .bf16) (harg6 : arg6.IsWhole) (arg7 : Memref sig .tc .vmem S1024x704 .f32) (harg7 : arg7.IsWhole) (hc0 : ¬cond0_0 i) (hc1 : cond0_1 i) (hc2 : ¬cond0_2 i)
    (x : Vec Ideal S2048x1024 .bf16) (y : Vec Ideal S1x2048x704 .bf16) (z : Vec Ideal S1024x704 .f32) :
    sout0_B_0 c i arg4 harg4 arg5 harg5 arg6 harg6 arg7 harg7 hc0 hc1 hc2 x y z = k0_pay3 (F := Ideal) x y z := by
  unfold sout0_B_0
  rw [View.read_writes_eq_canon _ _ _ (scover0_B_0 c i arg4 harg4 arg5 harg5 arg6 harg6 arg7 harg7 hc0 hc1 hc2 x y z)]
  unfold kernelRun0_B
  dsimp only
  sl_unfold_words
  rw [View.canon_unit_zero (S := S1024x704) hz2]
  simp only [View.readAt_eq_ld, harg4.read_unread, harg5.read_unread, harg7.read_unread, View.ld_unit_zero (S := S2048x1024) hz2, View.ld_unit_zero (S := S1x2048x704) hz3, View.ld_unit_zero (S := S1024x704) hz2]

theorem last_eq (c : Dev nD) (i : grid0.Coords) (arg4 : Memref sig .tc .vmem S2048x1024 .bf16) (harg4 : arg4.IsWhole) (arg5 : Memref sig .tc .vmem S1x2048x704 .bf16) (harg5 : arg5.IsWhole)
    (arg6 : Memref sig .tc .vmem S1x1024x704 .bf16) (harg6 : arg6.IsWhole) (arg7 : Memref sig .tc .vmem S1024x704 .f32) (harg7 : arg7.IsWhole) (hc0 : ¬cond0_0 i) (hc1 : cond0_1 i) (hc2 : cond0_2 i)
    (x : Vec Ideal S2048x1024 .bf16) (y : Vec Ideal S1x2048x704 .bf16) (z : Vec Ideal S1024x704 .f32) :
    out0_C_2 c i arg4 harg4 arg5 harg5 arg6 harg6 arg7 harg7 hc0 hc1 hc2 x y z = k0_pay4 (F := Ideal) (k0_pay3 (F := Ideal) x y z) := by
  unfold out0_C_2
  rw [View.read_writes_eq_canon _ _ _ (cover0_C_2 c i arg4 harg4 arg5 harg5 arg6 harg6 arg7 harg7 hc0 hc1 hc2 x y z)]
  unfold kernelRun0_C
  dsimp only
  sl_unfold_words
  rw [View.canon_unit_zero (S := S1x1024x704) hz3]
  simp only [View.readCov_unit_zero (S := S1024x704) _ hz2, View.readAt_eq_ld, harg4.read_unread, harg5.read_unread, harg7.read_unread, View.ld_unit_zero (S := S2048x1024) hz2, View.ld_unit_zero (S := S1x2048x704) hz3, View.ld_unit_zero (S := S1024x704) hz2]

theorem index0 : ∀ t : Fin cfg0.N, win0_0.index t = ![t.val % 4, 0] := by decide +kernel
theorem index1 : ∀ t : Fin cfg0.N, win0_1.index t = ![t.val / 4, t.val % 4, 0] := by decide +kernel
theorem index2 : ∀ t : Fin cfg0.N, win0_2.index t = ![t.val / 4, 0, 0] := by decide +kernel

variable (m : (ℓ : Loc nD τ sig) → Buf (Elt Ideal) ℓ) (c : Dev nD)

theorem block0 (t : Fin cfg0.N) (k : Fin 2048) (r : Fin 1024) :
    iblk m c 0 t (ix2 k r) = V m c main_v3 (ix2 (⟨2048 * (t.val % 4) + k.val, by omega⟩ : Fin 8192) r) := by
  blk_ext [iblk, index0 t]

theorem block1 (t : Fin cfg0.N) (k : Fin 2048) (s : Fin 704) :
    iblk m c 1 t (ix3 0 k s) = V m c main_v2 (ix3 (⟨t.val / 4, by have := lt_of_lt_of_eq t.isLt N_0; omega⟩ : Fin 4) (⟨2048 * (t.val % 4) + k.val, by omega⟩ : Fin 8192) s) := by
  blk_ext [iblk, index1 t]

/-- What point `n` adds to an element of its block. -/
def addend (r : Fin 1024) (s : Fin 704) (n : ℕ) : EReal :=
  if h : n < cfg0.N then k0_pay1 (F := Ideal) (iblk m c 0 ⟨n, h⟩) (iblk m c 1 ⟨n, h⟩) (ix2 r s) else 0

theorem addend_at (r : Fin 1024) (s : Fin 704) (t : Fin cfg0.N) :
    addend m c r s t.val = k0_pay1 (F := Ideal) (iblk m c 0 t) (iblk m c 1 t) (ix2 r s) := dif_pos t.isLt

/-- The scratch after the first points of a block, short of the last: the sum of what they added. -/
theorem fold (n : ℕ) : ∀ (t : Fin cfg0.N), t.val = n → ¬t.val % 4 = 3 → ∀ (r : Fin 1024) (s : Fin 704),
    (outsAt0 m c t.val t.isLt).2 (ix2 r s) = ∑ i ∈ Finset.range (t.val % 4 + 1), addend m c r s (4 * (t.val / 4) + i) := by
  induction n with
  | zero =>
    intro t ht h3 r s
    have h0 : t.val % 4 = 0 := by omega
    rw [outsAt0_A m c t h0 (by omega) h3]
    dsimp only
    rw [first_eq, start_at, h0, Finset.sum_range_one, show 4 * (t.val / 4) + 0 = t.val by omega, addend_at]
  | succ n ih =>
    intro t ht h3 r s
    by_cases h0 : t.val % 4 = 0
    · rw [outsAt0_A m c t h0 (by omega) h3]
      dsimp only
      rw [first_eq, start_at, h0, Finset.sum_range_one, show 4 * (t.val / 4) + 0 = t.val by omega, addend_at]
    · rw [outsAt0_B m c t h0 (by omega) h3]
      dsimp only
      rw [next_eq, step_at]
      have h : (outsAt0 m c (t.val - 1) (Nat.lt_of_le_of_lt (Nat.sub_le _ _) t.isLt)).2 (ix2 r s)
          = ∑ i ∈ Finset.range ((t.val - 1) % 4 + 1), addend m c r s (4 * ((t.val - 1) / 4) + i) :=
        ih ⟨t.val - 1, Nat.lt_of_le_of_lt (Nat.sub_le _ _) t.isLt⟩ (by dsimp only; omega) (by dsimp only; omega) r s
      rw [h, ← addend_at, show (t.val - 1) / 4 = t.val / 4 by omega, show (t.val - 1) % 4 + 1 = t.val % 4 by omega, Finset.sum_range_succ,
        show 4 * (t.val / 4) + t.val % 4 = t.val by omega]

/-- What a block's last point leaves: the sum of the four points' products. -/
theorem out_at (t : Fin cfg0.N) (h3 : t.val % 4 = 3) (r : Fin 1024) (s : Fin 704) :
    (outsAt0 m c t.val t.isLt).1 (ix3 0 r s) = ∑ i : Fin 4, addend m c r s (4 * (t.val / 4) + i.val) := by
  rw [outsAt0_C m c t (by omega) (by omega) h3]
  dsimp only
  rw [last_eq, last_at, step_at]
  have h : (outsAt0 m c (t.val - 1) (Nat.lt_of_le_of_lt (Nat.sub_le _ _) t.isLt)).2 (ix2 r s)
      = ∑ i ∈ Finset.range ((t.val - 1) % 4 + 1), addend m c r s (4 * ((t.val - 1) / 4) + i) :=
    fold m c _ ⟨t.val - 1, Nat.lt_of_le_of_lt (Nat.sub_le _ _) t.isLt⟩ rfl (by dsimp only; omega) r s
  rw [h, ← addend_at, show (t.val - 1) / 4 = t.val / 4 by omega, show (t.val - 1) % 4 + 1 = 3 by omega,
    show addend m c r s t.val = addend m c r s (4 * (t.val / 4) + 3) from congrArg _ (by omega)]
  exact (Finset.sum_range_succ (fun i => addend m c r s (4 * (t.val / 4) + i)) 3).symm.trans (Finset.sum_range fun i => addend m c r s (4 * (t.val / 4) + i))

/-- Each column of the first array against each column of the second, tile of rows by tile of rows. -/
def rows (a : S8192x1024.Idx → EReal) (b : S4x8192x704.Idx → EReal) : S4x1024x704.Idx → EReal := fun i =>
  ∑ j : Fin 4, ∑ k : Fin 2048, a (ix2 (⟨2048 * j.val + k.val, by omega⟩ : Fin 8192) (i 1)) * b (ix3 (i 0) (⟨2048 * j.val + k.val, by omega⟩ : Fin 8192) (i 2))

theorem array : (dats m 0 c).arrAt 2 cfg0.N = rows (V m c main_v3) (V m c main_v2) := by
  refine (dats m 0 c).arrAt_eq_of_covers 2 _ (by decide +kernel) fun t hf y => ?_
  have h3 : t.val % 4 = 3 := (flush0_2 t).mp hf
  have hN := lt_of_lt_of_eq t.isLt N_0
  blk_simp
  rw [after0_2]
  obtain ⟨r, s, rfl⟩ : ∃ (r : Fin 1024) (s : Fin 704), y = ix3 0 r s :=
    ⟨y 1, y 2, (ix3_eta y).symm.trans (congrArg (fun a => ix3 a (y 1) (y 2)) (Subsingleton.elim (α := Fin 1) _ _))⟩
  refine (out_at m c t h3 r s).trans ?_
  have h0 : win0_2.index t 0 = t.val / 4 := congrFun (index2 t) 0
  have h1 : win0_2.index t 1 = 0 := congrFun (index2 t) 1
  have h2 : win0_2.index t 2 = 0 := congrFun (index2 t) 2
  refine Finset.sum_congr rfl fun j _ => ?_
  have hj : 4 * (t.val / 4) + j.val < cfg0.N := lt_of_lt_of_eq (by omega) N_0.symm
  refine (addend_at m c r s ⟨4 * (t.val / 4) + j.val, hj⟩).trans ((product _ _ r s).trans (Finset.sum_congr rfl fun k _ => ?_))
  rw [block0, block1]
  refine congr (congrArg (fun a b : EReal => a * b) (congrArg (V m c main_v3) ?_)) (congrArg (V m c main_v2) ?_)
  · refine ix2_congr (Fin.ext ?_) (Fin.ext ?_)
    · dsimp only; omega
    · blk_simp
      rw [h1]; omega
  · refine ix3_congr (Fin.ext ?_) (Fin.ext ?_) (Fin.ext ?_)
    · blk_simp
      rw [h0]; dsimp only [ix3]; omega
    · dsimp only; omega
    · blk_simp
      rw [h2]; omega

set_option maxHeartbeats 4000000 in
/-- The incoming gradient, its columns in four groups. -/
theorem entry_g : V m c main_v2 = truncf (F := Ideal) .bf16 (transpose S4x8192x704 [1, 0, 2] (shapeCast S8192x4x704 (m (c, Proc.tc.devRef main_arg1)) shapeCasts_S8192x2816_S8192x4x704) transposes_S8192x4x704_S4x8192x704_1_0_2) bitsLt_bf16_f32 := by
  show StableHlo.after hostOps0 (fun b => m (c, b)) (Proc.tc.devRef main_v2) = _
  simp only [hostOps0, StableHlo.TRef.binary, StableHlo.TRef.nullary, StableHlo.TRef.ternary,
    StableHlo.TRef.unary, StableHlo.TRef.toBuf, StableHlo.TRef.ofBuf, cast_eq]
  after_results_simp
  rfl

set_option maxHeartbeats 4000000 in
/-- The activations. -/
theorem entry_x : V m c main_v3 = truncf (F := Ideal) .bf16 (m (c, Proc.tc.devRef main_arg0)) bitsLt_bf16_f32 := by
  show StableHlo.after hostOps0 (fun b => m (c, b)) (Proc.tc.devRef main_v3) = _
  simp only [hostOps0, StableHlo.TRef.binary, StableHlo.TRef.nullary, StableHlo.TRef.ternary,
    StableHlo.TRef.unary, StableHlo.TRef.toBuf, StableHlo.TRef.ofBuf, cast_eq]
  after_results_simp

/-- A column of a group is a column of the array. -/
theorem group_at (x : FVec Ideal S8192x2816 .f32) (j : Fin 4) (n : Fin 8192) (k : Fin 704) :
    truncf .bf16 (transpose S4x8192x704 [1, 0, 2] (shapeCast S8192x4x704 (x) shapeCasts_S8192x2816_S8192x4x704) transposes_S8192x4x704_S4x8192x704_1_0_2) bitsLt_bf16_f32 (ix3 j n k)
      = x (ix2 n (⟨704 * j.val + k.val, by omega⟩ : Fin 2816)) := by
  show transpose S4x8192x704 [1, 0, 2] (shapeCast S8192x4x704 x shapeCasts_S8192x2816_S8192x4x704) transposes_S8192x4x704_S4x8192x704_1_0_2 (ix3 j n k) = _
  refine (transpose_apply [1, 0, 2] _ transposes_S8192x4x704_S4x8192x704_1_0_2 (ix3 j n k) (ix3 n j k) (fun b => match b with
    | ⟨0, _⟩ => rfl
    | ⟨1, _⟩ => rfl
    | ⟨2, _⟩ => rfl)).trans ?_
  refine shapeCast_apply x shapeCasts_S8192x2816_S8192x4x704 (ix3 n j k) _ ?_
  rw [Shape.rowMajor_val_two, Shape.rowMajor_val_three]
  show n.val * 2816 + (704 * j.val + k.val) = (n.val * 4 + j.val) * 704 + k.val
  ring

/-- The reference's gradient at an index. -/
theorem ref_at (x : FVec Ideal S8192x1024 .f32) (g : FVec Ideal S8192x2816 .f32) (q : Fin 4) (d : Fin 1024) (s : Fin 704) :
    Cert.ReferenceUpDwIdeal.Read.val_main_v6 (F := Ideal) x g (ix3 q d s)
      = ∑ n : Fin 8192, x (ix2 n d) * g (ix2 n (⟨704 * q.val + s.val, by omega⟩ : Fin 2816)) := by
  show Cert.ReferenceUpDwIdeal.Read.val_main_v5 (F := Ideal) x g (ix3 q d s) = _
  rw [Cert.ReferenceUpDwIdeal.Read.val_main_v5_apply, Cert.ReferenceUpDwIdeal.Read.val_main_v4_apply, Cert.ReferenceUpDwIdeal.Read.val_main_v3_apply, Cert.ReferenceUpDwIdeal.Read.val_main_v2_apply]
  refine Finset.sum_congr rfl fun n _ => (mul_comm (G := EReal) _ _).trans (congr (congrArg (fun a b : EReal => a * b) (congrArg x ?_)) (congrArg g ?_))
  · funext a
    match a with
    | ⟨0, _⟩ => rfl
    | ⟨1, _⟩ => exact Fin.ext (show ((d.val * 4 + q.val) * 704 + s.val) / 2816 = d.val by omega)
  · funext a
    match a with
    | ⟨0, _⟩ => rfl
    | ⟨1, _⟩ => exact Fin.ext (show ((d.val * 4 + q.val) * 704 + s.val) % 2816 = 704 * q.val + s.val by omega)

/-- The kernel's array is the reference's. -/
theorem result : (dats m 0 c).arrAt 2 cfg0.N
    = Cert.ReferenceUpDwIdeal.Read.val_main_v6 (F := Ideal) (m (c, Proc.tc.devRef main_arg0)) (m (c, Proc.tc.devRef main_arg1)) := by
  rw [array, entry_x, entry_g]
  funext i
  rw [← ix3_eta i]
  refine Eq.trans ?_ (ref_at _ _ (i 0) (i 1) (i 2)).symm
  rw [sum_blocks 4 2048 8192 rfl]
  exact Finset.sum_congr rfl fun j _ => Finset.sum_congr rfl fun k _ => congr (congrArg (fun a b : EReal => a * b) rfl) (group_at _ (i 0) _ (i 2))

theorem algebraic : Cert.algebraic_KernelUpDwIdeal_ReferenceUpDwIdeal := by
  intro m g m' g' _ hagree
  refine ⟨fun c => (dats m 0 c).arrAt 2 cfg0.N, Cert.KernelUpDwIdeal.Value.run_blocks m g,
    (θ_run Cert.ReferenceUpDwIdeal.defs _ _).mono (fun r h c => ?_) (Cert.ReferenceUpDwIdeal.Value.run m' g')⟩
  obtain ⟨a0, a1⟩ := hagree c
  exact ⟨(h c).1.trans ((Cert.ReferenceUpDwIdeal.Read.val_main_v6_eq _ _).trans
    ((congr (congrArg (Cert.ReferenceUpDwIdeal.Read.val_main_v6 (F := Ideal)) a0) a1).trans (result m c).symm)), (h c).2⟩

end Cert.Proof.UpDw
-- ==== Proof.UpDxA.lean ====
/- The gradient through the feed-forward up product, first half of the columns: each output element is four sums of 704 products, which are one sum over the half's 2816 columns. -/
module

public import proofs.«01_k».proof.Defs
public import proofs.«01_k».proof.Proof.Linear
public import proofs.«01_k».proof.Proof.Gen.KernelUpDxAIdeal.Value
public import proofs.«01_k».proof.Proof.Gen.ReferenceUpDxAIdeal.Read

@[expose] public section

set_option maxRecDepth 16384

noncomputable section

namespace Cert.Proof.UpDxA

open Idealize.ShloMosaic Idealize.ShloMosaic.Pointwise Idealize.ShloMosaic.TcCoe Idealize.ShloMosaic.Tactic
open Cert.Proof.Linear Cert.KernelUpDxAIdeal Cert.KernelUpDxAIdeal.Gen

theorem product (x0 x1 x2 x3 : FVec Ideal S1x1024x704 .bf16) (y0 y1 y2 y3 : FVec Ideal S1x512x704 .bf16) (r : Fin 1024) (s : Fin 512) :
    k0_pay3 (F := Ideal) x0 y0 x1 y1 x2 y2 x3 y3 (ix2 r s)
      = (∑ k : Fin 704, x0 (ix3 0 r k) * y0 (ix3 0 s k)) + (∑ k : Fin 704, x1 (ix3 0 r k) * y1 (ix3 0 s k))
        + (∑ k : Fin 704, x2 (ix3 0 r k) * y2 (ix3 0 s k)) + ∑ k : Fin 704, x3 (ix3 0 r k) * y3 (ix3 0 s k) := by
  pointwise [k0_pay3]

/-- The four products of a point, one for each group of columns, added. -/
def terms (x : Vec Ideal S4x1024x704 .bf16) (y : Vec Ideal S4x512x704 .bf16) : FVec Ideal S1024x512 .f32 :=
  k0_pay3 (F := Ideal) (View.ld x (Rect.unit (s := S4x1024x704) ![0, 0, 0] S1x1024x704.size inb_S4x1024x704_S1x1024x704_0_0_0)) (View.ld y (Rect.unit (s := S4x512x704) ![0, 0, 0] S1x512x704.size inb_S4x512x704_S1x512x704_0_0_0))
      (View.ld x (Rect.unit (s := S4x1024x704) ![1, 0, 0] S1x1024x704.size inb_S4x1024x704_S1x1024x704_1_0_0)) (View.ld y (Rect.unit (s := S4x512x704) ![1, 0, 0] S1x512x704.size inb_S4x512x704_S1x512x704_1_0_0))
      (View.ld x (Rect.unit (s := S4x1024x704) ![2, 0, 0] S1x1024x704.size inb_S4x1024x704_S1x1024x704_2_0_0)) (View.ld y (Rect.unit (s := S4x512x704) ![2, 0, 0] S1x512x704.size inb_S4x512x704_S1x512x704_2_0_0))
      (View.ld x (Rect.unit (s := S4x1024x704) ![3, 0, 0] S1x1024x704.size inb_S4x1024x704_S1x1024x704_3_0_0)) (View.ld y (Rect.unit (s := S4x512x704) ![3, 0, 0] S1x512x704.size inb_S4x512x704_S1x512x704_3_0_0))

theorem slab_mul (x : Vec Ideal S4x1024x704 .bf16) (y : Vec Ideal S4x512x704 .bf16) (g : Fin 4) {inb inb'} (r : Fin 1024) (s : Fin 512) (k : Fin 704) :
    (View.ld x (Rect.unit (s := S4x1024x704) ![g.val, 0, 0] S1x1024x704.size inb) (ix3 (0 : Fin 1) r k) : EReal)
        * View.ld y (Rect.unit (s := S4x512x704) ![g.val, 0, 0] S1x512x704.size inb') (ix3 (0 : Fin 1) s k)
      = (x (ix3 g r k) : EReal) * y (ix3 g s k) :=
  congr (congrArg (fun a b : EReal => a * b) (ld_slab x g.val g.isLt r k)) (ld_slab y g.val g.isLt s k)

theorem terms_at (x : Vec Ideal S4x1024x704 .bf16) (y : Vec Ideal S4x512x704 .bf16) (r : Fin 1024) (s : Fin 512) :
    terms x y (ix2 r s) = ∑ j : Fin 4, ∑ k : Fin 704, (x (ix3 j r k) : EReal) * y (ix3 j s k) := by
  refine (product _ _ _ _ _ _ _ _ r s).trans ?_
  rw [Fin.sum_univ_four]
  exact congr (congrArg (fun a b : EReal => a + b) (congr (congrArg (fun a b : EReal => a + b) (congr (congrArg (fun a b : EReal => a + b)
    (Finset.sum_congr rfl fun k _ => slab_mul x y 0 r s k)) (Finset.sum_congr rfl fun k _ => slab_mul x y 1 r s k)))
    (Finset.sum_congr rfl fun k _ => slab_mul x y 2 r s k))) (Finset.sum_congr rfl fun k _ => slab_mul x y 3 r s k)

theorem out_eq (c : Dev nD) (i : grid0.Coords) (arg4 : Memref sig .tc .vmem S4x1024x704 .bf16) (harg4 : arg4.IsWhole) (arg5 : Memref sig .tc .vmem S4x512x704 .bf16) (harg5 : arg5.IsWhole)
    (arg6 : Memref sig .tc .vmem S1024x512 .f32) (harg6 : arg6.IsWhole) (arg7 : Memref sig .tc .vmem S1024x512 .f32) (harg7 : arg7.IsWhole) (hc0 : cond0_0 i) (hc1 : ¬cond0_1 i) (hc2 : cond0_2 i)
    (x : Vec Ideal S4x1024x704 .bf16) (y : Vec Ideal S4x512x704 .bf16) :
    out0_A_2 c i arg4 harg4 arg5 harg5 arg6 harg6 arg7 harg7 hc0 hc1 hc2 x y = k0_pay1 (F := Ideal) (terms x y) := by
  unfold out0_A_2
  rw [View.read_writes_eq_canon _ _ _ (cover0_A_2 c i arg4 harg4 arg5 harg5 arg6 harg6 arg7 harg7 hc0 hc1 hc2 x y)]
  unfold kernelRun0_A
  dsimp only
  sl_unfold_words
  rw [View.canon_unit_zero (S := S1024x512) hz2]
  simp only [View.readCov_unit_zero (S := S1024x512) _ hz2, View.readAt_eq_ld, harg4.read_unread, harg5.read_unread]
  rfl

theorem out_at (x : Vec Ideal S4x1024x704 .bf16) (y : Vec Ideal S4x512x704 .bf16) (r : Fin 1024) (s : Fin 512) :
    (k0_pay1 (F := Ideal) (terms x y)) (ix2 r s) = ∑ j : Fin 4, ∑ k : Fin 704, (x (ix3 j r k) : EReal) * y (ix3 j s k) := by
  rw [← terms_at]
  generalize terms x y = f
  pointwise [k0_pay1]

theorem index0 : ∀ t : Fin cfg0.N, win0_0.index t = ![0, t.val / 2, 0] := by decide +kernel
theorem index1 : ∀ t : Fin cfg0.N, win0_1.index t = ![0, t.val % 2, 0] := by decide +kernel
theorem indexOut : ∀ t : Fin cfg0.N, win0_2.index t = ![t.val / 2, t.val % 2] := by decide +kernel

variable (m : (ℓ : Loc nD τ sig) → Buf (Elt Ideal) ℓ) (c : Dev nD)

theorem block0 (t : Fin cfg0.N) (j : Fin 4) (r : Fin 1024) (k : Fin 704) :
    iblk m c 0 t (ix3 j r k) = V m c main_v2 (ix3 j (⟨1024 * (t.val / 2) + r.val, by have := lt_of_lt_of_eq t.isLt N_0; omega⟩ : Fin 8192) k) := by
  blk_ext [iblk, index0 t]

theorem block1 (t : Fin cfg0.N) (j : Fin 4) (s : Fin 512) (k : Fin 704) :
    iblk m c 1 t (ix3 j s k) = V m c main_v5 (ix3 (⟨0 + j.val, by omega⟩ : Fin 8) (⟨512 * (t.val % 2) + s.val, by omega⟩ : Fin 1024) k) := by
  blk_ext [iblk, index1 t]

/-- Each row of the gradient against each row of the weight, group of columns by group of columns. -/
def rows (dh : S4x8192x704.Idx → EReal) (w : S8x1024x704.Idx → EReal) : S8192x1024.Idx → EReal := fun i =>
  ∑ j : Fin 4, ∑ k : Fin 704, dh (ix3 j (i 0) k) * w (ix3 (⟨0 + j.val, by omega⟩ : Fin 8) (i 1) k)

theorem array : (dats m 0 c).arrAt 2 cfg0.N = rows (V m c main_v2) (V m c main_v5) := by
  refine (dats m 0 c).arrAt_eq_of_covers 2 _ (by decide +kernel) fun t hf y => ?_
  blk_simp
  rw [after0_2]
  obtain ⟨r, s, rfl⟩ : ∃ (r : Fin 1024) (s : Fin 512), y = ix2 r s := ⟨y 0, y 1, (ix2_eta y).symm⟩
  unfold outsAt0
  rw [out_eq]
  refine (out_at (iblk m c 0 t) (iblk m c 1 t) r s).trans ?_
  have h0 : win0_2.index t 0 = t.val / 2 := congrFun (indexOut t) 0
  have h1 : win0_2.index t 1 = t.val % 2 := congrFun (indexOut t) 1
  refine Finset.sum_congr rfl fun j _ => Finset.sum_congr rfl fun k _ => ?_
  rw [block0, block1]
  refine congr (congrArg (fun a b : EReal => a * b) (congrArg (V m c main_v2) ?_)) (congrArg (V m c main_v5) ?_)
  · refine ix3_congr rfl (Fin.ext ?_) rfl
    blk_simp
    rw [h0]; dsimp only [ix2]; omega
  · refine ix3_congr rfl (Fin.ext ?_) rfl
    blk_simp
    rw [h1]; dsimp only [ix2]; omega

set_option maxHeartbeats 4000000 in
/-- The incoming gradient, its columns in four groups. -/
theorem entry_dh : V m c main_v2 = truncf (F := Ideal) .bf16 (transpose S4x8192x704 [1, 0, 2] (shapeCast S8192x4x704 (m (c, Proc.tc.devRef main_arg0)) shapeCasts_S8192x2816_S8192x4x704) transposes_S8192x4x704_S4x8192x704_1_0_2) bitsLt_bf16_f32 := by
  show StableHlo.after hostOps0 (fun b => m (c, b)) (Proc.tc.devRef main_v2) = _
  simp only [hostOps0, StableHlo.TRef.binary, StableHlo.TRef.nullary, StableHlo.TRef.ternary,
    StableHlo.TRef.unary, StableHlo.TRef.toBuf, StableHlo.TRef.ofBuf, cast_eq]
  after_results_simp
  rfl

set_option maxHeartbeats 4000000 in
/-- The weight, its columns in eight groups. -/
theorem entry_w : V m c main_v5 = truncf (F := Ideal) .bf16 (transpose S8x1024x704 [1, 0, 2] (shapeCast S1024x8x704 (m (c, Proc.tc.devRef main_arg1)) shapeCasts_S1024x5632_S1024x8x704) transposes_S1024x8x704_S8x1024x704_1_0_2) bitsLt_bf16_f32 := by
  show StableHlo.after hostOps0 (fun b => m (c, b)) (Proc.tc.devRef main_v5) = _
  simp only [hostOps0, StableHlo.TRef.binary, StableHlo.TRef.nullary, StableHlo.TRef.ternary,
    StableHlo.TRef.unary, StableHlo.TRef.toBuf, StableHlo.TRef.ofBuf, cast_eq]
  after_results_simp
  rfl

/-- A column of a group is a column of the gradient. -/
theorem dh_at (x : FVec Ideal S8192x2816 .f32) (j : Fin 4) (n : Fin 8192) (k : Fin 704) :
    truncf .bf16 (transpose S4x8192x704 [1, 0, 2] (shapeCast S8192x4x704 x shapeCasts_S8192x2816_S8192x4x704) transposes_S8192x4x704_S4x8192x704_1_0_2) bitsLt_bf16_f32 (ix3 j n k)
      = x (ix2 n (⟨704 * j.val + k.val, by omega⟩ : Fin 2816)) := by
  show transpose S4x8192x704 [1, 0, 2] (shapeCast S8192x4x704 x shapeCasts_S8192x2816_S8192x4x704) transposes_S8192x4x704_S4x8192x704_1_0_2 (ix3 j n k) = _
  refine (transpose_apply [1, 0, 2] _ transposes_S8192x4x704_S4x8192x704_1_0_2 (ix3 j n k) (ix3 n j k) (fun b => match b with
    | ⟨0, _⟩ => rfl
    | ⟨1, _⟩ => rfl
    | ⟨2, _⟩ => rfl)).trans ?_
  refine shapeCast_apply x shapeCasts_S8192x2816_S8192x4x704 (ix3 n j k) _ ?_
  rw [Shape.rowMajor_val_two, Shape.rowMajor_val_three]
  show n.val * 2816 + (704 * j.val + k.val) = (n.val * 4 + j.val) * 704 + k.val
  ring

/-- A column of a group is a column of the weight. -/
theorem w_at (x : FVec Ideal S1024x5632 .f32) (j : Fin 8) (n : Fin 1024) (k : Fin 704) :
    truncf .bf16 (transpose S8x1024x704 [1, 0, 2] (shapeCast S1024x8x704 x shapeCasts_S1024x5632_S1024x8x704) transposes_S1024x8x704_S8x1024x704_1_0_2) bitsLt_bf16_f32 (ix3 j n k)
      = x (ix2 n (⟨704 * j.val + k.val, by omega⟩ : Fin 5632)) := by
  show transpose S8x1024x704 [1, 0, 2] (shapeCast S1024x8x704 x shapeCasts_S1024x5632_S1024x8x704) transposes_S1024x8x704_S8x1024x704_1_0_2 (ix3 j n k) = _
  refine (transpose_apply [1, 0, 2] _ transposes_S1024x8x704_S8x1024x704_1_0_2 (ix3 j n k) (ix3 n j k) (fun b => match b with
    | ⟨0, _⟩ => rfl
    | ⟨1, _⟩ => rfl
    | ⟨2, _⟩ => rfl)).trans ?_
  refine shapeCast_apply x shapeCasts_S1024x5632_S1024x8x704 (ix3 n j k) _ ?_
  rw [Shape.rowMajor_val_two, Shape.rowMajor_val_three]
  show n.val * 5632 + (704 * j.val + k.val) = (n.val * 8 + j.val) * 704 + k.val
  ring

/-- The reference's gradient at an index. -/
theorem ref_at (dh : FVec Ideal S8192x2816 .f32) (w : FVec Ideal S1024x5632 .f32) (n : Fin 8192) (d : Fin 1024) :
    Cert.ReferenceUpDxAIdeal.Read.val_main_v3 (F := Ideal) dh w (ix2 n d)
      = ∑ k : Fin 2816, dh (ix2 n k) * w (ix2 d (⟨0 + k.val, by omega⟩ : Fin 5632)) := by
  rw [Cert.ReferenceUpDxAIdeal.Read.val_main_v3_apply]
  refine Finset.sum_congr rfl fun k _ => congr (congrArg (fun a b : EReal => a * b) (congrArg dh ?_)) ?_
  · funext a
    match a with
    | ⟨0, _⟩ => rfl
    | ⟨1, _⟩ => rfl
  · rw [Cert.ReferenceUpDxAIdeal.Read.val_main_v1_apply]
    refine congrArg w ?_
    funext a
    match a with
    | ⟨0, _⟩ => exact Fin.ext (by simp [Cert.ReferenceUpDxAIdeal.Read.ridx_main_v3, Cert.ReferenceUpDxAIdeal.Read.idx_main_v1])
    | ⟨1, _⟩ => exact Fin.ext (by simp [Cert.ReferenceUpDxAIdeal.Read.ridx_main_v3, Cert.ReferenceUpDxAIdeal.Read.idx_main_v1])

/-- The kernel's array is the reference's. -/
theorem result : (dats m 0 c).arrAt 2 cfg0.N
    = Cert.ReferenceUpDxAIdeal.Read.val_main_v3 (F := Ideal) (m (c, Proc.tc.devRef main_arg0)) (m (c, Proc.tc.devRef main_arg1)) := by
  rw [array, entry_dh, entry_w]
  funext i
  rw [← ix2_eta i]
  refine Eq.trans ?_ (ref_at _ _ (i 0) (i 1)).symm
  rw [sum_blocks 4 704 2816 rfl]
  refine Finset.sum_congr rfl fun j _ => Finset.sum_congr rfl fun k _ => congr (congrArg (fun a b : EReal => a * b) (dh_at _ j (i 0) k)) ((w_at _ _ (i 1) k).trans ?_)
  exact congrArg (m (c, Proc.tc.devRef main_arg1)) (ix2_congr rfl (Fin.ext (by dsimp only; omega)))

theorem algebraic : Cert.algebraic_KernelUpDxAIdeal_ReferenceUpDxAIdeal := by
  intro m g m' g' _ hagree
  refine ⟨fun c => (dats m 0 c).arrAt 2 cfg0.N, Cert.KernelUpDxAIdeal.Value.run_blocks m g,
    (θ_run Cert.ReferenceUpDxAIdeal.defs _ _).mono (fun r h c => ?_) (Cert.ReferenceUpDxAIdeal.Value.run m' g')⟩
  obtain ⟨a0, a1⟩ := hagree c
  exact ⟨(h c).1.trans ((Cert.ReferenceUpDxAIdeal.Read.val_main_v3_eq _ _).trans
    ((congr (congrArg (Cert.ReferenceUpDxAIdeal.Read.val_main_v3 (F := Ideal)) a0) a1).trans (result m c).symm)), (h c).2⟩

end Cert.Proof.UpDxA
-- ==== Proof.UpDxB.lean ====
/- The gradient through the feed-forward up product, second half of the columns: each output element adds, to the gradient it is given, four sums of 704 products, which are one sum over the half's 2816 columns. -/
module

public import proofs.«01_k».proof.Defs
public import proofs.«01_k».proof.Proof.Linear
public import proofs.«01_k».proof.Proof.Gen.KernelUpDxBIdeal.Value
public import proofs.«01_k».proof.Proof.Gen.ReferenceUpDxBIdeal.Read

@[expose] public section

set_option maxRecDepth 16384

noncomputable section

namespace Cert.Proof.UpDxB

open Idealize.ShloMosaic Idealize.ShloMosaic.Pointwise Idealize.ShloMosaic.TcCoe Idealize.ShloMosaic.Tactic
open Cert.Proof.Linear Cert.KernelUpDxBIdeal Cert.KernelUpDxBIdeal.Gen

theorem product (x0 x1 x2 x3 : FVec Ideal S1x1024x704 .bf16) (y0 y1 y2 y3 : FVec Ideal S1x512x704 .bf16) (r : Fin 1024) (s : Fin 512) :
    k0_pay4 (F := Ideal) x0 y0 x1 y1 x2 y2 x3 y3 (ix2 r s)
      = (∑ k : Fin 704, x0 (ix3 0 r k) * y0 (ix3 0 s k)) + (∑ k : Fin 704, x1 (ix3 0 r k) * y1 (ix3 0 s k))
        + (∑ k : Fin 704, x2 (ix3 0 r k) * y2 (ix3 0 s k)) + ∑ k : Fin 704, x3 (ix3 0 r k) * y3 (ix3 0 s k) := by
  pointwise [k0_pay4]

/-- The four products of a point, one for each group of columns, added. -/
def terms (x : Vec Ideal S4x1024x704 .bf16) (y : Vec Ideal S4x512x704 .bf16) : FVec Ideal S1024x512 .f32 :=
  k0_pay4 (F := Ideal) (View.ld x (Rect.unit (s := S4x1024x704) ![0, 0, 0] S1x1024x704.size inb_S4x1024x704_S1x1024x704_0_0_0)) (View.ld y (Rect.unit (s := S4x512x704) ![0, 0, 0] S1x512x704.size inb_S4x512x704_S1x512x704_0_0_0))
      (View.ld x (Rect.unit (s := S4x1024x704) ![1, 0, 0] S1x1024x704.size inb_S4x1024x704_S1x1024x704_1_0_0)) (View.ld y (Rect.unit (s := S4x512x704) ![1, 0, 0] S1x512x704.size inb_S4x512x704_S1x512x704_1_0_0))
      (View.ld x (Rect.unit (s := S4x1024x704) ![2, 0, 0] S1x1024x704.size inb_S4x1024x704_S1x1024x704_2_0_0)) (View.ld y (Rect.unit (s := S4x512x704) ![2, 0, 0] S1x512x704.size inb_S4x512x704_S1x512x704_2_0_0))
      (View.ld x (Rect.unit (s := S4x1024x704) ![3, 0, 0] S1x1024x704.size inb_S4x1024x704_S1x1024x704_3_0_0)) (View.ld y (Rect.unit (s := S4x512x704) ![3, 0, 0] S1x512x704.size inb_S4x512x704_S1x512x704_3_0_0))

theorem slab_mul (x : Vec Ideal S4x1024x704 .bf16) (y : Vec Ideal S4x512x704 .bf16) (g : Fin 4) {inb inb'} (r : Fin 1024) (s : Fin 512) (k : Fin 704) :
    (View.ld x (Rect.unit (s := S4x1024x704) ![g.val, 0, 0] S1x1024x704.size inb) (ix3 (0 : Fin 1) r k) : EReal)
        * View.ld y (Rect.unit (s := S4x512x704) ![g.val, 0, 0] S1x512x704.size inb') (ix3 (0 : Fin 1) s k)
      = (x (ix3 g r k) : EReal) * y (ix3 g s k) :=
  congr (congrArg (fun a b : EReal => a * b) (ld_slab x g.val g.isLt r k)) (ld_slab y g.val g.isLt s k)

theorem terms_at (x : Vec Ideal S4x1024x704 .bf16) (y : Vec Ideal S4x512x704 .bf16) (r : Fin 1024) (s : Fin 512) :
    terms x y (ix2 r s) = ∑ j : Fin 4, ∑ k : Fin 704, (x (ix3 j r k) : EReal) * y (ix3 j s k) := by
  refine (product _ _ _ _ _ _ _ _ r s).trans ?_
  rw [Fin.sum_univ_four]
  exact congr (congrArg (fun a b : EReal => a + b) (congr (congrArg (fun a b : EReal => a + b) (congr (congrArg (fun a b : EReal => a + b)
    (Finset.sum_congr rfl fun k _ => slab_mul x y 0 r s k)) (Finset.sum_congr rfl fun k _ => slab_mul x y 1 r s k)))
    (Finset.sum_congr rfl fun k _ => slab_mul x y 2 r s k))) (Finset.sum_congr rfl fun k _ => slab_mul x y 3 r s k)

theorem out_eq (c : Dev nD) (i : grid0.Coords) (arg4 : Memref sig .tc .vmem S4x1024x704 .bf16) (harg4 : arg4.IsWhole) (arg5 : Memref sig .tc .vmem S4x512x704 .bf16) (harg5 : arg5.IsWhole)
    (arg6 : Memref sig .tc .vmem S1024x512 .f32) (harg6 : arg6.IsWhole) (arg7 : Memref sig .tc .vmem S1024x512 .f32) (harg7 : arg7.IsWhole) (arg8 : Memref sig .tc .vmem S1024x512 .f32) (harg8 : arg8.IsWhole) (hc0 : cond0_0 i) (hc1 : ¬cond0_1 i) (hc2 : cond0_2 i)
    (x : Vec Ideal S4x1024x704 .bf16) (y : Vec Ideal S4x512x704 .bf16) (z : Vec Ideal S1024x512 .f32) :
    out0_A_3 c i arg4 harg4 arg5 harg5 arg6 harg6 arg7 harg7 arg8 harg8 hc0 hc1 hc2 x y z = k0_pay3 (F := Ideal) (k0_pay1 (F := Ideal) (terms x y)) z := by
  unfold out0_A_3
  rw [View.read_writes_eq_canon _ _ _ (cover0_A_3 c i arg4 harg4 arg5 harg5 arg6 harg6 arg7 harg7 arg8 harg8 hc0 hc1 hc2 x y z)]
  unfold kernelRun0_A
  dsimp only
  sl_unfold_words
  rw [View.canon_unit_zero (S := S1024x512) hz2]
  simp only [View.readCov_unit_zero (S := S1024x512) _ hz2, View.readAt_eq_ld, harg4.read_unread, harg5.read_unread, harg6.read_unread, View.ld_unit_zero (S := S1024x512) hz2]
  rfl

theorem out_at (x : Vec Ideal S4x1024x704 .bf16) (y : Vec Ideal S4x512x704 .bf16) (z : Vec Ideal S1024x512 .f32) (r : Fin 1024) (s : Fin 512) :
    (k0_pay3 (F := Ideal) (k0_pay1 (F := Ideal) (terms x y)) z) (ix2 r s) = z (ix2 r s) + ∑ j : Fin 4, ∑ k : Fin 704, (x (ix3 j r k) : EReal) * y (ix3 j s k) := by
  rw [← terms_at]
  generalize terms x y = f
  unfold k0_pay1
  pointwise [k0_pay3]
  exact add_comm _ _

theorem index0 : ∀ t : Fin cfg0.N, win0_0.index t = ![0, t.val / 2, 0] := by decide +kernel
theorem index1 : ∀ t : Fin cfg0.N, win0_1.index t = ![1, t.val % 2, 0] := by decide +kernel
theorem index2 : ∀ t : Fin cfg0.N, win0_2.index t = ![t.val / 2, t.val % 2] := by decide +kernel
theorem indexOut : ∀ t : Fin cfg0.N, win0_3.index t = ![t.val / 2, t.val % 2] := by decide +kernel

variable (m : (ℓ : Loc nD τ sig) → Buf (Elt Ideal) ℓ) (c : Dev nD)

theorem block0 (t : Fin cfg0.N) (j : Fin 4) (r : Fin 1024) (k : Fin 704) :
    iblk m c 0 t (ix3 j r k) = V m c main_v2 (ix3 j (⟨1024 * (t.val / 2) + r.val, by have := lt_of_lt_of_eq t.isLt N_0; omega⟩ : Fin 8192) k) := by
  blk_ext [iblk, index0 t]

theorem block1 (t : Fin cfg0.N) (j : Fin 4) (s : Fin 512) (k : Fin 704) :
    iblk m c 1 t (ix3 j s k) = V m c main_v5 (ix3 (⟨4 + j.val, by omega⟩ : Fin 8) (⟨512 * (t.val % 2) + s.val, by omega⟩ : Fin 1024) k) := by
  blk_ext [iblk, index1 t]

theorem block2 (t : Fin cfg0.N) (r : Fin 1024) (s : Fin 512) :
    iblk m c 2 t (ix2 r s) = V m c main_arg2 (ix2 (⟨1024 * (t.val / 2) + r.val, by have := lt_of_lt_of_eq t.isLt N_0; omega⟩ : Fin 8192) (⟨512 * (t.val % 2) + s.val, by omega⟩ : Fin 1024)) := by
  blk_ext [iblk, index2 t]

/-- Each row of the gradient against each row of the weight, group of columns by group of columns. -/
def rows (dh : S4x8192x704.Idx → EReal) (w : S8x1024x704.Idx → EReal) (z : S8192x1024.Idx → EReal) : S8192x1024.Idx → EReal := fun i =>
  z i + ∑ j : Fin 4, ∑ k : Fin 704, dh (ix3 j (i 0) k) * w (ix3 (⟨4 + j.val, by omega⟩ : Fin 8) (i 1) k)

theorem array : (dats m 0 c).arrAt 3 cfg0.N = rows (V m c main_v2) (V m c main_v5) (V m c main_arg2) := by
  refine (dats m 0 c).arrAt_eq_of_covers 3 _ (by decide +kernel) fun t hf y => ?_
  blk_simp
  rw [after0_3]
  obtain ⟨r, s, rfl⟩ : ∃ (r : Fin 1024) (s : Fin 512), y = ix2 r s := ⟨y 0, y 1, (ix2_eta y).symm⟩
  unfold outsAt0
  rw [out_eq]
  refine (out_at (iblk m c 0 t) (iblk m c 1 t) (iblk m c 2 t) r s).trans ?_
  have h0 : win0_3.index t 0 = t.val / 2 := congrFun (indexOut t) 0
  have h1 : win0_3.index t 1 = t.val % 2 := congrFun (indexOut t) 1
  refine congr (congrArg (fun a b : EReal => a + b) ?_) ?_
  · rw [block2]
    refine congrArg (V m c main_arg2) ?_
    refine Eq.trans (ix2_congr (Fin.ext ?_) (Fin.ext ?_)) (ix2_eta _)
    · blk_simp
      rw [h0]; dsimp only [ix2]; omega
    · blk_simp
      rw [h1]; dsimp only [ix2]; omega
  refine Finset.sum_congr rfl fun j _ => Finset.sum_congr rfl fun k _ => ?_
  rw [block0, block1]
  refine congr (congrArg (fun a b : EReal => a * b) (congrArg (V m c main_v2) ?_)) (congrArg (V m c main_v5) ?_)
  · refine ix3_congr rfl (Fin.ext ?_) rfl
    blk_simp
    rw [h0]; dsimp only [ix2]; omega
  · refine ix3_congr rfl (Fin.ext ?_) rfl
    blk_simp
    rw [h1]; dsimp only [ix2]; omega

set_option maxHeartbeats 4000000 in
/-- The incoming gradient, its columns in four groups. -/
theorem entry_dh : V m c main_v2 = truncf (F := Ideal) .bf16 (transpose S4x8192x704 [1, 0, 2] (shapeCast S8192x4x704 (m (c, Proc.tc.devRef main_arg0)) shapeCasts_S8192x2816_S8192x4x704) transposes_S8192x4x704_S4x8192x704_1_0_2) bitsLt_bf16_f32 := by
  show StableHlo.after hostOps0 (fun b => m (c, b)) (Proc.tc.devRef main_v2) = _
  simp only [hostOps0, StableHlo.TRef.binary, StableHlo.TRef.nullary, StableHlo.TRef.ternary,
    StableHlo.TRef.unary, StableHlo.TRef.toBuf, StableHlo.TRef.ofBuf, cast_eq]
  after_results_simp
  rfl

set_option maxHeartbeats 4000000 in
/-- The weight, its columns in eight groups. -/
theorem entry_w : V m c main_v5 = truncf (F := Ideal) .bf16 (transpose S8x1024x704 [1, 0, 2] (shapeCast S1024x8x704 (m (c, Proc.tc.devRef main_arg1)) shapeCasts_S1024x5632_S1024x8x704) transposes_S1024x8x704_S8x1024x704_1_0_2) bitsLt_bf16_f32 := by
  show StableHlo.after hostOps0 (fun b => m (c, b)) (Proc.tc.devRef main_v5) = _
  simp only [hostOps0, StableHlo.TRef.binary, StableHlo.TRef.nullary, StableHlo.TRef.ternary,
    StableHlo.TRef.unary, StableHlo.TRef.toBuf, StableHlo.TRef.ofBuf, cast_eq]
  after_results_simp
  rfl

/-- A column of a group is a column of the gradient. -/
theorem dh_at (x : FVec Ideal S8192x2816 .f32) (j : Fin 4) (n : Fin 8192) (k : Fin 704) :
    truncf .bf16 (transpose S4x8192x704 [1, 0, 2] (shapeCast S8192x4x704 x shapeCasts_S8192x2816_S8192x4x704) transposes_S8192x4x704_S4x8192x704_1_0_2) bitsLt_bf16_f32 (ix3 j n k)
      = x (ix2 n (⟨704 * j.val + k.val, by omega⟩ : Fin 2816)) := by
  show transpose S4x8192x704 [1, 0, 2] (shapeCast S8192x4x704 x shapeCasts_S8192x2816_S8192x4x704) transposes_S8192x4x704_S4x8192x704_1_0_2 (ix3 j n k) = _
  refine (transpose_apply [1, 0, 2] _ transposes_S8192x4x704_S4x8192x704_1_0_2 (ix3 j n k) (ix3 n j k) (fun b => match b with
    | ⟨0, _⟩ => rfl
    | ⟨1, _⟩ => rfl
    | ⟨2, _⟩ => rfl)).trans ?_
  refine shapeCast_apply x shapeCasts_S8192x2816_S8192x4x704 (ix3 n j k) _ ?_
  rw [Shape.rowMajor_val_two, Shape.rowMajor_val_three]
  show n.val * 2816 + (704 * j.val + k.val) = (n.val * 4 + j.val) * 704 + k.val
  ring

/-- A column of a group is a column of the weight. -/
theorem w_at (x : FVec Ideal S1024x5632 .f32) (j : Fin 8) (n : Fin 1024) (k : Fin 704) :
    truncf .bf16 (transpose S8x1024x704 [1, 0, 2] (shapeCast S1024x8x704 x shapeCasts_S1024x5632_S1024x8x704) transposes_S1024x8x704_S8x1024x704_1_0_2) bitsLt_bf16_f32 (ix3 j n k)
      = x (ix2 n (⟨704 * j.val + k.val, by omega⟩ : Fin 5632)) := by
  show transpose S8x1024x704 [1, 0, 2] (shapeCast S1024x8x704 x shapeCasts_S1024x5632_S1024x8x704) transposes_S1024x8x704_S8x1024x704_1_0_2 (ix3 j n k) = _
  refine (transpose_apply [1, 0, 2] _ transposes_S1024x8x704_S8x1024x704_1_0_2 (ix3 j n k) (ix3 n j k) (fun b => match b with
    | ⟨0, _⟩ => rfl
    | ⟨1, _⟩ => rfl
    | ⟨2, _⟩ => rfl)).trans ?_
  refine shapeCast_apply x shapeCasts_S1024x5632_S1024x8x704 (ix3 n j k) _ ?_
  rw [Shape.rowMajor_val_two, Shape.rowMajor_val_three]
  show n.val * 5632 + (704 * j.val + k.val) = (n.val * 8 + j.val) * 704 + k.val
  ring

/-- The reference's gradient at an index. -/
theorem ref_at (dh : FVec Ideal S8192x2816 .f32) (w : FVec Ideal S1024x5632 .f32) (z : FVec Ideal S8192x1024 .f32) (n : Fin 8192) (d : Fin 1024) :
    Cert.ReferenceUpDxBIdeal.Read.val_main_v4 (F := Ideal) dh w z (ix2 n d)
      = z (ix2 n d) + ∑ k : Fin 2816, dh (ix2 n k) * w (ix2 d (⟨2816 + k.val, by omega⟩ : Fin 5632)) := by
  rw [Cert.ReferenceUpDxBIdeal.Read.val_main_v4_apply, Cert.ReferenceUpDxBIdeal.Read.val_main_v3_apply]
  refine congrArg (fun a : EReal => z (ix2 n d) + a) (Finset.sum_congr rfl fun k _ => congr (congrArg (fun a b : EReal => a * b) (congrArg dh ?_)) ?_)
  · funext a
    match a with
    | ⟨0, _⟩ => rfl
    | ⟨1, _⟩ => rfl
  · rw [Cert.ReferenceUpDxBIdeal.Read.val_main_v1_apply]
    refine congrArg w ?_
    funext a
    match a with
    | ⟨0, _⟩ => exact Fin.ext (by simp [Cert.ReferenceUpDxBIdeal.Read.ridx_main_v3, Cert.ReferenceUpDxBIdeal.Read.idx_main_v1])
    | ⟨1, _⟩ => exact Fin.ext (by simp [Cert.ReferenceUpDxBIdeal.Read.ridx_main_v3, Cert.ReferenceUpDxBIdeal.Read.idx_main_v1])

/-- The kernel's array is the reference's. -/
theorem result : (dats m 0 c).arrAt 3 cfg0.N
    = Cert.ReferenceUpDxBIdeal.Read.val_main_v4 (F := Ideal) (m (c, Proc.tc.devRef main_arg0)) (m (c, Proc.tc.devRef main_arg1)) (m (c, Proc.tc.devRef main_arg2)) := by
  rw [array, entry_dh, entry_w, V_main_arg2]
  obtain ⟨z, hz⟩ : ∃ z : S8192x1024.Idx → EReal, m (c, Proc.tc.devRef main_arg2) = z := ⟨_, rfl⟩
  rw [hz]
  funext i
  rw [← ix2_eta i]
  refine Eq.trans ?_ (ref_at _ _ _ (i 0) (i 1)).symm
  rw [sum_blocks 4 704 2816 rfl]
  refine congrArg (fun a : EReal => z (ix2 (i 0) (i 1)) + a) (Finset.sum_congr rfl fun j _ => Finset.sum_congr rfl fun k _ => congr (congrArg (fun a b : EReal => a * b) (dh_at _ j (i 0) k)) ((w_at _ _ (i 1) k).trans ?_))
  exact congrArg (m (c, Proc.tc.devRef main_arg1)) (ix2_congr rfl (Fin.ext (by dsimp only; omega)))

theorem algebraic : Cert.algebraic_KernelUpDxBIdeal_ReferenceUpDxBIdeal := by
  intro m g m' g' _ hagree
  refine ⟨fun c => (dats m 0 c).arrAt 3 cfg0.N, Cert.KernelUpDxBIdeal.Value.run_blocks m g,
    (θ_run Cert.ReferenceUpDxBIdeal.defs _ _).mono (fun r h c => ?_) (Cert.ReferenceUpDxBIdeal.Value.run m' g')⟩
  obtain ⟨a0, a1, a2⟩ := hagree c
  exact ⟨(h c).1.trans ((Cert.ReferenceUpDxBIdeal.Read.val_main_v4_eq _ _ _).trans
    ((congr (congr (congrArg (Cert.ReferenceUpDxBIdeal.Read.val_main_v4 (F := Ideal)) a0) a1) a2).trans (result m c).symm)), (h c).2⟩

end Cert.Proof.UpDxB
-- ==== Proof.DownDx.lean ====
/- The gradient through the feed-forward down product: every output element is one row of the incoming gradient against one row of the weight. -/
module

public import proofs.«01_k».proof.Defs
public import proofs.«01_k».proof.Proof.Linear
public import proofs.«01_k».proof.Proof.Gen.KernelDownDxIdeal.Value
public import proofs.«01_k».proof.Proof.Gen.ReferenceDownDxIdeal.Read

@[expose] public section

set_option maxRecDepth 16384

noncomputable section

namespace Cert.Proof.DownDx

open Idealize.ShloMosaic Idealize.ShloMosaic.Pointwise Idealize.ShloMosaic.TcCoe Idealize.ShloMosaic.Tactic
open Cert.Proof.Linear Cert.KernelDownDxIdeal Cert.KernelDownDxIdeal.Gen

theorem product (x : FVec Ideal S1024x1024 .bf16) (y : FVec Ideal S1x704x1024 .bf16) (r : Fin 1024) (s : Fin 704) :
    k0_pay1 (F := Ideal) x y (ix2 r s) = ∑ k : Fin 1024, x (ix2 r k) * y (ix3 0 s k) := by
  pointwise [k0_pay1]

theorem out_eq (c : Dev nD) (i : grid0.Coords) (arg4 : Memref sig .tc .vmem S1024x1024 .bf16) (harg4 : arg4.IsWhole) (arg5 : Memref sig .tc .vmem S1x704x1024 .bf16) (harg5 : arg5.IsWhole) (arg6 : Memref sig .tc .vmem S1x1024x704 .f32) (harg6 : arg6.IsWhole) (arg7 : Memref sig .tc .vmem S1024x704 .f32) (harg7 : arg7.IsWhole) (hc0 : cond0_0 i) (hc1 : ¬cond0_1 i) (hc2 : cond0_2 i)
    (x : Vec Ideal S1024x1024 .bf16) (y : Vec Ideal S1x704x1024 .bf16) :
    out0_A_2 c i arg4 harg4 arg5 harg5 arg6 harg6 arg7 harg7 hc0 hc1 hc2 x y = k0_pay4 (k0_pay2 x y) := by
  unfold out0_A_2
  rw [View.read_writes_eq_canon _ _ _ (cover0_A_2 c i arg4 harg4 arg5 harg5 arg6 harg6 arg7 harg7 hc0 hc1 hc2 x y)]
  unfold kernelRun0_A
  dsimp only
  sl_unfold_words
  rw [View.canon_unit_zero (S := S1x1024x704) hz3]
  simp only [View.readCov_unit_zero (S := S1024x704) _ hz2, View.readAt_eq_ld, harg4.read_unread, harg5.read_unread, View.ld_unit_zero (S := S1024x1024) hz2, View.ld_unit_zero (S := S1x704x1024) hz3]

theorem out_at (x : FVec Ideal S1024x1024 .bf16) (y : FVec Ideal S1x704x1024 .bf16) (r : Fin 1024) (s : Fin 704) :
    k0_pay4 (F := Ideal) (k0_pay2 (F := Ideal) x y) (ix3 0 r s) = ∑ k : Fin 1024, x (ix2 r k) * y (ix3 0 s k) := by
  refine Eq.trans ?_ (product x y r s)
  unfold k0_pay2
  pointwise [k0_pay4]

theorem index0 : ∀ t : Fin cfg0.N, win0_0.index t = ![t.val % 8, 0] := by decide +kernel
theorem index1 : ∀ t : Fin cfg0.N, win0_1.index t = ![t.val / 8, 0, 0] := by decide +kernel
theorem index2 : ∀ t : Fin cfg0.N, win0_2.index t = ![t.val / 8, t.val % 8, 0] := by decide +kernel

variable (m : (ℓ : Loc nD τ sig) → Buf (Elt Ideal) ℓ) (c : Dev nD)

theorem block0 (t : Fin cfg0.N) (r : Fin 1024) (k : Fin 1024) :
    iblk m c 0 t (ix2 r k) = V m c main_v2 (ix2 (⟨1024 * (t.val % 8) + r.val, by omega⟩ : Fin 8192) k) := by
  blk_ext [iblk, index0 t]

theorem block1 (t : Fin cfg0.N) (s : Fin 704) (k : Fin 1024) :
    iblk m c 1 t (ix3 0 s k) = V m c main_v1 (ix3 (⟨t.val / 8, by have := lt_of_lt_of_eq t.isLt N_0; omega⟩ : Fin 4) s k) := by
  blk_ext [iblk, index1 t]

/-- Each row of the gradient against each row of a group of the weight. -/
def rows (dy : S8192x1024.Idx → EReal) (w : S4x704x1024.Idx → EReal) : S4x8192x704.Idx → EReal := fun i =>
  ∑ k : Fin 1024, dy (ix2 (i 1) k) * w (ix3 (i 0) (i 2) k)

theorem array : (dats m 0 c).arrAt 2 cfg0.N
    = rows (V m c main_v2) (V m c main_v1) := by
  refine (dats m 0 c).arrAt_eq_of_covers 2 _ (by decide +kernel) fun t hf y => ?_
  blk_simp
  rw [after0_2]
  obtain ⟨r, s, rfl⟩ : ∃ (r : Fin 1024) (s : Fin 704), y = ix3 0 r s :=
    ⟨y 1, y 2, (ix3_eta y).symm.trans (congrArg (fun a => ix3 a (y 1) (y 2)) (Subsingleton.elim (α := Fin 1) _ _))⟩
  unfold outsAt0
  rw [out_eq]
  refine (out_at (iblk m c 0 t) (iblk m c 1 t) r s).trans (Finset.sum_congr rfl fun k _ => ?_)
  have h0 : win0_2.index t 0 = t.val / 8 := congrFun (index2 t) 0
  have h1 : win0_2.index t 1 = t.val % 8 := congrFun (index2 t) 1
  have h2 : win0_2.index t 2 = 0 := congrFun (index2 t) 2
  rw [block0, block1]
  refine congr (congrArg (fun a b : EReal => a * b) (congrArg (V m c main_v2) ?_)) (congrArg (V m c main_v1) ?_)
  · refine congrArg (fun a => ix2 a k) (Fin.ext ?_)
    blk_simp
    rw [h1]; dsimp only [ix3]; omega
  · refine ix3_congr (Fin.ext ?_) (Fin.ext ?_) rfl
    · blk_simp
      rw [h0]; dsimp only [ix3]; omega
    · blk_simp
      rw [h2]; omega

set_option maxHeartbeats 4000000 in
/-- The incoming gradient. -/
theorem entry_dy : V m c main_v2 = truncf (F := Ideal) .bf16 (m (c, Proc.tc.devRef main_arg0)) bitsLt_bf16_f32 := by
  show StableHlo.after hostOps0 (fun b => m (c, b)) (Proc.tc.devRef main_v2) = _
  simp only [hostOps0, StableHlo.TRef.binary, StableHlo.TRef.nullary, StableHlo.TRef.ternary,
    StableHlo.TRef.unary, StableHlo.TRef.toBuf, StableHlo.TRef.ofBuf, cast_eq]
  after_results_simp

set_option maxHeartbeats 4000000 in
/-- The weight, its rows in four groups. -/
theorem entry_w : V m c main_v1 = truncf (F := Ideal) .bf16 (shapeCast S4x704x1024 (m (c, Proc.tc.devRef main_arg1)) shapeCasts_S2816x1024_S4x704x1024) bitsLt_bf16_f32 := by
  show StableHlo.after hostOps0 (fun b => m (c, b)) (Proc.tc.devRef main_v1) = _
  simp only [hostOps0, StableHlo.TRef.binary, StableHlo.TRef.nullary, StableHlo.TRef.ternary,
    StableHlo.TRef.unary, StableHlo.TRef.toBuf, StableHlo.TRef.ofBuf, cast_eq]
  after_results_simp
  rfl

/-- A row of a group is a row of the weight. -/
theorem group_at (w : FVec Ideal S2816x1024 .f32) (q : Fin 4) (s : Fin 704) (k : Fin 1024) :
    truncf .bf16 (shapeCast S4x704x1024 w shapeCasts_S2816x1024_S4x704x1024) bitsLt_bf16_f32 (ix3 q s k)
      = w (ix2 (⟨704 * q.val + s.val, by omega⟩ : Fin 2816) k) := by
  refine shapeCast_apply w shapeCasts_S2816x1024_S4x704x1024 (ix3 q s k) _ ?_
  rw [Shape.rowMajor_val_two, Shape.rowMajor_val_three]
  show (704 * q.val + s.val) * 1024 + k.val = (q.val * 704 + s.val) * 1024 + k.val
  ring

/-- The reference's gradient at an index. -/
theorem ref_at (dy : FVec Ideal S8192x1024 .f32) (w : FVec Ideal S2816x1024 .f32) (q : Fin 4) (n : Fin 8192) (s : Fin 704) :
    Cert.ReferenceDownDxIdeal.Read.val_main_v4 (F := Ideal) dy w (ix3 q n s)
      = ∑ k : Fin 1024, dy (ix2 n k) * w (ix2 (⟨704 * q.val + s.val, by omega⟩ : Fin 2816) k) := by
  rw [Cert.ReferenceDownDxIdeal.Read.val_main_v4_apply, Cert.ReferenceDownDxIdeal.Read.val_main_v3_apply,
    Cert.ReferenceDownDxIdeal.Read.val_main_v2_apply]
  refine Finset.sum_congr rfl fun k _ => congr (congrArg (fun a b : EReal => a * b) (congrArg dy ?_)) (congrArg w ?_)
  · funext a
    match a with
    | ⟨0, _⟩ => exact Fin.ext (show ((n.val * 4 + q.val) * 704 + s.val) / 2816 = n.val by omega)
    | ⟨1, _⟩ => rfl
  · funext a
    match a with
    | ⟨0, _⟩ => exact Fin.ext (show ((n.val * 4 + q.val) * 704 + s.val) % 2816 = 704 * q.val + s.val by omega)
    | ⟨1, _⟩ => rfl

/-- The kernel's array is the reference's. -/
theorem result : (dats m 0 c).arrAt 2 cfg0.N
    = Cert.ReferenceDownDxIdeal.Read.val_main_v4 (F := Ideal) (m (c, Proc.tc.devRef main_arg0)) (m (c, Proc.tc.devRef main_arg1)) := by
  rw [array, entry_dy, entry_w]
  funext i
  rw [← ix3_eta i]
  exact (Finset.sum_congr rfl fun k _ => congrArg _ (group_at _ (i 0) (i 2) k)).trans (ref_at _ _ (i 0) (i 1) (i 2)).symm

theorem algebraic : Cert.algebraic_KernelDownDxIdeal_ReferenceDownDxIdeal := by
  intro m g m' g' _ hagree
  refine ⟨fun c => (dats m 0 c).arrAt 2 cfg0.N, Cert.KernelDownDxIdeal.Value.run_blocks m g,
    (θ_run Cert.ReferenceDownDxIdeal.defs _ _).mono (fun r h c => ?_) (Cert.ReferenceDownDxIdeal.Value.run m' g')⟩
  obtain ⟨a0, a1⟩ := hagree c
  exact ⟨(h c).1.trans ((Cert.ReferenceDownDxIdeal.Read.val_main_v4_eq _ _).trans
    ((congr (congrArg (Cert.ReferenceDownDxIdeal.Read.val_main_v4 (F := Ideal)) a0) a1).trans (result m c).symm)), (h c).2⟩

end Cert.Proof.DownDx
-- ==== Proof.DownDw.lean ====
/- The gradient of the feed-forward down weight: each output element is a column of the activations against a column of the gradient, added over four tiles of 2048 rows that a scratch carries from point to point. -/
module

public import proofs.«01_k».proof.Defs
public import proofs.«01_k».proof.Proof.Linear
public import proofs.«01_k».proof.Proof.Gen.KernelDownDwIdeal.Value
public import proofs.«01_k».proof.Proof.Gen.ReferenceDownDwIdeal.Read

@[expose] public section

set_option maxRecDepth 16384

noncomputable section

namespace Cert.Proof.DownDw

open Idealize.ShloMosaic Idealize.ShloMosaic.Pointwise Idealize.ShloMosaic.TcCoe Idealize.ShloMosaic.Tactic
open Cert.Proof.Linear Cert.KernelDownDwIdeal Cert.KernelDownDwIdeal.Gen

/-- One tile's product. -/
theorem product (x : FVec Ideal S1x2048x704 .bf16) (y : FVec Ideal S2048x512 .bf16) (r : Fin 704) (s : Fin 512) :
    k0_pay1 (F := Ideal) x y (ix2 r s) = ∑ k : Fin 2048, x (ix3 0 k r) * y (ix2 k s) := by
  pointwise [k0_pay1]

theorem start_at (x : Vec Ideal S1x2048x704 .bf16) (y : Vec Ideal S2048x512 .bf16) (r : Fin 704) (s : Fin 512) :
    k0_pay2 (F := Ideal) x y (ix2 r s) = k0_pay1 (F := Ideal) x y (ix2 r s) := by
  unfold k0_pay2
  generalize k0_pay1 (F := Ideal) x y = f
  exact congrFun (shapeCast_self f _) _

theorem step_at (x : Vec Ideal S1x2048x704 .bf16) (y : Vec Ideal S2048x512 .bf16) (z : Vec Ideal S704x512 .f32) (r : Fin 704) (s : Fin 512) :
    k0_pay3 (F := Ideal) x y z (ix2 r s) = (z (ix2 r s) : EReal) + k0_pay1 (F := Ideal) x y (ix2 r s) := by
  unfold k0_pay3
  generalize k0_pay1 (F := Ideal) x y = f
  exact congrFun (shapeCast_self (addf (F := Ideal) z f) _) _

theorem last_at (z : Vec Ideal S704x512 .f32) (r : Fin 704) (s : Fin 512) :
    k0_pay4 (F := Ideal) z (ix3 0 r s) = (z (ix2 r s) : EReal) := by
  pointwise [k0_pay4]

theorem first_eq (c : Dev nD) (i : grid0.Coords) (arg4 : Memref sig .tc .vmem S1x2048x704 .bf16) (harg4 : arg4.IsWhole) (arg5 : Memref sig .tc .vmem S2048x512 .bf16) (harg5 : arg5.IsWhole)
    (arg6 : Memref sig .tc .vmem S1x704x512 .bf16) (harg6 : arg6.IsWhole) (arg7 : Memref sig .tc .vmem S704x512 .f32) (harg7 : arg7.IsWhole) (hc0 : cond0_0 i) (hc1 : ¬cond0_1 i) (hc2 : ¬cond0_2 i)
    (x : Vec Ideal S1x2048x704 .bf16) (y : Vec Ideal S2048x512 .bf16) :
    sout0_A_0 c i arg4 harg4 arg5 harg5 arg6 harg6 arg7 harg7 hc0 hc1 hc2 x y = k0_pay2 (F := Ideal) x y := by
  unfold sout0_A_0
  rw [View.read_writes_eq_canon _ _ _ (scover0_A_0 c i arg4 harg4 arg5 harg5 arg6 harg6 arg7 harg7 hc0 hc1 hc2 x y)]
  unfold kernelRun0_A
  dsimp only
  sl_unfold_words
  rw [View.canon_unit_zero (S := S704x512) hz2]
  simp only [View.readAt_eq_ld, harg4.read_unread, harg5.read_unread, View.ld_unit_zero (S := S1x2048x704) hz3, View.ld_unit_zero (S := S2048x512) hz2]

theorem next_eq (c : Dev nD) (i : grid0.Coords) (arg4 : Memref sig .tc .vmem S1x2048x704 .bf16) (harg4 : arg4.IsWhole) (arg5 : Memref sig .tc .vmem S2048x512 .bf16) (harg5 : arg5.IsWhole)
    (arg6 : Memref sig .tc .vmem S1x704x512 .bf16) (harg6 : arg6.IsWhole) (arg7 : Memref sig .tc .vmem S704x512 .f32) (harg7 : arg7.IsWhole) (hc0 : ¬cond0_0 i) (hc1 : cond0_1 i) (hc2 : ¬cond0_2 i)
    (x : Vec Ideal S1x2048x704 .bf16) (y : Vec Ideal S2048x512 .bf16) (z : Vec Ideal S704x512 .f32) :
    sout0_B_0 c i arg4 harg4 arg5 harg5 arg6 harg6 arg7 harg7 hc0 hc1 hc2 x y z = k0_pay3 (F := Ideal) x y z := by
  unfold sout0_B_0
  rw [View.read_writes_eq_canon _ _ _ (scover0_B_0 c i arg4 harg4 arg5 harg5 arg6 harg6 arg7 harg7 hc0 hc1 hc2 x y z)]
  unfold kernelRun0_B
  dsimp only
  sl_unfold_words
  rw [View.canon_unit_zero (S := S704x512) hz2]
  simp only [View.readAt_eq_ld, harg4.read_unread, harg5.read_unread, harg7.read_unread, View.ld_unit_zero (S := S1x2048x704) hz3, View.ld_unit_zero (S := S2048x512) hz2, View.ld_unit_zero (S := S704x512) hz2]

theorem last_eq (c : Dev nD) (i : grid0.Coords) (arg4 : Memref sig .tc .vmem S1x2048x704 .bf16) (harg4 : arg4.IsWhole) (arg5 : Memref sig .tc .vmem S2048x512 .bf16) (harg5 : arg5.IsWhole)
    (arg6 : Memref sig .tc .vmem S1x704x512 .bf16) (harg6 : arg6.IsWhole) (arg7 : Memref sig .tc .vmem S704x512 .f32) (harg7 : arg7.IsWhole) (hc0 : ¬cond0_0 i) (hc1 : cond0_1 i) (hc2 : cond0_2 i)
    (x : Vec Ideal S1x2048x704 .bf16) (y : Vec Ideal S2048x512 .bf16) (z : Vec Ideal S704x512 .f32) :
    out0_C_2 c i arg4 harg4 arg5 harg5 arg6 harg6 arg7 harg7 hc0 hc1 hc2 x y z = k0_pay4 (F := Ideal) (k0_pay3 (F := Ideal) x y z) := by
  unfold out0_C_2
  rw [View.read_writes_eq_canon _ _ _ (cover0_C_2 c i arg4 harg4 arg5 harg5 arg6 harg6 arg7 harg7 hc0 hc1 hc2 x y z)]
  unfold kernelRun0_C
  dsimp only
  sl_unfold_words
  rw [View.canon_unit_zero (S := S1x704x512) hz3]
  simp only [View.readCov_unit_zero (S := S704x512) _ hz2, View.readAt_eq_ld, harg4.read_unread, harg5.read_unread, harg7.read_unread, View.ld_unit_zero (S := S1x2048x704) hz3, View.ld_unit_zero (S := S2048x512) hz2, View.ld_unit_zero (S := S704x512) hz2]

theorem index0 : ∀ t : Fin cfg0.N, win0_0.index t = ![t.val / 8, t.val % 4, 0] := by decide +kernel
theorem index1 : ∀ t : Fin cfg0.N, win0_1.index t = ![t.val % 4, t.val / 4 % 2] := by decide +kernel
theorem index2 : ∀ t : Fin cfg0.N, win0_2.index t = ![t.val / 8, 0, t.val / 4 % 2] := by decide +kernel

variable (m : (ℓ : Loc nD τ sig) → Buf (Elt Ideal) ℓ) (c : Dev nD)

theorem block0 (t : Fin cfg0.N) (k : Fin 2048) (r : Fin 704) :
    iblk m c 0 t (ix3 0 k r) = V m c main_v2 (ix3 (⟨t.val / 8, by have := lt_of_lt_of_eq t.isLt N_0; omega⟩ : Fin 4) (⟨2048 * (t.val % 4) + k.val, by omega⟩ : Fin 8192) r) := by
  blk_ext [iblk, index0 t]

theorem block1 (t : Fin cfg0.N) (k : Fin 2048) (s : Fin 512) :
    iblk m c 1 t (ix2 k s) = V m c main_v3 (ix2 (⟨2048 * (t.val % 4) + k.val, by omega⟩ : Fin 8192) (⟨512 * (t.val / 4 % 2) + s.val, by omega⟩ : Fin 1024)) := by
  blk_ext [iblk, index1 t]

/-- What point `n` adds to an element of its block. -/
def addend (r : Fin 704) (s : Fin 512) (n : ℕ) : EReal :=
  if h : n < cfg0.N then k0_pay1 (F := Ideal) (iblk m c 0 ⟨n, h⟩) (iblk m c 1 ⟨n, h⟩) (ix2 r s) else 0

theorem addend_at (r : Fin 704) (s : Fin 512) (t : Fin cfg0.N) :
    addend m c r s t.val = k0_pay1 (F := Ideal) (iblk m c 0 t) (iblk m c 1 t) (ix2 r s) := dif_pos t.isLt

/-- The scratch after the first points of a block, short of the last: the sum of what they added. -/
theorem fold (n : ℕ) : ∀ (t : Fin cfg0.N), t.val = n → ¬t.val % 4 = 3 → ∀ (r : Fin 704) (s : Fin 512),
    (outsAt0 m c t.val t.isLt).2 (ix2 r s) = ∑ i ∈ Finset.range (t.val % 4 + 1), addend m c r s (4 * (t.val / 4) + i) := by
  induction n with
  | zero =>
    intro t ht h3 r s
    have h0 : t.val % 4 = 0 := by omega
    rw [outsAt0_A m c t h0 (by omega) h3]
    dsimp only
    rw [first_eq, start_at, h0, Finset.sum_range_one, show 4 * (t.val / 4) + 0 = t.val by omega, addend_at]
  | succ n ih =>
    intro t ht h3 r s
    by_cases h0 : t.val % 4 = 0
    · rw [outsAt0_A m c t h0 (by omega) h3]
      dsimp only
      rw [first_eq, start_at, h0, Finset.sum_range_one, show 4 * (t.val / 4) + 0 = t.val by omega, addend_at]
    · rw [outsAt0_B m c t h0 (by omega) h3]
      dsimp only
      rw [next_eq, step_at]
      have h : (outsAt0 m c (t.val - 1) (Nat.lt_of_le_of_lt (Nat.sub_le _ _) t.isLt)).2 (ix2 r s)
          = ∑ i ∈ Finset.range ((t.val - 1) % 4 + 1), addend m c r s (4 * ((t.val - 1) / 4) + i) :=
        ih ⟨t.val - 1, Nat.lt_of_le_of_lt (Nat.sub_le _ _) t.isLt⟩ (by dsimp only; omega) (by dsimp only; omega) r s
      rw [h, ← addend_at, show (t.val - 1) / 4 = t.val / 4 by omega, show (t.val - 1) % 4 + 1 = t.val % 4 by omega, Finset.sum_range_succ,
        show 4 * (t.val / 4) + t.val % 4 = t.val by omega]

/-- What a block's last point leaves: the sum of the four points' products. -/
theorem out_at (t : Fin cfg0.N) (h3 : t.val % 4 = 3) (r : Fin 704) (s : Fin 512) :
    (outsAt0 m c t.val t.isLt).1 (ix3 0 r s) = ∑ i : Fin 4, addend m c r s (4 * (t.val / 4) + i.val) := by
  rw [outsAt0_C m c t (by omega) (by omega) h3]
  dsimp only
  rw [last_eq, last_at, step_at]
  have h : (outsAt0 m c (t.val - 1) (Nat.lt_of_le_of_lt (Nat.sub_le _ _) t.isLt)).2 (ix2 r s)
      = ∑ i ∈ Finset.range ((t.val - 1) % 4 + 1), addend m c r s (4 * ((t.val - 1) / 4) + i) :=
    fold m c _ ⟨t.val - 1, Nat.lt_of_le_of_lt (Nat.sub_le _ _) t.isLt⟩ rfl (by dsimp only; omega) r s
  rw [h, ← addend_at, show (t.val - 1) / 4 = t.val / 4 by omega, show (t.val - 1) % 4 + 1 = 3 by omega,
    show addend m c r s t.val = addend m c r s (4 * (t.val / 4) + 3) from congrArg _ (by omega)]
  exact (Finset.sum_range_succ (fun i => addend m c r s (4 * (t.val / 4) + i)) 3).symm.trans (Finset.sum_range fun i => addend m c r s (4 * (t.val / 4) + i))

/-- Each column of the first array against each column of the second, tile of rows by tile of rows. -/
def rows (a : S4x8192x704.Idx → EReal) (b : S8192x1024.Idx → EReal) : S4x704x1024.Idx → EReal := fun i =>
  ∑ j : Fin 4, ∑ k : Fin 2048, a (ix3 (i 0) (⟨2048 * j.val + k.val, by omega⟩ : Fin 8192) (i 1)) * b (ix2 (⟨2048 * j.val + k.val, by omega⟩ : Fin 8192) (i 2))

theorem array : (dats m 0 c).arrAt 2 cfg0.N = rows (V m c main_v2) (V m c main_v3) := by
  refine (dats m 0 c).arrAt_eq_of_covers 2 _ (by decide +kernel) fun t hf y => ?_
  have h3 : t.val % 4 = 3 := (flush0_2 t).mp hf
  have hN := lt_of_lt_of_eq t.isLt N_0
  blk_simp
  rw [after0_2]
  obtain ⟨r, s, rfl⟩ : ∃ (r : Fin 704) (s : Fin 512), y = ix3 0 r s :=
    ⟨y 1, y 2, (ix3_eta y).symm.trans (congrArg (fun a => ix3 a (y 1) (y 2)) (Subsingleton.elim (α := Fin 1) _ _))⟩
  refine (out_at m c t h3 r s).trans ?_
  have h0 : win0_2.index t 0 = t.val / 8 := congrFun (index2 t) 0
  have h1 : win0_2.index t 1 = 0 := congrFun (index2 t) 1
  have h2 : win0_2.index t 2 = t.val / 4 % 2 := congrFun (index2 t) 2
  refine Finset.sum_congr rfl fun j _ => ?_
  have hj : 4 * (t.val / 4) + j.val < cfg0.N := lt_of_lt_of_eq (by omega) N_0.symm
  refine (addend_at m c r s ⟨4 * (t.val / 4) + j.val, hj⟩).trans ((product _ _ r s).trans (Finset.sum_congr rfl fun k _ => ?_))
  rw [block0, block1]
  refine congr (congrArg (fun a b : EReal => a * b) (congrArg (V m c main_v2) ?_)) (congrArg (V m c main_v3) ?_)
  · refine ix3_congr (Fin.ext ?_) (Fin.ext ?_) (Fin.ext ?_)
    · blk_simp
      rw [h0]; dsimp only [ix3]; omega
    · dsimp only; omega
    · blk_simp
      rw [h1]; omega
  · refine ix2_congr (Fin.ext ?_) (Fin.ext ?_)
    · dsimp only; omega
    · blk_simp
      rw [h2]; dsimp only [ix3]; omega

set_option maxHeartbeats 4000000 in
/-- The activations, their columns in four groups. -/
theorem entry_g : V m c main_v2 = truncf (F := Ideal) .bf16 (transpose S4x8192x704 [1, 0, 2] (shapeCast S8192x4x704 (m (c, Proc.tc.devRef main_arg0)) shapeCasts_S8192x2816_S8192x4x704) transposes_S8192x4x704_S4x8192x704_1_0_2) bitsLt_bf16_f32 := by
  show StableHlo.after hostOps0 (fun b => m (c, b)) (Proc.tc.devRef main_v2) = _
  simp only [hostOps0, StableHlo.TRef.binary, StableHlo.TRef.nullary, StableHlo.TRef.ternary,
    StableHlo.TRef.unary, StableHlo.TRef.toBuf, StableHlo.TRef.ofBuf, cast_eq]
  after_results_simp
  rfl

set_option maxHeartbeats 4000000 in
/-- The incoming gradient. -/
theorem entry_x : V m c main_v3 = truncf (F := Ideal) .bf16 (m (c, Proc.tc.devRef main_arg1)) bitsLt_bf16_f32 := by
  show StableHlo.after hostOps0 (fun b => m (c, b)) (Proc.tc.devRef main_v3) = _
  simp only [hostOps0, StableHlo.TRef.binary, StableHlo.TRef.nullary, StableHlo.TRef.ternary,
    StableHlo.TRef.unary, StableHlo.TRef.toBuf, StableHlo.TRef.ofBuf, cast_eq]
  after_results_simp

/-- A column of a group is a column of the array. -/
theorem group_at (x : FVec Ideal S8192x2816 .f32) (j : Fin 4) (n : Fin 8192) (k : Fin 704) :
    truncf .bf16 (transpose S4x8192x704 [1, 0, 2] (shapeCast S8192x4x704 (x) shapeCasts_S8192x2816_S8192x4x704) transposes_S8192x4x704_S4x8192x704_1_0_2) bitsLt_bf16_f32 (ix3 j n k)
      = x (ix2 n (⟨704 * j.val + k.val, by omega⟩ : Fin 2816)) := by
  show transpose S4x8192x704 [1, 0, 2] (shapeCast S8192x4x704 x shapeCasts_S8192x2816_S8192x4x704) transposes_S8192x4x704_S4x8192x704_1_0_2 (ix3 j n k) = _
  refine (transpose_apply [1, 0, 2] _ transposes_S8192x4x704_S4x8192x704_1_0_2 (ix3 j n k) (ix3 n j k) (fun b => match b with
    | ⟨0, _⟩ => rfl
    | ⟨1, _⟩ => rfl
    | ⟨2, _⟩ => rfl)).trans ?_
  refine shapeCast_apply x shapeCasts_S8192x2816_S8192x4x704 (ix3 n j k) _ ?_
  rw [Shape.rowMajor_val_two, Shape.rowMajor_val_three]
  show n.val * 2816 + (704 * j.val + k.val) = (n.val * 4 + j.val) * 704 + k.val
  ring

/-- The reference's gradient at an index. -/
theorem ref_at (x : FVec Ideal S8192x2816 .f32) (g : FVec Ideal S8192x1024 .f32) (q : Fin 4) (s : Fin 704) (d : Fin 1024) :
    Cert.ReferenceDownDwIdeal.Read.val_main_v5 (F := Ideal) x g (ix3 q s d)
      = ∑ n : Fin 8192, x (ix2 n (⟨704 * q.val + s.val, by omega⟩ : Fin 2816)) * g (ix2 n d) := by
  show Cert.ReferenceDownDwIdeal.Read.val_main_v4 (F := Ideal) x g (ix3 q s d) = _
  rw [Cert.ReferenceDownDwIdeal.Read.val_main_v4_apply, Cert.ReferenceDownDwIdeal.Read.val_main_v3_apply, Cert.ReferenceDownDwIdeal.Read.val_main_v2_apply]
  refine Finset.sum_congr rfl fun n _ => (mul_comm (G := EReal) _ _).trans (congr (congrArg (fun a b : EReal => a * b) (congrArg x ?_)) (congrArg g ?_))
  · funext a
    match a with
    | ⟨0, _⟩ => rfl
    | ⟨1, _⟩ => exact Fin.ext (show ((q.val * 704 + s.val) * 1024 + d.val) / 1024 = 704 * q.val + s.val by omega)
  · funext a
    match a with
    | ⟨0, _⟩ => rfl
    | ⟨1, _⟩ => exact Fin.ext (show ((q.val * 704 + s.val) * 1024 + d.val) % 1024 = d.val by omega)

/-- The kernel's array is the reference's. -/
theorem result : (dats m 0 c).arrAt 2 cfg0.N
    = Cert.ReferenceDownDwIdeal.Read.val_main_v5 (F := Ideal) (m (c, Proc.tc.devRef main_arg0)) (m (c, Proc.tc.devRef main_arg1)) := by
  rw [array, entry_g, entry_x]
  funext i
  rw [← ix3_eta i]
  refine Eq.trans ?_ (ref_at _ _ (i 0) (i 1) (i 2)).symm
  rw [sum_blocks 4 2048 8192 rfl]
  exact Finset.sum_congr rfl fun j _ => Finset.sum_congr rfl fun k _ => congr (congrArg (fun a b : EReal => a * b) (group_at _ (i 0) _ (i 1))) rfl

theorem algebraic : Cert.algebraic_KernelDownDwIdeal_ReferenceDownDwIdeal := by
  intro m g m' g' _ hagree
  refine ⟨fun c => (dats m 0 c).arrAt 2 cfg0.N, Cert.KernelDownDwIdeal.Value.run_blocks m g,
    (θ_run Cert.ReferenceDownDwIdeal.defs _ _).mono (fun r h c => ?_) (Cert.ReferenceDownDwIdeal.Value.run m' g')⟩
  obtain ⟨a0, a1⟩ := hagree c
  exact ⟨(h c).1.trans ((Cert.ReferenceDownDwIdeal.Read.val_main_v5_eq _ _).trans
    ((congr (congrArg (Cert.ReferenceDownDwIdeal.Read.val_main_v5 (F := Ideal)) a0) a1).trans (result m c).symm)), (h c).2⟩

end Cert.Proof.DownDw
-- ==== Proof.Up.lean ====
/- The feed-forward up product: every output element is one row of the input against one column of the weight, the columns in eight groups. -/
module

public import proofs.«01_k».proof.Defs
public import proofs.«01_k».proof.Proof.Linear
public import proofs.«01_k».proof.Proof.Gen.KernelUpIdeal.Value
public import proofs.«01_k».proof.Proof.Gen.ReferenceUpIdeal.Read

@[expose] public section

set_option maxRecDepth 16384

noncomputable section

namespace Cert.Proof.Up

open Idealize.ShloMosaic Idealize.ShloMosaic.Pointwise Idealize.ShloMosaic.TcCoe Idealize.ShloMosaic.Tactic
open Cert.Proof.Linear Cert.KernelUpIdeal Cert.KernelUpIdeal.Gen

theorem product (x : FVec Ideal S1024x1024 .bf16) (y : FVec Ideal S1x1024x704 .bf16) (r : Fin 1024) (s : Fin 704) :
    k0_pay1 (F := Ideal) x y (ix2 r s) = ∑ k : Fin 1024, x (ix2 r k) * y (ix3 0 k s) := by
  pointwise [k0_pay1]

theorem out_eq (c : Dev nD) (i : grid0.Coords) (arg4 : Memref sig .tc .vmem S1024x1024 .bf16) (harg4 : arg4.IsWhole) (arg5 : Memref sig .tc .vmem S1x1024x704 .bf16) (harg5 : arg5.IsWhole) (arg6 : Memref sig .tc .vmem S1x1024x704 .f32) (harg6 : arg6.IsWhole) (arg7 : Memref sig .tc .vmem S1024x704 .f32) (harg7 : arg7.IsWhole) (hc0 : cond0_0 i) (hc1 : ¬cond0_1 i) (hc2 : cond0_2 i)
    (x : Vec Ideal S1024x1024 .bf16) (y : Vec Ideal S1x1024x704 .bf16) :
    out0_A_2 c i arg4 harg4 arg5 harg5 arg6 harg6 arg7 harg7 hc0 hc1 hc2 x y = k0_pay4 (k0_pay2 x y) := by
  unfold out0_A_2
  rw [View.read_writes_eq_canon _ _ _ (cover0_A_2 c i arg4 harg4 arg5 harg5 arg6 harg6 arg7 harg7 hc0 hc1 hc2 x y)]
  unfold kernelRun0_A
  dsimp only
  sl_unfold_words
  rw [View.canon_unit_zero (S := S1x1024x704) hz3]
  simp only [View.readCov_unit_zero (S := S1024x704) _ hz2, View.readAt_eq_ld, harg4.read_unread, harg5.read_unread, View.ld_unit_zero (S := S1024x1024) hz2, View.ld_unit_zero (S := S1x1024x704) hz3]

theorem out_at (x : FVec Ideal S1024x1024 .bf16) (y : FVec Ideal S1x1024x704 .bf16) (r : Fin 1024) (s : Fin 704) :
    k0_pay4 (F := Ideal) (k0_pay2 (F := Ideal) x y) (ix3 0 r s) = ∑ k : Fin 1024, x (ix2 r k) * y (ix3 0 k s) := by
  refine Eq.trans ?_ (product x y r s)
  unfold k0_pay2
  pointwise [k0_pay4]

theorem index0 : ∀ t : Fin cfg0.N, win0_0.index t = ![t.val % 8, 0] := by decide +kernel
theorem index1 : ∀ t : Fin cfg0.N, win0_1.index t = ![t.val / 8, 0, 0] := by decide +kernel
theorem index2 : ∀ t : Fin cfg0.N, win0_2.index t = ![t.val / 8, t.val % 8, 0] := by decide +kernel

variable (m : (ℓ : Loc nD τ sig) → Buf (Elt Ideal) ℓ) (c : Dev nD)

theorem block0 (t : Fin cfg0.N) (r : Fin 1024) (k : Fin 1024) :
    iblk m c 0 t (ix2 r k) = V m c main_v0 (ix2 (⟨1024 * (t.val % 8) + r.val, by omega⟩ : Fin 8192) k) := by
  blk_ext [iblk, index0 t]

theorem block1 (t : Fin cfg0.N) (k : Fin 1024) (s : Fin 704) :
    iblk m c 1 t (ix3 0 k s) = V m c main_v3 (ix3 (⟨t.val / 8, by have := lt_of_lt_of_eq t.isLt N_0; omega⟩ : Fin 8) k s) := by
  blk_ext [iblk, index1 t]

/-- Each row of the input against each column of a group of the weight. -/
def rows (x : S8192x1024.Idx → EReal) (w : S8x1024x704.Idx → EReal) : S8x8192x704.Idx → EReal := fun i =>
  ∑ k : Fin 1024, x (ix2 (i 1) k) * w (ix3 (i 0) k (i 2))

theorem array : (dats m 0 c).arrAt 2 cfg0.N
    = rows (V m c main_v0) (V m c main_v3) := by
  refine (dats m 0 c).arrAt_eq_of_covers 2 _ (by decide +kernel) fun t hf y => ?_
  blk_simp
  rw [after0_2]
  obtain ⟨r, s, rfl⟩ : ∃ (r : Fin 1024) (s : Fin 704), y = ix3 0 r s :=
    ⟨y 1, y 2, (ix3_eta y).symm.trans (congrArg (fun a => ix3 a (y 1) (y 2)) (Subsingleton.elim (α := Fin 1) _ _))⟩
  unfold outsAt0
  rw [out_eq]
  refine (out_at (iblk m c 0 t) (iblk m c 1 t) r s).trans (Finset.sum_congr rfl fun k _ => ?_)
  have h0 : win0_2.index t 0 = t.val / 8 := congrFun (index2 t) 0
  have h1 : win0_2.index t 1 = t.val % 8 := congrFun (index2 t) 1
  have h2 : win0_2.index t 2 = 0 := congrFun (index2 t) 2
  rw [block0, block1]
  refine congr (congrArg (fun a b : EReal => a * b) (congrArg (V m c main_v0) ?_)) (congrArg (V m c main_v3) ?_)
  · refine congrArg (fun a => ix2 a k) (Fin.ext ?_)
    blk_simp
    rw [h1]; dsimp only [ix3]; omega
  · refine ix3_congr (Fin.ext ?_) rfl (Fin.ext ?_)
    · blk_simp
      rw [h0]; dsimp only [ix3]; omega
    · blk_simp
      rw [h2]; omega

set_option maxHeartbeats 4000000 in
/-- The input. -/
theorem entry_x : V m c main_v0 = truncf (F := Ideal) .bf16 (m (c, Proc.tc.devRef main_arg0)) bitsLt_bf16_f32 := by
  show StableHlo.after hostOps0 (fun b => m (c, b)) (Proc.tc.devRef main_v0) = _
  simp only [hostOps0, StableHlo.TRef.binary, StableHlo.TRef.nullary, StableHlo.TRef.ternary,
    StableHlo.TRef.unary, StableHlo.TRef.toBuf, StableHlo.TRef.ofBuf, cast_eq]
  after_results_simp

set_option maxHeartbeats 4000000 in
/-- The weight, its columns in eight groups. -/
theorem entry_w : V m c main_v3 = truncf (F := Ideal) .bf16 (transpose S8x1024x704 [1, 0, 2] (shapeCast S1024x8x704 (m (c, Proc.tc.devRef main_arg1)) shapeCasts_S1024x5632_S1024x8x704) transposes_S1024x8x704_S8x1024x704_1_0_2) bitsLt_bf16_f32 := by
  show StableHlo.after hostOps0 (fun b => m (c, b)) (Proc.tc.devRef main_v3) = _
  simp only [hostOps0, StableHlo.TRef.binary, StableHlo.TRef.nullary, StableHlo.TRef.ternary,
    StableHlo.TRef.unary, StableHlo.TRef.toBuf, StableHlo.TRef.ofBuf, cast_eq]
  after_results_simp
  rfl

/-- A column of a group is a column of the weight. -/
theorem w_at (x : FVec Ideal S1024x5632 .f32) (j : Fin 8) (n : Fin 1024) (k : Fin 704) :
    truncf .bf16 (transpose S8x1024x704 [1, 0, 2] (shapeCast S1024x8x704 x shapeCasts_S1024x5632_S1024x8x704) transposes_S1024x8x704_S8x1024x704_1_0_2) bitsLt_bf16_f32 (ix3 j n k)
      = x (ix2 n (⟨704 * j.val + k.val, by omega⟩ : Fin 5632)) := by
  show transpose S8x1024x704 [1, 0, 2] (shapeCast S1024x8x704 x shapeCasts_S1024x5632_S1024x8x704) transposes_S1024x8x704_S8x1024x704_1_0_2 (ix3 j n k) = _
  refine (transpose_apply [1, 0, 2] _ transposes_S1024x8x704_S8x1024x704_1_0_2 (ix3 j n k) (ix3 n j k) (fun b => match b with
    | ⟨0, _⟩ => rfl
    | ⟨1, _⟩ => rfl
    | ⟨2, _⟩ => rfl)).trans ?_
  refine shapeCast_apply x shapeCasts_S1024x5632_S1024x8x704 (ix3 n j k) _ ?_
  rw [Shape.rowMajor_val_two, Shape.rowMajor_val_three]
  show n.val * 5632 + (704 * j.val + k.val) = (n.val * 8 + j.val) * 704 + k.val
  ring

/-- The reference's product at an index. -/
theorem ref_at (x : FVec Ideal S8192x1024 .f32) (w : FVec Ideal S1024x5632 .f32) (q : Fin 8) (n : Fin 8192) (s : Fin 704) :
    Cert.ReferenceUpIdeal.Read.val_main_v2 (F := Ideal) x w (ix3 q n s)
      = ∑ k : Fin 1024, x (ix2 n k) * w (ix2 k (⟨704 * q.val + s.val, by omega⟩ : Fin 5632)) := by
  rw [Cert.ReferenceUpIdeal.Read.val_main_v2_apply, Cert.ReferenceUpIdeal.Read.val_main_v1_apply,
    Cert.ReferenceUpIdeal.Read.val_main_v0_apply]
  refine Finset.sum_congr rfl fun k _ => congr (congrArg (fun a b : EReal => a * b) (congrArg x ?_)) (congrArg w ?_)
  · funext a
    match a with
    | ⟨0, _⟩ => exact Fin.ext (show ((n.val * 8 + q.val) * 704 + s.val) / 5632 = n.val by omega)
    | ⟨1, _⟩ => rfl
  · funext a
    match a with
    | ⟨0, _⟩ => rfl
    | ⟨1, _⟩ => exact Fin.ext (show ((n.val * 8 + q.val) * 704 + s.val) % 5632 = 704 * q.val + s.val by omega)

/-- The kernel's array is the reference's. -/
theorem result : (dats m 0 c).arrAt 2 cfg0.N
    = Cert.ReferenceUpIdeal.Read.val_main_v2 (F := Ideal) (m (c, Proc.tc.devRef main_arg0)) (m (c, Proc.tc.devRef main_arg1)) := by
  rw [array, entry_x, entry_w]
  funext i
  rw [← ix3_eta i]
  exact (Finset.sum_congr rfl fun k _ => congrArg _ (w_at _ (i 0) k (i 2))).trans (ref_at _ _ (i 0) (i 1) (i 2)).symm

theorem algebraic : Cert.algebraic_KernelUpIdeal_ReferenceUpIdeal := by
  intro m g m' g' _ hagree
  refine ⟨fun c => (dats m 0 c).arrAt 2 cfg0.N, Cert.KernelUpIdeal.Value.run_blocks m g,
    (θ_run Cert.ReferenceUpIdeal.defs _ _).mono (fun r h c => ?_) (Cert.ReferenceUpIdeal.Value.run m' g')⟩
  obtain ⟨a0, a1⟩ := hagree c
  exact ⟨(h c).1.trans ((Cert.ReferenceUpIdeal.Read.val_main_v2_eq _ _).trans
    ((congr (congrArg (Cert.ReferenceUpIdeal.Read.val_main_v2 (F := Ideal)) a0) a1).trans (result m c).symm)), (h c).2⟩

end Cert.Proof.Up
-- ==== Proof.Down.lean ====
/- The feed-forward down product: each output element adds, to the layer's input, four sums of 704 products, which are one sum over the 2816 columns. -/
module

public import proofs.«01_k».proof.Defs
public import proofs.«01_k».proof.Proof.Linear
public import proofs.«01_k».proof.Proof.Gen.KernelDownIdeal.Value
public import proofs.«01_k».proof.Proof.Gen.ReferenceDownIdeal.Read

@[expose] public section

set_option maxRecDepth 16384

noncomputable section

namespace Cert.Proof.Down

open Idealize.ShloMosaic Idealize.ShloMosaic.Pointwise Idealize.ShloMosaic.TcCoe Idealize.ShloMosaic.Tactic
open Cert.Proof.Linear Cert.KernelDownIdeal Cert.KernelDownIdeal.Gen

theorem product (x0 x1 x2 x3 : FVec Ideal S1x1024x704 .bf16) (y0 y1 y2 y3 : FVec Ideal S1x704x512 .bf16) (r : Fin 1024) (s : Fin 512) :
    k0_pay4 (F := Ideal) x0 y0 x1 y1 x2 y2 x3 y3 (ix2 r s)
      = (∑ k : Fin 704, x0 (ix3 0 r k) * y0 (ix3 0 k s)) + (∑ k : Fin 704, x1 (ix3 0 r k) * y1 (ix3 0 k s))
        + (∑ k : Fin 704, x2 (ix3 0 r k) * y2 (ix3 0 k s)) + ∑ k : Fin 704, x3 (ix3 0 r k) * y3 (ix3 0 k s) := by
  pointwise [k0_pay4]

/-- The four products of a point, one for each group of columns, added. -/
def terms (x : Vec Ideal S4x1024x704 .bf16) (y : Vec Ideal S4x704x512 .bf16) : FVec Ideal S1024x512 .f32 :=
  k0_pay4 (F := Ideal) (View.ld x (Rect.unit (s := S4x1024x704) ![0, 0, 0] S1x1024x704.size inb_S4x1024x704_S1x1024x704_0_0_0)) (View.ld y (Rect.unit (s := S4x704x512) ![0, 0, 0] S1x704x512.size inb_S4x704x512_S1x704x512_0_0_0))
      (View.ld x (Rect.unit (s := S4x1024x704) ![1, 0, 0] S1x1024x704.size inb_S4x1024x704_S1x1024x704_1_0_0)) (View.ld y (Rect.unit (s := S4x704x512) ![1, 0, 0] S1x704x512.size inb_S4x704x512_S1x704x512_1_0_0))
      (View.ld x (Rect.unit (s := S4x1024x704) ![2, 0, 0] S1x1024x704.size inb_S4x1024x704_S1x1024x704_2_0_0)) (View.ld y (Rect.unit (s := S4x704x512) ![2, 0, 0] S1x704x512.size inb_S4x704x512_S1x704x512_2_0_0))
      (View.ld x (Rect.unit (s := S4x1024x704) ![3, 0, 0] S1x1024x704.size inb_S4x1024x704_S1x1024x704_3_0_0)) (View.ld y (Rect.unit (s := S4x704x512) ![3, 0, 0] S1x704x512.size inb_S4x704x512_S1x704x512_3_0_0))

theorem slab_mul (x : Vec Ideal S4x1024x704 .bf16) (y : Vec Ideal S4x704x512 .bf16) (g : Fin 4) {inb inb'} (r : Fin 1024) (s : Fin 512) (k : Fin 704) :
    (View.ld x (Rect.unit (s := S4x1024x704) ![g.val, 0, 0] S1x1024x704.size inb) (ix3 (0 : Fin 1) r k) : EReal)
        * View.ld y (Rect.unit (s := S4x704x512) ![g.val, 0, 0] S1x704x512.size inb') (ix3 (0 : Fin 1) k s)
      = (x (ix3 g r k) : EReal) * y (ix3 g k s) :=
  congr (congrArg (fun a b : EReal => a * b) (ld_slab x g.val g.isLt r k)) (ld_slab y g.val g.isLt k s)

theorem terms_at (x : Vec Ideal S4x1024x704 .bf16) (y : Vec Ideal S4x704x512 .bf16) (r : Fin 1024) (s : Fin 512) :
    terms x y (ix2 r s) = ∑ j : Fin 4, ∑ k : Fin 704, (x (ix3 j r k) : EReal) * y (ix3 j k s) := by
  refine (product _ _ _ _ _ _ _ _ r s).trans ?_
  rw [Fin.sum_univ_four]
  exact congr (congrArg (fun a b : EReal => a + b) (congr (congrArg (fun a b : EReal => a + b) (congr (congrArg (fun a b : EReal => a + b)
    (Finset.sum_congr rfl fun k _ => slab_mul x y 0 r s k)) (Finset.sum_congr rfl fun k _ => slab_mul x y 1 r s k)))
    (Finset.sum_congr rfl fun k _ => slab_mul x y 2 r s k))) (Finset.sum_congr rfl fun k _ => slab_mul x y 3 r s k)

theorem out_eq (c : Dev nD) (i : grid0.Coords) (arg4 : Memref sig .tc .vmem S4x1024x704 .bf16) (harg4 : arg4.IsWhole) (arg5 : Memref sig .tc .vmem S4x704x512 .bf16) (harg5 : arg5.IsWhole)
    (arg6 : Memref sig .tc .vmem S1024x512 .f32) (harg6 : arg6.IsWhole) (arg7 : Memref sig .tc .vmem S1024x512 .f32) (harg7 : arg7.IsWhole) (arg8 : Memref sig .tc .vmem S1024x512 .f32) (harg8 : arg8.IsWhole) (hc0 : cond0_0 i) (hc1 : ¬cond0_1 i) (hc2 : cond0_2 i)
    (x : Vec Ideal S4x1024x704 .bf16) (y : Vec Ideal S4x704x512 .bf16) (z : Vec Ideal S1024x512 .f32) :
    out0_A_3 c i arg4 harg4 arg5 harg5 arg6 harg6 arg7 harg7 arg8 harg8 hc0 hc1 hc2 x y z = k0_pay3 (F := Ideal) (k0_pay1 (F := Ideal) (terms x y)) z := by
  unfold out0_A_3
  rw [View.read_writes_eq_canon _ _ _ (cover0_A_3 c i arg4 harg4 arg5 harg5 arg6 harg6 arg7 harg7 arg8 harg8 hc0 hc1 hc2 x y z)]
  unfold kernelRun0_A
  dsimp only
  sl_unfold_words
  rw [View.canon_unit_zero (S := S1024x512) hz2]
  simp only [View.readCov_unit_zero (S := S1024x512) _ hz2, View.readAt_eq_ld, harg4.read_unread, harg5.read_unread, harg6.read_unread, View.ld_unit_zero (S := S1024x512) hz2]
  rfl

theorem out_at (x : Vec Ideal S4x1024x704 .bf16) (y : Vec Ideal S4x704x512 .bf16) (z : Vec Ideal S1024x512 .f32) (r : Fin 1024) (s : Fin 512) :
    (k0_pay3 (F := Ideal) (k0_pay1 (F := Ideal) (terms x y)) z) (ix2 r s) = z (ix2 r s) + ∑ j : Fin 4, ∑ k : Fin 704, (x (ix3 j r k) : EReal) * y (ix3 j k s) := by
  rw [← terms_at]
  generalize terms x y = f
  unfold k0_pay1
  pointwise [k0_pay3]
  exact add_comm _ _

theorem index0 : ∀ t : Fin cfg0.N, win0_0.index t = ![0, t.val / 2, 0] := by decide +kernel
theorem index1 : ∀ t : Fin cfg0.N, win0_1.index t = ![0, 0, t.val % 2] := by decide +kernel
theorem index2 : ∀ t : Fin cfg0.N, win0_2.index t = ![t.val / 2, t.val % 2] := by decide +kernel
theorem indexOut : ∀ t : Fin cfg0.N, win0_3.index t = ![t.val / 2, t.val % 2] := by decide +kernel

variable (m : (ℓ : Loc nD τ sig) → Buf (Elt Ideal) ℓ) (c : Dev nD)

theorem block0 (t : Fin cfg0.N) (j : Fin 4) (r : Fin 1024) (k : Fin 704) :
    iblk m c 0 t (ix3 j r k) = V m c main_v4 (ix3 j (⟨1024 * (t.val / 2) + r.val, by have := lt_of_lt_of_eq t.isLt N_0; omega⟩ : Fin 8192) k) := by
  blk_ext [iblk, index0 t]

theorem block1 (t : Fin cfg0.N) (j : Fin 4) (k : Fin 704) (s : Fin 512) :
    iblk m c 1 t (ix3 j k s) = V m c main_v1 (ix3 j k (⟨512 * (t.val % 2) + s.val, by omega⟩ : Fin 1024)) := by
  blk_ext [iblk, index1 t]

theorem block2 (t : Fin cfg0.N) (r : Fin 1024) (s : Fin 512) :
    iblk m c 2 t (ix2 r s) = V m c main_arg2 (ix2 (⟨1024 * (t.val / 2) + r.val, by have := lt_of_lt_of_eq t.isLt N_0; omega⟩ : Fin 8192) (⟨512 * (t.val % 2) + s.val, by omega⟩ : Fin 1024)) := by
  blk_ext [iblk, index2 t]

/-- Each row of the activation against each column of the weight, group of columns by group of columns. -/
def rows (a : S4x8192x704.Idx → EReal) (w : S4x704x1024.Idx → EReal) (z : S8192x1024.Idx → EReal) : S8192x1024.Idx → EReal := fun i =>
  z i + ∑ j : Fin 4, ∑ k : Fin 704, a (ix3 j (i 0) k) * w (ix3 j k (i 1))

theorem array : (dats m 0 c).arrAt 3 cfg0.N = rows (V m c main_v4) (V m c main_v1) (V m c main_arg2) := by
  refine (dats m 0 c).arrAt_eq_of_covers 3 _ (by decide +kernel) fun t hf y => ?_
  blk_simp
  rw [after0_3]
  obtain ⟨r, s, rfl⟩ : ∃ (r : Fin 1024) (s : Fin 512), y = ix2 r s := ⟨y 0, y 1, (ix2_eta y).symm⟩
  unfold outsAt0
  rw [out_eq]
  refine (out_at (iblk m c 0 t) (iblk m c 1 t) (iblk m c 2 t) r s).trans ?_
  have h0 : win0_3.index t 0 = t.val / 2 := congrFun (indexOut t) 0
  have h1 : win0_3.index t 1 = t.val % 2 := congrFun (indexOut t) 1
  refine congr (congrArg (fun a b : EReal => a + b) ?_) ?_
  · rw [block2]
    refine congrArg (V m c main_arg2) ?_
    refine Eq.trans (ix2_congr (Fin.ext ?_) (Fin.ext ?_)) (ix2_eta _)
    · blk_simp
      rw [h0]; dsimp only [ix2]; omega
    · blk_simp
      rw [h1]; dsimp only [ix2]; omega
  refine Finset.sum_congr rfl fun j _ => Finset.sum_congr rfl fun k _ => ?_
  rw [block0, block1]
  refine congr (congrArg (fun a b : EReal => a * b) (congrArg (V m c main_v4) ?_)) (congrArg (V m c main_v1) ?_)
  · refine ix3_congr rfl (Fin.ext ?_) rfl
    blk_simp
    rw [h0]; dsimp only [ix2]; omega
  · refine ix3_congr rfl rfl (Fin.ext ?_)
    blk_simp
    rw [h1]; dsimp only [ix2]; omega

set_option maxHeartbeats 4000000 in
/-- The activation, its columns in four groups. -/
theorem entry_a : V m c main_v4 = truncf (F := Ideal) .bf16 (transpose S4x8192x704 [1, 0, 2] (shapeCast S8192x4x704 (m (c, Proc.tc.devRef main_arg0)) shapeCasts_S8192x2816_S8192x4x704) transposes_S8192x4x704_S4x8192x704_1_0_2) bitsLt_bf16_f32 := by
  show StableHlo.after hostOps0 (fun b => m (c, b)) (Proc.tc.devRef main_v4) = _
  simp only [hostOps0, StableHlo.TRef.binary, StableHlo.TRef.nullary, StableHlo.TRef.ternary,
    StableHlo.TRef.unary, StableHlo.TRef.toBuf, StableHlo.TRef.ofBuf, cast_eq]
  after_results_simp
  rfl

set_option maxHeartbeats 4000000 in
/-- The weight, its rows in four groups. -/
theorem entry_w : V m c main_v1 = truncf (F := Ideal) .bf16 (shapeCast S4x704x1024 (m (c, Proc.tc.devRef main_arg1)) shapeCasts_S2816x1024_S4x704x1024) bitsLt_bf16_f32 := by
  show StableHlo.after hostOps0 (fun b => m (c, b)) (Proc.tc.devRef main_v1) = _
  simp only [hostOps0, StableHlo.TRef.binary, StableHlo.TRef.nullary, StableHlo.TRef.ternary,
    StableHlo.TRef.unary, StableHlo.TRef.toBuf, StableHlo.TRef.ofBuf, cast_eq]
  after_results_simp
  rfl

/-- A column of a group is a column of the activation. -/
theorem a_at (x : FVec Ideal S8192x2816 .f32) (j : Fin 4) (n : Fin 8192) (k : Fin 704) :
    truncf .bf16 (transpose S4x8192x704 [1, 0, 2] (shapeCast S8192x4x704 x shapeCasts_S8192x2816_S8192x4x704) transposes_S8192x4x704_S4x8192x704_1_0_2) bitsLt_bf16_f32 (ix3 j n k)
      = x (ix2 n (⟨704 * j.val + k.val, by omega⟩ : Fin 2816)) := by
  show transpose S4x8192x704 [1, 0, 2] (shapeCast S8192x4x704 x shapeCasts_S8192x2816_S8192x4x704) transposes_S8192x4x704_S4x8192x704_1_0_2 (ix3 j n k) = _
  refine (transpose_apply [1, 0, 2] _ transposes_S8192x4x704_S4x8192x704_1_0_2 (ix3 j n k) (ix3 n j k) (fun b => match b with
    | ⟨0, _⟩ => rfl
    | ⟨1, _⟩ => rfl
    | ⟨2, _⟩ => rfl)).trans ?_
  refine shapeCast_apply x shapeCasts_S8192x2816_S8192x4x704 (ix3 n j k) _ ?_
  rw [Shape.rowMajor_val_two, Shape.rowMajor_val_three]
  show n.val * 2816 + (704 * j.val + k.val) = (n.val * 4 + j.val) * 704 + k.val
  ring

/-- A row of a group is a row of the weight. -/
theorem w_at (w : FVec Ideal S2816x1024 .f32) (j : Fin 4) (k : Fin 704) (n : Fin 1024) :
    truncf .bf16 (shapeCast S4x704x1024 w shapeCasts_S2816x1024_S4x704x1024) bitsLt_bf16_f32 (ix3 j k n)
      = w (ix2 (⟨704 * j.val + k.val, by omega⟩ : Fin 2816) n) := by
  refine shapeCast_apply w shapeCasts_S2816x1024_S4x704x1024 (ix3 j k n) _ ?_
  rw [Shape.rowMajor_val_two, Shape.rowMajor_val_three]
  show (704 * j.val + k.val) * 1024 + n.val = (j.val * 704 + k.val) * 1024 + n.val
  ring

/-- The reference's product at an index. -/
theorem ref_at (a : FVec Ideal S8192x2816 .f32) (w : FVec Ideal S2816x1024 .f32) (z : FVec Ideal S8192x1024 .f32) (n : Fin 8192) (d : Fin 1024) :
    Cert.ReferenceDownIdeal.Read.val_main_v1 (F := Ideal) a w z (ix2 n d)
      = z (ix2 n d) + ∑ k : Fin 2816, a (ix2 n k) * w (ix2 k d) := by
  rw [Cert.ReferenceDownIdeal.Read.val_main_v1_apply, Cert.ReferenceDownIdeal.Read.val_main_v0_apply]
  refine congrArg (fun x : EReal => z (ix2 n d) + x) (Finset.sum_congr rfl fun k _ => congr (congrArg (fun x y : EReal => x * y) (congrArg a ?_)) (congrArg w ?_))
  · funext a
    match a with
    | ⟨0, _⟩ => rfl
    | ⟨1, _⟩ => rfl
  · funext a
    match a with
    | ⟨0, _⟩ => rfl
    | ⟨1, _⟩ => rfl

/-- The kernel's array is the reference's. -/
theorem result : (dats m 0 c).arrAt 3 cfg0.N
    = Cert.ReferenceDownIdeal.Read.val_main_v1 (F := Ideal) (m (c, Proc.tc.devRef main_arg0)) (m (c, Proc.tc.devRef main_arg1)) (m (c, Proc.tc.devRef main_arg2)) := by
  rw [array, entry_a, entry_w, V_main_arg2]
  obtain ⟨z, hz⟩ : ∃ z : S8192x1024.Idx → EReal, m (c, Proc.tc.devRef main_arg2) = z := ⟨_, rfl⟩
  rw [hz]
  funext i
  rw [← ix2_eta i]
  refine Eq.trans ?_ (ref_at _ _ _ (i 0) (i 1)).symm
  rw [sum_blocks 4 704 2816 rfl]
  refine congrArg (fun a : EReal => z (ix2 (i 0) (i 1)) + a) (Finset.sum_congr rfl fun j _ => Finset.sum_congr rfl fun k _ => congr (congrArg (fun a b : EReal => a * b) (a_at _ j (i 0) k)) (w_at _ j k (i 1)))

theorem algebraic : Cert.algebraic_KernelDownIdeal_ReferenceDownIdeal := by
  intro m g m' g' _ hagree
  refine ⟨fun c => (dats m 0 c).arrAt 3 cfg0.N, Cert.KernelDownIdeal.Value.run_blocks m g,
    (θ_run Cert.ReferenceDownIdeal.defs _ _).mono (fun r h c => ?_) (Cert.ReferenceDownIdeal.Value.run m' g')⟩
  obtain ⟨a0, a1, a2⟩ := hagree c
  exact ⟨(h c).1.trans ((Cert.ReferenceDownIdeal.Read.val_main_v1_eq _ _ _).trans
    ((congr (congr (congrArg (Cert.ReferenceDownIdeal.Read.val_main_v1 (F := Ideal)) a0) a1) a2).trans (result m c).symm)), (h c).2⟩

end Cert.Proof.Down
-- ==== Proof.OutDx.lean ====
/- The gradient through the attention layer's output projection: each output element is one row of the incoming gradient against one row of the weight. -/
module

public import proofs.«01_k».proof.Defs
public import proofs.«01_k».proof.Proof.Linear
public import proofs.«01_k».proof.Proof.Gen.KernelOutDxIdeal.Value
public import proofs.«01_k».proof.Proof.Gen.ReferenceOutDxIdeal.Read

@[expose] public section

set_option maxRecDepth 16384

noncomputable section

namespace Cert.Proof.OutDx

open Idealize.ShloMosaic Idealize.ShloMosaic.Pointwise Idealize.ShloMosaic.TcCoe Idealize.ShloMosaic.Tactic
open Cert.Proof.Linear Cert.KernelOutDxIdeal Cert.KernelOutDxIdeal.Gen

/-- One tile's product. -/
theorem product (x : FVec Ideal S1024x1024 .bf16) (y : FVec Ideal S512x1024 .bf16) (r : Fin 1024) (s : Fin 512) :
    k0_pay1 (F := Ideal) x y (ix2 r s) = ∑ k : Fin 1024, x (ix2 r k) * y (ix2 s k) := by
  pointwise [k0_pay1]

theorem start_at (x : Vec Ideal S1024x1024 .bf16) (y : Vec Ideal S512x1024 .bf16) (r : Fin 1024) (s : Fin 512) :
    k0_pay2 (F := Ideal) x y (ix2 r s) = k0_pay1 (F := Ideal) x y (ix2 r s) := by
  unfold k0_pay2
  generalize k0_pay1 (F := Ideal) x y = f
  exact congrFun (shapeCast_self f _) _

theorem out_eq (c : Dev nD) (i : grid0.Coords)
    (arg4 : Memref sig .tc .vmem S1024x1024 .bf16) (harg4 : arg4.IsWhole) (arg5 : Memref sig .tc .vmem S512x1024 .bf16) (harg5 : arg5.IsWhole) (arg6 : Memref sig .tc .vmem S1024x512 .f32) (harg6 : arg6.IsWhole) (arg7 : Memref sig .tc .vmem S1024x512 .f32) (harg7 : arg7.IsWhole)
    (hc0 : cond0_0 i) (hc1 : ¬cond0_1 i) (hc2 : cond0_2 i)
    (x : Vec Ideal S1024x1024 .bf16) (y : Vec Ideal S512x1024 .bf16) :
    out0_A_2 c i arg4 harg4 arg5 harg5 arg6 harg6 arg7 harg7 hc0 hc1 hc2 x y = k0_pay2 (F := Ideal) x y := by
  unfold out0_A_2
  rw [View.read_writes_eq_canon _ _ _ (cover0_A_2 c i arg4 harg4 arg5 harg5 arg6 harg6 arg7 harg7 hc0 hc1 hc2 x y)]
  unfold kernelRun0_A
  dsimp only
  sl_unfold_words
  rw [View.canon_unit_zero (S := S1024x512) hz2]
  simp only [View.readCov_unit_zero (S := S1024x512) _ hz2, View.readAt_eq_ld, harg4.read_unread, harg5.read_unread, View.ld_unit_zero (S := S1024x1024) hz2, View.ld_unit_zero (S := S512x1024) hz2]

theorem index0 : ∀ t : Fin cfg0.N, win0_0.index t = ![t.val / 3, 0] := by decide +kernel
theorem index1 : ∀ t : Fin cfg0.N, win0_1.index t = ![t.val % 3, 0] := by decide +kernel
theorem indexOut : ∀ t : Fin cfg0.N, win0_2.index t = ![t.val / 3, t.val % 3] := by decide +kernel

variable (m : (ℓ : Loc nD τ sig) → Buf (Elt Ideal) ℓ) (c : Dev nD)

theorem block0 (t : Fin cfg0.N) (k : Fin 1024) (r : Fin 1024) :
    iblk m c 0 t (ix2 r k) = V m c main_v0 (ix2 (⟨1024 * (t.val / 3) + r.val, by have := lt_of_lt_of_eq t.isLt N_0; omega⟩ : Fin 8192) k) := by
  blk_ext [iblk, index0 t]

theorem block1 (t : Fin cfg0.N) (k : Fin 1024) (s : Fin 512) :
    iblk m c 1 t (ix2 s k) = V m c main_v1 (ix2 (⟨512 * (t.val % 3) + s.val, by have := lt_of_lt_of_eq t.isLt N_0; omega⟩ : Fin 1536) k) := by
  blk_ext [iblk, index1 t]

/-- The product of the two whole arrays. -/
def rows (a : S8192x1024.Idx → EReal) (b : S1536x1024.Idx → EReal) : S8192x1536.Idx → EReal := fun i =>
  ∑ k : Fin 1024, a (ix2 (i 0) k) * b (ix2 (i 1) k)

theorem array : (dats m 0 c).arrAt 2 cfg0.N = rows (V m c main_v0) (V m c main_v1) := by
  refine (dats m 0 c).arrAt_eq_of_covers 2 _ (by decide +kernel) fun t hf y => ?_
  have hN := lt_of_lt_of_eq t.isLt N_0
  blk_simp
  rw [after0_2]
  obtain ⟨r, s, rfl⟩ : ∃ (r : Fin 1024) (s : Fin 512), y = ix2 r s := ⟨y 0, y 1, (ix2_eta y).symm⟩
  have h0 : win0_2.index t 0 = t.val / 3 := congrFun (indexOut t) 0
  have h1 : win0_2.index t 1 = t.val % 3 := congrFun (indexOut t) 1
  unfold outsAt0
  rw [out_eq]
  refine (start_at (iblk m c 0 t) (iblk m c 1 t) r s).trans ((product _ _ r s).trans (Finset.sum_congr rfl fun k _ => ?_))
  rw [block0, block1]
  refine congr (congrArg (fun a b : EReal => a * b) (congrArg (V m c main_v0) ?_)) (congrArg (V m c main_v1) ?_)
  · refine ix2_congr (Fin.ext ?_) (Fin.ext ?_)
    · blk_simp
      rw [h0]; (try dsimp only [ix2]); omega
    · rfl
  · refine ix2_congr (Fin.ext ?_) (Fin.ext ?_)
    · blk_simp
      rw [h1]; (try dsimp only [ix2]); omega
    · rfl

set_option maxHeartbeats 4000000 in
/-- The first array the call is given. -/
theorem entry_a : V m c main_v0 = truncf (F := Ideal) .bf16 (m (c, Proc.tc.devRef main_arg0)) bitsLt_bf16_f32 := by
  show StableHlo.after hostOps0 (fun b => m (c, b)) (Proc.tc.devRef main_v0) = _
  simp only [hostOps0, StableHlo.TRef.binary, StableHlo.TRef.nullary, StableHlo.TRef.ternary,
    StableHlo.TRef.unary, StableHlo.TRef.toBuf, StableHlo.TRef.ofBuf, cast_eq]
  after_results_simp

set_option maxHeartbeats 4000000 in
/-- The second array the call is given. -/
theorem entry_b : V m c main_v1 = truncf (F := Ideal) .bf16 (m (c, Proc.tc.devRef main_arg1)) bitsLt_bf16_f32 := by
  show StableHlo.after hostOps0 (fun b => m (c, b)) (Proc.tc.devRef main_v1) = _
  simp only [hostOps0, StableHlo.TRef.binary, StableHlo.TRef.nullary, StableHlo.TRef.ternary,
    StableHlo.TRef.unary, StableHlo.TRef.toBuf, StableHlo.TRef.ofBuf, cast_eq]
  after_results_simp

/-- The reference's product at an index. -/
theorem ref_at (a : FVec Ideal S8192x1024 .f32) (b : FVec Ideal S1536x1024 .f32) (r : Fin 8192) (s : Fin 1536) :
    Cert.ReferenceOutDxIdeal.Read.val_main_v2 (F := Ideal) a b (ix2 r s) = ∑ k : Fin 1024, a (ix2 r k) * b (ix2 s k) := by
  rw [Cert.ReferenceOutDxIdeal.Read.val_main_v2_apply]
  refine Finset.sum_congr rfl fun k _ => congr (congrArg (fun a b : EReal => a * b) (congrArg a ?_)) (congrArg b ?_)
  · funext a
    match a with
    | ⟨0, _⟩ => rfl
    | ⟨1, _⟩ => rfl
  · funext a
    match a with
    | ⟨0, _⟩ => rfl
    | ⟨1, _⟩ => rfl

/-- The kernel's array is the reference's. -/
theorem result : (dats m 0 c).arrAt 2 cfg0.N
    = Cert.ReferenceOutDxIdeal.Read.val_main_v2 (F := Ideal) (m (c, Proc.tc.devRef main_arg0)) (m (c, Proc.tc.devRef main_arg1)) := by
  rw [array, entry_a, entry_b]
  funext i
  rw [← ix2_eta i]
  refine Eq.trans ?_ (ref_at _ _ (i 0) (i 1)).symm
  rfl

theorem algebraic : Cert.algebraic_KernelOutDxIdeal_ReferenceOutDxIdeal := by
  intro m g m' g' _ hagree
  refine ⟨fun c => (dats m 0 c).arrAt 2 cfg0.N, Cert.KernelOutDxIdeal.Value.run_blocks m g,
    (θ_run Cert.ReferenceOutDxIdeal.defs _ _).mono (fun r h c => ?_) (Cert.ReferenceOutDxIdeal.Value.run m' g')⟩
  obtain ⟨a0, a1⟩ := hagree c
  exact ⟨(h c).1.trans ((Cert.ReferenceOutDxIdeal.Read.val_main_v2_eq _ _).trans
    ((congr (congrArg (Cert.ReferenceOutDxIdeal.Read.val_main_v2 (F := Ideal)) a0) a1).trans (result m c).symm)), (h c).2⟩

end Cert.Proof.OutDx
-- ==== Proof.OutDw.lean ====
/- The gradient of the attention layer's output weight: each output element is a column of the input against a column of the incoming gradient; a scratch carries the sum over 4 tiles of 2048 from point to point. -/
module

public import proofs.«01_k».proof.Defs
public import proofs.«01_k».proof.Proof.Linear
public import proofs.«01_k».proof.Proof.Gen.KernelOutDwIdeal.Value
public import proofs.«01_k».proof.Proof.Gen.ReferenceOutDwIdeal.Read

@[expose] public section

set_option maxRecDepth 16384

noncomputable section

namespace Cert.Proof.OutDw

open Idealize.ShloMosaic Idealize.ShloMosaic.Pointwise Idealize.ShloMosaic.TcCoe Idealize.ShloMosaic.Tactic
open Cert.Proof.Linear Cert.KernelOutDwIdeal Cert.KernelOutDwIdeal.Gen

/-- One tile's product. -/
theorem product (x : FVec Ideal S2048x512 .bf16) (y : FVec Ideal S2048x512 .bf16) (r : Fin 512) (s : Fin 512) :
    k0_pay1 (F := Ideal) x y (ix2 r s) = ∑ k : Fin 2048, x (ix2 k r) * y (ix2 k s) := by
  pointwise [k0_pay1]

theorem start_at (x : Vec Ideal S2048x512 .bf16) (y : Vec Ideal S2048x512 .bf16) (r : Fin 512) (s : Fin 512) :
    k0_pay2 (F := Ideal) x y (ix2 r s) = k0_pay1 (F := Ideal) x y (ix2 r s) := by
  unfold k0_pay2
  generalize k0_pay1 (F := Ideal) x y = f
  exact congrFun (shapeCast_self f _) _

theorem step_at (x : Vec Ideal S2048x512 .bf16) (y : Vec Ideal S2048x512 .bf16) (acc : Vec Ideal S512x512 .f32) (r : Fin 512) (s : Fin 512) :
    k0_pay3 (F := Ideal) x y acc (ix2 r s) = (acc (ix2 r s) : EReal) + k0_pay1 (F := Ideal) x y (ix2 r s) := by
  unfold k0_pay3
  generalize k0_pay1 (F := Ideal) x y = f
  exact congrFun (shapeCast_self (addf (F := Ideal) acc f) _) _

theorem first_eq (c : Dev nD) (i : grid0.Coords)
    (arg4 : Memref sig .tc .vmem S2048x512 .bf16) (harg4 : arg4.IsWhole) (arg5 : Memref sig .tc .vmem S2048x512 .bf16) (harg5 : arg5.IsWhole) (arg6 : Memref sig .tc .vmem S512x512 .f32) (harg6 : arg6.IsWhole) (arg7 : Memref sig .tc .vmem S512x512 .f32) (harg7 : arg7.IsWhole)
    (hc0 : cond0_0 i) (hc1 : ¬cond0_1 i) (hc2 : ¬cond0_2 i)
    (x : Vec Ideal S2048x512 .bf16) (y : Vec Ideal S2048x512 .bf16) :
    sout0_A_0 c i arg4 harg4 arg5 harg5 arg6 harg6 arg7 harg7 hc0 hc1 hc2 x y = k0_pay2 (F := Ideal) x y := by
  unfold sout0_A_0
  rw [View.read_writes_eq_canon _ _ _ (scover0_A_0 c i arg4 harg4 arg5 harg5 arg6 harg6 arg7 harg7 hc0 hc1 hc2 x y)]
  unfold kernelRun0_A
  dsimp only
  sl_unfold_words
  rw [View.canon_unit_zero (S := S512x512) hz2]
  simp only [View.readAt_eq_ld, harg4.read_unread, harg5.read_unread, View.ld_unit_zero (S := S2048x512) hz2]

theorem next_eq (c : Dev nD) (i : grid0.Coords)
    (arg4 : Memref sig .tc .vmem S2048x512 .bf16) (harg4 : arg4.IsWhole) (arg5 : Memref sig .tc .vmem S2048x512 .bf16) (harg5 : arg5.IsWhole) (arg6 : Memref sig .tc .vmem S512x512 .f32) (harg6 : arg6.IsWhole) (arg7 : Memref sig .tc .vmem S512x512 .f32) (harg7 : arg7.IsWhole)
    (hc0 : ¬cond0_0 i) (hc1 : cond0_1 i) (hc2 : ¬cond0_2 i)
    (x : Vec Ideal S2048x512 .bf16) (y : Vec Ideal S2048x512 .bf16) (acc : Vec Ideal S512x512 .f32) :
    sout0_B_0 c i arg4 harg4 arg5 harg5 arg6 harg6 arg7 harg7 hc0 hc1 hc2 x y acc = k0_pay3 (F := Ideal) x y acc := by
  unfold sout0_B_0
  rw [View.read_writes_eq_canon _ _ _ (scover0_B_0 c i arg4 harg4 arg5 harg5 arg6 harg6 arg7 harg7 hc0 hc1 hc2 x y acc)]
  unfold kernelRun0_B
  dsimp only
  sl_unfold_words
  rw [View.canon_unit_zero (S := S512x512) hz2]
  simp only [View.readAt_eq_ld, harg4.read_unread, harg5.read_unread, harg7.read_unread, View.ld_unit_zero (S := S2048x512) hz2, View.ld_unit_zero (S := S512x512) hz2]

theorem last_eq (c : Dev nD) (i : grid0.Coords)
    (arg4 : Memref sig .tc .vmem S2048x512 .bf16) (harg4 : arg4.IsWhole) (arg5 : Memref sig .tc .vmem S2048x512 .bf16) (harg5 : arg5.IsWhole) (arg6 : Memref sig .tc .vmem S512x512 .f32) (harg6 : arg6.IsWhole) (arg7 : Memref sig .tc .vmem S512x512 .f32) (harg7 : arg7.IsWhole)
    (hc0 : ¬cond0_0 i) (hc1 : cond0_1 i) (hc2 : cond0_2 i)
    (x : Vec Ideal S2048x512 .bf16) (y : Vec Ideal S2048x512 .bf16) (acc : Vec Ideal S512x512 .f32) :
    out0_C_2 c i arg4 harg4 arg5 harg5 arg6 harg6 arg7 harg7 hc0 hc1 hc2 x y acc = k0_pay3 (F := Ideal) x y acc := by
  unfold out0_C_2
  rw [View.read_writes_eq_canon _ _ _ (cover0_C_2 c i arg4 harg4 arg5 harg5 arg6 harg6 arg7 harg7 hc0 hc1 hc2 x y acc)]
  unfold kernelRun0_C
  dsimp only
  sl_unfold_words
  rw [View.canon_unit_zero (S := S512x512) hz2]
  simp only [View.readCov_unit_zero (S := S512x512) _ hz2, View.readAt_eq_ld, harg4.read_unread, harg5.read_unread, harg7.read_unread, View.ld_unit_zero (S := S2048x512) hz2, View.ld_unit_zero (S := S512x512) hz2]

theorem index0 : ∀ t : Fin cfg0.N, win0_0.index t = ![t.val % 4, t.val / 8] := by decide +kernel
theorem index1 : ∀ t : Fin cfg0.N, win0_1.index t = ![t.val % 4, t.val / 4 % 2] := by decide +kernel
theorem indexOut : ∀ t : Fin cfg0.N, win0_2.index t = ![t.val / 8, t.val / 4 % 2] := by decide +kernel

variable (m : (ℓ : Loc nD τ sig) → Buf (Elt Ideal) ℓ) (c : Dev nD)

theorem block0 (t : Fin cfg0.N) (k : Fin 2048) (r : Fin 512) :
    iblk m c 0 t (ix2 k r) = V m c main_v0 (ix2 (⟨2048 * (t.val % 4) + k.val, by have := lt_of_lt_of_eq t.isLt N_0; omega⟩ : Fin 8192) (⟨512 * (t.val / 8) + r.val, by have := lt_of_lt_of_eq t.isLt N_0; omega⟩ : Fin 1536)) := by
  blk_ext [iblk, index0 t]

theorem block1 (t : Fin cfg0.N) (k : Fin 2048) (s : Fin 512) :
    iblk m c 1 t (ix2 k s) = V m c main_v1 (ix2 (⟨2048 * (t.val % 4) + k.val, by have := lt_of_lt_of_eq t.isLt N_0; omega⟩ : Fin 8192) (⟨512 * (t.val / 4 % 2) + s.val, by have := lt_of_lt_of_eq t.isLt N_0; omega⟩ : Fin 1024)) := by
  blk_ext [iblk, index1 t]

/-- What point `n` adds to an element of its block. -/
def addend (r : Fin 512) (s : Fin 512) (n : ℕ) : EReal :=
  if h : n < cfg0.N then k0_pay1 (F := Ideal) (iblk m c 0 ⟨n, h⟩) (iblk m c 1 ⟨n, h⟩) (ix2 r s) else 0

theorem addend_at (r : Fin 512) (s : Fin 512) (t : Fin cfg0.N) :
    addend m c r s t.val = k0_pay1 (F := Ideal) (iblk m c 0 t) (iblk m c 1 t) (ix2 r s) := dif_pos t.isLt

/-- The scratch after the first points of a block, short of the last: the sum of what they added. -/
theorem fold (n : ℕ) : ∀ (t : Fin cfg0.N), t.val = n → ¬t.val % 4 = 3 → ∀ (r : Fin 512) (s : Fin 512),
    (outsAt0 m c t.val t.isLt).2 (ix2 r s) = ∑ i ∈ Finset.range (t.val % 4 + 1), addend m c r s (4 * (t.val / 4) + i) := by
  induction n with
  | zero =>
    intro t ht h3 r s
    have h0 : t.val % 4 = 0 := by omega
    rw [outsAt0_A m c t h0 (by omega) (by omega)]
    dsimp only
    rw [first_eq, start_at, h0, Finset.sum_range_one, show 4 * (t.val / 4) + 0 = t.val by omega, addend_at]
  | succ n ih =>
    intro t ht h3 r s
    by_cases h0 : t.val % 4 = 0
    · rw [outsAt0_A m c t h0 (by omega) (by omega)]
      dsimp only
      rw [first_eq, start_at, h0, Finset.sum_range_one, show 4 * (t.val / 4) + 0 = t.val by omega, addend_at]
    · rw [outsAt0_B m c t h0 (by omega) h3]
      dsimp only
      rw [next_eq, step_at]
      have h : (outsAt0 m c (t.val - 1) (Nat.lt_of_le_of_lt (Nat.sub_le _ _) t.isLt)).2 (ix2 r s)
      = ∑ i ∈ Finset.range ((t.val - 1) % 4 + 1), addend m c r s (4 * ((t.val - 1) / 4) + i) :=
        ih ⟨t.val - 1, Nat.lt_of_le_of_lt (Nat.sub_le _ _) t.isLt⟩ (by dsimp only; omega) (by dsimp only; omega) r s
      rw [h, ← addend_at, show (t.val - 1) / 4 = t.val / 4 by omega, show (t.val - 1) % 4 + 1 = t.val % 4 by omega, Finset.sum_range_succ,
        show 4 * (t.val / 4) + t.val % 4 = t.val by omega]

/-- What a block's last point leaves: the sum of the points' products. -/
theorem out_at (t : Fin cfg0.N) (h3 : t.val % 4 = 3) (r : Fin 512) (s : Fin 512) :
    (outsAt0 m c t.val t.isLt).1 (ix2 r s) = ∑ i : Fin 4, addend m c r s (4 * (t.val / 4) + i.val) := by
  rw [outsAt0_C m c t (by omega) (by omega) h3]
  dsimp only
  rw [last_eq, step_at]
  have h : (outsAt0 m c (t.val - 1) (Nat.lt_of_le_of_lt (Nat.sub_le _ _) t.isLt)).2 (ix2 r s)
      = ∑ i ∈ Finset.range ((t.val - 1) % 4 + 1), addend m c r s (4 * ((t.val - 1) / 4) + i) :=
    fold m c _ ⟨t.val - 1, Nat.lt_of_le_of_lt (Nat.sub_le _ _) t.isLt⟩ rfl (by dsimp only; omega) r s
  rw [h, ← addend_at, show (t.val - 1) / 4 = t.val / 4 by omega, show (t.val - 1) % 4 + 1 = 3 by omega,
    show addend m c r s t.val = addend m c r s (4 * (t.val / 4) + 3) from congrArg _ (by omega)]
  exact (Finset.sum_range_succ (fun i => addend m c r s (4 * (t.val / 4) + i)) 3).symm.trans (Finset.sum_range fun i => addend m c r s (4 * (t.val / 4) + i))

/-- The product of the two whole arrays. -/
def rows (a : S8192x1536.Idx → EReal) (b : S8192x1024.Idx → EReal) : S1536x1024.Idx → EReal := fun i =>
  ∑ j : Fin 4, ∑ k : Fin 2048, a (ix2 (⟨2048 * j.val + k.val, by omega⟩ : Fin 8192) (i 0)) * b (ix2 (⟨2048 * j.val + k.val, by omega⟩ : Fin 8192) (i 1))

theorem array : (dats m 0 c).arrAt 2 cfg0.N = rows (V m c main_v0) (V m c main_v1) := by
  refine (dats m 0 c).arrAt_eq_of_covers 2 _ (by decide +kernel) fun t hf y => ?_
  have h3 : t.val % 4 = 3 := (flush0_2 t).mp hf
  have hN := lt_of_lt_of_eq t.isLt N_0
  blk_simp
  rw [after0_2]
  obtain ⟨r, s, rfl⟩ : ∃ (r : Fin 512) (s : Fin 512), y = ix2 r s := ⟨y 0, y 1, (ix2_eta y).symm⟩
  have h0 : win0_2.index t 0 = t.val / 8 := congrFun (indexOut t) 0
  have h1 : win0_2.index t 1 = t.val / 4 % 2 := congrFun (indexOut t) 1
  refine (out_at m c t h3 r s).trans (Finset.sum_congr rfl fun j _ => ?_)
  have hj : 4 * (t.val / 4) + j.val < cfg0.N := lt_of_lt_of_eq (by omega) N_0.symm
  refine (addend_at m c r s ⟨4 * (t.val / 4) + j.val, hj⟩).trans ((product _ _ r s).trans (Finset.sum_congr rfl fun k _ => ?_))
  rw [block0, block1]
  refine congr (congrArg (fun a b : EReal => a * b) (congrArg (V m c main_v0) ?_)) (congrArg (V m c main_v1) ?_)
  · refine ix2_congr (Fin.ext ?_) (Fin.ext ?_)
    · dsimp only; omega
    · blk_simp
      rw [h0]; (try dsimp only [ix2]); omega
  · refine ix2_congr (Fin.ext ?_) (Fin.ext ?_)
    · dsimp only; omega
    · blk_simp
      rw [h1]; (try dsimp only [ix2]); omega

set_option maxHeartbeats 4000000 in
/-- The first array the call is given. -/
theorem entry_a : V m c main_v0 = truncf (F := Ideal) .bf16 (m (c, Proc.tc.devRef main_arg0)) bitsLt_bf16_f32 := by
  show StableHlo.after hostOps0 (fun b => m (c, b)) (Proc.tc.devRef main_v0) = _
  simp only [hostOps0, StableHlo.TRef.binary, StableHlo.TRef.nullary, StableHlo.TRef.ternary,
    StableHlo.TRef.unary, StableHlo.TRef.toBuf, StableHlo.TRef.ofBuf, cast_eq]
  after_results_simp

set_option maxHeartbeats 4000000 in
/-- The second array the call is given. -/
theorem entry_b : V m c main_v1 = truncf (F := Ideal) .bf16 (m (c, Proc.tc.devRef main_arg1)) bitsLt_bf16_f32 := by
  show StableHlo.after hostOps0 (fun b => m (c, b)) (Proc.tc.devRef main_v1) = _
  simp only [hostOps0, StableHlo.TRef.binary, StableHlo.TRef.nullary, StableHlo.TRef.ternary,
    StableHlo.TRef.unary, StableHlo.TRef.toBuf, StableHlo.TRef.ofBuf, cast_eq]
  after_results_simp

/-- The reference's product at an index. -/
theorem ref_at (a : FVec Ideal S8192x1536 .f32) (b : FVec Ideal S8192x1024 .f32) (r : Fin 1536) (s : Fin 1024) :
    Cert.ReferenceOutDwIdeal.Read.val_main_v3 (F := Ideal) a b (ix2 r s) = ∑ k : Fin 8192, a (ix2 k r) * b (ix2 k s) := by
  rw [Cert.ReferenceOutDwIdeal.Read.val_main_v3_apply, Cert.ReferenceOutDwIdeal.Read.val_main_v2_apply]
  refine Finset.sum_congr rfl fun k _ => (mul_comm (G := EReal) _ _).trans (congr (congrArg (fun a b : EReal => a * b) (congrArg a ?_)) (congrArg b ?_))
  · funext a
    match a with
    | ⟨0, _⟩ => rfl
    | ⟨1, _⟩ => rfl
  · funext a
    match a with
    | ⟨0, _⟩ => rfl
    | ⟨1, _⟩ => rfl

/-- The kernel's array is the reference's. -/
theorem result : (dats m 0 c).arrAt 2 cfg0.N
    = Cert.ReferenceOutDwIdeal.Read.val_main_v3 (F := Ideal) (m (c, Proc.tc.devRef main_arg0)) (m (c, Proc.tc.devRef main_arg1)) := by
  rw [array, entry_a, entry_b]
  funext i
  rw [← ix2_eta i]
  refine Eq.trans ?_ (ref_at _ _ (i 0) (i 1)).symm
  rw [sum_blocks 4 2048 8192 rfl]
  rfl

theorem algebraic : Cert.algebraic_KernelOutDwIdeal_ReferenceOutDwIdeal := by
  intro m g m' g' _ hagree
  refine ⟨fun c => (dats m 0 c).arrAt 2 cfg0.N, Cert.KernelOutDwIdeal.Value.run_blocks m g,
    (θ_run Cert.ReferenceOutDwIdeal.defs _ _).mono (fun r h c => ?_) (Cert.ReferenceOutDwIdeal.Value.run m' g')⟩
  obtain ⟨a0, a1⟩ := hagree c
  exact ⟨(h c).1.trans ((Cert.ReferenceOutDwIdeal.Read.val_main_v3_eq _ _).trans
    ((congr (congrArg (Cert.ReferenceOutDwIdeal.Read.val_main_v3 (F := Ideal)) a0) a1).trans (result m c).symm)), (h c).2⟩

end Cert.Proof.OutDw
-- ==== Proof.Out.lean ====
/- The attention layer's output projection, added to the layer's input: each output element is one row of the first array against one column of the weight; a scratch carries the sum over 3 tiles of 512 from point to point. -/
module

public import proofs.«01_k».proof.Defs
public import proofs.«01_k».proof.Proof.Linear
public import proofs.«01_k».proof.Proof.Gen.KernelOutIdeal.Value
public import proofs.«01_k».proof.Proof.Gen.ReferenceOutIdeal.Read

@[expose] public section

set_option maxRecDepth 16384

noncomputable section

namespace Cert.Proof.Out

open Idealize.ShloMosaic Idealize.ShloMosaic.Pointwise Idealize.ShloMosaic.TcCoe Idealize.ShloMosaic.Tactic
open Cert.Proof.Linear Cert.KernelOutIdeal Cert.KernelOutIdeal.Gen

/-- One tile's product. -/
theorem product (x : FVec Ideal S1024x512 .bf16) (y : FVec Ideal S512x512 .bf16) (r : Fin 1024) (s : Fin 512) :
    k0_pay1 (F := Ideal) x y (ix2 r s) = ∑ k : Fin 512, x (ix2 r k) * y (ix2 k s) := by
  pointwise [k0_pay1]

theorem start_at (x : Vec Ideal S1024x512 .bf16) (y : Vec Ideal S512x512 .bf16) (r : Fin 1024) (s : Fin 512) :
    k0_pay2 (F := Ideal) x y (ix2 r s) = k0_pay1 (F := Ideal) x y (ix2 r s) := by
  unfold k0_pay2
  generalize k0_pay1 (F := Ideal) x y = f
  exact congrFun (shapeCast_self f _) _

theorem step_at (x : Vec Ideal S1024x512 .bf16) (y : Vec Ideal S512x512 .bf16) (acc : Vec Ideal S1024x512 .f32) (r : Fin 1024) (s : Fin 512) :
    k0_pay3 (F := Ideal) x y acc (ix2 r s) = (acc (ix2 r s) : EReal) + k0_pay1 (F := Ideal) x y (ix2 r s) := by
  unfold k0_pay3
  generalize k0_pay1 (F := Ideal) x y = f
  exact congrFun (shapeCast_self (addf (F := Ideal) acc f) _) _

theorem first_eq (c : Dev nD) (i : grid0.Coords)
    (arg4 : Memref sig .tc .vmem S1024x512 .bf16) (harg4 : arg4.IsWhole) (arg5 : Memref sig .tc .vmem S512x512 .bf16) (harg5 : arg5.IsWhole) (arg6 : Memref sig .tc .vmem S1024x512 .f32) (harg6 : arg6.IsWhole) (arg7 : Memref sig .tc .vmem S1024x512 .f32) (harg7 : arg7.IsWhole) (arg8 : Memref sig .tc .vmem S1024x512 .f32) (harg8 : arg8.IsWhole)
    (hc0 : cond0_0 i) (hc1 : ¬cond0_1 i) (hc2 : ¬cond0_2 i)
    (x : Vec Ideal S1024x512 .bf16) (y : Vec Ideal S512x512 .bf16) (z : Vec Ideal S1024x512 .f32) :
    sout0_A_0 c i arg4 harg4 arg5 harg5 arg6 harg6 arg7 harg7 arg8 harg8 hc0 hc1 hc2 x y z = k0_pay2 (F := Ideal) x y := by
  unfold sout0_A_0
  rw [View.read_writes_eq_canon _ _ _ (scover0_A_0 c i arg4 harg4 arg5 harg5 arg6 harg6 arg7 harg7 arg8 harg8 hc0 hc1 hc2 x y z)]
  unfold kernelRun0_A
  dsimp only
  sl_unfold_words
  rw [View.canon_unit_zero (S := S1024x512) hz2]
  simp only [View.readAt_eq_ld, harg4.read_unread, harg5.read_unread, View.ld_unit_zero (S := S1024x512) hz2, View.ld_unit_zero (S := S512x512) hz2]

theorem next_eq (c : Dev nD) (i : grid0.Coords)
    (arg4 : Memref sig .tc .vmem S1024x512 .bf16) (harg4 : arg4.IsWhole) (arg5 : Memref sig .tc .vmem S512x512 .bf16) (harg5 : arg5.IsWhole) (arg6 : Memref sig .tc .vmem S1024x512 .f32) (harg6 : arg6.IsWhole) (arg7 : Memref sig .tc .vmem S1024x512 .f32) (harg7 : arg7.IsWhole) (arg8 : Memref sig .tc .vmem S1024x512 .f32) (harg8 : arg8.IsWhole)
    (hc0 : ¬cond0_0 i) (hc1 : cond0_1 i) (hc2 : ¬cond0_2 i)
    (x : Vec Ideal S1024x512 .bf16) (y : Vec Ideal S512x512 .bf16) (z : Vec Ideal S1024x512 .f32) (acc : Vec Ideal S1024x512 .f32) :
    sout0_B_0 c i arg4 harg4 arg5 harg5 arg6 harg6 arg7 harg7 arg8 harg8 hc0 hc1 hc2 x y z acc = k0_pay3 (F := Ideal) x y acc := by
  unfold sout0_B_0
  rw [View.read_writes_eq_canon _ _ _ (scover0_B_0 c i arg4 harg4 arg5 harg5 arg6 harg6 arg7 harg7 arg8 harg8 hc0 hc1 hc2 x y z acc)]
  unfold kernelRun0_B
  dsimp only
  sl_unfold_words
  rw [View.canon_unit_zero (S := S1024x512) hz2]
  simp only [View.readAt_eq_ld, harg4.read_unread, harg5.read_unread, harg8.read_unread, View.ld_unit_zero (S := S1024x512) hz2, View.ld_unit_zero (S := S512x512) hz2]

theorem last_eq (c : Dev nD) (i : grid0.Coords)
    (arg4 : Memref sig .tc .vmem S1024x512 .bf16) (harg4 : arg4.IsWhole) (arg5 : Memref sig .tc .vmem S512x512 .bf16) (harg5 : arg5.IsWhole) (arg6 : Memref sig .tc .vmem S1024x512 .f32) (harg6 : arg6.IsWhole) (arg7 : Memref sig .tc .vmem S1024x512 .f32) (harg7 : arg7.IsWhole) (arg8 : Memref sig .tc .vmem S1024x512 .f32) (harg8 : arg8.IsWhole)
    (hc0 : ¬cond0_0 i) (hc1 : cond0_1 i) (hc2 : cond0_2 i)
    (x : Vec Ideal S1024x512 .bf16) (y : Vec Ideal S512x512 .bf16) (z : Vec Ideal S1024x512 .f32) (acc : Vec Ideal S1024x512 .f32) :
    out0_C_3 c i arg4 harg4 arg5 harg5 arg6 harg6 arg7 harg7 arg8 harg8 hc0 hc1 hc2 x y z acc = k0_pay4 (F := Ideal) (k0_pay3 (F := Ideal) x y acc) z := by
  unfold out0_C_3
  rw [View.read_writes_eq_canon _ _ _ (cover0_C_3 c i arg4 harg4 arg5 harg5 arg6 harg6 arg7 harg7 arg8 harg8 hc0 hc1 hc2 x y z acc)]
  unfold kernelRun0_C
  dsimp only
  sl_unfold_words
  rw [View.canon_unit_zero (S := S1024x512) hz2]
  simp only [View.readCov_unit_zero (S := S1024x512) _ hz2, View.readAt_eq_ld, harg4.read_unread, harg5.read_unread, harg6.read_unread, harg8.read_unread, View.ld_unit_zero (S := S1024x512) hz2, View.ld_unit_zero (S := S512x512) hz2]

theorem last_at (v z : Vec Ideal S1024x512 .f32) (r : Fin 1024) (s : Fin 512) :
    k0_pay4 (F := Ideal) v z (ix2 r s) = (v (ix2 r s) : EReal) + z (ix2 r s) := rfl

theorem index0 : ∀ t : Fin cfg0.N, win0_0.index t = ![t.val / 6, t.val % 3] := by decide +kernel
theorem index1 : ∀ t : Fin cfg0.N, win0_1.index t = ![t.val % 3, t.val / 3 % 2] := by decide +kernel
theorem index2 : ∀ t : Fin cfg0.N, win0_2.index t = ![t.val / 6, t.val / 3 % 2] := by decide +kernel
theorem indexOut : ∀ t : Fin cfg0.N, win0_3.index t = ![t.val / 6, t.val / 3 % 2] := by decide +kernel

variable (m : (ℓ : Loc nD τ sig) → Buf (Elt Ideal) ℓ) (c : Dev nD)

theorem block0 (t : Fin cfg0.N) (k : Fin 512) (r : Fin 1024) :
    iblk m c 0 t (ix2 r k) = V m c main_v0 (ix2 (⟨1024 * (t.val / 6) + r.val, by have := lt_of_lt_of_eq t.isLt N_0; omega⟩ : Fin 8192) (⟨512 * (t.val % 3) + k.val, by have := lt_of_lt_of_eq t.isLt N_0; omega⟩ : Fin 1536)) := by
  blk_ext [iblk, index0 t]

theorem block1 (t : Fin cfg0.N) (k : Fin 512) (s : Fin 512) :
    iblk m c 1 t (ix2 k s) = V m c main_v1 (ix2 (⟨512 * (t.val % 3) + k.val, by have := lt_of_lt_of_eq t.isLt N_0; omega⟩ : Fin 1536) (⟨512 * (t.val / 3 % 2) + s.val, by have := lt_of_lt_of_eq t.isLt N_0; omega⟩ : Fin 1024)) := by
  blk_ext [iblk, index1 t]

theorem block2 (t : Fin cfg0.N) (r : Fin 1024) (s : Fin 512) :
    iblk m c 2 t (ix2 r s) = V m c main_arg2 (ix2 (⟨1024 * (t.val / 6) + r.val, by have := lt_of_lt_of_eq t.isLt N_0; omega⟩ : Fin 8192) (⟨512 * (t.val / 3 % 2) + s.val, by have := lt_of_lt_of_eq t.isLt N_0; omega⟩ : Fin 1024)) := by
  blk_ext [iblk, index2 t]

/-- What point `n` adds to an element of its block. -/
def addend (r : Fin 1024) (s : Fin 512) (n : ℕ) : EReal :=
  if h : n < cfg0.N then k0_pay1 (F := Ideal) (iblk m c 0 ⟨n, h⟩) (iblk m c 1 ⟨n, h⟩) (ix2 r s) else 0

theorem addend_at (r : Fin 1024) (s : Fin 512) (t : Fin cfg0.N) :
    addend m c r s t.val = k0_pay1 (F := Ideal) (iblk m c 0 t) (iblk m c 1 t) (ix2 r s) := dif_pos t.isLt

/-- The scratch after the first points of a block, short of the last: the sum of what they added. -/
theorem fold (n : ℕ) : ∀ (t : Fin cfg0.N), t.val = n → ¬t.val % 3 = 2 → ∀ (r : Fin 1024) (s : Fin 512),
    (outsAt0 m c t.val t.isLt).2 (ix2 r s) = ∑ i ∈ Finset.range (t.val % 3 + 1), addend m c r s (3 * (t.val / 3) + i) := by
  induction n with
  | zero =>
    intro t ht h3 r s
    have h0 : t.val % 3 = 0 := by omega
    rw [outsAt0_A m c t h0 (by have := lt_of_lt_of_eq t.isLt N_0; omega) (by omega)]
    dsimp only
    rw [first_eq, start_at, h0, Finset.sum_range_one, show 3 * (t.val / 3) + 0 = t.val by omega, addend_at]
  | succ n ih =>
    intro t ht h3 r s
    by_cases h0 : t.val % 3 = 0
    · rw [outsAt0_A m c t h0 (by have := lt_of_lt_of_eq t.isLt N_0; omega) (by omega)]
      dsimp only
      rw [first_eq, start_at, h0, Finset.sum_range_one, show 3 * (t.val / 3) + 0 = t.val by omega, addend_at]
    · rw [outsAt0_B m c t h0 (by omega) h3]
      dsimp only
      rw [next_eq, step_at]
      have h : (outsAt0 m c (t.val - 1) (Nat.lt_of_le_of_lt (Nat.sub_le _ _) t.isLt)).2 (ix2 r s)
      = ∑ i ∈ Finset.range ((t.val - 1) % 3 + 1), addend m c r s (3 * ((t.val - 1) / 3) + i) :=
        ih ⟨t.val - 1, Nat.lt_of_le_of_lt (Nat.sub_le _ _) t.isLt⟩ (by dsimp only; omega) (by dsimp only; omega) r s
      rw [h, ← addend_at, show (t.val - 1) / 3 = t.val / 3 by omega, show (t.val - 1) % 3 + 1 = t.val % 3 by omega, Finset.sum_range_succ,
        show 3 * (t.val / 3) + t.val % 3 = t.val by omega]

/-- What a block's last point leaves: the sum of the points' products. -/
theorem out_at (t : Fin cfg0.N) (h3 : t.val % 3 = 2) (r : Fin 1024) (s : Fin 512) :
    (outsAt0 m c t.val t.isLt).1 (ix2 r s) = HAdd.hAdd (α := EReal) (β := EReal) (γ := EReal) (iblk m c 2 t (ix2 r s)) (∑ i : Fin 3, addend m c r s (3 * (t.val / 3) + i.val)) := by
  rw [outsAt0_C m c t (by omega) (by omega) h3]
  dsimp only
  rw [last_eq, last_at, step_at]
  have h : (outsAt0 m c (t.val - 1) (Nat.lt_of_le_of_lt (Nat.sub_le _ _) t.isLt)).2 (ix2 r s)
      = ∑ i ∈ Finset.range ((t.val - 1) % 3 + 1), addend m c r s (3 * ((t.val - 1) / 3) + i) :=
    fold m c _ ⟨t.val - 1, Nat.lt_of_le_of_lt (Nat.sub_le _ _) t.isLt⟩ rfl (by dsimp only; omega) r s
  rw [h, ← addend_at, show (t.val - 1) / 3 = t.val / 3 by omega, show (t.val - 1) % 3 + 1 = 2 by omega,
    show addend m c r s t.val = addend m c r s (3 * (t.val / 3) + 2) from congrArg _ (by omega)]
  exact (add_comm (G := EReal) _ _).trans (congrArg (fun a : EReal => HAdd.hAdd (α := EReal) (β := EReal) (γ := EReal) (iblk m c 2 t (ix2 r s)) a) ((Finset.sum_range_succ (fun i => addend m c r s (3 * (t.val / 3) + i)) 2).symm.trans (Finset.sum_range fun i => addend m c r s (3 * (t.val / 3) + i))))

/-- The product of the two whole arrays, added to a third. -/
def rows (a : S8192x1536.Idx → EReal) (b : S1536x1024.Idx → EReal) (z : S8192x1024.Idx → EReal) : S8192x1024.Idx → EReal := fun i =>
  z (ix2 (i 0) (i 1)) + ∑ j : Fin 3, ∑ k : Fin 512, a (ix2 (i 0) (⟨512 * j.val + k.val, by omega⟩ : Fin 1536)) * b (ix2 (⟨512 * j.val + k.val, by omega⟩ : Fin 1536) (i 1))

theorem array : (dats m 0 c).arrAt 3 cfg0.N = rows (V m c main_v0) (V m c main_v1) (V m c main_arg2) := by
  refine (dats m 0 c).arrAt_eq_of_covers 3 _ (by decide +kernel) fun t hf y => ?_
  have h3 : t.val % 3 = 2 := (flush0_3 t).mp hf
  have hN := lt_of_lt_of_eq t.isLt N_0
  blk_simp
  rw [after0_3]
  obtain ⟨r, s, rfl⟩ : ∃ (r : Fin 1024) (s : Fin 512), y = ix2 r s := ⟨y 0, y 1, (ix2_eta y).symm⟩
  have h0 : win0_3.index t 0 = t.val / 6 := congrFun (indexOut t) 0
  have h1 : win0_3.index t 1 = t.val / 3 % 2 := congrFun (indexOut t) 1
  refine (out_at m c t h3 r s).trans ?_
  have hz : (iblk m c 2 t (ix2 r s)) = V m c main_arg2 (ix2 ((win0_3.blk t).view.emb (ix2 r s) 0) ((win0_3.blk t).view.emb (ix2 r s) 1)) := by
    rw [block2]
    refine congrArg (V m c main_arg2) (ix2_congr (Fin.ext ?_) (Fin.ext ?_))
    · blk_simp
      rw [h0]; (try dsimp only [ix2]); omega
    · blk_simp
      rw [h1]; (try dsimp only [ix2]); omega
  refine congr (congrArg (fun a b : EReal => a + b) hz) (Finset.sum_congr rfl fun j _ => ?_)
  have hj : 3 * (t.val / 3) + j.val < cfg0.N := lt_of_lt_of_eq (by omega) N_0.symm
  refine (addend_at m c r s ⟨3 * (t.val / 3) + j.val, hj⟩).trans ((product _ _ r s).trans (Finset.sum_congr rfl fun k _ => ?_))
  rw [block0, block1]
  refine congr (congrArg (fun a b : EReal => a * b) (congrArg (V m c main_v0) ?_)) (congrArg (V m c main_v1) ?_)
  · refine ix2_congr (Fin.ext ?_) (Fin.ext ?_)
    · blk_simp
      rw [h0]; (try dsimp only [ix2]); omega
    · dsimp only; omega
  · refine ix2_congr (Fin.ext ?_) (Fin.ext ?_)
    · dsimp only; omega
    · blk_simp
      rw [h1]; (try dsimp only [ix2]); omega

set_option maxHeartbeats 4000000 in
/-- The first array the call is given. -/
theorem entry_a : V m c main_v0 = truncf (F := Ideal) .bf16 (m (c, Proc.tc.devRef main_arg0)) bitsLt_bf16_f32 := by
  show StableHlo.after hostOps0 (fun b => m (c, b)) (Proc.tc.devRef main_v0) = _
  simp only [hostOps0, StableHlo.TRef.binary, StableHlo.TRef.nullary, StableHlo.TRef.ternary,
    StableHlo.TRef.unary, StableHlo.TRef.toBuf, StableHlo.TRef.ofBuf, cast_eq]
  after_results_simp

set_option maxHeartbeats 4000000 in
/-- The second array the call is given. -/
theorem entry_b : V m c main_v1 = truncf (F := Ideal) .bf16 (m (c, Proc.tc.devRef main_arg1)) bitsLt_bf16_f32 := by
  show StableHlo.after hostOps0 (fun b => m (c, b)) (Proc.tc.devRef main_v1) = _
  simp only [hostOps0, StableHlo.TRef.binary, StableHlo.TRef.nullary, StableHlo.TRef.ternary,
    StableHlo.TRef.unary, StableHlo.TRef.toBuf, StableHlo.TRef.ofBuf, cast_eq]
  after_results_simp

/-- The reference's product at an index. -/
theorem ref_at (a : FVec Ideal S8192x1536 .f32) (b : FVec Ideal S1536x1024 .f32) (z : FVec Ideal S8192x1024 .f32) (r : Fin 8192) (s : Fin 1024) :
    Cert.ReferenceOutIdeal.Read.val_main_v1 (F := Ideal) a b z (ix2 r s) = z (ix2 r s) + ∑ k : Fin 1536, a (ix2 r k) * b (ix2 k s) := by
  rw [Cert.ReferenceOutIdeal.Read.val_main_v1_apply, Cert.ReferenceOutIdeal.Read.val_main_v0_apply]
  refine congrArg (fun a : EReal => z (ix2 r s) + a) (Finset.sum_congr rfl fun k _ => congr (congrArg (fun a b : EReal => a * b) (congrArg a ?_)) (congrArg b ?_))
  · funext a
    match a with
    | ⟨0, _⟩ => rfl
    | ⟨1, _⟩ => rfl
  · funext a
    match a with
    | ⟨0, _⟩ => rfl
    | ⟨1, _⟩ => rfl

/-- The kernel's array is the reference's. -/
theorem result : (dats m 0 c).arrAt 3 cfg0.N
    = Cert.ReferenceOutIdeal.Read.val_main_v1 (F := Ideal) (m (c, Proc.tc.devRef main_arg0)) (m (c, Proc.tc.devRef main_arg1)) (m (c, Proc.tc.devRef main_arg2)) := by
  rw [array, entry_a, entry_b, V_main_arg2]
  funext i
  rw [← ix2_eta i]
  refine Eq.trans ?_ (ref_at _ _ _ (i 0) (i 1)).symm
  rw [sum_blocks 3 512 1536 rfl]
  rfl

theorem algebraic : Cert.algebraic_KernelOutIdeal_ReferenceOutIdeal := by
  intro m g m' g' _ hagree
  refine ⟨fun c => (dats m 0 c).arrAt 3 cfg0.N, Cert.KernelOutIdeal.Value.run_blocks m g,
    (θ_run Cert.ReferenceOutIdeal.defs _ _).mono (fun r h c => ?_) (Cert.ReferenceOutIdeal.Value.run m' g')⟩
  obtain ⟨a0, a1, a2⟩ := hagree c
  exact ⟨(h c).1.trans ((Cert.ReferenceOutIdeal.Read.val_main_v1_eq _ _ _).trans
    ((congr (congr (congrArg (Cert.ReferenceOutIdeal.Read.val_main_v1 (F := Ideal)) a0) a1) a2).trans (result m c).symm)), (h c).2⟩

end Cert.Proof.Out
-- ==== Proof.InDx.lean ====
/- The gradient through the attention layer's input projection: each output element is one row of the incoming gradient against one row of the weight; a scratch carries the sum over 3 tiles of 512 from point to point. -/
module

public import proofs.«01_k».proof.Defs
public import proofs.«01_k».proof.Proof.Linear
public import proofs.«01_k».proof.Proof.Gen.KernelInDxIdeal.Value
public import proofs.«01_k».proof.Proof.Gen.ReferenceInDxIdeal.Read

@[expose] public section

set_option maxRecDepth 16384

noncomputable section

namespace Cert.Proof.InDx

open Idealize.ShloMosaic Idealize.ShloMosaic.Pointwise Idealize.ShloMosaic.TcCoe Idealize.ShloMosaic.Tactic
open Cert.Proof.Linear Cert.KernelInDxIdeal Cert.KernelInDxIdeal.Gen

/-- One tile's product. -/
theorem product (x : FVec Ideal S1024x512 .f32) (y : FVec Ideal S512x512 .bf16) (r : Fin 1024) (s : Fin 512) :
    k0_pay1 (F := Ideal) x y (ix2 r s) = ∑ k : Fin 512, x (ix2 r k) * y (ix2 s k) := by
  pointwise [k0_pay1]

theorem start_at (x : Vec Ideal S1024x512 .f32) (y : Vec Ideal S512x512 .bf16) (r : Fin 1024) (s : Fin 512) :
    k0_pay2 (F := Ideal) x y (ix2 r s) = k0_pay1 (F := Ideal) x y (ix2 r s) := by
  unfold k0_pay2
  generalize k0_pay1 (F := Ideal) x y = f
  exact congrFun (shapeCast_self f _) _

theorem step_at (x : Vec Ideal S1024x512 .f32) (y : Vec Ideal S512x512 .bf16) (acc : Vec Ideal S1024x512 .f32) (r : Fin 1024) (s : Fin 512) :
    k0_pay3 (F := Ideal) x y acc (ix2 r s) = (acc (ix2 r s) : EReal) + k0_pay1 (F := Ideal) x y (ix2 r s) := by
  unfold k0_pay3
  generalize k0_pay1 (F := Ideal) x y = f
  exact congrFun (shapeCast_self (addf (F := Ideal) acc f) _) _

theorem first_eq (c : Dev nD) (i : grid0.Coords)
    (arg4 : Memref sig .tc .vmem S1024x512 .f32) (harg4 : arg4.IsWhole) (arg5 : Memref sig .tc .vmem S512x512 .bf16) (harg5 : arg5.IsWhole) (arg6 : Memref sig .tc .vmem S1024x512 .f32) (harg6 : arg6.IsWhole) (arg7 : Memref sig .tc .vmem S1024x512 .f32) (harg7 : arg7.IsWhole)
    (hc0 : cond0_0 i) (hc1 : ¬cond0_1 i) (hc2 : ¬cond0_2 i)
    (x : Vec Ideal S1024x512 .f32) (y : Vec Ideal S512x512 .bf16) :
    sout0_A_0 c i arg4 harg4 arg5 harg5 arg6 harg6 arg7 harg7 hc0 hc1 hc2 x y = k0_pay2 (F := Ideal) x y := by
  unfold sout0_A_0
  rw [View.read_writes_eq_canon _ _ _ (scover0_A_0 c i arg4 harg4 arg5 harg5 arg6 harg6 arg7 harg7 hc0 hc1 hc2 x y)]
  unfold kernelRun0_A
  dsimp only
  sl_unfold_words
  rw [View.canon_unit_zero (S := S1024x512) hz2]
  simp only [View.readAt_eq_ld, harg4.read_unread, harg5.read_unread, View.ld_unit_zero (S := S1024x512) hz2, View.ld_unit_zero (S := S512x512) hz2]

theorem next_eq (c : Dev nD) (i : grid0.Coords)
    (arg4 : Memref sig .tc .vmem S1024x512 .f32) (harg4 : arg4.IsWhole) (arg5 : Memref sig .tc .vmem S512x512 .bf16) (harg5 : arg5.IsWhole) (arg6 : Memref sig .tc .vmem S1024x512 .f32) (harg6 : arg6.IsWhole) (arg7 : Memref sig .tc .vmem S1024x512 .f32) (harg7 : arg7.IsWhole)
    (hc0 : ¬cond0_0 i) (hc1 : cond0_1 i) (hc2 : ¬cond0_2 i)
    (x : Vec Ideal S1024x512 .f32) (y : Vec Ideal S512x512 .bf16) (acc : Vec Ideal S1024x512 .f32) :
    sout0_B_0 c i arg4 harg4 arg5 harg5 arg6 harg6 arg7 harg7 hc0 hc1 hc2 x y acc = k0_pay3 (F := Ideal) x y acc := by
  unfold sout0_B_0
  rw [View.read_writes_eq_canon _ _ _ (scover0_B_0 c i arg4 harg4 arg5 harg5 arg6 harg6 arg7 harg7 hc0 hc1 hc2 x y acc)]
  unfold kernelRun0_B
  dsimp only
  sl_unfold_words
  rw [View.canon_unit_zero (S := S1024x512) hz2]
  simp only [View.readAt_eq_ld, harg4.read_unread, harg5.read_unread, harg7.read_unread, View.ld_unit_zero (S := S1024x512) hz2, View.ld_unit_zero (S := S512x512) hz2]

theorem last_eq (c : Dev nD) (i : grid0.Coords)
    (arg4 : Memref sig .tc .vmem S1024x512 .f32) (harg4 : arg4.IsWhole) (arg5 : Memref sig .tc .vmem S512x512 .bf16) (harg5 : arg5.IsWhole) (arg6 : Memref sig .tc .vmem S1024x512 .f32) (harg6 : arg6.IsWhole) (arg7 : Memref sig .tc .vmem S1024x512 .f32) (harg7 : arg7.IsWhole)
    (hc0 : ¬cond0_0 i) (hc1 : cond0_1 i) (hc2 : cond0_2 i)
    (x : Vec Ideal S1024x512 .f32) (y : Vec Ideal S512x512 .bf16) (acc : Vec Ideal S1024x512 .f32) :
    out0_C_2 c i arg4 harg4 arg5 harg5 arg6 harg6 arg7 harg7 hc0 hc1 hc2 x y acc = k0_pay3 (F := Ideal) x y acc := by
  unfold out0_C_2
  rw [View.read_writes_eq_canon _ _ _ (cover0_C_2 c i arg4 harg4 arg5 harg5 arg6 harg6 arg7 harg7 hc0 hc1 hc2 x y acc)]
  unfold kernelRun0_C
  dsimp only
  sl_unfold_words
  rw [View.canon_unit_zero (S := S1024x512) hz2]
  simp only [View.readCov_unit_zero (S := S1024x512) _ hz2, View.readAt_eq_ld, harg4.read_unread, harg5.read_unread, harg7.read_unread, View.ld_unit_zero (S := S1024x512) hz2, View.ld_unit_zero (S := S512x512) hz2]

theorem index0 : ∀ t : Fin cfg0.N, win0_0.index t = ![t.val / 6, t.val % 3] := by decide +kernel
theorem index1 : ∀ t : Fin cfg0.N, win0_1.index t = ![t.val / 3 % 2, t.val % 3] := by decide +kernel
theorem indexOut : ∀ t : Fin cfg0.N, win0_2.index t = ![t.val / 6, t.val / 3 % 2] := by decide +kernel

variable (m : (ℓ : Loc nD τ sig) → Buf (Elt Ideal) ℓ) (c : Dev nD)

theorem block0 (t : Fin cfg0.N) (k : Fin 512) (r : Fin 1024) :
    iblk m c 0 t (ix2 r k) = V m c main_arg0 (ix2 (⟨1024 * (t.val / 6) + r.val, by have := lt_of_lt_of_eq t.isLt N_0; omega⟩ : Fin 8192) (⟨512 * (t.val % 3) + k.val, by have := lt_of_lt_of_eq t.isLt N_0; omega⟩ : Fin 1536)) := by
  blk_ext [iblk, index0 t]

theorem block1 (t : Fin cfg0.N) (k : Fin 512) (s : Fin 512) :
    iblk m c 1 t (ix2 s k) = V m c main_v0 (ix2 (⟨512 * (t.val / 3 % 2) + s.val, by have := lt_of_lt_of_eq t.isLt N_0; omega⟩ : Fin 1024) (⟨512 * (t.val % 3) + k.val, by have := lt_of_lt_of_eq t.isLt N_0; omega⟩ : Fin 1536)) := by
  blk_ext [iblk, index1 t]

/-- What point `n` adds to an element of its block. -/
def addend (r : Fin 1024) (s : Fin 512) (n : ℕ) : EReal :=
  if h : n < cfg0.N then k0_pay1 (F := Ideal) (iblk m c 0 ⟨n, h⟩) (iblk m c 1 ⟨n, h⟩) (ix2 r s) else 0

theorem addend_at (r : Fin 1024) (s : Fin 512) (t : Fin cfg0.N) :
    addend m c r s t.val = k0_pay1 (F := Ideal) (iblk m c 0 t) (iblk m c 1 t) (ix2 r s) := dif_pos t.isLt

/-- The scratch after the first points of a block, short of the last: the sum of what they added. -/
theorem fold (n : ℕ) : ∀ (t : Fin cfg0.N), t.val = n → ¬t.val % 3 = 2 → ∀ (r : Fin 1024) (s : Fin 512),
    (outsAt0 m c t.val t.isLt).2 (ix2 r s) = ∑ i ∈ Finset.range (t.val % 3 + 1), addend m c r s (3 * (t.val / 3) + i) := by
  induction n with
  | zero =>
    intro t ht h3 r s
    have h0 : t.val % 3 = 0 := by omega
    rw [outsAt0_A m c t h0 (by omega) (by omega)]
    dsimp only
    rw [first_eq, start_at, h0, Finset.sum_range_one, show 3 * (t.val / 3) + 0 = t.val by omega, addend_at]
  | succ n ih =>
    intro t ht h3 r s
    by_cases h0 : t.val % 3 = 0
    · rw [outsAt0_A m c t h0 (by omega) (by omega)]
      dsimp only
      rw [first_eq, start_at, h0, Finset.sum_range_one, show 3 * (t.val / 3) + 0 = t.val by omega, addend_at]
    · rw [outsAt0_B m c t h0 (by omega) h3]
      dsimp only
      rw [next_eq, step_at]
      have h : (outsAt0 m c (t.val - 1) (Nat.lt_of_le_of_lt (Nat.sub_le _ _) t.isLt)).2 (ix2 r s)
      = ∑ i ∈ Finset.range ((t.val - 1) % 3 + 1), addend m c r s (3 * ((t.val - 1) / 3) + i) :=
        ih ⟨t.val - 1, Nat.lt_of_le_of_lt (Nat.sub_le _ _) t.isLt⟩ (by dsimp only; omega) (by dsimp only; omega) r s
      rw [h, ← addend_at, show (t.val - 1) / 3 = t.val / 3 by omega, show (t.val - 1) % 3 + 1 = t.val % 3 by omega, Finset.sum_range_succ,
        show 3 * (t.val / 3) + t.val % 3 = t.val by omega]

/-- What a block's last point leaves: the sum of the points' products. -/
theorem out_at (t : Fin cfg0.N) (h3 : t.val % 3 = 2) (r : Fin 1024) (s : Fin 512) :
    (outsAt0 m c t.val t.isLt).1 (ix2 r s) = ∑ i : Fin 3, addend m c r s (3 * (t.val / 3) + i.val) := by
  rw [outsAt0_C m c t (by omega) (by omega) h3]
  dsimp only
  rw [last_eq, step_at]
  have h : (outsAt0 m c (t.val - 1) (Nat.lt_of_le_of_lt (Nat.sub_le _ _) t.isLt)).2 (ix2 r s)
      = ∑ i ∈ Finset.range ((t.val - 1) % 3 + 1), addend m c r s (3 * ((t.val - 1) / 3) + i) :=
    fold m c _ ⟨t.val - 1, Nat.lt_of_le_of_lt (Nat.sub_le _ _) t.isLt⟩ rfl (by dsimp only; omega) r s
  rw [h, ← addend_at, show (t.val - 1) / 3 = t.val / 3 by omega, show (t.val - 1) % 3 + 1 = 2 by omega,
    show addend m c r s t.val = addend m c r s (3 * (t.val / 3) + 2) from congrArg _ (by omega)]
  exact (Finset.sum_range_succ (fun i => addend m c r s (3 * (t.val / 3) + i)) 2).symm.trans (Finset.sum_range fun i => addend m c r s (3 * (t.val / 3) + i))

/-- The product of the two whole arrays. -/
def rows (a : S8192x1536.Idx → EReal) (b : S1024x1536.Idx → EReal) : S8192x1024.Idx → EReal := fun i =>
  ∑ j : Fin 3, ∑ k : Fin 512, a (ix2 (i 0) (⟨512 * j.val + k.val, by omega⟩ : Fin 1536)) * b (ix2 (i 1) (⟨512 * j.val + k.val, by omega⟩ : Fin 1536))

theorem array : (dats m 0 c).arrAt 2 cfg0.N = rows (V m c main_arg0) (V m c main_v0) := by
  refine (dats m 0 c).arrAt_eq_of_covers 2 _ (by decide +kernel) fun t hf y => ?_
  have h3 : t.val % 3 = 2 := (flush0_2 t).mp hf
  have hN := lt_of_lt_of_eq t.isLt N_0
  blk_simp
  rw [after0_2]
  obtain ⟨r, s, rfl⟩ : ∃ (r : Fin 1024) (s : Fin 512), y = ix2 r s := ⟨y 0, y 1, (ix2_eta y).symm⟩
  have h0 : win0_2.index t 0 = t.val / 6 := congrFun (indexOut t) 0
  have h1 : win0_2.index t 1 = t.val / 3 % 2 := congrFun (indexOut t) 1
  refine (out_at m c t h3 r s).trans (Finset.sum_congr rfl fun j _ => ?_)
  have hj : 3 * (t.val / 3) + j.val < cfg0.N := lt_of_lt_of_eq (by omega) N_0.symm
  refine (addend_at m c r s ⟨3 * (t.val / 3) + j.val, hj⟩).trans ((product _ _ r s).trans (Finset.sum_congr rfl fun k _ => ?_))
  rw [block0, block1]
  refine congr (congrArg (fun a b : EReal => a * b) (congrArg (V m c main_arg0) ?_)) (congrArg (V m c main_v0) ?_)
  · refine ix2_congr (Fin.ext ?_) (Fin.ext ?_)
    · blk_simp
      rw [h0]; (try dsimp only [ix2]); omega
    · dsimp only; omega
  · refine ix2_congr (Fin.ext ?_) (Fin.ext ?_)
    · blk_simp
      rw [h1]; (try dsimp only [ix2]); omega
    · dsimp only; omega

set_option maxHeartbeats 4000000 in
/-- The second array the call is given. -/
theorem entry_b : V m c main_v0 = truncf (F := Ideal) .bf16 (m (c, Proc.tc.devRef main_arg1)) bitsLt_bf16_f32 := by
  show StableHlo.after hostOps0 (fun b => m (c, b)) (Proc.tc.devRef main_v0) = _
  simp only [hostOps0, StableHlo.TRef.binary, StableHlo.TRef.nullary, StableHlo.TRef.ternary,
    StableHlo.TRef.unary, StableHlo.TRef.toBuf, StableHlo.TRef.ofBuf, cast_eq]
  after_results_simp

/-- The reference's product at an index. -/
theorem ref_at (a : FVec Ideal S8192x1536 .f32) (b : FVec Ideal S1024x1536 .f32) (r : Fin 8192) (s : Fin 1024) :
    Cert.ReferenceInDxIdeal.Read.val_main_v2 (F := Ideal) a b (ix2 r s) = ∑ k : Fin 1536, a (ix2 r k) * b (ix2 s k) := by
  rw [Cert.ReferenceInDxIdeal.Read.val_main_v2_apply]
  refine Finset.sum_congr rfl fun k _ => congr (congrArg (fun a b : EReal => a * b) (congrArg a ?_)) (congrArg b ?_)
  · funext a
    match a with
    | ⟨0, _⟩ => rfl
    | ⟨1, _⟩ => rfl
  · funext a
    match a with
    | ⟨0, _⟩ => rfl
    | ⟨1, _⟩ => rfl

/-- The kernel's array is the reference's. -/
theorem result : (dats m 0 c).arrAt 2 cfg0.N
    = Cert.ReferenceInDxIdeal.Read.val_main_v2 (F := Ideal) (m (c, Proc.tc.devRef main_arg0)) (m (c, Proc.tc.devRef main_arg1)) := by
  rw [array, V_main_arg0, entry_b]
  funext i
  rw [← ix2_eta i]
  refine Eq.trans ?_ (ref_at _ _ (i 0) (i 1)).symm
  rw [sum_blocks 3 512 1536 rfl]
  rfl

theorem algebraic : Cert.algebraic_KernelInDxIdeal_ReferenceInDxIdeal := by
  intro m g m' g' _ hagree
  refine ⟨fun c => (dats m 0 c).arrAt 2 cfg0.N, Cert.KernelInDxIdeal.Value.run_blocks m g,
    (θ_run Cert.ReferenceInDxIdeal.defs _ _).mono (fun r h c => ?_) (Cert.ReferenceInDxIdeal.Value.run m' g')⟩
  obtain ⟨a0, a1⟩ := hagree c
  exact ⟨(h c).1.trans ((Cert.ReferenceInDxIdeal.Read.val_main_v2_eq _ _).trans
    ((congr (congrArg (Cert.ReferenceInDxIdeal.Read.val_main_v2 (F := Ideal)) a0) a1).trans (result m c).symm)), (h c).2⟩

end Cert.Proof.InDx
-- ==== Proof.InDw.lean ====
/- The gradient of the attention layer's input weight: each output element is a column of the input against a column of the incoming gradient; a scratch carries the sum over 4 tiles of 2048 from point to point. -/
module

public import proofs.«01_k».proof.Defs
public import proofs.«01_k».proof.Proof.Linear
public import proofs.«01_k».proof.Proof.Gen.KernelInDwIdeal.Value
public import proofs.«01_k».proof.Proof.Gen.ReferenceInDwIdeal.Read

@[expose] public section

set_option maxRecDepth 16384

noncomputable section

namespace Cert.Proof.InDw

open Idealize.ShloMosaic Idealize.ShloMosaic.Pointwise Idealize.ShloMosaic.TcCoe Idealize.ShloMosaic.Tactic
open Cert.Proof.Linear Cert.KernelInDwIdeal Cert.KernelInDwIdeal.Gen

/-- One tile's product. -/
theorem product (x : FVec Ideal S2048x1024 .bf16) (y : FVec Ideal S2048x512 .f32) (r : Fin 1024) (s : Fin 512) :
    k0_pay1 (F := Ideal) x y (ix2 r s) = ∑ k : Fin 2048, x (ix2 k r) * y (ix2 k s) := by
  pointwise [k0_pay1]

theorem start_at (x : Vec Ideal S2048x1024 .bf16) (y : Vec Ideal S2048x512 .f32) (r : Fin 1024) (s : Fin 512) :
    k0_pay2 (F := Ideal) x y (ix2 r s) = k0_pay1 (F := Ideal) x y (ix2 r s) := by
  unfold k0_pay2
  generalize k0_pay1 (F := Ideal) x y = f
  exact congrFun (shapeCast_self f _) _

theorem step_at (x : Vec Ideal S2048x1024 .bf16) (y : Vec Ideal S2048x512 .f32) (acc : Vec Ideal S1024x512 .f32) (r : Fin 1024) (s : Fin 512) :
    k0_pay3 (F := Ideal) x y acc (ix2 r s) = (acc (ix2 r s) : EReal) + k0_pay1 (F := Ideal) x y (ix2 r s) := by
  unfold k0_pay3
  generalize k0_pay1 (F := Ideal) x y = f
  exact congrFun (shapeCast_self (addf (F := Ideal) acc f) _) _

theorem first_eq (c : Dev nD) (i : grid0.Coords)
    (arg4 : Memref sig .tc .vmem S2048x1024 .bf16) (harg4 : arg4.IsWhole) (arg5 : Memref sig .tc .vmem S2048x512 .f32) (harg5 : arg5.IsWhole) (arg6 : Memref sig .tc .vmem S1024x512 .f32) (harg6 : arg6.IsWhole) (arg7 : Memref sig .tc .vmem S1024x512 .f32) (harg7 : arg7.IsWhole)
    (hc0 : cond0_0 i) (hc1 : ¬cond0_1 i) (hc2 : ¬cond0_2 i)
    (x : Vec Ideal S2048x1024 .bf16) (y : Vec Ideal S2048x512 .f32) :
    sout0_A_0 c i arg4 harg4 arg5 harg5 arg6 harg6 arg7 harg7 hc0 hc1 hc2 x y = k0_pay2 (F := Ideal) x y := by
  unfold sout0_A_0
  rw [View.read_writes_eq_canon _ _ _ (scover0_A_0 c i arg4 harg4 arg5 harg5 arg6 harg6 arg7 harg7 hc0 hc1 hc2 x y)]
  unfold kernelRun0_A
  dsimp only
  sl_unfold_words
  rw [View.canon_unit_zero (S := S1024x512) hz2]
  simp only [View.readAt_eq_ld, harg4.read_unread, harg5.read_unread, View.ld_unit_zero (S := S2048x1024) hz2, View.ld_unit_zero (S := S2048x512) hz2]

theorem next_eq (c : Dev nD) (i : grid0.Coords)
    (arg4 : Memref sig .tc .vmem S2048x1024 .bf16) (harg4 : arg4.IsWhole) (arg5 : Memref sig .tc .vmem S2048x512 .f32) (harg5 : arg5.IsWhole) (arg6 : Memref sig .tc .vmem S1024x512 .f32) (harg6 : arg6.IsWhole) (arg7 : Memref sig .tc .vmem S1024x512 .f32) (harg7 : arg7.IsWhole)
    (hc0 : ¬cond0_0 i) (hc1 : cond0_1 i) (hc2 : ¬cond0_2 i)
    (x : Vec Ideal S2048x1024 .bf16) (y : Vec Ideal S2048x512 .f32) (acc : Vec Ideal S1024x512 .f32) :
    sout0_B_0 c i arg4 harg4 arg5 harg5 arg6 harg6 arg7 harg7 hc0 hc1 hc2 x y acc = k0_pay3 (F := Ideal) x y acc := by
  unfold sout0_B_0
  rw [View.read_writes_eq_canon _ _ _ (scover0_B_0 c i arg4 harg4 arg5 harg5 arg6 harg6 arg7 harg7 hc0 hc1 hc2 x y acc)]
  unfold kernelRun0_B
  dsimp only
  sl_unfold_words
  rw [View.canon_unit_zero (S := S1024x512) hz2]
  simp only [View.readAt_eq_ld, harg4.read_unread, harg5.read_unread, harg7.read_unread, View.ld_unit_zero (S := S2048x1024) hz2, View.ld_unit_zero (S := S2048x512) hz2, View.ld_unit_zero (S := S1024x512) hz2]

theorem last_eq (c : Dev nD) (i : grid0.Coords)
    (arg4 : Memref sig .tc .vmem S2048x1024 .bf16) (harg4 : arg4.IsWhole) (arg5 : Memref sig .tc .vmem S2048x512 .f32) (harg5 : arg5.IsWhole) (arg6 : Memref sig .tc .vmem S1024x512 .f32) (harg6 : arg6.IsWhole) (arg7 : Memref sig .tc .vmem S1024x512 .f32) (harg7 : arg7.IsWhole)
    (hc0 : ¬cond0_0 i) (hc1 : cond0_1 i) (hc2 : cond0_2 i)
    (x : Vec Ideal S2048x1024 .bf16) (y : Vec Ideal S2048x512 .f32) (acc : Vec Ideal S1024x512 .f32) :
    out0_C_2 c i arg4 harg4 arg5 harg5 arg6 harg6 arg7 harg7 hc0 hc1 hc2 x y acc = k0_pay3 (F := Ideal) x y acc := by
  unfold out0_C_2
  rw [View.read_writes_eq_canon _ _ _ (cover0_C_2 c i arg4 harg4 arg5 harg5 arg6 harg6 arg7 harg7 hc0 hc1 hc2 x y acc)]
  unfold kernelRun0_C
  dsimp only
  sl_unfold_words
  rw [View.canon_unit_zero (S := S1024x512) hz2]
  simp only [View.readCov_unit_zero (S := S1024x512) _ hz2, View.readAt_eq_ld, harg4.read_unread, harg5.read_unread, harg7.read_unread, View.ld_unit_zero (S := S2048x1024) hz2, View.ld_unit_zero (S := S2048x512) hz2, View.ld_unit_zero (S := S1024x512) hz2]

theorem index0 : ∀ t : Fin cfg0.N, win0_0.index t = ![t.val % 4, 0] := by decide +kernel
theorem index1 : ∀ t : Fin cfg0.N, win0_1.index t = ![t.val % 4, t.val / 4] := by decide +kernel
theorem indexOut : ∀ t : Fin cfg0.N, win0_2.index t = ![0, t.val / 4] := by decide +kernel

variable (m : (ℓ : Loc nD τ sig) → Buf (Elt Ideal) ℓ) (c : Dev nD)

theorem block0 (t : Fin cfg0.N) (k : Fin 2048) (r : Fin 1024) :
    iblk m c 0 t (ix2 k r) = V m c main_v0 (ix2 (⟨2048 * (t.val % 4) + k.val, by have := lt_of_lt_of_eq t.isLt N_0; omega⟩ : Fin 8192) r) := by
  blk_ext [iblk, index0 t]

theorem block1 (t : Fin cfg0.N) (k : Fin 2048) (s : Fin 512) :
    iblk m c 1 t (ix2 k s) = V m c main_arg1 (ix2 (⟨2048 * (t.val % 4) + k.val, by have := lt_of_lt_of_eq t.isLt N_0; omega⟩ : Fin 8192) (⟨512 * (t.val / 4) + s.val, by have := lt_of_lt_of_eq t.isLt N_0; omega⟩ : Fin 1536)) := by
  blk_ext [iblk, index1 t]

/-- What point `n` adds to an element of its block. -/
def addend (r : Fin 1024) (s : Fin 512) (n : ℕ) : EReal :=
  if h : n < cfg0.N then k0_pay1 (F := Ideal) (iblk m c 0 ⟨n, h⟩) (iblk m c 1 ⟨n, h⟩) (ix2 r s) else 0

theorem addend_at (r : Fin 1024) (s : Fin 512) (t : Fin cfg0.N) :
    addend m c r s t.val = k0_pay1 (F := Ideal) (iblk m c 0 t) (iblk m c 1 t) (ix2 r s) := dif_pos t.isLt

/-- The scratch after the first points of a block, short of the last: the sum of what they added. -/
theorem fold (n : ℕ) : ∀ (t : Fin cfg0.N), t.val = n → ¬t.val % 4 = 3 → ∀ (r : Fin 1024) (s : Fin 512),
    (outsAt0 m c t.val t.isLt).2 (ix2 r s) = ∑ i ∈ Finset.range (t.val % 4 + 1), addend m c r s (4 * (t.val / 4) + i) := by
  induction n with
  | zero =>
    intro t ht h3 r s
    have h0 : t.val % 4 = 0 := by omega
    rw [outsAt0_A m c t h0 (by omega) (by omega)]
    dsimp only
    rw [first_eq, start_at, h0, Finset.sum_range_one, show 4 * (t.val / 4) + 0 = t.val by omega, addend_at]
  | succ n ih =>
    intro t ht h3 r s
    by_cases h0 : t.val % 4 = 0
    · rw [outsAt0_A m c t h0 (by omega) (by omega)]
      dsimp only
      rw [first_eq, start_at, h0, Finset.sum_range_one, show 4 * (t.val / 4) + 0 = t.val by omega, addend_at]
    · rw [outsAt0_B m c t h0 (by omega) h3]
      dsimp only
      rw [next_eq, step_at]
      have h : (outsAt0 m c (t.val - 1) (Nat.lt_of_le_of_lt (Nat.sub_le _ _) t.isLt)).2 (ix2 r s)
      = ∑ i ∈ Finset.range ((t.val - 1) % 4 + 1), addend m c r s (4 * ((t.val - 1) / 4) + i) :=
        ih ⟨t.val - 1, Nat.lt_of_le_of_lt (Nat.sub_le _ _) t.isLt⟩ (by dsimp only; omega) (by dsimp only; omega) r s
      rw [h, ← addend_at, show (t.val - 1) / 4 = t.val / 4 by omega, show (t.val - 1) % 4 + 1 = t.val % 4 by omega, Finset.sum_range_succ,
        show 4 * (t.val / 4) + t.val % 4 = t.val by omega]

/-- What a block's last point leaves: the sum of the points' products. -/
theorem out_at (t : Fin cfg0.N) (h3 : t.val % 4 = 3) (r : Fin 1024) (s : Fin 512) :
    (outsAt0 m c t.val t.isLt).1 (ix2 r s) = ∑ i : Fin 4, addend m c r s (4 * (t.val / 4) + i.val) := by
  rw [outsAt0_C m c t (by omega) (by omega) h3]
  dsimp only
  rw [last_eq, step_at]
  have h : (outsAt0 m c (t.val - 1) (Nat.lt_of_le_of_lt (Nat.sub_le _ _) t.isLt)).2 (ix2 r s)
      = ∑ i ∈ Finset.range ((t.val - 1) % 4 + 1), addend m c r s (4 * ((t.val - 1) / 4) + i) :=
    fold m c _ ⟨t.val - 1, Nat.lt_of_le_of_lt (Nat.sub_le _ _) t.isLt⟩ rfl (by dsimp only; omega) r s
  rw [h, ← addend_at, show (t.val - 1) / 4 = t.val / 4 by omega, show (t.val - 1) % 4 + 1 = 3 by omega,
    show addend m c r s t.val = addend m c r s (4 * (t.val / 4) + 3) from congrArg _ (by omega)]
  exact (Finset.sum_range_succ (fun i => addend m c r s (4 * (t.val / 4) + i)) 3).symm.trans (Finset.sum_range fun i => addend m c r s (4 * (t.val / 4) + i))

/-- The product of the two whole arrays. -/
def rows (a : S8192x1024.Idx → EReal) (b : S8192x1536.Idx → EReal) : S1024x1536.Idx → EReal := fun i =>
  ∑ j : Fin 4, ∑ k : Fin 2048, a (ix2 (⟨2048 * j.val + k.val, by omega⟩ : Fin 8192) (i 0)) * b (ix2 (⟨2048 * j.val + k.val, by omega⟩ : Fin 8192) (i 1))

theorem array : (dats m 0 c).arrAt 2 cfg0.N = rows (V m c main_v0) (V m c main_arg1) := by
  refine (dats m 0 c).arrAt_eq_of_covers 2 _ (by decide +kernel) fun t hf y => ?_
  have h3 : t.val % 4 = 3 := (flush0_2 t).mp hf
  have hN := lt_of_lt_of_eq t.isLt N_0
  blk_simp
  rw [after0_2]
  obtain ⟨r, s, rfl⟩ : ∃ (r : Fin 1024) (s : Fin 512), y = ix2 r s := ⟨y 0, y 1, (ix2_eta y).symm⟩
  have h0 : win0_2.index t 0 = 0 := congrFun (indexOut t) 0
  have h1 : win0_2.index t 1 = t.val / 4 := congrFun (indexOut t) 1
  refine (out_at m c t h3 r s).trans (Finset.sum_congr rfl fun j _ => ?_)
  have hj : 4 * (t.val / 4) + j.val < cfg0.N := lt_of_lt_of_eq (by omega) N_0.symm
  refine (addend_at m c r s ⟨4 * (t.val / 4) + j.val, hj⟩).trans ((product _ _ r s).trans (Finset.sum_congr rfl fun k _ => ?_))
  rw [block0, block1]
  refine congr (congrArg (fun a b : EReal => a * b) (congrArg (V m c main_v0) ?_)) (congrArg (V m c main_arg1) ?_)
  · refine ix2_congr (Fin.ext ?_) (Fin.ext ?_)
    · dsimp only; omega
    · blk_simp
      rw [h0]; (try dsimp only [ix2]); omega
  · refine ix2_congr (Fin.ext ?_) (Fin.ext ?_)
    · dsimp only; omega
    · blk_simp
      rw [h1]; (try dsimp only [ix2]); omega

set_option maxHeartbeats 4000000 in
/-- The first array the call is given. -/
theorem entry_a : V m c main_v0 = truncf (F := Ideal) .bf16 (m (c, Proc.tc.devRef main_arg0)) bitsLt_bf16_f32 := by
  show StableHlo.after hostOps0 (fun b => m (c, b)) (Proc.tc.devRef main_v0) = _
  simp only [hostOps0, StableHlo.TRef.binary, StableHlo.TRef.nullary, StableHlo.TRef.ternary,
    StableHlo.TRef.unary, StableHlo.TRef.toBuf, StableHlo.TRef.ofBuf, cast_eq]
  after_results_simp

/-- The reference's product at an index. -/
theorem ref_at (a : FVec Ideal S8192x1024 .f32) (b : FVec Ideal S8192x1536 .f32) (r : Fin 1024) (s : Fin 1536) :
    Cert.ReferenceInDwIdeal.Read.val_main_v3 (F := Ideal) a b (ix2 r s) = ∑ k : Fin 8192, a (ix2 k r) * b (ix2 k s) := by
  rw [Cert.ReferenceInDwIdeal.Read.val_main_v3_apply, Cert.ReferenceInDwIdeal.Read.val_main_v2_apply]
  refine Finset.sum_congr rfl fun k _ => (mul_comm (G := EReal) _ _).trans (congr (congrArg (fun a b : EReal => a * b) (congrArg a ?_)) (congrArg b ?_))
  · funext a
    match a with
    | ⟨0, _⟩ => rfl
    | ⟨1, _⟩ => rfl
  · funext a
    match a with
    | ⟨0, _⟩ => rfl
    | ⟨1, _⟩ => rfl

/-- The kernel's array is the reference's. -/
theorem result : (dats m 0 c).arrAt 2 cfg0.N
    = Cert.ReferenceInDwIdeal.Read.val_main_v3 (F := Ideal) (m (c, Proc.tc.devRef main_arg0)) (m (c, Proc.tc.devRef main_arg1)) := by
  rw [array, entry_a, V_main_arg1]
  funext i
  rw [← ix2_eta i]
  refine Eq.trans ?_ (ref_at _ _ (i 0) (i 1)).symm
  rw [sum_blocks 4 2048 8192 rfl]
  rfl

theorem algebraic : Cert.algebraic_KernelInDwIdeal_ReferenceInDwIdeal := by
  intro m g m' g' _ hagree
  refine ⟨fun c => (dats m 0 c).arrAt 2 cfg0.N, Cert.KernelInDwIdeal.Value.run_blocks m g,
    (θ_run Cert.ReferenceInDwIdeal.defs _ _).mono (fun r h c => ?_) (Cert.ReferenceInDwIdeal.Value.run m' g')⟩
  obtain ⟨a0, a1⟩ := hagree c
  exact ⟨(h c).1.trans ((Cert.ReferenceInDwIdeal.Read.val_main_v3_eq _ _).trans
    ((congr (congrArg (Cert.ReferenceInDwIdeal.Read.val_main_v3 (F := Ideal)) a0) a1).trans (result m c).symm)), (h c).2⟩

end Cert.Proof.InDw
-- ==== Proof.In.lean ====
/- The attention layer's input projection: each output element is one row of the first array against one column of the weight. -/
module

public import proofs.«01_k».proof.Defs
public import proofs.«01_k».proof.Proof.Linear
public import proofs.«01_k».proof.Proof.Gen.KernelInIdeal.Value
public import proofs.«01_k».proof.Proof.Gen.ReferenceInIdeal.Read

@[expose] public section

set_option maxRecDepth 16384

noncomputable section

namespace Cert.Proof.In

open Idealize.ShloMosaic Idealize.ShloMosaic.Pointwise Idealize.ShloMosaic.TcCoe Idealize.ShloMosaic.Tactic
open Cert.Proof.Linear Cert.KernelInIdeal Cert.KernelInIdeal.Gen

/-- One tile's product. -/
theorem product (x : FVec Ideal S1024x1024 .bf16) (y : FVec Ideal S1024x512 .bf16) (r : Fin 1024) (s : Fin 512) :
    k0_pay1 (F := Ideal) x y (ix2 r s) = ∑ k : Fin 1024, x (ix2 r k) * y (ix2 k s) := by
  pointwise [k0_pay1]

theorem start_at (x : Vec Ideal S1024x1024 .bf16) (y : Vec Ideal S1024x512 .bf16) (r : Fin 1024) (s : Fin 512) :
    k0_pay2 (F := Ideal) x y (ix2 r s) = k0_pay1 (F := Ideal) x y (ix2 r s) := by
  unfold k0_pay2
  generalize k0_pay1 (F := Ideal) x y = f
  exact congrFun (shapeCast_self f _) _

theorem out_eq (c : Dev nD) (i : grid0.Coords)
    (arg4 : Memref sig .tc .vmem S1024x1024 .bf16) (harg4 : arg4.IsWhole) (arg5 : Memref sig .tc .vmem S1024x512 .bf16) (harg5 : arg5.IsWhole) (arg6 : Memref sig .tc .vmem S1024x512 .f32) (harg6 : arg6.IsWhole) (arg7 : Memref sig .tc .vmem S1024x512 .f32) (harg7 : arg7.IsWhole)
    (hc0 : cond0_0 i) (hc1 : ¬cond0_1 i) (hc2 : cond0_2 i)
    (x : Vec Ideal S1024x1024 .bf16) (y : Vec Ideal S1024x512 .bf16) :
    out0_A_2 c i arg4 harg4 arg5 harg5 arg6 harg6 arg7 harg7 hc0 hc1 hc2 x y = k0_pay2 (F := Ideal) x y := by
  unfold out0_A_2
  rw [View.read_writes_eq_canon _ _ _ (cover0_A_2 c i arg4 harg4 arg5 harg5 arg6 harg6 arg7 harg7 hc0 hc1 hc2 x y)]
  unfold kernelRun0_A
  dsimp only
  sl_unfold_words
  rw [View.canon_unit_zero (S := S1024x512) hz2]
  simp only [View.readCov_unit_zero (S := S1024x512) _ hz2, View.readAt_eq_ld, harg4.read_unread, harg5.read_unread, View.ld_unit_zero (S := S1024x1024) hz2, View.ld_unit_zero (S := S1024x512) hz2]

theorem index0 : ∀ t : Fin cfg0.N, win0_0.index t = ![t.val / 3, 0] := by decide +kernel
theorem index1 : ∀ t : Fin cfg0.N, win0_1.index t = ![0, t.val % 3] := by decide +kernel
theorem indexOut : ∀ t : Fin cfg0.N, win0_2.index t = ![t.val / 3, t.val % 3] := by decide +kernel

variable (m : (ℓ : Loc nD τ sig) → Buf (Elt Ideal) ℓ) (c : Dev nD)

theorem block0 (t : Fin cfg0.N) (k : Fin 1024) (r : Fin 1024) :
    iblk m c 0 t (ix2 r k) = V m c main_v0 (ix2 (⟨1024 * (t.val / 3) + r.val, by have := lt_of_lt_of_eq t.isLt N_0; omega⟩ : Fin 8192) k) := by
  blk_ext [iblk, index0 t]

theorem block1 (t : Fin cfg0.N) (k : Fin 1024) (s : Fin 512) :
    iblk m c 1 t (ix2 k s) = V m c main_v1 (ix2 k (⟨512 * (t.val % 3) + s.val, by have := lt_of_lt_of_eq t.isLt N_0; omega⟩ : Fin 1536)) := by
  blk_ext [iblk, index1 t]

/-- The product of the two whole arrays. -/
def rows (a : S8192x1024.Idx → EReal) (b : S1024x1536.Idx → EReal) : S8192x1536.Idx → EReal := fun i =>
  ∑ k : Fin 1024, a (ix2 (i 0) k) * b (ix2 k (i 1))

theorem array : (dats m 0 c).arrAt 2 cfg0.N = rows (V m c main_v0) (V m c main_v1) := by
  refine (dats m 0 c).arrAt_eq_of_covers 2 _ (by decide +kernel) fun t hf y => ?_
  have hN := lt_of_lt_of_eq t.isLt N_0
  blk_simp
  rw [after0_2]
  obtain ⟨r, s, rfl⟩ : ∃ (r : Fin 1024) (s : Fin 512), y = ix2 r s := ⟨y 0, y 1, (ix2_eta y).symm⟩
  have h0 : win0_2.index t 0 = t.val / 3 := congrFun (indexOut t) 0
  have h1 : win0_2.index t 1 = t.val % 3 := congrFun (indexOut t) 1
  unfold outsAt0
  rw [out_eq]
  refine (start_at (iblk m c 0 t) (iblk m c 1 t) r s).trans ((product _ _ r s).trans (Finset.sum_congr rfl fun k _ => ?_))
  rw [block0, block1]
  refine congr (congrArg (fun a b : EReal => a * b) (congrArg (V m c main_v0) ?_)) (congrArg (V m c main_v1) ?_)
  · refine ix2_congr (Fin.ext ?_) (Fin.ext ?_)
    · blk_simp
      rw [h0]; (try dsimp only [ix2]); omega
    · rfl
  · refine ix2_congr (Fin.ext ?_) (Fin.ext ?_)
    · rfl
    · blk_simp
      rw [h1]; (try dsimp only [ix2]); omega

set_option maxHeartbeats 4000000 in
/-- The first array the call is given. -/
theorem entry_a : V m c main_v0 = truncf (F := Ideal) .bf16 (m (c, Proc.tc.devRef main_arg0)) bitsLt_bf16_f32 := by
  show StableHlo.after hostOps0 (fun b => m (c, b)) (Proc.tc.devRef main_v0) = _
  simp only [hostOps0, StableHlo.TRef.binary, StableHlo.TRef.nullary, StableHlo.TRef.ternary,
    StableHlo.TRef.unary, StableHlo.TRef.toBuf, StableHlo.TRef.ofBuf, cast_eq]
  after_results_simp

set_option maxHeartbeats 4000000 in
/-- The second array the call is given. -/
theorem entry_b : V m c main_v1 = truncf (F := Ideal) .bf16 (m (c, Proc.tc.devRef main_arg1)) bitsLt_bf16_f32 := by
  show StableHlo.after hostOps0 (fun b => m (c, b)) (Proc.tc.devRef main_v1) = _
  simp only [hostOps0, StableHlo.TRef.binary, StableHlo.TRef.nullary, StableHlo.TRef.ternary,
    StableHlo.TRef.unary, StableHlo.TRef.toBuf, StableHlo.TRef.ofBuf, cast_eq]
  after_results_simp

/-- The reference's product at an index. -/
theorem ref_at (a : FVec Ideal S8192x1024 .f32) (b : FVec Ideal S1024x1536 .f32) (r : Fin 8192) (s : Fin 1536) :
    Cert.ReferenceInIdeal.Read.val_main_v0 (F := Ideal) a b (ix2 r s) = ∑ k : Fin 1024, a (ix2 r k) * b (ix2 k s) := by
  rw [Cert.ReferenceInIdeal.Read.val_main_v0_apply]
  refine Finset.sum_congr rfl fun k _ => congr (congrArg (fun a b : EReal => a * b) (congrArg a ?_)) (congrArg b ?_)
  · funext a
    match a with
    | ⟨0, _⟩ => rfl
    | ⟨1, _⟩ => rfl
  · funext a
    match a with
    | ⟨0, _⟩ => rfl
    | ⟨1, _⟩ => rfl

/-- The kernel's array is the reference's. -/
theorem result : (dats m 0 c).arrAt 2 cfg0.N
    = Cert.ReferenceInIdeal.Read.val_main_v0 (F := Ideal) (m (c, Proc.tc.devRef main_arg0)) (m (c, Proc.tc.devRef main_arg1)) := by
  rw [array, entry_a, entry_b]
  funext i
  rw [← ix2_eta i]
  refine Eq.trans ?_ (ref_at _ _ (i 0) (i 1)).symm
  rfl

theorem algebraic : Cert.algebraic_KernelInIdeal_ReferenceInIdeal := by
  intro m g m' g' _ hagree
  refine ⟨fun c => (dats m 0 c).arrAt 2 cfg0.N, Cert.KernelInIdeal.Value.run_blocks m g,
    (θ_run Cert.ReferenceInIdeal.defs _ _).mono (fun r h c => ?_) (Cert.ReferenceInIdeal.Value.run m' g')⟩
  obtain ⟨a0, a1⟩ := hagree c
  exact ⟨(h c).1.trans ((Cert.ReferenceInIdeal.Read.val_main_v0_eq _ _).trans
    ((congr (congrArg (Cert.ReferenceInIdeal.Read.val_main_v0 (F := Ideal)) a0) a1).trans (result m c).symm)), (h c).2⟩

end Cert.Proof.In
-- ==== Proof.UqDx.lean ====
/- The gradient through the projection of the latent to the queries: each output element is one row of the incoming gradient against one row of the weight. -/
module

public import proofs.«01_k».proof.Defs
public import proofs.«01_k».proof.Proof.Linear
public import proofs.«01_k».proof.Proof.Gen.KernelUqDxIdeal.Value
public import proofs.«01_k».proof.Proof.Gen.ReferenceUqDxIdeal.Read

@[expose] public section

set_option maxRecDepth 16384

noncomputable section

namespace Cert.Proof.UqDx

open Idealize.ShloMosaic Idealize.ShloMosaic.Pointwise Idealize.ShloMosaic.TcCoe Idealize.ShloMosaic.Tactic
open Cert.Proof.Linear Cert.KernelUqDxIdeal Cert.KernelUqDxIdeal.Gen

/-- One tile's product. -/
theorem product (x : FVec Ideal S1024x1024 .bf16) (y : FVec Ideal S256x1024 .bf16) (r : Fin 1024) (s : Fin 256) :
    k0_pay1 (F := Ideal) x y (ix2 r s) = ∑ k : Fin 1024, x (ix2 r k) * y (ix2 s k) := by
  pointwise [k0_pay1]

theorem start_at (x : Vec Ideal S1024x1024 .bf16) (y : Vec Ideal S256x1024 .bf16) (r : Fin 1024) (s : Fin 256) :
    k0_pay2 (F := Ideal) x y (ix2 r s) = k0_pay1 (F := Ideal) x y (ix2 r s) := by
  unfold k0_pay2
  generalize k0_pay1 (F := Ideal) x y = f
  exact congrFun (shapeCast_self f _) _

theorem out_eq (c : Dev nD) (i : grid0.Coords)
    (arg4 : Memref sig .tc .vmem S1024x1024 .bf16) (harg4 : arg4.IsWhole) (arg5 : Memref sig .tc .vmem S256x1024 .bf16) (harg5 : arg5.IsWhole) (arg6 : Memref sig .tc .vmem S1024x256 .f32) (harg6 : arg6.IsWhole) (arg7 : Memref sig .tc .vmem S1024x256 .f32) (harg7 : arg7.IsWhole)
    (hc0 : cond0_0 i) (hc1 : ¬cond0_1 i) (hc2 : cond0_2 i)
    (x : Vec Ideal S1024x1024 .bf16) (y : Vec Ideal S256x1024 .bf16) :
    out0_A_2 c i arg4 harg4 arg5 harg5 arg6 harg6 arg7 harg7 hc0 hc1 hc2 x y = k0_pay2 (F := Ideal) x y := by
  unfold out0_A_2
  rw [View.read_writes_eq_canon _ _ _ (cover0_A_2 c i arg4 harg4 arg5 harg5 arg6 harg6 arg7 harg7 hc0 hc1 hc2 x y)]
  unfold kernelRun0_A
  dsimp only
  sl_unfold_words
  rw [View.canon_unit_zero (S := S1024x256) hz2]
  simp only [View.readCov_unit_zero (S := S1024x256) _ hz2, View.readAt_eq_ld, harg4.read_unread, harg5.read_unread, View.ld_unit_zero (S := S1024x1024) hz2, View.ld_unit_zero (S := S256x1024) hz2]

theorem index0 : ∀ t : Fin cfg0.N, win0_0.index t = ![t.val, 0] := by decide +kernel
theorem index1 : ∀ t : Fin cfg0.N, win0_1.index t = ![0, 0] := by decide +kernel
theorem indexOut : ∀ t : Fin cfg0.N, win0_2.index t = ![t.val, 0] := by decide +kernel

variable (m : (ℓ : Loc nD τ sig) → Buf (Elt Ideal) ℓ) (c : Dev nD)

theorem block0 (t : Fin cfg0.N) (k : Fin 1024) (r : Fin 1024) :
    iblk m c 0 t (ix2 r k) = V m c main_v0 (ix2 (⟨1024 * (t.val) + r.val, by have := lt_of_lt_of_eq t.isLt N_0; omega⟩ : Fin 8192) k) := by
  blk_ext [iblk, index0 t]

theorem block1 (t : Fin cfg0.N) (k : Fin 1024) (s : Fin 256) :
    iblk m c 1 t (ix2 s k) = V m c main_v1 (ix2 s k) := by
  blk_ext [iblk, index1 t]

/-- The product of the two whole arrays. -/
def rows (a : S8192x1024.Idx → EReal) (b : S256x1024.Idx → EReal) : S8192x256.Idx → EReal := fun i =>
  ∑ k : Fin 1024, a (ix2 (i 0) k) * b (ix2 (i 1) k)

theorem array : (dats m 0 c).arrAt 2 cfg0.N = rows (V m c main_v0) (V m c main_v1) := by
  refine (dats m 0 c).arrAt_eq_of_covers 2 _ (by decide +kernel) fun t hf y => ?_
  have hN := lt_of_lt_of_eq t.isLt N_0
  blk_simp
  rw [after0_2]
  obtain ⟨r, s, rfl⟩ : ∃ (r : Fin 1024) (s : Fin 256), y = ix2 r s := ⟨y 0, y 1, (ix2_eta y).symm⟩
  have h0 : win0_2.index t 0 = t.val := congrFun (indexOut t) 0
  have h1 : win0_2.index t 1 = 0 := congrFun (indexOut t) 1
  unfold outsAt0
  rw [out_eq]
  refine (start_at (iblk m c 0 t) (iblk m c 1 t) r s).trans ((product _ _ r s).trans (Finset.sum_congr rfl fun k _ => ?_))
  rw [block0, block1]
  refine congr (congrArg (fun a b : EReal => a * b) (congrArg (V m c main_v0) ?_)) (congrArg (V m c main_v1) ?_)
  · refine ix2_congr (Fin.ext ?_) (Fin.ext ?_)
    · blk_simp
      rw [h0]; (try dsimp only [ix2]); omega
    · rfl
  · refine ix2_congr (Fin.ext ?_) (Fin.ext ?_)
    · blk_simp
      rw [h1]; (try dsimp only [ix2]); omega
    · rfl

set_option maxHeartbeats 4000000 in
/-- The first array the call is given. -/
theorem entry_a : V m c main_v0 = truncf (F := Ideal) .bf16 (m (c, Proc.tc.devRef main_arg0)) bitsLt_bf16_f32 := by
  show StableHlo.after hostOps0 (fun b => m (c, b)) (Proc.tc.devRef main_v0) = _
  simp only [hostOps0, StableHlo.TRef.binary, StableHlo.TRef.nullary, StableHlo.TRef.ternary,
    StableHlo.TRef.unary, StableHlo.TRef.toBuf, StableHlo.TRef.ofBuf, cast_eq]
  after_results_simp

set_option maxHeartbeats 4000000 in
/-- The second array the call is given. -/
theorem entry_b : V m c main_v1 = truncf (F := Ideal) .bf16 (m (c, Proc.tc.devRef main_arg1)) bitsLt_bf16_f32 := by
  show StableHlo.after hostOps0 (fun b => m (c, b)) (Proc.tc.devRef main_v1) = _
  simp only [hostOps0, StableHlo.TRef.binary, StableHlo.TRef.nullary, StableHlo.TRef.ternary,
    StableHlo.TRef.unary, StableHlo.TRef.toBuf, StableHlo.TRef.ofBuf, cast_eq]
  after_results_simp

/-- The reference's product at an index. -/
theorem ref_at (a : FVec Ideal S8192x1024 .f32) (b : FVec Ideal S256x1024 .f32) (r : Fin 8192) (s : Fin 256) :
    Cert.ReferenceUqDxIdeal.Read.val_main_v2 (F := Ideal) a b (ix2 r s) = ∑ k : Fin 1024, a (ix2 r k) * b (ix2 s k) := by
  rw [Cert.ReferenceUqDxIdeal.Read.val_main_v2_apply]
  refine Finset.sum_congr rfl fun k _ => congr (congrArg (fun a b : EReal => a * b) (congrArg a ?_)) (congrArg b ?_)
  · funext a
    match a with
    | ⟨0, _⟩ => rfl
    | ⟨1, _⟩ => rfl
  · funext a
    match a with
    | ⟨0, _⟩ => rfl
    | ⟨1, _⟩ => rfl

/-- The kernel's array is the reference's. -/
theorem result : (dats m 0 c).arrAt 2 cfg0.N
    = Cert.ReferenceUqDxIdeal.Read.val_main_v2 (F := Ideal) (m (c, Proc.tc.devRef main_arg0)) (m (c, Proc.tc.devRef main_arg1)) := by
  rw [array, entry_a, entry_b]
  funext i
  rw [← ix2_eta i]
  refine Eq.trans ?_ (ref_at _ _ (i 0) (i 1)).symm
  rfl

theorem algebraic : Cert.algebraic_KernelUqDxIdeal_ReferenceUqDxIdeal := by
  intro m g m' g' _ hagree
  refine ⟨fun c => (dats m 0 c).arrAt 2 cfg0.N, Cert.KernelUqDxIdeal.Value.run_blocks m g,
    (θ_run Cert.ReferenceUqDxIdeal.defs _ _).mono (fun r h c => ?_) (Cert.ReferenceUqDxIdeal.Value.run m' g')⟩
  obtain ⟨a0, a1⟩ := hagree c
  exact ⟨(h c).1.trans ((Cert.ReferenceUqDxIdeal.Read.val_main_v2_eq _ _).trans
    ((congr (congrArg (Cert.ReferenceUqDxIdeal.Read.val_main_v2 (F := Ideal)) a0) a1).trans (result m c).symm)), (h c).2⟩

end Cert.Proof.UqDx
-- ==== Proof.UqDw.lean ====
/- The gradient of the weight that takes the latent to the queries: each output element is a column of the input against a column of the incoming gradient; a scratch carries the sum over 4 tiles of 2048 from point to point. -/
module

public import proofs.«01_k».proof.Defs
public import proofs.«01_k».proof.Proof.Linear
public import proofs.«01_k».proof.Proof.Gen.KernelUqDwIdeal.Value
public import proofs.«01_k».proof.Proof.Gen.ReferenceUqDwIdeal.Read

@[expose] public section

set_option maxRecDepth 16384

noncomputable section

namespace Cert.Proof.UqDw

open Idealize.ShloMosaic Idealize.ShloMosaic.Pointwise Idealize.ShloMosaic.TcCoe Idealize.ShloMosaic.Tactic
open Cert.Proof.Linear Cert.KernelUqDwIdeal Cert.KernelUqDwIdeal.Gen

/-- One tile's product. -/
theorem product (x : FVec Ideal S2048x256 .bf16) (y : FVec Ideal S2048x512 .bf16) (r : Fin 256) (s : Fin 512) :
    k0_pay1 (F := Ideal) x y (ix2 r s) = ∑ k : Fin 2048, x (ix2 k r) * y (ix2 k s) := by
  pointwise [k0_pay1]

theorem start_at (x : Vec Ideal S2048x256 .bf16) (y : Vec Ideal S2048x512 .bf16) (r : Fin 256) (s : Fin 512) :
    k0_pay2 (F := Ideal) x y (ix2 r s) = k0_pay1 (F := Ideal) x y (ix2 r s) := by
  unfold k0_pay2
  generalize k0_pay1 (F := Ideal) x y = f
  exact congrFun (shapeCast_self f _) _

theorem step_at (x : Vec Ideal S2048x256 .bf16) (y : Vec Ideal S2048x512 .bf16) (acc : Vec Ideal S256x512 .f32) (r : Fin 256) (s : Fin 512) :
    k0_pay3 (F := Ideal) x y acc (ix2 r s) = (acc (ix2 r s) : EReal) + k0_pay1 (F := Ideal) x y (ix2 r s) := by
  unfold k0_pay3
  generalize k0_pay1 (F := Ideal) x y = f
  exact congrFun (shapeCast_self (addf (F := Ideal) acc f) _) _

theorem first_eq (c : Dev nD) (i : grid0.Coords)
    (arg4 : Memref sig .tc .vmem S2048x256 .bf16) (harg4 : arg4.IsWhole) (arg5 : Memref sig .tc .vmem S2048x512 .bf16) (harg5 : arg5.IsWhole) (arg6 : Memref sig .tc .vmem S256x512 .f32) (harg6 : arg6.IsWhole) (arg7 : Memref sig .tc .vmem S256x512 .f32) (harg7 : arg7.IsWhole)
    (hc0 : cond0_0 i) (hc1 : ¬cond0_1 i) (hc2 : ¬cond0_2 i)
    (x : Vec Ideal S2048x256 .bf16) (y : Vec Ideal S2048x512 .bf16) :
    sout0_A_0 c i arg4 harg4 arg5 harg5 arg6 harg6 arg7 harg7 hc0 hc1 hc2 x y = k0_pay2 (F := Ideal) x y := by
  unfold sout0_A_0
  rw [View.read_writes_eq_canon _ _ _ (scover0_A_0 c i arg4 harg4 arg5 harg5 arg6 harg6 arg7 harg7 hc0 hc1 hc2 x y)]
  unfold kernelRun0_A
  dsimp only
  sl_unfold_words
  rw [View.canon_unit_zero (S := S256x512) hz2]
  simp only [View.readAt_eq_ld, harg4.read_unread, harg5.read_unread, View.ld_unit_zero (S := S2048x256) hz2, View.ld_unit_zero (S := S2048x512) hz2]

theorem next_eq (c : Dev nD) (i : grid0.Coords)
    (arg4 : Memref sig .tc .vmem S2048x256 .bf16) (harg4 : arg4.IsWhole) (arg5 : Memref sig .tc .vmem S2048x512 .bf16) (harg5 : arg5.IsWhole) (arg6 : Memref sig .tc .vmem S256x512 .f32) (harg6 : arg6.IsWhole) (arg7 : Memref sig .tc .vmem S256x512 .f32) (harg7 : arg7.IsWhole)
    (hc0 : ¬cond0_0 i) (hc1 : cond0_1 i) (hc2 : ¬cond0_2 i)
    (x : Vec Ideal S2048x256 .bf16) (y : Vec Ideal S2048x512 .bf16) (acc : Vec Ideal S256x512 .f32) :
    sout0_B_0 c i arg4 harg4 arg5 harg5 arg6 harg6 arg7 harg7 hc0 hc1 hc2 x y acc = k0_pay3 (F := Ideal) x y acc := by
  unfold sout0_B_0
  rw [View.read_writes_eq_canon _ _ _ (scover0_B_0 c i arg4 harg4 arg5 harg5 arg6 harg6 arg7 harg7 hc0 hc1 hc2 x y acc)]
  unfold kernelRun0_B
  dsimp only
  sl_unfold_words
  rw [View.canon_unit_zero (S := S256x512) hz2]
  simp only [View.readAt_eq_ld, harg4.read_unread, harg5.read_unread, harg7.read_unread, View.ld_unit_zero (S := S2048x256) hz2, View.ld_unit_zero (S := S2048x512) hz2, View.ld_unit_zero (S := S256x512) hz2]

theorem last_eq (c : Dev nD) (i : grid0.Coords)
    (arg4 : Memref sig .tc .vmem S2048x256 .bf16) (harg4 : arg4.IsWhole) (arg5 : Memref sig .tc .vmem S2048x512 .bf16) (harg5 : arg5.IsWhole) (arg6 : Memref sig .tc .vmem S256x512 .f32) (harg6 : arg6.IsWhole) (arg7 : Memref sig .tc .vmem S256x512 .f32) (harg7 : arg7.IsWhole)
    (hc0 : ¬cond0_0 i) (hc1 : cond0_1 i) (hc2 : cond0_2 i)
    (x : Vec Ideal S2048x256 .bf16) (y : Vec Ideal S2048x512 .bf16) (acc : Vec Ideal S256x512 .f32) :
    out0_C_2 c i arg4 harg4 arg5 harg5 arg6 harg6 arg7 harg7 hc0 hc1 hc2 x y acc = k0_pay3 (F := Ideal) x y acc := by
  unfold out0_C_2
  rw [View.read_writes_eq_canon _ _ _ (cover0_C_2 c i arg4 harg4 arg5 harg5 arg6 harg6 arg7 harg7 hc0 hc1 hc2 x y acc)]
  unfold kernelRun0_C
  dsimp only
  sl_unfold_words
  rw [View.canon_unit_zero (S := S256x512) hz2]
  simp only [View.readCov_unit_zero (S := S256x512) _ hz2, View.readAt_eq_ld, harg4.read_unread, harg5.read_unread, harg7.read_unread, View.ld_unit_zero (S := S2048x256) hz2, View.ld_unit_zero (S := S2048x512) hz2, View.ld_unit_zero (S := S256x512) hz2]

theorem index0 : ∀ t : Fin cfg0.N, win0_0.index t = ![t.val % 4, 0] := by decide +kernel
theorem index1 : ∀ t : Fin cfg0.N, win0_1.index t = ![t.val % 4, t.val / 4] := by decide +kernel
theorem indexOut : ∀ t : Fin cfg0.N, win0_2.index t = ![0, t.val / 4] := by decide +kernel

variable (m : (ℓ : Loc nD τ sig) → Buf (Elt Ideal) ℓ) (c : Dev nD)

theorem block0 (t : Fin cfg0.N) (k : Fin 2048) (r : Fin 256) :
    iblk m c 0 t (ix2 k r) = V m c main_v0 (ix2 (⟨2048 * (t.val % 4) + k.val, by have := lt_of_lt_of_eq t.isLt N_0; omega⟩ : Fin 8192) r) := by
  blk_ext [iblk, index0 t]

theorem block1 (t : Fin cfg0.N) (k : Fin 2048) (s : Fin 512) :
    iblk m c 1 t (ix2 k s) = V m c main_v1 (ix2 (⟨2048 * (t.val % 4) + k.val, by have := lt_of_lt_of_eq t.isLt N_0; omega⟩ : Fin 8192) (⟨512 * (t.val / 4) + s.val, by have := lt_of_lt_of_eq t.isLt N_0; omega⟩ : Fin 1024)) := by
  blk_ext [iblk, index1 t]

/-- What point `n` adds to an element of its block. -/
def addend (r : Fin 256) (s : Fin 512) (n : ℕ) : EReal :=
  if h : n < cfg0.N then k0_pay1 (F := Ideal) (iblk m c 0 ⟨n, h⟩) (iblk m c 1 ⟨n, h⟩) (ix2 r s) else 0

theorem addend_at (r : Fin 256) (s : Fin 512) (t : Fin cfg0.N) :
    addend m c r s t.val = k0_pay1 (F := Ideal) (iblk m c 0 t) (iblk m c 1 t) (ix2 r s) := dif_pos t.isLt

/-- The scratch after the first points of a block, short of the last: the sum of what they added. -/
theorem fold (n : ℕ) : ∀ (t : Fin cfg0.N), t.val = n → ¬t.val % 4 = 3 → ∀ (r : Fin 256) (s : Fin 512),
    (outsAt0 m c t.val t.isLt).2 (ix2 r s) = ∑ i ∈ Finset.range (t.val % 4 + 1), addend m c r s (4 * (t.val / 4) + i) := by
  induction n with
  | zero =>
    intro t ht h3 r s
    have h0 : t.val % 4 = 0 := by omega
    rw [outsAt0_A m c t h0 (by omega) (by omega)]
    dsimp only
    rw [first_eq, start_at, h0, Finset.sum_range_one, show 4 * (t.val / 4) + 0 = t.val by omega, addend_at]
  | succ n ih =>
    intro t ht h3 r s
    by_cases h0 : t.val % 4 = 0
    · rw [outsAt0_A m c t h0 (by omega) (by omega)]
      dsimp only
      rw [first_eq, start_at, h0, Finset.sum_range_one, show 4 * (t.val / 4) + 0 = t.val by omega, addend_at]
    · rw [outsAt0_B m c t h0 (by omega) h3]
      dsimp only
      rw [next_eq, step_at]
      have h : (outsAt0 m c (t.val - 1) (Nat.lt_of_le_of_lt (Nat.sub_le _ _) t.isLt)).2 (ix2 r s)
      = ∑ i ∈ Finset.range ((t.val - 1) % 4 + 1), addend m c r s (4 * ((t.val - 1) / 4) + i) :=
        ih ⟨t.val - 1, Nat.lt_of_le_of_lt (Nat.sub_le _ _) t.isLt⟩ (by dsimp only; omega) (by dsimp only; omega) r s
      rw [h, ← addend_at, show (t.val - 1) / 4 = t.val / 4 by omega, show (t.val - 1) % 4 + 1 = t.val % 4 by omega, Finset.sum_range_succ,
        show 4 * (t.val / 4) + t.val % 4 = t.val by omega]

/-- What a block's last point leaves: the sum of the points' products. -/
theorem out_at (t : Fin cfg0.N) (h3 : t.val % 4 = 3) (r : Fin 256) (s : Fin 512) :
    (outsAt0 m c t.val t.isLt).1 (ix2 r s) = ∑ i : Fin 4, addend m c r s (4 * (t.val / 4) + i.val) := by
  rw [outsAt0_C m c t (by omega) (by omega) h3]
  dsimp only
  rw [last_eq, step_at]
  have h : (outsAt0 m c (t.val - 1) (Nat.lt_of_le_of_lt (Nat.sub_le _ _) t.isLt)).2 (ix2 r s)
      = ∑ i ∈ Finset.range ((t.val - 1) % 4 + 1), addend m c r s (4 * ((t.val - 1) / 4) + i) :=
    fold m c _ ⟨t.val - 1, Nat.lt_of_le_of_lt (Nat.sub_le _ _) t.isLt⟩ rfl (by dsimp only; omega) r s
  rw [h, ← addend_at, show (t.val - 1) / 4 = t.val / 4 by omega, show (t.val - 1) % 4 + 1 = 3 by omega,
    show addend m c r s t.val = addend m c r s (4 * (t.val / 4) + 3) from congrArg _ (by omega)]
  exact (Finset.sum_range_succ (fun i => addend m c r s (4 * (t.val / 4) + i)) 3).symm.trans (Finset.sum_range fun i => addend m c r s (4 * (t.val / 4) + i))

/-- The product of the two whole arrays. -/
def rows (a : S8192x256.Idx → EReal) (b : S8192x1024.Idx → EReal) : S256x1024.Idx → EReal := fun i =>
  ∑ j : Fin 4, ∑ k : Fin 2048, a (ix2 (⟨2048 * j.val + k.val, by omega⟩ : Fin 8192) (i 0)) * b (ix2 (⟨2048 * j.val + k.val, by omega⟩ : Fin 8192) (i 1))

theorem array : (dats m 0 c).arrAt 2 cfg0.N = rows (V m c main_v0) (V m c main_v1) := by
  refine (dats m 0 c).arrAt_eq_of_covers 2 _ (by decide +kernel) fun t hf y => ?_
  have h3 : t.val % 4 = 3 := (flush0_2 t).mp hf
  have hN := lt_of_lt_of_eq t.isLt N_0
  blk_simp
  rw [after0_2]
  obtain ⟨r, s, rfl⟩ : ∃ (r : Fin 256) (s : Fin 512), y = ix2 r s := ⟨y 0, y 1, (ix2_eta y).symm⟩
  have h0 : win0_2.index t 0 = 0 := congrFun (indexOut t) 0
  have h1 : win0_2.index t 1 = t.val / 4 := congrFun (indexOut t) 1
  refine (out_at m c t h3 r s).trans (Finset.sum_congr rfl fun j _ => ?_)
  have hj : 4 * (t.val / 4) + j.val < cfg0.N := lt_of_lt_of_eq (by omega) N_0.symm
  refine (addend_at m c r s ⟨4 * (t.val / 4) + j.val, hj⟩).trans ((product _ _ r s).trans (Finset.sum_congr rfl fun k _ => ?_))
  rw [block0, block1]
  refine congr (congrArg (fun a b : EReal => a * b) (congrArg (V m c main_v0) ?_)) (congrArg (V m c main_v1) ?_)
  · refine ix2_congr (Fin.ext ?_) (Fin.ext ?_)
    · dsimp only; omega
    · blk_simp
      rw [h0]; (try dsimp only [ix2]); omega
  · refine ix2_congr (Fin.ext ?_) (Fin.ext ?_)
    · dsimp only; omega
    · blk_simp
      rw [h1]; (try dsimp only [ix2]); omega

set_option maxHeartbeats 4000000 in
/-- The first array the call is given. -/
theorem entry_a : V m c main_v0 = truncf (F := Ideal) .bf16 (m (c, Proc.tc.devRef main_arg0)) bitsLt_bf16_f32 := by
  show StableHlo.after hostOps0 (fun b => m (c, b)) (Proc.tc.devRef main_v0) = _
  simp only [hostOps0, StableHlo.TRef.binary, StableHlo.TRef.nullary, StableHlo.TRef.ternary,
    StableHlo.TRef.unary, StableHlo.TRef.toBuf, StableHlo.TRef.ofBuf, cast_eq]
  after_results_simp

set_option maxHeartbeats 4000000 in
/-- The second array the call is given. -/
theorem entry_b : V m c main_v1 = truncf (F := Ideal) .bf16 (m (c, Proc.tc.devRef main_arg1)) bitsLt_bf16_f32 := by
  show StableHlo.after hostOps0 (fun b => m (c, b)) (Proc.tc.devRef main_v1) = _
  simp only [hostOps0, StableHlo.TRef.binary, StableHlo.TRef.nullary, StableHlo.TRef.ternary,
    StableHlo.TRef.unary, StableHlo.TRef.toBuf, StableHlo.TRef.ofBuf, cast_eq]
  after_results_simp

/-- The reference's product at an index. -/
theorem ref_at (a : FVec Ideal S8192x256 .f32) (b : FVec Ideal S8192x1024 .f32) (r : Fin 256) (s : Fin 1024) :
    Cert.ReferenceUqDwIdeal.Read.val_main_v3 (F := Ideal) a b (ix2 r s) = ∑ k : Fin 8192, a (ix2 k r) * b (ix2 k s) := by
  rw [Cert.ReferenceUqDwIdeal.Read.val_main_v3_apply, Cert.ReferenceUqDwIdeal.Read.val_main_v2_apply]
  refine Finset.sum_congr rfl fun k _ => (mul_comm (G := EReal) _ _).trans (congr (congrArg (fun a b : EReal => a * b) (congrArg a ?_)) (congrArg b ?_))
  · funext a
    match a with
    | ⟨0, _⟩ => rfl
    | ⟨1, _⟩ => rfl
  · funext a
    match a with
    | ⟨0, _⟩ => rfl
    | ⟨1, _⟩ => rfl

/-- The kernel's array is the reference's. -/
theorem result : (dats m 0 c).arrAt 2 cfg0.N
    = Cert.ReferenceUqDwIdeal.Read.val_main_v3 (F := Ideal) (m (c, Proc.tc.devRef main_arg0)) (m (c, Proc.tc.devRef main_arg1)) := by
  rw [array, entry_a, entry_b]
  funext i
  rw [← ix2_eta i]
  refine Eq.trans ?_ (ref_at _ _ (i 0) (i 1)).symm
  rw [sum_blocks 4 2048 8192 rfl]
  rfl

theorem algebraic : Cert.algebraic_KernelUqDwIdeal_ReferenceUqDwIdeal := by
  intro m g m' g' _ hagree
  refine ⟨fun c => (dats m 0 c).arrAt 2 cfg0.N, Cert.KernelUqDwIdeal.Value.run_blocks m g,
    (θ_run Cert.ReferenceUqDwIdeal.defs _ _).mono (fun r h c => ?_) (Cert.ReferenceUqDwIdeal.Value.run m' g')⟩
  obtain ⟨a0, a1⟩ := hagree c
  exact ⟨(h c).1.trans ((Cert.ReferenceUqDwIdeal.Read.val_main_v3_eq _ _).trans
    ((congr (congrArg (Cert.ReferenceUqDwIdeal.Read.val_main_v3 (F := Ideal)) a0) a1).trans (result m c).symm)), (h c).2⟩

end Cert.Proof.UqDw
-- ==== Proof.Uq.lean ====
/- The projection of the latent to the queries: each output element is one row of the first array against one column of the weight. -/
module

public import proofs.«01_k».proof.Defs
public import proofs.«01_k».proof.Proof.Linear
public import proofs.«01_k».proof.Proof.Gen.KernelUqIdeal.Value
public import proofs.«01_k».proof.Proof.Gen.ReferenceUqIdeal.Read

@[expose] public section

set_option maxRecDepth 16384

noncomputable section

namespace Cert.Proof.Uq

open Idealize.ShloMosaic Idealize.ShloMosaic.Pointwise Idealize.ShloMosaic.TcCoe Idealize.ShloMosaic.Tactic
open Cert.Proof.Linear Cert.KernelUqIdeal Cert.KernelUqIdeal.Gen

/-- One tile's product. -/
theorem product (x : FVec Ideal S1024x256 .bf16) (y : FVec Ideal S256x512 .bf16) (r : Fin 1024) (s : Fin 512) :
    k0_pay1 (F := Ideal) x y (ix2 r s) = ∑ k : Fin 256, x (ix2 r k) * y (ix2 k s) := by
  pointwise [k0_pay1]

theorem start_at (x : Vec Ideal S1024x256 .bf16) (y : Vec Ideal S256x512 .bf16) (r : Fin 1024) (s : Fin 512) :
    k0_pay2 (F := Ideal) x y (ix2 r s) = k0_pay1 (F := Ideal) x y (ix2 r s) := by
  unfold k0_pay2
  generalize k0_pay1 (F := Ideal) x y = f
  exact congrFun (shapeCast_self f _) _

theorem out_eq (c : Dev nD) (i : grid0.Coords)
    (arg4 : Memref sig .tc .vmem S1024x256 .bf16) (harg4 : arg4.IsWhole) (arg5 : Memref sig .tc .vmem S256x512 .bf16) (harg5 : arg5.IsWhole) (arg6 : Memref sig .tc .vmem S1024x512 .f32) (harg6 : arg6.IsWhole) (arg7 : Memref sig .tc .vmem S1024x512 .f32) (harg7 : arg7.IsWhole)
    (hc0 : cond0_0 i) (hc1 : ¬cond0_1 i) (hc2 : cond0_2 i)
    (x : Vec Ideal S1024x256 .bf16) (y : Vec Ideal S256x512 .bf16) :
    out0_A_2 c i arg4 harg4 arg5 harg5 arg6 harg6 arg7 harg7 hc0 hc1 hc2 x y = k0_pay2 (F := Ideal) x y := by
  unfold out0_A_2
  rw [View.read_writes_eq_canon _ _ _ (cover0_A_2 c i arg4 harg4 arg5 harg5 arg6 harg6 arg7 harg7 hc0 hc1 hc2 x y)]
  unfold kernelRun0_A
  dsimp only
  sl_unfold_words
  rw [View.canon_unit_zero (S := S1024x512) hz2]
  simp only [View.readCov_unit_zero (S := S1024x512) _ hz2, View.readAt_eq_ld, harg4.read_unread, harg5.read_unread, View.ld_unit_zero (S := S1024x256) hz2, View.ld_unit_zero (S := S256x512) hz2]

theorem index0 : ∀ t : Fin cfg0.N, win0_0.index t = ![t.val / 2, 0] := by decide +kernel
theorem index1 : ∀ t : Fin cfg0.N, win0_1.index t = ![0, t.val % 2] := by decide +kernel
theorem indexOut : ∀ t : Fin cfg0.N, win0_2.index t = ![t.val / 2, t.val % 2] := by decide +kernel

variable (m : (ℓ : Loc nD τ sig) → Buf (Elt Ideal) ℓ) (c : Dev nD)

theorem block0 (t : Fin cfg0.N) (k : Fin 256) (r : Fin 1024) :
    iblk m c 0 t (ix2 r k) = V m c main_v0 (ix2 (⟨1024 * (t.val / 2) + r.val, by have := lt_of_lt_of_eq t.isLt N_0; omega⟩ : Fin 8192) k) := by
  blk_ext [iblk, index0 t]

theorem block1 (t : Fin cfg0.N) (k : Fin 256) (s : Fin 512) :
    iblk m c 1 t (ix2 k s) = V m c main_v1 (ix2 k (⟨512 * (t.val % 2) + s.val, by have := lt_of_lt_of_eq t.isLt N_0; omega⟩ : Fin 1024)) := by
  blk_ext [iblk, index1 t]

/-- The product of the two whole arrays. -/
def rows (a : S8192x256.Idx → EReal) (b : S256x1024.Idx → EReal) : S8192x1024.Idx → EReal := fun i =>
  ∑ k : Fin 256, a (ix2 (i 0) k) * b (ix2 k (i 1))

theorem array : (dats m 0 c).arrAt 2 cfg0.N = rows (V m c main_v0) (V m c main_v1) := by
  refine (dats m 0 c).arrAt_eq_of_covers 2 _ (by decide +kernel) fun t hf y => ?_
  have hN := lt_of_lt_of_eq t.isLt N_0
  blk_simp
  rw [after0_2]
  obtain ⟨r, s, rfl⟩ : ∃ (r : Fin 1024) (s : Fin 512), y = ix2 r s := ⟨y 0, y 1, (ix2_eta y).symm⟩
  have h0 : win0_2.index t 0 = t.val / 2 := congrFun (indexOut t) 0
  have h1 : win0_2.index t 1 = t.val % 2 := congrFun (indexOut t) 1
  unfold outsAt0
  rw [out_eq]
  refine (start_at (iblk m c 0 t) (iblk m c 1 t) r s).trans ((product _ _ r s).trans (Finset.sum_congr rfl fun k _ => ?_))
  rw [block0, block1]
  refine congr (congrArg (fun a b : EReal => a * b) (congrArg (V m c main_v0) ?_)) (congrArg (V m c main_v1) ?_)
  · refine ix2_congr (Fin.ext ?_) (Fin.ext ?_)
    · blk_simp
      rw [h0]; (try dsimp only [ix2]); omega
    · rfl
  · refine ix2_congr (Fin.ext ?_) (Fin.ext ?_)
    · rfl
    · blk_simp
      rw [h1]; (try dsimp only [ix2]); omega

set_option maxHeartbeats 4000000 in
/-- The first array the call is given. -/
theorem entry_a : V m c main_v0 = truncf (F := Ideal) .bf16 (m (c, Proc.tc.devRef main_arg0)) bitsLt_bf16_f32 := by
  show StableHlo.after hostOps0 (fun b => m (c, b)) (Proc.tc.devRef main_v0) = _
  simp only [hostOps0, StableHlo.TRef.binary, StableHlo.TRef.nullary, StableHlo.TRef.ternary,
    StableHlo.TRef.unary, StableHlo.TRef.toBuf, StableHlo.TRef.ofBuf, cast_eq]
  after_results_simp

set_option maxHeartbeats 4000000 in
/-- The second array the call is given. -/
theorem entry_b : V m c main_v1 = truncf (F := Ideal) .bf16 (m (c, Proc.tc.devRef main_arg1)) bitsLt_bf16_f32 := by
  show StableHlo.after hostOps0 (fun b => m (c, b)) (Proc.tc.devRef main_v1) = _
  simp only [hostOps0, StableHlo.TRef.binary, StableHlo.TRef.nullary, StableHlo.TRef.ternary,
    StableHlo.TRef.unary, StableHlo.TRef.toBuf, StableHlo.TRef.ofBuf, cast_eq]
  after_results_simp

/-- The reference's product at an index. -/
theorem ref_at (a : FVec Ideal S8192x256 .f32) (b : FVec Ideal S256x1024 .f32) (r : Fin 8192) (s : Fin 1024) :
    Cert.ReferenceUqIdeal.Read.val_main_v0 (F := Ideal) a b (ix2 r s) = ∑ k : Fin 256, a (ix2 r k) * b (ix2 k s) := by
  rw [Cert.ReferenceUqIdeal.Read.val_main_v0_apply]
  refine Finset.sum_congr rfl fun k _ => congr (congrArg (fun a b : EReal => a * b) (congrArg a ?_)) (congrArg b ?_)
  · funext a
    match a with
    | ⟨0, _⟩ => rfl
    | ⟨1, _⟩ => rfl
  · funext a
    match a with
    | ⟨0, _⟩ => rfl
    | ⟨1, _⟩ => rfl

/-- The kernel's array is the reference's. -/
theorem result : (dats m 0 c).arrAt 2 cfg0.N
    = Cert.ReferenceUqIdeal.Read.val_main_v0 (F := Ideal) (m (c, Proc.tc.devRef main_arg0)) (m (c, Proc.tc.devRef main_arg1)) := by
  rw [array, entry_a, entry_b]
  funext i
  rw [← ix2_eta i]
  refine Eq.trans ?_ (ref_at _ _ (i 0) (i 1)).symm
  rfl

theorem algebraic : Cert.algebraic_KernelUqIdeal_ReferenceUqIdeal := by
  intro m g m' g' _ hagree
  refine ⟨fun c => (dats m 0 c).arrAt 2 cfg0.N, Cert.KernelUqIdeal.Value.run_blocks m g,
    (θ_run Cert.ReferenceUqIdeal.defs _ _).mono (fun r h c => ?_) (Cert.ReferenceUqIdeal.Value.run m' g')⟩
  obtain ⟨a0, a1⟩ := hagree c
  exact ⟨(h c).1.trans ((Cert.ReferenceUqIdeal.Read.val_main_v0_eq _ _).trans
    ((congr (congrArg (Cert.ReferenceUqIdeal.Read.val_main_v0 (F := Ideal)) a0) a1).trans (result m c).symm)), (h c).2⟩

end Cert.Proof.Uq
-- ==== Proof.UkvDx.lean ====
/- The gradient through the projection of the latent to the keys and values: each output element is one row of the incoming gradient against one row of the weight; a scratch carries the sum over 2 tiles of 1024 from point to point. -/
module

public import proofs.«01_k».proof.Defs
public import proofs.«01_k».proof.Proof.Linear
public import proofs.«01_k».proof.Proof.Gen.KernelUkvDxIdeal.Value
public import proofs.«01_k».proof.Proof.Gen.ReferenceUkvDxIdeal.Read

@[expose] public section

set_option maxRecDepth 16384

noncomputable section

namespace Cert.Proof.UkvDx

open Idealize.ShloMosaic Idealize.ShloMosaic.Pointwise Idealize.ShloMosaic.TcCoe Idealize.ShloMosaic.Tactic
open Cert.Proof.Linear Cert.KernelUkvDxIdeal Cert.KernelUkvDxIdeal.Gen

/-- One tile's product. -/
theorem product (x : FVec Ideal S1024x1024 .bf16) (y : FVec Ideal S128x1024 .bf16) (r : Fin 1024) (s : Fin 128) :
    k0_pay1 (F := Ideal) x y (ix2 r s) = ∑ k : Fin 1024, x (ix2 r k) * y (ix2 s k) := by
  pointwise [k0_pay1]

theorem start_at (x : Vec Ideal S1024x1024 .bf16) (y : Vec Ideal S128x1024 .bf16) (r : Fin 1024) (s : Fin 128) :
    k0_pay2 (F := Ideal) x y (ix2 r s) = k0_pay1 (F := Ideal) x y (ix2 r s) := by
  unfold k0_pay2
  generalize k0_pay1 (F := Ideal) x y = f
  exact congrFun (shapeCast_self f _) _

theorem step_at (x : Vec Ideal S1024x1024 .bf16) (y : Vec Ideal S128x1024 .bf16) (acc : Vec Ideal S1024x128 .f32) (r : Fin 1024) (s : Fin 128) :
    k0_pay3 (F := Ideal) x y acc (ix2 r s) = (acc (ix2 r s) : EReal) + k0_pay1 (F := Ideal) x y (ix2 r s) := by
  unfold k0_pay3
  generalize k0_pay1 (F := Ideal) x y = f
  exact congrFun (shapeCast_self (addf (F := Ideal) acc f) _) _

theorem first_eq (c : Dev nD) (i : grid0.Coords)
    (arg4 : Memref sig .tc .vmem S1024x1024 .bf16) (harg4 : arg4.IsWhole) (arg5 : Memref sig .tc .vmem S128x1024 .bf16) (harg5 : arg5.IsWhole) (arg6 : Memref sig .tc .vmem S1024x128 .f32) (harg6 : arg6.IsWhole) (arg7 : Memref sig .tc .vmem S1024x128 .f32) (harg7 : arg7.IsWhole)
    (hc0 : cond0_0 i) (hc1 : ¬cond0_1 i) (hc2 : ¬cond0_2 i)
    (x : Vec Ideal S1024x1024 .bf16) (y : Vec Ideal S128x1024 .bf16) :
    sout0_A_0 c i arg4 harg4 arg5 harg5 arg6 harg6 arg7 harg7 hc0 hc1 hc2 x y = k0_pay2 (F := Ideal) x y := by
  unfold sout0_A_0
  rw [View.read_writes_eq_canon _ _ _ (scover0_A_0 c i arg4 harg4 arg5 harg5 arg6 harg6 arg7 harg7 hc0 hc1 hc2 x y)]
  unfold kernelRun0_A
  dsimp only
  sl_unfold_words
  rw [View.canon_unit_zero (S := S1024x128) hz2]
  simp only [View.readAt_eq_ld, harg4.read_unread, harg5.read_unread, View.ld_unit_zero (S := S1024x1024) hz2, View.ld_unit_zero (S := S128x1024) hz2]

theorem last_eq (c : Dev nD) (i : grid0.Coords)
    (arg4 : Memref sig .tc .vmem S1024x1024 .bf16) (harg4 : arg4.IsWhole) (arg5 : Memref sig .tc .vmem S128x1024 .bf16) (harg5 : arg5.IsWhole) (arg6 : Memref sig .tc .vmem S1024x128 .f32) (harg6 : arg6.IsWhole) (arg7 : Memref sig .tc .vmem S1024x128 .f32) (harg7 : arg7.IsWhole)
    (hc0 : ¬cond0_0 i) (hc1 : cond0_1 i) (hc2 : cond0_2 i)
    (x : Vec Ideal S1024x1024 .bf16) (y : Vec Ideal S128x1024 .bf16) (acc : Vec Ideal S1024x128 .f32) :
    out0_B_2 c i arg4 harg4 arg5 harg5 arg6 harg6 arg7 harg7 hc0 hc1 hc2 x y acc = k0_pay3 (F := Ideal) x y acc := by
  unfold out0_B_2
  rw [View.read_writes_eq_canon _ _ _ (cover0_B_2 c i arg4 harg4 arg5 harg5 arg6 harg6 arg7 harg7 hc0 hc1 hc2 x y acc)]
  unfold kernelRun0_B
  dsimp only
  sl_unfold_words
  rw [View.canon_unit_zero (S := S1024x128) hz2]
  simp only [View.readCov_unit_zero (S := S1024x128) _ hz2, View.readAt_eq_ld, harg4.read_unread, harg5.read_unread, harg7.read_unread, View.ld_unit_zero (S := S1024x1024) hz2, View.ld_unit_zero (S := S128x1024) hz2, View.ld_unit_zero (S := S1024x128) hz2]

theorem index0 : ∀ t : Fin cfg0.N, win0_0.index t = ![t.val / 2, t.val % 2] := by decide +kernel
theorem index1 : ∀ t : Fin cfg0.N, win0_1.index t = ![0, t.val % 2] := by decide +kernel
theorem indexOut : ∀ t : Fin cfg0.N, win0_2.index t = ![t.val / 2, 0] := by decide +kernel

variable (m : (ℓ : Loc nD τ sig) → Buf (Elt Ideal) ℓ) (c : Dev nD)

theorem block0 (t : Fin cfg0.N) (k : Fin 1024) (r : Fin 1024) :
    iblk m c 0 t (ix2 r k) = V m c main_v0 (ix2 (⟨1024 * (t.val / 2) + r.val, by have := lt_of_lt_of_eq t.isLt N_0; omega⟩ : Fin 8192) (⟨1024 * (t.val % 2) + k.val, by have := lt_of_lt_of_eq t.isLt N_0; omega⟩ : Fin 2048)) := by
  blk_ext [iblk, index0 t]

theorem block1 (t : Fin cfg0.N) (k : Fin 1024) (s : Fin 128) :
    iblk m c 1 t (ix2 s k) = V m c main_v1 (ix2 s (⟨1024 * (t.val % 2) + k.val, by have := lt_of_lt_of_eq t.isLt N_0; omega⟩ : Fin 2048)) := by
  blk_ext [iblk, index1 t]

/-- What point `n` adds to an element of its block. -/
def addend (r : Fin 1024) (s : Fin 128) (n : ℕ) : EReal :=
  if h : n < cfg0.N then k0_pay1 (F := Ideal) (iblk m c 0 ⟨n, h⟩) (iblk m c 1 ⟨n, h⟩) (ix2 r s) else 0

theorem addend_at (r : Fin 1024) (s : Fin 128) (t : Fin cfg0.N) :
    addend m c r s t.val = k0_pay1 (F := Ideal) (iblk m c 0 t) (iblk m c 1 t) (ix2 r s) := dif_pos t.isLt

/-- The scratch after the first point of a block: what it added. -/
theorem fold (n : ℕ) : ∀ (t : Fin cfg0.N), t.val = n → ¬t.val % 2 = 1 → ∀ (r : Fin 1024) (s : Fin 128),
    (outsAt0 m c t.val t.isLt).2 (ix2 r s) = ∑ i ∈ Finset.range (t.val % 2 + 1), addend m c r s (2 * (t.val / 2) + i) := by
  intro t ht h3 r s
  have h0 : t.val % 2 = 0 := by omega
  rw [outsAt0_A m c t h0 (by omega) (by omega)]
  dsimp only
  rw [first_eq, start_at, h0, Finset.sum_range_one, show 2 * (t.val / 2) + 0 = t.val by omega, addend_at]

/-- What a block's last point leaves: the sum of the points' products. -/
theorem out_at (t : Fin cfg0.N) (h3 : t.val % 2 = 1) (r : Fin 1024) (s : Fin 128) :
    (outsAt0 m c t.val t.isLt).1 (ix2 r s) = ∑ i : Fin 2, addend m c r s (2 * (t.val / 2) + i.val) := by
  rw [outsAt0_B m c t (by omega) (by omega) h3]
  dsimp only
  rw [last_eq, step_at]
  have h : (outsAt0 m c (t.val - 1) (Nat.lt_of_le_of_lt (Nat.sub_le _ _) t.isLt)).2 (ix2 r s)
      = ∑ i ∈ Finset.range ((t.val - 1) % 2 + 1), addend m c r s (2 * ((t.val - 1) / 2) + i) :=
    fold m c _ ⟨t.val - 1, Nat.lt_of_le_of_lt (Nat.sub_le _ _) t.isLt⟩ rfl (by dsimp only; omega) r s
  rw [h, ← addend_at, show (t.val - 1) / 2 = t.val / 2 by omega, show (t.val - 1) % 2 + 1 = 1 by omega,
    show addend m c r s t.val = addend m c r s (2 * (t.val / 2) + 1) from congrArg _ (by omega)]
  exact (Finset.sum_range_succ (fun i => addend m c r s (2 * (t.val / 2) + i)) 1).symm.trans (Finset.sum_range fun i => addend m c r s (2 * (t.val / 2) + i))

/-- The product of the two whole arrays. -/
def rows (a : S8192x2048.Idx → EReal) (b : S128x2048.Idx → EReal) : S8192x128.Idx → EReal := fun i =>
  ∑ j : Fin 2, ∑ k : Fin 1024, a (ix2 (i 0) (⟨1024 * j.val + k.val, by omega⟩ : Fin 2048)) * b (ix2 (i 1) (⟨1024 * j.val + k.val, by omega⟩ : Fin 2048))

theorem array : (dats m 0 c).arrAt 2 cfg0.N = rows (V m c main_v0) (V m c main_v1) := by
  refine (dats m 0 c).arrAt_eq_of_covers 2 _ (by decide +kernel) fun t hf y => ?_
  have h3 : t.val % 2 = 1 := (flush0_2 t).mp hf
  have hN := lt_of_lt_of_eq t.isLt N_0
  blk_simp
  rw [after0_2]
  obtain ⟨r, s, rfl⟩ : ∃ (r : Fin 1024) (s : Fin 128), y = ix2 r s := ⟨y 0, y 1, (ix2_eta y).symm⟩
  have h0 : win0_2.index t 0 = t.val / 2 := congrFun (indexOut t) 0
  have h1 : win0_2.index t 1 = 0 := congrFun (indexOut t) 1
  refine (out_at m c t h3 r s).trans (Finset.sum_congr rfl fun j _ => ?_)
  have hj : 2 * (t.val / 2) + j.val < cfg0.N := lt_of_lt_of_eq (by omega) N_0.symm
  refine (addend_at m c r s ⟨2 * (t.val / 2) + j.val, hj⟩).trans ((product _ _ r s).trans (Finset.sum_congr rfl fun k _ => ?_))
  rw [block0, block1]
  refine congr (congrArg (fun a b : EReal => a * b) (congrArg (V m c main_v0) ?_)) (congrArg (V m c main_v1) ?_)
  · refine ix2_congr (Fin.ext ?_) (Fin.ext ?_)
    · blk_simp
      rw [h0]; (try dsimp only [ix2]); omega
    · dsimp only; omega
  · refine ix2_congr (Fin.ext ?_) (Fin.ext ?_)
    · blk_simp
      rw [h1]; (try dsimp only [ix2]); omega
    · dsimp only; omega

set_option maxHeartbeats 4000000 in
/-- The first array the call is given. -/
theorem entry_a : V m c main_v0 = truncf (F := Ideal) .bf16 (m (c, Proc.tc.devRef main_arg0)) bitsLt_bf16_f32 := by
  show StableHlo.after hostOps0 (fun b => m (c, b)) (Proc.tc.devRef main_v0) = _
  simp only [hostOps0, StableHlo.TRef.binary, StableHlo.TRef.nullary, StableHlo.TRef.ternary,
    StableHlo.TRef.unary, StableHlo.TRef.toBuf, StableHlo.TRef.ofBuf, cast_eq]
  after_results_simp

set_option maxHeartbeats 4000000 in
/-- The second array the call is given. -/
theorem entry_b : V m c main_v1 = truncf (F := Ideal) .bf16 (m (c, Proc.tc.devRef main_arg1)) bitsLt_bf16_f32 := by
  show StableHlo.after hostOps0 (fun b => m (c, b)) (Proc.tc.devRef main_v1) = _
  simp only [hostOps0, StableHlo.TRef.binary, StableHlo.TRef.nullary, StableHlo.TRef.ternary,
    StableHlo.TRef.unary, StableHlo.TRef.toBuf, StableHlo.TRef.ofBuf, cast_eq]
  after_results_simp

/-- The reference's product at an index. -/
theorem ref_at (a : FVec Ideal S8192x2048 .f32) (b : FVec Ideal S128x2048 .f32) (r : Fin 8192) (s : Fin 128) :
    Cert.ReferenceUkvDxIdeal.Read.val_main_v2 (F := Ideal) a b (ix2 r s) = ∑ k : Fin 2048, a (ix2 r k) * b (ix2 s k) := by
  rw [Cert.ReferenceUkvDxIdeal.Read.val_main_v2_apply]
  refine Finset.sum_congr rfl fun k _ => congr (congrArg (fun a b : EReal => a * b) (congrArg a ?_)) (congrArg b ?_)
  · funext a
    match a with
    | ⟨0, _⟩ => rfl
    | ⟨1, _⟩ => rfl
  · funext a
    match a with
    | ⟨0, _⟩ => rfl
    | ⟨1, _⟩ => rfl

/-- The kernel's array is the reference's. -/
theorem result : (dats m 0 c).arrAt 2 cfg0.N
    = Cert.ReferenceUkvDxIdeal.Read.val_main_v2 (F := Ideal) (m (c, Proc.tc.devRef main_arg0)) (m (c, Proc.tc.devRef main_arg1)) := by
  rw [array, entry_a, entry_b]
  funext i
  rw [← ix2_eta i]
  refine Eq.trans ?_ (ref_at _ _ (i 0) (i 1)).symm
  rw [sum_blocks 2 1024 2048 rfl]
  rfl

theorem algebraic : Cert.algebraic_KernelUkvDxIdeal_ReferenceUkvDxIdeal := by
  intro m g m' g' _ hagree
  refine ⟨fun c => (dats m 0 c).arrAt 2 cfg0.N, Cert.KernelUkvDxIdeal.Value.run_blocks m g,
    (θ_run Cert.ReferenceUkvDxIdeal.defs _ _).mono (fun r h c => ?_) (Cert.ReferenceUkvDxIdeal.Value.run m' g')⟩
  obtain ⟨a0, a1⟩ := hagree c
  exact ⟨(h c).1.trans ((Cert.ReferenceUkvDxIdeal.Read.val_main_v2_eq _ _).trans
    ((congr (congrArg (Cert.ReferenceUkvDxIdeal.Read.val_main_v2 (F := Ideal)) a0) a1).trans (result m c).symm)), (h c).2⟩

end Cert.Proof.UkvDx
-- ==== Proof.UkvDw.lean ====
/- The gradient of the weight that takes the latent to the keys and values: each output element is a column of the input against a column of the incoming gradient; a scratch carries the sum over 4 tiles of 2048 from point to point. -/
module

public import proofs.«01_k».proof.Defs
public import proofs.«01_k».proof.Proof.Linear
public import proofs.«01_k».proof.Proof.Gen.KernelUkvDwIdeal.Value
public import proofs.«01_k».proof.Proof.Gen.ReferenceUkvDwIdeal.Read

@[expose] public section

set_option maxRecDepth 16384

noncomputable section

namespace Cert.Proof.UkvDw

open Idealize.ShloMosaic Idealize.ShloMosaic.Pointwise Idealize.ShloMosaic.TcCoe Idealize.ShloMosaic.Tactic
open Cert.Proof.Linear Cert.KernelUkvDwIdeal Cert.KernelUkvDwIdeal.Gen

/-- One tile's product. -/
theorem product (x : FVec Ideal S2048x128 .bf16) (y : FVec Ideal S2048x512 .bf16) (r : Fin 128) (s : Fin 512) :
    k0_pay1 (F := Ideal) x y (ix2 r s) = ∑ k : Fin 2048, x (ix2 k r) * y (ix2 k s) := by
  pointwise [k0_pay1]

theorem start_at (x : Vec Ideal S2048x128 .bf16) (y : Vec Ideal S2048x512 .bf16) (r : Fin 128) (s : Fin 512) :
    k0_pay2 (F := Ideal) x y (ix2 r s) = k0_pay1 (F := Ideal) x y (ix2 r s) := by
  unfold k0_pay2
  generalize k0_pay1 (F := Ideal) x y = f
  exact congrFun (shapeCast_self f _) _

theorem step_at (x : Vec Ideal S2048x128 .bf16) (y : Vec Ideal S2048x512 .bf16) (acc : Vec Ideal S128x512 .f32) (r : Fin 128) (s : Fin 512) :
    k0_pay3 (F := Ideal) x y acc (ix2 r s) = (acc (ix2 r s) : EReal) + k0_pay1 (F := Ideal) x y (ix2 r s) := by
  unfold k0_pay3
  generalize k0_pay1 (F := Ideal) x y = f
  exact congrFun (shapeCast_self (addf (F := Ideal) acc f) _) _

theorem first_eq (c : Dev nD) (i : grid0.Coords)
    (arg4 : Memref sig .tc .vmem S2048x128 .bf16) (harg4 : arg4.IsWhole) (arg5 : Memref sig .tc .vmem S2048x512 .bf16) (harg5 : arg5.IsWhole) (arg6 : Memref sig .tc .vmem S128x512 .f32) (harg6 : arg6.IsWhole) (arg7 : Memref sig .tc .vmem S128x512 .f32) (harg7 : arg7.IsWhole)
    (hc0 : cond0_0 i) (hc1 : ¬cond0_1 i) (hc2 : ¬cond0_2 i)
    (x : Vec Ideal S2048x128 .bf16) (y : Vec Ideal S2048x512 .bf16) :
    sout0_A_0 c i arg4 harg4 arg5 harg5 arg6 harg6 arg7 harg7 hc0 hc1 hc2 x y = k0_pay2 (F := Ideal) x y := by
  unfold sout0_A_0
  rw [View.read_writes_eq_canon _ _ _ (scover0_A_0 c i arg4 harg4 arg5 harg5 arg6 harg6 arg7 harg7 hc0 hc1 hc2 x y)]
  unfold kernelRun0_A
  dsimp only
  sl_unfold_words
  rw [View.canon_unit_zero (S := S128x512) hz2]
  simp only [View.readAt_eq_ld, harg4.read_unread, harg5.read_unread, View.ld_unit_zero (S := S2048x128) hz2, View.ld_unit_zero (S := S2048x512) hz2]

theorem next_eq (c : Dev nD) (i : grid0.Coords)
    (arg4 : Memref sig .tc .vmem S2048x128 .bf16) (harg4 : arg4.IsWhole) (arg5 : Memref sig .tc .vmem S2048x512 .bf16) (harg5 : arg5.IsWhole) (arg6 : Memref sig .tc .vmem S128x512 .f32) (harg6 : arg6.IsWhole) (arg7 : Memref sig .tc .vmem S128x512 .f32) (harg7 : arg7.IsWhole)
    (hc0 : ¬cond0_0 i) (hc1 : cond0_1 i) (hc2 : ¬cond0_2 i)
    (x : Vec Ideal S2048x128 .bf16) (y : Vec Ideal S2048x512 .bf16) (acc : Vec Ideal S128x512 .f32) :
    sout0_B_0 c i arg4 harg4 arg5 harg5 arg6 harg6 arg7 harg7 hc0 hc1 hc2 x y acc = k0_pay3 (F := Ideal) x y acc := by
  unfold sout0_B_0
  rw [View.read_writes_eq_canon _ _ _ (scover0_B_0 c i arg4 harg4 arg5 harg5 arg6 harg6 arg7 harg7 hc0 hc1 hc2 x y acc)]
  unfold kernelRun0_B
  dsimp only
  sl_unfold_words
  rw [View.canon_unit_zero (S := S128x512) hz2]
  simp only [View.readAt_eq_ld, harg4.read_unread, harg5.read_unread, harg7.read_unread, View.ld_unit_zero (S := S2048x128) hz2, View.ld_unit_zero (S := S2048x512) hz2, View.ld_unit_zero (S := S128x512) hz2]

theorem last_eq (c : Dev nD) (i : grid0.Coords)
    (arg4 : Memref sig .tc .vmem S2048x128 .bf16) (harg4 : arg4.IsWhole) (arg5 : Memref sig .tc .vmem S2048x512 .bf16) (harg5 : arg5.IsWhole) (arg6 : Memref sig .tc .vmem S128x512 .f32) (harg6 : arg6.IsWhole) (arg7 : Memref sig .tc .vmem S128x512 .f32) (harg7 : arg7.IsWhole)
    (hc0 : ¬cond0_0 i) (hc1 : cond0_1 i) (hc2 : cond0_2 i)
    (x : Vec Ideal S2048x128 .bf16) (y : Vec Ideal S2048x512 .bf16) (acc : Vec Ideal S128x512 .f32) :
    out0_C_2 c i arg4 harg4 arg5 harg5 arg6 harg6 arg7 harg7 hc0 hc1 hc2 x y acc = k0_pay3 (F := Ideal) x y acc := by
  unfold out0_C_2
  rw [View.read_writes_eq_canon _ _ _ (cover0_C_2 c i arg4 harg4 arg5 harg5 arg6 harg6 arg7 harg7 hc0 hc1 hc2 x y acc)]
  unfold kernelRun0_C
  dsimp only
  sl_unfold_words
  rw [View.canon_unit_zero (S := S128x512) hz2]
  simp only [View.readCov_unit_zero (S := S128x512) _ hz2, View.readAt_eq_ld, harg4.read_unread, harg5.read_unread, harg7.read_unread, View.ld_unit_zero (S := S2048x128) hz2, View.ld_unit_zero (S := S2048x512) hz2, View.ld_unit_zero (S := S128x512) hz2]

theorem index0 : ∀ t : Fin cfg0.N, win0_0.index t = ![t.val % 4, 0] := by decide +kernel
theorem index1 : ∀ t : Fin cfg0.N, win0_1.index t = ![t.val % 4, t.val / 4] := by decide +kernel
theorem indexOut : ∀ t : Fin cfg0.N, win0_2.index t = ![0, t.val / 4] := by decide +kernel

variable (m : (ℓ : Loc nD τ sig) → Buf (Elt Ideal) ℓ) (c : Dev nD)

theorem block0 (t : Fin cfg0.N) (k : Fin 2048) (r : Fin 128) :
    iblk m c 0 t (ix2 k r) = V m c main_v0 (ix2 (⟨2048 * (t.val % 4) + k.val, by have := lt_of_lt_of_eq t.isLt N_0; omega⟩ : Fin 8192) r) := by
  blk_ext [iblk, index0 t]

theorem block1 (t : Fin cfg0.N) (k : Fin 2048) (s : Fin 512) :
    iblk m c 1 t (ix2 k s) = V m c main_v1 (ix2 (⟨2048 * (t.val % 4) + k.val, by have := lt_of_lt_of_eq t.isLt N_0; omega⟩ : Fin 8192) (⟨512 * (t.val / 4) + s.val, by have := lt_of_lt_of_eq t.isLt N_0; omega⟩ : Fin 2048)) := by
  blk_ext [iblk, index1 t]

/-- What point `n` adds to an element of its block. -/
def addend (r : Fin 128) (s : Fin 512) (n : ℕ) : EReal :=
  if h : n < cfg0.N then k0_pay1 (F := Ideal) (iblk m c 0 ⟨n, h⟩) (iblk m c 1 ⟨n, h⟩) (ix2 r s) else 0

theorem addend_at (r : Fin 128) (s : Fin 512) (t : Fin cfg0.N) :
    addend m c r s t.val = k0_pay1 (F := Ideal) (iblk m c 0 t) (iblk m c 1 t) (ix2 r s) := dif_pos t.isLt

/-- The scratch after the first points of a block, short of the last: the sum of what they added. -/
theorem fold (n : ℕ) : ∀ (t : Fin cfg0.N), t.val = n → ¬t.val % 4 = 3 → ∀ (r : Fin 128) (s : Fin 512),
    (outsAt0 m c t.val t.isLt).2 (ix2 r s) = ∑ i ∈ Finset.range (t.val % 4 + 1), addend m c r s (4 * (t.val / 4) + i) := by
  induction n with
  | zero =>
    intro t ht h3 r s
    have h0 : t.val % 4 = 0 := by omega
    rw [outsAt0_A m c t h0 (by omega) (by omega)]
    dsimp only
    rw [first_eq, start_at, h0, Finset.sum_range_one, show 4 * (t.val / 4) + 0 = t.val by omega, addend_at]
  | succ n ih =>
    intro t ht h3 r s
    by_cases h0 : t.val % 4 = 0
    · rw [outsAt0_A m c t h0 (by omega) (by omega)]
      dsimp only
      rw [first_eq, start_at, h0, Finset.sum_range_one, show 4 * (t.val / 4) + 0 = t.val by omega, addend_at]
    · rw [outsAt0_B m c t h0 (by omega) h3]
      dsimp only
      rw [next_eq, step_at]
      have h : (outsAt0 m c (t.val - 1) (Nat.lt_of_le_of_lt (Nat.sub_le _ _) t.isLt)).2 (ix2 r s)
      = ∑ i ∈ Finset.range ((t.val - 1) % 4 + 1), addend m c r s (4 * ((t.val - 1) / 4) + i) :=
        ih ⟨t.val - 1, Nat.lt_of_le_of_lt (Nat.sub_le _ _) t.isLt⟩ (by dsimp only; omega) (by dsimp only; omega) r s
      rw [h, ← addend_at, show (t.val - 1) / 4 = t.val / 4 by omega, show (t.val - 1) % 4 + 1 = t.val % 4 by omega, Finset.sum_range_succ,
        show 4 * (t.val / 4) + t.val % 4 = t.val by omega]

/-- What a block's last point leaves: the sum of the points' products. -/
theorem out_at (t : Fin cfg0.N) (h3 : t.val % 4 = 3) (r : Fin 128) (s : Fin 512) :
    (outsAt0 m c t.val t.isLt).1 (ix2 r s) = ∑ i : Fin 4, addend m c r s (4 * (t.val / 4) + i.val) := by
  rw [outsAt0_C m c t (by omega) (by omega) h3]
  dsimp only
  rw [last_eq, step_at]
  have h : (outsAt0 m c (t.val - 1) (Nat.lt_of_le_of_lt (Nat.sub_le _ _) t.isLt)).2 (ix2 r s)
      = ∑ i ∈ Finset.range ((t.val - 1) % 4 + 1), addend m c r s (4 * ((t.val - 1) / 4) + i) :=
    fold m c _ ⟨t.val - 1, Nat.lt_of_le_of_lt (Nat.sub_le _ _) t.isLt⟩ rfl (by dsimp only; omega) r s
  rw [h, ← addend_at, show (t.val - 1) / 4 = t.val / 4 by omega, show (t.val - 1) % 4 + 1 = 3 by omega,
    show addend m c r s t.val = addend m c r s (4 * (t.val / 4) + 3) from congrArg _ (by omega)]
  exact (Finset.sum_range_succ (fun i => addend m c r s (4 * (t.val / 4) + i)) 3).symm.trans (Finset.sum_range fun i => addend m c r s (4 * (t.val / 4) + i))

/-- The product of the two whole arrays. -/
def rows (a : S8192x128.Idx → EReal) (b : S8192x2048.Idx → EReal) : S128x2048.Idx → EReal := fun i =>
  ∑ j : Fin 4, ∑ k : Fin 2048, a (ix2 (⟨2048 * j.val + k.val, by omega⟩ : Fin 8192) (i 0)) * b (ix2 (⟨2048 * j.val + k.val, by omega⟩ : Fin 8192) (i 1))

theorem array : (dats m 0 c).arrAt 2 cfg0.N = rows (V m c main_v0) (V m c main_v1) := by
  refine (dats m 0 c).arrAt_eq_of_covers 2 _ (by decide +kernel) fun t hf y => ?_
  have h3 : t.val % 4 = 3 := (flush0_2 t).mp hf
  have hN := lt_of_lt_of_eq t.isLt N_0
  blk_simp
  rw [after0_2]
  obtain ⟨r, s, rfl⟩ : ∃ (r : Fin 128) (s : Fin 512), y = ix2 r s := ⟨y 0, y 1, (ix2_eta y).symm⟩
  have h0 : win0_2.index t 0 = 0 := congrFun (indexOut t) 0
  have h1 : win0_2.index t 1 = t.val / 4 := congrFun (indexOut t) 1
  refine (out_at m c t h3 r s).trans (Finset.sum_congr rfl fun j _ => ?_)
  have hj : 4 * (t.val / 4) + j.val < cfg0.N := lt_of_lt_of_eq (by omega) N_0.symm
  refine (addend_at m c r s ⟨4 * (t.val / 4) + j.val, hj⟩).trans ((product _ _ r s).trans (Finset.sum_congr rfl fun k _ => ?_))
  rw [block0, block1]
  refine congr (congrArg (fun a b : EReal => a * b) (congrArg (V m c main_v0) ?_)) (congrArg (V m c main_v1) ?_)
  · refine ix2_congr (Fin.ext ?_) (Fin.ext ?_)
    · dsimp only; omega
    · blk_simp
      rw [h0]; (try dsimp only [ix2]); omega
  · refine ix2_congr (Fin.ext ?_) (Fin.ext ?_)
    · dsimp only; omega
    · blk_simp
      rw [h1]; (try dsimp only [ix2]); omega

set_option maxHeartbeats 4000000 in
/-- The first array the call is given. -/
theorem entry_a : V m c main_v0 = truncf (F := Ideal) .bf16 (m (c, Proc.tc.devRef main_arg0)) bitsLt_bf16_f32 := by
  show StableHlo.after hostOps0 (fun b => m (c, b)) (Proc.tc.devRef main_v0) = _
  simp only [hostOps0, StableHlo.TRef.binary, StableHlo.TRef.nullary, StableHlo.TRef.ternary,
    StableHlo.TRef.unary, StableHlo.TRef.toBuf, StableHlo.TRef.ofBuf, cast_eq]
  after_results_simp

set_option maxHeartbeats 4000000 in
/-- The second array the call is given. -/
theorem entry_b : V m c main_v1 = truncf (F := Ideal) .bf16 (m (c, Proc.tc.devRef main_arg1)) bitsLt_bf16_f32 := by
  show StableHlo.after hostOps0 (fun b => m (c, b)) (Proc.tc.devRef main_v1) = _
  simp only [hostOps0, StableHlo.TRef.binary, StableHlo.TRef.nullary, StableHlo.TRef.ternary,
    StableHlo.TRef.unary, StableHlo.TRef.toBuf, StableHlo.TRef.ofBuf, cast_eq]
  after_results_simp

/-- The reference's product at an index. -/
theorem ref_at (a : FVec Ideal S8192x128 .f32) (b : FVec Ideal S8192x2048 .f32) (r : Fin 128) (s : Fin 2048) :
    Cert.ReferenceUkvDwIdeal.Read.val_main_v3 (F := Ideal) a b (ix2 r s) = ∑ k : Fin 8192, a (ix2 k r) * b (ix2 k s) := by
  rw [Cert.ReferenceUkvDwIdeal.Read.val_main_v3_apply, Cert.ReferenceUkvDwIdeal.Read.val_main_v2_apply]
  refine Finset.sum_congr rfl fun k _ => (mul_comm (G := EReal) _ _).trans (congr (congrArg (fun a b : EReal => a * b) (congrArg a ?_)) (congrArg b ?_))
  · funext a
    match a with
    | ⟨0, _⟩ => rfl
    | ⟨1, _⟩ => rfl
  · funext a
    match a with
    | ⟨0, _⟩ => rfl
    | ⟨1, _⟩ => rfl

/-- The kernel's array is the reference's. -/
theorem result : (dats m 0 c).arrAt 2 cfg0.N
    = Cert.ReferenceUkvDwIdeal.Read.val_main_v3 (F := Ideal) (m (c, Proc.tc.devRef main_arg0)) (m (c, Proc.tc.devRef main_arg1)) := by
  rw [array, entry_a, entry_b]
  funext i
  rw [← ix2_eta i]
  refine Eq.trans ?_ (ref_at _ _ (i 0) (i 1)).symm
  rw [sum_blocks 4 2048 8192 rfl]
  rfl

theorem algebraic : Cert.algebraic_KernelUkvDwIdeal_ReferenceUkvDwIdeal := by
  intro m g m' g' _ hagree
  refine ⟨fun c => (dats m 0 c).arrAt 2 cfg0.N, Cert.KernelUkvDwIdeal.Value.run_blocks m g,
    (θ_run Cert.ReferenceUkvDwIdeal.defs _ _).mono (fun r h c => ?_) (Cert.ReferenceUkvDwIdeal.Value.run m' g')⟩
  obtain ⟨a0, a1⟩ := hagree c
  exact ⟨(h c).1.trans ((Cert.ReferenceUkvDwIdeal.Read.val_main_v3_eq _ _).trans
    ((congr (congrArg (Cert.ReferenceUkvDwIdeal.Read.val_main_v3 (F := Ideal)) a0) a1).trans (result m c).symm)), (h c).2⟩

end Cert.Proof.UkvDw
-- ==== Proof.Ukv.lean ====
/- The projection of the latent to the keys and values: each output element is one row of the first array against one column of the weight. -/
module

public import proofs.«01_k».proof.Defs
public import proofs.«01_k».proof.Proof.Linear
public import proofs.«01_k».proof.Proof.Gen.KernelUkvIdeal.Value
public import proofs.«01_k».proof.Proof.Gen.ReferenceUkvIdeal.Read

@[expose] public section

set_option maxRecDepth 16384

noncomputable section

namespace Cert.Proof.Ukv

open Idealize.ShloMosaic Idealize.ShloMosaic.Pointwise Idealize.ShloMosaic.TcCoe Idealize.ShloMosaic.Tactic
open Cert.Proof.Linear Cert.KernelUkvIdeal Cert.KernelUkvIdeal.Gen

/-- One tile's product. -/
theorem product (x : FVec Ideal S1024x128 .bf16) (y : FVec Ideal S128x512 .bf16) (r : Fin 1024) (s : Fin 512) :
    k0_pay1 (F := Ideal) x y (ix2 r s) = ∑ k : Fin 128, x (ix2 r k) * y (ix2 k s) := by
  pointwise [k0_pay1]

theorem start_at (x : Vec Ideal S1024x128 .bf16) (y : Vec Ideal S128x512 .bf16) (r : Fin 1024) (s : Fin 512) :
    k0_pay2 (F := Ideal) x y (ix2 r s) = k0_pay1 (F := Ideal) x y (ix2 r s) := by
  unfold k0_pay2
  generalize k0_pay1 (F := Ideal) x y = f
  exact congrFun (shapeCast_self f _) _

theorem out_eq (c : Dev nD) (i : grid0.Coords)
    (arg4 : Memref sig .tc .vmem S1024x128 .bf16) (harg4 : arg4.IsWhole) (arg5 : Memref sig .tc .vmem S128x512 .bf16) (harg5 : arg5.IsWhole) (arg6 : Memref sig .tc .vmem S1024x512 .f32) (harg6 : arg6.IsWhole) (arg7 : Memref sig .tc .vmem S1024x512 .f32) (harg7 : arg7.IsWhole)
    (hc0 : cond0_0 i) (hc1 : ¬cond0_1 i) (hc2 : cond0_2 i)
    (x : Vec Ideal S1024x128 .bf16) (y : Vec Ideal S128x512 .bf16) :
    out0_A_2 c i arg4 harg4 arg5 harg5 arg6 harg6 arg7 harg7 hc0 hc1 hc2 x y = k0_pay2 (F := Ideal) x y := by
  unfold out0_A_2
  rw [View.read_writes_eq_canon _ _ _ (cover0_A_2 c i arg4 harg4 arg5 harg5 arg6 harg6 arg7 harg7 hc0 hc1 hc2 x y)]
  unfold kernelRun0_A
  dsimp only
  sl_unfold_words
  rw [View.canon_unit_zero (S := S1024x512) hz2]
  simp only [View.readCov_unit_zero (S := S1024x512) _ hz2, View.readAt_eq_ld, harg4.read_unread, harg5.read_unread, View.ld_unit_zero (S := S1024x128) hz2, View.ld_unit_zero (S := S128x512) hz2]

theorem index0 : ∀ t : Fin cfg0.N, win0_0.index t = ![t.val / 4, 0] := by decide +kernel
theorem index1 : ∀ t : Fin cfg0.N, win0_1.index t = ![0, t.val % 4] := by decide +kernel
theorem indexOut : ∀ t : Fin cfg0.N, win0_2.index t = ![t.val / 4, t.val % 4] := by decide +kernel

variable (m : (ℓ : Loc nD τ sig) → Buf (Elt Ideal) ℓ) (c : Dev nD)

theorem block0 (t : Fin cfg0.N) (k : Fin 128) (r : Fin 1024) :
    iblk m c 0 t (ix2 r k) = V m c main_v0 (ix2 (⟨1024 * (t.val / 4) + r.val, by have := lt_of_lt_of_eq t.isLt N_0; omega⟩ : Fin 8192) k) := by
  blk_ext [iblk, index0 t]

theorem block1 (t : Fin cfg0.N) (k : Fin 128) (s : Fin 512) :
    iblk m c 1 t (ix2 k s) = V m c main_v1 (ix2 k (⟨512 * (t.val % 4) + s.val, by have := lt_of_lt_of_eq t.isLt N_0; omega⟩ : Fin 2048)) := by
  blk_ext [iblk, index1 t]

/-- The product of the two whole arrays. -/
def rows (a : S8192x128.Idx → EReal) (b : S128x2048.Idx → EReal) : S8192x2048.Idx → EReal := fun i =>
  ∑ k : Fin 128, a (ix2 (i 0) k) * b (ix2 k (i 1))

theorem array : (dats m 0 c).arrAt 2 cfg0.N = rows (V m c main_v0) (V m c main_v1) := by
  refine (dats m 0 c).arrAt_eq_of_covers 2 _ (by decide +kernel) fun t hf y => ?_
  have hN := lt_of_lt_of_eq t.isLt N_0
  blk_simp
  rw [after0_2]
  obtain ⟨r, s, rfl⟩ : ∃ (r : Fin 1024) (s : Fin 512), y = ix2 r s := ⟨y 0, y 1, (ix2_eta y).symm⟩
  have h0 : win0_2.index t 0 = t.val / 4 := congrFun (indexOut t) 0
  have h1 : win0_2.index t 1 = t.val % 4 := congrFun (indexOut t) 1
  unfold outsAt0
  rw [out_eq]
  refine (start_at (iblk m c 0 t) (iblk m c 1 t) r s).trans ((product _ _ r s).trans (Finset.sum_congr rfl fun k _ => ?_))
  rw [block0, block1]
  refine congr (congrArg (fun a b : EReal => a * b) (congrArg (V m c main_v0) ?_)) (congrArg (V m c main_v1) ?_)
  · refine ix2_congr (Fin.ext ?_) (Fin.ext ?_)
    · blk_simp
      rw [h0]; (try dsimp only [ix2]); omega
    · rfl
  · refine ix2_congr (Fin.ext ?_) (Fin.ext ?_)
    · rfl
    · blk_simp
      rw [h1]; (try dsimp only [ix2]); omega

set_option maxHeartbeats 4000000 in
/-- The first array the call is given. -/
theorem entry_a : V m c main_v0 = truncf (F := Ideal) .bf16 (m (c, Proc.tc.devRef main_arg0)) bitsLt_bf16_f32 := by
  show StableHlo.after hostOps0 (fun b => m (c, b)) (Proc.tc.devRef main_v0) = _
  simp only [hostOps0, StableHlo.TRef.binary, StableHlo.TRef.nullary, StableHlo.TRef.ternary,
    StableHlo.TRef.unary, StableHlo.TRef.toBuf, StableHlo.TRef.ofBuf, cast_eq]
  after_results_simp

set_option maxHeartbeats 4000000 in
/-- The second array the call is given. -/
theorem entry_b : V m c main_v1 = truncf (F := Ideal) .bf16 (m (c, Proc.tc.devRef main_arg1)) bitsLt_bf16_f32 := by
  show StableHlo.after hostOps0 (fun b => m (c, b)) (Proc.tc.devRef main_v1) = _
  simp only [hostOps0, StableHlo.TRef.binary, StableHlo.TRef.nullary, StableHlo.TRef.ternary,
    StableHlo.TRef.unary, StableHlo.TRef.toBuf, StableHlo.TRef.ofBuf, cast_eq]
  after_results_simp

/-- The reference's product at an index. -/
theorem ref_at (a : FVec Ideal S8192x128 .f32) (b : FVec Ideal S128x2048 .f32) (r : Fin 8192) (s : Fin 2048) :
    Cert.ReferenceUkvIdeal.Read.val_main_v0 (F := Ideal) a b (ix2 r s) = ∑ k : Fin 128, a (ix2 r k) * b (ix2 k s) := by
  rw [Cert.ReferenceUkvIdeal.Read.val_main_v0_apply]
  refine Finset.sum_congr rfl fun k _ => congr (congrArg (fun a b : EReal => a * b) (congrArg a ?_)) (congrArg b ?_)
  · funext a
    match a with
    | ⟨0, _⟩ => rfl
    | ⟨1, _⟩ => rfl
  · funext a
    match a with
    | ⟨0, _⟩ => rfl
    | ⟨1, _⟩ => rfl

/-- The kernel's array is the reference's. -/
theorem result : (dats m 0 c).arrAt 2 cfg0.N
    = Cert.ReferenceUkvIdeal.Read.val_main_v0 (F := Ideal) (m (c, Proc.tc.devRef main_arg0)) (m (c, Proc.tc.devRef main_arg1)) := by
  rw [array, entry_a, entry_b]
  funext i
  rw [← ix2_eta i]
  refine Eq.trans ?_ (ref_at _ _ (i 0) (i 1)).symm
  rfl

theorem algebraic : Cert.algebraic_KernelUkvIdeal_ReferenceUkvIdeal := by
  intro m g m' g' _ hagree
  refine ⟨fun c => (dats m 0 c).arrAt 2 cfg0.N, Cert.KernelUkvIdeal.Value.run_blocks m g,
    (θ_run Cert.ReferenceUkvIdeal.defs _ _).mono (fun r h c => ?_) (Cert.ReferenceUkvIdeal.Value.run m' g')⟩
  obtain ⟨a0, a1⟩ := hagree c
  exact ⟨(h c).1.trans ((Cert.ReferenceUkvIdeal.Read.val_main_v0_eq _ _).trans
    ((congr (congrArg (Cert.ReferenceUkvIdeal.Read.val_main_v0 (F := Ideal)) a0) a1).trans (result m c).symm)), (h c).2⟩

end Cert.Proof.Ukv
-- ==== Proof.GluDx.lean ====
/- The gradient through the scan layer's output projection: each output element is one row of the incoming gradient against one row of the weight; a scratch carries the sum over 2 tiles of 1024 from point to point. -/
module

public import proofs.«01_k».proof.Defs
public import proofs.«01_k».proof.Proof.Linear
public import proofs.«01_k».proof.Proof.Gen.KernelGluDxIdeal.Value
public import proofs.«01_k».proof.Proof.Gen.ReferenceGluDxIdeal.Read

@[expose] public section

set_option maxRecDepth 16384

noncomputable section

namespace Cert.Proof.GluDx

open Idealize.ShloMosaic Idealize.ShloMosaic.Pointwise Idealize.ShloMosaic.TcCoe Idealize.ShloMosaic.Tactic
open Cert.Proof.Linear Cert.KernelGluDxIdeal Cert.KernelGluDxIdeal.Gen

/-- One tile's product. -/
theorem product (x : FVec Ideal S1024x1024 .bf16) (y : FVec Ideal S512x1024 .bf16) (r : Fin 1024) (s : Fin 512) :
    k0_pay1 (F := Ideal) x y (ix2 r s) = ∑ k : Fin 1024, x (ix2 r k) * y (ix2 s k) := by
  pointwise [k0_pay1]

theorem start_at (x : Vec Ideal S1024x1024 .bf16) (y : Vec Ideal S512x1024 .bf16) (r : Fin 1024) (s : Fin 512) :
    k0_pay2 (F := Ideal) x y (ix2 r s) = k0_pay1 (F := Ideal) x y (ix2 r s) := by
  unfold k0_pay2
  generalize k0_pay1 (F := Ideal) x y = f
  exact congrFun (shapeCast_self f _) _

theorem step_at (x : Vec Ideal S1024x1024 .bf16) (y : Vec Ideal S512x1024 .bf16) (acc : Vec Ideal S1024x512 .f32) (r : Fin 1024) (s : Fin 512) :
    k0_pay3 (F := Ideal) x y acc (ix2 r s) = (acc (ix2 r s) : EReal) + k0_pay1 (F := Ideal) x y (ix2 r s) := by
  unfold k0_pay3
  generalize k0_pay1 (F := Ideal) x y = f
  exact congrFun (shapeCast_self (addf (F := Ideal) acc f) _) _

theorem first_eq (c : Dev nD) (i : grid0.Coords)
    (arg4 : Memref sig .tc .vmem S1024x1024 .bf16) (harg4 : arg4.IsWhole) (arg5 : Memref sig .tc .vmem S512x1024 .bf16) (harg5 : arg5.IsWhole) (arg6 : Memref sig .tc .vmem S1024x512 .f32) (harg6 : arg6.IsWhole) (arg7 : Memref sig .tc .vmem S1024x512 .f32) (harg7 : arg7.IsWhole)
    (hc0 : cond0_0 i) (hc1 : ¬cond0_1 i) (hc2 : ¬cond0_2 i)
    (x : Vec Ideal S1024x1024 .bf16) (y : Vec Ideal S512x1024 .bf16) :
    sout0_A_0 c i arg4 harg4 arg5 harg5 arg6 harg6 arg7 harg7 hc0 hc1 hc2 x y = k0_pay2 (F := Ideal) x y := by
  unfold sout0_A_0
  rw [View.read_writes_eq_canon _ _ _ (scover0_A_0 c i arg4 harg4 arg5 harg5 arg6 harg6 arg7 harg7 hc0 hc1 hc2 x y)]
  unfold kernelRun0_A
  dsimp only
  sl_unfold_words
  rw [View.canon_unit_zero (S := S1024x512) hz2]
  simp only [View.readAt_eq_ld, harg4.read_unread, harg5.read_unread, View.ld_unit_zero (S := S1024x1024) hz2, View.ld_unit_zero (S := S512x1024) hz2]

theorem last_eq (c : Dev nD) (i : grid0.Coords)
    (arg4 : Memref sig .tc .vmem S1024x1024 .bf16) (harg4 : arg4.IsWhole) (arg5 : Memref sig .tc .vmem S512x1024 .bf16) (harg5 : arg5.IsWhole) (arg6 : Memref sig .tc .vmem S1024x512 .f32) (harg6 : arg6.IsWhole) (arg7 : Memref sig .tc .vmem S1024x512 .f32) (harg7 : arg7.IsWhole)
    (hc0 : ¬cond0_0 i) (hc1 : cond0_1 i) (hc2 : cond0_2 i)
    (x : Vec Ideal S1024x1024 .bf16) (y : Vec Ideal S512x1024 .bf16) (acc : Vec Ideal S1024x512 .f32) :
    out0_B_2 c i arg4 harg4 arg5 harg5 arg6 harg6 arg7 harg7 hc0 hc1 hc2 x y acc = k0_pay3 (F := Ideal) x y acc := by
  unfold out0_B_2
  rw [View.read_writes_eq_canon _ _ _ (cover0_B_2 c i arg4 harg4 arg5 harg5 arg6 harg6 arg7 harg7 hc0 hc1 hc2 x y acc)]
  unfold kernelRun0_B
  dsimp only
  sl_unfold_words
  rw [View.canon_unit_zero (S := S1024x512) hz2]
  simp only [View.readCov_unit_zero (S := S1024x512) _ hz2, View.readAt_eq_ld, harg4.read_unread, harg5.read_unread, harg7.read_unread, View.ld_unit_zero (S := S1024x1024) hz2, View.ld_unit_zero (S := S512x1024) hz2, View.ld_unit_zero (S := S1024x512) hz2]

theorem index0 : ∀ t : Fin cfg0.N, win0_0.index t = ![t.val / 2, t.val % 2] := by decide +kernel
theorem index1 : ∀ t : Fin cfg0.N, win0_1.index t = ![0, t.val % 2] := by decide +kernel
theorem indexOut : ∀ t : Fin cfg0.N, win0_2.index t = ![t.val / 2, 0] := by decide +kernel

variable (m : (ℓ : Loc nD τ sig) → Buf (Elt Ideal) ℓ) (c : Dev nD)

theorem block0 (t : Fin cfg0.N) (k : Fin 1024) (r : Fin 1024) :
    iblk m c 0 t (ix2 r k) = V m c main_v0 (ix2 (⟨1024 * (t.val / 2) + r.val, by have := lt_of_lt_of_eq t.isLt N_0; omega⟩ : Fin 8192) (⟨1024 * (t.val % 2) + k.val, by have := lt_of_lt_of_eq t.isLt N_0; omega⟩ : Fin 2048)) := by
  blk_ext [iblk, index0 t]

theorem block1 (t : Fin cfg0.N) (k : Fin 1024) (s : Fin 512) :
    iblk m c 1 t (ix2 s k) = V m c main_v1 (ix2 s (⟨1024 * (t.val % 2) + k.val, by have := lt_of_lt_of_eq t.isLt N_0; omega⟩ : Fin 2048)) := by
  blk_ext [iblk, index1 t]

/-- What point `n` adds to an element of its block. -/
def addend (r : Fin 1024) (s : Fin 512) (n : ℕ) : EReal :=
  if h : n < cfg0.N then k0_pay1 (F := Ideal) (iblk m c 0 ⟨n, h⟩) (iblk m c 1 ⟨n, h⟩) (ix2 r s) else 0

theorem addend_at (r : Fin 1024) (s : Fin 512) (t : Fin cfg0.N) :
    addend m c r s t.val = k0_pay1 (F := Ideal) (iblk m c 0 t) (iblk m c 1 t) (ix2 r s) := dif_pos t.isLt

/-- The scratch after the first point of a block: what it added. -/
theorem fold (n : ℕ) : ∀ (t : Fin cfg0.N), t.val = n → ¬t.val % 2 = 1 → ∀ (r : Fin 1024) (s : Fin 512),
    (outsAt0 m c t.val t.isLt).2 (ix2 r s) = ∑ i ∈ Finset.range (t.val % 2 + 1), addend m c r s (2 * (t.val / 2) + i) := by
  intro t ht h3 r s
  have h0 : t.val % 2 = 0 := by omega
  rw [outsAt0_A m c t h0 (by omega) (by omega)]
  dsimp only
  rw [first_eq, start_at, h0, Finset.sum_range_one, show 2 * (t.val / 2) + 0 = t.val by omega, addend_at]

/-- What a block's last point leaves: the sum of the points' products. -/
theorem out_at (t : Fin cfg0.N) (h3 : t.val % 2 = 1) (r : Fin 1024) (s : Fin 512) :
    (outsAt0 m c t.val t.isLt).1 (ix2 r s) = ∑ i : Fin 2, addend m c r s (2 * (t.val / 2) + i.val) := by
  rw [outsAt0_B m c t (by omega) (by omega) h3]
  dsimp only
  rw [last_eq, step_at]
  have h : (outsAt0 m c (t.val - 1) (Nat.lt_of_le_of_lt (Nat.sub_le _ _) t.isLt)).2 (ix2 r s)
      = ∑ i ∈ Finset.range ((t.val - 1) % 2 + 1), addend m c r s (2 * ((t.val - 1) / 2) + i) :=
    fold m c _ ⟨t.val - 1, Nat.lt_of_le_of_lt (Nat.sub_le _ _) t.isLt⟩ rfl (by dsimp only; omega) r s
  rw [h, ← addend_at, show (t.val - 1) / 2 = t.val / 2 by omega, show (t.val - 1) % 2 + 1 = 1 by omega,
    show addend m c r s t.val = addend m c r s (2 * (t.val / 2) + 1) from congrArg _ (by omega)]
  exact (Finset.sum_range_succ (fun i => addend m c r s (2 * (t.val / 2) + i)) 1).symm.trans (Finset.sum_range fun i => addend m c r s (2 * (t.val / 2) + i))

/-- The product of the two whole arrays. -/
def rows (a : S8192x2048.Idx → EReal) (b : S512x2048.Idx → EReal) : S8192x512.Idx → EReal := fun i =>
  ∑ j : Fin 2, ∑ k : Fin 1024, a (ix2 (i 0) (⟨1024 * j.val + k.val, by omega⟩ : Fin 2048)) * b (ix2 (i 1) (⟨1024 * j.val + k.val, by omega⟩ : Fin 2048))

theorem array : (dats m 0 c).arrAt 2 cfg0.N = rows (V m c main_v0) (V m c main_v1) := by
  refine (dats m 0 c).arrAt_eq_of_covers 2 _ (by decide +kernel) fun t hf y => ?_
  have h3 : t.val % 2 = 1 := (flush0_2 t).mp hf
  have hN := lt_of_lt_of_eq t.isLt N_0
  blk_simp
  rw [after0_2]
  obtain ⟨r, s, rfl⟩ : ∃ (r : Fin 1024) (s : Fin 512), y = ix2 r s := ⟨y 0, y 1, (ix2_eta y).symm⟩
  have h0 : win0_2.index t 0 = t.val / 2 := congrFun (indexOut t) 0
  have h1 : win0_2.index t 1 = 0 := congrFun (indexOut t) 1
  refine (out_at m c t h3 r s).trans (Finset.sum_congr rfl fun j _ => ?_)
  have hj : 2 * (t.val / 2) + j.val < cfg0.N := lt_of_lt_of_eq (by omega) N_0.symm
  refine (addend_at m c r s ⟨2 * (t.val / 2) + j.val, hj⟩).trans ((product _ _ r s).trans (Finset.sum_congr rfl fun k _ => ?_))
  rw [block0, block1]
  refine congr (congrArg (fun a b : EReal => a * b) (congrArg (V m c main_v0) ?_)) (congrArg (V m c main_v1) ?_)
  · refine ix2_congr (Fin.ext ?_) (Fin.ext ?_)
    · blk_simp
      rw [h0]; (try dsimp only [ix2]); omega
    · dsimp only; omega
  · refine ix2_congr (Fin.ext ?_) (Fin.ext ?_)
    · blk_simp
      rw [h1]; (try dsimp only [ix2]); omega
    · dsimp only; omega

set_option maxHeartbeats 4000000 in
/-- The first array the call is given. -/
theorem entry_a : V m c main_v0 = truncf (F := Ideal) .bf16 (m (c, Proc.tc.devRef main_arg0)) bitsLt_bf16_f32 := by
  show StableHlo.after hostOps0 (fun b => m (c, b)) (Proc.tc.devRef main_v0) = _
  simp only [hostOps0, StableHlo.TRef.binary, StableHlo.TRef.nullary, StableHlo.TRef.ternary,
    StableHlo.TRef.unary, StableHlo.TRef.toBuf, StableHlo.TRef.ofBuf, cast_eq]
  after_results_simp

set_option maxHeartbeats 4000000 in
/-- The second array the call is given. -/
theorem entry_b : V m c main_v1 = truncf (F := Ideal) .bf16 (m (c, Proc.tc.devRef main_arg1)) bitsLt_bf16_f32 := by
  show StableHlo.after hostOps0 (fun b => m (c, b)) (Proc.tc.devRef main_v1) = _
  simp only [hostOps0, StableHlo.TRef.binary, StableHlo.TRef.nullary, StableHlo.TRef.ternary,
    StableHlo.TRef.unary, StableHlo.TRef.toBuf, StableHlo.TRef.ofBuf, cast_eq]
  after_results_simp

/-- The reference's product at an index. -/
theorem ref_at (a : FVec Ideal S8192x2048 .f32) (b : FVec Ideal S512x2048 .f32) (r : Fin 8192) (s : Fin 512) :
    Cert.ReferenceGluDxIdeal.Read.val_main_v2 (F := Ideal) a b (ix2 r s) = ∑ k : Fin 2048, a (ix2 r k) * b (ix2 s k) := by
  rw [Cert.ReferenceGluDxIdeal.Read.val_main_v2_apply]
  refine Finset.sum_congr rfl fun k _ => congr (congrArg (fun a b : EReal => a * b) (congrArg a ?_)) (congrArg b ?_)
  · funext a
    match a with
    | ⟨0, _⟩ => rfl
    | ⟨1, _⟩ => rfl
  · funext a
    match a with
    | ⟨0, _⟩ => rfl
    | ⟨1, _⟩ => rfl

/-- The kernel's array is the reference's. -/
theorem result : (dats m 0 c).arrAt 2 cfg0.N
    = Cert.ReferenceGluDxIdeal.Read.val_main_v2 (F := Ideal) (m (c, Proc.tc.devRef main_arg0)) (m (c, Proc.tc.devRef main_arg1)) := by
  rw [array, entry_a, entry_b]
  funext i
  rw [← ix2_eta i]
  refine Eq.trans ?_ (ref_at _ _ (i 0) (i 1)).symm
  rw [sum_blocks 2 1024 2048 rfl]
  rfl

theorem algebraic : Cert.algebraic_KernelGluDxIdeal_ReferenceGluDxIdeal := by
  intro m g m' g' _ hagree
  refine ⟨fun c => (dats m 0 c).arrAt 2 cfg0.N, Cert.KernelGluDxIdeal.Value.run_blocks m g,
    (θ_run Cert.ReferenceGluDxIdeal.defs _ _).mono (fun r h c => ?_) (Cert.ReferenceGluDxIdeal.Value.run m' g')⟩
  obtain ⟨a0, a1⟩ := hagree c
  exact ⟨(h c).1.trans ((Cert.ReferenceGluDxIdeal.Read.val_main_v2_eq _ _).trans
    ((congr (congrArg (Cert.ReferenceGluDxIdeal.Read.val_main_v2 (F := Ideal)) a0) a1).trans (result m c).symm)), (h c).2⟩

end Cert.Proof.GluDx
-- ==== Proof.GluDw.lean ====
/- The gradient of the scan layer's output weight: each output element is a column of the input against a column of the incoming gradient; a scratch carries the sum over 4 tiles of 2048 from point to point. -/
module

public import proofs.«01_k».proof.Defs
public import proofs.«01_k».proof.Proof.Linear
public import proofs.«01_k».proof.Proof.Gen.KernelGluDwIdeal.Value
public import proofs.«01_k».proof.Proof.Gen.ReferenceGluDwIdeal.Read

@[expose] public section

set_option maxRecDepth 16384

noncomputable section

namespace Cert.Proof.GluDw

open Idealize.ShloMosaic Idealize.ShloMosaic.Pointwise Idealize.ShloMosaic.TcCoe Idealize.ShloMosaic.Tactic
open Cert.Proof.Linear Cert.KernelGluDwIdeal Cert.KernelGluDwIdeal.Gen

/-- One tile's product. -/
theorem product (x : FVec Ideal S2048x512 .bf16) (y : FVec Ideal S2048x512 .bf16) (r : Fin 512) (s : Fin 512) :
    k0_pay1 (F := Ideal) x y (ix2 r s) = ∑ k : Fin 2048, x (ix2 k r) * y (ix2 k s) := by
  pointwise [k0_pay1]

theorem start_at (x : Vec Ideal S2048x512 .bf16) (y : Vec Ideal S2048x512 .bf16) (r : Fin 512) (s : Fin 512) :
    k0_pay2 (F := Ideal) x y (ix2 r s) = k0_pay1 (F := Ideal) x y (ix2 r s) := by
  unfold k0_pay2
  generalize k0_pay1 (F := Ideal) x y = f
  exact congrFun (shapeCast_self f _) _

theorem step_at (x : Vec Ideal S2048x512 .bf16) (y : Vec Ideal S2048x512 .bf16) (acc : Vec Ideal S512x512 .f32) (r : Fin 512) (s : Fin 512) :
    k0_pay3 (F := Ideal) x y acc (ix2 r s) = (acc (ix2 r s) : EReal) + k0_pay1 (F := Ideal) x y (ix2 r s) := by
  unfold k0_pay3
  generalize k0_pay1 (F := Ideal) x y = f
  exact congrFun (shapeCast_self (addf (F := Ideal) acc f) _) _

theorem first_eq (c : Dev nD) (i : grid0.Coords)
    (arg4 : Memref sig .tc .vmem S2048x512 .bf16) (harg4 : arg4.IsWhole) (arg5 : Memref sig .tc .vmem S2048x512 .bf16) (harg5 : arg5.IsWhole) (arg6 : Memref sig .tc .vmem S512x512 .f32) (harg6 : arg6.IsWhole) (arg7 : Memref sig .tc .vmem S512x512 .f32) (harg7 : arg7.IsWhole)
    (hc0 : cond0_0 i) (hc1 : ¬cond0_1 i) (hc2 : ¬cond0_2 i)
    (x : Vec Ideal S2048x512 .bf16) (y : Vec Ideal S2048x512 .bf16) :
    sout0_A_0 c i arg4 harg4 arg5 harg5 arg6 harg6 arg7 harg7 hc0 hc1 hc2 x y = k0_pay2 (F := Ideal) x y := by
  unfold sout0_A_0
  rw [View.read_writes_eq_canon _ _ _ (scover0_A_0 c i arg4 harg4 arg5 harg5 arg6 harg6 arg7 harg7 hc0 hc1 hc2 x y)]
  unfold kernelRun0_A
  dsimp only
  sl_unfold_words
  rw [View.canon_unit_zero (S := S512x512) hz2]
  simp only [View.readAt_eq_ld, harg4.read_unread, harg5.read_unread, View.ld_unit_zero (S := S2048x512) hz2]

theorem next_eq (c : Dev nD) (i : grid0.Coords)
    (arg4 : Memref sig .tc .vmem S2048x512 .bf16) (harg4 : arg4.IsWhole) (arg5 : Memref sig .tc .vmem S2048x512 .bf16) (harg5 : arg5.IsWhole) (arg6 : Memref sig .tc .vmem S512x512 .f32) (harg6 : arg6.IsWhole) (arg7 : Memref sig .tc .vmem S512x512 .f32) (harg7 : arg7.IsWhole)
    (hc0 : ¬cond0_0 i) (hc1 : cond0_1 i) (hc2 : ¬cond0_2 i)
    (x : Vec Ideal S2048x512 .bf16) (y : Vec Ideal S2048x512 .bf16) (acc : Vec Ideal S512x512 .f32) :
    sout0_B_0 c i arg4 harg4 arg5 harg5 arg6 harg6 arg7 harg7 hc0 hc1 hc2 x y acc = k0_pay3 (F := Ideal) x y acc := by
  unfold sout0_B_0
  rw [View.read_writes_eq_canon _ _ _ (scover0_B_0 c i arg4 harg4 arg5 harg5 arg6 harg6 arg7 harg7 hc0 hc1 hc2 x y acc)]
  unfold kernelRun0_B
  dsimp only
  sl_unfold_words
  rw [View.canon_unit_zero (S := S512x512) hz2]
  simp only [View.readAt_eq_ld, harg4.read_unread, harg5.read_unread, harg7.read_unread, View.ld_unit_zero (S := S2048x512) hz2, View.ld_unit_zero (S := S512x512) hz2]

theorem last_eq (c : Dev nD) (i : grid0.Coords)
    (arg4 : Memref sig .tc .vmem S2048x512 .bf16) (harg4 : arg4.IsWhole) (arg5 : Memref sig .tc .vmem S2048x512 .bf16) (harg5 : arg5.IsWhole) (arg6 : Memref sig .tc .vmem S512x512 .f32) (harg6 : arg6.IsWhole) (arg7 : Memref sig .tc .vmem S512x512 .f32) (harg7 : arg7.IsWhole)
    (hc0 : ¬cond0_0 i) (hc1 : cond0_1 i) (hc2 : cond0_2 i)
    (x : Vec Ideal S2048x512 .bf16) (y : Vec Ideal S2048x512 .bf16) (acc : Vec Ideal S512x512 .f32) :
    out0_C_2 c i arg4 harg4 arg5 harg5 arg6 harg6 arg7 harg7 hc0 hc1 hc2 x y acc = k0_pay3 (F := Ideal) x y acc := by
  unfold out0_C_2
  rw [View.read_writes_eq_canon _ _ _ (cover0_C_2 c i arg4 harg4 arg5 harg5 arg6 harg6 arg7 harg7 hc0 hc1 hc2 x y acc)]
  unfold kernelRun0_C
  dsimp only
  sl_unfold_words
  rw [View.canon_unit_zero (S := S512x512) hz2]
  simp only [View.readCov_unit_zero (S := S512x512) _ hz2, View.readAt_eq_ld, harg4.read_unread, harg5.read_unread, harg7.read_unread, View.ld_unit_zero (S := S2048x512) hz2, View.ld_unit_zero (S := S512x512) hz2]

theorem index0 : ∀ t : Fin cfg0.N, win0_0.index t = ![t.val % 4, 0] := by decide +kernel
theorem index1 : ∀ t : Fin cfg0.N, win0_1.index t = ![t.val % 4, t.val / 4] := by decide +kernel
theorem indexOut : ∀ t : Fin cfg0.N, win0_2.index t = ![0, t.val / 4] := by decide +kernel

variable (m : (ℓ : Loc nD τ sig) → Buf (Elt Ideal) ℓ) (c : Dev nD)

theorem block0 (t : Fin cfg0.N) (k : Fin 2048) (r : Fin 512) :
    iblk m c 0 t (ix2 k r) = V m c main_v0 (ix2 (⟨2048 * (t.val % 4) + k.val, by have := lt_of_lt_of_eq t.isLt N_0; omega⟩ : Fin 8192) r) := by
  blk_ext [iblk, index0 t]

theorem block1 (t : Fin cfg0.N) (k : Fin 2048) (s : Fin 512) :
    iblk m c 1 t (ix2 k s) = V m c main_v1 (ix2 (⟨2048 * (t.val % 4) + k.val, by have := lt_of_lt_of_eq t.isLt N_0; omega⟩ : Fin 8192) (⟨512 * (t.val / 4) + s.val, by have := lt_of_lt_of_eq t.isLt N_0; omega⟩ : Fin 2048)) := by
  blk_ext [iblk, index1 t]

/-- What point `n` adds to an element of its block. -/
def addend (r : Fin 512) (s : Fin 512) (n : ℕ) : EReal :=
  if h : n < cfg0.N then k0_pay1 (F := Ideal) (iblk m c 0 ⟨n, h⟩) (iblk m c 1 ⟨n, h⟩) (ix2 r s) else 0

theorem addend_at (r : Fin 512) (s : Fin 512) (t : Fin cfg0.N) :
    addend m c r s t.val = k0_pay1 (F := Ideal) (iblk m c 0 t) (iblk m c 1 t) (ix2 r s) := dif_pos t.isLt

/-- The scratch after the first points of a block, short of the last: the sum of what they added. -/
theorem fold (n : ℕ) : ∀ (t : Fin cfg0.N), t.val = n → ¬t.val % 4 = 3 → ∀ (r : Fin 512) (s : Fin 512),
    (outsAt0 m c t.val t.isLt).2 (ix2 r s) = ∑ i ∈ Finset.range (t.val % 4 + 1), addend m c r s (4 * (t.val / 4) + i) := by
  induction n with
  | zero =>
    intro t ht h3 r s
    have h0 : t.val % 4 = 0 := by omega
    rw [outsAt0_A m c t h0 (by omega) (by omega)]
    dsimp only
    rw [first_eq, start_at, h0, Finset.sum_range_one, show 4 * (t.val / 4) + 0 = t.val by omega, addend_at]
  | succ n ih =>
    intro t ht h3 r s
    by_cases h0 : t.val % 4 = 0
    · rw [outsAt0_A m c t h0 (by omega) (by omega)]
      dsimp only
      rw [first_eq, start_at, h0, Finset.sum_range_one, show 4 * (t.val / 4) + 0 = t.val by omega, addend_at]
    · rw [outsAt0_B m c t h0 (by omega) h3]
      dsimp only
      rw [next_eq, step_at]
      have h : (outsAt0 m c (t.val - 1) (Nat.lt_of_le_of_lt (Nat.sub_le _ _) t.isLt)).2 (ix2 r s)
      = ∑ i ∈ Finset.range ((t.val - 1) % 4 + 1), addend m c r s (4 * ((t.val - 1) / 4) + i) :=
        ih ⟨t.val - 1, Nat.lt_of_le_of_lt (Nat.sub_le _ _) t.isLt⟩ (by dsimp only; omega) (by dsimp only; omega) r s
      rw [h, ← addend_at, show (t.val - 1) / 4 = t.val / 4 by omega, show (t.val - 1) % 4 + 1 = t.val % 4 by omega, Finset.sum_range_succ,
        show 4 * (t.val / 4) + t.val % 4 = t.val by omega]

/-- What a block's last point leaves: the sum of the points' products. -/
theorem out_at (t : Fin cfg0.N) (h3 : t.val % 4 = 3) (r : Fin 512) (s : Fin 512) :
    (outsAt0 m c t.val t.isLt).1 (ix2 r s) = ∑ i : Fin 4, addend m c r s (4 * (t.val / 4) + i.val) := by
  rw [outsAt0_C m c t (by omega) (by omega) h3]
  dsimp only
  rw [last_eq, step_at]
  have h : (outsAt0 m c (t.val - 1) (Nat.lt_of_le_of_lt (Nat.sub_le _ _) t.isLt)).2 (ix2 r s)
      = ∑ i ∈ Finset.range ((t.val - 1) % 4 + 1), addend m c r s (4 * ((t.val - 1) / 4) + i) :=
    fold m c _ ⟨t.val - 1, Nat.lt_of_le_of_lt (Nat.sub_le _ _) t.isLt⟩ rfl (by dsimp only; omega) r s
  rw [h, ← addend_at, show (t.val - 1) / 4 = t.val / 4 by omega, show (t.val - 1) % 4 + 1 = 3 by omega,
    show addend m c r s t.val = addend m c r s (4 * (t.val / 4) + 3) from congrArg _ (by omega)]
  exact (Finset.sum_range_succ (fun i => addend m c r s (4 * (t.val / 4) + i)) 3).symm.trans (Finset.sum_range fun i => addend m c r s (4 * (t.val / 4) + i))

/-- The product of the two whole arrays. -/
def rows (a : S8192x512.Idx → EReal) (b : S8192x2048.Idx → EReal) : S512x2048.Idx → EReal := fun i =>
  ∑ j : Fin 4, ∑ k : Fin 2048, a (ix2 (⟨2048 * j.val + k.val, by omega⟩ : Fin 8192) (i 0)) * b (ix2 (⟨2048 * j.val + k.val, by omega⟩ : Fin 8192) (i 1))

theorem array : (dats m 0 c).arrAt 2 cfg0.N = rows (V m c main_v0) (V m c main_v1) := by
  refine (dats m 0 c).arrAt_eq_of_covers 2 _ (by decide +kernel) fun t hf y => ?_
  have h3 : t.val % 4 = 3 := (flush0_2 t).mp hf
  have hN := lt_of_lt_of_eq t.isLt N_0
  blk_simp
  rw [after0_2]
  obtain ⟨r, s, rfl⟩ : ∃ (r : Fin 512) (s : Fin 512), y = ix2 r s := ⟨y 0, y 1, (ix2_eta y).symm⟩
  have h0 : win0_2.index t 0 = 0 := congrFun (indexOut t) 0
  have h1 : win0_2.index t 1 = t.val / 4 := congrFun (indexOut t) 1
  refine (out_at m c t h3 r s).trans (Finset.sum_congr rfl fun j _ => ?_)
  have hj : 4 * (t.val / 4) + j.val < cfg0.N := lt_of_lt_of_eq (by omega) N_0.symm
  refine (addend_at m c r s ⟨4 * (t.val / 4) + j.val, hj⟩).trans ((product _ _ r s).trans (Finset.sum_congr rfl fun k _ => ?_))
  rw [block0, block1]
  refine congr (congrArg (fun a b : EReal => a * b) (congrArg (V m c main_v0) ?_)) (congrArg (V m c main_v1) ?_)
  · refine ix2_congr (Fin.ext ?_) (Fin.ext ?_)
    · dsimp only; omega
    · blk_simp
      rw [h0]; (try dsimp only [ix2]); omega
  · refine ix2_congr (Fin.ext ?_) (Fin.ext ?_)
    · dsimp only; omega
    · blk_simp
      rw [h1]; (try dsimp only [ix2]); omega

set_option maxHeartbeats 4000000 in
/-- The first array the call is given. -/
theorem entry_a : V m c main_v0 = truncf (F := Ideal) .bf16 (m (c, Proc.tc.devRef main_arg0)) bitsLt_bf16_f32 := by
  show StableHlo.after hostOps0 (fun b => m (c, b)) (Proc.tc.devRef main_v0) = _
  simp only [hostOps0, StableHlo.TRef.binary, StableHlo.TRef.nullary, StableHlo.TRef.ternary,
    StableHlo.TRef.unary, StableHlo.TRef.toBuf, StableHlo.TRef.ofBuf, cast_eq]
  after_results_simp

set_option maxHeartbeats 4000000 in
/-- The second array the call is given. -/
theorem entry_b : V m c main_v1 = truncf (F := Ideal) .bf16 (m (c, Proc.tc.devRef main_arg1)) bitsLt_bf16_f32 := by
  show StableHlo.after hostOps0 (fun b => m (c, b)) (Proc.tc.devRef main_v1) = _
  simp only [hostOps0, StableHlo.TRef.binary, StableHlo.TRef.nullary, StableHlo.TRef.ternary,
    StableHlo.TRef.unary, StableHlo.TRef.toBuf, StableHlo.TRef.ofBuf, cast_eq]
  after_results_simp

/-- The reference's product at an index. -/
theorem ref_at (a : FVec Ideal S8192x512 .f32) (b : FVec Ideal S8192x2048 .f32) (r : Fin 512) (s : Fin 2048) :
    Cert.ReferenceGluDwIdeal.Read.val_main_v3 (F := Ideal) a b (ix2 r s) = ∑ k : Fin 8192, a (ix2 k r) * b (ix2 k s) := by
  rw [Cert.ReferenceGluDwIdeal.Read.val_main_v3_apply, Cert.ReferenceGluDwIdeal.Read.val_main_v2_apply]
  refine Finset.sum_congr rfl fun k _ => (mul_comm (G := EReal) _ _).trans (congr (congrArg (fun a b : EReal => a * b) (congrArg a ?_)) (congrArg b ?_))
  · funext a
    match a with
    | ⟨0, _⟩ => rfl
    | ⟨1, _⟩ => rfl
  · funext a
    match a with
    | ⟨0, _⟩ => rfl
    | ⟨1, _⟩ => rfl

/-- The kernel's array is the reference's. -/
theorem result : (dats m 0 c).arrAt 2 cfg0.N
    = Cert.ReferenceGluDwIdeal.Read.val_main_v3 (F := Ideal) (m (c, Proc.tc.devRef main_arg0)) (m (c, Proc.tc.devRef main_arg1)) := by
  rw [array, entry_a, entry_b]
  funext i
  rw [← ix2_eta i]
  refine Eq.trans ?_ (ref_at _ _ (i 0) (i 1)).symm
  rw [sum_blocks 4 2048 8192 rfl]
  rfl

theorem algebraic : Cert.algebraic_KernelGluDwIdeal_ReferenceGluDwIdeal := by
  intro m g m' g' _ hagree
  refine ⟨fun c => (dats m 0 c).arrAt 2 cfg0.N, Cert.KernelGluDwIdeal.Value.run_blocks m g,
    (θ_run Cert.ReferenceGluDwIdeal.defs _ _).mono (fun r h c => ?_) (Cert.ReferenceGluDwIdeal.Value.run m' g')⟩
  obtain ⟨a0, a1⟩ := hagree c
  exact ⟨(h c).1.trans ((Cert.ReferenceGluDwIdeal.Read.val_main_v3_eq _ _).trans
    ((congr (congrArg (Cert.ReferenceGluDwIdeal.Read.val_main_v3 (F := Ideal)) a0) a1).trans (result m c).symm)), (h c).2⟩

end Cert.Proof.GluDw
-- ==== Proof.Glu.lean ====
/- The scan layer's output projection: each output element is one row of the first array against one column of the weight. -/
module

public import proofs.«01_k».proof.Defs
public import proofs.«01_k».proof.Proof.Linear
public import proofs.«01_k».proof.Proof.Gen.KernelGluIdeal.Value
public import proofs.«01_k».proof.Proof.Gen.ReferenceGluIdeal.Read

@[expose] public section

set_option maxRecDepth 16384

noncomputable section

namespace Cert.Proof.Glu

open Idealize.ShloMosaic Idealize.ShloMosaic.Pointwise Idealize.ShloMosaic.TcCoe Idealize.ShloMosaic.Tactic
open Cert.Proof.Linear Cert.KernelGluIdeal Cert.KernelGluIdeal.Gen

/-- One tile's product. -/
theorem product (x : FVec Ideal S1024x512 .bf16) (y : FVec Ideal S512x512 .bf16) (r : Fin 1024) (s : Fin 512) :
    k0_pay1 (F := Ideal) x y (ix2 r s) = ∑ k : Fin 512, x (ix2 r k) * y (ix2 k s) := by
  pointwise [k0_pay1]

theorem start_at (x : Vec Ideal S1024x512 .bf16) (y : Vec Ideal S512x512 .bf16) (r : Fin 1024) (s : Fin 512) :
    k0_pay2 (F := Ideal) x y (ix2 r s) = k0_pay1 (F := Ideal) x y (ix2 r s) := by
  unfold k0_pay2
  generalize k0_pay1 (F := Ideal) x y = f
  exact congrFun (shapeCast_self f _) _

theorem out_eq (c : Dev nD) (i : grid0.Coords)
    (arg4 : Memref sig .tc .vmem S1024x512 .bf16) (harg4 : arg4.IsWhole) (arg5 : Memref sig .tc .vmem S512x512 .bf16) (harg5 : arg5.IsWhole) (arg6 : Memref sig .tc .vmem S1024x512 .f32) (harg6 : arg6.IsWhole) (arg7 : Memref sig .tc .vmem S1024x512 .f32) (harg7 : arg7.IsWhole)
    (hc0 : cond0_0 i) (hc1 : ¬cond0_1 i) (hc2 : cond0_2 i)
    (x : Vec Ideal S1024x512 .bf16) (y : Vec Ideal S512x512 .bf16) :
    out0_A_2 c i arg4 harg4 arg5 harg5 arg6 harg6 arg7 harg7 hc0 hc1 hc2 x y = k0_pay2 (F := Ideal) x y := by
  unfold out0_A_2
  rw [View.read_writes_eq_canon _ _ _ (cover0_A_2 c i arg4 harg4 arg5 harg5 arg6 harg6 arg7 harg7 hc0 hc1 hc2 x y)]
  unfold kernelRun0_A
  dsimp only
  sl_unfold_words
  rw [View.canon_unit_zero (S := S1024x512) hz2]
  simp only [View.readCov_unit_zero (S := S1024x512) _ hz2, View.readAt_eq_ld, harg4.read_unread, harg5.read_unread, View.ld_unit_zero (S := S1024x512) hz2, View.ld_unit_zero (S := S512x512) hz2]

theorem index0 : ∀ t : Fin cfg0.N, win0_0.index t = ![t.val / 4, 0] := by decide +kernel
theorem index1 : ∀ t : Fin cfg0.N, win0_1.index t = ![0, t.val % 4] := by decide +kernel
theorem indexOut : ∀ t : Fin cfg0.N, win0_2.index t = ![t.val / 4, t.val % 4] := by decide +kernel

variable (m : (ℓ : Loc nD τ sig) → Buf (Elt Ideal) ℓ) (c : Dev nD)

theorem block0 (t : Fin cfg0.N) (k : Fin 512) (r : Fin 1024) :
    iblk m c 0 t (ix2 r k) = V m c main_v0 (ix2 (⟨1024 * (t.val / 4) + r.val, by have := lt_of_lt_of_eq t.isLt N_0; omega⟩ : Fin 8192) k) := by
  blk_ext [iblk, index0 t]

theorem block1 (t : Fin cfg0.N) (k : Fin 512) (s : Fin 512) :
    iblk m c 1 t (ix2 k s) = V m c main_v1 (ix2 k (⟨512 * (t.val % 4) + s.val, by have := lt_of_lt_of_eq t.isLt N_0; omega⟩ : Fin 2048)) := by
  blk_ext [iblk, index1 t]

/-- The product of the two whole arrays. -/
def rows (a : S8192x512.Idx → EReal) (b : S512x2048.Idx → EReal) : S8192x2048.Idx → EReal := fun i =>
  ∑ k : Fin 512, a (ix2 (i 0) k) * b (ix2 k (i 1))

theorem array : (dats m 0 c).arrAt 2 cfg0.N = rows (V m c main_v0) (V m c main_v1) := by
  refine (dats m 0 c).arrAt_eq_of_covers 2 _ (by decide +kernel) fun t hf y => ?_
  have hN := lt_of_lt_of_eq t.isLt N_0
  blk_simp
  rw [after0_2]
  obtain ⟨r, s, rfl⟩ : ∃ (r : Fin 1024) (s : Fin 512), y = ix2 r s := ⟨y 0, y 1, (ix2_eta y).symm⟩
  have h0 : win0_2.index t 0 = t.val / 4 := congrFun (indexOut t) 0
  have h1 : win0_2.index t 1 = t.val % 4 := congrFun (indexOut t) 1
  unfold outsAt0
  rw [out_eq]
  refine (start_at (iblk m c 0 t) (iblk m c 1 t) r s).trans ((product _ _ r s).trans (Finset.sum_congr rfl fun k _ => ?_))
  rw [block0, block1]
  refine congr (congrArg (fun a b : EReal => a * b) (congrArg (V m c main_v0) ?_)) (congrArg (V m c main_v1) ?_)
  · refine ix2_congr (Fin.ext ?_) (Fin.ext ?_)
    · blk_simp
      rw [h0]; (try dsimp only [ix2]); omega
    · rfl
  · refine ix2_congr (Fin.ext ?_) (Fin.ext ?_)
    · rfl
    · blk_simp
      rw [h1]; (try dsimp only [ix2]); omega

set_option maxHeartbeats 4000000 in
/-- The first array the call is given. -/
theorem entry_a : V m c main_v0 = truncf (F := Ideal) .bf16 (m (c, Proc.tc.devRef main_arg0)) bitsLt_bf16_f32 := by
  show StableHlo.after hostOps0 (fun b => m (c, b)) (Proc.tc.devRef main_v0) = _
  simp only [hostOps0, StableHlo.TRef.binary, StableHlo.TRef.nullary, StableHlo.TRef.ternary,
    StableHlo.TRef.unary, StableHlo.TRef.toBuf, StableHlo.TRef.ofBuf, cast_eq]
  after_results_simp

set_option maxHeartbeats 4000000 in
/-- The second array the call is given. -/
theorem entry_b : V m c main_v1 = truncf (F := Ideal) .bf16 (m (c, Proc.tc.devRef main_arg1)) bitsLt_bf16_f32 := by
  show StableHlo.after hostOps0 (fun b => m (c, b)) (Proc.tc.devRef main_v1) = _
  simp only [hostOps0, StableHlo.TRef.binary, StableHlo.TRef.nullary, StableHlo.TRef.ternary,
    StableHlo.TRef.unary, StableHlo.TRef.toBuf, StableHlo.TRef.ofBuf, cast_eq]
  after_results_simp

/-- The reference's product at an index. -/
theorem ref_at (a : FVec Ideal S8192x512 .f32) (b : FVec Ideal S512x2048 .f32) (r : Fin 8192) (s : Fin 2048) :
    Cert.ReferenceGluIdeal.Read.val_main_v0 (F := Ideal) a b (ix2 r s) = ∑ k : Fin 512, a (ix2 r k) * b (ix2 k s) := by
  rw [Cert.ReferenceGluIdeal.Read.val_main_v0_apply]
  refine Finset.sum_congr rfl fun k _ => congr (congrArg (fun a b : EReal => a * b) (congrArg a ?_)) (congrArg b ?_)
  · funext a
    match a with
    | ⟨0, _⟩ => rfl
    | ⟨1, _⟩ => rfl
  · funext a
    match a with
    | ⟨0, _⟩ => rfl
    | ⟨1, _⟩ => rfl

/-- The kernel's array is the reference's. -/
theorem result : (dats m 0 c).arrAt 2 cfg0.N
    = Cert.ReferenceGluIdeal.Read.val_main_v0 (F := Ideal) (m (c, Proc.tc.devRef main_arg0)) (m (c, Proc.tc.devRef main_arg1)) := by
  rw [array, entry_a, entry_b]
  funext i
  rw [← ix2_eta i]
  refine Eq.trans ?_ (ref_at _ _ (i 0) (i 1)).symm
  rfl

theorem algebraic : Cert.algebraic_KernelGluIdeal_ReferenceGluIdeal := by
  intro m g m' g' _ hagree
  refine ⟨fun c => (dats m 0 c).arrAt 2 cfg0.N, Cert.KernelGluIdeal.Value.run_blocks m g,
    (θ_run Cert.ReferenceGluIdeal.defs _ _).mono (fun r h c => ?_) (Cert.ReferenceGluIdeal.Value.run m' g')⟩
  obtain ⟨a0, a1⟩ := hagree c
  exact ⟨(h c).1.trans ((Cert.ReferenceGluIdeal.Read.val_main_v0_eq _ _).trans
    ((congr (congrArg (Cert.ReferenceGluIdeal.Read.val_main_v0 (F := Ideal)) a0) a1).trans (result m c).symm)), (h c).2⟩

end Cert.Proof.Glu
-- ==== Proof.ScanDx.lean ====
/- The gradient through the scan layer's input projection: each output element is one row of the incoming gradient against one row of the weight. -/
module

public import proofs.«01_k».proof.Defs
public import proofs.«01_k».proof.Proof.Linear
public import proofs.«01_k».proof.Proof.Gen.KernelScanDxIdeal.Value
public import proofs.«01_k».proof.Proof.Gen.ReferenceScanDxIdeal.Read

@[expose] public section

set_option maxRecDepth 16384

noncomputable section

namespace Cert.Proof.ScanDx

open Idealize.ShloMosaic Idealize.ShloMosaic.Pointwise Idealize.ShloMosaic.TcCoe Idealize.ShloMosaic.Tactic
open Cert.Proof.Linear Cert.KernelScanDxIdeal Cert.KernelScanDxIdeal.Gen

/-- One tile's product. -/
theorem product (x : FVec Ideal S1024x512 .f32) (y : FVec Ideal S512x512 .bf16) (r : Fin 1024) (s : Fin 512) :
    k0_pay1 (F := Ideal) x y (ix2 r s) = ∑ k : Fin 512, x (ix2 r k) * y (ix2 s k) := by
  pointwise [k0_pay1]

theorem start_at (x : Vec Ideal S1024x512 .f32) (y : Vec Ideal S512x512 .bf16) (r : Fin 1024) (s : Fin 512) :
    k0_pay2 (F := Ideal) x y (ix2 r s) = k0_pay1 (F := Ideal) x y (ix2 r s) := by
  unfold k0_pay2
  generalize k0_pay1 (F := Ideal) x y = f
  exact congrFun (shapeCast_self f _) _

theorem out_eq (c : Dev nD) (i : grid0.Coords)
    (arg4 : Memref sig .tc .vmem S1024x512 .f32) (harg4 : arg4.IsWhole) (arg5 : Memref sig .tc .vmem S512x512 .bf16) (harg5 : arg5.IsWhole) (arg6 : Memref sig .tc .vmem S1024x512 .f32) (harg6 : arg6.IsWhole) (arg7 : Memref sig .tc .vmem S1024x512 .f32) (harg7 : arg7.IsWhole)
    (hc0 : cond0_0 i) (hc1 : ¬cond0_1 i) (hc2 : cond0_2 i)
    (x : Vec Ideal S1024x512 .f32) (y : Vec Ideal S512x512 .bf16) :
    out0_A_2 c i arg4 harg4 arg5 harg5 arg6 harg6 arg7 harg7 hc0 hc1 hc2 x y = k0_pay2 (F := Ideal) x y := by
  unfold out0_A_2
  rw [View.read_writes_eq_canon _ _ _ (cover0_A_2 c i arg4 harg4 arg5 harg5 arg6 harg6 arg7 harg7 hc0 hc1 hc2 x y)]
  unfold kernelRun0_A
  dsimp only
  sl_unfold_words
  rw [View.canon_unit_zero (S := S1024x512) hz2]
  simp only [View.readCov_unit_zero (S := S1024x512) _ hz2, View.readAt_eq_ld, harg4.read_unread, harg5.read_unread, View.ld_unit_zero (S := S1024x512) hz2, View.ld_unit_zero (S := S512x512) hz2]

theorem index0 : ∀ t : Fin cfg0.N, win0_0.index t = ![t.val / 2, 0] := by decide +kernel
theorem index1 : ∀ t : Fin cfg0.N, win0_1.index t = ![t.val % 2, 0] := by decide +kernel
theorem indexOut : ∀ t : Fin cfg0.N, win0_2.index t = ![t.val / 2, t.val % 2] := by decide +kernel

variable (m : (ℓ : Loc nD τ sig) → Buf (Elt Ideal) ℓ) (c : Dev nD)

theorem block0 (t : Fin cfg0.N) (k : Fin 512) (r : Fin 1024) :
    iblk m c 0 t (ix2 r k) = V m c main_arg0 (ix2 (⟨1024 * (t.val / 2) + r.val, by have := lt_of_lt_of_eq t.isLt N_0; omega⟩ : Fin 8192) k) := by
  blk_ext [iblk, index0 t]

theorem block1 (t : Fin cfg0.N) (k : Fin 512) (s : Fin 512) :
    iblk m c 1 t (ix2 s k) = V m c main_v0 (ix2 (⟨512 * (t.val % 2) + s.val, by have := lt_of_lt_of_eq t.isLt N_0; omega⟩ : Fin 1024) k) := by
  blk_ext [iblk, index1 t]

/-- The product of the two whole arrays. -/
def rows (a : S8192x512.Idx → EReal) (b : S1024x512.Idx → EReal) : S8192x1024.Idx → EReal := fun i =>
  ∑ k : Fin 512, a (ix2 (i 0) k) * b (ix2 (i 1) k)

theorem array : (dats m 0 c).arrAt 2 cfg0.N = rows (V m c main_arg0) (V m c main_v0) := by
  refine (dats m 0 c).arrAt_eq_of_covers 2 _ (by decide +kernel) fun t hf y => ?_
  have hN := lt_of_lt_of_eq t.isLt N_0
  blk_simp
  rw [after0_2]
  obtain ⟨r, s, rfl⟩ : ∃ (r : Fin 1024) (s : Fin 512), y = ix2 r s := ⟨y 0, y 1, (ix2_eta y).symm⟩
  have h0 : win0_2.index t 0 = t.val / 2 := congrFun (indexOut t) 0
  have h1 : win0_2.index t 1 = t.val % 2 := congrFun (indexOut t) 1
  unfold outsAt0
  rw [out_eq]
  refine (start_at (iblk m c 0 t) (iblk m c 1 t) r s).trans ((product _ _ r s).trans (Finset.sum_congr rfl fun k _ => ?_))
  rw [block0, block1]
  refine congr (congrArg (fun a b : EReal => a * b) (congrArg (V m c main_arg0) ?_)) (congrArg (V m c main_v0) ?_)
  · refine ix2_congr (Fin.ext ?_) (Fin.ext ?_)
    · blk_simp
      rw [h0]; (try dsimp only [ix2]); omega
    · rfl
  · refine ix2_congr (Fin.ext ?_) (Fin.ext ?_)
    · blk_simp
      rw [h1]; (try dsimp only [ix2]); omega
    · rfl

set_option maxHeartbeats 4000000 in
/-- The second array the call is given. -/
theorem entry_b : V m c main_v0 = truncf (F := Ideal) .bf16 (m (c, Proc.tc.devRef main_arg1)) bitsLt_bf16_f32 := by
  show StableHlo.after hostOps0 (fun b => m (c, b)) (Proc.tc.devRef main_v0) = _
  simp only [hostOps0, StableHlo.TRef.binary, StableHlo.TRef.nullary, StableHlo.TRef.ternary,
    StableHlo.TRef.unary, StableHlo.TRef.toBuf, StableHlo.TRef.ofBuf, cast_eq]
  after_results_simp

/-- The reference's product at an index. -/
theorem ref_at (a : FVec Ideal S8192x512 .f32) (b : FVec Ideal S1024x512 .f32) (r : Fin 8192) (s : Fin 1024) :
    Cert.ReferenceScanDxIdeal.Read.val_main_v2 (F := Ideal) a b (ix2 r s) = ∑ k : Fin 512, a (ix2 r k) * b (ix2 s k) := by
  rw [Cert.ReferenceScanDxIdeal.Read.val_main_v2_apply]
  refine Finset.sum_congr rfl fun k _ => congr (congrArg (fun a b : EReal => a * b) (congrArg a ?_)) (congrArg b ?_)
  · funext a
    match a with
    | ⟨0, _⟩ => rfl
    | ⟨1, _⟩ => rfl
  · funext a
    match a with
    | ⟨0, _⟩ => rfl
    | ⟨1, _⟩ => rfl

/-- The kernel's array is the reference's. -/
theorem result : (dats m 0 c).arrAt 2 cfg0.N
    = Cert.ReferenceScanDxIdeal.Read.val_main_v2 (F := Ideal) (m (c, Proc.tc.devRef main_arg0)) (m (c, Proc.tc.devRef main_arg1)) := by
  rw [array, V_main_arg0, entry_b]
  funext i
  rw [← ix2_eta i]
  refine Eq.trans ?_ (ref_at _ _ (i 0) (i 1)).symm
  rfl

theorem algebraic : Cert.algebraic_KernelScanDxIdeal_ReferenceScanDxIdeal := by
  intro m g m' g' _ hagree
  refine ⟨fun c => (dats m 0 c).arrAt 2 cfg0.N, Cert.KernelScanDxIdeal.Value.run_blocks m g,
    (θ_run Cert.ReferenceScanDxIdeal.defs _ _).mono (fun r h c => ?_) (Cert.ReferenceScanDxIdeal.Value.run m' g')⟩
  obtain ⟨a0, a1⟩ := hagree c
  exact ⟨(h c).1.trans ((Cert.ReferenceScanDxIdeal.Read.val_main_v2_eq _ _).trans
    ((congr (congrArg (Cert.ReferenceScanDxIdeal.Read.val_main_v2 (F := Ideal)) a0) a1).trans (result m c).symm)), (h c).2⟩

end Cert.Proof.ScanDx
-- ==== Proof.ScanDw.lean ====
/- The gradient of the scan layer's input weight: each output element is a column of the input against a column of the incoming gradient; a scratch carries the sum over 4 tiles of 2048 from point to point. -/
module

public import proofs.«01_k».proof.Defs
public import proofs.«01_k».proof.Proof.Linear
public import proofs.«01_k».proof.Proof.Gen.KernelScanDwIdeal.Value
public import proofs.«01_k».proof.Proof.Gen.ReferenceScanDwIdeal.Read

@[expose] public section

set_option maxRecDepth 16384

noncomputable section

namespace Cert.Proof.ScanDw

open Idealize.ShloMosaic Idealize.ShloMosaic.Pointwise Idealize.ShloMosaic.TcCoe Idealize.ShloMosaic.Tactic
open Cert.Proof.Linear Cert.KernelScanDwIdeal Cert.KernelScanDwIdeal.Gen

/-- One tile's product. -/
theorem product (x : FVec Ideal S2048x1024 .bf16) (y : FVec Ideal S2048x512 .f32) (r : Fin 1024) (s : Fin 512) :
    k0_pay1 (F := Ideal) x y (ix2 r s) = ∑ k : Fin 2048, x (ix2 k r) * y (ix2 k s) := by
  pointwise [k0_pay1]

theorem start_at (x : Vec Ideal S2048x1024 .bf16) (y : Vec Ideal S2048x512 .f32) (r : Fin 1024) (s : Fin 512) :
    k0_pay2 (F := Ideal) x y (ix2 r s) = k0_pay1 (F := Ideal) x y (ix2 r s) := by
  unfold k0_pay2
  generalize k0_pay1 (F := Ideal) x y = f
  exact congrFun (shapeCast_self f _) _

theorem step_at (x : Vec Ideal S2048x1024 .bf16) (y : Vec Ideal S2048x512 .f32) (acc : Vec Ideal S1024x512 .f32) (r : Fin 1024) (s : Fin 512) :
    k0_pay3 (F := Ideal) x y acc (ix2 r s) = (acc (ix2 r s) : EReal) + k0_pay1 (F := Ideal) x y (ix2 r s) := by
  unfold k0_pay3
  generalize k0_pay1 (F := Ideal) x y = f
  exact congrFun (shapeCast_self (addf (F := Ideal) acc f) _) _

theorem first_eq (c : Dev nD) (i : grid0.Coords)
    (arg4 : Memref sig .tc .vmem S2048x1024 .bf16) (harg4 : arg4.IsWhole) (arg5 : Memref sig .tc .vmem S2048x512 .f32) (harg5 : arg5.IsWhole) (arg6 : Memref sig .tc .vmem S1024x512 .f32) (harg6 : arg6.IsWhole) (arg7 : Memref sig .tc .vmem S1024x512 .f32) (harg7 : arg7.IsWhole)
    (hc0 : cond0_0 i) (hc1 : ¬cond0_1 i) (hc2 : ¬cond0_2 i)
    (x : Vec Ideal S2048x1024 .bf16) (y : Vec Ideal S2048x512 .f32) :
    sout0_A_0 c i arg4 harg4 arg5 harg5 arg6 harg6 arg7 harg7 hc0 hc1 hc2 x y = k0_pay2 (F := Ideal) x y := by
  unfold sout0_A_0
  rw [View.read_writes_eq_canon _ _ _ (scover0_A_0 c i arg4 harg4 arg5 harg5 arg6 harg6 arg7 harg7 hc0 hc1 hc2 x y)]
  unfold kernelRun0_A
  dsimp only
  sl_unfold_words
  rw [View.canon_unit_zero (S := S1024x512) hz2]
  simp only [View.readAt_eq_ld, harg4.read_unread, harg5.read_unread, View.ld_unit_zero (S := S2048x1024) hz2, View.ld_unit_zero (S := S2048x512) hz2]

theorem next_eq (c : Dev nD) (i : grid0.Coords)
    (arg4 : Memref sig .tc .vmem S2048x1024 .bf16) (harg4 : arg4.IsWhole) (arg5 : Memref sig .tc .vmem S2048x512 .f32) (harg5 : arg5.IsWhole) (arg6 : Memref sig .tc .vmem S1024x512 .f32) (harg6 : arg6.IsWhole) (arg7 : Memref sig .tc .vmem S1024x512 .f32) (harg7 : arg7.IsWhole)
    (hc0 : ¬cond0_0 i) (hc1 : cond0_1 i) (hc2 : ¬cond0_2 i)
    (x : Vec Ideal S2048x1024 .bf16) (y : Vec Ideal S2048x512 .f32) (acc : Vec Ideal S1024x512 .f32) :
    sout0_B_0 c i arg4 harg4 arg5 harg5 arg6 harg6 arg7 harg7 hc0 hc1 hc2 x y acc = k0_pay3 (F := Ideal) x y acc := by
  unfold sout0_B_0
  rw [View.read_writes_eq_canon _ _ _ (scover0_B_0 c i arg4 harg4 arg5 harg5 arg6 harg6 arg7 harg7 hc0 hc1 hc2 x y acc)]
  unfold kernelRun0_B
  dsimp only
  sl_unfold_words
  rw [View.canon_unit_zero (S := S1024x512) hz2]
  simp only [View.readAt_eq_ld, harg4.read_unread, harg5.read_unread, harg7.read_unread, View.ld_unit_zero (S := S2048x1024) hz2, View.ld_unit_zero (S := S2048x512) hz2, View.ld_unit_zero (S := S1024x512) hz2]

theorem last_eq (c : Dev nD) (i : grid0.Coords)
    (arg4 : Memref sig .tc .vmem S2048x1024 .bf16) (harg4 : arg4.IsWhole) (arg5 : Memref sig .tc .vmem S2048x512 .f32) (harg5 : arg5.IsWhole) (arg6 : Memref sig .tc .vmem S1024x512 .f32) (harg6 : arg6.IsWhole) (arg7 : Memref sig .tc .vmem S1024x512 .f32) (harg7 : arg7.IsWhole)
    (hc0 : ¬cond0_0 i) (hc1 : cond0_1 i) (hc2 : cond0_2 i)
    (x : Vec Ideal S2048x1024 .bf16) (y : Vec Ideal S2048x512 .f32) (acc : Vec Ideal S1024x512 .f32) :
    out0_C_2 c i arg4 harg4 arg5 harg5 arg6 harg6 arg7 harg7 hc0 hc1 hc2 x y acc = k0_pay3 (F := Ideal) x y acc := by
  unfold out0_C_2
  rw [View.read_writes_eq_canon _ _ _ (cover0_C_2 c i arg4 harg4 arg5 harg5 arg6 harg6 arg7 harg7 hc0 hc1 hc2 x y acc)]
  unfold kernelRun0_C
  dsimp only
  sl_unfold_words
  rw [View.canon_unit_zero (S := S1024x512) hz2]
  simp only [View.readCov_unit_zero (S := S1024x512) _ hz2, View.readAt_eq_ld, harg4.read_unread, harg5.read_unread, harg7.read_unread, View.ld_unit_zero (S := S2048x1024) hz2, View.ld_unit_zero (S := S2048x512) hz2, View.ld_unit_zero (S := S1024x512) hz2]

theorem index0 : ∀ t : Fin cfg0.N, win0_0.index t = ![t.val % 4, 0] := by decide +kernel
theorem index1 : ∀ t : Fin cfg0.N, win0_1.index t = ![t.val % 4, 0] := by decide +kernel
theorem indexOut : ∀ t : Fin cfg0.N, win0_2.index t = ![0, 0] := by decide +kernel

variable (m : (ℓ : Loc nD τ sig) → Buf (Elt Ideal) ℓ) (c : Dev nD)

theorem block0 (t : Fin cfg0.N) (k : Fin 2048) (r : Fin 1024) :
    iblk m c 0 t (ix2 k r) = V m c main_v0 (ix2 (⟨2048 * (t.val % 4) + k.val, by have := lt_of_lt_of_eq t.isLt N_0; omega⟩ : Fin 8192) r) := by
  blk_ext [iblk, index0 t]

theorem block1 (t : Fin cfg0.N) (k : Fin 2048) (s : Fin 512) :
    iblk m c 1 t (ix2 k s) = V m c main_arg1 (ix2 (⟨2048 * (t.val % 4) + k.val, by have := lt_of_lt_of_eq t.isLt N_0; omega⟩ : Fin 8192) s) := by
  blk_ext [iblk, index1 t]

/-- What point `n` adds to an element of its block. -/
def addend (r : Fin 1024) (s : Fin 512) (n : ℕ) : EReal :=
  if h : n < cfg0.N then k0_pay1 (F := Ideal) (iblk m c 0 ⟨n, h⟩) (iblk m c 1 ⟨n, h⟩) (ix2 r s) else 0

theorem addend_at (r : Fin 1024) (s : Fin 512) (t : Fin cfg0.N) :
    addend m c r s t.val = k0_pay1 (F := Ideal) (iblk m c 0 t) (iblk m c 1 t) (ix2 r s) := dif_pos t.isLt

/-- The scratch after the first points of a block, short of the last: the sum of what they added. -/
theorem fold (n : ℕ) : ∀ (t : Fin cfg0.N), t.val = n → ¬t.val % 4 = 3 → ∀ (r : Fin 1024) (s : Fin 512),
    (outsAt0 m c t.val t.isLt).2 (ix2 r s) = ∑ i ∈ Finset.range (t.val % 4 + 1), addend m c r s (4 * (t.val / 4) + i) := by
  induction n with
  | zero =>
    intro t ht h3 r s
    have h0 : t.val % 4 = 0 := by omega
    rw [outsAt0_A m c t h0 (by have := lt_of_lt_of_eq t.isLt N_0; omega) (by omega)]
    dsimp only
    rw [first_eq, start_at, h0, Finset.sum_range_one, show 4 * (t.val / 4) + 0 = t.val by omega, addend_at]
  | succ n ih =>
    intro t ht h3 r s
    by_cases h0 : t.val % 4 = 0
    · rw [outsAt0_A m c t h0 (by have := lt_of_lt_of_eq t.isLt N_0; omega) (by omega)]
      dsimp only
      rw [first_eq, start_at, h0, Finset.sum_range_one, show 4 * (t.val / 4) + 0 = t.val by omega, addend_at]
    · rw [outsAt0_B m c t h0 (by omega) h3]
      dsimp only
      rw [next_eq, step_at]
      have h : (outsAt0 m c (t.val - 1) (Nat.lt_of_le_of_lt (Nat.sub_le _ _) t.isLt)).2 (ix2 r s)
      = ∑ i ∈ Finset.range ((t.val - 1) % 4 + 1), addend m c r s (4 * ((t.val - 1) / 4) + i) :=
        ih ⟨t.val - 1, Nat.lt_of_le_of_lt (Nat.sub_le _ _) t.isLt⟩ (by dsimp only; omega) (by dsimp only; omega) r s
      rw [h, ← addend_at, show (t.val - 1) / 4 = t.val / 4 by omega, show (t.val - 1) % 4 + 1 = t.val % 4 by omega, Finset.sum_range_succ,
        show 4 * (t.val / 4) + t.val % 4 = t.val by omega]

/-- What a block's last point leaves: the sum of the points' products. -/
theorem out_at (t : Fin cfg0.N) (h3 : t.val % 4 = 3) (r : Fin 1024) (s : Fin 512) :
    (outsAt0 m c t.val t.isLt).1 (ix2 r s) = ∑ i : Fin 4, addend m c r s (4 * (t.val / 4) + i.val) := by
  rw [outsAt0_C m c t (by omega) (by omega) h3]
  dsimp only
  rw [last_eq, step_at]
  have h : (outsAt0 m c (t.val - 1) (Nat.lt_of_le_of_lt (Nat.sub_le _ _) t.isLt)).2 (ix2 r s)
      = ∑ i ∈ Finset.range ((t.val - 1) % 4 + 1), addend m c r s (4 * ((t.val - 1) / 4) + i) :=
    fold m c _ ⟨t.val - 1, Nat.lt_of_le_of_lt (Nat.sub_le _ _) t.isLt⟩ rfl (by dsimp only; omega) r s
  rw [h, ← addend_at, show (t.val - 1) / 4 = t.val / 4 by omega, show (t.val - 1) % 4 + 1 = 3 by omega,
    show addend m c r s t.val = addend m c r s (4 * (t.val / 4) + 3) from congrArg _ (by omega)]
  exact (Finset.sum_range_succ (fun i => addend m c r s (4 * (t.val / 4) + i)) 3).symm.trans (Finset.sum_range fun i => addend m c r s (4 * (t.val / 4) + i))

/-- The product of the two whole arrays. -/
def rows (a : S8192x1024.Idx → EReal) (b : S8192x512.Idx → EReal) : S1024x512.Idx → EReal := fun i =>
  ∑ j : Fin 4, ∑ k : Fin 2048, a (ix2 (⟨2048 * j.val + k.val, by omega⟩ : Fin 8192) (i 0)) * b (ix2 (⟨2048 * j.val + k.val, by omega⟩ : Fin 8192) (i 1))

theorem array : (dats m 0 c).arrAt 2 cfg0.N = rows (V m c main_v0) (V m c main_arg1) := by
  refine (dats m 0 c).arrAt_eq_of_covers 2 _ (by decide +kernel) fun t hf y => ?_
  have h3 : t.val % 4 = 3 := (flush0_2 t).mp hf
  have hN := lt_of_lt_of_eq t.isLt N_0
  blk_simp
  rw [after0_2]
  obtain ⟨r, s, rfl⟩ : ∃ (r : Fin 1024) (s : Fin 512), y = ix2 r s := ⟨y 0, y 1, (ix2_eta y).symm⟩
  have h0 : win0_2.index t 0 = 0 := congrFun (indexOut t) 0
  have h1 : win0_2.index t 1 = 0 := congrFun (indexOut t) 1
  refine (out_at m c t h3 r s).trans (Finset.sum_congr rfl fun j _ => ?_)
  have hj : 4 * (t.val / 4) + j.val < cfg0.N := lt_of_lt_of_eq (by omega) N_0.symm
  refine (addend_at m c r s ⟨4 * (t.val / 4) + j.val, hj⟩).trans ((product _ _ r s).trans (Finset.sum_congr rfl fun k _ => ?_))
  rw [block0, block1]
  refine congr (congrArg (fun a b : EReal => a * b) (congrArg (V m c main_v0) ?_)) (congrArg (V m c main_arg1) ?_)
  · refine ix2_congr (Fin.ext ?_) (Fin.ext ?_)
    · dsimp only; omega
    · blk_simp
      rw [h0]; (try dsimp only [ix2]); omega
  · refine ix2_congr (Fin.ext ?_) (Fin.ext ?_)
    · dsimp only; omega
    · blk_simp
      rw [h1]; (try dsimp only [ix2]); omega

set_option maxHeartbeats 4000000 in
/-- The first array the call is given. -/
theorem entry_a : V m c main_v0 = truncf (F := Ideal) .bf16 (m (c, Proc.tc.devRef main_arg0)) bitsLt_bf16_f32 := by
  show StableHlo.after hostOps0 (fun b => m (c, b)) (Proc.tc.devRef main_v0) = _
  simp only [hostOps0, StableHlo.TRef.binary, StableHlo.TRef.nullary, StableHlo.TRef.ternary,
    StableHlo.TRef.unary, StableHlo.TRef.toBuf, StableHlo.TRef.ofBuf, cast_eq]
  after_results_simp

/-- The reference's product at an index. -/
theorem ref_at (a : FVec Ideal S8192x1024 .f32) (b : FVec Ideal S8192x512 .f32) (r : Fin 1024) (s : Fin 512) :
    Cert.ReferenceScanDwIdeal.Read.val_main_v3 (F := Ideal) a b (ix2 r s) = ∑ k : Fin 8192, a (ix2 k r) * b (ix2 k s) := by
  rw [Cert.ReferenceScanDwIdeal.Read.val_main_v3_apply, Cert.ReferenceScanDwIdeal.Read.val_main_v2_apply]
  refine Finset.sum_congr rfl fun k _ => (mul_comm (G := EReal) _ _).trans (congr (congrArg (fun a b : EReal => a * b) (congrArg a ?_)) (congrArg b ?_))
  · funext a
    match a with
    | ⟨0, _⟩ => rfl
    | ⟨1, _⟩ => rfl
  · funext a
    match a with
    | ⟨0, _⟩ => rfl
    | ⟨1, _⟩ => rfl

/-- The kernel's array is the reference's. -/
theorem result : (dats m 0 c).arrAt 2 cfg0.N
    = Cert.ReferenceScanDwIdeal.Read.val_main_v3 (F := Ideal) (m (c, Proc.tc.devRef main_arg0)) (m (c, Proc.tc.devRef main_arg1)) := by
  rw [array, entry_a, V_main_arg1]
  funext i
  rw [← ix2_eta i]
  refine Eq.trans ?_ (ref_at _ _ (i 0) (i 1)).symm
  rw [sum_blocks 4 2048 8192 rfl]
  rfl

theorem algebraic : Cert.algebraic_KernelScanDwIdeal_ReferenceScanDwIdeal := by
  intro m g m' g' _ hagree
  refine ⟨fun c => (dats m 0 c).arrAt 2 cfg0.N, Cert.KernelScanDwIdeal.Value.run_blocks m g,
    (θ_run Cert.ReferenceScanDwIdeal.defs _ _).mono (fun r h c => ?_) (Cert.ReferenceScanDwIdeal.Value.run m' g')⟩
  obtain ⟨a0, a1⟩ := hagree c
  exact ⟨(h c).1.trans ((Cert.ReferenceScanDwIdeal.Read.val_main_v3_eq _ _).trans
    ((congr (congrArg (Cert.ReferenceScanDwIdeal.Read.val_main_v3 (F := Ideal)) a0) a1).trans (result m c).symm)), (h c).2⟩

end Cert.Proof.ScanDw
-- ==== Proof.Scan.lean ====
/- The scan layer's input projection: each output element is one row of the first array against one column of the weight. -/
module

public import proofs.«01_k».proof.Defs
public import proofs.«01_k».proof.Proof.Linear
public import proofs.«01_k».proof.Proof.Gen.KernelScanIdeal.Value
public import proofs.«01_k».proof.Proof.Gen.ReferenceScanIdeal.Read

@[expose] public section

set_option maxRecDepth 16384

noncomputable section

namespace Cert.Proof.Scan

open Idealize.ShloMosaic Idealize.ShloMosaic.Pointwise Idealize.ShloMosaic.TcCoe Idealize.ShloMosaic.Tactic
open Cert.Proof.Linear Cert.KernelScanIdeal Cert.KernelScanIdeal.Gen

/-- One tile's product. -/
theorem product (x : FVec Ideal S1024x1024 .bf16) (y : FVec Ideal S1024x512 .bf16) (r : Fin 1024) (s : Fin 512) :
    k0_pay1 (F := Ideal) x y (ix2 r s) = ∑ k : Fin 1024, x (ix2 r k) * y (ix2 k s) := by
  pointwise [k0_pay1]

theorem start_at (x : Vec Ideal S1024x1024 .bf16) (y : Vec Ideal S1024x512 .bf16) (r : Fin 1024) (s : Fin 512) :
    k0_pay2 (F := Ideal) x y (ix2 r s) = k0_pay1 (F := Ideal) x y (ix2 r s) := by
  unfold k0_pay2
  generalize k0_pay1 (F := Ideal) x y = f
  exact congrFun (shapeCast_self f _) _

theorem out_eq (c : Dev nD) (i : grid0.Coords)
    (arg4 : Memref sig .tc .vmem S1024x1024 .bf16) (harg4 : arg4.IsWhole) (arg5 : Memref sig .tc .vmem S1024x512 .bf16) (harg5 : arg5.IsWhole) (arg6 : Memref sig .tc .vmem S1024x512 .f32) (harg6 : arg6.IsWhole) (arg7 : Memref sig .tc .vmem S1024x512 .f32) (harg7 : arg7.IsWhole)
    (hc0 : cond0_0 i) (hc1 : ¬cond0_1 i) (hc2 : cond0_2 i)
    (x : Vec Ideal S1024x1024 .bf16) (y : Vec Ideal S1024x512 .bf16) :
    out0_A_2 c i arg4 harg4 arg5 harg5 arg6 harg6 arg7 harg7 hc0 hc1 hc2 x y = k0_pay2 (F := Ideal) x y := by
  unfold out0_A_2
  rw [View.read_writes_eq_canon _ _ _ (cover0_A_2 c i arg4 harg4 arg5 harg5 arg6 harg6 arg7 harg7 hc0 hc1 hc2 x y)]
  unfold kernelRun0_A
  dsimp only
  sl_unfold_words
  rw [View.canon_unit_zero (S := S1024x512) hz2]
  simp only [View.readCov_unit_zero (S := S1024x512) _ hz2, View.readAt_eq_ld, harg4.read_unread, harg5.read_unread, View.ld_unit_zero (S := S1024x1024) hz2, View.ld_unit_zero (S := S1024x512) hz2]

theorem index0 : ∀ t : Fin cfg0.N, win0_0.index t = ![t.val, 0] := by decide +kernel
theorem index1 : ∀ t : Fin cfg0.N, win0_1.index t = ![0, 0] := by decide +kernel
theorem indexOut : ∀ t : Fin cfg0.N, win0_2.index t = ![t.val, 0] := by decide +kernel

variable (m : (ℓ : Loc nD τ sig) → Buf (Elt Ideal) ℓ) (c : Dev nD)

theorem block0 (t : Fin cfg0.N) (k : Fin 1024) (r : Fin 1024) :
    iblk m c 0 t (ix2 r k) = V m c main_v0 (ix2 (⟨1024 * (t.val) + r.val, by have := lt_of_lt_of_eq t.isLt N_0; omega⟩ : Fin 8192) k) := by
  blk_ext [iblk, index0 t]

theorem block1 (t : Fin cfg0.N) (k : Fin 1024) (s : Fin 512) :
    iblk m c 1 t (ix2 k s) = V m c main_v1 (ix2 k s) := by
  blk_ext [iblk, index1 t]

/-- The product of the two whole arrays. -/
def rows (a : S8192x1024.Idx → EReal) (b : S1024x512.Idx → EReal) : S8192x512.Idx → EReal := fun i =>
  ∑ k : Fin 1024, a (ix2 (i 0) k) * b (ix2 k (i 1))

theorem array : (dats m 0 c).arrAt 2 cfg0.N = rows (V m c main_v0) (V m c main_v1) := by
  refine (dats m 0 c).arrAt_eq_of_covers 2 _ (by decide +kernel) fun t hf y => ?_
  have hN := lt_of_lt_of_eq t.isLt N_0
  blk_simp
  rw [after0_2]
  obtain ⟨r, s, rfl⟩ : ∃ (r : Fin 1024) (s : Fin 512), y = ix2 r s := ⟨y 0, y 1, (ix2_eta y).symm⟩
  have h0 : win0_2.index t 0 = t.val := congrFun (indexOut t) 0
  have h1 : win0_2.index t 1 = 0 := congrFun (indexOut t) 1
  unfold outsAt0
  rw [out_eq]
  refine (start_at (iblk m c 0 t) (iblk m c 1 t) r s).trans ((product _ _ r s).trans (Finset.sum_congr rfl fun k _ => ?_))
  rw [block0, block1]
  refine congr (congrArg (fun a b : EReal => a * b) (congrArg (V m c main_v0) ?_)) (congrArg (V m c main_v1) ?_)
  · refine ix2_congr (Fin.ext ?_) (Fin.ext ?_)
    · blk_simp
      rw [h0]; (try dsimp only [ix2]); omega
    · rfl
  · refine ix2_congr (Fin.ext ?_) (Fin.ext ?_)
    · rfl
    · blk_simp
      rw [h1]; (try dsimp only [ix2]); omega

set_option maxHeartbeats 4000000 in
/-- The first array the call is given. -/
theorem entry_a : V m c main_v0 = truncf (F := Ideal) .bf16 (m (c, Proc.tc.devRef main_arg0)) bitsLt_bf16_f32 := by
  show StableHlo.after hostOps0 (fun b => m (c, b)) (Proc.tc.devRef main_v0) = _
  simp only [hostOps0, StableHlo.TRef.binary, StableHlo.TRef.nullary, StableHlo.TRef.ternary,
    StableHlo.TRef.unary, StableHlo.TRef.toBuf, StableHlo.TRef.ofBuf, cast_eq]
  after_results_simp

set_option maxHeartbeats 4000000 in
/-- The second array the call is given. -/
theorem entry_b : V m c main_v1 = truncf (F := Ideal) .bf16 (m (c, Proc.tc.devRef main_arg1)) bitsLt_bf16_f32 := by
  show StableHlo.after hostOps0 (fun b => m (c, b)) (Proc.tc.devRef main_v1) = _
  simp only [hostOps0, StableHlo.TRef.binary, StableHlo.TRef.nullary, StableHlo.TRef.ternary,
    StableHlo.TRef.unary, StableHlo.TRef.toBuf, StableHlo.TRef.ofBuf, cast_eq]
  after_results_simp

/-- The reference's product at an index. -/
theorem ref_at (a : FVec Ideal S8192x1024 .f32) (b : FVec Ideal S1024x512 .f32) (r : Fin 8192) (s : Fin 512) :
    Cert.ReferenceScanIdeal.Read.val_main_v0 (F := Ideal) a b (ix2 r s) = ∑ k : Fin 1024, a (ix2 r k) * b (ix2 k s) := by
  rw [Cert.ReferenceScanIdeal.Read.val_main_v0_apply]
  refine Finset.sum_congr rfl fun k _ => congr (congrArg (fun a b : EReal => a * b) (congrArg a ?_)) (congrArg b ?_)
  · funext a
    match a with
    | ⟨0, _⟩ => rfl
    | ⟨1, _⟩ => rfl
  · funext a
    match a with
    | ⟨0, _⟩ => rfl
    | ⟨1, _⟩ => rfl

/-- The kernel's array is the reference's. -/
theorem result : (dats m 0 c).arrAt 2 cfg0.N
    = Cert.ReferenceScanIdeal.Read.val_main_v0 (F := Ideal) (m (c, Proc.tc.devRef main_arg0)) (m (c, Proc.tc.devRef main_arg1)) := by
  rw [array, entry_a, entry_b]
  funext i
  rw [← ix2_eta i]
  refine Eq.trans ?_ (ref_at _ _ (i 0) (i 1)).symm
  rfl

theorem algebraic : Cert.algebraic_KernelScanIdeal_ReferenceScanIdeal := by
  intro m g m' g' _ hagree
  refine ⟨fun c => (dats m 0 c).arrAt 2 cfg0.N, Cert.KernelScanIdeal.Value.run_blocks m g,
    (θ_run Cert.ReferenceScanIdeal.defs _ _).mono (fun r h c => ?_) (Cert.ReferenceScanIdeal.Value.run m' g')⟩
  obtain ⟨a0, a1⟩ := hagree c
  exact ⟨(h c).1.trans ((Cert.ReferenceScanIdeal.Read.val_main_v0_eq _ _).trans
    ((congr (congrArg (Cert.ReferenceScanIdeal.Read.val_main_v0 (F := Ideal)) a0) a1).trans (result m c).symm)), (h c).2⟩

end Cert.Proof.Scan
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.ReferenceIdeal
public import proofs.«01_k».proof.Proof.Gen.Pre_finite
public import proofs.«01_k».proof.Proof.Results
public import proofs.«01_k».proof.Proof.Gen.KernelAttn.Frame
public import proofs.«01_k».proof.Proof.Gen.Pre_finite_scores
public import proofs.«01_k».proof.Proof.Attn
public import proofs.«01_k».proof.Proof.Gen.KernelNorm.Frame
public import proofs.«01_k».proof.Proof.Norm
public import proofs.«01_k».proof.Proof.Gen.KernelGelu.Frame
public import proofs.«01_k».proof.Proof.Gelu
public import proofs.«01_k».proof.Proof.Gen.KernelGluOut.Frame
public import proofs.«01_k».proof.Proof.GluOut
public import proofs.«01_k».proof.Proof.Gen.KernelAdamUp.Frame
public import proofs.«01_k».proof.Proof.AdamUp
public import proofs.«01_k».proof.Proof.Gen.KernelAdamDown.Frame
public import proofs.«01_k».proof.Proof.AdamDown
public import proofs.«01_k».proof.Proof.Gen.KernelAdamIn.Frame
public import proofs.«01_k».proof.Proof.AdamIn
public import proofs.«01_k».proof.Proof.Gen.KernelAdamUq.Frame
public import proofs.«01_k».proof.Proof.AdamUq
public import proofs.«01_k».proof.Proof.Gen.KernelAdamUkv.Frame
public import proofs.«01_k».proof.Proof.AdamUkv
public import proofs.«01_k».proof.Proof.Gen.KernelAdamOut.Frame
public import proofs.«01_k».proof.Proof.AdamOut
public import proofs.«01_k».proof.Proof.Gen.KernelAdamScan.Frame
public import proofs.«01_k».proof.Proof.AdamScan
public import proofs.«01_k».proof.Proof.Gen.KernelAdamGlu.Frame
public import proofs.«01_k».proof.Proof.AdamGlu
public import proofs.«01_k».proof.Proof.Gen.KernelUpDw.Frame
public import proofs.«01_k».proof.Proof.UpDw
public import proofs.«01_k».proof.Proof.Gen.KernelUpDxA.Frame
public import proofs.«01_k».proof.Proof.UpDxA
public import proofs.«01_k».proof.Proof.Gen.KernelUpDxB.Frame
public import proofs.«01_k».proof.Proof.UpDxB
public import proofs.«01_k».proof.Proof.Gen.KernelDownDx.Frame
public import proofs.«01_k».proof.Proof.DownDx
public import proofs.«01_k».proof.Proof.Gen.KernelDownDw.Frame
public import proofs.«01_k».proof.Proof.DownDw
public import proofs.«01_k».proof.Proof.Gen.KernelUp.Frame
public import proofs.«01_k».proof.Proof.Up
public import proofs.«01_k».proof.Proof.Gen.KernelDown.Frame
public import proofs.«01_k».proof.Proof.Down
public import proofs.«01_k».proof.Proof.Gen.KernelOutDx.Frame
public import proofs.«01_k».proof.Proof.OutDx
public import proofs.«01_k».proof.Proof.Gen.KernelOutDw.Frame
public import proofs.«01_k».proof.Proof.OutDw
public import proofs.«01_k».proof.Proof.Gen.KernelOut.Frame
public import proofs.«01_k».proof.Proof.Out
public import proofs.«01_k».proof.Proof.Gen.KernelInDx.Frame
public import proofs.«01_k».proof.Proof.InDx
public import proofs.«01_k».proof.Proof.Gen.KernelInDw.Frame
public import proofs.«01_k».proof.Proof.InDw
public import proofs.«01_k».proof.Proof.Gen.KernelIn.Frame
public import proofs.«01_k».proof.Proof.In
public import proofs.«01_k».proof.Proof.Gen.KernelUqDx.Frame
public import proofs.«01_k».proof.Proof.UqDx
public import proofs.«01_k».proof.Proof.Gen.KernelUqDw.Frame
public import proofs.«01_k».proof.Proof.UqDw
public import proofs.«01_k».proof.Proof.Gen.KernelUq.Frame
public import proofs.«01_k».proof.Proof.Uq
public import proofs.«01_k».proof.Proof.Gen.KernelUkvDx.Frame
public import proofs.«01_k».proof.Proof.UkvDx
public import proofs.«01_k».proof.Proof.Gen.KernelUkvDw.Frame
public import proofs.«01_k».proof.Proof.UkvDw
public import proofs.«01_k».proof.Proof.Gen.KernelUkv.Frame
public import proofs.«01_k».proof.Proof.Ukv
public import proofs.«01_k».proof.Proof.Gen.KernelGluDx.Frame
public import proofs.«01_k».proof.Proof.GluDx
public import proofs.«01_k».proof.Proof.Gen.KernelGluDw.Frame
public import proofs.«01_k».proof.Proof.GluDw
public import proofs.«01_k».proof.Proof.Gen.KernelGlu.Frame
public import proofs.«01_k».proof.Proof.Glu
public import proofs.«01_k».proof.Proof.Gen.KernelScanDx.Frame
public import proofs.«01_k».proof.Proof.ScanDx
public import proofs.«01_k».proof.Proof.Gen.KernelScanDw.Frame
public import proofs.«01_k».proof.Proof.ScanDw
public import proofs.«01_k».proof.Proof.Gen.KernelScan.Frame
public import proofs.«01_k».proof.Proof.Scan
public import Idealize.ShloMosaic.Adequacy
public import Idealize.ShloMosaic.Init

@[expose] public section

noncomputable section

namespace Cert.Proof

open Idealize.ShloMosaic Idealize.SL.Sem

/-- The reference runs, leaves its four arguments as they were, and every semaphore counter ends at zero: it declares none. -/
theorem frame_r (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
      r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1)
          = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2)
          = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3)
          = m ((c.tc : Thread Cert.ReferenceIdeal.nD Cert.ReferenceIdeal.τ).loc Cert.ReferenceIdeal.main_arg3))
      ∧ r.2.sem = fun _ => 0) :=
  (θ_run Cert.ReferenceIdeal.defs _ _).mono
    (fun r h => ⟨fun c => (h c).2.2.2, Idealize.ShloMosaic.sem_eq_zero_of_no_sems (by decide) r.2⟩)
    (Cert.ReferenceIdeal.Value.run m g)

theorem frame_Attn (m : (ℓ : Loc Cert.ReferenceAttnIdeal.nD Cert.ReferenceAttnIdeal.τ Cert.ReferenceAttnIdeal.sig) → Buf (Elt Ideal) ℓ) (g : Dev Cert.ReferenceAttnIdeal.nD → PrngReg) :
    θ_run (Cert.ReferenceAttnIdeal.defs (F := Ideal)) (onTc (τ := Cert.ReferenceAttnIdeal.τ) (Cert.ReferenceAttnIdeal.main (F := Ideal)))
      ⟨m, fun _ => 0, g⟩ (fun r => (∀ c : Dev Cert.ReferenceAttnIdeal.nD,
      r.2.mem ((c.tc : Thread Cert.ReferenceAttnIdeal.nD Cert.ReferenceAttnIdeal.τ).loc Cert.ReferenceAttnIdeal.main_arg0)
          = m ((c.tc : Thread Cert.ReferenceAttnIdeal.nD Cert.ReferenceAttnIdeal.τ).loc Cert.ReferenceAttnIdeal.main_arg0)
      ∧ r.2.mem ((c.tc : Thread Cert.ReferenceAttnIdeal.nD Cert.ReferenceAttnIdeal.τ).loc Cert.ReferenceAttnIdeal.main_arg1)
          = m ((c.tc : Thread Cert.ReferenceAttnIdeal.nD Cert.ReferenceAttnIdeal.τ).loc Cert.ReferenceAttnIdeal.main_arg1)
      ∧ r.2.mem ((c.tc : Thread Cert.ReferenceAttnIdeal.nD Cert.ReferenceAttnIdeal.τ).loc Cert.ReferenceAttnIdeal.main_arg2)
          = m ((c.tc : Thread Cert.ReferenceAttnIdeal.nD Cert.ReferenceAttnIdeal.τ).loc Cert.ReferenceAttnIdeal.main_arg2))
      ∧ r.2.sem = fun _ => 0) :=
  (θ_run Cert.ReferenceAttnIdeal.defs _ _).mono
    (fun r h => ⟨fun c => (h c).2.2, Idealize.ShloMosaic.sem_eq_zero_of_no_sems (by decide) r.2⟩)
    (Cert.ReferenceAttnIdeal.Value.run m g)

theorem frame_Norm : Cert.quiescent_ReferenceNormIdeal := fun m g _ =>
  (θ_run Cert.ReferenceNormIdeal.defs _ _).mono
    (fun r h => ⟨fun c => (h c).2, Idealize.ShloMosaic.sem_eq_zero_of_no_sems (by decide) r.2⟩) (Cert.ReferenceNormIdeal.Value.run m g)

theorem frame_Gelu : Cert.quiescent_ReferenceGeluIdeal := fun m g _ =>
  (θ_run Cert.ReferenceGeluIdeal.defs _ _).mono
    (fun r h => ⟨fun c => (h c).2, Idealize.ShloMosaic.sem_eq_zero_of_no_sems (by decide) r.2⟩) (Cert.ReferenceGeluIdeal.Value.run m g)

theorem frame_GluOut : Cert.quiescent_ReferenceGluOutIdeal := fun m g _ =>
  (θ_run Cert.ReferenceGluOutIdeal.defs _ _).mono
    (fun r h => ⟨fun c => (h c).2, Idealize.ShloMosaic.sem_eq_zero_of_no_sems (by decide) r.2⟩) (Cert.ReferenceGluOutIdeal.Value.run m g)

theorem frame_AdamUp : Cert.quiescent_ReferenceAdamUpIdeal := fun m g _ =>
  (θ_run Cert.ReferenceAdamUpIdeal.defs _ _).mono
    (fun r h => ⟨fun c => (h c).2.2.2.2, Idealize.ShloMosaic.sem_eq_zero_of_no_sems (by decide) r.2⟩) (Cert.ReferenceAdamUpIdeal.Value.run m g)

theorem frame_AdamDown : Cert.quiescent_ReferenceAdamDownIdeal := fun m g _ =>
  (θ_run Cert.ReferenceAdamDownIdeal.defs _ _).mono
    (fun r h => ⟨fun c => (h c).2.2.2.2, Idealize.ShloMosaic.sem_eq_zero_of_no_sems (by decide) r.2⟩) (Cert.ReferenceAdamDownIdeal.Value.run m g)

theorem frame_AdamIn : Cert.quiescent_ReferenceAdamInIdeal := fun m g _ =>
  (θ_run Cert.ReferenceAdamInIdeal.defs _ _).mono
    (fun r h => ⟨fun c => (h c).2.2.2.2, Idealize.ShloMosaic.sem_eq_zero_of_no_sems (by decide) r.2⟩) (Cert.ReferenceAdamInIdeal.Value.run m g)

theorem frame_AdamUq : Cert.quiescent_ReferenceAdamUqIdeal := fun m g _ =>
  (θ_run Cert.ReferenceAdamUqIdeal.defs _ _).mono
    (fun r h => ⟨fun c => (h c).2.2.2.2, Idealize.ShloMosaic.sem_eq_zero_of_no_sems (by decide) r.2⟩) (Cert.ReferenceAdamUqIdeal.Value.run m g)

theorem frame_AdamUkv : Cert.quiescent_ReferenceAdamUkvIdeal := fun m g _ =>
  (θ_run Cert.ReferenceAdamUkvIdeal.defs _ _).mono
    (fun r h => ⟨fun c => (h c).2.2.2.2, Idealize.ShloMosaic.sem_eq_zero_of_no_sems (by decide) r.2⟩) (Cert.ReferenceAdamUkvIdeal.Value.run m g)

theorem frame_AdamOut : Cert.quiescent_ReferenceAdamOutIdeal := fun m g _ =>
  (θ_run Cert.ReferenceAdamOutIdeal.defs _ _).mono
    (fun r h => ⟨fun c => (h c).2.2.2.2, Idealize.ShloMosaic.sem_eq_zero_of_no_sems (by decide) r.2⟩) (Cert.ReferenceAdamOutIdeal.Value.run m g)

theorem frame_AdamScan : Cert.quiescent_ReferenceAdamScanIdeal := fun m g _ =>
  (θ_run Cert.ReferenceAdamScanIdeal.defs _ _).mono
    (fun r h => ⟨fun c => (h c).2.2.2.2, Idealize.ShloMosaic.sem_eq_zero_of_no_sems (by decide) r.2⟩) (Cert.ReferenceAdamScanIdeal.Value.run m g)

theorem frame_AdamGlu : Cert.quiescent_ReferenceAdamGluIdeal := fun m g _ =>
  (θ_run Cert.ReferenceAdamGluIdeal.defs _ _).mono
    (fun r h => ⟨fun c => (h c).2.2.2.2, Idealize.ShloMosaic.sem_eq_zero_of_no_sems (by decide) r.2⟩) (Cert.ReferenceAdamGluIdeal.Value.run m g)

theorem frame_UpDw : Cert.quiescent_ReferenceUpDwIdeal := fun m g _ =>
  (θ_run Cert.ReferenceUpDwIdeal.defs _ _).mono
    (fun r h => ⟨fun c => (h c).2, Idealize.ShloMosaic.sem_eq_zero_of_no_sems (by decide) r.2⟩) (Cert.ReferenceUpDwIdeal.Value.run m g)

theorem frame_UpDxA : Cert.quiescent_ReferenceUpDxAIdeal := fun m g _ =>
  (θ_run Cert.ReferenceUpDxAIdeal.defs _ _).mono
    (fun r h => ⟨fun c => (h c).2, Idealize.ShloMosaic.sem_eq_zero_of_no_sems (by decide) r.2⟩) (Cert.ReferenceUpDxAIdeal.Value.run m g)

theorem frame_UpDxB : Cert.quiescent_ReferenceUpDxBIdeal := fun m g _ =>
  (θ_run Cert.ReferenceUpDxBIdeal.defs _ _).mono
    (fun r h => ⟨fun c => (h c).2, Idealize.ShloMosaic.sem_eq_zero_of_no_sems (by decide) r.2⟩) (Cert.ReferenceUpDxBIdeal.Value.run m g)

theorem frame_DownDx : Cert.quiescent_ReferenceDownDxIdeal := fun m g _ =>
  (θ_run Cert.ReferenceDownDxIdeal.defs _ _).mono
    (fun r h => ⟨fun c => (h c).2, Idealize.ShloMosaic.sem_eq_zero_of_no_sems (by decide) r.2⟩) (Cert.ReferenceDownDxIdeal.Value.run m g)

theorem frame_DownDw : Cert.quiescent_ReferenceDownDwIdeal := fun m g _ =>
  (θ_run Cert.ReferenceDownDwIdeal.defs _ _).mono
    (fun r h => ⟨fun c => (h c).2, Idealize.ShloMosaic.sem_eq_zero_of_no_sems (by decide) r.2⟩) (Cert.ReferenceDownDwIdeal.Value.run m g)

theorem frame_Up : Cert.quiescent_ReferenceUpIdeal := fun m g _ =>
  (θ_run Cert.ReferenceUpIdeal.defs _ _).mono
    (fun r h => ⟨fun c => (h c).2, Idealize.ShloMosaic.sem_eq_zero_of_no_sems (by decide) r.2⟩) (Cert.ReferenceUpIdeal.Value.run m g)

theorem frame_Down : Cert.quiescent_ReferenceDownIdeal := fun m g _ =>
  (θ_run Cert.ReferenceDownIdeal.defs _ _).mono
    (fun r h => ⟨fun c => (h c).2, Idealize.ShloMosaic.sem_eq_zero_of_no_sems (by decide) r.2⟩) (Cert.ReferenceDownIdeal.Value.run m g)

theorem frame_OutDx : Cert.quiescent_ReferenceOutDxIdeal := fun m g _ =>
  (θ_run Cert.ReferenceOutDxIdeal.defs _ _).mono
    (fun r h => ⟨fun c => (h c).2, Idealize.ShloMosaic.sem_eq_zero_of_no_sems (by decide) r.2⟩) (Cert.ReferenceOutDxIdeal.Value.run m g)

theorem frame_OutDw : Cert.quiescent_ReferenceOutDwIdeal := fun m g _ =>
  (θ_run Cert.ReferenceOutDwIdeal.defs _ _).mono
    (fun r h => ⟨fun c => (h c).2, Idealize.ShloMosaic.sem_eq_zero_of_no_sems (by decide) r.2⟩) (Cert.ReferenceOutDwIdeal.Value.run m g)

theorem frame_Out : Cert.quiescent_ReferenceOutIdeal := fun m g _ =>
  (θ_run Cert.ReferenceOutIdeal.defs _ _).mono
    (fun r h => ⟨fun c => (h c).2, Idealize.ShloMosaic.sem_eq_zero_of_no_sems (by decide) r.2⟩) (Cert.ReferenceOutIdeal.Value.run m g)

theorem frame_InDx : Cert.quiescent_ReferenceInDxIdeal := fun m g _ =>
  (θ_run Cert.ReferenceInDxIdeal.defs _ _).mono
    (fun r h => ⟨fun c => (h c).2, Idealize.ShloMosaic.sem_eq_zero_of_no_sems (by decide) r.2⟩) (Cert.ReferenceInDxIdeal.Value.run m g)

theorem frame_InDw : Cert.quiescent_ReferenceInDwIdeal := fun m g _ =>
  (θ_run Cert.ReferenceInDwIdeal.defs _ _).mono
    (fun r h => ⟨fun c => (h c).2, Idealize.ShloMosaic.sem_eq_zero_of_no_sems (by decide) r.2⟩) (Cert.ReferenceInDwIdeal.Value.run m g)

theorem frame_In : Cert.quiescent_ReferenceInIdeal := fun m g _ =>
  (θ_run Cert.ReferenceInIdeal.defs _ _).mono
    (fun r h => ⟨fun c => (h c).2, Idealize.ShloMosaic.sem_eq_zero_of_no_sems (by decide) r.2⟩) (Cert.ReferenceInIdeal.Value.run m g)

theorem frame_UqDx : Cert.quiescent_ReferenceUqDxIdeal := fun m g _ =>
  (θ_run Cert.ReferenceUqDxIdeal.defs _ _).mono
    (fun r h => ⟨fun c => (h c).2, Idealize.ShloMosaic.sem_eq_zero_of_no_sems (by decide) r.2⟩) (Cert.ReferenceUqDxIdeal.Value.run m g)

theorem frame_UqDw : Cert.quiescent_ReferenceUqDwIdeal := fun m g _ =>
  (θ_run Cert.ReferenceUqDwIdeal.defs _ _).mono
    (fun r h => ⟨fun c => (h c).2, Idealize.ShloMosaic.sem_eq_zero_of_no_sems (by decide) r.2⟩) (Cert.ReferenceUqDwIdeal.Value.run m g)

theorem frame_Uq : Cert.quiescent_ReferenceUqIdeal := fun m g _ =>
  (θ_run Cert.ReferenceUqIdeal.defs _ _).mono
    (fun r h => ⟨fun c => (h c).2, Idealize.ShloMosaic.sem_eq_zero_of_no_sems (by decide) r.2⟩) (Cert.ReferenceUqIdeal.Value.run m g)

theorem frame_UkvDx : Cert.quiescent_ReferenceUkvDxIdeal := fun m g _ =>
  (θ_run Cert.ReferenceUkvDxIdeal.defs _ _).mono
    (fun r h => ⟨fun c => (h c).2, Idealize.ShloMosaic.sem_eq_zero_of_no_sems (by decide) r.2⟩) (Cert.ReferenceUkvDxIdeal.Value.run m g)

theorem frame_UkvDw : Cert.quiescent_ReferenceUkvDwIdeal := fun m g _ =>
  (θ_run Cert.ReferenceUkvDwIdeal.defs _ _).mono
    (fun r h => ⟨fun c => (h c).2, Idealize.ShloMosaic.sem_eq_zero_of_no_sems (by decide) r.2⟩) (Cert.ReferenceUkvDwIdeal.Value.run m g)

theorem frame_Ukv : Cert.quiescent_ReferenceUkvIdeal := fun m g _ =>
  (θ_run Cert.ReferenceUkvIdeal.defs _ _).mono
    (fun r h => ⟨fun c => (h c).2, Idealize.ShloMosaic.sem_eq_zero_of_no_sems (by decide) r.2⟩) (Cert.ReferenceUkvIdeal.Value.run m g)

theorem frame_GluDx : Cert.quiescent_ReferenceGluDxIdeal := fun m g _ =>
  (θ_run Cert.ReferenceGluDxIdeal.defs _ _).mono
    (fun r h => ⟨fun c => (h c).2, Idealize.ShloMosaic.sem_eq_zero_of_no_sems (by decide) r.2⟩) (Cert.ReferenceGluDxIdeal.Value.run m g)

theorem frame_GluDw : Cert.quiescent_ReferenceGluDwIdeal := fun m g _ =>
  (θ_run Cert.ReferenceGluDwIdeal.defs _ _).mono
    (fun r h => ⟨fun c => (h c).2, Idealize.ShloMosaic.sem_eq_zero_of_no_sems (by decide) r.2⟩) (Cert.ReferenceGluDwIdeal.Value.run m g)

theorem frame_Glu : Cert.quiescent_ReferenceGluIdeal := fun m g _ =>
  (θ_run Cert.ReferenceGluIdeal.defs _ _).mono
    (fun r h => ⟨fun c => (h c).2, Idealize.ShloMosaic.sem_eq_zero_of_no_sems (by decide) r.2⟩) (Cert.ReferenceGluIdeal.Value.run m g)

theorem frame_ScanDx : Cert.quiescent_ReferenceScanDxIdeal := fun m g _ =>
  (θ_run Cert.ReferenceScanDxIdeal.defs _ _).mono
    (fun r h => ⟨fun c => (h c).2, Idealize.ShloMosaic.sem_eq_zero_of_no_sems (by decide) r.2⟩) (Cert.ReferenceScanDxIdeal.Value.run m g)

theorem frame_ScanDw : Cert.quiescent_ReferenceScanDwIdeal := fun m g _ =>
  (θ_run Cert.ReferenceScanDwIdeal.defs _ _).mono
    (fun r h => ⟨fun c => (h c).2, Idealize.ShloMosaic.sem_eq_zero_of_no_sems (by decide) r.2⟩) (Cert.ReferenceScanDwIdeal.Value.run m g)

theorem frame_Scan : Cert.quiescent_ReferenceScanIdeal := fun m g _ =>
  (θ_run Cert.ReferenceScanIdeal.defs _ _).mono
    (fun r h => ⟨fun c => (h c).2, Idealize.ShloMosaic.sem_eq_zero_of_no_sems (by decide) r.2⟩) (Cert.ReferenceScanIdeal.Value.run m g)

/-- The two literals that the idealised kernel names are the single-precision roundings of the reals they name. -/
theorem preserves : Cert.preserves_Kernel_KernelIdeal :=
  ⟨IdealRules.named_const.statement Cert.KernelIdeal.κ "scale2" .f32 0x3E16C740#32
      ((((Real.sqrt 96)⁻¹ * (Real.log 2)⁻¹ : ℝ)) : EReal) rfl,
    IdealRules.named_const.statement Cert.KernelIdeal.κ "scale" .f32 0x3DD105EC#32 (((Real.sqrt 96)⁻¹ : ℝ) : EReal) rfl⟩

/-- The three literals that the idealised forward attention names are the single-precision roundings of the reals they name. -/
theorem preserves_Attn : Cert.preserves_KernelAttn_KernelAttnIdeal :=
  ⟨IdealRules.named_const.statement Cert.KernelAttnIdeal.κ "scale2" .f32 0x3E16C740#32
      ((((Real.sqrt 96)⁻¹ * (Real.log 2)⁻¹ : ℝ)) : EReal) rfl,
    IdealRules.named_const.statement Cert.KernelAttnIdeal.κ "scale" .f32 0x3DD105EC#32 (((Real.sqrt 96)⁻¹ : ℝ) : EReal) rfl,
    IdealRules.named_const.statement Cert.KernelAttnIdeal.κ "log2e" .f32 0x3FB8AA3B#32 (((Real.log 2)⁻¹ : ℝ) : EReal) rfl⟩

theorem claim : Cert.Claim :=
  ⟨Cert.Kernel.Gen.facts,
    Cert.KernelIdeal.Gen.facts,
    Cert.ReferenceIdeal.Gen.facts,
    Cert.KernelUpDw.Gen.facts,
    Cert.KernelUpDwIdeal.Gen.facts,
    Cert.ReferenceUpDwIdeal.Gen.facts,
    Cert.KernelUpDxA.Gen.facts,
    Cert.KernelUpDxAIdeal.Gen.facts,
    Cert.ReferenceUpDxAIdeal.Gen.facts,
    Cert.KernelUpDxB.Gen.facts,
    Cert.KernelUpDxBIdeal.Gen.facts,
    Cert.ReferenceUpDxBIdeal.Gen.facts,
    Cert.KernelDownDx.Gen.facts,
    Cert.KernelDownDxIdeal.Gen.facts,
    Cert.ReferenceDownDxIdeal.Gen.facts,
    Cert.KernelDownDw.Gen.facts,
    Cert.KernelDownDwIdeal.Gen.facts,
    Cert.ReferenceDownDwIdeal.Gen.facts,
    Cert.KernelUp.Gen.facts,
    Cert.KernelUpIdeal.Gen.facts,
    Cert.ReferenceUpIdeal.Gen.facts,
    Cert.KernelDown.Gen.facts,
    Cert.KernelDownIdeal.Gen.facts,
    Cert.ReferenceDownIdeal.Gen.facts,
    Cert.KernelOutDx.Gen.facts,
    Cert.KernelOutDxIdeal.Gen.facts,
    Cert.ReferenceOutDxIdeal.Gen.facts,
    Cert.KernelOutDw.Gen.facts,
    Cert.KernelOutDwIdeal.Gen.facts,
    Cert.ReferenceOutDwIdeal.Gen.facts,
    Cert.KernelOut.Gen.facts,
    Cert.KernelOutIdeal.Gen.facts,
    Cert.ReferenceOutIdeal.Gen.facts,
    Cert.KernelInDx.Gen.facts,
    Cert.KernelInDxIdeal.Gen.facts,
    Cert.ReferenceInDxIdeal.Gen.facts,
    Cert.KernelInDw.Gen.facts,
    Cert.KernelInDwIdeal.Gen.facts,
    Cert.ReferenceInDwIdeal.Gen.facts,
    Cert.KernelIn.Gen.facts,
    Cert.KernelInIdeal.Gen.facts,
    Cert.ReferenceInIdeal.Gen.facts,
    Cert.KernelUqDx.Gen.facts,
    Cert.KernelUqDxIdeal.Gen.facts,
    Cert.ReferenceUqDxIdeal.Gen.facts,
    Cert.KernelUqDw.Gen.facts,
    Cert.KernelUqDwIdeal.Gen.facts,
    Cert.ReferenceUqDwIdeal.Gen.facts,
    Cert.KernelUq.Gen.facts,
    Cert.KernelUqIdeal.Gen.facts,
    Cert.ReferenceUqIdeal.Gen.facts,
    Cert.KernelUkvDx.Gen.facts,
    Cert.KernelUkvDxIdeal.Gen.facts,
    Cert.ReferenceUkvDxIdeal.Gen.facts,
    Cert.KernelUkvDw.Gen.facts,
    Cert.KernelUkvDwIdeal.Gen.facts,
    Cert.ReferenceUkvDwIdeal.Gen.facts,
    Cert.KernelUkv.Gen.facts,
    Cert.KernelUkvIdeal.Gen.facts,
    Cert.ReferenceUkvIdeal.Gen.facts,
    Cert.KernelGluDx.Gen.facts,
    Cert.KernelGluDxIdeal.Gen.facts,
    Cert.ReferenceGluDxIdeal.Gen.facts,
    Cert.KernelGluDw.Gen.facts,
    Cert.KernelGluDwIdeal.Gen.facts,
    Cert.ReferenceGluDwIdeal.Gen.facts,
    Cert.KernelGlu.Gen.facts,
    Cert.KernelGluIdeal.Gen.facts,
    Cert.ReferenceGluIdeal.Gen.facts,
    Cert.KernelScanDx.Gen.facts,
    Cert.KernelScanDxIdeal.Gen.facts,
    Cert.ReferenceScanDxIdeal.Gen.facts,
    Cert.KernelScanDw.Gen.facts,
    Cert.KernelScanDwIdeal.Gen.facts,
    Cert.ReferenceScanDwIdeal.Gen.facts,
    Cert.KernelScan.Gen.facts,
    Cert.KernelScanIdeal.Gen.facts,
    Cert.ReferenceScanIdeal.Gen.facts,
    Cert.KernelAttn.Gen.facts,
    Cert.KernelAttnIdeal.Gen.facts,
    Cert.ReferenceAttnIdeal.Gen.facts,
    Cert.KernelNorm.Gen.facts,
    Cert.KernelNormIdeal.Gen.facts,
    Cert.ReferenceNormIdeal.Gen.facts,
    Cert.KernelGelu.Gen.facts,
    Cert.KernelGeluIdeal.Gen.facts,
    Cert.ReferenceGeluIdeal.Gen.facts,
    Cert.KernelGluOut.Gen.facts,
    Cert.KernelGluOutIdeal.Gen.facts,
    Cert.ReferenceGluOutIdeal.Gen.facts,
    Cert.KernelAdamUp.Gen.facts,
    Cert.KernelAdamUpIdeal.Gen.facts,
    Cert.ReferenceAdamUpIdeal.Gen.facts,
    Cert.KernelAdamDown.Gen.facts,
    Cert.KernelAdamDownIdeal.Gen.facts,
    Cert.ReferenceAdamDownIdeal.Gen.facts,
    Cert.KernelAdamIn.Gen.facts,
    Cert.KernelAdamInIdeal.Gen.facts,
    Cert.ReferenceAdamInIdeal.Gen.facts,
    Cert.KernelAdamUq.Gen.facts,
    Cert.KernelAdamUqIdeal.Gen.facts,
    Cert.ReferenceAdamUqIdeal.Gen.facts,
    Cert.KernelAdamUkv.Gen.facts,
    Cert.KernelAdamUkvIdeal.Gen.facts,
    Cert.ReferenceAdamUkvIdeal.Gen.facts,
    Cert.KernelAdamOut.Gen.facts,
    Cert.KernelAdamOutIdeal.Gen.facts,
    Cert.ReferenceAdamOutIdeal.Gen.facts,
    Cert.KernelAdamScan.Gen.facts,
    Cert.KernelAdamScanIdeal.Gen.facts,
    Cert.ReferenceAdamScanIdeal.Gen.facts,
    Cert.KernelAdamGlu.Gen.facts,
    Cert.KernelAdamGluIdeal.Gen.facts,
    Cert.ReferenceAdamGluIdeal.Gen.facts,
    Cert.Pre_finite.Gen.facts,
    Cert.Pre_finite_scores.Gen.facts,
    fun m g _ => Cert.Kernel.Gen.frame m g,
    fun m g _ => Cert.KernelIdeal.Gen.frame m g, fun m g _ => Cert.KernelIdeal.Gen.frame m g,
    fun m g _ => frame_r m g, fun m g _ => frame_r m g,
    fun m g _ => Cert.KernelUpDw.Gen.frame m g, fun m g _ => Cert.KernelUpDwIdeal.Gen.frame m g, frame_UpDw,
    fun m g _ => Cert.KernelUpDxA.Gen.frame m g, fun m g _ => Cert.KernelUpDxAIdeal.Gen.frame m g, frame_UpDxA,
    fun m g _ => Cert.KernelUpDxB.Gen.frame m g, fun m g _ => Cert.KernelUpDxBIdeal.Gen.frame m g, frame_UpDxB,
    fun m g _ => Cert.KernelDownDx.Gen.frame m g, fun m g _ => Cert.KernelDownDxIdeal.Gen.frame m g, frame_DownDx,
    fun m g _ => Cert.KernelDownDw.Gen.frame m g, fun m g _ => Cert.KernelDownDwIdeal.Gen.frame m g, frame_DownDw,
    fun m g _ => Cert.KernelUp.Gen.frame m g, fun m g _ => Cert.KernelUpIdeal.Gen.frame m g, frame_Up,
    fun m g _ => Cert.KernelDown.Gen.frame m g, fun m g _ => Cert.KernelDownIdeal.Gen.frame m g, frame_Down,
    fun m g _ => Cert.KernelOutDx.Gen.frame m g, fun m g _ => Cert.KernelOutDxIdeal.Gen.frame m g, frame_OutDx,
    fun m g _ => Cert.KernelOutDw.Gen.frame m g, fun m g _ => Cert.KernelOutDwIdeal.Gen.frame m g, frame_OutDw,
    fun m g _ => Cert.KernelOut.Gen.frame m g, fun m g _ => Cert.KernelOutIdeal.Gen.frame m g, frame_Out,
    fun m g _ => Cert.KernelInDx.Gen.frame m g, fun m g _ => Cert.KernelInDxIdeal.Gen.frame m g, frame_InDx,
    fun m g _ => Cert.KernelInDw.Gen.frame m g, fun m g _ => Cert.KernelInDwIdeal.Gen.frame m g, frame_InDw,
    fun m g _ => Cert.KernelIn.Gen.frame m g, fun m g _ => Cert.KernelInIdeal.Gen.frame m g, frame_In,
    fun m g _ => Cert.KernelUqDx.Gen.frame m g, fun m g _ => Cert.KernelUqDxIdeal.Gen.frame m g, frame_UqDx,
    fun m g _ => Cert.KernelUqDw.Gen.frame m g, fun m g _ => Cert.KernelUqDwIdeal.Gen.frame m g, frame_UqDw,
    fun m g _ => Cert.KernelUq.Gen.frame m g, fun m g _ => Cert.KernelUqIdeal.Gen.frame m g, frame_Uq,
    fun m g _ => Cert.KernelUkvDx.Gen.frame m g, fun m g _ => Cert.KernelUkvDxIdeal.Gen.frame m g, frame_UkvDx,
    fun m g _ => Cert.KernelUkvDw.Gen.frame m g, fun m g _ => Cert.KernelUkvDwIdeal.Gen.frame m g, frame_UkvDw,
    fun m g _ => Cert.KernelUkv.Gen.frame m g, fun m g _ => Cert.KernelUkvIdeal.Gen.frame m g, frame_Ukv,
    fun m g _ => Cert.KernelGluDx.Gen.frame m g, fun m g _ => Cert.KernelGluDxIdeal.Gen.frame m g, frame_GluDx,
    fun m g _ => Cert.KernelGluDw.Gen.frame m g, fun m g _ => Cert.KernelGluDwIdeal.Gen.frame m g, frame_GluDw,
    fun m g _ => Cert.KernelGlu.Gen.frame m g, fun m g _ => Cert.KernelGluIdeal.Gen.frame m g, frame_Glu,
    fun m g _ => Cert.KernelScanDx.Gen.frame m g, fun m g _ => Cert.KernelScanDxIdeal.Gen.frame m g, frame_ScanDx,
    fun m g _ => Cert.KernelScanDw.Gen.frame m g, fun m g _ => Cert.KernelScanDwIdeal.Gen.frame m g, frame_ScanDw,
    fun m g _ => Cert.KernelScan.Gen.frame m g, fun m g _ => Cert.KernelScanIdeal.Gen.frame m g, frame_Scan,
    fun m g _ => Cert.KernelAttn.Gen.frame m g, fun m g _ => Cert.KernelAttnIdeal.Gen.frame m g, fun m g _ => Cert.KernelAttnIdeal.Gen.frame m g,
    fun m g _ => frame_Attn m g, fun m g _ => frame_Attn m g,
    fun m g _ => Cert.KernelNorm.Gen.frame m g, fun m g _ => Cert.KernelNormIdeal.Gen.frame m g, frame_Norm,
    fun m g _ => Cert.KernelGelu.Gen.frame m g, fun m g _ => Cert.KernelGeluIdeal.Gen.frame m g, frame_Gelu,
    fun m g _ => Cert.KernelGluOut.Gen.frame m g, fun m g _ => Cert.KernelGluOutIdeal.Gen.frame m g, frame_GluOut,
    fun m g _ => Cert.KernelAdamUp.Gen.frame m g, fun m g _ => Cert.KernelAdamUpIdeal.Gen.frame m g, frame_AdamUp,
    fun m g _ => Cert.KernelAdamDown.Gen.frame m g, fun m g _ => Cert.KernelAdamDownIdeal.Gen.frame m g, frame_AdamDown,
    fun m g _ => Cert.KernelAdamIn.Gen.frame m g, fun m g _ => Cert.KernelAdamInIdeal.Gen.frame m g, frame_AdamIn,
    fun m g _ => Cert.KernelAdamUq.Gen.frame m g, fun m g _ => Cert.KernelAdamUqIdeal.Gen.frame m g, frame_AdamUq,
    fun m g _ => Cert.KernelAdamUkv.Gen.frame m g, fun m g _ => Cert.KernelAdamUkvIdeal.Gen.frame m g, frame_AdamUkv,
    fun m g _ => Cert.KernelAdamOut.Gen.frame m g, fun m g _ => Cert.KernelAdamOutIdeal.Gen.frame m g, frame_AdamOut,
    fun m g _ => Cert.KernelAdamScan.Gen.frame m g, fun m g _ => Cert.KernelAdamScanIdeal.Gen.frame m g, frame_AdamScan,
    fun m g _ => Cert.KernelAdamGlu.Gen.frame m g, fun m g _ => Cert.KernelAdamGluIdeal.Gen.frame m g, frame_AdamGlu,
    preserves, algebraic,
    trivial, UpDw.algebraic,
    trivial, UpDxA.algebraic,
    trivial, UpDxB.algebraic,
    trivial, DownDx.algebraic,
    trivial, DownDw.algebraic,
    trivial, Up.algebraic,
    trivial, Down.algebraic,
    trivial, OutDx.algebraic,
    trivial, OutDw.algebraic,
    trivial, Out.algebraic,
    trivial, InDx.algebraic,
    trivial, InDw.algebraic,
    trivial, In.algebraic,
    trivial, UqDx.algebraic,
    trivial, UqDw.algebraic,
    trivial, Uq.algebraic,
    trivial, UkvDx.algebraic,
    trivial, UkvDw.algebraic,
    trivial, Ukv.algebraic,
    trivial, GluDx.algebraic,
    trivial, GluDw.algebraic,
    trivial, Glu.algebraic,
    trivial, ScanDx.algebraic,
    trivial, ScanDw.algebraic,
    trivial, Scan.algebraic,
    preserves_Attn, Attn.algebraic,
    trivial, Norm.algebraic,
    trivial, Gelu.algebraic,
    trivial, GluOut.algebraic,
    trivial, AdamUp.algebraic,
    trivial, AdamDown.algebraic,
    trivial, AdamIn.algebraic,
    trivial, AdamUq.algebraic,
    trivial, AdamUkv.algebraic,
    trivial, AdamOut.algebraic,
    trivial, AdamScan.algebraic,
    trivial, AdamGlu.algebraic⟩

end Cert.Proof

end
